-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_routed : Cert.Pre_routed.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ preserves_Kernel_KernelIdeal
    ∧ algebraic_KernelIdeal_ReferenceIdeal (hKernelIdeal := hKernelIdeal) (hReferenceIdeal := hReferenceIdeal) (hPre_routed := hPre_routed)
-- ==== Pre_routed.lean ====
abbrev S1024x1408 : Shape := ⟨2, ![1024, 1408]⟩
abbrev S1024 : Shape := ⟨1, ![1024]⟩
abbrev S15 : Shape := ⟨1, ![15]⟩
abbrev S15x1408x4096 : Shape := ⟨3, ![15, 1408, 4096]⟩
abbrev S15x4096 : Shape := ⟨2, ![15, 4096]⟩
abbrev S256x4 : Shape := ⟨2, ![256, 4]⟩
abbrev S1 : Shape := ⟨1, ![1]⟩
abbrev S_ : Shape := ⟨0, ![]⟩
abbrev S1x1 : Shape := ⟨2, ![1, 1]⟩

class Facts : Prop where
  slices_S15_S1_0 : S15.Slices ![0] S1
  slices_S15_S1_1 : S15.Slices ![1] S1
  slices_S15_S1_2 : S15.Slices ![2] S1
  slices_S15_S1_3 : S15.Slices ![3] S1
  slices_S15_S1_4 : S15.Slices ![4] S1
  slices_S15_S1_5 : S15.Slices ![5] S1
  slices_S15_S1_6 : S15.Slices ![6] S1
  slices_S15_S1_7 : S15.Slices ![7] S1
  slices_S15_S1_8 : S15.Slices ![8] S1
  slices_S15_S1_9 : S15.Slices ![9] S1
  slices_S15_S1_10 : S15.Slices ![10] S1
  slices_S15_S1_11 : S15.Slices ![11] S1
  slices_S15_S1_12 : S15.Slices ![12] S1
  slices_S15_S1_13 : S15.Slices ![13] S1
  slices_S15_S1_14 : S15.Slices ![14] S1
  bcast_S_S1 : S_.BroadcastsInDim S1 (![] : Fin 0 → Fin S1.rank)
  bcast_S_S256x4 : S_.BroadcastsInDim S256x4 (![] : Fin 0 → Fin S256x4.rank)
  bcast_S1_S1x1_1 : S1.BroadcastsInDim S1x1 (![1] : Fin 1 → Fin S1x1.rank)
  bcast_S1x1_S256x4_0_1 : S1x1.BroadcastsInDim S256x4 (![0, 1] : Fin 2 → Fin S256x4.rank)

variable [Facts]

def fn_part6 {F : FTy → Type} [FloatOps F] (main_arg5 : IVec S256x4 32) (main_v30 : IVec S1 1) (main_v75 : IVec S1 1) (main_v80 : IVec S1 1) (main_v85 : IVec S1 1) (main_v90 : IVec S1 1) (main_v95 : IVec S1 1) (main_v100 : IVec S1 1) (main_v105 : IVec S1 1) (main_v112 : IVec S1 1) : IVec S256x4 1 :=
  let main_v113 : IVec S1 1 := andi main_v112 main_v75
  let main_v114 : IVec S1 1 := andi main_v113 main_v80
  let main_v115 : IVec S1 1 := andi main_v114 main_v85
  let main_v116 : IVec S1 1 := andi main_v115 main_v90
  let main_v117 : IVec S1 1 := andi main_v116 main_v95
  let main_v118 : IVec S1 1 := andi main_v117 main_v100
  let main_v119 : IVec S1 1 := andi main_v118 main_v105
  let main_c_30 : IVec S_ 32 := constantI S_ 32 0#32
  let main_v120 : IVec S256x4 32 := broadcastInDim S256x4 ![] bcast_S_S256x4 main_c_30
  let main_v121 : IVec S256x4 1 := cmpi .sge main_arg5 main_v120
  let main_c_31 : IVec S_ 32 := constantI S_ 32 1024#32
  let main_v122 : IVec S256x4 32 := broadcastInDim S256x4 ![] bcast_S_S256x4 main_c_31
  let main_v123 : IVec S256x4 1 := cmpi .slt main_arg5 main_v122
  let main_v124 : IVec S256x4 1 := andi main_v121 main_v123
  let main_v125 : IVec S1 1 := andi main_v30 main_v119
  let main_v126 : IVec S1x1 1 := broadcastInDim S1x1 ![1] bcast_S1_S1x1_1 main_v125
  let main_v127 : IVec S256x4 1 := broadcastInDim S256x4 ![0, 1] bcast_S1x1_S256x4_0_1 main_v126
  let main_v128 : IVec S256x4 1 := andi main_v124 main_v127
  main_v128

def fn_part5 {F : FTy → Type} [FloatOps F] (main_arg5 : IVec S256x4 32) (main_v12 : IVec S1 32) (main_v13 : IVec S1 32) (main_v14 : IVec S1 32) (main_v30 : IVec S1 1) (main_v35 : IVec S1 1) (main_v40 : IVec S1 1) (main_v45 : IVec S1 1) (main_v50 : IVec S1 1) (main_v55 : IVec S1 1) (main_v60 : IVec S1 1) (main_v65 : IVec S1 1) (main_v70 : IVec S1 1) (main_v75 : IVec S1 1) (main_v80 : IVec S1 1) (main_v85 : IVec S1 1) (main_v90 : IVec S1 1) (main_v92 : IVec S1 1) (main_c_25 : IVec S_ 32) : IVec S256x4 1 :=
  let main_v93 : IVec S1 32 := broadcastInDim S1 ![] bcast_S_S1 main_c_25
  let main_v94 : IVec S1 1 := cmpi .sle main_v12 main_v93
  let main_v95 : IVec S1 1 := andi main_v92 main_v94
  let main_c_26 : IVec S_ 32 := constantI S_ 32 0#32
  let main_v96 : IVec S1 32 := broadcastInDim S1 ![] bcast_S_S1 main_c_26
  let main_v97 : IVec S1 1 := cmpi .sge main_v13 main_v96
  let main_c_27 : IVec S_ 32 := constantI S_ 32 1024#32
  let main_v98 : IVec S1 32 := broadcastInDim S1 ![] bcast_S_S1 main_c_27
  let main_v99 : IVec S1 1 := cmpi .sle main_v13 main_v98
  let main_v100 : IVec S1 1 := andi main_v97 main_v99
  let main_c_28 : IVec S_ 32 := constantI S_ 32 0#32
  let main_v101 : IVec S1 32 := broadcastInDim S1 ![] bcast_S_S1 main_c_28
  let main_v102 : IVec S1 1 := cmpi .sge main_v14 main_v101
  let main_c_29 : IVec S_ 32 := constantI S_ 32 1024#32
  let main_v103 : IVec S1 32 := broadcastInDim S1 ![] bcast_S_S1 main_c_29
  let main_v104 : IVec S1 1 := cmpi .sle main_v14 main_v103
  let main_v105 : IVec S1 1 := andi main_v102 main_v104
  let main_v106 : IVec S1 1 := andi main_v35 main_v40
  let main_v107 : IVec S1 1 := andi main_v106 main_v45
  let main_v108 : IVec S1 1 := andi main_v107 main_v50
  let main_v109 : IVec S1 1 := andi main_v108 main_v55
  let main_v110 : IVec S1 1 := andi main_v109 main_v60
  let main_v111 : IVec S1 1 := andi main_v110 main_v65
  let main_v112 : IVec S1 1 := andi main_v111 main_v70
  fn_part6 (F := F) main_arg5 main_v30 main_v75 main_v80 main_v85 main_v90 main_v95 main_v100 main_v105 main_v112

def fn_part4 {F : FTy → Type} [FloatOps F] (main_arg5 : IVec S256x4 32) (main_v9 : IVec S1 32) (main_v10 : IVec S1 32) (main_v11 : IVec S1 32) (main_v12 : IVec S1 32) (main_v13 : IVec S1 32) (main_v14 : IVec S1 32) (main_v30 : IVec S1 1) (main_v35 : IVec S1 1) (main_v40 : IVec S1 1) (main_v45 : IVec S1 1) (main_v50 : IVec S1 1) (main_v55 : IVec S1 1) (main_v60 : IVec S1 1) (main_v65 : IVec S1 1) (main_v70 : IVec S1 1) (main_v75 : IVec S1 1) (main_c_18 : IVec S_ 32) : IVec S256x4 1 :=
  let main_v76 : IVec S1 32 := broadcastInDim S1 ![] bcast_S_S1 main_c_18
  let main_v77 : IVec S1 1 := cmpi .sge main_v9 main_v76
  let main_c_19 : IVec S_ 32 := constantI S_ 32 1024#32
  let main_v78 : IVec S1 32 := broadcastInDim S1 ![] bcast_S_S1 main_c_19
  let main_v79 : IVec S1 1 := cmpi .sle main_v9 main_v78
  let main_v80 : IVec S1 1 := andi main_v77 main_v79
  let main_c_20 : IVec S_ 32 := constantI S_ 32 0#32
  let main_v81 : IVec S1 32 := broadcastInDim S1 ![] bcast_S_S1 main_c_20
  let main_v82 : IVec S1 1 := cmpi .sge main_v10 main_v81
  let main_c_21 : IVec S_ 32 := constantI S_ 32 1024#32
  let main_v83 : IVec S1 32 := broadcastInDim S1 ![] bcast_S_S1 main_c_21
  let main_v84 : IVec S1 1 := cmpi .sle main_v10 main_v83
  let main_v85 : IVec S1 1 := andi main_v82 main_v84
  let main_c_22 : IVec S_ 32 := constantI S_ 32 0#32
  let main_v86 : IVec S1 32 := broadcastInDim S1 ![] bcast_S_S1 main_c_22
  let main_v87 : IVec S1 1 := cmpi .sge main_v11 main_v86
  let main_c_23 : IVec S_ 32 := constantI S_ 32 1024#32
  let main_v88 : IVec S1 32 := broadcastInDim S1 ![] bcast_S_S1 main_c_23
  let main_v89 : IVec S1 1 := cmpi .sle main_v11 main_v88
  let main_v90 : IVec S1 1 := andi main_v87 main_v89
  let main_c_24 : IVec S_ 32 := constantI S_ 32 0#32
  let main_v91 : IVec S1 32 := broadcastInDim S1 ![] bcast_S_S1 main_c_24
  let main_v92 : IVec S1 1 := cmpi .sge main_v12 main_v91
  let main_c_25 : IVec S_ 32 := constantI S_ 32 1024#32
  fn_part5 (F := F) main_arg5 main_v12 main_v13 main_v14 main_v30 main_v35 main_v40 main_v45 main_v50 main_v55 main_v60 main_v65 main_v70 main_v75 main_v80 main_v85 main_v90 main_v92 main_c_25

def fn_part3 {F : FTy → Type} [FloatOps F] (main_arg5 : IVec S256x4 32) (main_v5 : IVec S1 32) (main_v6 : IVec S1 32) (main_v7 : IVec S1 32) (main_v8 : IVec S1 32) (main_v9 : IVec S1 32) (main_v10 : IVec S1 32) (main_v11 : IVec S1 32) (main_v12 : IVec S1 32) (main_v13 : IVec S1 32) (main_v14 : IVec S1 32) (main_v30 : IVec S1 1) (main_v35 : IVec S1 1) (main_v40 : IVec S1 1) (main_v45 : IVec S1 1) (main_v50 : IVec S1 1) (main_v55 : IVec S1 1) (main_v57 : IVec S1 1) (main_v58 : IVec S1 32) : IVec S256x4 1 :=
  let main_v59 : IVec S1 1 := cmpi .sle main_v5 main_v58
  let main_v60 : IVec S1 1 := andi main_v57 main_v59
  let main_c_12 : IVec S_ 32 := constantI S_ 32 0#32
  let main_v61 : IVec S1 32 := broadcastInDim S1 ![] bcast_S_S1 main_c_12
  let main_v62 : IVec S1 1 := cmpi .sge main_v6 main_v61
  let main_c_13 : IVec S_ 32 := constantI S_ 32 1024#32
  let main_v63 : IVec S1 32 := broadcastInDim S1 ![] bcast_S_S1 main_c_13
  let main_v64 : IVec S1 1 := cmpi .sle main_v6 main_v63
  let main_v65 : IVec S1 1 := andi main_v62 main_v64
  let main_c_14 : IVec S_ 32 := constantI S_ 32 0#32
  let main_v66 : IVec S1 32 := broadcastInDim S1 ![] bcast_S_S1 main_c_14
  let main_v67 : IVec S1 1 := cmpi .sge main_v7 main_v66
  let main_c_15 : IVec S_ 32 := constantI S_ 32 1024#32
  let main_v68 : IVec S1 32 := broadcastInDim S1 ![] bcast_S_S1 main_c_15
  let main_v69 : IVec S1 1 := cmpi .sle main_v7 main_v68
  let main_v70 : IVec S1 1 := andi main_v67 main_v69
  let main_c_16 : IVec S_ 32 := constantI S_ 32 0#32
  let main_v71 : IVec S1 32 := broadcastInDim S1 ![] bcast_S_S1 main_c_16
  let main_v72 : IVec S1 1 := cmpi .sge main_v8 main_v71
  let main_c_17 : IVec S_ 32 := constantI S_ 32 1024#32
  let main_v73 : IVec S1 32 := broadcastInDim S1 ![] bcast_S_S1 main_c_17
  let main_v74 : IVec S1 1 := cmpi .sle main_v8 main_v73
  let main_v75 : IVec S1 1 := andi main_v72 main_v74
  let main_c_18 : IVec S_ 32 := constantI S_ 32 0#32
  fn_part4 (F := F) main_arg5 main_v9 main_v10 main_v11 main_v12 main_v13 main_v14 main_v30 main_v35 main_v40 main_v45 main_v50 main_v55 main_v60 main_v65 main_v70 main_v75 main_c_18

def fn_part2 {F : FTy → Type} [FloatOps F] (main_arg5 : IVec S256x4 32) (main_v2 : IVec S1 32) (main_v3 : IVec S1 32) (main_v4 : IVec S1 32) (main_v5 : IVec S1 32) (main_v6 : IVec S1 32) (main_v7 : IVec S1 32) (main_v8 : IVec S1 32) (main_v9 : IVec S1 32) (main_v10 : IVec S1 32) (main_v11 : IVec S1 32) (main_v12 : IVec S1 32) (main_v13 : IVec S1 32) (main_v14 : IVec S1 32) (main_v30 : IVec S1 1) (main_v35 : IVec S1 1) (main_v40 : IVec S1 1) (main_v41 : IVec S1 32) : IVec S256x4 1 :=
  let main_v42 : IVec S1 1 := cmpi .sge main_v2 main_v41
  let main_c_5 : IVec S_ 32 := constantI S_ 32 1024#32
  let main_v43 : IVec S1 32 := broadcastInDim S1 ![] bcast_S_S1 main_c_5
  let main_v44 : IVec S1 1 := cmpi .sle main_v2 main_v43
  let main_v45 : IVec S1 1 := andi main_v42 main_v44
  let main_c_6 : IVec S_ 32 := constantI S_ 32 0#32
  let main_v46 : IVec S1 32 := broadcastInDim S1 ![] bcast_S_S1 main_c_6
  let main_v47 : IVec S1 1 := cmpi .sge main_v3 main_v46
  let main_c_7 : IVec S_ 32 := constantI S_ 32 1024#32
  let main_v48 : IVec S1 32 := broadcastInDim S1 ![] bcast_S_S1 main_c_7
  let main_v49 : IVec S1 1 := cmpi .sle main_v3 main_v48
  let main_v50 : IVec S1 1 := andi main_v47 main_v49
  let main_c_8 : IVec S_ 32 := constantI S_ 32 0#32
  let main_v51 : IVec S1 32 := broadcastInDim S1 ![] bcast_S_S1 main_c_8
  let main_v52 : IVec S1 1 := cmpi .sge main_v4 main_v51
  let main_c_9 : IVec S_ 32 := constantI S_ 32 1024#32
  let main_v53 : IVec S1 32 := broadcastInDim S1 ![] bcast_S_S1 main_c_9
  let main_v54 : IVec S1 1 := cmpi .sle main_v4 main_v53
  let main_v55 : IVec S1 1 := andi main_v52 main_v54
  let main_c_10 : IVec S_ 32 := constantI S_ 32 0#32
  let main_v56 : IVec S1 32 := broadcastInDim S1 ![] bcast_S_S1 main_c_10
  let main_v57 : IVec S1 1 := cmpi .sge main_v5 main_v56
  let main_c_11 : IVec S_ 32 := constantI S_ 32 1024#32
  let main_v58 : IVec S1 32 := broadcastInDim S1 ![] bcast_S_S1 main_c_11
  fn_part3 (F := F) main_arg5 main_v5 main_v6 main_v7 main_v8 main_v9 main_v10 main_v11 main_v12 main_v13 main_v14 main_v30 main_v35 main_v40 main_v45 main_v50 main_v55 main_v57 main_v58

def fn_part1 {F : FTy → Type} [FloatOps F] (main_arg5 : IVec S256x4 32) (main_v0 : IVec S1 32) (main_v1 : IVec S1 32) (main_v2 : IVec S1 32) (main_v3 : IVec S1 32) (main_v4 : IVec S1 32) (main_v5 : IVec S1 32) (main_v6 : IVec S1 32) (main_v7 : IVec S1 32) (main_v8 : IVec S1 32) (main_v9 : IVec S1 32) (main_v10 : IVec S1 32) (main_v11 : IVec S1 32) (main_v12 : IVec S1 32) (main_v13 : IVec S1 32) (main_v14 : IVec S1 32) (main_v23 : IVec S1 32) : IVec S256x4 1 :=
  let main_v24 : IVec S1 32 := addi main_v23 main_v10
  let main_v25 : IVec S1 32 := addi main_v24 main_v11
  let main_v26 : IVec S1 32 := addi main_v25 main_v12
  let main_v27 : IVec S1 32 := addi main_v26 main_v13
  let main_v28 : IVec S1 32 := addi main_v27 main_v14
  let main_c : IVec S_ 32 := constantI S_ 32 1024#32
  let main_v29 : IVec S1 32 := broadcastInDim S1 ![] bcast_S_S1 main_c
  let main_v30 : IVec S1 1 := cmpi .eq main_v28 main_v29
  let main_c_0 : IVec S_ 32 := constantI S_ 32 0#32
  let main_v31 : IVec S1 32 := broadcastInDim S1 ![] bcast_S_S1 main_c_0
  let main_v32 : IVec S1 1 := cmpi .sge main_v0 main_v31
  let main_c_1 : IVec S_ 32 := constantI S_ 32 1024#32
  let main_v33 : IVec S1 32 := broadcastInDim S1 ![] bcast_S_S1 main_c_1
  let main_v34 : IVec S1 1 := cmpi .sle main_v0 main_v33
  let main_v35 : IVec S1 1 := andi main_v32 main_v34
  let main_c_2 : IVec S_ 32 := constantI S_ 32 0#32
  let main_v36 : IVec S1 32 := broadcastInDim S1 ![] bcast_S_S1 main_c_2
  let main_v37 : IVec S1 1 := cmpi .sge main_v1 main_v36
  let main_c_3 : IVec S_ 32 := constantI S_ 32 1024#32
  let main_v38 : IVec S1 32 := broadcastInDim S1 ![] bcast_S_S1 main_c_3
  let main_v39 : IVec S1 1 := cmpi .sle main_v1 main_v38
  let main_v40 : IVec S1 1 := andi main_v37 main_v39
  let main_c_4 : IVec S_ 32 := constantI S_ 32 0#32
  let main_v41 : IVec S1 32 := broadcastInDim S1 ![] bcast_S_S1 main_c_4
  fn_part2 (F := F) main_arg5 main_v2 main_v3 main_v4 main_v5 main_v6 main_v7 main_v8 main_v9 main_v10 main_v11 main_v12 main_v13 main_v14 main_v30 main_v35 main_v40 main_v41

def fn {F : FTy → Type} [FloatOps F] (main_arg0 : FVec F S1024x1408 .fp8e4m3) (main_arg1 : FVec F S1024 .f32) (main_arg2 : IVec S15 32) (main_arg3 : FVec F S15x1408x4096 .fp8e4m3) (main_arg4 : FVec F S15x4096 .f32) (main_arg5 : IVec S256x4 32) (main_arg6 : FVec F S256x4 .f32) : IVec S256x4 1 :=
  let main_v0 : IVec S1 32 := (extractStridedSlice S1 ![0] · slices_S15_S1_0) main_arg2
  let main_v1 : IVec S1 32 := (extractStridedSlice S1 ![1] · slices_S15_S1_1) main_arg2
  let main_v2 : IVec S1 32 := (extractStridedSlice S1 ![2] · slices_S15_S1_2) main_arg2
  let main_v3 : IVec S1 32 := (extractStridedSlice S1 ![3] · slices_S15_S1_3) main_arg2
  let main_v4 : IVec S1 32 := (extractStridedSlice S1 ![4] · slices_S15_S1_4) main_arg2
  let main_v5 : IVec S1 32 := (extractStridedSlice S1 ![5] · slices_S15_S1_5) main_arg2
  let main_v6 : IVec S1 32 := (extractStridedSlice S1 ![6] · slices_S15_S1_6) main_arg2
  let main_v7 : IVec S1 32 := (extractStridedSlice S1 ![7] · slices_S15_S1_7) main_arg2
  let main_v8 : IVec S1 32 := (extractStridedSlice S1 ![8] · slices_S15_S1_8) main_arg2
  let main_v9 : IVec S1 32 := (extractStridedSlice S1 ![9] · slices_S15_S1_9) main_arg2
  let main_v10 : IVec S1 32 := (extractStridedSlice S1 ![10] · slices_S15_S1_10) main_arg2
  let main_v11 : IVec S1 32 := (extractStridedSlice S1 ![11] · slices_S15_S1_11) main_arg2
  let main_v12 : IVec S1 32 := (extractStridedSlice S1 ![12] · slices_S15_S1_12) main_arg2
  let main_v13 : IVec S1 32 := (extractStridedSlice S1 ![13] · slices_S15_S1_13) main_arg2
  let main_v14 : IVec S1 32 := (extractStridedSlice S1 ![14] · slices_S15_S1_14) main_arg2
  let main_v15 : IVec S1 32 := addi main_v0 main_v1
  let main_v16 : IVec S1 32 := addi main_v15 main_v2
  let main_v17 : IVec S1 32 := addi main_v16 main_v3
  let main_v18 : IVec S1 32 := addi main_v17 main_v4
  let main_v19 : IVec S1 32 := addi main_v18 main_v5
  let main_v20 : IVec S1 32 := addi main_v19 main_v6
  let main_v21 : IVec S1 32 := addi main_v20 main_v7
  let main_v22 : IVec S1 32 := addi main_v21 main_v8
  let main_v23 : IVec S1 32 := addi main_v22 main_v9
  fn_part1 (F := F) main_arg5 main_v0 main_v1 main_v2 main_v3 main_v4 main_v5 main_v6 main_v7 main_v8 main_v9 main_v10 main_v11 main_v12 main_v13 main_v14 main_v23
-- ==== Kernel.lean ====
abbrev S1024x1408 : Shape := ⟨2, ![1024, 1408]⟩
abbrev S1024 : Shape := ⟨1, ![1024]⟩
abbrev S15 : Shape := ⟨1, ![15]⟩
abbrev S15x1408x4096 : Shape := ⟨3, ![15, 1408, 4096]⟩
abbrev S15x4096 : Shape := ⟨2, ![15, 4096]⟩
abbrev S256x4 : Shape := ⟨2, ![256, 4]⟩
abbrev S4x256 : Shape := ⟨2, ![4, 256]⟩
abbrev S4x2x128 : Shape := ⟨3, ![4, 2, 128]⟩
abbrev S2x4x128 : Shape := ⟨3, ![2, 4, 128]⟩
abbrev S8x128 : Shape := ⟨2, ![8, 128]⟩
abbrev S256x4096 : Shape := ⟨2, ![256, 4096]⟩
abbrev S3x16 : Shape := ⟨2, ![3, 16]⟩
abbrev S1120x1408 : Shape := ⟨2, ![1120, 1408]⟩
abbrev S1120x128 : Shape := ⟨2, ![1120, 128]⟩
abbrev S6x1408x3072 : Shape := ⟨3, ![6, 1408, 3072]⟩
abbrev S26904x128 : Shape := ⟨2, ![26904, 128]⟩
abbrev S6168x128 : Shape := ⟨2, ![6168, 128]⟩
abbrev S2x256x3072 : Shape := ⟨3, ![2, 256, 3072]⟩
abbrev S_ : Shape := ⟨0, ![]⟩
abbrev S4 : Shape := ⟨1, ![4]⟩
abbrev S6 : Shape := ⟨1, ![6]⟩
abbrev S2 : Shape := ⟨1, ![2]⟩
abbrev S1 : Shape := ⟨1, ![1]⟩
abbrev S1x1 : Shape := ⟨2, ![1, 1]⟩
abbrev S1x1408x3072 : Shape := ⟨3, ![1, 1408, 3072]⟩
abbrev S1408x3072 : Shape := ⟨2, ![1408, 3072]⟩
abbrev S1x1408x1024 : Shape := ⟨3, ![1, 1408, 1024]⟩
abbrev S1408x1024 : Shape := ⟨2, ![1408, 1024]⟩
abbrev S1x128 : Shape := ⟨2, ![1, 128]⟩
abbrev S128x128 : Shape := ⟨2, ![128, 128]⟩
abbrev S96x1408 : Shape := ⟨2, ![96, 1408]⟩
abbrev S96x128 : Shape := ⟨2, ![96, 128]⟩
abbrev S128x1408 : Shape := ⟨2, ![128, 1408]⟩
abbrev S32x128 : Shape := ⟨2, ![32, 128]⟩
abbrev S128x1024 : Shape := ⟨2, ![128, 1024]⟩
abbrev S1x1024 : Shape := ⟨2, ![1, 1024]⟩
abbrev S24x128 : Shape := ⟨2, ![24, 128]⟩
abbrev S16x128 : Shape := ⟨2, ![16, 128]⟩
abbrev S1x16x128 : Shape := ⟨3, ![1, 16, 128]⟩
abbrev S256x3072 : Shape := ⟨2, ![256, 3072]⟩
abbrev S1x256x3072 : Shape := ⟨3, ![1, 256, 3072]⟩
abbrev S256x1024 : Shape := ⟨2, ![256, 1024]⟩
abbrev S1x256x1024 : Shape := ⟨3, ![1, 256, 1024]⟩

abbrev nBuf : Space → Nat
  | .hbm => 17
  | .vmem => 8
  | .smem => 4
  | _ => 0

abbrev bufTy : (tb : Table) → Fin (tcTables nBuf tb) → BufTy
  | .hbm, ⟨0, _⟩ => ⟨S1024x1408, .fp8e4m3⟩
  | .hbm, ⟨1, _⟩ => ⟨S1024, .f32⟩
  | .hbm, ⟨2, _⟩ => ⟨S15, .i32⟩
  | .hbm, ⟨3, _⟩ => ⟨S15x1408x4096, .fp8e4m3⟩
  | .hbm, ⟨4, _⟩ => ⟨S15x4096, .f32⟩
  | .hbm, ⟨5, _⟩ => ⟨S256x4, .i32⟩
  | .hbm, ⟨6, _⟩ => ⟨S256x4, .f32⟩
  | .hbm, ⟨7, _⟩ => ⟨S4x256, .i32⟩
  | .hbm, ⟨8, _⟩ => ⟨S4x2x128, .i32⟩
  | .hbm, ⟨9, _⟩ => ⟨S2x4x128, .i32⟩
  | .hbm, ⟨10, _⟩ => ⟨S1024, .i32⟩
  | .hbm, ⟨11, _⟩ => ⟨S4x256, .f32⟩
  | .hbm, ⟨12, _⟩ => ⟨S4x2x128, .f32⟩
  | .hbm, ⟨13, _⟩ => ⟨S2x4x128, .f32⟩
  | .hbm, ⟨14, _⟩ => ⟨S1024, .f32⟩
  | .hbm, ⟨15, _⟩ => ⟨S8x128, .f32⟩
  | .hbm, ⟨16, _⟩ => ⟨S256x4096, .bf16⟩
  | .local _ .vmem, ⟨0, _⟩ => ⟨S8x128, .f32⟩
  | .local _ .vmem, ⟨1, _⟩ => ⟨S1120x1408, .fp8e4m3⟩
  | .local _ .vmem, ⟨2, _⟩ => ⟨S15x4096, .f32⟩
  | .local _ .vmem, ⟨3, _⟩ => ⟨S1120x128, .f32⟩
  | .local _ .vmem, ⟨4, _⟩ => ⟨S6x1408x3072, .fp8e4m3⟩
  | .local _ .vmem, ⟨5, _⟩ => ⟨S26904x128, .f32⟩
  | .local _ .vmem, ⟨6, _⟩ => ⟨S6168x128, .f32⟩
  | .local _ .vmem, ⟨7, _⟩ => ⟨S2x256x3072, .bf16⟩
  | .local _ .smem, ⟨0, _⟩ => ⟨S15, .i32⟩
  | .local _ .smem, ⟨1, _⟩ => ⟨S1024, .i32⟩
  | .local _ .smem, ⟨2, _⟩ => ⟨S1024, .f32⟩
  | .local _ .smem, ⟨3, _⟩ => ⟨S3x16, .i32⟩
  | _, _ => ⟨S1024x1408, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_scratch4 : Ref sig .tc := ⟨.vmem, 0, rfl⟩
abbrev cc0_scratch5 : Ref sig .tc := ⟨.vmem, 1, rfl⟩
abbrev cc0_scratch6 : Ref sig .tc := ⟨.vmem, 2, rfl⟩
abbrev cc0_scratch7 : Ref sig .tc := ⟨.vmem, 3, rfl⟩
abbrev cc0_scratch8 : Ref sig .tc := ⟨.vmem, 4, rfl⟩
abbrev cc0_scratch9 : Ref sig .tc := ⟨.vmem, 5, rfl⟩
abbrev cc0_scratch10 : Ref sig .tc := ⟨.vmem, 6, rfl⟩
abbrev cc0_scratch11 : Ref sig .tc := ⟨.vmem, 7, rfl⟩
abbrev cc0_scratch0 : Ref sig .tc := ⟨.smem, 0, rfl⟩
abbrev cc0_scratch1 : Ref sig .tc := ⟨.smem, 1, rfl⟩
abbrev cc0_scratch2 : Ref sig .tc := ⟨.smem, 2, rfl⟩
abbrev cc0_scratch3 : Ref sig .tc := ⟨.smem, 3, rfl⟩

abbrev nD : Nat := 1
abbrev τ : Topo := Topo.v7x

variable {F : FTy → Type} [FloatOps F]

abbrev grid0 : Pipeline.Grid := .none

@[reducible] def k0_t1_loop : Scf.Loop 32 :=
  let c0_i32_4 : BitVec 32 := 0#32
  let c15_i32 : BitVec 32 := 15#32
  let v9 : BitVec 32 := Scalar.addi c0_i32_4 c15_i32
  let c1_i32_5 : BitVec 32 := 1#32
  ⟨c0_i32_4, v9, c1_i32_5⟩
def k0_off1 (k0_t1 : Fin k0_t1_loop.trips) : Fin 1 → Nat :=
  let c0_i32_4 : BitVec 32 := 0#32
  let c1_i32_5 : BitVec 32 := 1#32
  let arg25 : BitVec 32 := Scf.iv c0_i32_4 c1_i32_5 k0_t1
  let v2766 : Index := Scalar.indexCast arg25
  ![v2766.toNat]
def k0_off2 (arg26 : BitVec 32) : Fin 2 → Nat :=
  let c0_2303 : Index := 0#32
  let v2768 : Index := Scalar.indexCast arg26
  ![0, v2768.toNat]

def k0_off3 (arg26 : BitVec 32) : Fin 2 → Nat :=
  let c1_2304 : Index := 1#32
  let v2770 : Index := Scalar.indexCast arg26
  ![1, v2770.toNat]
def k0_off4 (arg26 : BitVec 32) : Fin 2 → Nat :=
  let c2_2305 : Index := 2#32
  let v2773 : Index := Scalar.indexCast arg26
  ![2, v2773.toNat]

def k0_chk1 (arg26 : BitVec 32) : Prop :=
  (∀ a, (k0_off2 arg26) a + S1x1.size a ≤ S3x16.size a) ∧
  (∀ a, (k0_off3 arg26) a + S1x1.size a ≤ S3x16.size a) ∧
  (∀ a, (k0_off4 arg26) a + S1x1.size a ≤ S3x16.size a)
theorem k0_off2_inb : ∀ (arg26 : BitVec 32) (k0_hw1 : k0_chk1 arg26), ∀ a, (k0_off2 arg26) a + S1x1.size a ≤ S3x16.size a := fun arg26 k0_hw1 => k0_hw1.1
theorem k0_off3_inb : ∀ (arg26 : BitVec 32) (k0_hw1 : k0_chk1 arg26), ∀ a, (k0_off3 arg26) a + S1x1.size a ≤ S3x16.size a := fun arg26 k0_hw1 => k0_hw1.2.1
theorem k0_off4_inb : ∀ (arg26 : BitVec 32) (k0_hw1 : k0_chk1 arg26), ∀ a, (k0_off4 arg26) a + S1x1.size a ≤ S3x16.size a := fun arg26 k0_hw1 => k0_hw1.2.2

def k0_off5 (v10_0 : BitVec 32) : Fin 2 → Nat :=
  let c0_2303 : Index := 0#32
  let c0_i32_8 : BitVec 32 := 0#32
  let c0_i32_7 : BitVec 32 := 0#32
  let v11 : BitVec 32 := Scalar.muli c0_i32_7 v10_0
  let v12 : BitVec 32 := Scalar.subi c0_i32_8 v11
  let v2767 : Index := Scalar.indexCast v12
  ![0, v2767.toNat]
def k0_cond1 (v10_0 : BitVec 32) : BitVec 1 :=
  let c0_i32_8 : BitVec 32 := 0#32
  let c0_i32_7 : BitVec 32 := 0#32
  let v11 : BitVec 32 := Scalar.muli c0_i32_7 v10_0
  let v12 : BitVec 32 := Scalar.subi c0_i32_8 v11
  let c0_i32_9 : BitVec 32 := 0#32
  let v13 : BitVec 1 := Scalar.cmpi .sge v12 c0_i32_9
  let v14 : BitVec 1 := Scalar.cmpi .slt v12 v10_0
  let v15 : BitVec 1 := Scalar.andi v13 v14
  let v16 : BitVec 32 := Scalar.extui v15
  let c0_i32_11 : BitVec 32 := 0#32
  let v17 : BitVec 1 := Scalar.cmpi .ne v16 c0_i32_11
  v17

def k0_off6 : Fin 1 → Nat :=
  let c0_i32_10 : BitVec 32 := 0#32
  let c6_i32 : BitVec 32 := 6#32
  let v2766 : BitVec 32 := Scalar.remsi c0_i32_10 c6_i32
  ![v2766.toNat]
def k0_off7 : Fin 3 → Nat :=
  let c0_i32_10 : BitVec 32 := 0#32
  let c6_i32 : BitVec 32 := 6#32
  let v2766 : BitVec 32 := Scalar.remsi c0_i32_10 c6_i32
  let c0_i32_2304 : BitVec 32 := 0#32
  let c0_i32_2305 : BitVec 32 := 0#32
  ![v2766.toNat, 0, 0]
def k0_off8 (v2768 : BitVec 32) : Fin 3 → Nat :=
  let c0_i32_2306 : BitVec 32 := 0#32
  let c0_i32_2307 : BitVec 32 := 0#32
  ![v2768.toNat, 0, 0]

def k0_chk3 (v10_0 : BitVec 32) (v2768 : BitVec 32) : Prop :=
  (∀ (k0_h1 : k0_cond1 v10_0 = 1#1), ∀ a, (k0_off8 v2768) a + S1x1408x3072.size a ≤ S15x1408x4096.size a) ∧
  (∀ (k0_h1 : k0_cond1 v10_0 = 1#1), ∀ (hinb : ∀ a, (k0_off8 v2768) a + S1x1408x3072.size a ≤ S15x1408x4096.size a), (Rect.unit (s := S15x1408x4096) (k0_off8 v2768) S1x1408x3072.size hinb).WholeWords (EltTy.packing .fp8e4m3))
theorem k0_off8_inb : ∀ (v10_0 : BitVec 32) (v2768 : BitVec 32) (k0_hw3 : k0_chk3 v10_0 v2768), ∀ (k0_h1 : k0_cond1 v10_0 = 1#1), ∀ a, (k0_off8 v2768) a + S1x1408x3072.size a ≤ S15x1408x4096.size a := fun v10_0 v2768 k0_hw3 k0_h1 => k0_hw3.1 k0_h1
theorem k0_off8_wordsfp8e4m3 : ∀ (v10_0 : BitVec 32) (v2768 : BitVec 32) (k0_hw3 : k0_chk3 v10_0 v2768), ∀ (k0_h1 : k0_cond1 v10_0 = 1#1), (Rect.unit (s := S15x1408x4096) (k0_off8 v2768) S1x1408x3072.size (k0_off8_inb v10_0 v2768 k0_hw3 k0_h1)).WholeWords (EltTy.packing .fp8e4m3) := fun v10_0 v2768 k0_hw3 k0_h1 => k0_hw3.2 k0_h1 (k0_off8_inb v10_0 v2768 k0_hw3 k0_h1)

def k0_off9 (v10_0 : BitVec 32) : Fin 2 → Nat :=
  let c0_2303 : Index := 0#32
  let c0_i32_13 : BitVec 32 := 0#32
  let c1_i32_12 : BitVec 32 := 1#32
  let v18 : BitVec 32 := Scalar.muli c1_i32_12 v10_0
  let v19 : BitVec 32 := Scalar.subi c0_i32_13 v18
  let v2767 : Index := Scalar.indexCast v19
  ![0, v2767.toNat]
def k0_cond2 (v10_0 : BitVec 32) : BitVec 1 :=
  let c0_i32_13 : BitVec 32 := 0#32
  let c1_i32_12 : BitVec 32 := 1#32
  let v18 : BitVec 32 := Scalar.muli c1_i32_12 v10_0
  let v19 : BitVec 32 := Scalar.subi c0_i32_13 v18
  let c0_i32_14 : BitVec 32 := 0#32
  let v20 : BitVec 1 := Scalar.cmpi .sge v19 c0_i32_14
  let v21 : BitVec 1 := Scalar.cmpi .slt v19 v10_0
  let v22 : BitVec 1 := Scalar.andi v20 v21
  let v23 : BitVec 32 := Scalar.extui v22
  let c0_i32_16 : BitVec 32 := 0#32
  let v24 : BitVec 1 := Scalar.cmpi .ne v23 c0_i32_16
  v24

def k0_off10 : Fin 1 → Nat :=
  let c0_i32_15 : BitVec 32 := 0#32
  let c6_i32 : BitVec 32 := 6#32
  let v2766 : BitVec 32 := Scalar.remsi c0_i32_15 c6_i32
  ![v2766.toNat]
def k0_off11 : Fin 3 → Nat :=
  let c0_i32_15 : BitVec 32 := 0#32
  let c6_i32 : BitVec 32 := 6#32
  let v2766 : BitVec 32 := Scalar.remsi c0_i32_15 c6_i32
  let c0_i32_2304 : BitVec 32 := 0#32
  let c0_i32_2305 : BitVec 32 := 0#32
  ![v2766.toNat, 0, 0]
def k0_off12 (v2768 : BitVec 32) : Fin 3 → Nat :=
  let c0_i32_2306 : BitVec 32 := 0#32
  let c3072_i32_2307 : BitVec 32 := 3072#32
  ![v2768.toNat, 0, 3072]

def k0_chk4 (v10_0 : BitVec 32) (v2768 : BitVec 32) : Prop :=
  (∀ (k0_h2 : k0_cond2 v10_0 = 1#1), ∀ a, (k0_off12 v2768) a + S1x1408x1024.size a ≤ S15x1408x4096.size a) ∧
  (∀ (k0_h2 : k0_cond2 v10_0 = 1#1), ∀ (hinb : ∀ a, (k0_off12 v2768) a + S1x1408x1024.size a ≤ S15x1408x4096.size a), (Rect.unit (s := S15x1408x4096) (k0_off12 v2768) S1x1408x1024.size hinb).WholeWords (EltTy.packing .fp8e4m3))
theorem k0_off12_inb : ∀ (v10_0 : BitVec 32) (v2768 : BitVec 32) (k0_hw4 : k0_chk4 v10_0 v2768), ∀ (k0_h2 : k0_cond2 v10_0 = 1#1), ∀ a, (k0_off12 v2768) a + S1x1408x1024.size a ≤ S15x1408x4096.size a := fun v10_0 v2768 k0_hw4 k0_h2 => k0_hw4.1 k0_h2
theorem k0_off12_wordsfp8e4m3 : ∀ (v10_0 : BitVec 32) (v2768 : BitVec 32) (k0_hw4 : k0_chk4 v10_0 v2768), ∀ (k0_h2 : k0_cond2 v10_0 = 1#1), (Rect.unit (s := S15x1408x4096) (k0_off12 v2768) S1x1408x1024.size (k0_off12_inb v10_0 v2768 k0_hw4 k0_h2)).WholeWords (EltTy.packing .fp8e4m3) := fun v10_0 v2768 k0_hw4 k0_h2 => k0_hw4.2 k0_h2 (k0_off12_inb v10_0 v2768 k0_hw4 k0_h2)

def k0_off13 (v10_0 : BitVec 32) : Fin 2 → Nat :=
  let c0_2303 : Index := 0#32
  let c1_i32_18 : BitVec 32 := 1#32
  let c0_i32_17 : BitVec 32 := 0#32
  let v25 : BitVec 32 := Scalar.muli c0_i32_17 v10_0
  let v26 : BitVec 32 := Scalar.subi c1_i32_18 v25
  let v2767 : Index := Scalar.indexCast v26
  ![0, v2767.toNat]
def k0_cond3 (v10_0 : BitVec 32) : BitVec 1 :=
  let c1_i32_18 : BitVec 32 := 1#32
  let c0_i32_17 : BitVec 32 := 0#32
  let v25 : BitVec 32 := Scalar.muli c0_i32_17 v10_0
  let v26 : BitVec 32 := Scalar.subi c1_i32_18 v25
  let c0_i32_19 : BitVec 32 := 0#32
  let v27 : BitVec 1 := Scalar.cmpi .sge v26 c0_i32_19
  let v28 : BitVec 1 := Scalar.cmpi .slt v26 v10_0
  let v29 : BitVec 1 := Scalar.andi v27 v28
  let v30 : BitVec 32 := Scalar.extui v29
  let c0_i32_21 : BitVec 32 := 0#32
  let v31 : BitVec 1 := Scalar.cmpi .ne v30 c0_i32_21
  v31

def k0_off14 : Fin 1 → Nat :=
  let c1_i32_20 : BitVec 32 := 1#32
  let c6_i32 : BitVec 32 := 6#32
  let v2766 : BitVec 32 := Scalar.remsi c1_i32_20 c6_i32
  ![v2766.toNat]
def k0_off15 : Fin 3 → Nat :=
  let c1_i32_20 : BitVec 32 := 1#32
  let c6_i32 : BitVec 32 := 6#32
  let v2766 : BitVec 32 := Scalar.remsi c1_i32_20 c6_i32
  let c0_i32_2304 : BitVec 32 := 0#32
  let c0_i32_2305 : BitVec 32 := 0#32
  ![v2766.toNat, 0, 0]
def k0_off16 (v2768 : BitVec 32) : Fin 3 → Nat :=
  let c0_i32_2306 : BitVec 32 := 0#32
  let c0_i32_2307 : BitVec 32 := 0#32
  ![v2768.toNat, 0, 0]

def k0_chk5 (v10_0 : BitVec 32) (v2768 : BitVec 32) : Prop :=
  (∀ (k0_h3 : k0_cond3 v10_0 = 1#1), ∀ a, (k0_off16 v2768) a + S1x1408x3072.size a ≤ S15x1408x4096.size a) ∧
  (∀ (k0_h3 : k0_cond3 v10_0 = 1#1), ∀ (hinb : ∀ a, (k0_off16 v2768) a + S1x1408x3072.size a ≤ S15x1408x4096.size a), (Rect.unit (s := S15x1408x4096) (k0_off16 v2768) S1x1408x3072.size hinb).WholeWords (EltTy.packing .fp8e4m3))
theorem k0_off16_inb : ∀ (v10_0 : BitVec 32) (v2768 : BitVec 32) (k0_hw5 : k0_chk5 v10_0 v2768), ∀ (k0_h3 : k0_cond3 v10_0 = 1#1), ∀ a, (k0_off16 v2768) a + S1x1408x3072.size a ≤ S15x1408x4096.size a := fun v10_0 v2768 k0_hw5 k0_h3 => k0_hw5.1 k0_h3
theorem k0_off16_wordsfp8e4m3 : ∀ (v10_0 : BitVec 32) (v2768 : BitVec 32) (k0_hw5 : k0_chk5 v10_0 v2768), ∀ (k0_h3 : k0_cond3 v10_0 = 1#1), (Rect.unit (s := S15x1408x4096) (k0_off16 v2768) S1x1408x3072.size (k0_off16_inb v10_0 v2768 k0_hw5 k0_h3)).WholeWords (EltTy.packing .fp8e4m3) := fun v10_0 v2768 k0_hw5 k0_h3 => k0_hw5.2 k0_h3 (k0_off16_inb v10_0 v2768 k0_hw5 k0_h3)

def k0_off17 (v10_0 : BitVec 32) : Fin 2 → Nat :=
  let c0_2303 : Index := 0#32
  let c1_i32_23 : BitVec 32 := 1#32
  let c1_i32_22 : BitVec 32 := 1#32
  let v32 : BitVec 32 := Scalar.muli c1_i32_22 v10_0
  let v33 : BitVec 32 := Scalar.subi c1_i32_23 v32
  let v2767 : Index := Scalar.indexCast v33
  ![0, v2767.toNat]
def k0_cond4 (v10_0 : BitVec 32) : BitVec 1 :=
  let c1_i32_23 : BitVec 32 := 1#32
  let c1_i32_22 : BitVec 32 := 1#32
  let v32 : BitVec 32 := Scalar.muli c1_i32_22 v10_0
  let v33 : BitVec 32 := Scalar.subi c1_i32_23 v32
  let c0_i32_24 : BitVec 32 := 0#32
  let v34 : BitVec 1 := Scalar.cmpi .sge v33 c0_i32_24
  let v35 : BitVec 1 := Scalar.cmpi .slt v33 v10_0
  let v36 : BitVec 1 := Scalar.andi v34 v35
  let v37 : BitVec 32 := Scalar.extui v36
  let c0_i32_26 : BitVec 32 := 0#32
  let v38 : BitVec 1 := Scalar.cmpi .ne v37 c0_i32_26
  v38

def k0_off18 : Fin 1 → Nat :=
  let c1_i32_25 : BitVec 32 := 1#32
  let c6_i32 : BitVec 32 := 6#32
  let v2766 : BitVec 32 := Scalar.remsi c1_i32_25 c6_i32
  ![v2766.toNat]
def k0_off19 : Fin 3 → Nat :=
  let c1_i32_25 : BitVec 32 := 1#32
  let c6_i32 : BitVec 32 := 6#32
  let v2766 : BitVec 32 := Scalar.remsi c1_i32_25 c6_i32
  let c0_i32_2304 : BitVec 32 := 0#32
  let c0_i32_2305 : BitVec 32 := 0#32
  ![v2766.toNat, 0, 0]
def k0_off20 (v2768 : BitVec 32) : Fin 3 → Nat :=
  let c0_i32_2306 : BitVec 32 := 0#32
  let c3072_i32_2307 : BitVec 32 := 3072#32
  ![v2768.toNat, 0, 3072]

def k0_chk6 (v10_0 : BitVec 32) (v2768 : BitVec 32) : Prop :=
  (∀ (k0_h4 : k0_cond4 v10_0 = 1#1), ∀ a, (k0_off20 v2768) a + S1x1408x1024.size a ≤ S15x1408x4096.size a) ∧
  (∀ (k0_h4 : k0_cond4 v10_0 = 1#1), ∀ (hinb : ∀ a, (k0_off20 v2768) a + S1x1408x1024.size a ≤ S15x1408x4096.size a), (Rect.unit (s := S15x1408x4096) (k0_off20 v2768) S1x1408x1024.size hinb).WholeWords (EltTy.packing .fp8e4m3))
theorem k0_off20_inb : ∀ (v10_0 : BitVec 32) (v2768 : BitVec 32) (k0_hw6 : k0_chk6 v10_0 v2768), ∀ (k0_h4 : k0_cond4 v10_0 = 1#1), ∀ a, (k0_off20 v2768) a + S1x1408x1024.size a ≤ S15x1408x4096.size a := fun v10_0 v2768 k0_hw6 k0_h4 => k0_hw6.1 k0_h4
theorem k0_off20_wordsfp8e4m3 : ∀ (v10_0 : BitVec 32) (v2768 : BitVec 32) (k0_hw6 : k0_chk6 v10_0 v2768), ∀ (k0_h4 : k0_cond4 v10_0 = 1#1), (Rect.unit (s := S15x1408x4096) (k0_off20 v2768) S1x1408x1024.size (k0_off20_inb v10_0 v2768 k0_hw6 k0_h4)).WholeWords (EltTy.packing .fp8e4m3) := fun v10_0 v2768 k0_hw6 k0_h4 => k0_hw6.2 k0_h4 (k0_off20_inb v10_0 v2768 k0_hw6 k0_h4)

def k0_off21 (v10_0 : BitVec 32) : Fin 2 → Nat :=
  let c0_2303 : Index := 0#32
  let c2_i32_28 : BitVec 32 := 2#32
  let c0_i32_27 : BitVec 32 := 0#32
  let v39 : BitVec 32 := Scalar.muli c0_i32_27 v10_0
  let v40 : BitVec 32 := Scalar.subi c2_i32_28 v39
  let v2767 : Index := Scalar.indexCast v40
  ![0, v2767.toNat]
def k0_cond5 (v10_0 : BitVec 32) : BitVec 1 :=
  let c2_i32_28 : BitVec 32 := 2#32
  let c0_i32_27 : BitVec 32 := 0#32
  let v39 : BitVec 32 := Scalar.muli c0_i32_27 v10_0
  let v40 : BitVec 32 := Scalar.subi c2_i32_28 v39
  let c0_i32_29 : BitVec 32 := 0#32
  let v41 : BitVec 1 := Scalar.cmpi .sge v40 c0_i32_29
  let v42 : BitVec 1 := Scalar.cmpi .slt v40 v10_0
  let v43 : BitVec 1 := Scalar.andi v41 v42
  let v44 : BitVec 32 := Scalar.extui v43
  let c0_i32_31 : BitVec 32 := 0#32
  let v45 : BitVec 1 := Scalar.cmpi .ne v44 c0_i32_31
  v45

def k0_off22 : Fin 1 → Nat :=
  let c2_i32_30 : BitVec 32 := 2#32
  let c6_i32 : BitVec 32 := 6#32
  let v2766 : BitVec 32 := Scalar.remsi c2_i32_30 c6_i32
  ![v2766.toNat]
def k0_off23 : Fin 3 → Nat :=
  let c2_i32_30 : BitVec 32 := 2#32
  let c6_i32 : BitVec 32 := 6#32
  let v2766 : BitVec 32 := Scalar.remsi c2_i32_30 c6_i32
  let c0_i32_2304 : BitVec 32 := 0#32
  let c0_i32_2305 : BitVec 32 := 0#32
  ![v2766.toNat, 0, 0]
def k0_off24 (v2768 : BitVec 32) : Fin 3 → Nat :=
  let c0_i32_2306 : BitVec 32 := 0#32
  let c0_i32_2307 : BitVec 32 := 0#32
  ![v2768.toNat, 0, 0]

def k0_chk7 (v10_0 : BitVec 32) (v2768 : BitVec 32) : Prop :=
  (∀ (k0_h5 : k0_cond5 v10_0 = 1#1), ∀ a, (k0_off24 v2768) a + S1x1408x3072.size a ≤ S15x1408x4096.size a) ∧
  (∀ (k0_h5 : k0_cond5 v10_0 = 1#1), ∀ (hinb : ∀ a, (k0_off24 v2768) a + S1x1408x3072.size a ≤ S15x1408x4096.size a), (Rect.unit (s := S15x1408x4096) (k0_off24 v2768) S1x1408x3072.size hinb).WholeWords (EltTy.packing .fp8e4m3))
theorem k0_off24_inb : ∀ (v10_0 : BitVec 32) (v2768 : BitVec 32) (k0_hw7 : k0_chk7 v10_0 v2768), ∀ (k0_h5 : k0_cond5 v10_0 = 1#1), ∀ a, (k0_off24 v2768) a + S1x1408x3072.size a ≤ S15x1408x4096.size a := fun v10_0 v2768 k0_hw7 k0_h5 => k0_hw7.1 k0_h5
theorem k0_off24_wordsfp8e4m3 : ∀ (v10_0 : BitVec 32) (v2768 : BitVec 32) (k0_hw7 : k0_chk7 v10_0 v2768), ∀ (k0_h5 : k0_cond5 v10_0 = 1#1), (Rect.unit (s := S15x1408x4096) (k0_off24 v2768) S1x1408x3072.size (k0_off24_inb v10_0 v2768 k0_hw7 k0_h5)).WholeWords (EltTy.packing .fp8e4m3) := fun v10_0 v2768 k0_hw7 k0_h5 => k0_hw7.2 k0_h5 (k0_off24_inb v10_0 v2768 k0_hw7 k0_h5)

def k0_off25 (v10_0 : BitVec 32) : Fin 2 → Nat :=
  let c0_2303 : Index := 0#32
  let c2_i32_33 : BitVec 32 := 2#32
  let c1_i32_32 : BitVec 32 := 1#32
  let v46 : BitVec 32 := Scalar.muli c1_i32_32 v10_0
  let v47 : BitVec 32 := Scalar.subi c2_i32_33 v46
  let v2767 : Index := Scalar.indexCast v47
  ![0, v2767.toNat]
def k0_cond6 (v10_0 : BitVec 32) : BitVec 1 :=
  let c2_i32_33 : BitVec 32 := 2#32
  let c1_i32_32 : BitVec 32 := 1#32
  let v46 : BitVec 32 := Scalar.muli c1_i32_32 v10_0
  let v47 : BitVec 32 := Scalar.subi c2_i32_33 v46
  let c0_i32_34 : BitVec 32 := 0#32
  let v48 : BitVec 1 := Scalar.cmpi .sge v47 c0_i32_34
  let v49 : BitVec 1 := Scalar.cmpi .slt v47 v10_0
  let v50 : BitVec 1 := Scalar.andi v48 v49
  let v51 : BitVec 32 := Scalar.extui v50
  let c0_i32_36 : BitVec 32 := 0#32
  let v52 : BitVec 1 := Scalar.cmpi .ne v51 c0_i32_36
  v52

def k0_off26 : Fin 1 → Nat :=
  let c2_i32_35 : BitVec 32 := 2#32
  let c6_i32 : BitVec 32 := 6#32
  let v2766 : BitVec 32 := Scalar.remsi c2_i32_35 c6_i32
  ![v2766.toNat]
def k0_off27 : Fin 3 → Nat :=
  let c2_i32_35 : BitVec 32 := 2#32
  let c6_i32 : BitVec 32 := 6#32
  let v2766 : BitVec 32 := Scalar.remsi c2_i32_35 c6_i32
  let c0_i32_2304 : BitVec 32 := 0#32
  let c0_i32_2305 : BitVec 32 := 0#32
  ![v2766.toNat, 0, 0]
def k0_off28 (v2768 : BitVec 32) : Fin 3 → Nat :=
  let c0_i32_2306 : BitVec 32 := 0#32
  let c3072_i32_2307 : BitVec 32 := 3072#32
  ![v2768.toNat, 0, 3072]

def k0_chk8 (v10_0 : BitVec 32) (v2768 : BitVec 32) : Prop :=
  (∀ (k0_h6 : k0_cond6 v10_0 = 1#1), ∀ a, (k0_off28 v2768) a + S1x1408x1024.size a ≤ S15x1408x4096.size a) ∧
  (∀ (k0_h6 : k0_cond6 v10_0 = 1#1), ∀ (hinb : ∀ a, (k0_off28 v2768) a + S1x1408x1024.size a ≤ S15x1408x4096.size a), (Rect.unit (s := S15x1408x4096) (k0_off28 v2768) S1x1408x1024.size hinb).WholeWords (EltTy.packing .fp8e4m3))
theorem k0_off28_inb : ∀ (v10_0 : BitVec 32) (v2768 : BitVec 32) (k0_hw8 : k0_chk8 v10_0 v2768), ∀ (k0_h6 : k0_cond6 v10_0 = 1#1), ∀ a, (k0_off28 v2768) a + S1x1408x1024.size a ≤ S15x1408x4096.size a := fun v10_0 v2768 k0_hw8 k0_h6 => k0_hw8.1 k0_h6
theorem k0_off28_wordsfp8e4m3 : ∀ (v10_0 : BitVec 32) (v2768 : BitVec 32) (k0_hw8 : k0_chk8 v10_0 v2768), ∀ (k0_h6 : k0_cond6 v10_0 = 1#1), (Rect.unit (s := S15x1408x4096) (k0_off28 v2768) S1x1408x1024.size (k0_off28_inb v10_0 v2768 k0_hw8 k0_h6)).WholeWords (EltTy.packing .fp8e4m3) := fun v10_0 v2768 k0_hw8 k0_h6 => k0_hw8.2 k0_h6 (k0_off28_inb v10_0 v2768 k0_hw8 k0_h6)

def k0_off29 (v10_0 : BitVec 32) : Fin 2 → Nat :=
  let c0_2303 : Index := 0#32
  let c3_i32_38 : BitVec 32 := 3#32
  let c0_i32_37 : BitVec 32 := 0#32
  let v53 : BitVec 32 := Scalar.muli c0_i32_37 v10_0
  let v54 : BitVec 32 := Scalar.subi c3_i32_38 v53
  let v2767 : Index := Scalar.indexCast v54
  ![0, v2767.toNat]
def k0_cond7 (v10_0 : BitVec 32) : BitVec 1 :=
  let c3_i32_38 : BitVec 32 := 3#32
  let c0_i32_37 : BitVec 32 := 0#32
  let v53 : BitVec 32 := Scalar.muli c0_i32_37 v10_0
  let v54 : BitVec 32 := Scalar.subi c3_i32_38 v53
  let c0_i32_39 : BitVec 32 := 0#32
  let v55 : BitVec 1 := Scalar.cmpi .sge v54 c0_i32_39
  let v56 : BitVec 1 := Scalar.cmpi .slt v54 v10_0
  let v57 : BitVec 1 := Scalar.andi v55 v56
  let v58 : BitVec 32 := Scalar.extui v57
  let c0_i32_41 : BitVec 32 := 0#32
  let v59 : BitVec 1 := Scalar.cmpi .ne v58 c0_i32_41
  v59

def k0_off30 : Fin 1 → Nat :=
  let c3_i32_40 : BitVec 32 := 3#32
  let c6_i32 : BitVec 32 := 6#32
  let v2766 : BitVec 32 := Scalar.remsi c3_i32_40 c6_i32
  ![v2766.toNat]
def k0_off31 : Fin 3 → Nat :=
  let c3_i32_40 : BitVec 32 := 3#32
  let c6_i32 : BitVec 32 := 6#32
  let v2766 : BitVec 32 := Scalar.remsi c3_i32_40 c6_i32
  let c0_i32_2304 : BitVec 32 := 0#32
  let c0_i32_2305 : BitVec 32 := 0#32
  ![v2766.toNat, 0, 0]
def k0_off32 (v2768 : BitVec 32) : Fin 3 → Nat :=
  let c0_i32_2306 : BitVec 32 := 0#32
  let c0_i32_2307 : BitVec 32 := 0#32
  ![v2768.toNat, 0, 0]

def k0_chk9 (v10_0 : BitVec 32) (v2768 : BitVec 32) : Prop :=
  (∀ (k0_h7 : k0_cond7 v10_0 = 1#1), ∀ a, (k0_off32 v2768) a + S1x1408x3072.size a ≤ S15x1408x4096.size a) ∧
  (∀ (k0_h7 : k0_cond7 v10_0 = 1#1), ∀ (hinb : ∀ a, (k0_off32 v2768) a + S1x1408x3072.size a ≤ S15x1408x4096.size a), (Rect.unit (s := S15x1408x4096) (k0_off32 v2768) S1x1408x3072.size hinb).WholeWords (EltTy.packing .fp8e4m3))
theorem k0_off32_inb : ∀ (v10_0 : BitVec 32) (v2768 : BitVec 32) (k0_hw9 : k0_chk9 v10_0 v2768), ∀ (k0_h7 : k0_cond7 v10_0 = 1#1), ∀ a, (k0_off32 v2768) a + S1x1408x3072.size a ≤ S15x1408x4096.size a := fun v10_0 v2768 k0_hw9 k0_h7 => k0_hw9.1 k0_h7
theorem k0_off32_wordsfp8e4m3 : ∀ (v10_0 : BitVec 32) (v2768 : BitVec 32) (k0_hw9 : k0_chk9 v10_0 v2768), ∀ (k0_h7 : k0_cond7 v10_0 = 1#1), (Rect.unit (s := S15x1408x4096) (k0_off32 v2768) S1x1408x3072.size (k0_off32_inb v10_0 v2768 k0_hw9 k0_h7)).WholeWords (EltTy.packing .fp8e4m3) := fun v10_0 v2768 k0_hw9 k0_h7 => k0_hw9.2 k0_h7 (k0_off32_inb v10_0 v2768 k0_hw9 k0_h7)

def k0_off33 (v10_0 : BitVec 32) : Fin 2 → Nat :=
  let c0_2303 : Index := 0#32
  let c3_i32_43 : BitVec 32 := 3#32
  let c1_i32_42 : BitVec 32 := 1#32
  let v60 : BitVec 32 := Scalar.muli c1_i32_42 v10_0
  let v61 : BitVec 32 := Scalar.subi c3_i32_43 v60
  let v2767 : Index := Scalar.indexCast v61
  ![0, v2767.toNat]
def k0_cond8 (v10_0 : BitVec 32) : BitVec 1 :=
  let c3_i32_43 : BitVec 32 := 3#32
  let c1_i32_42 : BitVec 32 := 1#32
  let v60 : BitVec 32 := Scalar.muli c1_i32_42 v10_0
  let v61 : BitVec 32 := Scalar.subi c3_i32_43 v60
  let c0_i32_44 : BitVec 32 := 0#32
  let v62 : BitVec 1 := Scalar.cmpi .sge v61 c0_i32_44
  let v63 : BitVec 1 := Scalar.cmpi .slt v61 v10_0
  let v64 : BitVec 1 := Scalar.andi v62 v63
  let v65 : BitVec 32 := Scalar.extui v64
  let c0_i32_46 : BitVec 32 := 0#32
  let v66 : BitVec 1 := Scalar.cmpi .ne v65 c0_i32_46
  v66

def k0_off34 : Fin 1 → Nat :=
  let c3_i32_45 : BitVec 32 := 3#32
  let c6_i32 : BitVec 32 := 6#32
  let v2766 : BitVec 32 := Scalar.remsi c3_i32_45 c6_i32
  ![v2766.toNat]
def k0_off35 : Fin 3 → Nat :=
  let c3_i32_45 : BitVec 32 := 3#32
  let c6_i32 : BitVec 32 := 6#32
  let v2766 : BitVec 32 := Scalar.remsi c3_i32_45 c6_i32
  let c0_i32_2304 : BitVec 32 := 0#32
  let c0_i32_2305 : BitVec 32 := 0#32
  ![v2766.toNat, 0, 0]
def k0_off36 (v2768 : BitVec 32) : Fin 3 → Nat :=
  let c0_i32_2306 : BitVec 32 := 0#32
  let c3072_i32_2307 : BitVec 32 := 3072#32
  ![v2768.toNat, 0, 3072]

def k0_chk10 (v10_0 : BitVec 32) (v2768 : BitVec 32) : Prop :=
  (∀ (k0_h8 : k0_cond8 v10_0 = 1#1), ∀ a, (k0_off36 v2768) a + S1x1408x1024.size a ≤ S15x1408x4096.size a) ∧
  (∀ (k0_h8 : k0_cond8 v10_0 = 1#1), ∀ (hinb : ∀ a, (k0_off36 v2768) a + S1x1408x1024.size a ≤ S15x1408x4096.size a), (Rect.unit (s := S15x1408x4096) (k0_off36 v2768) S1x1408x1024.size hinb).WholeWords (EltTy.packing .fp8e4m3))
theorem k0_off36_inb : ∀ (v10_0 : BitVec 32) (v2768 : BitVec 32) (k0_hw10 : k0_chk10 v10_0 v2768), ∀ (k0_h8 : k0_cond8 v10_0 = 1#1), ∀ a, (k0_off36 v2768) a + S1x1408x1024.size a ≤ S15x1408x4096.size a := fun v10_0 v2768 k0_hw10 k0_h8 => k0_hw10.1 k0_h8
theorem k0_off36_wordsfp8e4m3 : ∀ (v10_0 : BitVec 32) (v2768 : BitVec 32) (k0_hw10 : k0_chk10 v10_0 v2768), ∀ (k0_h8 : k0_cond8 v10_0 = 1#1), (Rect.unit (s := S15x1408x4096) (k0_off36 v2768) S1x1408x1024.size (k0_off36_inb v10_0 v2768 k0_hw10 k0_h8)).WholeWords (EltTy.packing .fp8e4m3) := fun v10_0 v2768 k0_hw10 k0_h8 => k0_hw10.2 k0_h8 (k0_off36_inb v10_0 v2768 k0_hw10 k0_h8)

def k0_off37 (v10_0 : BitVec 32) : Fin 2 → Nat :=
  let c0_2303 : Index := 0#32
  let c4_i32 : BitVec 32 := 4#32
  let c0_i32_47 : BitVec 32 := 0#32
  let v67 : BitVec 32 := Scalar.muli c0_i32_47 v10_0
  let v68 : BitVec 32 := Scalar.subi c4_i32 v67
  let v2767 : Index := Scalar.indexCast v68
  ![0, v2767.toNat]
def k0_cond9 (v10_0 : BitVec 32) : BitVec 1 :=
  let c4_i32 : BitVec 32 := 4#32
  let c0_i32_47 : BitVec 32 := 0#32
  let v67 : BitVec 32 := Scalar.muli c0_i32_47 v10_0
  let v68 : BitVec 32 := Scalar.subi c4_i32 v67
  let c0_i32_48 : BitVec 32 := 0#32
  let v69 : BitVec 1 := Scalar.cmpi .sge v68 c0_i32_48
  let v70 : BitVec 1 := Scalar.cmpi .slt v68 v10_0
  let v71 : BitVec 1 := Scalar.andi v69 v70
  let v72 : BitVec 32 := Scalar.extui v71
  let c0_i32_50 : BitVec 32 := 0#32
  let v73 : BitVec 1 := Scalar.cmpi .ne v72 c0_i32_50
  v73

def k0_off38 : Fin 1 → Nat :=
  let c4_i32_49 : BitVec 32 := 4#32
  let c6_i32 : BitVec 32 := 6#32
  let v2766 : BitVec 32 := Scalar.remsi c4_i32_49 c6_i32
  ![v2766.toNat]
def k0_off39 : Fin 3 → Nat :=
  let c4_i32_49 : BitVec 32 := 4#32
  let c6_i32 : BitVec 32 := 6#32
  let v2766 : BitVec 32 := Scalar.remsi c4_i32_49 c6_i32
  let c0_i32_2304 : BitVec 32 := 0#32
  let c0_i32_2305 : BitVec 32 := 0#32
  ![v2766.toNat, 0, 0]
def k0_off40 (v2768 : BitVec 32) : Fin 3 → Nat :=
  let c0_i32_2306 : BitVec 32 := 0#32
  let c0_i32_2307 : BitVec 32 := 0#32
  ![v2768.toNat, 0, 0]

def k0_chk11 (v10_0 : BitVec 32) (v2768 : BitVec 32) : Prop :=
  (∀ (k0_h9 : k0_cond9 v10_0 = 1#1), ∀ a, (k0_off40 v2768) a + S1x1408x3072.size a ≤ S15x1408x4096.size a) ∧
  (∀ (k0_h9 : k0_cond9 v10_0 = 1#1), ∀ (hinb : ∀ a, (k0_off40 v2768) a + S1x1408x3072.size a ≤ S15x1408x4096.size a), (Rect.unit (s := S15x1408x4096) (k0_off40 v2768) S1x1408x3072.size hinb).WholeWords (EltTy.packing .fp8e4m3))
theorem k0_off40_inb : ∀ (v10_0 : BitVec 32) (v2768 : BitVec 32) (k0_hw11 : k0_chk11 v10_0 v2768), ∀ (k0_h9 : k0_cond9 v10_0 = 1#1), ∀ a, (k0_off40 v2768) a + S1x1408x3072.size a ≤ S15x1408x4096.size a := fun v10_0 v2768 k0_hw11 k0_h9 => k0_hw11.1 k0_h9
theorem k0_off40_wordsfp8e4m3 : ∀ (v10_0 : BitVec 32) (v2768 : BitVec 32) (k0_hw11 : k0_chk11 v10_0 v2768), ∀ (k0_h9 : k0_cond9 v10_0 = 1#1), (Rect.unit (s := S15x1408x4096) (k0_off40 v2768) S1x1408x3072.size (k0_off40_inb v10_0 v2768 k0_hw11 k0_h9)).WholeWords (EltTy.packing .fp8e4m3) := fun v10_0 v2768 k0_hw11 k0_h9 => k0_hw11.2 k0_h9 (k0_off40_inb v10_0 v2768 k0_hw11 k0_h9)

def k0_off41 (v10_0 : BitVec 32) : Fin 2 → Nat :=
  let c0_2303 : Index := 0#32
  let c4_i32_52 : BitVec 32 := 4#32
  let c1_i32_51 : BitVec 32 := 1#32
  let v74 : BitVec 32 := Scalar.muli c1_i32_51 v10_0
  let v75 : BitVec 32 := Scalar.subi c4_i32_52 v74
  let v2767 : Index := Scalar.indexCast v75
  ![0, v2767.toNat]
def k0_cond10 (v10_0 : BitVec 32) : BitVec 1 :=
  let c4_i32_52 : BitVec 32 := 4#32
  let c1_i32_51 : BitVec 32 := 1#32
  let v74 : BitVec 32 := Scalar.muli c1_i32_51 v10_0
  let v75 : BitVec 32 := Scalar.subi c4_i32_52 v74
  let c0_i32_53 : BitVec 32 := 0#32
  let v76 : BitVec 1 := Scalar.cmpi .sge v75 c0_i32_53
  let v77 : BitVec 1 := Scalar.cmpi .slt v75 v10_0
  let v78 : BitVec 1 := Scalar.andi v76 v77
  let v79 : BitVec 32 := Scalar.extui v78
  let c0_i32_55 : BitVec 32 := 0#32
  let v80 : BitVec 1 := Scalar.cmpi .ne v79 c0_i32_55
  v80

def k0_off42 : Fin 1 → Nat :=
  let c4_i32_54 : BitVec 32 := 4#32
  let c6_i32 : BitVec 32 := 6#32
  let v2766 : BitVec 32 := Scalar.remsi c4_i32_54 c6_i32
  ![v2766.toNat]
def k0_off43 : Fin 3 → Nat :=
  let c4_i32_54 : BitVec 32 := 4#32
  let c6_i32 : BitVec 32 := 6#32
  let v2766 : BitVec 32 := Scalar.remsi c4_i32_54 c6_i32
  let c0_i32_2304 : BitVec 32 := 0#32
  let c0_i32_2305 : BitVec 32 := 0#32
  ![v2766.toNat, 0, 0]
def k0_off44 (v2768 : BitVec 32) : Fin 3 → Nat :=
  let c0_i32_2306 : BitVec 32 := 0#32
  let c3072_i32_2307 : BitVec 32 := 3072#32
  ![v2768.toNat, 0, 3072]

def k0_chk12 (v10_0 : BitVec 32) (v2768 : BitVec 32) : Prop :=
  (∀ (k0_h10 : k0_cond10 v10_0 = 1#1), ∀ a, (k0_off44 v2768) a + S1x1408x1024.size a ≤ S15x1408x4096.size a) ∧
  (∀ (k0_h10 : k0_cond10 v10_0 = 1#1), ∀ (hinb : ∀ a, (k0_off44 v2768) a + S1x1408x1024.size a ≤ S15x1408x4096.size a), (Rect.unit (s := S15x1408x4096) (k0_off44 v2768) S1x1408x1024.size hinb).WholeWords (EltTy.packing .fp8e4m3))
theorem k0_off44_inb : ∀ (v10_0 : BitVec 32) (v2768 : BitVec 32) (k0_hw12 : k0_chk12 v10_0 v2768), ∀ (k0_h10 : k0_cond10 v10_0 = 1#1), ∀ a, (k0_off44 v2768) a + S1x1408x1024.size a ≤ S15x1408x4096.size a := fun v10_0 v2768 k0_hw12 k0_h10 => k0_hw12.1 k0_h10
theorem k0_off44_wordsfp8e4m3 : ∀ (v10_0 : BitVec 32) (v2768 : BitVec 32) (k0_hw12 : k0_chk12 v10_0 v2768), ∀ (k0_h10 : k0_cond10 v10_0 = 1#1), (Rect.unit (s := S15x1408x4096) (k0_off44 v2768) S1x1408x1024.size (k0_off44_inb v10_0 v2768 k0_hw12 k0_h10)).WholeWords (EltTy.packing .fp8e4m3) := fun v10_0 v2768 k0_hw12 k0_h10 => k0_hw12.2 k0_h10 (k0_off44_inb v10_0 v2768 k0_hw12 k0_h10)

def k0_off45 (v10_0 : BitVec 32) : Fin 2 → Nat :=
  let c0_2303 : Index := 0#32
  let c5_i32 : BitVec 32 := 5#32
  let c0_i32_56 : BitVec 32 := 0#32
  let v81 : BitVec 32 := Scalar.muli c0_i32_56 v10_0
  let v82 : BitVec 32 := Scalar.subi c5_i32 v81
  let v2767 : Index := Scalar.indexCast v82
  ![0, v2767.toNat]
def k0_cond11 (v10_0 : BitVec 32) : BitVec 1 :=
  let c5_i32 : BitVec 32 := 5#32
  let c0_i32_56 : BitVec 32 := 0#32
  let v81 : BitVec 32 := Scalar.muli c0_i32_56 v10_0
  let v82 : BitVec 32 := Scalar.subi c5_i32 v81
  let c0_i32_57 : BitVec 32 := 0#32
  let v83 : BitVec 1 := Scalar.cmpi .sge v82 c0_i32_57
  let v84 : BitVec 1 := Scalar.cmpi .slt v82 v10_0
  let v85 : BitVec 1 := Scalar.andi v83 v84
  let v86 : BitVec 32 := Scalar.extui v85
  let c0_i32_59 : BitVec 32 := 0#32
  let v87 : BitVec 1 := Scalar.cmpi .ne v86 c0_i32_59
  v87

def k0_off46 : Fin 1 → Nat :=
  let c5_i32_58 : BitVec 32 := 5#32
  let c6_i32 : BitVec 32 := 6#32
  let v2766 : BitVec 32 := Scalar.remsi c5_i32_58 c6_i32
  ![v2766.toNat]
def k0_off47 : Fin 3 → Nat :=
  let c5_i32_58 : BitVec 32 := 5#32
  let c6_i32 : BitVec 32 := 6#32
  let v2766 : BitVec 32 := Scalar.remsi c5_i32_58 c6_i32
  let c0_i32_2304 : BitVec 32 := 0#32
  let c0_i32_2305 : BitVec 32 := 0#32
  ![v2766.toNat, 0, 0]
def k0_off48 (v2768 : BitVec 32) : Fin 3 → Nat :=
  let c0_i32_2306 : BitVec 32 := 0#32
  let c0_i32_2307 : BitVec 32 := 0#32
  ![v2768.toNat, 0, 0]

def k0_chk13 (v10_0 : BitVec 32) (v2768 : BitVec 32) : Prop :=
  (∀ (k0_h11 : k0_cond11 v10_0 = 1#1), ∀ a, (k0_off48 v2768) a + S1x1408x3072.size a ≤ S15x1408x4096.size a) ∧
  (∀ (k0_h11 : k0_cond11 v10_0 = 1#1), ∀ (hinb : ∀ a, (k0_off48 v2768) a + S1x1408x3072.size a ≤ S15x1408x4096.size a), (Rect.unit (s := S15x1408x4096) (k0_off48 v2768) S1x1408x3072.size hinb).WholeWords (EltTy.packing .fp8e4m3))
theorem k0_off48_inb : ∀ (v10_0 : BitVec 32) (v2768 : BitVec 32) (k0_hw13 : k0_chk13 v10_0 v2768), ∀ (k0_h11 : k0_cond11 v10_0 = 1#1), ∀ a, (k0_off48 v2768) a + S1x1408x3072.size a ≤ S15x1408x4096.size a := fun v10_0 v2768 k0_hw13 k0_h11 => k0_hw13.1 k0_h11
theorem k0_off48_wordsfp8e4m3 : ∀ (v10_0 : BitVec 32) (v2768 : BitVec 32) (k0_hw13 : k0_chk13 v10_0 v2768), ∀ (k0_h11 : k0_cond11 v10_0 = 1#1), (Rect.unit (s := S15x1408x4096) (k0_off48 v2768) S1x1408x3072.size (k0_off48_inb v10_0 v2768 k0_hw13 k0_h11)).WholeWords (EltTy.packing .fp8e4m3) := fun v10_0 v2768 k0_hw13 k0_h11 => k0_hw13.2 k0_h11 (k0_off48_inb v10_0 v2768 k0_hw13 k0_h11)

def k0_off49 (v10_0 : BitVec 32) : Fin 2 → Nat :=
  let c0_2303 : Index := 0#32
  let c5_i32_61 : BitVec 32 := 5#32
  let c1_i32_60 : BitVec 32 := 1#32
  let v88 : BitVec 32 := Scalar.muli c1_i32_60 v10_0
  let v89 : BitVec 32 := Scalar.subi c5_i32_61 v88
  let v2767 : Index := Scalar.indexCast v89
  ![0, v2767.toNat]
def k0_cond12 (v10_0 : BitVec 32) : BitVec 1 :=
  let c5_i32_61 : BitVec 32 := 5#32
  let c1_i32_60 : BitVec 32 := 1#32
  let v88 : BitVec 32 := Scalar.muli c1_i32_60 v10_0
  let v89 : BitVec 32 := Scalar.subi c5_i32_61 v88
  let c0_i32_62 : BitVec 32 := 0#32
  let v90 : BitVec 1 := Scalar.cmpi .sge v89 c0_i32_62
  let v91 : BitVec 1 := Scalar.cmpi .slt v89 v10_0
  let v92 : BitVec 1 := Scalar.andi v90 v91
  let v93 : BitVec 32 := Scalar.extui v92
  let c0_i32_64 : BitVec 32 := 0#32
  let v94 : BitVec 1 := Scalar.cmpi .ne v93 c0_i32_64
  v94

def k0_off50 : Fin 1 → Nat :=
  let c5_i32_63 : BitVec 32 := 5#32
  let c6_i32 : BitVec 32 := 6#32
  let v2766 : BitVec 32 := Scalar.remsi c5_i32_63 c6_i32
  ![v2766.toNat]
def k0_off51 : Fin 3 → Nat :=
  let c5_i32_63 : BitVec 32 := 5#32
  let c6_i32 : BitVec 32 := 6#32
  let v2766 : BitVec 32 := Scalar.remsi c5_i32_63 c6_i32
  let c0_i32_2304 : BitVec 32 := 0#32
  let c0_i32_2305 : BitVec 32 := 0#32
  ![v2766.toNat, 0, 0]
def k0_off52 (v2768 : BitVec 32) : Fin 3 → Nat :=
  let c0_i32_2306 : BitVec 32 := 0#32
  let c3072_i32_2307 : BitVec 32 := 3072#32
  ![v2768.toNat, 0, 3072]

def k0_chk14 (v10_0 : BitVec 32) (v2768 : BitVec 32) : Prop :=
  (∀ (k0_h12 : k0_cond12 v10_0 = 1#1), ∀ a, (k0_off52 v2768) a + S1x1408x1024.size a ≤ S15x1408x4096.size a) ∧
  (∀ (k0_h12 : k0_cond12 v10_0 = 1#1), ∀ (hinb : ∀ a, (k0_off52 v2768) a + S1x1408x1024.size a ≤ S15x1408x4096.size a), (Rect.unit (s := S15x1408x4096) (k0_off52 v2768) S1x1408x1024.size hinb).WholeWords (EltTy.packing .fp8e4m3))
theorem k0_off52_inb : ∀ (v10_0 : BitVec 32) (v2768 : BitVec 32) (k0_hw14 : k0_chk14 v10_0 v2768), ∀ (k0_h12 : k0_cond12 v10_0 = 1#1), ∀ a, (k0_off52 v2768) a + S1x1408x1024.size a ≤ S15x1408x4096.size a := fun v10_0 v2768 k0_hw14 k0_h12 => k0_hw14.1 k0_h12
theorem k0_off52_wordsfp8e4m3 : ∀ (v10_0 : BitVec 32) (v2768 : BitVec 32) (k0_hw14 : k0_chk14 v10_0 v2768), ∀ (k0_h12 : k0_cond12 v10_0 = 1#1), (Rect.unit (s := S15x1408x4096) (k0_off52 v2768) S1x1408x1024.size (k0_off52_inb v10_0 v2768 k0_hw14 k0_h12)).WholeWords (EltTy.packing .fp8e4m3) := fun v10_0 v2768 k0_hw14 k0_h12 => k0_hw14.2 k0_h12 (k0_off52_inb v10_0 v2768 k0_hw14 k0_h12)

@[reducible] def k0_t2_loop (v10_0 : BitVec 32) : Scf.Loop 32 :=
  let c0_i32_92 : BitVec 32 := 0#32
  let v168 : BitVec 32 := Scalar.subi v10_0 c0_i32_92
  let c1_i32_94 : BitVec 32 := 1#32
  let v170 : BitVec 32 := Scalar.divsi v168 c1_i32_94
  let v171 : BitVec 32 := Scalar.muli v170 c1_i32_94
  let v172 : BitVec 32 := Scalar.addi c0_i32_92 v171
  let c1_i32_95 : BitVec 32 := 1#32
  ⟨c0_i32_92, v172, c1_i32_95⟩
def k0_off53 (v10_0 : BitVec 32) (k0_t2 : Fin (k0_t2_loop v10_0).trips) : Fin 2 → Nat :=
  let c0_2304 : Index := 0#32
  let c0_i32_92 : BitVec 32 := 0#32
  let c1_i32_95 : BitVec 32 := 1#32
  let arg25 : BitVec 32 := Scf.iv c0_i32_92 c1_i32_95 k0_t2
  let v2769 : Index := Scalar.indexCast arg25
  ![0, v2769.toNat]
def k0_off54 (v10_0 : BitVec 32) (k0_t2 : Fin (k0_t2_loop v10_0).trips) : Fin 2 → Nat :=
  let c1_2305 : Index := 1#32
  let c0_i32_92 : BitVec 32 := 0#32
  let c1_i32_95 : BitVec 32 := 1#32
  let arg25 : BitVec 32 := Scf.iv c0_i32_92 c1_i32_95 k0_t2
  let v2771 : Index := Scalar.indexCast arg25
  ![1, v2771.toNat]
def k0_off55 (v10_0 : BitVec 32) (k0_t2 : Fin (k0_t2_loop v10_0).trips) : Fin 2 → Nat :=
  let c2_2306 : Index := 2#32
  let c0_i32_92 : BitVec 32 := 0#32
  let c1_i32_95 : BitVec 32 := 1#32
  let arg25 : BitVec 32 := Scf.iv c0_i32_92 c1_i32_95 k0_t2
  let v2773 : Index := Scalar.indexCast arg25
  ![2, v2773.toNat]
def k0_off56 (v10_0 : BitVec 32) (k0_t2 : Fin (k0_t2_loop v10_0).trips) : Fin 1 → Nat :=
  let c0_i32_2303 : BitVec 32 := 0#32
  let v2766 : BitVec 32 := Scalar.muli c0_i32_2303 v10_0
  let c0_i32_92 : BitVec 32 := 0#32
  let c1_i32_95 : BitVec 32 := 1#32
  let arg25 : BitVec 32 := Scf.iv c0_i32_92 c1_i32_95 k0_t2
  let v2767 : BitVec 32 := Scalar.addi v2766 arg25
  let c6_i32 : BitVec 32 := 6#32
  let v2768 : BitVec 32 := Scalar.remsi v2767 c6_i32
  ![v2768.toNat]
def k0_off57 (v10_0 : BitVec 32) (k0_t2 : Fin (k0_t2_loop v10_0).trips) : Fin 3 → Nat :=
  let c0_i32_2303 : BitVec 32 := 0#32
  let v2766 : BitVec 32 := Scalar.muli c0_i32_2303 v10_0
  let c0_i32_92 : BitVec 32 := 0#32
  let c1_i32_95 : BitVec 32 := 1#32
  let arg25 : BitVec 32 := Scf.iv c0_i32_92 c1_i32_95 k0_t2
  let v2767 : BitVec 32 := Scalar.addi v2766 arg25
  let c6_i32 : BitVec 32 := 6#32
  let v2768 : BitVec 32 := Scalar.remsi v2767 c6_i32
  let c0_i32_2309 : BitVec 32 := 0#32
  let c0_i32_2310 : BitVec 32 := 0#32
  ![v2768.toNat, 0, 0]
def k0_off58 (v2781 : BitVec 32) : Fin 3 → Nat :=
  let c0_i32_2311 : BitVec 32 := 0#32
  let c0_i32_2312 : BitVec 32 := 0#32
  ![v2781.toNat, 0, 0]

def k0_chk15 (v2781 : BitVec 32) : Prop :=
  (∀ a, (k0_off58 v2781) a + S1x1408x3072.size a ≤ S15x1408x4096.size a) ∧
  (∀ (hinb : ∀ a, (k0_off58 v2781) a + S1x1408x3072.size a ≤ S15x1408x4096.size a), (Rect.unit (s := S15x1408x4096) (k0_off58 v2781) S1x1408x3072.size hinb).WholeWords (EltTy.packing .fp8e4m3))
theorem k0_off58_inb : ∀ (v2781 : BitVec 32) (k0_hw15 : k0_chk15 v2781), ∀ a, (k0_off58 v2781) a + S1x1408x3072.size a ≤ S15x1408x4096.size a := fun v2781 k0_hw15 => k0_hw15.1
theorem k0_off58_wordsfp8e4m3 : ∀ (v2781 : BitVec 32) (k0_hw15 : k0_chk15 v2781), (Rect.unit (s := S15x1408x4096) (k0_off58 v2781) S1x1408x3072.size (k0_off58_inb v2781 k0_hw15)).WholeWords (EltTy.packing .fp8e4m3) := fun v2781 k0_hw15 => k0_hw15.2 (k0_off58_inb v2781 k0_hw15)

@[reducible] def k0_t3_loop (v2772 : BitVec 32) (v2774 : BitVec 32) : Scf.Loop 32 :=
  let c0_i32_2313 : BitVec 32 := 0#32
  let c_m32_i32 : BitVec 32 := 4294967264#32
  let v2775 : BitVec 32 := Scalar.andi v2772 c_m32_i32
  let v2776 : BitVec 32 := Scalar.subi v2774 v2775
  let c128_i32 : BitVec 32 := 128#32
  let v2777 : BitVec 32 := Scalar.addi v2776 c128_i32
  let c1_i32_2307 : BitVec 32 := 1#32
  let v2778 : BitVec 32 := Scalar.subi v2777 c1_i32_2307
  let c7_i32 : BitVec 32 := 7#32
  let v2779 : BitVec 32 := Scalar.shrui v2778 c7_i32
  let v2788 : BitVec 32 := Scalar.subi v2779 c0_i32_2313
  let c1_i32_2315 : BitVec 32 := 1#32
  let v2790 : BitVec 32 := Scalar.divsi v2788 c1_i32_2315
  let v2791 : BitVec 32 := Scalar.muli v2790 c1_i32_2315
  let v2792 : BitVec 32 := Scalar.addi c0_i32_2313 v2791
  let c1_i32_2316 : BitVec 32 := 1#32
  ⟨c0_i32_2313, v2792, c1_i32_2316⟩

def k0_mult1 (v2772 : BitVec 32) (v2774 : BitVec 32) (k0_t3 : Fin (k0_t3_loop v2772 v2774).trips) : BitVec 32 :=
  let c_m32_i32 : BitVec 32 := 4294967264#32
  let v2775 : BitVec 32 := Scalar.andi v2772 c_m32_i32
  let c0_i32_2313 : BitVec 32 := 0#32
  let c1_i32_2316 : BitVec 32 := 1#32
  let arg27 : BitVec 32 := Scf.iv c0_i32_2313 c1_i32_2316 k0_t3
  let c128_i32_2326 : BitVec 32 := 128#32
  let v2810 : BitVec 32 := Scalar.muli arg27 c128_i32_2326
  let v2811 : BitVec 32 := Scalar.addi v2775 v2810
  v2811
def k0_off59 (v2772 : BitVec 32) (v2774 : BitVec 32) (k0_t3 : Fin (k0_t3_loop v2772 v2774).trips) : Fin 2 → Nat :=
  let c_m32_i32 : BitVec 32 := 4294967264#32
  let v2775 : BitVec 32 := Scalar.andi v2772 c_m32_i32
  let c0_i32_2313 : BitVec 32 := 0#32
  let c1_i32_2316 : BitVec 32 := 1#32
  let arg27 : BitVec 32 := Scf.iv c0_i32_2313 c1_i32_2316 k0_t3
  let c128_i32_2326 : BitVec 32 := 128#32
  let v2810 : BitVec 32 := Scalar.muli arg27 c128_i32_2326
  let v2811 : BitVec 32 := Scalar.addi v2775 v2810
  let v2812 : BitVec 32 := v2811
  let v2813 : Index := Scalar.indexCast v2812
  let c0_2327 : Index := 0#32
  ![v2813.toNat, 0]
def k0_off60 (v2772 : BitVec 32) (v2774 : BitVec 32) (k0_t3 : Fin (k0_t3_loop v2772 v2774).trips) : Fin 2 → Nat :=
  let c_m32_i32 : BitVec 32 := 4294967264#32
  let v2775 : BitVec 32 := Scalar.andi v2772 c_m32_i32
  let c0_i32_2313 : BitVec 32 := 0#32
  let c1_i32_2316 : BitVec 32 := 1#32
  let arg27 : BitVec 32 := Scf.iv c0_i32_2313 c1_i32_2316 k0_t3
  let c128_i32_2326 : BitVec 32 := 128#32
  let v2810 : BitVec 32 := Scalar.muli arg27 c128_i32_2326
  let v2811 : BitVec 32 := Scalar.addi v2775 v2810
  let v2812 : BitVec 32 := v2811
  let v2815 : Index := Scalar.indexCast v2812
  let c0_2328 : Index := 0#32
  ![v2815.toNat, 0]
def k0_off61 (v10_0 : BitVec 32) (k0_t2 : Fin (k0_t2_loop v10_0).trips) : Fin 3 → Nat :=
  let c0_i32_2303 : BitVec 32 := 0#32
  let v2766 : BitVec 32 := Scalar.muli c0_i32_2303 v10_0
  let c0_i32_92 : BitVec 32 := 0#32
  let c1_i32_95 : BitVec 32 := 1#32
  let arg25 : BitVec 32 := Scf.iv c0_i32_92 c1_i32_95 k0_t2
  let v2767 : BitVec 32 := Scalar.addi v2766 arg25
  let c6_i32 : BitVec 32 := 6#32
  let v2768 : BitVec 32 := Scalar.remsi v2767 c6_i32
  let v2822 : Index := Scalar.indexCast v2768
  let c0_2329 : Index := 0#32
  let c0_2330 : Index := 0#32
  ![v2822.toNat, 0, 0]
def k0_off62 (v2770 : BitVec 32) : Fin 2 → Nat :=
  let v2826 : Index := Scalar.indexCast v2770
  let c0_2332 : Index := 0#32
  ![v2826.toNat, 0]
def k0_off63 (v2772 : BitVec 32) (v2774 : BitVec 32) (k0_t3 : Fin (k0_t3_loop v2772 v2774).trips) (c0_i32_2333 : BitVec 32) : Fin 2 → Nat :=
  let c_m32_i32 : BitVec 32 := 4294967264#32
  let v2775 : BitVec 32 := Scalar.andi v2772 c_m32_i32
  let c0_i32_2313 : BitVec 32 := 0#32
  let c1_i32_2316 : BitVec 32 := 1#32
  let arg27 : BitVec 32 := Scf.iv c0_i32_2313 c1_i32_2316 k0_t3
  let c128_i32_2326 : BitVec 32 := 128#32
  let v2810 : BitVec 32 := Scalar.muli arg27 c128_i32_2326
  let v2811 : BitVec 32 := Scalar.addi v2775 v2810
  let v2812 : BitVec 32 := v2811
  let v2832 : BitVec 32 := Scalar.addi c0_i32_2333 v2812
  let v2834 : Index := Scalar.indexCast v2832
  let c0_2334 : Index := 0#32
  ![v2834.toNat, 0]
def k0_off64 (v2772 : BitVec 32) (v2774 : BitVec 32) (k0_t3 : Fin (k0_t3_loop v2772 v2774).trips) (c0_i32_2333 : BitVec 32) : Fin 2 → Nat :=
  let c_m32_i32 : BitVec 32 := 4294967264#32
  let v2775 : BitVec 32 := Scalar.andi v2772 c_m32_i32
  let c0_i32_2313 : BitVec 32 := 0#32
  let c1_i32_2316 : BitVec 32 := 1#32
  let arg27 : BitVec 32 := Scf.iv c0_i32_2313 c1_i32_2316 k0_t3
  let c128_i32_2326 : BitVec 32 := 128#32
  let v2810 : BitVec 32 := Scalar.muli arg27 c128_i32_2326
  let v2811 : BitVec 32 := Scalar.addi v2775 v2810
  let v2812 : BitVec 32 := v2811
  let v2832 : BitVec 32 := Scalar.addi c0_i32_2333 v2812
  let c32_i32 : BitVec 32 := 32#32
  let v2840 : BitVec 32 := Scalar.addi v2832 c32_i32
  let v2841 : Index := Scalar.indexCast v2840
  let c0_2335 : Index := 0#32
  ![v2841.toNat, 0]
def k0_off65 (v10_0 : BitVec 32) (k0_t2 : Fin (k0_t2_loop v10_0).trips) : Fin 3 → Nat :=
  let c0_i32_2303 : BitVec 32 := 0#32
  let v2766 : BitVec 32 := Scalar.muli c0_i32_2303 v10_0
  let c0_i32_92 : BitVec 32 := 0#32
  let c1_i32_95 : BitVec 32 := 1#32
  let arg25 : BitVec 32 := Scf.iv c0_i32_92 c1_i32_95 k0_t2
  let v2767 : BitVec 32 := Scalar.addi v2766 arg25
  let c6_i32 : BitVec 32 := 6#32
  let v2768 : BitVec 32 := Scalar.remsi v2767 c6_i32
  let v2950 : Index := Scalar.indexCast v2768
  let c0_2357 : Index := 0#32
  let c1024_2358 : Index := 1024#32
  ![v2950.toNat, 0, 1024]
def k0_off66 (v2770 : BitVec 32) : Fin 2 → Nat :=
  let v2954 : Index := Scalar.indexCast v2770
  let c1024_2360 : Index := 1024#32
  ![v2954.toNat, 1024]
def k0_off67 (v10_0 : BitVec 32) (k0_t2 : Fin (k0_t2_loop v10_0).trips) : Fin 3 → Nat :=
  let c0_i32_2303 : BitVec 32 := 0#32
  let v2766 : BitVec 32 := Scalar.muli c0_i32_2303 v10_0
  let c0_i32_92 : BitVec 32 := 0#32
  let c1_i32_95 : BitVec 32 := 1#32
  let arg25 : BitVec 32 := Scf.iv c0_i32_92 c1_i32_95 k0_t2
  let v2767 : BitVec 32 := Scalar.addi v2766 arg25
  let c6_i32 : BitVec 32 := 6#32
  let v2768 : BitVec 32 := Scalar.remsi v2767 c6_i32
  let v3078 : Index := Scalar.indexCast v2768
  let c0_2385 : Index := 0#32
  let c2048_2386 : Index := 2048#32
  ![v3078.toNat, 0, 2048]
def k0_off68 (v2770 : BitVec 32) : Fin 2 → Nat :=
  let v3082 : Index := Scalar.indexCast v2770
  let c2048_2388 : Index := 2048#32
  ![v3082.toNat, 2048]
@[reducible] def k0_t4_loop (v2772 : BitVec 32) (v2774 : BitVec 32) : Scf.Loop 32 :=
  let c0_i32_2313 : BitVec 32 := 0#32
  let c_m32_i32 : BitVec 32 := 4294967264#32
  let v2775 : BitVec 32 := Scalar.andi v2772 c_m32_i32
  let v2776 : BitVec 32 := Scalar.subi v2774 v2775
  let c128_i32 : BitVec 32 := 128#32
  let v2777 : BitVec 32 := Scalar.addi v2776 c128_i32
  let c1_i32_2307 : BitVec 32 := 1#32
  let v2778 : BitVec 32 := Scalar.subi v2777 c1_i32_2307
  let c7_i32 : BitVec 32 := 7#32
  let v2779 : BitVec 32 := Scalar.shrui v2778 c7_i32
  let v2788 : BitVec 32 := Scalar.subi v2779 c0_i32_2313
  let c1_i32_2315 : BitVec 32 := 1#32
  let v2790 : BitVec 32 := Scalar.divsi v2788 c1_i32_2315
  let v2791 : BitVec 32 := Scalar.muli v2790 c1_i32_2315
  let v2792 : BitVec 32 := Scalar.addi c0_i32_2313 v2791
  let v2789 : BitVec 32 := Scalar.addi c0_i32_2313 v2788
  let c1_i32_2317 : BitVec 32 := 1#32
  ⟨v2792, v2789, c1_i32_2317⟩
def k0_mult2 (v2772 : BitVec 32) (v2774 : BitVec 32) (k0_t4 : Fin (k0_t4_loop v2772 v2774).trips) : BitVec 32 :=
  let c_m32_i32 : BitVec 32 := 4294967264#32
  let v2775 : BitVec 32 := Scalar.andi v2772 c_m32_i32
  let c0_i32_2313 : BitVec 32 := 0#32
  let v2776 : BitVec 32 := Scalar.subi v2774 v2775
  let c128_i32 : BitVec 32 := 128#32
  let v2777 : BitVec 32 := Scalar.addi v2776 c128_i32
  let c1_i32_2307 : BitVec 32 := 1#32
  let v2778 : BitVec 32 := Scalar.subi v2777 c1_i32_2307
  let c7_i32 : BitVec 32 := 7#32
  let v2779 : BitVec 32 := Scalar.shrui v2778 c7_i32
  let v2788 : BitVec 32 := Scalar.subi v2779 c0_i32_2313
  let c1_i32_2315 : BitVec 32 := 1#32
  let v2790 : BitVec 32 := Scalar.divsi v2788 c1_i32_2315
  let v2791 : BitVec 32 := Scalar.muli v2790 c1_i32_2315
  let v2792 : BitVec 32 := Scalar.addi c0_i32_2313 v2791
  let c1_i32_2317 : BitVec 32 := 1#32
  let arg27 : BitVec 32 := Scf.iv v2792 c1_i32_2317 k0_t4
  let c128_i32_2326 : BitVec 32 := 128#32
  let v2810 : BitVec 32 := Scalar.muli arg27 c128_i32_2326
  let v2811 : BitVec 32 := Scalar.addi v2775 v2810
  v2811
def k0_off69 (v2772 : BitVec 32) (v2774 : BitVec 32) (k0_t4 : Fin (k0_t4_loop v2772 v2774).trips) : Fin 2 → Nat :=
  let c_m32_i32 : BitVec 32 := 4294967264#32
  let v2775 : BitVec 32 := Scalar.andi v2772 c_m32_i32
  let c0_i32_2313 : BitVec 32 := 0#32
  let v2776 : BitVec 32 := Scalar.subi v2774 v2775
  let c128_i32 : BitVec 32 := 128#32
  let v2777 : BitVec 32 := Scalar.addi v2776 c128_i32
  let c1_i32_2307 : BitVec 32 := 1#32
  let v2778 : BitVec 32 := Scalar.subi v2777 c1_i32_2307
  let c7_i32 : BitVec 32 := 7#32
  let v2779 : BitVec 32 := Scalar.shrui v2778 c7_i32
  let v2788 : BitVec 32 := Scalar.subi v2779 c0_i32_2313
  let c1_i32_2315 : BitVec 32 := 1#32
  let v2790 : BitVec 32 := Scalar.divsi v2788 c1_i32_2315
  let v2791 : BitVec 32 := Scalar.muli v2790 c1_i32_2315
  let v2792 : BitVec 32 := Scalar.addi c0_i32_2313 v2791
  let c1_i32_2317 : BitVec 32 := 1#32
  let arg27 : BitVec 32 := Scf.iv v2792 c1_i32_2317 k0_t4
  let c128_i32_2326 : BitVec 32 := 128#32
  let v2810 : BitVec 32 := Scalar.muli arg27 c128_i32_2326
  let v2811 : BitVec 32 := Scalar.addi v2775 v2810
  let v2812 : BitVec 32 := v2811
  let v2813 : Index := Scalar.indexCast v2812
  let c0_2327 : Index := 0#32
  ![v2813.toNat, 0]
def k0_off70 (v2772 : BitVec 32) (v2774 : BitVec 32) (k0_t4 : Fin (k0_t4_loop v2772 v2774).trips) : Fin 2 → Nat :=
  let c_m32_i32 : BitVec 32 := 4294967264#32
  let v2775 : BitVec 32 := Scalar.andi v2772 c_m32_i32
  let c0_i32_2313 : BitVec 32 := 0#32
  let v2776 : BitVec 32 := Scalar.subi v2774 v2775
  let c128_i32 : BitVec 32 := 128#32
  let v2777 : BitVec 32 := Scalar.addi v2776 c128_i32
  let c1_i32_2307 : BitVec 32 := 1#32
  let v2778 : BitVec 32 := Scalar.subi v2777 c1_i32_2307
  let c7_i32 : BitVec 32 := 7#32
  let v2779 : BitVec 32 := Scalar.shrui v2778 c7_i32
  let v2788 : BitVec 32 := Scalar.subi v2779 c0_i32_2313
  let c1_i32_2315 : BitVec 32 := 1#32
  let v2790 : BitVec 32 := Scalar.divsi v2788 c1_i32_2315
  let v2791 : BitVec 32 := Scalar.muli v2790 c1_i32_2315
  let v2792 : BitVec 32 := Scalar.addi c0_i32_2313 v2791
  let c1_i32_2317 : BitVec 32 := 1#32
  let arg27 : BitVec 32 := Scf.iv v2792 c1_i32_2317 k0_t4
  let c128_i32_2326 : BitVec 32 := 128#32
  let v2810 : BitVec 32 := Scalar.muli arg27 c128_i32_2326
  let v2811 : BitVec 32 := Scalar.addi v2775 v2810
  let v2812 : BitVec 32 := v2811
  let v2815 : Index := Scalar.indexCast v2812
  let c0_2328 : Index := 0#32
  ![v2815.toNat, 0]
def k0_off71 (v10_0 : BitVec 32) (k0_t2 : Fin (k0_t2_loop v10_0).trips) : Fin 3 → Nat :=
  let c0_i32_2303 : BitVec 32 := 0#32
  let v2766 : BitVec 32 := Scalar.muli c0_i32_2303 v10_0
  let c0_i32_92 : BitVec 32 := 0#32
  let c1_i32_95 : BitVec 32 := 1#32
  let arg25 : BitVec 32 := Scf.iv c0_i32_92 c1_i32_95 k0_t2
  let v2767 : BitVec 32 := Scalar.addi v2766 arg25
  let c6_i32 : BitVec 32 := 6#32
  let v2768 : BitVec 32 := Scalar.remsi v2767 c6_i32
  let v2822 : Index := Scalar.indexCast v2768
  let c0_2329 : Index := 0#32
  let c0_2330 : Index := 0#32
  ![v2822.toNat, 0, 0]
def k0_off72 (v2770 : BitVec 32) : Fin 2 → Nat :=
  let v2826 : Index := Scalar.indexCast v2770
  let c0_2332 : Index := 0#32
  ![v2826.toNat, 0]
def k0_off73 (v2772 : BitVec 32) (v2774 : BitVec 32) (k0_t4 : Fin (k0_t4_loop v2772 v2774).trips) (c0_i32_2333 : BitVec 32) : Fin 2 → Nat :=
  let c_m32_i32 : BitVec 32 := 4294967264#32
  let v2775 : BitVec 32 := Scalar.andi v2772 c_m32_i32
  let c0_i32_2313 : BitVec 32 := 0#32
  let v2776 : BitVec 32 := Scalar.subi v2774 v2775
  let c128_i32 : BitVec 32 := 128#32
  let v2777 : BitVec 32 := Scalar.addi v2776 c128_i32
  let c1_i32_2307 : BitVec 32 := 1#32
  let v2778 : BitVec 32 := Scalar.subi v2777 c1_i32_2307
  let c7_i32 : BitVec 32 := 7#32
  let v2779 : BitVec 32 := Scalar.shrui v2778 c7_i32
  let v2788 : BitVec 32 := Scalar.subi v2779 c0_i32_2313
  let c1_i32_2315 : BitVec 32 := 1#32
  let v2790 : BitVec 32 := Scalar.divsi v2788 c1_i32_2315
  let v2791 : BitVec 32 := Scalar.muli v2790 c1_i32_2315
  let v2792 : BitVec 32 := Scalar.addi c0_i32_2313 v2791
  let c1_i32_2317 : BitVec 32 := 1#32
  let arg27 : BitVec 32 := Scf.iv v2792 c1_i32_2317 k0_t4
  let c128_i32_2326 : BitVec 32 := 128#32
  let v2810 : BitVec 32 := Scalar.muli arg27 c128_i32_2326
  let v2811 : BitVec 32 := Scalar.addi v2775 v2810
  let v2812 : BitVec 32 := v2811
  let v2832 : BitVec 32 := Scalar.addi c0_i32_2333 v2812
  let v2834 : Index := Scalar.indexCast v2832
  let c0_2334 : Index := 0#32
  ![v2834.toNat, 0]
def k0_off74 (v2772 : BitVec 32) (v2774 : BitVec 32) (k0_t4 : Fin (k0_t4_loop v2772 v2774).trips) (c0_i32_2333 : BitVec 32) : Fin 2 → Nat :=
  let c_m32_i32 : BitVec 32 := 4294967264#32
  let v2775 : BitVec 32 := Scalar.andi v2772 c_m32_i32
  let c0_i32_2313 : BitVec 32 := 0#32
  let v2776 : BitVec 32 := Scalar.subi v2774 v2775
  let c128_i32 : BitVec 32 := 128#32
  let v2777 : BitVec 32 := Scalar.addi v2776 c128_i32
  let c1_i32_2307 : BitVec 32 := 1#32
  let v2778 : BitVec 32 := Scalar.subi v2777 c1_i32_2307
  let c7_i32 : BitVec 32 := 7#32
  let v2779 : BitVec 32 := Scalar.shrui v2778 c7_i32
  let v2788 : BitVec 32 := Scalar.subi v2779 c0_i32_2313
  let c1_i32_2315 : BitVec 32 := 1#32
  let v2790 : BitVec 32 := Scalar.divsi v2788 c1_i32_2315
  let v2791 : BitVec 32 := Scalar.muli v2790 c1_i32_2315
  let v2792 : BitVec 32 := Scalar.addi c0_i32_2313 v2791
  let c1_i32_2317 : BitVec 32 := 1#32
  let arg27 : BitVec 32 := Scf.iv v2792 c1_i32_2317 k0_t4
  let c128_i32_2326 : BitVec 32 := 128#32
  let v2810 : BitVec 32 := Scalar.muli arg27 c128_i32_2326
  let v2811 : BitVec 32 := Scalar.addi v2775 v2810
  let v2812 : BitVec 32 := v2811
  let v2832 : BitVec 32 := Scalar.addi c0_i32_2333 v2812
  let c32_i32 : BitVec 32 := 32#32
  let v2840 : BitVec 32 := Scalar.addi v2832 c32_i32
  let v2841 : Index := Scalar.indexCast v2840
  let c0_2335 : Index := 0#32
  ![v2841.toNat, 0]
def k0_off75 (v10_0 : BitVec 32) (k0_t2 : Fin (k0_t2_loop v10_0).trips) : Fin 3 → Nat :=
  let c0_i32_2303 : BitVec 32 := 0#32
  let v2766 : BitVec 32 := Scalar.muli c0_i32_2303 v10_0
  let c0_i32_92 : BitVec 32 := 0#32
  let c1_i32_95 : BitVec 32 := 1#32
  let arg25 : BitVec 32 := Scf.iv c0_i32_92 c1_i32_95 k0_t2
  let v2767 : BitVec 32 := Scalar.addi v2766 arg25
  let c6_i32 : BitVec 32 := 6#32
  let v2768 : BitVec 32 := Scalar.remsi v2767 c6_i32
  let v2950 : Index := Scalar.indexCast v2768
  let c0_2357 : Index := 0#32
  let c1024_2358 : Index := 1024#32
  ![v2950.toNat, 0, 1024]
def k0_off76 (v2770 : BitVec 32) : Fin 2 → Nat :=
  let v2954 : Index := Scalar.indexCast v2770
  let c1024_2360 : Index := 1024#32
  ![v2954.toNat, 1024]
def k0_off77 (v10_0 : BitVec 32) (k0_t2 : Fin (k0_t2_loop v10_0).trips) : Fin 3 → Nat :=
  let c0_i32_2303 : BitVec 32 := 0#32
  let v2766 : BitVec 32 := Scalar.muli c0_i32_2303 v10_0
  let c0_i32_92 : BitVec 32 := 0#32
  let c1_i32_95 : BitVec 32 := 1#32
  let arg25 : BitVec 32 := Scf.iv c0_i32_92 c1_i32_95 k0_t2
  let v2767 : BitVec 32 := Scalar.addi v2766 arg25
  let c6_i32 : BitVec 32 := 6#32
  let v2768 : BitVec 32 := Scalar.remsi v2767 c6_i32
  let v3078 : Index := Scalar.indexCast v2768
  let c0_2385 : Index := 0#32
  let c2048_2386 : Index := 2048#32
  ![v3078.toNat, 0, 2048]
def k0_off78 (v2770 : BitVec 32) : Fin 2 → Nat :=
  let v3082 : Index := Scalar.indexCast v2770
  let c2048_2388 : Index := 2048#32
  ![v3082.toNat, 2048]

def k0_chk16 (v10_0 : BitVec 32) (k0_t2 : Fin (k0_t2_loop v10_0).trips) (v2770 : BitVec 32) (v2772 : BitVec 32) (v2774 : BitVec 32) : Prop :=
  ((k0_t3_loop v2772 v2774).OK) ∧
  (∀ k0_t3 : Fin (k0_t3_loop v2772 v2774).trips, 32 ∣ (k0_mult1 v2772 v2774 k0_t3).toNat) ∧
  (∀ k0_t3 : Fin (k0_t3_loop v2772 v2774).trips, ∀ a, (k0_off59 v2772 v2774 k0_t3) a + S128x1408.size a ≤ S1120x1408.size a) ∧
  (∀ k0_t3 : Fin (k0_t3_loop v2772 v2774).trips, ∀ a, (k0_off60 v2772 v2774 k0_t3) a + S128x128.size a ≤ S1120x128.size a) ∧
  (∀ k0_t3 : Fin (k0_t3_loop v2772 v2774).trips, ∀ a, (k0_off61 v10_0 k0_t2) a + S1x1408x1024.size a ≤ S6x1408x3072.size a) ∧
  (∀ k0_t3 : Fin (k0_t3_loop v2772 v2774).trips, ∀ a, (k0_off62 v2770) a + S1x1024.size a ≤ S15x4096.size a) ∧
  (∀ k0_t3 : Fin (k0_t3_loop v2772 v2774).trips, ∀ (r : Fin 24), ∀ a, (k0_off63 v2772 v2774 k0_t3 (BitVec.ofNat 32 (1121 * r.val))) a + S32x128.size a ≤ S26904x128.size a) ∧
  (∀ k0_t3 : Fin (k0_t3_loop v2772 v2774).trips, ∀ (r : Fin 24), ∀ a, (k0_off64 v2772 v2774 k0_t3 (BitVec.ofNat 32 (1121 * r.val))) a + S96x128.size a ≤ S26904x128.size a) ∧
  (∀ k0_t3 : Fin (k0_t3_loop v2772 v2774).trips, ∀ a, (k0_off65 v10_0 k0_t2) a + S1x1408x1024.size a ≤ S6x1408x3072.size a) ∧
  (∀ k0_t3 : Fin (k0_t3_loop v2772 v2774).trips, ∀ a, (k0_off66 v2770) a + S1x1024.size a ≤ S15x4096.size a) ∧
  (∀ k0_t3 : Fin (k0_t3_loop v2772 v2774).trips, ∀ a, (k0_off67 v10_0 k0_t2) a + S1x1408x1024.size a ≤ S6x1408x3072.size a) ∧
  (∀ k0_t3 : Fin (k0_t3_loop v2772 v2774).trips, ∀ a, (k0_off68 v2770) a + S1x1024.size a ≤ S15x4096.size a) ∧
  ((k0_t4_loop v2772 v2774).OK) ∧
  (∀ k0_t4 : Fin (k0_t4_loop v2772 v2774).trips, 32 ∣ (k0_mult2 v2772 v2774 k0_t4).toNat) ∧
  (∀ k0_t4 : Fin (k0_t4_loop v2772 v2774).trips, ∀ a, (k0_off69 v2772 v2774 k0_t4) a + S128x1408.size a ≤ S1120x1408.size a) ∧
  (∀ k0_t4 : Fin (k0_t4_loop v2772 v2774).trips, ∀ a, (k0_off70 v2772 v2774 k0_t4) a + S128x128.size a ≤ S1120x128.size a) ∧
  (∀ k0_t4 : Fin (k0_t4_loop v2772 v2774).trips, ∀ a, (k0_off71 v10_0 k0_t2) a + S1x1408x1024.size a ≤ S6x1408x3072.size a) ∧
  (∀ k0_t4 : Fin (k0_t4_loop v2772 v2774).trips, ∀ a, (k0_off72 v2770) a + S1x1024.size a ≤ S15x4096.size a) ∧
  (∀ k0_t4 : Fin (k0_t4_loop v2772 v2774).trips, ∀ (r : Fin 24), ∀ a, (k0_off73 v2772 v2774 k0_t4 (BitVec.ofNat 32 (1121 * r.val))) a + S32x128.size a ≤ S26904x128.size a) ∧
  (∀ k0_t4 : Fin (k0_t4_loop v2772 v2774).trips, ∀ (r : Fin 24), ∀ a, (k0_off74 v2772 v2774 k0_t4 (BitVec.ofNat 32 (1121 * r.val))) a + S96x128.size a ≤ S26904x128.size a) ∧
  (∀ k0_t4 : Fin (k0_t4_loop v2772 v2774).trips, ∀ a, (k0_off75 v10_0 k0_t2) a + S1x1408x1024.size a ≤ S6x1408x3072.size a) ∧
  (∀ k0_t4 : Fin (k0_t4_loop v2772 v2774).trips, ∀ a, (k0_off76 v2770) a + S1x1024.size a ≤ S15x4096.size a) ∧
  (∀ k0_t4 : Fin (k0_t4_loop v2772 v2774).trips, ∀ a, (k0_off77 v10_0 k0_t2) a + S1x1408x1024.size a ≤ S6x1408x3072.size a) ∧
  (∀ k0_t4 : Fin (k0_t4_loop v2772 v2774).trips, ∀ a, (k0_off78 v2770) a + S1x1024.size a ≤ S15x4096.size a)
theorem k0_t3_ok : ∀ (v10_0 : BitVec 32) (k0_t2 : Fin (k0_t2_loop v10_0).trips) (v2770 : BitVec 32) (v2772 : BitVec 32) (v2774 : BitVec 32) (k0_hw16 : k0_chk16 v10_0 k0_t2 v2770 v2772 v2774), (k0_t3_loop v2772 v2774).OK := fun v10_0 k0_t2 v2770 v2772 v2774 k0_hw16 => k0_hw16.1
theorem k0_mult1_dvd : ∀ (v10_0 : BitVec 32) (k0_t2 : Fin (k0_t2_loop v10_0).trips) (v2770 : BitVec 32) (v2772 : BitVec 32) (v2774 : BitVec 32) (k0_hw16 : k0_chk16 v10_0 k0_t2 v2770 v2772 v2774) (k0_t3 : Fin (k0_t3_loop v2772 v2774).trips), 32 ∣ (k0_mult1 v2772 v2774 k0_t3).toNat := fun v10_0 k0_t2 v2770 v2772 v2774 k0_hw16 k0_t3 => k0_hw16.2.1 k0_t3
theorem k0_off59_inb : ∀ (v10_0 : BitVec 32) (k0_t2 : Fin (k0_t2_loop v10_0).trips) (v2770 : BitVec 32) (v2772 : BitVec 32) (v2774 : BitVec 32) (k0_hw16 : k0_chk16 v10_0 k0_t2 v2770 v2772 v2774) (k0_t3 : Fin (k0_t3_loop v2772 v2774).trips), ∀ a, (k0_off59 v2772 v2774 k0_t3) a + S128x1408.size a ≤ S1120x1408.size a := fun v10_0 k0_t2 v2770 v2772 v2774 k0_hw16 k0_t3 => k0_hw16.2.2.1 k0_t3
theorem k0_off60_inb : ∀ (v10_0 : BitVec 32) (k0_t2 : Fin (k0_t2_loop v10_0).trips) (v2770 : BitVec 32) (v2772 : BitVec 32) (v2774 : BitVec 32) (k0_hw16 : k0_chk16 v10_0 k0_t2 v2770 v2772 v2774) (k0_t3 : Fin (k0_t3_loop v2772 v2774).trips), ∀ a, (k0_off60 v2772 v2774 k0_t3) a + S128x128.size a ≤ S1120x128.size a := fun v10_0 k0_t2 v2770 v2772 v2774 k0_hw16 k0_t3 => k0_hw16.2.2.2.1 k0_t3
theorem k0_off61_inb : ∀ (v10_0 : BitVec 32) (k0_t2 : Fin (k0_t2_loop v10_0).trips) (v2770 : BitVec 32) (v2772 : BitVec 32) (v2774 : BitVec 32) (k0_hw16 : k0_chk16 v10_0 k0_t2 v2770 v2772 v2774) (k0_t3 : Fin (k0_t3_loop v2772 v2774).trips), ∀ a, (k0_off61 v10_0 k0_t2) a + S1x1408x1024.size a ≤ S6x1408x3072.size a := fun v10_0 k0_t2 v2770 v2772 v2774 k0_hw16 k0_t3 => k0_hw16.2.2.2.2.1 k0_t3
theorem k0_off62_inb : ∀ (v10_0 : BitVec 32) (k0_t2 : Fin (k0_t2_loop v10_0).trips) (v2770 : BitVec 32) (v2772 : BitVec 32) (v2774 : BitVec 32) (k0_hw16 : k0_chk16 v10_0 k0_t2 v2770 v2772 v2774) (k0_t3 : Fin (k0_t3_loop v2772 v2774).trips), ∀ a, (k0_off62 v2770) a + S1x1024.size a ≤ S15x4096.size a := fun v10_0 k0_t2 v2770 v2772 v2774 k0_hw16 k0_t3 => k0_hw16.2.2.2.2.2.1 k0_t3
theorem k0_off63_inb : ∀ (v10_0 : BitVec 32) (k0_t2 : Fin (k0_t2_loop v10_0).trips) (v2770 : BitVec 32) (v2772 : BitVec 32) (v2774 : BitVec 32) (k0_hw16 : k0_chk16 v10_0 k0_t2 v2770 v2772 v2774) (k0_t3 : Fin (k0_t3_loop v2772 v2774).trips), ∀ (r : Fin 24), ∀ a, (k0_off63 v2772 v2774 k0_t3 (BitVec.ofNat 32 (1121 * r.val))) a + S32x128.size a ≤ S26904x128.size a := fun v10_0 k0_t2 v2770 v2772 v2774 k0_hw16 k0_t3 r => k0_hw16.2.2.2.2.2.2.1 k0_t3 r
theorem k0_off64_inb : ∀ (v10_0 : BitVec 32) (k0_t2 : Fin (k0_t2_loop v10_0).trips) (v2770 : BitVec 32) (v2772 : BitVec 32) (v2774 : BitVec 32) (k0_hw16 : k0_chk16 v10_0 k0_t2 v2770 v2772 v2774) (k0_t3 : Fin (k0_t3_loop v2772 v2774).trips), ∀ (r : Fin 24), ∀ a, (k0_off64 v2772 v2774 k0_t3 (BitVec.ofNat 32 (1121 * r.val))) a + S96x128.size a ≤ S26904x128.size a := fun v10_0 k0_t2 v2770 v2772 v2774 k0_hw16 k0_t3 r => k0_hw16.2.2.2.2.2.2.2.1 k0_t3 r
theorem k0_off65_inb : ∀ (v10_0 : BitVec 32) (k0_t2 : Fin (k0_t2_loop v10_0).trips) (v2770 : BitVec 32) (v2772 : BitVec 32) (v2774 : BitVec 32) (k0_hw16 : k0_chk16 v10_0 k0_t2 v2770 v2772 v2774) (k0_t3 : Fin (k0_t3_loop v2772 v2774).trips), ∀ a, (k0_off65 v10_0 k0_t2) a + S1x1408x1024.size a ≤ S6x1408x3072.size a := fun v10_0 k0_t2 v2770 v2772 v2774 k0_hw16 k0_t3 => k0_hw16.2.2.2.2.2.2.2.2.1 k0_t3
theorem k0_off66_inb : ∀ (v10_0 : BitVec 32) (k0_t2 : Fin (k0_t2_loop v10_0).trips) (v2770 : BitVec 32) (v2772 : BitVec 32) (v2774 : BitVec 32) (k0_hw16 : k0_chk16 v10_0 k0_t2 v2770 v2772 v2774) (k0_t3 : Fin (k0_t3_loop v2772 v2774).trips), ∀ a, (k0_off66 v2770) a + S1x1024.size a ≤ S15x4096.size a := fun v10_0 k0_t2 v2770 v2772 v2774 k0_hw16 k0_t3 => k0_hw16.2.2.2.2.2.2.2.2.2.1 k0_t3
theorem k0_off67_inb : ∀ (v10_0 : BitVec 32) (k0_t2 : Fin (k0_t2_loop v10_0).trips) (v2770 : BitVec 32) (v2772 : BitVec 32) (v2774 : BitVec 32) (k0_hw16 : k0_chk16 v10_0 k0_t2 v2770 v2772 v2774) (k0_t3 : Fin (k0_t3_loop v2772 v2774).trips), ∀ a, (k0_off67 v10_0 k0_t2) a + S1x1408x1024.size a ≤ S6x1408x3072.size a := fun v10_0 k0_t2 v2770 v2772 v2774 k0_hw16 k0_t3 => k0_hw16.2.2.2.2.2.2.2.2.2.2.1 k0_t3
theorem k0_off68_inb : ∀ (v10_0 : BitVec 32) (k0_t2 : Fin (k0_t2_loop v10_0).trips) (v2770 : BitVec 32) (v2772 : BitVec 32) (v2774 : BitVec 32) (k0_hw16 : k0_chk16 v10_0 k0_t2 v2770 v2772 v2774) (k0_t3 : Fin (k0_t3_loop v2772 v2774).trips), ∀ a, (k0_off68 v2770) a + S1x1024.size a ≤ S15x4096.size a := fun v10_0 k0_t2 v2770 v2772 v2774 k0_hw16 k0_t3 => k0_hw16.2.2.2.2.2.2.2.2.2.2.2.1 k0_t3
theorem k0_t4_ok : ∀ (v10_0 : BitVec 32) (k0_t2 : Fin (k0_t2_loop v10_0).trips) (v2770 : BitVec 32) (v2772 : BitVec 32) (v2774 : BitVec 32) (k0_hw16 : k0_chk16 v10_0 k0_t2 v2770 v2772 v2774), (k0_t4_loop v2772 v2774).OK := fun v10_0 k0_t2 v2770 v2772 v2774 k0_hw16 => k0_hw16.2.2.2.2.2.2.2.2.2.2.2.2.1
theorem k0_mult2_dvd : ∀ (v10_0 : BitVec 32) (k0_t2 : Fin (k0_t2_loop v10_0).trips) (v2770 : BitVec 32) (v2772 : BitVec 32) (v2774 : BitVec 32) (k0_hw16 : k0_chk16 v10_0 k0_t2 v2770 v2772 v2774) (k0_t4 : Fin (k0_t4_loop v2772 v2774).trips), 32 ∣ (k0_mult2 v2772 v2774 k0_t4).toNat := fun v10_0 k0_t2 v2770 v2772 v2774 k0_hw16 k0_t4 => k0_hw16.2.2.2.2.2.2.2.2.2.2.2.2.2.1 k0_t4
theorem k0_off69_inb : ∀ (v10_0 : BitVec 32) (k0_t2 : Fin (k0_t2_loop v10_0).trips) (v2770 : BitVec 32) (v2772 : BitVec 32) (v2774 : BitVec 32) (k0_hw16 : k0_chk16 v10_0 k0_t2 v2770 v2772 v2774) (k0_t4 : Fin (k0_t4_loop v2772 v2774).trips), ∀ a, (k0_off69 v2772 v2774 k0_t4) a + S128x1408.size a ≤ S1120x1408.size a := fun v10_0 k0_t2 v2770 v2772 v2774 k0_hw16 k0_t4 => k0_hw16.2.2.2.2.2.2.2.2.2.2.2.2.2.2.1 k0_t4
theorem k0_off70_inb : ∀ (v10_0 : BitVec 32) (k0_t2 : Fin (k0_t2_loop v10_0).trips) (v2770 : BitVec 32) (v2772 : BitVec 32) (v2774 : BitVec 32) (k0_hw16 : k0_chk16 v10_0 k0_t2 v2770 v2772 v2774) (k0_t4 : Fin (k0_t4_loop v2772 v2774).trips), ∀ a, (k0_off70 v2772 v2774 k0_t4) a + S128x128.size a ≤ S1120x128.size a := fun v10_0 k0_t2 v2770 v2772 v2774 k0_hw16 k0_t4 => k0_hw16.2.2.2.2.2.2.2.2.2.2.2.2.2.2.2.1 k0_t4
theorem k0_off71_inb : ∀ (v10_0 : BitVec 32) (k0_t2 : Fin (k0_t2_loop v10_0).trips) (v2770 : BitVec 32) (v2772 : BitVec 32) (v2774 : BitVec 32) (k0_hw16 : k0_chk16 v10_0 k0_t2 v2770 v2772 v2774) (k0_t4 : Fin (k0_t4_loop v2772 v2774).trips), ∀ a, (k0_off71 v10_0 k0_t2) a + S1x1408x1024.size a ≤ S6x1408x3072.size a := fun v10_0 k0_t2 v2770 v2772 v2774 k0_hw16 k0_t4 => k0_hw16.2.2.2.2.2.2.2.2.2.2.2.2.2.2.2.2.1 k0_t4
theorem k0_off72_inb : ∀ (v10_0 : BitVec 32) (k0_t2 : Fin (k0_t2_loop v10_0).trips) (v2770 : BitVec 32) (v2772 : BitVec 32) (v2774 : BitVec 32) (k0_hw16 : k0_chk16 v10_0 k0_t2 v2770 v2772 v2774) (k0_t4 : Fin (k0_t4_loop v2772 v2774).trips), ∀ a, (k0_off72 v2770) a + S1x1024.size a ≤ S15x4096.size a := fun v10_0 k0_t2 v2770 v2772 v2774 k0_hw16 k0_t4 => k0_hw16.2.2.2.2.2.2.2.2.2.2.2.2.2.2.2.2.2.1 k0_t4
theorem k0_off73_inb : ∀ (v10_0 : BitVec 32) (k0_t2 : Fin (k0_t2_loop v10_0).trips) (v2770 : BitVec 32) (v2772 : BitVec 32) (v2774 : BitVec 32) (k0_hw16 : k0_chk16 v10_0 k0_t2 v2770 v2772 v2774) (k0_t4 : Fin (k0_t4_loop v2772 v2774).trips), ∀ (r : Fin 24), ∀ a, (k0_off73 v2772 v2774 k0_t4 (BitVec.ofNat 32 (1121 * r.val))) a + S32x128.size a ≤ S26904x128.size a := fun v10_0 k0_t2 v2770 v2772 v2774 k0_hw16 k0_t4 r => k0_hw16.2.2.2.2.2.2.2.2.2.2.2.2.2.2.2.2.2.2.1 k0_t4 r
theorem k0_off74_inb : ∀ (v10_0 : BitVec 32) (k0_t2 : Fin (k0_t2_loop v10_0).trips) (v2770 : BitVec 32) (v2772 : BitVec 32) (v2774 : BitVec 32) (k0_hw16 : k0_chk16 v10_0 k0_t2 v2770 v2772 v2774) (k0_t4 : Fin (k0_t4_loop v2772 v2774).trips), ∀ (r : Fin 24), ∀ a, (k0_off74 v2772 v2774 k0_t4 (BitVec.ofNat 32 (1121 * r.val))) a + S96x128.size a ≤ S26904x128.size a := fun v10_0 k0_t2 v2770 v2772 v2774 k0_hw16 k0_t4 r => k0_hw16.2.2.2.2.2.2.2.2.2.2.2.2.2.2.2.2.2.2.2.1 k0_t4 r
theorem k0_off75_inb : ∀ (v10_0 : BitVec 32) (k0_t2 : Fin (k0_t2_loop v10_0).trips) (v2770 : BitVec 32) (v2772 : BitVec 32) (v2774 : BitVec 32) (k0_hw16 : k0_chk16 v10_0 k0_t2 v2770 v2772 v2774) (k0_t4 : Fin (k0_t4_loop v2772 v2774).trips), ∀ a, (k0_off75 v10_0 k0_t2) a + S1x1408x1024.size a ≤ S6x1408x3072.size a := fun v10_0 k0_t2 v2770 v2772 v2774 k0_hw16 k0_t4 => k0_hw16.2.2.2.2.2.2.2.2.2.2.2.2.2.2.2.2.2.2.2.2.1 k0_t4
theorem k0_off76_inb : ∀ (v10_0 : BitVec 32) (k0_t2 : Fin (k0_t2_loop v10_0).trips) (v2770 : BitVec 32) (v2772 : BitVec 32) (v2774 : BitVec 32) (k0_hw16 : k0_chk16 v10_0 k0_t2 v2770 v2772 v2774) (k0_t4 : Fin (k0_t4_loop v2772 v2774).trips), ∀ a, (k0_off76 v2770) a + S1x1024.size a ≤ S15x4096.size a := fun v10_0 k0_t2 v2770 v2772 v2774 k0_hw16 k0_t4 => k0_hw16.2.2.2.2.2.2.2.2.2.2.2.2.2.2.2.2.2.2.2.2.2.1 k0_t4
theorem k0_off77_inb : ∀ (v10_0 : BitVec 32) (k0_t2 : Fin (k0_t2_loop v10_0).trips) (v2770 : BitVec 32) (v2772 : BitVec 32) (v2774 : BitVec 32) (k0_hw16 : k0_chk16 v10_0 k0_t2 v2770 v2772 v2774) (k0_t4 : Fin (k0_t4_loop v2772 v2774).trips), ∀ a, (k0_off77 v10_0 k0_t2) a + S1x1408x1024.size a ≤ S6x1408x3072.size a := fun v10_0 k0_t2 v2770 v2772 v2774 k0_hw16 k0_t4 => k0_hw16.2.2.2.2.2.2.2.2.2.2.2.2.2.2.2.2.2.2.2.2.2.2.1 k0_t4
theorem k0_off78_inb : ∀ (v10_0 : BitVec 32) (k0_t2 : Fin (k0_t2_loop v10_0).trips) (v2770 : BitVec 32) (v2772 : BitVec 32) (v2774 : BitVec 32) (k0_hw16 : k0_chk16 v10_0 k0_t2 v2770 v2772 v2774) (k0_t4 : Fin (k0_t4_loop v2772 v2774).trips), ∀ a, (k0_off78 v2770) a + S1x1024.size a ≤ S15x4096.size a := fun v10_0 k0_t2 v2770 v2772 v2774 k0_hw16 k0_t4 => k0_hw16.2.2.2.2.2.2.2.2.2.2.2.2.2.2.2.2.2.2.2.2.2.2.2 k0_t4

def k0_off79 (v10_0 : BitVec 32) (k0_t2 : Fin (k0_t2_loop v10_0).trips) : Fin 2 → Nat :=
  let c0_2327 : Index := 0#32
  let c0_i32_2303 : BitVec 32 := 0#32
  let v2766 : BitVec 32 := Scalar.muli c0_i32_2303 v10_0
  let c0_i32_92 : BitVec 32 := 0#32
  let c1_i32_95 : BitVec 32 := 1#32
  let arg25 : BitVec 32 := Scf.iv c0_i32_92 c1_i32_95 k0_t2
  let v2767 : BitVec 32 := Scalar.addi v2766 arg25
  let c6_i32_2318 : BitVec 32 := 6#32
  let v2795 : BitVec 32 := Scalar.addi v2767 c6_i32_2318
  let c0_i32_2319 : BitVec 32 := 0#32
  let v2796 : BitVec 32 := Scalar.muli c0_i32_2319 v10_0
  let v2797 : BitVec 32 := Scalar.subi v2795 v2796
  let v2811 : Index := Scalar.indexCast v2797
  ![0, v2811.toNat]
def k0_cond13 (v10_0 : BitVec 32) (k0_t2 : Fin (k0_t2_loop v10_0).trips) : BitVec 1 :=
  let c0_i32_2303 : BitVec 32 := 0#32
  let v2766 : BitVec 32 := Scalar.muli c0_i32_2303 v10_0
  let c0_i32_92 : BitVec 32 := 0#32
  let c1_i32_95 : BitVec 32 := 1#32
  let arg25 : BitVec 32 := Scf.iv c0_i32_92 c1_i32_95 k0_t2
  let v2767 : BitVec 32 := Scalar.addi v2766 arg25
  let c6_i32_2318 : BitVec 32 := 6#32
  let v2795 : BitVec 32 := Scalar.addi v2767 c6_i32_2318
  let c0_i32_2319 : BitVec 32 := 0#32
  let v2796 : BitVec 32 := Scalar.muli c0_i32_2319 v10_0
  let v2797 : BitVec 32 := Scalar.subi v2795 v2796
  let c0_i32_2320 : BitVec 32 := 0#32
  let v2798 : BitVec 1 := Scalar.cmpi .sge v2797 c0_i32_2320
  let v2799 : BitVec 1 := Scalar.cmpi .slt v2797 v10_0
  let v2800 : BitVec 1 := Scalar.andi v2798 v2799
  let v2801 : BitVec 32 := Scalar.extui v2800
  let c0_i32_2321 : BitVec 32 := 0#32
  let v2802 : BitVec 1 := Scalar.cmpi .ne v2801 c0_i32_2321
  v2802

def k0_off80 (v10_0 : BitVec 32) (k0_t2 : Fin (k0_t2_loop v10_0).trips) : Fin 1 → Nat :=
  let c0_i32_2303 : BitVec 32 := 0#32
  let v2766 : BitVec 32 := Scalar.muli c0_i32_2303 v10_0
  let c0_i32_92 : BitVec 32 := 0#32
  let c1_i32_95 : BitVec 32 := 1#32
  let arg25 : BitVec 32 := Scf.iv c0_i32_92 c1_i32_95 k0_t2
  let v2767 : BitVec 32 := Scalar.addi v2766 arg25
  let c6_i32_2318 : BitVec 32 := 6#32
  let v2795 : BitVec 32 := Scalar.addi v2767 c6_i32_2318
  let c6_i32_2326 : BitVec 32 := 6#32
  let v2810 : BitVec 32 := Scalar.remsi v2795 c6_i32_2326
  ![v2810.toNat]
def k0_off81 (v10_0 : BitVec 32) (k0_t2 : Fin (k0_t2_loop v10_0).trips) : Fin 3 → Nat :=
  let c0_i32_2303 : BitVec 32 := 0#32
  let v2766 : BitVec 32 := Scalar.muli c0_i32_2303 v10_0
  let c0_i32_92 : BitVec 32 := 0#32
  let c1_i32_95 : BitVec 32 := 1#32
  let arg25 : BitVec 32 := Scf.iv c0_i32_92 c1_i32_95 k0_t2
  let v2767 : BitVec 32 := Scalar.addi v2766 arg25
  let c6_i32_2318 : BitVec 32 := 6#32
  let v2795 : BitVec 32 := Scalar.addi v2767 c6_i32_2318
  let c6_i32_2326 : BitVec 32 := 6#32
  let v2810 : BitVec 32 := Scalar.remsi v2795 c6_i32_2326
  let c0_i32_2328 : BitVec 32 := 0#32
  let c0_i32_2329 : BitVec 32 := 0#32
  ![v2810.toNat, 0, 0]
def k0_off82 (v2812 : BitVec 32) : Fin 3 → Nat :=
  let c0_i32_2330 : BitVec 32 := 0#32
  let c0_i32_2331 : BitVec 32 := 0#32
  ![v2812.toNat, 0, 0]

def k0_chk17 (v10_0 : BitVec 32) (k0_t2 : Fin (k0_t2_loop v10_0).trips) (v2812 : BitVec 32) : Prop :=
  (∀ (k0_h13 : k0_cond13 v10_0 k0_t2 = 1#1), ∀ a, (k0_off82 v2812) a + S1x1408x3072.size a ≤ S15x1408x4096.size a) ∧
  (∀ (k0_h13 : k0_cond13 v10_0 k0_t2 = 1#1), ∀ (hinb : ∀ a, (k0_off82 v2812) a + S1x1408x3072.size a ≤ S15x1408x4096.size a), (Rect.unit (s := S15x1408x4096) (k0_off82 v2812) S1x1408x3072.size hinb).WholeWords (EltTy.packing .fp8e4m3))
theorem k0_off82_inb : ∀ (v10_0 : BitVec 32) (k0_t2 : Fin (k0_t2_loop v10_0).trips) (v2812 : BitVec 32) (k0_hw17 : k0_chk17 v10_0 k0_t2 v2812), ∀ (k0_h13 : k0_cond13 v10_0 k0_t2 = 1#1), ∀ a, (k0_off82 v2812) a + S1x1408x3072.size a ≤ S15x1408x4096.size a := fun v10_0 k0_t2 v2812 k0_hw17 k0_h13 => k0_hw17.1 k0_h13
theorem k0_off82_wordsfp8e4m3 : ∀ (v10_0 : BitVec 32) (k0_t2 : Fin (k0_t2_loop v10_0).trips) (v2812 : BitVec 32) (k0_hw17 : k0_chk17 v10_0 k0_t2 v2812), ∀ (k0_h13 : k0_cond13 v10_0 k0_t2 = 1#1), (Rect.unit (s := S15x1408x4096) (k0_off82 v2812) S1x1408x3072.size (k0_off82_inb v10_0 k0_t2 v2812 k0_hw17 k0_h13)).WholeWords (EltTy.packing .fp8e4m3) := fun v10_0 k0_t2 v2812 k0_hw17 k0_h13 => k0_hw17.2 k0_h13 (k0_off82_inb v10_0 k0_t2 v2812 k0_hw17 k0_h13)

def k0_off83 (v10_0 : BitVec 32) (k0_t2 : Fin (k0_t2_loop v10_0).trips) : Fin 2 → Nat :=
  let c0_2327 : Index := 0#32
  let c0_i32_2303 : BitVec 32 := 0#32
  let v2766 : BitVec 32 := Scalar.muli c0_i32_2303 v10_0
  let c0_i32_92 : BitVec 32 := 0#32
  let c1_i32_95 : BitVec 32 := 1#32
  let arg25 : BitVec 32 := Scf.iv c0_i32_92 c1_i32_95 k0_t2
  let v2767 : BitVec 32 := Scalar.addi v2766 arg25
  let c6_i32_2318 : BitVec 32 := 6#32
  let v2795 : BitVec 32 := Scalar.addi v2767 c6_i32_2318
  let c1_i32_2322 : BitVec 32 := 1#32
  let v2803 : BitVec 32 := Scalar.muli c1_i32_2322 v10_0
  let v2804 : BitVec 32 := Scalar.subi v2795 v2803
  let v2811 : Index := Scalar.indexCast v2804
  ![0, v2811.toNat]
def k0_cond14 (v10_0 : BitVec 32) (k0_t2 : Fin (k0_t2_loop v10_0).trips) : BitVec 1 :=
  let c0_i32_2303 : BitVec 32 := 0#32
  let v2766 : BitVec 32 := Scalar.muli c0_i32_2303 v10_0
  let c0_i32_92 : BitVec 32 := 0#32
  let c1_i32_95 : BitVec 32 := 1#32
  let arg25 : BitVec 32 := Scf.iv c0_i32_92 c1_i32_95 k0_t2
  let v2767 : BitVec 32 := Scalar.addi v2766 arg25
  let c6_i32_2318 : BitVec 32 := 6#32
  let v2795 : BitVec 32 := Scalar.addi v2767 c6_i32_2318
  let c1_i32_2322 : BitVec 32 := 1#32
  let v2803 : BitVec 32 := Scalar.muli c1_i32_2322 v10_0
  let v2804 : BitVec 32 := Scalar.subi v2795 v2803
  let c0_i32_2323 : BitVec 32 := 0#32
  let v2805 : BitVec 1 := Scalar.cmpi .sge v2804 c0_i32_2323
  let v2806 : BitVec 1 := Scalar.cmpi .slt v2804 v10_0
  let v2807 : BitVec 1 := Scalar.andi v2805 v2806
  let v2808 : BitVec 32 := Scalar.extui v2807
  let c0_i32_2324 : BitVec 32 := 0#32
  let v2809 : BitVec 1 := Scalar.cmpi .ne v2808 c0_i32_2324
  v2809

def k0_off84 (v10_0 : BitVec 32) (k0_t2 : Fin (k0_t2_loop v10_0).trips) : Fin 1 → Nat :=
  let c0_i32_2303 : BitVec 32 := 0#32
  let v2766 : BitVec 32 := Scalar.muli c0_i32_2303 v10_0
  let c0_i32_92 : BitVec 32 := 0#32
  let c1_i32_95 : BitVec 32 := 1#32
  let arg25 : BitVec 32 := Scf.iv c0_i32_92 c1_i32_95 k0_t2
  let v2767 : BitVec 32 := Scalar.addi v2766 arg25
  let c6_i32_2318 : BitVec 32 := 6#32
  let v2795 : BitVec 32 := Scalar.addi v2767 c6_i32_2318
  let c6_i32_2326 : BitVec 32 := 6#32
  let v2810 : BitVec 32 := Scalar.remsi v2795 c6_i32_2326
  ![v2810.toNat]
def k0_off85 (v10_0 : BitVec 32) (k0_t2 : Fin (k0_t2_loop v10_0).trips) : Fin 3 → Nat :=
  let c0_i32_2303 : BitVec 32 := 0#32
  let v2766 : BitVec 32 := Scalar.muli c0_i32_2303 v10_0
  let c0_i32_92 : BitVec 32 := 0#32
  let c1_i32_95 : BitVec 32 := 1#32
  let arg25 : BitVec 32 := Scf.iv c0_i32_92 c1_i32_95 k0_t2
  let v2767 : BitVec 32 := Scalar.addi v2766 arg25
  let c6_i32_2318 : BitVec 32 := 6#32
  let v2795 : BitVec 32 := Scalar.addi v2767 c6_i32_2318
  let c6_i32_2326 : BitVec 32 := 6#32
  let v2810 : BitVec 32 := Scalar.remsi v2795 c6_i32_2326
  let c0_i32_2328 : BitVec 32 := 0#32
  let c0_i32_2329 : BitVec 32 := 0#32
  ![v2810.toNat, 0, 0]
def k0_off86 (v2812 : BitVec 32) : Fin 3 → Nat :=
  let c0_i32_2330 : BitVec 32 := 0#32
  let c3072_i32_2331 : BitVec 32 := 3072#32
  ![v2812.toNat, 0, 3072]

def k0_chk18 (v10_0 : BitVec 32) (k0_t2 : Fin (k0_t2_loop v10_0).trips) (v2812 : BitVec 32) : Prop :=
  (∀ (k0_h14 : k0_cond14 v10_0 k0_t2 = 1#1), ∀ a, (k0_off86 v2812) a + S1x1408x1024.size a ≤ S15x1408x4096.size a) ∧
  (∀ (k0_h14 : k0_cond14 v10_0 k0_t2 = 1#1), ∀ (hinb : ∀ a, (k0_off86 v2812) a + S1x1408x1024.size a ≤ S15x1408x4096.size a), (Rect.unit (s := S15x1408x4096) (k0_off86 v2812) S1x1408x1024.size hinb).WholeWords (EltTy.packing .fp8e4m3))
theorem k0_off86_inb : ∀ (v10_0 : BitVec 32) (k0_t2 : Fin (k0_t2_loop v10_0).trips) (v2812 : BitVec 32) (k0_hw18 : k0_chk18 v10_0 k0_t2 v2812), ∀ (k0_h14 : k0_cond14 v10_0 k0_t2 = 1#1), ∀ a, (k0_off86 v2812) a + S1x1408x1024.size a ≤ S15x1408x4096.size a := fun v10_0 k0_t2 v2812 k0_hw18 k0_h14 => k0_hw18.1 k0_h14
theorem k0_off86_wordsfp8e4m3 : ∀ (v10_0 : BitVec 32) (k0_t2 : Fin (k0_t2_loop v10_0).trips) (v2812 : BitVec 32) (k0_hw18 : k0_chk18 v10_0 k0_t2 v2812), ∀ (k0_h14 : k0_cond14 v10_0 k0_t2 = 1#1), (Rect.unit (s := S15x1408x4096) (k0_off86 v2812) S1x1408x1024.size (k0_off86_inb v10_0 k0_t2 v2812 k0_hw18 k0_h14)).WholeWords (EltTy.packing .fp8e4m3) := fun v10_0 k0_t2 v2812 k0_hw18 k0_h14 => k0_hw18.2 k0_h14 (k0_off86_inb v10_0 k0_t2 v2812 k0_hw18 k0_h14)

@[reducible] def k0_t5_loop (v10_0 : BitVec 32) : Scf.Loop 32 :=
  let c0_i32_92 : BitVec 32 := 0#32
  let v168 : BitVec 32 := Scalar.subi v10_0 c0_i32_92
  let c1_i32_94 : BitVec 32 := 1#32
  let v170 : BitVec 32 := Scalar.divsi v168 c1_i32_94
  let v171 : BitVec 32 := Scalar.muli v170 c1_i32_94
  let v172 : BitVec 32 := Scalar.addi c0_i32_92 v171
  let v169 : BitVec 32 := Scalar.addi c0_i32_92 v168
  let c1_i32_96 : BitVec 32 := 1#32
  ⟨v172, v169, c1_i32_96⟩
def k0_off87 (v10_0 : BitVec 32) (k0_t5 : Fin (k0_t5_loop v10_0).trips) : Fin 2 → Nat :=
  let c0_2304 : Index := 0#32
  let c0_i32_92 : BitVec 32 := 0#32
  let v168 : BitVec 32 := Scalar.subi v10_0 c0_i32_92
  let c1_i32_94 : BitVec 32 := 1#32
  let v170 : BitVec 32 := Scalar.divsi v168 c1_i32_94
  let v171 : BitVec 32 := Scalar.muli v170 c1_i32_94
  let v172 : BitVec 32 := Scalar.addi c0_i32_92 v171
  let c1_i32_96 : BitVec 32 := 1#32
  let arg25 : BitVec 32 := Scf.iv v172 c1_i32_96 k0_t5
  let v2769 : Index := Scalar.indexCast arg25
  ![0, v2769.toNat]
def k0_off88 (v10_0 : BitVec 32) (k0_t5 : Fin (k0_t5_loop v10_0).trips) : Fin 2 → Nat :=
  let c1_2305 : Index := 1#32
  let c0_i32_92 : BitVec 32 := 0#32
  let v168 : BitVec 32 := Scalar.subi v10_0 c0_i32_92
  let c1_i32_94 : BitVec 32 := 1#32
  let v170 : BitVec 32 := Scalar.divsi v168 c1_i32_94
  let v171 : BitVec 32 := Scalar.muli v170 c1_i32_94
  let v172 : BitVec 32 := Scalar.addi c0_i32_92 v171
  let c1_i32_96 : BitVec 32 := 1#32
  let arg25 : BitVec 32 := Scf.iv v172 c1_i32_96 k0_t5
  let v2771 : Index := Scalar.indexCast arg25
  ![1, v2771.toNat]
def k0_off89 (v10_0 : BitVec 32) (k0_t5 : Fin (k0_t5_loop v10_0).trips) : Fin 2 → Nat :=
  let c2_2306 : Index := 2#32
  let c0_i32_92 : BitVec 32 := 0#32
  let v168 : BitVec 32 := Scalar.subi v10_0 c0_i32_92
  let c1_i32_94 : BitVec 32 := 1#32
  let v170 : BitVec 32 := Scalar.divsi v168 c1_i32_94
  let v171 : BitVec 32 := Scalar.muli v170 c1_i32_94
  let v172 : BitVec 32 := Scalar.addi c0_i32_92 v171
  let c1_i32_96 : BitVec 32 := 1#32
  let arg25 : BitVec 32 := Scf.iv v172 c1_i32_96 k0_t5
  let v2773 : Index := Scalar.indexCast arg25
  ![2, v2773.toNat]
def k0_off90 (v10_0 : BitVec 32) (k0_t5 : Fin (k0_t5_loop v10_0).trips) : Fin 1 → Nat :=
  let c0_i32_2303 : BitVec 32 := 0#32
  let v2766 : BitVec 32 := Scalar.muli c0_i32_2303 v10_0
  let c0_i32_92 : BitVec 32 := 0#32
  let v168 : BitVec 32 := Scalar.subi v10_0 c0_i32_92
  let c1_i32_94 : BitVec 32 := 1#32
  let v170 : BitVec 32 := Scalar.divsi v168 c1_i32_94
  let v171 : BitVec 32 := Scalar.muli v170 c1_i32_94
  let v172 : BitVec 32 := Scalar.addi c0_i32_92 v171
  let c1_i32_96 : BitVec 32 := 1#32
  let arg25 : BitVec 32 := Scf.iv v172 c1_i32_96 k0_t5
  let v2767 : BitVec 32 := Scalar.addi v2766 arg25
  let c6_i32 : BitVec 32 := 6#32
  let v2768 : BitVec 32 := Scalar.remsi v2767 c6_i32
  ![v2768.toNat]
def k0_off91 (v10_0 : BitVec 32) (k0_t5 : Fin (k0_t5_loop v10_0).trips) : Fin 3 → Nat :=
  let c0_i32_2303 : BitVec 32 := 0#32
  let v2766 : BitVec 32 := Scalar.muli c0_i32_2303 v10_0
  let c0_i32_92 : BitVec 32 := 0#32
  let v168 : BitVec 32 := Scalar.subi v10_0 c0_i32_92
  let c1_i32_94 : BitVec 32 := 1#32
  let v170 : BitVec 32 := Scalar.divsi v168 c1_i32_94
  let v171 : BitVec 32 := Scalar.muli v170 c1_i32_94
  let v172 : BitVec 32 := Scalar.addi c0_i32_92 v171
  let c1_i32_96 : BitVec 32 := 1#32
  let arg25 : BitVec 32 := Scf.iv v172 c1_i32_96 k0_t5
  let v2767 : BitVec 32 := Scalar.addi v2766 arg25
  let c6_i32 : BitVec 32 := 6#32
  let v2768 : BitVec 32 := Scalar.remsi v2767 c6_i32
  let c0_i32_2309 : BitVec 32 := 0#32
  let c0_i32_2310 : BitVec 32 := 0#32
  ![v2768.toNat, 0, 0]
def k0_off92 (v2781 : BitVec 32) : Fin 3 → Nat :=
  let c0_i32_2311 : BitVec 32 := 0#32
  let c0_i32_2312 : BitVec 32 := 0#32
  ![v2781.toNat, 0, 0]

def k0_chk19 (v2781 : BitVec 32) : Prop :=
  (∀ a, (k0_off92 v2781) a + S1x1408x3072.size a ≤ S15x1408x4096.size a) ∧
  (∀ (hinb : ∀ a, (k0_off92 v2781) a + S1x1408x3072.size a ≤ S15x1408x4096.size a), (Rect.unit (s := S15x1408x4096) (k0_off92 v2781) S1x1408x3072.size hinb).WholeWords (EltTy.packing .fp8e4m3))
theorem k0_off92_inb : ∀ (v2781 : BitVec 32) (k0_hw19 : k0_chk19 v2781), ∀ a, (k0_off92 v2781) a + S1x1408x3072.size a ≤ S15x1408x4096.size a := fun v2781 k0_hw19 => k0_hw19.1
theorem k0_off92_wordsfp8e4m3 : ∀ (v2781 : BitVec 32) (k0_hw19 : k0_chk19 v2781), (Rect.unit (s := S15x1408x4096) (k0_off92 v2781) S1x1408x3072.size (k0_off92_inb v2781 k0_hw19)).WholeWords (EltTy.packing .fp8e4m3) := fun v2781 k0_hw19 => k0_hw19.2 (k0_off92_inb v2781 k0_hw19)

@[reducible] def k0_t6_loop (v2772 : BitVec 32) (v2774 : BitVec 32) : Scf.Loop 32 :=
  let c0_i32_2313 : BitVec 32 := 0#32
  let c_m32_i32 : BitVec 32 := 4294967264#32
  let v2775 : BitVec 32 := Scalar.andi v2772 c_m32_i32
  let v2776 : BitVec 32 := Scalar.subi v2774 v2775
  let c128_i32 : BitVec 32 := 128#32
  let v2777 : BitVec 32 := Scalar.addi v2776 c128_i32
  let c1_i32_2307 : BitVec 32 := 1#32
  let v2778 : BitVec 32 := Scalar.subi v2777 c1_i32_2307
  let c7_i32 : BitVec 32 := 7#32
  let v2779 : BitVec 32 := Scalar.shrui v2778 c7_i32
  let v2788 : BitVec 32 := Scalar.subi v2779 c0_i32_2313
  let c1_i32_2315 : BitVec 32 := 1#32
  let v2790 : BitVec 32 := Scalar.divsi v2788 c1_i32_2315
  let v2791 : BitVec 32 := Scalar.muli v2790 c1_i32_2315
  let v2792 : BitVec 32 := Scalar.addi c0_i32_2313 v2791
  let c1_i32_2316 : BitVec 32 := 1#32
  ⟨c0_i32_2313, v2792, c1_i32_2316⟩

def k0_mult3 (v2772 : BitVec 32) (v2774 : BitVec 32) (k0_t6 : Fin (k0_t6_loop v2772 v2774).trips) : BitVec 32 :=
  let c_m32_i32 : BitVec 32 := 4294967264#32
  let v2775 : BitVec 32 := Scalar.andi v2772 c_m32_i32
  let c0_i32_2313 : BitVec 32 := 0#32
  let c1_i32_2316 : BitVec 32 := 1#32
  let arg27 : BitVec 32 := Scf.iv c0_i32_2313 c1_i32_2316 k0_t6
  let c128_i32_2326 : BitVec 32 := 128#32
  let v2810 : BitVec 32 := Scalar.muli arg27 c128_i32_2326
  let v2811 : BitVec 32 := Scalar.addi v2775 v2810
  v2811
def k0_off93 (v2772 : BitVec 32) (v2774 : BitVec 32) (k0_t6 : Fin (k0_t6_loop v2772 v2774).trips) : Fin 2 → Nat :=
  let c_m32_i32 : BitVec 32 := 4294967264#32
  let v2775 : BitVec 32 := Scalar.andi v2772 c_m32_i32
  let c0_i32_2313 : BitVec 32 := 0#32
  let c1_i32_2316 : BitVec 32 := 1#32
  let arg27 : BitVec 32 := Scf.iv c0_i32_2313 c1_i32_2316 k0_t6
  let c128_i32_2326 : BitVec 32 := 128#32
  let v2810 : BitVec 32 := Scalar.muli arg27 c128_i32_2326
  let v2811 : BitVec 32 := Scalar.addi v2775 v2810
  let v2812 : BitVec 32 := v2811
  let v2813 : Index := Scalar.indexCast v2812
  let c0_2327 : Index := 0#32
  ![v2813.toNat, 0]
def k0_off94 (v2772 : BitVec 32) (v2774 : BitVec 32) (k0_t6 : Fin (k0_t6_loop v2772 v2774).trips) : Fin 2 → Nat :=
  let c_m32_i32 : BitVec 32 := 4294967264#32
  let v2775 : BitVec 32 := Scalar.andi v2772 c_m32_i32
  let c0_i32_2313 : BitVec 32 := 0#32
  let c1_i32_2316 : BitVec 32 := 1#32
  let arg27 : BitVec 32 := Scf.iv c0_i32_2313 c1_i32_2316 k0_t6
  let c128_i32_2326 : BitVec 32 := 128#32
  let v2810 : BitVec 32 := Scalar.muli arg27 c128_i32_2326
  let v2811 : BitVec 32 := Scalar.addi v2775 v2810
  let v2812 : BitVec 32 := v2811
  let v2815 : Index := Scalar.indexCast v2812
  let c0_2328 : Index := 0#32
  ![v2815.toNat, 0]
def k0_off95 (v10_0 : BitVec 32) (k0_t5 : Fin (k0_t5_loop v10_0).trips) : Fin 3 → Nat :=
  let c0_i32_2303 : BitVec 32 := 0#32
  let v2766 : BitVec 32 := Scalar.muli c0_i32_2303 v10_0
  let c0_i32_92 : BitVec 32 := 0#32
  let v168 : BitVec 32 := Scalar.subi v10_0 c0_i32_92
  let c1_i32_94 : BitVec 32 := 1#32
  let v170 : BitVec 32 := Scalar.divsi v168 c1_i32_94
  let v171 : BitVec 32 := Scalar.muli v170 c1_i32_94
  let v172 : BitVec 32 := Scalar.addi c0_i32_92 v171
  let c1_i32_96 : BitVec 32 := 1#32
  let arg25 : BitVec 32 := Scf.iv v172 c1_i32_96 k0_t5
  let v2767 : BitVec 32 := Scalar.addi v2766 arg25
  let c6_i32 : BitVec 32 := 6#32
  let v2768 : BitVec 32 := Scalar.remsi v2767 c6_i32
  let v2822 : Index := Scalar.indexCast v2768
  let c0_2329 : Index := 0#32
  let c0_2330 : Index := 0#32
  ![v2822.toNat, 0, 0]
def k0_off96 (v2770 : BitVec 32) : Fin 2 → Nat :=
  let v2826 : Index := Scalar.indexCast v2770
  let c0_2332 : Index := 0#32
  ![v2826.toNat, 0]
def k0_off97 (v2772 : BitVec 32) (v2774 : BitVec 32) (k0_t6 : Fin (k0_t6_loop v2772 v2774).trips) (c0_i32_2333 : BitVec 32) : Fin 2 → Nat :=
  let c_m32_i32 : BitVec 32 := 4294967264#32
  let v2775 : BitVec 32 := Scalar.andi v2772 c_m32_i32
  let c0_i32_2313 : BitVec 32 := 0#32
  let c1_i32_2316 : BitVec 32 := 1#32
  let arg27 : BitVec 32 := Scf.iv c0_i32_2313 c1_i32_2316 k0_t6
  let c128_i32_2326 : BitVec 32 := 128#32
  let v2810 : BitVec 32 := Scalar.muli arg27 c128_i32_2326
  let v2811 : BitVec 32 := Scalar.addi v2775 v2810
  let v2812 : BitVec 32 := v2811
  let v2832 : BitVec 32 := Scalar.addi c0_i32_2333 v2812
  let v2834 : Index := Scalar.indexCast v2832
  let c0_2334 : Index := 0#32
  ![v2834.toNat, 0]
def k0_off98 (v2772 : BitVec 32) (v2774 : BitVec 32) (k0_t6 : Fin (k0_t6_loop v2772 v2774).trips) (c0_i32_2333 : BitVec 32) : Fin 2 → Nat :=
  let c_m32_i32 : BitVec 32 := 4294967264#32
  let v2775 : BitVec 32 := Scalar.andi v2772 c_m32_i32
  let c0_i32_2313 : BitVec 32 := 0#32
  let c1_i32_2316 : BitVec 32 := 1#32
  let arg27 : BitVec 32 := Scf.iv c0_i32_2313 c1_i32_2316 k0_t6
  let c128_i32_2326 : BitVec 32 := 128#32
  let v2810 : BitVec 32 := Scalar.muli arg27 c128_i32_2326
  let v2811 : BitVec 32 := Scalar.addi v2775 v2810
  let v2812 : BitVec 32 := v2811
  let v2832 : BitVec 32 := Scalar.addi c0_i32_2333 v2812
  let c32_i32 : BitVec 32 := 32#32
  let v2840 : BitVec 32 := Scalar.addi v2832 c32_i32
  let v2841 : Index := Scalar.indexCast v2840
  let c0_2335 : Index := 0#32
  ![v2841.toNat, 0]
def k0_off99 (v10_0 : BitVec 32) (k0_t5 : Fin (k0_t5_loop v10_0).trips) : Fin 3 → Nat :=
  let c0_i32_2303 : BitVec 32 := 0#32
  let v2766 : BitVec 32 := Scalar.muli c0_i32_2303 v10_0
  let c0_i32_92 : BitVec 32 := 0#32
  let v168 : BitVec 32 := Scalar.subi v10_0 c0_i32_92
  let c1_i32_94 : BitVec 32 := 1#32
  let v170 : BitVec 32 := Scalar.divsi v168 c1_i32_94
  let v171 : BitVec 32 := Scalar.muli v170 c1_i32_94
  let v172 : BitVec 32 := Scalar.addi c0_i32_92 v171
  let c1_i32_96 : BitVec 32 := 1#32
  let arg25 : BitVec 32 := Scf.iv v172 c1_i32_96 k0_t5
  let v2767 : BitVec 32 := Scalar.addi v2766 arg25
  let c6_i32 : BitVec 32 := 6#32
  let v2768 : BitVec 32 := Scalar.remsi v2767 c6_i32
  let v2950 : Index := Scalar.indexCast v2768
  let c0_2357 : Index := 0#32
  let c1024_2358 : Index := 1024#32
  ![v2950.toNat, 0, 1024]
def k0_off100 (v2770 : BitVec 32) : Fin 2 → Nat :=
  let v2954 : Index := Scalar.indexCast v2770
  let c1024_2360 : Index := 1024#32
  ![v2954.toNat, 1024]
def k0_off101 (v10_0 : BitVec 32) (k0_t5 : Fin (k0_t5_loop v10_0).trips) : Fin 3 → Nat :=
  let c0_i32_2303 : BitVec 32 := 0#32
  let v2766 : BitVec 32 := Scalar.muli c0_i32_2303 v10_0
  let c0_i32_92 : BitVec 32 := 0#32
  let v168 : BitVec 32 := Scalar.subi v10_0 c0_i32_92
  let c1_i32_94 : BitVec 32 := 1#32
  let v170 : BitVec 32 := Scalar.divsi v168 c1_i32_94
  let v171 : BitVec 32 := Scalar.muli v170 c1_i32_94
  let v172 : BitVec 32 := Scalar.addi c0_i32_92 v171
  let c1_i32_96 : BitVec 32 := 1#32
  let arg25 : BitVec 32 := Scf.iv v172 c1_i32_96 k0_t5
  let v2767 : BitVec 32 := Scalar.addi v2766 arg25
  let c6_i32 : BitVec 32 := 6#32
  let v2768 : BitVec 32 := Scalar.remsi v2767 c6_i32
  let v3078 : Index := Scalar.indexCast v2768
  let c0_2385 : Index := 0#32
  let c2048_2386 : Index := 2048#32
  ![v3078.toNat, 0, 2048]
def k0_off102 (v2770 : BitVec 32) : Fin 2 → Nat :=
  let v3082 : Index := Scalar.indexCast v2770
  let c2048_2388 : Index := 2048#32
  ![v3082.toNat, 2048]
@[reducible] def k0_t7_loop (v2772 : BitVec 32) (v2774 : BitVec 32) : Scf.Loop 32 :=
  let c0_i32_2313 : BitVec 32 := 0#32
  let c_m32_i32 : BitVec 32 := 4294967264#32
  let v2775 : BitVec 32 := Scalar.andi v2772 c_m32_i32
  let v2776 : BitVec 32 := Scalar.subi v2774 v2775
  let c128_i32 : BitVec 32 := 128#32
  let v2777 : BitVec 32 := Scalar.addi v2776 c128_i32
  let c1_i32_2307 : BitVec 32 := 1#32
  let v2778 : BitVec 32 := Scalar.subi v2777 c1_i32_2307
  let c7_i32 : BitVec 32 := 7#32
  let v2779 : BitVec 32 := Scalar.shrui v2778 c7_i32
  let v2788 : BitVec 32 := Scalar.subi v2779 c0_i32_2313
  let c1_i32_2315 : BitVec 32 := 1#32
  let v2790 : BitVec 32 := Scalar.divsi v2788 c1_i32_2315
  let v2791 : BitVec 32 := Scalar.muli v2790 c1_i32_2315
  let v2792 : BitVec 32 := Scalar.addi c0_i32_2313 v2791
  let v2789 : BitVec 32 := Scalar.addi c0_i32_2313 v2788
  let c1_i32_2317 : BitVec 32 := 1#32
  ⟨v2792, v2789, c1_i32_2317⟩
def k0_mult4 (v2772 : BitVec 32) (v2774 : BitVec 32) (k0_t7 : Fin (k0_t7_loop v2772 v2774).trips) : BitVec 32 :=
  let c_m32_i32 : BitVec 32 := 4294967264#32
  let v2775 : BitVec 32 := Scalar.andi v2772 c_m32_i32
  let c0_i32_2313 : BitVec 32 := 0#32
  let v2776 : BitVec 32 := Scalar.subi v2774 v2775
  let c128_i32 : BitVec 32 := 128#32
  let v2777 : BitVec 32 := Scalar.addi v2776 c128_i32
  let c1_i32_2307 : BitVec 32 := 1#32
  let v2778 : BitVec 32 := Scalar.subi v2777 c1_i32_2307
  let c7_i32 : BitVec 32 := 7#32
  let v2779 : BitVec 32 := Scalar.shrui v2778 c7_i32
  let v2788 : BitVec 32 := Scalar.subi v2779 c0_i32_2313
  let c1_i32_2315 : BitVec 32 := 1#32
  let v2790 : BitVec 32 := Scalar.divsi v2788 c1_i32_2315
  let v2791 : BitVec 32 := Scalar.muli v2790 c1_i32_2315
  let v2792 : BitVec 32 := Scalar.addi c0_i32_2313 v2791
  let c1_i32_2317 : BitVec 32 := 1#32
  let arg27 : BitVec 32 := Scf.iv v2792 c1_i32_2317 k0_t7
  let c128_i32_2326 : BitVec 32 := 128#32
  let v2810 : BitVec 32 := Scalar.muli arg27 c128_i32_2326
  let v2811 : BitVec 32 := Scalar.addi v2775 v2810
  v2811
def k0_off103 (v2772 : BitVec 32) (v2774 : BitVec 32) (k0_t7 : Fin (k0_t7_loop v2772 v2774).trips) : Fin 2 → Nat :=
  let c_m32_i32 : BitVec 32 := 4294967264#32
  let v2775 : BitVec 32 := Scalar.andi v2772 c_m32_i32
  let c0_i32_2313 : BitVec 32 := 0#32
  let v2776 : BitVec 32 := Scalar.subi v2774 v2775
  let c128_i32 : BitVec 32 := 128#32
  let v2777 : BitVec 32 := Scalar.addi v2776 c128_i32
  let c1_i32_2307 : BitVec 32 := 1#32
  let v2778 : BitVec 32 := Scalar.subi v2777 c1_i32_2307
  let c7_i32 : BitVec 32 := 7#32
  let v2779 : BitVec 32 := Scalar.shrui v2778 c7_i32
  let v2788 : BitVec 32 := Scalar.subi v2779 c0_i32_2313
  let c1_i32_2315 : BitVec 32 := 1#32
  let v2790 : BitVec 32 := Scalar.divsi v2788 c1_i32_2315
  let v2791 : BitVec 32 := Scalar.muli v2790 c1_i32_2315
  let v2792 : BitVec 32 := Scalar.addi c0_i32_2313 v2791
  let c1_i32_2317 : BitVec 32 := 1#32
  let arg27 : BitVec 32 := Scf.iv v2792 c1_i32_2317 k0_t7
  let c128_i32_2326 : BitVec 32 := 128#32
  let v2810 : BitVec 32 := Scalar.muli arg27 c128_i32_2326
  let v2811 : BitVec 32 := Scalar.addi v2775 v2810
  let v2812 : BitVec 32 := v2811
  let v2813 : Index := Scalar.indexCast v2812
  let c0_2327 : Index := 0#32
  ![v2813.toNat, 0]
def k0_off104 (v2772 : BitVec 32) (v2774 : BitVec 32) (k0_t7 : Fin (k0_t7_loop v2772 v2774).trips) : Fin 2 → Nat :=
  let c_m32_i32 : BitVec 32 := 4294967264#32
  let v2775 : BitVec 32 := Scalar.andi v2772 c_m32_i32
  let c0_i32_2313 : BitVec 32 := 0#32
  let v2776 : BitVec 32 := Scalar.subi v2774 v2775
  let c128_i32 : BitVec 32 := 128#32
  let v2777 : BitVec 32 := Scalar.addi v2776 c128_i32
  let c1_i32_2307 : BitVec 32 := 1#32
  let v2778 : BitVec 32 := Scalar.subi v2777 c1_i32_2307
  let c7_i32 : BitVec 32 := 7#32
  let v2779 : BitVec 32 := Scalar.shrui v2778 c7_i32
  let v2788 : BitVec 32 := Scalar.subi v2779 c0_i32_2313
  let c1_i32_2315 : BitVec 32 := 1#32
  let v2790 : BitVec 32 := Scalar.divsi v2788 c1_i32_2315
  let v2791 : BitVec 32 := Scalar.muli v2790 c1_i32_2315
  let v2792 : BitVec 32 := Scalar.addi c0_i32_2313 v2791
  let c1_i32_2317 : BitVec 32 := 1#32
  let arg27 : BitVec 32 := Scf.iv v2792 c1_i32_2317 k0_t7
  let c128_i32_2326 : BitVec 32 := 128#32
  let v2810 : BitVec 32 := Scalar.muli arg27 c128_i32_2326
  let v2811 : BitVec 32 := Scalar.addi v2775 v2810
  let v2812 : BitVec 32 := v2811
  let v2815 : Index := Scalar.indexCast v2812
  let c0_2328 : Index := 0#32
  ![v2815.toNat, 0]
def k0_off105 (v10_0 : BitVec 32) (k0_t5 : Fin (k0_t5_loop v10_0).trips) : Fin 3 → Nat :=
  let c0_i32_2303 : BitVec 32 := 0#32
  let v2766 : BitVec 32 := Scalar.muli c0_i32_2303 v10_0
  let c0_i32_92 : BitVec 32 := 0#32
  let v168 : BitVec 32 := Scalar.subi v10_0 c0_i32_92
  let c1_i32_94 : BitVec 32 := 1#32
  let v170 : BitVec 32 := Scalar.divsi v168 c1_i32_94
  let v171 : BitVec 32 := Scalar.muli v170 c1_i32_94
  let v172 : BitVec 32 := Scalar.addi c0_i32_92 v171
  let c1_i32_96 : BitVec 32 := 1#32
  let arg25 : BitVec 32 := Scf.iv v172 c1_i32_96 k0_t5
  let v2767 : BitVec 32 := Scalar.addi v2766 arg25
  let c6_i32 : BitVec 32 := 6#32
  let v2768 : BitVec 32 := Scalar.remsi v2767 c6_i32
  let v2822 : Index := Scalar.indexCast v2768
  let c0_2329 : Index := 0#32
  let c0_2330 : Index := 0#32
  ![v2822.toNat, 0, 0]
def k0_off106 (v2770 : BitVec 32) : Fin 2 → Nat :=
  let v2826 : Index := Scalar.indexCast v2770
  let c0_2332 : Index := 0#32
  ![v2826.toNat, 0]
def k0_off107 (v2772 : BitVec 32) (v2774 : BitVec 32) (k0_t7 : Fin (k0_t7_loop v2772 v2774).trips) (c0_i32_2333 : BitVec 32) : Fin 2 → Nat :=
  let c_m32_i32 : BitVec 32 := 4294967264#32
  let v2775 : BitVec 32 := Scalar.andi v2772 c_m32_i32
  let c0_i32_2313 : BitVec 32 := 0#32
  let v2776 : BitVec 32 := Scalar.subi v2774 v2775
  let c128_i32 : BitVec 32 := 128#32
  let v2777 : BitVec 32 := Scalar.addi v2776 c128_i32
  let c1_i32_2307 : BitVec 32 := 1#32
  let v2778 : BitVec 32 := Scalar.subi v2777 c1_i32_2307
  let c7_i32 : BitVec 32 := 7#32
  let v2779 : BitVec 32 := Scalar.shrui v2778 c7_i32
  let v2788 : BitVec 32 := Scalar.subi v2779 c0_i32_2313
  let c1_i32_2315 : BitVec 32 := 1#32
  let v2790 : BitVec 32 := Scalar.divsi v2788 c1_i32_2315
  let v2791 : BitVec 32 := Scalar.muli v2790 c1_i32_2315
  let v2792 : BitVec 32 := Scalar.addi c0_i32_2313 v2791
  let c1_i32_2317 : BitVec 32 := 1#32
  let arg27 : BitVec 32 := Scf.iv v2792 c1_i32_2317 k0_t7
  let c128_i32_2326 : BitVec 32 := 128#32
  let v2810 : BitVec 32 := Scalar.muli arg27 c128_i32_2326
  let v2811 : BitVec 32 := Scalar.addi v2775 v2810
  let v2812 : BitVec 32 := v2811
  let v2832 : BitVec 32 := Scalar.addi c0_i32_2333 v2812
  let v2834 : Index := Scalar.indexCast v2832
  let c0_2334 : Index := 0#32
  ![v2834.toNat, 0]
def k0_off108 (v2772 : BitVec 32) (v2774 : BitVec 32) (k0_t7 : Fin (k0_t7_loop v2772 v2774).trips) (c0_i32_2333 : BitVec 32) : Fin 2 → Nat :=
  let c_m32_i32 : BitVec 32 := 4294967264#32
  let v2775 : BitVec 32 := Scalar.andi v2772 c_m32_i32
  let c0_i32_2313 : BitVec 32 := 0#32
  let v2776 : BitVec 32 := Scalar.subi v2774 v2775
  let c128_i32 : BitVec 32 := 128#32
  let v2777 : BitVec 32 := Scalar.addi v2776 c128_i32
  let c1_i32_2307 : BitVec 32 := 1#32
  let v2778 : BitVec 32 := Scalar.subi v2777 c1_i32_2307
  let c7_i32 : BitVec 32 := 7#32
  let v2779 : BitVec 32 := Scalar.shrui v2778 c7_i32
  let v2788 : BitVec 32 := Scalar.subi v2779 c0_i32_2313
  let c1_i32_2315 : BitVec 32 := 1#32
  let v2790 : BitVec 32 := Scalar.divsi v2788 c1_i32_2315
  let v2791 : BitVec 32 := Scalar.muli v2790 c1_i32_2315
  let v2792 : BitVec 32 := Scalar.addi c0_i32_2313 v2791
  let c1_i32_2317 : BitVec 32 := 1#32
  let arg27 : BitVec 32 := Scf.iv v2792 c1_i32_2317 k0_t7
  let c128_i32_2326 : BitVec 32 := 128#32
  let v2810 : BitVec 32 := Scalar.muli arg27 c128_i32_2326
  let v2811 : BitVec 32 := Scalar.addi v2775 v2810
  let v2812 : BitVec 32 := v2811
  let v2832 : BitVec 32 := Scalar.addi c0_i32_2333 v2812
  let c32_i32 : BitVec 32 := 32#32
  let v2840 : BitVec 32 := Scalar.addi v2832 c32_i32
  let v2841 : Index := Scalar.indexCast v2840
  let c0_2335 : Index := 0#32
  ![v2841.toNat, 0]
def k0_off109 (v10_0 : BitVec 32) (k0_t5 : Fin (k0_t5_loop v10_0).trips) : Fin 3 → Nat :=
  let c0_i32_2303 : BitVec 32 := 0#32
  let v2766 : BitVec 32 := Scalar.muli c0_i32_2303 v10_0
  let c0_i32_92 : BitVec 32 := 0#32
  let v168 : BitVec 32 := Scalar.subi v10_0 c0_i32_92
  let c1_i32_94 : BitVec 32 := 1#32
  let v170 : BitVec 32 := Scalar.divsi v168 c1_i32_94
  let v171 : BitVec 32 := Scalar.muli v170 c1_i32_94
  let v172 : BitVec 32 := Scalar.addi c0_i32_92 v171
  let c1_i32_96 : BitVec 32 := 1#32
  let arg25 : BitVec 32 := Scf.iv v172 c1_i32_96 k0_t5
  let v2767 : BitVec 32 := Scalar.addi v2766 arg25
  let c6_i32 : BitVec 32 := 6#32
  let v2768 : BitVec 32 := Scalar.remsi v2767 c6_i32
  let v2950 : Index := Scalar.indexCast v2768
  let c0_2357 : Index := 0#32
  let c1024_2358 : Index := 1024#32
  ![v2950.toNat, 0, 1024]
def k0_off110 (v2770 : BitVec 32) : Fin 2 → Nat :=
  let v2954 : Index := Scalar.indexCast v2770
  let c1024_2360 : Index := 1024#32
  ![v2954.toNat, 1024]
def k0_off111 (v10_0 : BitVec 32) (k0_t5 : Fin (k0_t5_loop v10_0).trips) : Fin 3 → Nat :=
  let c0_i32_2303 : BitVec 32 := 0#32
  let v2766 : BitVec 32 := Scalar.muli c0_i32_2303 v10_0
  let c0_i32_92 : BitVec 32 := 0#32
  let v168 : BitVec 32 := Scalar.subi v10_0 c0_i32_92
  let c1_i32_94 : BitVec 32 := 1#32
  let v170 : BitVec 32 := Scalar.divsi v168 c1_i32_94
  let v171 : BitVec 32 := Scalar.muli v170 c1_i32_94
  let v172 : BitVec 32 := Scalar.addi c0_i32_92 v171
  let c1_i32_96 : BitVec 32 := 1#32
  let arg25 : BitVec 32 := Scf.iv v172 c1_i32_96 k0_t5
  let v2767 : BitVec 32 := Scalar.addi v2766 arg25
  let c6_i32 : BitVec 32 := 6#32
  let v2768 : BitVec 32 := Scalar.remsi v2767 c6_i32
  let v3078 : Index := Scalar.indexCast v2768
  let c0_2385 : Index := 0#32
  let c2048_2386 : Index := 2048#32
  ![v3078.toNat, 0, 2048]
def k0_off112 (v2770 : BitVec 32) : Fin 2 → Nat :=
  let v3082 : Index := Scalar.indexCast v2770
  let c2048_2388 : Index := 2048#32
  ![v3082.toNat, 2048]

def k0_chk20 (v10_0 : BitVec 32) (k0_t5 : Fin (k0_t5_loop v10_0).trips) (v2770 : BitVec 32) (v2772 : BitVec 32) (v2774 : BitVec 32) : Prop :=
  ((k0_t6_loop v2772 v2774).OK) ∧
  (∀ k0_t6 : Fin (k0_t6_loop v2772 v2774).trips, 32 ∣ (k0_mult3 v2772 v2774 k0_t6).toNat) ∧
  (∀ k0_t6 : Fin (k0_t6_loop v2772 v2774).trips, ∀ a, (k0_off93 v2772 v2774 k0_t6) a + S128x1408.size a ≤ S1120x1408.size a) ∧
  (∀ k0_t6 : Fin (k0_t6_loop v2772 v2774).trips, ∀ a, (k0_off94 v2772 v2774 k0_t6) a + S128x128.size a ≤ S1120x128.size a) ∧
  (∀ k0_t6 : Fin (k0_t6_loop v2772 v2774).trips, ∀ a, (k0_off95 v10_0 k0_t5) a + S1x1408x1024.size a ≤ S6x1408x3072.size a) ∧
  (∀ k0_t6 : Fin (k0_t6_loop v2772 v2774).trips, ∀ a, (k0_off96 v2770) a + S1x1024.size a ≤ S15x4096.size a) ∧
  (∀ k0_t6 : Fin (k0_t6_loop v2772 v2774).trips, ∀ (r : Fin 24), ∀ a, (k0_off97 v2772 v2774 k0_t6 (BitVec.ofNat 32 (1121 * r.val))) a + S32x128.size a ≤ S26904x128.size a) ∧
  (∀ k0_t6 : Fin (k0_t6_loop v2772 v2774).trips, ∀ (r : Fin 24), ∀ a, (k0_off98 v2772 v2774 k0_t6 (BitVec.ofNat 32 (1121 * r.val))) a + S96x128.size a ≤ S26904x128.size a) ∧
  (∀ k0_t6 : Fin (k0_t6_loop v2772 v2774).trips, ∀ a, (k0_off99 v10_0 k0_t5) a + S1x1408x1024.size a ≤ S6x1408x3072.size a) ∧
  (∀ k0_t6 : Fin (k0_t6_loop v2772 v2774).trips, ∀ a, (k0_off100 v2770) a + S1x1024.size a ≤ S15x4096.size a) ∧
  (∀ k0_t6 : Fin (k0_t6_loop v2772 v2774).trips, ∀ a, (k0_off101 v10_0 k0_t5) a + S1x1408x1024.size a ≤ S6x1408x3072.size a) ∧
  (∀ k0_t6 : Fin (k0_t6_loop v2772 v2774).trips, ∀ a, (k0_off102 v2770) a + S1x1024.size a ≤ S15x4096.size a) ∧
  ((k0_t7_loop v2772 v2774).OK) ∧
  (∀ k0_t7 : Fin (k0_t7_loop v2772 v2774).trips, 32 ∣ (k0_mult4 v2772 v2774 k0_t7).toNat) ∧
  (∀ k0_t7 : Fin (k0_t7_loop v2772 v2774).trips, ∀ a, (k0_off103 v2772 v2774 k0_t7) a + S128x1408.size a ≤ S1120x1408.size a) ∧
  (∀ k0_t7 : Fin (k0_t7_loop v2772 v2774).trips, ∀ a, (k0_off104 v2772 v2774 k0_t7) a + S128x128.size a ≤ S1120x128.size a) ∧
  (∀ k0_t7 : Fin (k0_t7_loop v2772 v2774).trips, ∀ a, (k0_off105 v10_0 k0_t5) a + S1x1408x1024.size a ≤ S6x1408x3072.size a) ∧
  (∀ k0_t7 : Fin (k0_t7_loop v2772 v2774).trips, ∀ a, (k0_off106 v2770) a + S1x1024.size a ≤ S15x4096.size a) ∧
  (∀ k0_t7 : Fin (k0_t7_loop v2772 v2774).trips, ∀ (r : Fin 24), ∀ a, (k0_off107 v2772 v2774 k0_t7 (BitVec.ofNat 32 (1121 * r.val))) a + S32x128.size a ≤ S26904x128.size a) ∧
  (∀ k0_t7 : Fin (k0_t7_loop v2772 v2774).trips, ∀ (r : Fin 24), ∀ a, (k0_off108 v2772 v2774 k0_t7 (BitVec.ofNat 32 (1121 * r.val))) a + S96x128.size a ≤ S26904x128.size a) ∧
  (∀ k0_t7 : Fin (k0_t7_loop v2772 v2774).trips, ∀ a, (k0_off109 v10_0 k0_t5) a + S1x1408x1024.size a ≤ S6x1408x3072.size a) ∧
  (∀ k0_t7 : Fin (k0_t7_loop v2772 v2774).trips, ∀ a, (k0_off110 v2770) a + S1x1024.size a ≤ S15x4096.size a) ∧
  (∀ k0_t7 : Fin (k0_t7_loop v2772 v2774).trips, ∀ a, (k0_off111 v10_0 k0_t5) a + S1x1408x1024.size a ≤ S6x1408x3072.size a) ∧
  (∀ k0_t7 : Fin (k0_t7_loop v2772 v2774).trips, ∀ a, (k0_off112 v2770) a + S1x1024.size a ≤ S15x4096.size a)
theorem k0_t6_ok : ∀ (v10_0 : BitVec 32) (k0_t5 : Fin (k0_t5_loop v10_0).trips) (v2770 : BitVec 32) (v2772 : BitVec 32) (v2774 : BitVec 32) (k0_hw20 : k0_chk20 v10_0 k0_t5 v2770 v2772 v2774), (k0_t6_loop v2772 v2774).OK := fun v10_0 k0_t5 v2770 v2772 v2774 k0_hw20 => k0_hw20.1
theorem k0_mult3_dvd : ∀ (v10_0 : BitVec 32) (k0_t5 : Fin (k0_t5_loop v10_0).trips) (v2770 : BitVec 32) (v2772 : BitVec 32) (v2774 : BitVec 32) (k0_hw20 : k0_chk20 v10_0 k0_t5 v2770 v2772 v2774) (k0_t6 : Fin (k0_t6_loop v2772 v2774).trips), 32 ∣ (k0_mult3 v2772 v2774 k0_t6).toNat := fun v10_0 k0_t5 v2770 v2772 v2774 k0_hw20 k0_t6 => k0_hw20.2.1 k0_t6
theorem k0_off93_inb : ∀ (v10_0 : BitVec 32) (k0_t5 : Fin (k0_t5_loop v10_0).trips) (v2770 : BitVec 32) (v2772 : BitVec 32) (v2774 : BitVec 32) (k0_hw20 : k0_chk20 v10_0 k0_t5 v2770 v2772 v2774) (k0_t6 : Fin (k0_t6_loop v2772 v2774).trips), ∀ a, (k0_off93 v2772 v2774 k0_t6) a + S128x1408.size a ≤ S1120x1408.size a := fun v10_0 k0_t5 v2770 v2772 v2774 k0_hw20 k0_t6 => k0_hw20.2.2.1 k0_t6
theorem k0_off94_inb : ∀ (v10_0 : BitVec 32) (k0_t5 : Fin (k0_t5_loop v10_0).trips) (v2770 : BitVec 32) (v2772 : BitVec 32) (v2774 : BitVec 32) (k0_hw20 : k0_chk20 v10_0 k0_t5 v2770 v2772 v2774) (k0_t6 : Fin (k0_t6_loop v2772 v2774).trips), ∀ a, (k0_off94 v2772 v2774 k0_t6) a + S128x128.size a ≤ S1120x128.size a := fun v10_0 k0_t5 v2770 v2772 v2774 k0_hw20 k0_t6 => k0_hw20.2.2.2.1 k0_t6
theorem k0_off95_inb : ∀ (v10_0 : BitVec 32) (k0_t5 : Fin (k0_t5_loop v10_0).trips) (v2770 : BitVec 32) (v2772 : BitVec 32) (v2774 : BitVec 32) (k0_hw20 : k0_chk20 v10_0 k0_t5 v2770 v2772 v2774) (k0_t6 : Fin (k0_t6_loop v2772 v2774).trips), ∀ a, (k0_off95 v10_0 k0_t5) a + S1x1408x1024.size a ≤ S6x1408x3072.size a := fun v10_0 k0_t5 v2770 v2772 v2774 k0_hw20 k0_t6 => k0_hw20.2.2.2.2.1 k0_t6
theorem k0_off96_inb : ∀ (v10_0 : BitVec 32) (k0_t5 : Fin (k0_t5_loop v10_0).trips) (v2770 : BitVec 32) (v2772 : BitVec 32) (v2774 : BitVec 32) (k0_hw20 : k0_chk20 v10_0 k0_t5 v2770 v2772 v2774) (k0_t6 : Fin (k0_t6_loop v2772 v2774).trips), ∀ a, (k0_off96 v2770) a + S1x1024.size a ≤ S15x4096.size a := fun v10_0 k0_t5 v2770 v2772 v2774 k0_hw20 k0_t6 => k0_hw20.2.2.2.2.2.1 k0_t6
theorem k0_off97_inb : ∀ (v10_0 : BitVec 32) (k0_t5 : Fin (k0_t5_loop v10_0).trips) (v2770 : BitVec 32) (v2772 : BitVec 32) (v2774 : BitVec 32) (k0_hw20 : k0_chk20 v10_0 k0_t5 v2770 v2772 v2774) (k0_t6 : Fin (k0_t6_loop v2772 v2774).trips), ∀ (r : Fin 24), ∀ a, (k0_off97 v2772 v2774 k0_t6 (BitVec.ofNat 32 (1121 * r.val))) a + S32x128.size a ≤ S26904x128.size a := fun v10_0 k0_t5 v2770 v2772 v2774 k0_hw20 k0_t6 r => k0_hw20.2.2.2.2.2.2.1 k0_t6 r
theorem k0_off98_inb : ∀ (v10_0 : BitVec 32) (k0_t5 : Fin (k0_t5_loop v10_0).trips) (v2770 : BitVec 32) (v2772 : BitVec 32) (v2774 : BitVec 32) (k0_hw20 : k0_chk20 v10_0 k0_t5 v2770 v2772 v2774) (k0_t6 : Fin (k0_t6_loop v2772 v2774).trips), ∀ (r : Fin 24), ∀ a, (k0_off98 v2772 v2774 k0_t6 (BitVec.ofNat 32 (1121 * r.val))) a + S96x128.size a ≤ S26904x128.size a := fun v10_0 k0_t5 v2770 v2772 v2774 k0_hw20 k0_t6 r => k0_hw20.2.2.2.2.2.2.2.1 k0_t6 r
theorem k0_off99_inb : ∀ (v10_0 : BitVec 32) (k0_t5 : Fin (k0_t5_loop v10_0).trips) (v2770 : BitVec 32) (v2772 : BitVec 32) (v2774 : BitVec 32) (k0_hw20 : k0_chk20 v10_0 k0_t5 v2770 v2772 v2774) (k0_t6 : Fin (k0_t6_loop v2772 v2774).trips), ∀ a, (k0_off99 v10_0 k0_t5) a + S1x1408x1024.size a ≤ S6x1408x3072.size a := fun v10_0 k0_t5 v2770 v2772 v2774 k0_hw20 k0_t6 => k0_hw20.2.2.2.2.2.2.2.2.1 k0_t6
theorem k0_off100_inb : ∀ (v10_0 : BitVec 32) (k0_t5 : Fin (k0_t5_loop v10_0).trips) (v2770 : BitVec 32) (v2772 : BitVec 32) (v2774 : BitVec 32) (k0_hw20 : k0_chk20 v10_0 k0_t5 v2770 v2772 v2774) (k0_t6 : Fin (k0_t6_loop v2772 v2774).trips), ∀ a, (k0_off100 v2770) a + S1x1024.size a ≤ S15x4096.size a := fun v10_0 k0_t5 v2770 v2772 v2774 k0_hw20 k0_t6 => k0_hw20.2.2.2.2.2.2.2.2.2.1 k0_t6
theorem k0_off101_inb : ∀ (v10_0 : BitVec 32) (k0_t5 : Fin (k0_t5_loop v10_0).trips) (v2770 : BitVec 32) (v2772 : BitVec 32) (v2774 : BitVec 32) (k0_hw20 : k0_chk20 v10_0 k0_t5 v2770 v2772 v2774) (k0_t6 : Fin (k0_t6_loop v2772 v2774).trips), ∀ a, (k0_off101 v10_0 k0_t5) a + S1x1408x1024.size a ≤ S6x1408x3072.size a := fun v10_0 k0_t5 v2770 v2772 v2774 k0_hw20 k0_t6 => k0_hw20.2.2.2.2.2.2.2.2.2.2.1 k0_t6
theorem k0_off102_inb : ∀ (v10_0 : BitVec 32) (k0_t5 : Fin (k0_t5_loop v10_0).trips) (v2770 : BitVec 32) (v2772 : BitVec 32) (v2774 : BitVec 32) (k0_hw20 : k0_chk20 v10_0 k0_t5 v2770 v2772 v2774) (k0_t6 : Fin (k0_t6_loop v2772 v2774).trips), ∀ a, (k0_off102 v2770) a + S1x1024.size a ≤ S15x4096.size a := fun v10_0 k0_t5 v2770 v2772 v2774 k0_hw20 k0_t6 => k0_hw20.2.2.2.2.2.2.2.2.2.2.2.1 k0_t6
theorem k0_t7_ok : ∀ (v10_0 : BitVec 32) (k0_t5 : Fin (k0_t5_loop v10_0).trips) (v2770 : BitVec 32) (v2772 : BitVec 32) (v2774 : BitVec 32) (k0_hw20 : k0_chk20 v10_0 k0_t5 v2770 v2772 v2774), (k0_t7_loop v2772 v2774).OK := fun v10_0 k0_t5 v2770 v2772 v2774 k0_hw20 => k0_hw20.2.2.2.2.2.2.2.2.2.2.2.2.1
theorem k0_mult4_dvd : ∀ (v10_0 : BitVec 32) (k0_t5 : Fin (k0_t5_loop v10_0).trips) (v2770 : BitVec 32) (v2772 : BitVec 32) (v2774 : BitVec 32) (k0_hw20 : k0_chk20 v10_0 k0_t5 v2770 v2772 v2774) (k0_t7 : Fin (k0_t7_loop v2772 v2774).trips), 32 ∣ (k0_mult4 v2772 v2774 k0_t7).toNat := fun v10_0 k0_t5 v2770 v2772 v2774 k0_hw20 k0_t7 => k0_hw20.2.2.2.2.2.2.2.2.2.2.2.2.2.1 k0_t7
theorem k0_off103_inb : ∀ (v10_0 : BitVec 32) (k0_t5 : Fin (k0_t5_loop v10_0).trips) (v2770 : BitVec 32) (v2772 : BitVec 32) (v2774 : BitVec 32) (k0_hw20 : k0_chk20 v10_0 k0_t5 v2770 v2772 v2774) (k0_t7 : Fin (k0_t7_loop v2772 v2774).trips), ∀ a, (k0_off103 v2772 v2774 k0_t7) a + S128x1408.size a ≤ S1120x1408.size a := fun v10_0 k0_t5 v2770 v2772 v2774 k0_hw20 k0_t7 => k0_hw20.2.2.2.2.2.2.2.2.2.2.2.2.2.2.1 k0_t7
theorem k0_off104_inb : ∀ (v10_0 : BitVec 32) (k0_t5 : Fin (k0_t5_loop v10_0).trips) (v2770 : BitVec 32) (v2772 : BitVec 32) (v2774 : BitVec 32) (k0_hw20 : k0_chk20 v10_0 k0_t5 v2770 v2772 v2774) (k0_t7 : Fin (k0_t7_loop v2772 v2774).trips), ∀ a, (k0_off104 v2772 v2774 k0_t7) a + S128x128.size a ≤ S1120x128.size a := fun v10_0 k0_t5 v2770 v2772 v2774 k0_hw20 k0_t7 => k0_hw20.2.2.2.2.2.2.2.2.2.2.2.2.2.2.2.1 k0_t7
theorem k0_off105_inb : ∀ (v10_0 : BitVec 32) (k0_t5 : Fin (k0_t5_loop v10_0).trips) (v2770 : BitVec 32) (v2772 : BitVec 32) (v2774 : BitVec 32) (k0_hw20 : k0_chk20 v10_0 k0_t5 v2770 v2772 v2774) (k0_t7 : Fin (k0_t7_loop v2772 v2774).trips), ∀ a, (k0_off105 v10_0 k0_t5) a + S1x1408x1024.size a ≤ S6x1408x3072.size a := fun v10_0 k0_t5 v2770 v2772 v2774 k0_hw20 k0_t7 => k0_hw20.2.2.2.2.2.2.2.2.2.2.2.2.2.2.2.2.1 k0_t7
theorem k0_off106_inb : ∀ (v10_0 : BitVec 32) (k0_t5 : Fin (k0_t5_loop v10_0).trips) (v2770 : BitVec 32) (v2772 : BitVec 32) (v2774 : BitVec 32) (k0_hw20 : k0_chk20 v10_0 k0_t5 v2770 v2772 v2774) (k0_t7 : Fin (k0_t7_loop v2772 v2774).trips), ∀ a, (k0_off106 v2770) a + S1x1024.size a ≤ S15x4096.size a := fun v10_0 k0_t5 v2770 v2772 v2774 k0_hw20 k0_t7 => k0_hw20.2.2.2.2.2.2.2.2.2.2.2.2.2.2.2.2.2.1 k0_t7
theorem k0_off107_inb : ∀ (v10_0 : BitVec 32) (k0_t5 : Fin (k0_t5_loop v10_0).trips) (v2770 : BitVec 32) (v2772 : BitVec 32) (v2774 : BitVec 32) (k0_hw20 : k0_chk20 v10_0 k0_t5 v2770 v2772 v2774) (k0_t7 : Fin (k0_t7_loop v2772 v2774).trips), ∀ (r : Fin 24), ∀ a, (k0_off107 v2772 v2774 k0_t7 (BitVec.ofNat 32 (1121 * r.val))) a + S32x128.size a ≤ S26904x128.size a := fun v10_0 k0_t5 v2770 v2772 v2774 k0_hw20 k0_t7 r => k0_hw20.2.2.2.2.2.2.2.2.2.2.2.2.2.2.2.2.2.2.1 k0_t7 r
theorem k0_off108_inb : ∀ (v10_0 : BitVec 32) (k0_t5 : Fin (k0_t5_loop v10_0).trips) (v2770 : BitVec 32) (v2772 : BitVec 32) (v2774 : BitVec 32) (k0_hw20 : k0_chk20 v10_0 k0_t5 v2770 v2772 v2774) (k0_t7 : Fin (k0_t7_loop v2772 v2774).trips), ∀ (r : Fin 24), ∀ a, (k0_off108 v2772 v2774 k0_t7 (BitVec.ofNat 32 (1121 * r.val))) a + S96x128.size a ≤ S26904x128.size a := fun v10_0 k0_t5 v2770 v2772 v2774 k0_hw20 k0_t7 r => k0_hw20.2.2.2.2.2.2.2.2.2.2.2.2.2.2.2.2.2.2.2.1 k0_t7 r
theorem k0_off109_inb : ∀ (v10_0 : BitVec 32) (k0_t5 : Fin (k0_t5_loop v10_0).trips) (v2770 : BitVec 32) (v2772 : BitVec 32) (v2774 : BitVec 32) (k0_hw20 : k0_chk20 v10_0 k0_t5 v2770 v2772 v2774) (k0_t7 : Fin (k0_t7_loop v2772 v2774).trips), ∀ a, (k0_off109 v10_0 k0_t5) a + S1x1408x1024.size a ≤ S6x1408x3072.size a := fun v10_0 k0_t5 v2770 v2772 v2774 k0_hw20 k0_t7 => k0_hw20.2.2.2.2.2.2.2.2.2.2.2.2.2.2.2.2.2.2.2.2.1 k0_t7
theorem k0_off110_inb : ∀ (v10_0 : BitVec 32) (k0_t5 : Fin (k0_t5_loop v10_0).trips) (v2770 : BitVec 32) (v2772 : BitVec 32) (v2774 : BitVec 32) (k0_hw20 : k0_chk20 v10_0 k0_t5 v2770 v2772 v2774) (k0_t7 : Fin (k0_t7_loop v2772 v2774).trips), ∀ a, (k0_off110 v2770) a + S1x1024.size a ≤ S15x4096.size a := fun v10_0 k0_t5 v2770 v2772 v2774 k0_hw20 k0_t7 => k0_hw20.2.2.2.2.2.2.2.2.2.2.2.2.2.2.2.2.2.2.2.2.2.1 k0_t7
theorem k0_off111_inb : ∀ (v10_0 : BitVec 32) (k0_t5 : Fin (k0_t5_loop v10_0).trips) (v2770 : BitVec 32) (v2772 : BitVec 32) (v2774 : BitVec 32) (k0_hw20 : k0_chk20 v10_0 k0_t5 v2770 v2772 v2774) (k0_t7 : Fin (k0_t7_loop v2772 v2774).trips), ∀ a, (k0_off111 v10_0 k0_t5) a + S1x1408x1024.size a ≤ S6x1408x3072.size a := fun v10_0 k0_t5 v2770 v2772 v2774 k0_hw20 k0_t7 => k0_hw20.2.2.2.2.2.2.2.2.2.2.2.2.2.2.2.2.2.2.2.2.2.2.1 k0_t7
theorem k0_off112_inb : ∀ (v10_0 : BitVec 32) (k0_t5 : Fin (k0_t5_loop v10_0).trips) (v2770 : BitVec 32) (v2772 : BitVec 32) (v2774 : BitVec 32) (k0_hw20 : k0_chk20 v10_0 k0_t5 v2770 v2772 v2774) (k0_t7 : Fin (k0_t7_loop v2772 v2774).trips), ∀ a, (k0_off112 v2770) a + S1x1024.size a ≤ S15x4096.size a := fun v10_0 k0_t5 v2770 v2772 v2774 k0_hw20 k0_t7 => k0_hw20.2.2.2.2.2.2.2.2.2.2.2.2.2.2.2.2.2.2.2.2.2.2.2 k0_t7

def k0_off113 (v10_0 : BitVec 32) (k0_t5 : Fin (k0_t5_loop v10_0).trips) : Fin 2 → Nat :=
  let c0_2327 : Index := 0#32
  let c0_i32_2303 : BitVec 32 := 0#32
  let v2766 : BitVec 32 := Scalar.muli c0_i32_2303 v10_0
  let c0_i32_92 : BitVec 32 := 0#32
  let v168 : BitVec 32 := Scalar.subi v10_0 c0_i32_92
  let c1_i32_94 : BitVec 32 := 1#32
  let v170 : BitVec 32 := Scalar.divsi v168 c1_i32_94
  let v171 : BitVec 32 := Scalar.muli v170 c1_i32_94
  let v172 : BitVec 32 := Scalar.addi c0_i32_92 v171
  let c1_i32_96 : BitVec 32 := 1#32
  let arg25 : BitVec 32 := Scf.iv v172 c1_i32_96 k0_t5
  let v2767 : BitVec 32 := Scalar.addi v2766 arg25
  let c6_i32_2318 : BitVec 32 := 6#32
  let v2795 : BitVec 32 := Scalar.addi v2767 c6_i32_2318
  let c0_i32_2319 : BitVec 32 := 0#32
  let v2796 : BitVec 32 := Scalar.muli c0_i32_2319 v10_0
  let v2797 : BitVec 32 := Scalar.subi v2795 v2796
  let v2811 : Index := Scalar.indexCast v2797
  ![0, v2811.toNat]
def k0_cond15 (v10_0 : BitVec 32) (k0_t5 : Fin (k0_t5_loop v10_0).trips) : BitVec 1 :=
  let c0_i32_2303 : BitVec 32 := 0#32
  let v2766 : BitVec 32 := Scalar.muli c0_i32_2303 v10_0
  let c0_i32_92 : BitVec 32 := 0#32
  let v168 : BitVec 32 := Scalar.subi v10_0 c0_i32_92
  let c1_i32_94 : BitVec 32 := 1#32
  let v170 : BitVec 32 := Scalar.divsi v168 c1_i32_94
  let v171 : BitVec 32 := Scalar.muli v170 c1_i32_94
  let v172 : BitVec 32 := Scalar.addi c0_i32_92 v171
  let c1_i32_96 : BitVec 32 := 1#32
  let arg25 : BitVec 32 := Scf.iv v172 c1_i32_96 k0_t5
  let v2767 : BitVec 32 := Scalar.addi v2766 arg25
  let c6_i32_2318 : BitVec 32 := 6#32
  let v2795 : BitVec 32 := Scalar.addi v2767 c6_i32_2318
  let c0_i32_2319 : BitVec 32 := 0#32
  let v2796 : BitVec 32 := Scalar.muli c0_i32_2319 v10_0
  let v2797 : BitVec 32 := Scalar.subi v2795 v2796
  let c0_i32_2320 : BitVec 32 := 0#32
  let v2798 : BitVec 1 := Scalar.cmpi .sge v2797 c0_i32_2320
  let v2799 : BitVec 1 := Scalar.cmpi .slt v2797 v10_0
  let v2800 : BitVec 1 := Scalar.andi v2798 v2799
  let v2801 : BitVec 32 := Scalar.extui v2800
  let c0_i32_2321 : BitVec 32 := 0#32
  let v2802 : BitVec 1 := Scalar.cmpi .ne v2801 c0_i32_2321
  v2802

def k0_off114 (v10_0 : BitVec 32) (k0_t5 : Fin (k0_t5_loop v10_0).trips) : Fin 1 → Nat :=
  let c0_i32_2303 : BitVec 32 := 0#32
  let v2766 : BitVec 32 := Scalar.muli c0_i32_2303 v10_0
  let c0_i32_92 : BitVec 32 := 0#32
  let v168 : BitVec 32 := Scalar.subi v10_0 c0_i32_92
  let c1_i32_94 : BitVec 32 := 1#32
  let v170 : BitVec 32 := Scalar.divsi v168 c1_i32_94
  let v171 : BitVec 32 := Scalar.muli v170 c1_i32_94
  let v172 : BitVec 32 := Scalar.addi c0_i32_92 v171
  let c1_i32_96 : BitVec 32 := 1#32
  let arg25 : BitVec 32 := Scf.iv v172 c1_i32_96 k0_t5
  let v2767 : BitVec 32 := Scalar.addi v2766 arg25
  let c6_i32_2318 : BitVec 32 := 6#32
  let v2795 : BitVec 32 := Scalar.addi v2767 c6_i32_2318
  let c6_i32_2326 : BitVec 32 := 6#32
  let v2810 : BitVec 32 := Scalar.remsi v2795 c6_i32_2326
  ![v2810.toNat]
def k0_off115 (v10_0 : BitVec 32) (k0_t5 : Fin (k0_t5_loop v10_0).trips) : Fin 3 → Nat :=
  let c0_i32_2303 : BitVec 32 := 0#32
  let v2766 : BitVec 32 := Scalar.muli c0_i32_2303 v10_0
  let c0_i32_92 : BitVec 32 := 0#32
  let v168 : BitVec 32 := Scalar.subi v10_0 c0_i32_92
  let c1_i32_94 : BitVec 32 := 1#32
  let v170 : BitVec 32 := Scalar.divsi v168 c1_i32_94
  let v171 : BitVec 32 := Scalar.muli v170 c1_i32_94
  let v172 : BitVec 32 := Scalar.addi c0_i32_92 v171
  let c1_i32_96 : BitVec 32 := 1#32
  let arg25 : BitVec 32 := Scf.iv v172 c1_i32_96 k0_t5
  let v2767 : BitVec 32 := Scalar.addi v2766 arg25
  let c6_i32_2318 : BitVec 32 := 6#32
  let v2795 : BitVec 32 := Scalar.addi v2767 c6_i32_2318
  let c6_i32_2326 : BitVec 32 := 6#32
  let v2810 : BitVec 32 := Scalar.remsi v2795 c6_i32_2326
  let c0_i32_2328 : BitVec 32 := 0#32
  let c0_i32_2329 : BitVec 32 := 0#32
  ![v2810.toNat, 0, 0]
def k0_off116 (v2812 : BitVec 32) : Fin 3 → Nat :=
  let c0_i32_2330 : BitVec 32 := 0#32
  let c0_i32_2331 : BitVec 32 := 0#32
  ![v2812.toNat, 0, 0]

def k0_chk21 (v10_0 : BitVec 32) (k0_t5 : Fin (k0_t5_loop v10_0).trips) (v2812 : BitVec 32) : Prop :=
  (∀ (k0_h15 : k0_cond15 v10_0 k0_t5 = 1#1), ∀ a, (k0_off116 v2812) a + S1x1408x3072.size a ≤ S15x1408x4096.size a) ∧
  (∀ (k0_h15 : k0_cond15 v10_0 k0_t5 = 1#1), ∀ (hinb : ∀ a, (k0_off116 v2812) a + S1x1408x3072.size a ≤ S15x1408x4096.size a), (Rect.unit (s := S15x1408x4096) (k0_off116 v2812) S1x1408x3072.size hinb).WholeWords (EltTy.packing .fp8e4m3))
theorem k0_off116_inb : ∀ (v10_0 : BitVec 32) (k0_t5 : Fin (k0_t5_loop v10_0).trips) (v2812 : BitVec 32) (k0_hw21 : k0_chk21 v10_0 k0_t5 v2812), ∀ (k0_h15 : k0_cond15 v10_0 k0_t5 = 1#1), ∀ a, (k0_off116 v2812) a + S1x1408x3072.size a ≤ S15x1408x4096.size a := fun v10_0 k0_t5 v2812 k0_hw21 k0_h15 => k0_hw21.1 k0_h15
theorem k0_off116_wordsfp8e4m3 : ∀ (v10_0 : BitVec 32) (k0_t5 : Fin (k0_t5_loop v10_0).trips) (v2812 : BitVec 32) (k0_hw21 : k0_chk21 v10_0 k0_t5 v2812), ∀ (k0_h15 : k0_cond15 v10_0 k0_t5 = 1#1), (Rect.unit (s := S15x1408x4096) (k0_off116 v2812) S1x1408x3072.size (k0_off116_inb v10_0 k0_t5 v2812 k0_hw21 k0_h15)).WholeWords (EltTy.packing .fp8e4m3) := fun v10_0 k0_t5 v2812 k0_hw21 k0_h15 => k0_hw21.2 k0_h15 (k0_off116_inb v10_0 k0_t5 v2812 k0_hw21 k0_h15)

def k0_off117 (v10_0 : BitVec 32) (k0_t5 : Fin (k0_t5_loop v10_0).trips) : Fin 2 → Nat :=
  let c0_2327 : Index := 0#32
  let c0_i32_2303 : BitVec 32 := 0#32
  let v2766 : BitVec 32 := Scalar.muli c0_i32_2303 v10_0
  let c0_i32_92 : BitVec 32 := 0#32
  let v168 : BitVec 32 := Scalar.subi v10_0 c0_i32_92
  let c1_i32_94 : BitVec 32 := 1#32
  let v170 : BitVec 32 := Scalar.divsi v168 c1_i32_94
  let v171 : BitVec 32 := Scalar.muli v170 c1_i32_94
  let v172 : BitVec 32 := Scalar.addi c0_i32_92 v171
  let c1_i32_96 : BitVec 32 := 1#32
  let arg25 : BitVec 32 := Scf.iv v172 c1_i32_96 k0_t5
  let v2767 : BitVec 32 := Scalar.addi v2766 arg25
  let c6_i32_2318 : BitVec 32 := 6#32
  let v2795 : BitVec 32 := Scalar.addi v2767 c6_i32_2318
  let c1_i32_2322 : BitVec 32 := 1#32
  let v2803 : BitVec 32 := Scalar.muli c1_i32_2322 v10_0
  let v2804 : BitVec 32 := Scalar.subi v2795 v2803
  let v2811 : Index := Scalar.indexCast v2804
  ![0, v2811.toNat]
def k0_cond16 (v10_0 : BitVec 32) (k0_t5 : Fin (k0_t5_loop v10_0).trips) : BitVec 1 :=
  let c0_i32_2303 : BitVec 32 := 0#32
  let v2766 : BitVec 32 := Scalar.muli c0_i32_2303 v10_0
  let c0_i32_92 : BitVec 32 := 0#32
  let v168 : BitVec 32 := Scalar.subi v10_0 c0_i32_92
  let c1_i32_94 : BitVec 32 := 1#32
  let v170 : BitVec 32 := Scalar.divsi v168 c1_i32_94
  let v171 : BitVec 32 := Scalar.muli v170 c1_i32_94
  let v172 : BitVec 32 := Scalar.addi c0_i32_92 v171
  let c1_i32_96 : BitVec 32 := 1#32
  let arg25 : BitVec 32 := Scf.iv v172 c1_i32_96 k0_t5
  let v2767 : BitVec 32 := Scalar.addi v2766 arg25
  let c6_i32_2318 : BitVec 32 := 6#32
  let v2795 : BitVec 32 := Scalar.addi v2767 c6_i32_2318
  let c1_i32_2322 : BitVec 32 := 1#32
  let v2803 : BitVec 32 := Scalar.muli c1_i32_2322 v10_0
  let v2804 : BitVec 32 := Scalar.subi v2795 v2803
  let c0_i32_2323 : BitVec 32 := 0#32
  let v2805 : BitVec 1 := Scalar.cmpi .sge v2804 c0_i32_2323
  let v2806 : BitVec 1 := Scalar.cmpi .slt v2804 v10_0
  let v2807 : BitVec 1 := Scalar.andi v2805 v2806
  let v2808 : BitVec 32 := Scalar.extui v2807
  let c0_i32_2324 : BitVec 32 := 0#32
  let v2809 : BitVec 1 := Scalar.cmpi .ne v2808 c0_i32_2324
  v2809

def k0_off118 (v10_0 : BitVec 32) (k0_t5 : Fin (k0_t5_loop v10_0).trips) : Fin 1 → Nat :=
  let c0_i32_2303 : BitVec 32 := 0#32
  let v2766 : BitVec 32 := Scalar.muli c0_i32_2303 v10_0
  let c0_i32_92 : BitVec 32 := 0#32
  let v168 : BitVec 32 := Scalar.subi v10_0 c0_i32_92
  let c1_i32_94 : BitVec 32 := 1#32
  let v170 : BitVec 32 := Scalar.divsi v168 c1_i32_94
  let v171 : BitVec 32 := Scalar.muli v170 c1_i32_94
  let v172 : BitVec 32 := Scalar.addi c0_i32_92 v171
  let c1_i32_96 : BitVec 32 := 1#32
  let arg25 : BitVec 32 := Scf.iv v172 c1_i32_96 k0_t5
  let v2767 : BitVec 32 := Scalar.addi v2766 arg25
  let c6_i32_2318 : BitVec 32 := 6#32
  let v2795 : BitVec 32 := Scalar.addi v2767 c6_i32_2318
  let c6_i32_2326 : BitVec 32 := 6#32
  let v2810 : BitVec 32 := Scalar.remsi v2795 c6_i32_2326
  ![v2810.toNat]
def k0_off119 (v10_0 : BitVec 32) (k0_t5 : Fin (k0_t5_loop v10_0).trips) : Fin 3 → Nat :=
  let c0_i32_2303 : BitVec 32 := 0#32
  let v2766 : BitVec 32 := Scalar.muli c0_i32_2303 v10_0
  let c0_i32_92 : BitVec 32 := 0#32
  let v168 : BitVec 32 := Scalar.subi v10_0 c0_i32_92
  let c1_i32_94 : BitVec 32 := 1#32
  let v170 : BitVec 32 := Scalar.divsi v168 c1_i32_94
  let v171 : BitVec 32 := Scalar.muli v170 c1_i32_94
  let v172 : BitVec 32 := Scalar.addi c0_i32_92 v171
  let c1_i32_96 : BitVec 32 := 1#32
  let arg25 : BitVec 32 := Scf.iv v172 c1_i32_96 k0_t5
  let v2767 : BitVec 32 := Scalar.addi v2766 arg25
  let c6_i32_2318 : BitVec 32 := 6#32
  let v2795 : BitVec 32 := Scalar.addi v2767 c6_i32_2318
  let c6_i32_2326 : BitVec 32 := 6#32
  let v2810 : BitVec 32 := Scalar.remsi v2795 c6_i32_2326
  let c0_i32_2328 : BitVec 32 := 0#32
  let c0_i32_2329 : BitVec 32 := 0#32
  ![v2810.toNat, 0, 0]
def k0_off120 (v2812 : BitVec 32) : Fin 3 → Nat :=
  let c0_i32_2330 : BitVec 32 := 0#32
  let c3072_i32_2331 : BitVec 32 := 3072#32
  ![v2812.toNat, 0, 3072]

def k0_chk22 (v10_0 : BitVec 32) (k0_t5 : Fin (k0_t5_loop v10_0).trips) (v2812 : BitVec 32) : Prop :=
  (∀ (k0_h16 : k0_cond16 v10_0 k0_t5 = 1#1), ∀ a, (k0_off120 v2812) a + S1x1408x1024.size a ≤ S15x1408x4096.size a) ∧
  (∀ (k0_h16 : k0_cond16 v10_0 k0_t5 = 1#1), ∀ (hinb : ∀ a, (k0_off120 v2812) a + S1x1408x1024.size a ≤ S15x1408x4096.size a), (Rect.unit (s := S15x1408x4096) (k0_off120 v2812) S1x1408x1024.size hinb).WholeWords (EltTy.packing .fp8e4m3))
theorem k0_off120_inb : ∀ (v10_0 : BitVec 32) (k0_t5 : Fin (k0_t5_loop v10_0).trips) (v2812 : BitVec 32) (k0_hw22 : k0_chk22 v10_0 k0_t5 v2812), ∀ (k0_h16 : k0_cond16 v10_0 k0_t5 = 1#1), ∀ a, (k0_off120 v2812) a + S1x1408x1024.size a ≤ S15x1408x4096.size a := fun v10_0 k0_t5 v2812 k0_hw22 k0_h16 => k0_hw22.1 k0_h16
theorem k0_off120_wordsfp8e4m3 : ∀ (v10_0 : BitVec 32) (k0_t5 : Fin (k0_t5_loop v10_0).trips) (v2812 : BitVec 32) (k0_hw22 : k0_chk22 v10_0 k0_t5 v2812), ∀ (k0_h16 : k0_cond16 v10_0 k0_t5 = 1#1), (Rect.unit (s := S15x1408x4096) (k0_off120 v2812) S1x1408x1024.size (k0_off120_inb v10_0 k0_t5 v2812 k0_hw22 k0_h16)).WholeWords (EltTy.packing .fp8e4m3) := fun v10_0 k0_t5 v2812 k0_hw22 k0_h16 => k0_hw22.2 k0_h16 (k0_off120_inb v10_0 k0_t5 v2812 k0_hw22 k0_h16)

@[reducible] def k0_t8_loop : Scf.Loop 32 :=
  let c0_i32_97 : BitVec 32 := 0#32
  let c16_i32 : BitVec 32 := 16#32
  let v175 : BitVec 32 := Scalar.addi c0_i32_97 c16_i32
  let c1_i32_98 : BitVec 32 := 1#32
  ⟨c0_i32_97, v175, c1_i32_98⟩
def k0_off121 (k0_t8 : Fin k0_t8_loop.trips) : Fin 1 → Nat :=
  let c0_i32_97 : BitVec 32 := 0#32
  let c1_i32_98 : BitVec 32 := 1#32
  let arg25 : BitVec 32 := Scf.iv c0_i32_97 c1_i32_98 k0_t8
  let c8_i32 : BitVec 32 := 8#32
  let v2766 : BitVec 32 := Scalar.muli arg25 c8_i32
  let c0_i32_2303 : BitVec 32 := 0#32
  let v2767 : BitVec 32 := Scalar.addi v2766 c0_i32_2303
  let c0_i32_2304 : BitVec 32 := 0#32
  let v2768 : BitVec 32 := Scalar.addi v2767 c0_i32_2304
  let v2769 : Index := Scalar.indexCast v2768
  ![v2769.toNat]
def k0_off122 (v2772 : BitVec 32) : Fin 2 → Nat :=
  let v2773 : Index := Scalar.indexCast v2772
  let c0_2305 : Index := 0#32
  ![v2773.toNat, 0]

def k0_chk23 (v2772 : BitVec 32) : Prop :=
  (∀ a, S24x128.size a = 0 ∨ (k0_off122 v2772) a + (![1121, 1] : Fin 2 → Nat) a * (S24x128.size a - 1) < S26904x128.size a)
theorem k0_off122_inb : ∀ (v2772 : BitVec 32) (k0_hw23 : k0_chk23 v2772), ∀ a, S24x128.size a = 0 ∨ (k0_off122 v2772) a + (![1121, 1] : Fin 2 → Nat) a * (S24x128.size a - 1) < S26904x128.size a := fun v2772 k0_hw23 => k0_hw23

def k0_off123 (k0_t8 : Fin k0_t8_loop.trips) : Fin 1 → Nat :=
  let c0_i32_97 : BitVec 32 := 0#32
  let c1_i32_98 : BitVec 32 := 1#32
  let arg25 : BitVec 32 := Scf.iv c0_i32_97 c1_i32_98 k0_t8
  let c8_i32 : BitVec 32 := 8#32
  let v2766 : BitVec 32 := Scalar.muli arg25 c8_i32
  let c0_i32_2303 : BitVec 32 := 0#32
  let v2767 : BitVec 32 := Scalar.addi v2766 c0_i32_2303
  let c128_i32 : BitVec 32 := 128#32
  let v2777 : BitVec 32 := Scalar.addi v2767 c128_i32
  let v2778 : Index := Scalar.indexCast v2777
  ![v2778.toNat]
def k0_off124 (v2781 : BitVec 32) : Fin 2 → Nat :=
  let v2782 : Index := Scalar.indexCast v2781
  let c0_2306 : Index := 0#32
  ![v2782.toNat, 0]

def k0_chk24 (v2781 : BitVec 32) : Prop :=
  (∀ a, S24x128.size a = 0 ∨ (k0_off124 v2781) a + (![1121, 1] : Fin 2 → Nat) a * (S24x128.size a - 1) < S26904x128.size a)
theorem k0_off124_inb : ∀ (v2781 : BitVec 32) (k0_hw24 : k0_chk24 v2781), ∀ a, S24x128.size a = 0 ∨ (k0_off124 v2781) a + (![1121, 1] : Fin 2 → Nat) a * (S24x128.size a - 1) < S26904x128.size a := fun v2781 k0_hw24 => k0_hw24

def k0_off125 (k0_t8 : Fin k0_t8_loop.trips) : Fin 1 → Nat :=
  let c0_i32_97 : BitVec 32 := 0#32
  let c1_i32_98 : BitVec 32 := 1#32
  let arg25 : BitVec 32 := Scf.iv c0_i32_97 c1_i32_98 k0_t8
  let c8_i32 : BitVec 32 := 8#32
  let v2766 : BitVec 32 := Scalar.muli arg25 c8_i32
  let c0_i32_2303 : BitVec 32 := 0#32
  let v2767 : BitVec 32 := Scalar.addi v2766 c0_i32_2303
  let c256_i32 : BitVec 32 := 256#32
  let v2787 : BitVec 32 := Scalar.addi v2767 c256_i32
  let v2788 : Index := Scalar.indexCast v2787
  ![v2788.toNat]
def k0_off126 (v2791 : BitVec 32) : Fin 2 → Nat :=
  let v2792 : Index := Scalar.indexCast v2791
  let c0_2307 : Index := 0#32
  ![v2792.toNat, 0]

def k0_chk25 (v2791 : BitVec 32) : Prop :=
  (∀ a, S24x128.size a = 0 ∨ (k0_off126 v2791) a + (![1121, 1] : Fin 2 → Nat) a * (S24x128.size a - 1) < S26904x128.size a)
theorem k0_off126_inb : ∀ (v2791 : BitVec 32) (k0_hw25 : k0_chk25 v2791), ∀ a, S24x128.size a = 0 ∨ (k0_off126 v2791) a + (![1121, 1] : Fin 2 → Nat) a * (S24x128.size a - 1) < S26904x128.size a := fun v2791 k0_hw25 => k0_hw25

def k0_off127 (k0_t8 : Fin k0_t8_loop.trips) : Fin 1 → Nat :=
  let c0_i32_97 : BitVec 32 := 0#32
  let c1_i32_98 : BitVec 32 := 1#32
  let arg25 : BitVec 32 := Scf.iv c0_i32_97 c1_i32_98 k0_t8
  let c8_i32 : BitVec 32 := 8#32
  let v2766 : BitVec 32 := Scalar.muli arg25 c8_i32
  let c0_i32_2303 : BitVec 32 := 0#32
  let v2767 : BitVec 32 := Scalar.addi v2766 c0_i32_2303
  let c384_i32 : BitVec 32 := 384#32
  let v2797 : BitVec 32 := Scalar.addi v2767 c384_i32
  let v2798 : Index := Scalar.indexCast v2797
  ![v2798.toNat]
def k0_off128 (v2801 : BitVec 32) : Fin 2 → Nat :=
  let v2802 : Index := Scalar.indexCast v2801
  let c0_2308 : Index := 0#32
  ![v2802.toNat, 0]

def k0_chk26 (v2801 : BitVec 32) : Prop :=
  (∀ a, S24x128.size a = 0 ∨ (k0_off128 v2801) a + (![1121, 1] : Fin 2 → Nat) a * (S24x128.size a - 1) < S26904x128.size a)
theorem k0_off128_inb : ∀ (v2801 : BitVec 32) (k0_hw26 : k0_chk26 v2801), ∀ a, S24x128.size a = 0 ∨ (k0_off128 v2801) a + (![1121, 1] : Fin 2 → Nat) a * (S24x128.size a - 1) < S26904x128.size a := fun v2801 k0_hw26 => k0_hw26

def k0_off129 (k0_t8 : Fin k0_t8_loop.trips) : Fin 2 → Nat :=
  let c0_i32_2309 : BitVec 32 := 0#32
  let c0_i32_97 : BitVec 32 := 0#32
  let c1_i32_98 : BitVec 32 := 1#32
  let arg25 : BitVec 32 := Scf.iv c0_i32_97 c1_i32_98 k0_t8
  let c8_i32 : BitVec 32 := 8#32
  let v2766 : BitVec 32 := Scalar.muli arg25 c8_i32
  let c0_i32_2303 : BitVec 32 := 0#32
  let v2767 : BitVec 32 := Scalar.addi v2766 c0_i32_2303
  let v2807 : BitVec 32 := Scalar.addi c0_i32_2309 v2767
  let v2808 : Index := Scalar.indexCast v2807
  let c0_2310 : Index := 0#32
  ![v2808.toNat, 0]
def k0_off130 (k0_t8 : Fin k0_t8_loop.trips) : Fin 1 → Nat :=
  let c0_i32_97 : BitVec 32 := 0#32
  let c1_i32_98 : BitVec 32 := 1#32
  let arg25 : BitVec 32 := Scf.iv c0_i32_97 c1_i32_98 k0_t8
  let c8_i32_2311 : BitVec 32 := 8#32
  let v2812 : BitVec 32 := Scalar.muli arg25 c8_i32_2311
  let c1_i32_2312 : BitVec 32 := 1#32
  let v2813 : BitVec 32 := Scalar.addi v2812 c1_i32_2312
  let c0_i32_2313 : BitVec 32 := 0#32
  let v2814 : BitVec 32 := Scalar.addi v2813 c0_i32_2313
  let v2815 : Index := Scalar.indexCast v2814
  ![v2815.toNat]
def k0_off131 (v2818 : BitVec 32) : Fin 2 → Nat :=
  let v2819 : Index := Scalar.indexCast v2818
  let c0_2314 : Index := 0#32
  ![v2819.toNat, 0]

def k0_chk27 (v2818 : BitVec 32) : Prop :=
  (∀ a, S24x128.size a = 0 ∨ (k0_off131 v2818) a + (![1121, 1] : Fin 2 → Nat) a * (S24x128.size a - 1) < S26904x128.size a)
theorem k0_off131_inb : ∀ (v2818 : BitVec 32) (k0_hw27 : k0_chk27 v2818), ∀ a, S24x128.size a = 0 ∨ (k0_off131 v2818) a + (![1121, 1] : Fin 2 → Nat) a * (S24x128.size a - 1) < S26904x128.size a := fun v2818 k0_hw27 => k0_hw27

def k0_off132 (k0_t8 : Fin k0_t8_loop.trips) : Fin 1 → Nat :=
  let c0_i32_97 : BitVec 32 := 0#32
  let c1_i32_98 : BitVec 32 := 1#32
  let arg25 : BitVec 32 := Scf.iv c0_i32_97 c1_i32_98 k0_t8
  let c8_i32_2311 : BitVec 32 := 8#32
  let v2812 : BitVec 32 := Scalar.muli arg25 c8_i32_2311
  let c1_i32_2312 : BitVec 32 := 1#32
  let v2813 : BitVec 32 := Scalar.addi v2812 c1_i32_2312
  let c128_i32_2315 : BitVec 32 := 128#32
  let v2823 : BitVec 32 := Scalar.addi v2813 c128_i32_2315
  let v2824 : Index := Scalar.indexCast v2823
  ![v2824.toNat]
def k0_off133 (v2827 : BitVec 32) : Fin 2 → Nat :=
  let v2828 : Index := Scalar.indexCast v2827
  let c0_2316 : Index := 0#32
  ![v2828.toNat, 0]

def k0_chk28 (v2827 : BitVec 32) : Prop :=
  (∀ a, S24x128.size a = 0 ∨ (k0_off133 v2827) a + (![1121, 1] : Fin 2 → Nat) a * (S24x128.size a - 1) < S26904x128.size a)
theorem k0_off133_inb : ∀ (v2827 : BitVec 32) (k0_hw28 : k0_chk28 v2827), ∀ a, S24x128.size a = 0 ∨ (k0_off133 v2827) a + (![1121, 1] : Fin 2 → Nat) a * (S24x128.size a - 1) < S26904x128.size a := fun v2827 k0_hw28 => k0_hw28

def k0_off134 (k0_t8 : Fin k0_t8_loop.trips) : Fin 1 → Nat :=
  let c0_i32_97 : BitVec 32 := 0#32
  let c1_i32_98 : BitVec 32 := 1#32
  let arg25 : BitVec 32 := Scf.iv c0_i32_97 c1_i32_98 k0_t8
  let c8_i32_2311 : BitVec 32 := 8#32
  let v2812 : BitVec 32 := Scalar.muli arg25 c8_i32_2311
  let c1_i32_2312 : BitVec 32 := 1#32
  let v2813 : BitVec 32 := Scalar.addi v2812 c1_i32_2312
  let c256_i32_2317 : BitVec 32 := 256#32
  let v2833 : BitVec 32 := Scalar.addi v2813 c256_i32_2317
  let v2834 : Index := Scalar.indexCast v2833
  ![v2834.toNat]
def k0_off135 (v2837 : BitVec 32) : Fin 2 → Nat :=
  let v2838 : Index := Scalar.indexCast v2837
  let c0_2318 : Index := 0#32
  ![v2838.toNat, 0]

def k0_chk29 (v2837 : BitVec 32) : Prop :=
  (∀ a, S24x128.size a = 0 ∨ (k0_off135 v2837) a + (![1121, 1] : Fin 2 → Nat) a * (S24x128.size a - 1) < S26904x128.size a)
theorem k0_off135_inb : ∀ (v2837 : BitVec 32) (k0_hw29 : k0_chk29 v2837), ∀ a, S24x128.size a = 0 ∨ (k0_off135 v2837) a + (![1121, 1] : Fin 2 → Nat) a * (S24x128.size a - 1) < S26904x128.size a := fun v2837 k0_hw29 => k0_hw29

def k0_off136 (k0_t8 : Fin k0_t8_loop.trips) : Fin 1 → Nat :=
  let c0_i32_97 : BitVec 32 := 0#32
  let c1_i32_98 : BitVec 32 := 1#32
  let arg25 : BitVec 32 := Scf.iv c0_i32_97 c1_i32_98 k0_t8
  let c8_i32_2311 : BitVec 32 := 8#32
  let v2812 : BitVec 32 := Scalar.muli arg25 c8_i32_2311
  let c1_i32_2312 : BitVec 32 := 1#32
  let v2813 : BitVec 32 := Scalar.addi v2812 c1_i32_2312
  let c384_i32_2319 : BitVec 32 := 384#32
  let v2843 : BitVec 32 := Scalar.addi v2813 c384_i32_2319
  let v2844 : Index := Scalar.indexCast v2843
  ![v2844.toNat]
def k0_off137 (v2847 : BitVec 32) : Fin 2 → Nat :=
  let v2848 : Index := Scalar.indexCast v2847
  let c0_2320 : Index := 0#32
  ![v2848.toNat, 0]

def k0_chk30 (v2847 : BitVec 32) : Prop :=
  (∀ a, S24x128.size a = 0 ∨ (k0_off137 v2847) a + (![1121, 1] : Fin 2 → Nat) a * (S24x128.size a - 1) < S26904x128.size a)
theorem k0_off137_inb : ∀ (v2847 : BitVec 32) (k0_hw30 : k0_chk30 v2847), ∀ a, S24x128.size a = 0 ∨ (k0_off137 v2847) a + (![1121, 1] : Fin 2 → Nat) a * (S24x128.size a - 1) < S26904x128.size a := fun v2847 k0_hw30 => k0_hw30

def k0_off138 (k0_t8 : Fin k0_t8_loop.trips) : Fin 2 → Nat :=
  let c0_i32_2321 : BitVec 32 := 0#32
  let c0_i32_97 : BitVec 32 := 0#32
  let c1_i32_98 : BitVec 32 := 1#32
  let arg25 : BitVec 32 := Scf.iv c0_i32_97 c1_i32_98 k0_t8
  let c8_i32_2311 : BitVec 32 := 8#32
  let v2812 : BitVec 32 := Scalar.muli arg25 c8_i32_2311
  let c1_i32_2312 : BitVec 32 := 1#32
  let v2813 : BitVec 32 := Scalar.addi v2812 c1_i32_2312
  let v2853 : BitVec 32 := Scalar.addi c0_i32_2321 v2813
  let v2854 : Index := Scalar.indexCast v2853
  let c0_2322 : Index := 0#32
  ![v2854.toNat, 0]
def k0_off139 (k0_t8 : Fin k0_t8_loop.trips) : Fin 1 → Nat :=
  let c0_i32_97 : BitVec 32 := 0#32
  let c1_i32_98 : BitVec 32 := 1#32
  let arg25 : BitVec 32 := Scf.iv c0_i32_97 c1_i32_98 k0_t8
  let c8_i32_2323 : BitVec 32 := 8#32
  let v2858 : BitVec 32 := Scalar.muli arg25 c8_i32_2323
  let c2_i32_2324 : BitVec 32 := 2#32
  let v2859 : BitVec 32 := Scalar.addi v2858 c2_i32_2324
  let c0_i32_2325 : BitVec 32 := 0#32
  let v2860 : BitVec 32 := Scalar.addi v2859 c0_i32_2325
  let v2861 : Index := Scalar.indexCast v2860
  ![v2861.toNat]
def k0_off140 (v2864 : BitVec 32) : Fin 2 → Nat :=
  let v2865 : Index := Scalar.indexCast v2864
  let c0_2326 : Index := 0#32
  ![v2865.toNat, 0]

def k0_chk31 (v2864 : BitVec 32) : Prop :=
  (∀ a, S24x128.size a = 0 ∨ (k0_off140 v2864) a + (![1121, 1] : Fin 2 → Nat) a * (S24x128.size a - 1) < S26904x128.size a)
theorem k0_off140_inb : ∀ (v2864 : BitVec 32) (k0_hw31 : k0_chk31 v2864), ∀ a, S24x128.size a = 0 ∨ (k0_off140 v2864) a + (![1121, 1] : Fin 2 → Nat) a * (S24x128.size a - 1) < S26904x128.size a := fun v2864 k0_hw31 => k0_hw31

def k0_off141 (k0_t8 : Fin k0_t8_loop.trips) : Fin 1 → Nat :=
  let c0_i32_97 : BitVec 32 := 0#32
  let c1_i32_98 : BitVec 32 := 1#32
  let arg25 : BitVec 32 := Scf.iv c0_i32_97 c1_i32_98 k0_t8
  let c8_i32_2323 : BitVec 32 := 8#32
  let v2858 : BitVec 32 := Scalar.muli arg25 c8_i32_2323
  let c2_i32_2324 : BitVec 32 := 2#32
  let v2859 : BitVec 32 := Scalar.addi v2858 c2_i32_2324
  let c128_i32_2327 : BitVec 32 := 128#32
  let v2869 : BitVec 32 := Scalar.addi v2859 c128_i32_2327
  let v2870 : Index := Scalar.indexCast v2869
  ![v2870.toNat]
def k0_off142 (v2873 : BitVec 32) : Fin 2 → Nat :=
  let v2874 : Index := Scalar.indexCast v2873
  let c0_2328 : Index := 0#32
  ![v2874.toNat, 0]

def k0_chk32 (v2873 : BitVec 32) : Prop :=
  (∀ a, S24x128.size a = 0 ∨ (k0_off142 v2873) a + (![1121, 1] : Fin 2 → Nat) a * (S24x128.size a - 1) < S26904x128.size a)
theorem k0_off142_inb : ∀ (v2873 : BitVec 32) (k0_hw32 : k0_chk32 v2873), ∀ a, S24x128.size a = 0 ∨ (k0_off142 v2873) a + (![1121, 1] : Fin 2 → Nat) a * (S24x128.size a - 1) < S26904x128.size a := fun v2873 k0_hw32 => k0_hw32

def k0_off143 (k0_t8 : Fin k0_t8_loop.trips) : Fin 1 → Nat :=
  let c0_i32_97 : BitVec 32 := 0#32
  let c1_i32_98 : BitVec 32 := 1#32
  let arg25 : BitVec 32 := Scf.iv c0_i32_97 c1_i32_98 k0_t8
  let c8_i32_2323 : BitVec 32 := 8#32
  let v2858 : BitVec 32 := Scalar.muli arg25 c8_i32_2323
  let c2_i32_2324 : BitVec 32 := 2#32
  let v2859 : BitVec 32 := Scalar.addi v2858 c2_i32_2324
  let c256_i32_2329 : BitVec 32 := 256#32
  let v2879 : BitVec 32 := Scalar.addi v2859 c256_i32_2329
  let v2880 : Index := Scalar.indexCast v2879
  ![v2880.toNat]
def k0_off144 (v2883 : BitVec 32) : Fin 2 → Nat :=
  let v2884 : Index := Scalar.indexCast v2883
  let c0_2330 : Index := 0#32
  ![v2884.toNat, 0]

def k0_chk33 (v2883 : BitVec 32) : Prop :=
  (∀ a, S24x128.size a = 0 ∨ (k0_off144 v2883) a + (![1121, 1] : Fin 2 → Nat) a * (S24x128.size a - 1) < S26904x128.size a)
theorem k0_off144_inb : ∀ (v2883 : BitVec 32) (k0_hw33 : k0_chk33 v2883), ∀ a, S24x128.size a = 0 ∨ (k0_off144 v2883) a + (![1121, 1] : Fin 2 → Nat) a * (S24x128.size a - 1) < S26904x128.size a := fun v2883 k0_hw33 => k0_hw33

def k0_off145 (k0_t8 : Fin k0_t8_loop.trips) : Fin 1 → Nat :=
  let c0_i32_97 : BitVec 32 := 0#32
  let c1_i32_98 : BitVec 32 := 1#32
  let arg25 : BitVec 32 := Scf.iv c0_i32_97 c1_i32_98 k0_t8
  let c8_i32_2323 : BitVec 32 := 8#32
  let v2858 : BitVec 32 := Scalar.muli arg25 c8_i32_2323
  let c2_i32_2324 : BitVec 32 := 2#32
  let v2859 : BitVec 32 := Scalar.addi v2858 c2_i32_2324
  let c384_i32_2331 : BitVec 32 := 384#32
  let v2889 : BitVec 32 := Scalar.addi v2859 c384_i32_2331
  let v2890 : Index := Scalar.indexCast v2889
  ![v2890.toNat]
def k0_off146 (v2893 : BitVec 32) : Fin 2 → Nat :=
  let v2894 : Index := Scalar.indexCast v2893
  let c0_2332 : Index := 0#32
  ![v2894.toNat, 0]

def k0_chk34 (v2893 : BitVec 32) : Prop :=
  (∀ a, S24x128.size a = 0 ∨ (k0_off146 v2893) a + (![1121, 1] : Fin 2 → Nat) a * (S24x128.size a - 1) < S26904x128.size a)
theorem k0_off146_inb : ∀ (v2893 : BitVec 32) (k0_hw34 : k0_chk34 v2893), ∀ a, S24x128.size a = 0 ∨ (k0_off146 v2893) a + (![1121, 1] : Fin 2 → Nat) a * (S24x128.size a - 1) < S26904x128.size a := fun v2893 k0_hw34 => k0_hw34

def k0_off147 (k0_t8 : Fin k0_t8_loop.trips) : Fin 2 → Nat :=
  let c0_i32_2333 : BitVec 32 := 0#32
  let c0_i32_97 : BitVec 32 := 0#32
  let c1_i32_98 : BitVec 32 := 1#32
  let arg25 : BitVec 32 := Scf.iv c0_i32_97 c1_i32_98 k0_t8
  let c8_i32_2323 : BitVec 32 := 8#32
  let v2858 : BitVec 32 := Scalar.muli arg25 c8_i32_2323
  let c2_i32_2324 : BitVec 32 := 2#32
  let v2859 : BitVec 32 := Scalar.addi v2858 c2_i32_2324
  let v2899 : BitVec 32 := Scalar.addi c0_i32_2333 v2859
  let v2900 : Index := Scalar.indexCast v2899
  let c0_2334 : Index := 0#32
  ![v2900.toNat, 0]
def k0_off148 (k0_t8 : Fin k0_t8_loop.trips) : Fin 1 → Nat :=
  let c0_i32_97 : BitVec 32 := 0#32
  let c1_i32_98 : BitVec 32 := 1#32
  let arg25 : BitVec 32 := Scf.iv c0_i32_97 c1_i32_98 k0_t8
  let c8_i32_2335 : BitVec 32 := 8#32
  let v2904 : BitVec 32 := Scalar.muli arg25 c8_i32_2335
  let c3_i32_2336 : BitVec 32 := 3#32
  let v2905 : BitVec 32 := Scalar.addi v2904 c3_i32_2336
  let c0_i32_2337 : BitVec 32 := 0#32
  let v2906 : BitVec 32 := Scalar.addi v2905 c0_i32_2337
  let v2907 : Index := Scalar.indexCast v2906
  ![v2907.toNat]
def k0_off149 (v2910 : BitVec 32) : Fin 2 → Nat :=
  let v2911 : Index := Scalar.indexCast v2910
  let c0_2338 : Index := 0#32
  ![v2911.toNat, 0]

def k0_chk35 (v2910 : BitVec 32) : Prop :=
  (∀ a, S24x128.size a = 0 ∨ (k0_off149 v2910) a + (![1121, 1] : Fin 2 → Nat) a * (S24x128.size a - 1) < S26904x128.size a)
theorem k0_off149_inb : ∀ (v2910 : BitVec 32) (k0_hw35 : k0_chk35 v2910), ∀ a, S24x128.size a = 0 ∨ (k0_off149 v2910) a + (![1121, 1] : Fin 2 → Nat) a * (S24x128.size a - 1) < S26904x128.size a := fun v2910 k0_hw35 => k0_hw35

def k0_off150 (k0_t8 : Fin k0_t8_loop.trips) : Fin 1 → Nat :=
  let c0_i32_97 : BitVec 32 := 0#32
  let c1_i32_98 : BitVec 32 := 1#32
  let arg25 : BitVec 32 := Scf.iv c0_i32_97 c1_i32_98 k0_t8
  let c8_i32_2335 : BitVec 32 := 8#32
  let v2904 : BitVec 32 := Scalar.muli arg25 c8_i32_2335
  let c3_i32_2336 : BitVec 32 := 3#32
  let v2905 : BitVec 32 := Scalar.addi v2904 c3_i32_2336
  let c128_i32_2339 : BitVec 32 := 128#32
  let v2915 : BitVec 32 := Scalar.addi v2905 c128_i32_2339
  let v2916 : Index := Scalar.indexCast v2915
  ![v2916.toNat]
def k0_off151 (v2919 : BitVec 32) : Fin 2 → Nat :=
  let v2920 : Index := Scalar.indexCast v2919
  let c0_2340 : Index := 0#32
  ![v2920.toNat, 0]

def k0_chk36 (v2919 : BitVec 32) : Prop :=
  (∀ a, S24x128.size a = 0 ∨ (k0_off151 v2919) a + (![1121, 1] : Fin 2 → Nat) a * (S24x128.size a - 1) < S26904x128.size a)
theorem k0_off151_inb : ∀ (v2919 : BitVec 32) (k0_hw36 : k0_chk36 v2919), ∀ a, S24x128.size a = 0 ∨ (k0_off151 v2919) a + (![1121, 1] : Fin 2 → Nat) a * (S24x128.size a - 1) < S26904x128.size a := fun v2919 k0_hw36 => k0_hw36

def k0_off152 (k0_t8 : Fin k0_t8_loop.trips) : Fin 1 → Nat :=
  let c0_i32_97 : BitVec 32 := 0#32
  let c1_i32_98 : BitVec 32 := 1#32
  let arg25 : BitVec 32 := Scf.iv c0_i32_97 c1_i32_98 k0_t8
  let c8_i32_2335 : BitVec 32 := 8#32
  let v2904 : BitVec 32 := Scalar.muli arg25 c8_i32_2335
  let c3_i32_2336 : BitVec 32 := 3#32
  let v2905 : BitVec 32 := Scalar.addi v2904 c3_i32_2336
  let c256_i32_2341 : BitVec 32 := 256#32
  let v2925 : BitVec 32 := Scalar.addi v2905 c256_i32_2341
  let v2926 : Index := Scalar.indexCast v2925
  ![v2926.toNat]
def k0_off153 (v2929 : BitVec 32) : Fin 2 → Nat :=
  let v2930 : Index := Scalar.indexCast v2929
  let c0_2342 : Index := 0#32
  ![v2930.toNat, 0]

def k0_chk37 (v2929 : BitVec 32) : Prop :=
  (∀ a, S24x128.size a = 0 ∨ (k0_off153 v2929) a + (![1121, 1] : Fin 2 → Nat) a * (S24x128.size a - 1) < S26904x128.size a)
theorem k0_off153_inb : ∀ (v2929 : BitVec 32) (k0_hw37 : k0_chk37 v2929), ∀ a, S24x128.size a = 0 ∨ (k0_off153 v2929) a + (![1121, 1] : Fin 2 → Nat) a * (S24x128.size a - 1) < S26904x128.size a := fun v2929 k0_hw37 => k0_hw37

def k0_off154 (k0_t8 : Fin k0_t8_loop.trips) : Fin 1 → Nat :=
  let c0_i32_97 : BitVec 32 := 0#32
  let c1_i32_98 : BitVec 32 := 1#32
  let arg25 : BitVec 32 := Scf.iv c0_i32_97 c1_i32_98 k0_t8
  let c8_i32_2335 : BitVec 32 := 8#32
  let v2904 : BitVec 32 := Scalar.muli arg25 c8_i32_2335
  let c3_i32_2336 : BitVec 32 := 3#32
  let v2905 : BitVec 32 := Scalar.addi v2904 c3_i32_2336
  let c384_i32_2343 : BitVec 32 := 384#32
  let v2935 : BitVec 32 := Scalar.addi v2905 c384_i32_2343
  let v2936 : Index := Scalar.indexCast v2935
  ![v2936.toNat]
def k0_off155 (v2939 : BitVec 32) : Fin 2 → Nat :=
  let v2940 : Index := Scalar.indexCast v2939
  let c0_2344 : Index := 0#32
  ![v2940.toNat, 0]

def k0_chk38 (v2939 : BitVec 32) : Prop :=
  (∀ a, S24x128.size a = 0 ∨ (k0_off155 v2939) a + (![1121, 1] : Fin 2 → Nat) a * (S24x128.size a - 1) < S26904x128.size a)
theorem k0_off155_inb : ∀ (v2939 : BitVec 32) (k0_hw38 : k0_chk38 v2939), ∀ a, S24x128.size a = 0 ∨ (k0_off155 v2939) a + (![1121, 1] : Fin 2 → Nat) a * (S24x128.size a - 1) < S26904x128.size a := fun v2939 k0_hw38 => k0_hw38

def k0_off156 (k0_t8 : Fin k0_t8_loop.trips) : Fin 2 → Nat :=
  let c0_i32_2345 : BitVec 32 := 0#32
  let c0_i32_97 : BitVec 32 := 0#32
  let c1_i32_98 : BitVec 32 := 1#32
  let arg25 : BitVec 32 := Scf.iv c0_i32_97 c1_i32_98 k0_t8
  let c8_i32_2335 : BitVec 32 := 8#32
  let v2904 : BitVec 32 := Scalar.muli arg25 c8_i32_2335
  let c3_i32_2336 : BitVec 32 := 3#32
  let v2905 : BitVec 32 := Scalar.addi v2904 c3_i32_2336
  let v2945 : BitVec 32 := Scalar.addi c0_i32_2345 v2905
  let v2946 : Index := Scalar.indexCast v2945
  let c0_2346 : Index := 0#32
  ![v2946.toNat, 0]
def k0_off157 (k0_t8 : Fin k0_t8_loop.trips) : Fin 1 → Nat :=
  let c0_i32_97 : BitVec 32 := 0#32
  let c1_i32_98 : BitVec 32 := 1#32
  let arg25 : BitVec 32 := Scf.iv c0_i32_97 c1_i32_98 k0_t8
  let c8_i32_2347 : BitVec 32 := 8#32
  let v2950 : BitVec 32 := Scalar.muli arg25 c8_i32_2347
  let c4_i32_2348 : BitVec 32 := 4#32
  let v2951 : BitVec 32 := Scalar.addi v2950 c4_i32_2348
  let c0_i32_2349 : BitVec 32 := 0#32
  let v2952 : BitVec 32 := Scalar.addi v2951 c0_i32_2349
  let v2953 : Index := Scalar.indexCast v2952
  ![v2953.toNat]
def k0_off158 (v2956 : BitVec 32) : Fin 2 → Nat :=
  let v2957 : Index := Scalar.indexCast v2956
  let c0_2350 : Index := 0#32
  ![v2957.toNat, 0]

def k0_chk39 (v2956 : BitVec 32) : Prop :=
  (∀ a, S24x128.size a = 0 ∨ (k0_off158 v2956) a + (![1121, 1] : Fin 2 → Nat) a * (S24x128.size a - 1) < S26904x128.size a)
theorem k0_off158_inb : ∀ (v2956 : BitVec 32) (k0_hw39 : k0_chk39 v2956), ∀ a, S24x128.size a = 0 ∨ (k0_off158 v2956) a + (![1121, 1] : Fin 2 → Nat) a * (S24x128.size a - 1) < S26904x128.size a := fun v2956 k0_hw39 => k0_hw39

def k0_off159 (k0_t8 : Fin k0_t8_loop.trips) : Fin 1 → Nat :=
  let c0_i32_97 : BitVec 32 := 0#32
  let c1_i32_98 : BitVec 32 := 1#32
  let arg25 : BitVec 32 := Scf.iv c0_i32_97 c1_i32_98 k0_t8
  let c8_i32_2347 : BitVec 32 := 8#32
  let v2950 : BitVec 32 := Scalar.muli arg25 c8_i32_2347
  let c4_i32_2348 : BitVec 32 := 4#32
  let v2951 : BitVec 32 := Scalar.addi v2950 c4_i32_2348
  let c128_i32_2351 : BitVec 32 := 128#32
  let v2961 : BitVec 32 := Scalar.addi v2951 c128_i32_2351
  let v2962 : Index := Scalar.indexCast v2961
  ![v2962.toNat]
def k0_off160 (v2965 : BitVec 32) : Fin 2 → Nat :=
  let v2966 : Index := Scalar.indexCast v2965
  let c0_2352 : Index := 0#32
  ![v2966.toNat, 0]

def k0_chk40 (v2965 : BitVec 32) : Prop :=
  (∀ a, S24x128.size a = 0 ∨ (k0_off160 v2965) a + (![1121, 1] : Fin 2 → Nat) a * (S24x128.size a - 1) < S26904x128.size a)
theorem k0_off160_inb : ∀ (v2965 : BitVec 32) (k0_hw40 : k0_chk40 v2965), ∀ a, S24x128.size a = 0 ∨ (k0_off160 v2965) a + (![1121, 1] : Fin 2 → Nat) a * (S24x128.size a - 1) < S26904x128.size a := fun v2965 k0_hw40 => k0_hw40

def k0_off161 (k0_t8 : Fin k0_t8_loop.trips) : Fin 1 → Nat :=
  let c0_i32_97 : BitVec 32 := 0#32
  let c1_i32_98 : BitVec 32 := 1#32
  let arg25 : BitVec 32 := Scf.iv c0_i32_97 c1_i32_98 k0_t8
  let c8_i32_2347 : BitVec 32 := 8#32
  let v2950 : BitVec 32 := Scalar.muli arg25 c8_i32_2347
  let c4_i32_2348 : BitVec 32 := 4#32
  let v2951 : BitVec 32 := Scalar.addi v2950 c4_i32_2348
  let c256_i32_2353 : BitVec 32 := 256#32
  let v2971 : BitVec 32 := Scalar.addi v2951 c256_i32_2353
  let v2972 : Index := Scalar.indexCast v2971
  ![v2972.toNat]
def k0_off162 (v2975 : BitVec 32) : Fin 2 → Nat :=
  let v2976 : Index := Scalar.indexCast v2975
  let c0_2354 : Index := 0#32
  ![v2976.toNat, 0]

def k0_chk41 (v2975 : BitVec 32) : Prop :=
  (∀ a, S24x128.size a = 0 ∨ (k0_off162 v2975) a + (![1121, 1] : Fin 2 → Nat) a * (S24x128.size a - 1) < S26904x128.size a)
theorem k0_off162_inb : ∀ (v2975 : BitVec 32) (k0_hw41 : k0_chk41 v2975), ∀ a, S24x128.size a = 0 ∨ (k0_off162 v2975) a + (![1121, 1] : Fin 2 → Nat) a * (S24x128.size a - 1) < S26904x128.size a := fun v2975 k0_hw41 => k0_hw41

def k0_off163 (k0_t8 : Fin k0_t8_loop.trips) : Fin 1 → Nat :=
  let c0_i32_97 : BitVec 32 := 0#32
  let c1_i32_98 : BitVec 32 := 1#32
  let arg25 : BitVec 32 := Scf.iv c0_i32_97 c1_i32_98 k0_t8
  let c8_i32_2347 : BitVec 32 := 8#32
  let v2950 : BitVec 32 := Scalar.muli arg25 c8_i32_2347
  let c4_i32_2348 : BitVec 32 := 4#32
  let v2951 : BitVec 32 := Scalar.addi v2950 c4_i32_2348
  let c384_i32_2355 : BitVec 32 := 384#32
  let v2981 : BitVec 32 := Scalar.addi v2951 c384_i32_2355
  let v2982 : Index := Scalar.indexCast v2981
  ![v2982.toNat]
def k0_off164 (v2985 : BitVec 32) : Fin 2 → Nat :=
  let v2986 : Index := Scalar.indexCast v2985
  let c0_2356 : Index := 0#32
  ![v2986.toNat, 0]

def k0_chk42 (v2985 : BitVec 32) : Prop :=
  (∀ a, S24x128.size a = 0 ∨ (k0_off164 v2985) a + (![1121, 1] : Fin 2 → Nat) a * (S24x128.size a - 1) < S26904x128.size a)
theorem k0_off164_inb : ∀ (v2985 : BitVec 32) (k0_hw42 : k0_chk42 v2985), ∀ a, S24x128.size a = 0 ∨ (k0_off164 v2985) a + (![1121, 1] : Fin 2 → Nat) a * (S24x128.size a - 1) < S26904x128.size a := fun v2985 k0_hw42 => k0_hw42

def k0_off165 (k0_t8 : Fin k0_t8_loop.trips) : Fin 2 → Nat :=
  let c0_i32_2357 : BitVec 32 := 0#32
  let c0_i32_97 : BitVec 32 := 0#32
  let c1_i32_98 : BitVec 32 := 1#32
  let arg25 : BitVec 32 := Scf.iv c0_i32_97 c1_i32_98 k0_t8
  let c8_i32_2347 : BitVec 32 := 8#32
  let v2950 : BitVec 32 := Scalar.muli arg25 c8_i32_2347
  let c4_i32_2348 : BitVec 32 := 4#32
  let v2951 : BitVec 32 := Scalar.addi v2950 c4_i32_2348
  let v2991 : BitVec 32 := Scalar.addi c0_i32_2357 v2951
  let v2992 : Index := Scalar.indexCast v2991
  let c0_2358 : Index := 0#32
  ![v2992.toNat, 0]
def k0_off166 (k0_t8 : Fin k0_t8_loop.trips) : Fin 1 → Nat :=
  let c0_i32_97 : BitVec 32 := 0#32
  let c1_i32_98 : BitVec 32 := 1#32
  let arg25 : BitVec 32 := Scf.iv c0_i32_97 c1_i32_98 k0_t8
  let c8_i32_2359 : BitVec 32 := 8#32
  let v2996 : BitVec 32 := Scalar.muli arg25 c8_i32_2359
  let c5_i32_2360 : BitVec 32 := 5#32
  let v2997 : BitVec 32 := Scalar.addi v2996 c5_i32_2360
  let c0_i32_2361 : BitVec 32 := 0#32
  let v2998 : BitVec 32 := Scalar.addi v2997 c0_i32_2361
  let v2999 : Index := Scalar.indexCast v2998
  ![v2999.toNat]
def k0_off167 (v3002 : BitVec 32) : Fin 2 → Nat :=
  let v3003 : Index := Scalar.indexCast v3002
  let c0_2362 : Index := 0#32
  ![v3003.toNat, 0]

def k0_chk43 (v3002 : BitVec 32) : Prop :=
  (∀ a, S24x128.size a = 0 ∨ (k0_off167 v3002) a + (![1121, 1] : Fin 2 → Nat) a * (S24x128.size a - 1) < S26904x128.size a)
theorem k0_off167_inb : ∀ (v3002 : BitVec 32) (k0_hw43 : k0_chk43 v3002), ∀ a, S24x128.size a = 0 ∨ (k0_off167 v3002) a + (![1121, 1] : Fin 2 → Nat) a * (S24x128.size a - 1) < S26904x128.size a := fun v3002 k0_hw43 => k0_hw43

def k0_off168 (k0_t8 : Fin k0_t8_loop.trips) : Fin 1 → Nat :=
  let c0_i32_97 : BitVec 32 := 0#32
  let c1_i32_98 : BitVec 32 := 1#32
  let arg25 : BitVec 32 := Scf.iv c0_i32_97 c1_i32_98 k0_t8
  let c8_i32_2359 : BitVec 32 := 8#32
  let v2996 : BitVec 32 := Scalar.muli arg25 c8_i32_2359
  let c5_i32_2360 : BitVec 32 := 5#32
  let v2997 : BitVec 32 := Scalar.addi v2996 c5_i32_2360
  let c128_i32_2363 : BitVec 32 := 128#32
  let v3007 : BitVec 32 := Scalar.addi v2997 c128_i32_2363
  let v3008 : Index := Scalar.indexCast v3007
  ![v3008.toNat]
def k0_off169 (v3011 : BitVec 32) : Fin 2 → Nat :=
  let v3012 : Index := Scalar.indexCast v3011
  let c0_2364 : Index := 0#32
  ![v3012.toNat, 0]

def k0_chk44 (v3011 : BitVec 32) : Prop :=
  (∀ a, S24x128.size a = 0 ∨ (k0_off169 v3011) a + (![1121, 1] : Fin 2 → Nat) a * (S24x128.size a - 1) < S26904x128.size a)
theorem k0_off169_inb : ∀ (v3011 : BitVec 32) (k0_hw44 : k0_chk44 v3011), ∀ a, S24x128.size a = 0 ∨ (k0_off169 v3011) a + (![1121, 1] : Fin 2 → Nat) a * (S24x128.size a - 1) < S26904x128.size a := fun v3011 k0_hw44 => k0_hw44

def k0_off170 (k0_t8 : Fin k0_t8_loop.trips) : Fin 1 → Nat :=
  let c0_i32_97 : BitVec 32 := 0#32
  let c1_i32_98 : BitVec 32 := 1#32
  let arg25 : BitVec 32 := Scf.iv c0_i32_97 c1_i32_98 k0_t8
  let c8_i32_2359 : BitVec 32 := 8#32
  let v2996 : BitVec 32 := Scalar.muli arg25 c8_i32_2359
  let c5_i32_2360 : BitVec 32 := 5#32
  let v2997 : BitVec 32 := Scalar.addi v2996 c5_i32_2360
  let c256_i32_2365 : BitVec 32 := 256#32
  let v3017 : BitVec 32 := Scalar.addi v2997 c256_i32_2365
  let v3018 : Index := Scalar.indexCast v3017
  ![v3018.toNat]
def k0_off171 (v3021 : BitVec 32) : Fin 2 → Nat :=
  let v3022 : Index := Scalar.indexCast v3021
  let c0_2366 : Index := 0#32
  ![v3022.toNat, 0]

def k0_chk45 (v3021 : BitVec 32) : Prop :=
  (∀ a, S24x128.size a = 0 ∨ (k0_off171 v3021) a + (![1121, 1] : Fin 2 → Nat) a * (S24x128.size a - 1) < S26904x128.size a)
theorem k0_off171_inb : ∀ (v3021 : BitVec 32) (k0_hw45 : k0_chk45 v3021), ∀ a, S24x128.size a = 0 ∨ (k0_off171 v3021) a + (![1121, 1] : Fin 2 → Nat) a * (S24x128.size a - 1) < S26904x128.size a := fun v3021 k0_hw45 => k0_hw45

def k0_off172 (k0_t8 : Fin k0_t8_loop.trips) : Fin 1 → Nat :=
  let c0_i32_97 : BitVec 32 := 0#32
  let c1_i32_98 : BitVec 32 := 1#32
  let arg25 : BitVec 32 := Scf.iv c0_i32_97 c1_i32_98 k0_t8
  let c8_i32_2359 : BitVec 32 := 8#32
  let v2996 : BitVec 32 := Scalar.muli arg25 c8_i32_2359
  let c5_i32_2360 : BitVec 32 := 5#32
  let v2997 : BitVec 32 := Scalar.addi v2996 c5_i32_2360
  let c384_i32_2367 : BitVec 32 := 384#32
  let v3027 : BitVec 32 := Scalar.addi v2997 c384_i32_2367
  let v3028 : Index := Scalar.indexCast v3027
  ![v3028.toNat]
def k0_off173 (v3031 : BitVec 32) : Fin 2 → Nat :=
  let v3032 : Index := Scalar.indexCast v3031
  let c0_2368 : Index := 0#32
  ![v3032.toNat, 0]

def k0_chk46 (v3031 : BitVec 32) : Prop :=
  (∀ a, S24x128.size a = 0 ∨ (k0_off173 v3031) a + (![1121, 1] : Fin 2 → Nat) a * (S24x128.size a - 1) < S26904x128.size a)
theorem k0_off173_inb : ∀ (v3031 : BitVec 32) (k0_hw46 : k0_chk46 v3031), ∀ a, S24x128.size a = 0 ∨ (k0_off173 v3031) a + (![1121, 1] : Fin 2 → Nat) a * (S24x128.size a - 1) < S26904x128.size a := fun v3031 k0_hw46 => k0_hw46

def k0_off174 (k0_t8 : Fin k0_t8_loop.trips) : Fin 2 → Nat :=
  let c0_i32_2369 : BitVec 32 := 0#32
  let c0_i32_97 : BitVec 32 := 0#32
  let c1_i32_98 : BitVec 32 := 1#32
  let arg25 : BitVec 32 := Scf.iv c0_i32_97 c1_i32_98 k0_t8
  let c8_i32_2359 : BitVec 32 := 8#32
  let v2996 : BitVec 32 := Scalar.muli arg25 c8_i32_2359
  let c5_i32_2360 : BitVec 32 := 5#32
  let v2997 : BitVec 32 := Scalar.addi v2996 c5_i32_2360
  let v3037 : BitVec 32 := Scalar.addi c0_i32_2369 v2997
  let v3038 : Index := Scalar.indexCast v3037
  let c0_2370 : Index := 0#32
  ![v3038.toNat, 0]
def k0_off175 (k0_t8 : Fin k0_t8_loop.trips) : Fin 1 → Nat :=
  let c0_i32_97 : BitVec 32 := 0#32
  let c1_i32_98 : BitVec 32 := 1#32
  let arg25 : BitVec 32 := Scf.iv c0_i32_97 c1_i32_98 k0_t8
  let c8_i32_2371 : BitVec 32 := 8#32
  let v3042 : BitVec 32 := Scalar.muli arg25 c8_i32_2371
  let c6_i32 : BitVec 32 := 6#32
  let v3043 : BitVec 32 := Scalar.addi v3042 c6_i32
  let c0_i32_2372 : BitVec 32 := 0#32
  let v3044 : BitVec 32 := Scalar.addi v3043 c0_i32_2372
  let v3045 : Index := Scalar.indexCast v3044
  ![v3045.toNat]
def k0_off176 (v3048 : BitVec 32) : Fin 2 → Nat :=
  let v3049 : Index := Scalar.indexCast v3048
  let c0_2373 : Index := 0#32
  ![v3049.toNat, 0]

def k0_chk47 (v3048 : BitVec 32) : Prop :=
  (∀ a, S24x128.size a = 0 ∨ (k0_off176 v3048) a + (![1121, 1] : Fin 2 → Nat) a * (S24x128.size a - 1) < S26904x128.size a)
theorem k0_off176_inb : ∀ (v3048 : BitVec 32) (k0_hw47 : k0_chk47 v3048), ∀ a, S24x128.size a = 0 ∨ (k0_off176 v3048) a + (![1121, 1] : Fin 2 → Nat) a * (S24x128.size a - 1) < S26904x128.size a := fun v3048 k0_hw47 => k0_hw47

def k0_off177 (k0_t8 : Fin k0_t8_loop.trips) : Fin 1 → Nat :=
  let c0_i32_97 : BitVec 32 := 0#32
  let c1_i32_98 : BitVec 32 := 1#32
  let arg25 : BitVec 32 := Scf.iv c0_i32_97 c1_i32_98 k0_t8
  let c8_i32_2371 : BitVec 32 := 8#32
  let v3042 : BitVec 32 := Scalar.muli arg25 c8_i32_2371
  let c6_i32 : BitVec 32 := 6#32
  let v3043 : BitVec 32 := Scalar.addi v3042 c6_i32
  let c128_i32_2374 : BitVec 32 := 128#32
  let v3053 : BitVec 32 := Scalar.addi v3043 c128_i32_2374
  let v3054 : Index := Scalar.indexCast v3053
  ![v3054.toNat]
def k0_off178 (v3057 : BitVec 32) : Fin 2 → Nat :=
  let v3058 : Index := Scalar.indexCast v3057
  let c0_2375 : Index := 0#32
  ![v3058.toNat, 0]

def k0_chk48 (v3057 : BitVec 32) : Prop :=
  (∀ a, S24x128.size a = 0 ∨ (k0_off178 v3057) a + (![1121, 1] : Fin 2 → Nat) a * (S24x128.size a - 1) < S26904x128.size a)
theorem k0_off178_inb : ∀ (v3057 : BitVec 32) (k0_hw48 : k0_chk48 v3057), ∀ a, S24x128.size a = 0 ∨ (k0_off178 v3057) a + (![1121, 1] : Fin 2 → Nat) a * (S24x128.size a - 1) < S26904x128.size a := fun v3057 k0_hw48 => k0_hw48

def k0_off179 (k0_t8 : Fin k0_t8_loop.trips) : Fin 1 → Nat :=
  let c0_i32_97 : BitVec 32 := 0#32
  let c1_i32_98 : BitVec 32 := 1#32
  let arg25 : BitVec 32 := Scf.iv c0_i32_97 c1_i32_98 k0_t8
  let c8_i32_2371 : BitVec 32 := 8#32
  let v3042 : BitVec 32 := Scalar.muli arg25 c8_i32_2371
  let c6_i32 : BitVec 32 := 6#32
  let v3043 : BitVec 32 := Scalar.addi v3042 c6_i32
  let c256_i32_2376 : BitVec 32 := 256#32
  let v3063 : BitVec 32 := Scalar.addi v3043 c256_i32_2376
  let v3064 : Index := Scalar.indexCast v3063
  ![v3064.toNat]
def k0_off180 (v3067 : BitVec 32) : Fin 2 → Nat :=
  let v3068 : Index := Scalar.indexCast v3067
  let c0_2377 : Index := 0#32
  ![v3068.toNat, 0]

def k0_chk49 (v3067 : BitVec 32) : Prop :=
  (∀ a, S24x128.size a = 0 ∨ (k0_off180 v3067) a + (![1121, 1] : Fin 2 → Nat) a * (S24x128.size a - 1) < S26904x128.size a)
theorem k0_off180_inb : ∀ (v3067 : BitVec 32) (k0_hw49 : k0_chk49 v3067), ∀ a, S24x128.size a = 0 ∨ (k0_off180 v3067) a + (![1121, 1] : Fin 2 → Nat) a * (S24x128.size a - 1) < S26904x128.size a := fun v3067 k0_hw49 => k0_hw49

def k0_off181 (k0_t8 : Fin k0_t8_loop.trips) : Fin 1 → Nat :=
  let c0_i32_97 : BitVec 32 := 0#32
  let c1_i32_98 : BitVec 32 := 1#32
  let arg25 : BitVec 32 := Scf.iv c0_i32_97 c1_i32_98 k0_t8
  let c8_i32_2371 : BitVec 32 := 8#32
  let v3042 : BitVec 32 := Scalar.muli arg25 c8_i32_2371
  let c6_i32 : BitVec 32 := 6#32
  let v3043 : BitVec 32 := Scalar.addi v3042 c6_i32
  let c384_i32_2378 : BitVec 32 := 384#32
  let v3073 : BitVec 32 := Scalar.addi v3043 c384_i32_2378
  let v3074 : Index := Scalar.indexCast v3073
  ![v3074.toNat]
def k0_off182 (v3077 : BitVec 32) : Fin 2 → Nat :=
  let v3078 : Index := Scalar.indexCast v3077
  let c0_2379 : Index := 0#32
  ![v3078.toNat, 0]

def k0_chk50 (v3077 : BitVec 32) : Prop :=
  (∀ a, S24x128.size a = 0 ∨ (k0_off182 v3077) a + (![1121, 1] : Fin 2 → Nat) a * (S24x128.size a - 1) < S26904x128.size a)
theorem k0_off182_inb : ∀ (v3077 : BitVec 32) (k0_hw50 : k0_chk50 v3077), ∀ a, S24x128.size a = 0 ∨ (k0_off182 v3077) a + (![1121, 1] : Fin 2 → Nat) a * (S24x128.size a - 1) < S26904x128.size a := fun v3077 k0_hw50 => k0_hw50

def k0_off183 (k0_t8 : Fin k0_t8_loop.trips) : Fin 2 → Nat :=
  let c0_i32_2380 : BitVec 32 := 0#32
  let c0_i32_97 : BitVec 32 := 0#32
  let c1_i32_98 : BitVec 32 := 1#32
  let arg25 : BitVec 32 := Scf.iv c0_i32_97 c1_i32_98 k0_t8
  let c8_i32_2371 : BitVec 32 := 8#32
  let v3042 : BitVec 32 := Scalar.muli arg25 c8_i32_2371
  let c6_i32 : BitVec 32 := 6#32
  let v3043 : BitVec 32 := Scalar.addi v3042 c6_i32
  let v3083 : BitVec 32 := Scalar.addi c0_i32_2380 v3043
  let v3084 : Index := Scalar.indexCast v3083
  let c0_2381 : Index := 0#32
  ![v3084.toNat, 0]
def k0_off184 (k0_t8 : Fin k0_t8_loop.trips) : Fin 1 → Nat :=
  let c0_i32_97 : BitVec 32 := 0#32
  let c1_i32_98 : BitVec 32 := 1#32
  let arg25 : BitVec 32 := Scf.iv c0_i32_97 c1_i32_98 k0_t8
  let c8_i32_2382 : BitVec 32 := 8#32
  let v3088 : BitVec 32 := Scalar.muli arg25 c8_i32_2382
  let c7_i32 : BitVec 32 := 7#32
  let v3089 : BitVec 32 := Scalar.addi v3088 c7_i32
  let c0_i32_2383 : BitVec 32 := 0#32
  let v3090 : BitVec 32 := Scalar.addi v3089 c0_i32_2383
  let v3091 : Index := Scalar.indexCast v3090
  ![v3091.toNat]
def k0_off185 (v3094 : BitVec 32) : Fin 2 → Nat :=
  let v3095 : Index := Scalar.indexCast v3094
  let c0_2384 : Index := 0#32
  ![v3095.toNat, 0]

def k0_chk51 (v3094 : BitVec 32) : Prop :=
  (∀ a, S24x128.size a = 0 ∨ (k0_off185 v3094) a + (![1121, 1] : Fin 2 → Nat) a * (S24x128.size a - 1) < S26904x128.size a)
theorem k0_off185_inb : ∀ (v3094 : BitVec 32) (k0_hw51 : k0_chk51 v3094), ∀ a, S24x128.size a = 0 ∨ (k0_off185 v3094) a + (![1121, 1] : Fin 2 → Nat) a * (S24x128.size a - 1) < S26904x128.size a := fun v3094 k0_hw51 => k0_hw51

def k0_off186 (k0_t8 : Fin k0_t8_loop.trips) : Fin 1 → Nat :=
  let c0_i32_97 : BitVec 32 := 0#32
  let c1_i32_98 : BitVec 32 := 1#32
  let arg25 : BitVec 32 := Scf.iv c0_i32_97 c1_i32_98 k0_t8
  let c8_i32_2382 : BitVec 32 := 8#32
  let v3088 : BitVec 32 := Scalar.muli arg25 c8_i32_2382
  let c7_i32 : BitVec 32 := 7#32
  let v3089 : BitVec 32 := Scalar.addi v3088 c7_i32
  let c128_i32_2385 : BitVec 32 := 128#32
  let v3099 : BitVec 32 := Scalar.addi v3089 c128_i32_2385
  let v3100 : Index := Scalar.indexCast v3099
  ![v3100.toNat]
def k0_off187 (v3103 : BitVec 32) : Fin 2 → Nat :=
  let v3104 : Index := Scalar.indexCast v3103
  let c0_2386 : Index := 0#32
  ![v3104.toNat, 0]

def k0_chk52 (v3103 : BitVec 32) : Prop :=
  (∀ a, S24x128.size a = 0 ∨ (k0_off187 v3103) a + (![1121, 1] : Fin 2 → Nat) a * (S24x128.size a - 1) < S26904x128.size a)
theorem k0_off187_inb : ∀ (v3103 : BitVec 32) (k0_hw52 : k0_chk52 v3103), ∀ a, S24x128.size a = 0 ∨ (k0_off187 v3103) a + (![1121, 1] : Fin 2 → Nat) a * (S24x128.size a - 1) < S26904x128.size a := fun v3103 k0_hw52 => k0_hw52

def k0_off188 (k0_t8 : Fin k0_t8_loop.trips) : Fin 1 → Nat :=
  let c0_i32_97 : BitVec 32 := 0#32
  let c1_i32_98 : BitVec 32 := 1#32
  let arg25 : BitVec 32 := Scf.iv c0_i32_97 c1_i32_98 k0_t8
  let c8_i32_2382 : BitVec 32 := 8#32
  let v3088 : BitVec 32 := Scalar.muli arg25 c8_i32_2382
  let c7_i32 : BitVec 32 := 7#32
  let v3089 : BitVec 32 := Scalar.addi v3088 c7_i32
  let c256_i32_2387 : BitVec 32 := 256#32
  let v3109 : BitVec 32 := Scalar.addi v3089 c256_i32_2387
  let v3110 : Index := Scalar.indexCast v3109
  ![v3110.toNat]
def k0_off189 (v3113 : BitVec 32) : Fin 2 → Nat :=
  let v3114 : Index := Scalar.indexCast v3113
  let c0_2388 : Index := 0#32
  ![v3114.toNat, 0]

def k0_chk53 (v3113 : BitVec 32) : Prop :=
  (∀ a, S24x128.size a = 0 ∨ (k0_off189 v3113) a + (![1121, 1] : Fin 2 → Nat) a * (S24x128.size a - 1) < S26904x128.size a)
theorem k0_off189_inb : ∀ (v3113 : BitVec 32) (k0_hw53 : k0_chk53 v3113), ∀ a, S24x128.size a = 0 ∨ (k0_off189 v3113) a + (![1121, 1] : Fin 2 → Nat) a * (S24x128.size a - 1) < S26904x128.size a := fun v3113 k0_hw53 => k0_hw53

def k0_off190 (k0_t8 : Fin k0_t8_loop.trips) : Fin 1 → Nat :=
  let c0_i32_97 : BitVec 32 := 0#32
  let c1_i32_98 : BitVec 32 := 1#32
  let arg25 : BitVec 32 := Scf.iv c0_i32_97 c1_i32_98 k0_t8
  let c8_i32_2382 : BitVec 32 := 8#32
  let v3088 : BitVec 32 := Scalar.muli arg25 c8_i32_2382
  let c7_i32 : BitVec 32 := 7#32
  let v3089 : BitVec 32 := Scalar.addi v3088 c7_i32
  let c384_i32_2389 : BitVec 32 := 384#32
  let v3119 : BitVec 32 := Scalar.addi v3089 c384_i32_2389
  let v3120 : Index := Scalar.indexCast v3119
  ![v3120.toNat]
def k0_off191 (v3123 : BitVec 32) : Fin 2 → Nat :=
  let v3124 : Index := Scalar.indexCast v3123
  let c0_2390 : Index := 0#32
  ![v3124.toNat, 0]

def k0_chk54 (v3123 : BitVec 32) : Prop :=
  (∀ a, S24x128.size a = 0 ∨ (k0_off191 v3123) a + (![1121, 1] : Fin 2 → Nat) a * (S24x128.size a - 1) < S26904x128.size a)
theorem k0_off191_inb : ∀ (v3123 : BitVec 32) (k0_hw54 : k0_chk54 v3123), ∀ a, S24x128.size a = 0 ∨ (k0_off191 v3123) a + (![1121, 1] : Fin 2 → Nat) a * (S24x128.size a - 1) < S26904x128.size a := fun v3123 k0_hw54 => k0_hw54

def k0_off192 (k0_t8 : Fin k0_t8_loop.trips) : Fin 2 → Nat :=
  let c0_i32_2391 : BitVec 32 := 0#32
  let c0_i32_97 : BitVec 32 := 0#32
  let c1_i32_98 : BitVec 32 := 1#32
  let arg25 : BitVec 32 := Scf.iv c0_i32_97 c1_i32_98 k0_t8
  let c8_i32_2382 : BitVec 32 := 8#32
  let v3088 : BitVec 32 := Scalar.muli arg25 c8_i32_2382
  let c7_i32 : BitVec 32 := 7#32
  let v3089 : BitVec 32 := Scalar.addi v3088 c7_i32
  let v3129 : BitVec 32 := Scalar.addi c0_i32_2391 v3089
  let v3130 : Index := Scalar.indexCast v3129
  let c0_2392 : Index := 0#32
  ![v3130.toNat, 0]
@[reducible] def k0_t9_loop : Scf.Loop 32 :=
  let c0_i32_100 : BitVec 32 := 0#32
  let c16_i32_101 : BitVec 32 := 16#32
  let v176 : BitVec 32 := Scalar.addi c0_i32_100 c16_i32_101
  let c1_i32_102 : BitVec 32 := 1#32
  ⟨c0_i32_100, v176, c1_i32_102⟩
def k0_off193 (k0_t9 : Fin k0_t9_loop.trips) : Fin 1 → Nat :=
  let c0_i32_100 : BitVec 32 := 0#32
  let c1_i32_102 : BitVec 32 := 1#32
  let arg25 : BitVec 32 := Scf.iv c0_i32_100 c1_i32_102 k0_t9
  let c8_i32 : BitVec 32 := 8#32
  let v2766 : BitVec 32 := Scalar.muli arg25 c8_i32
  let c0_i32_2303 : BitVec 32 := 0#32
  let v2767 : BitVec 32 := Scalar.addi v2766 c0_i32_2303
  let c512_i32 : BitVec 32 := 512#32
  let v2768 : BitVec 32 := Scalar.addi v2767 c512_i32
  let v2769 : Index := Scalar.indexCast v2768
  ![v2769.toNat]
def k0_off194 (v2772 : BitVec 32) : Fin 2 → Nat :=
  let v2773 : Index := Scalar.indexCast v2772
  let c0_2304 : Index := 0#32
  ![v2773.toNat, 0]

def k0_chk55 (v2772 : BitVec 32) : Prop :=
  (∀ a, S24x128.size a = 0 ∨ (k0_off194 v2772) a + (![1121, 1] : Fin 2 → Nat) a * (S24x128.size a - 1) < S26904x128.size a)
theorem k0_off194_inb : ∀ (v2772 : BitVec 32) (k0_hw55 : k0_chk55 v2772), ∀ a, S24x128.size a = 0 ∨ (k0_off194 v2772) a + (![1121, 1] : Fin 2 → Nat) a * (S24x128.size a - 1) < S26904x128.size a := fun v2772 k0_hw55 => k0_hw55

def k0_off195 (k0_t9 : Fin k0_t9_loop.trips) : Fin 1 → Nat :=
  let c0_i32_100 : BitVec 32 := 0#32
  let c1_i32_102 : BitVec 32 := 1#32
  let arg25 : BitVec 32 := Scf.iv c0_i32_100 c1_i32_102 k0_t9
  let c8_i32 : BitVec 32 := 8#32
  let v2766 : BitVec 32 := Scalar.muli arg25 c8_i32
  let c0_i32_2303 : BitVec 32 := 0#32
  let v2767 : BitVec 32 := Scalar.addi v2766 c0_i32_2303
  let c640_i32 : BitVec 32 := 640#32
  let v2777 : BitVec 32 := Scalar.addi v2767 c640_i32
  let v2778 : Index := Scalar.indexCast v2777
  ![v2778.toNat]
def k0_off196 (v2781 : BitVec 32) : Fin 2 → Nat :=
  let v2782 : Index := Scalar.indexCast v2781
  let c0_2305 : Index := 0#32
  ![v2782.toNat, 0]

def k0_chk56 (v2781 : BitVec 32) : Prop :=
  (∀ a, S24x128.size a = 0 ∨ (k0_off196 v2781) a + (![1121, 1] : Fin 2 → Nat) a * (S24x128.size a - 1) < S26904x128.size a)
theorem k0_off196_inb : ∀ (v2781 : BitVec 32) (k0_hw56 : k0_chk56 v2781), ∀ a, S24x128.size a = 0 ∨ (k0_off196 v2781) a + (![1121, 1] : Fin 2 → Nat) a * (S24x128.size a - 1) < S26904x128.size a := fun v2781 k0_hw56 => k0_hw56

def k0_off197 (k0_t9 : Fin k0_t9_loop.trips) : Fin 1 → Nat :=
  let c0_i32_100 : BitVec 32 := 0#32
  let c1_i32_102 : BitVec 32 := 1#32
  let arg25 : BitVec 32 := Scf.iv c0_i32_100 c1_i32_102 k0_t9
  let c8_i32 : BitVec 32 := 8#32
  let v2766 : BitVec 32 := Scalar.muli arg25 c8_i32
  let c0_i32_2303 : BitVec 32 := 0#32
  let v2767 : BitVec 32 := Scalar.addi v2766 c0_i32_2303
  let c768_i32 : BitVec 32 := 768#32
  let v2787 : BitVec 32 := Scalar.addi v2767 c768_i32
  let v2788 : Index := Scalar.indexCast v2787
  ![v2788.toNat]
def k0_off198 (v2791 : BitVec 32) : Fin 2 → Nat :=
  let v2792 : Index := Scalar.indexCast v2791
  let c0_2306 : Index := 0#32
  ![v2792.toNat, 0]

def k0_chk57 (v2791 : BitVec 32) : Prop :=
  (∀ a, S24x128.size a = 0 ∨ (k0_off198 v2791) a + (![1121, 1] : Fin 2 → Nat) a * (S24x128.size a - 1) < S26904x128.size a)
theorem k0_off198_inb : ∀ (v2791 : BitVec 32) (k0_hw57 : k0_chk57 v2791), ∀ a, S24x128.size a = 0 ∨ (k0_off198 v2791) a + (![1121, 1] : Fin 2 → Nat) a * (S24x128.size a - 1) < S26904x128.size a := fun v2791 k0_hw57 => k0_hw57

def k0_off199 (k0_t9 : Fin k0_t9_loop.trips) : Fin 1 → Nat :=
  let c0_i32_100 : BitVec 32 := 0#32
  let c1_i32_102 : BitVec 32 := 1#32
  let arg25 : BitVec 32 := Scf.iv c0_i32_100 c1_i32_102 k0_t9
  let c8_i32 : BitVec 32 := 8#32
  let v2766 : BitVec 32 := Scalar.muli arg25 c8_i32
  let c0_i32_2303 : BitVec 32 := 0#32
  let v2767 : BitVec 32 := Scalar.addi v2766 c0_i32_2303
  let c896_i32 : BitVec 32 := 896#32
  let v2797 : BitVec 32 := Scalar.addi v2767 c896_i32
  let v2798 : Index := Scalar.indexCast v2797
  ![v2798.toNat]
def k0_off200 (v2801 : BitVec 32) : Fin 2 → Nat :=
  let v2802 : Index := Scalar.indexCast v2801
  let c0_2307 : Index := 0#32
  ![v2802.toNat, 0]

def k0_chk58 (v2801 : BitVec 32) : Prop :=
  (∀ a, S24x128.size a = 0 ∨ (k0_off200 v2801) a + (![1121, 1] : Fin 2 → Nat) a * (S24x128.size a - 1) < S26904x128.size a)
theorem k0_off200_inb : ∀ (v2801 : BitVec 32) (k0_hw58 : k0_chk58 v2801), ∀ a, S24x128.size a = 0 ∨ (k0_off200 v2801) a + (![1121, 1] : Fin 2 → Nat) a * (S24x128.size a - 1) < S26904x128.size a := fun v2801 k0_hw58 => k0_hw58

def k0_off201 (k0_t9 : Fin k0_t9_loop.trips) : Fin 2 → Nat :=
  let c128_i32 : BitVec 32 := 128#32
  let c0_i32_100 : BitVec 32 := 0#32
  let c1_i32_102 : BitVec 32 := 1#32
  let arg25 : BitVec 32 := Scf.iv c0_i32_100 c1_i32_102 k0_t9
  let c8_i32 : BitVec 32 := 8#32
  let v2766 : BitVec 32 := Scalar.muli arg25 c8_i32
  let c0_i32_2303 : BitVec 32 := 0#32
  let v2767 : BitVec 32 := Scalar.addi v2766 c0_i32_2303
  let v2807 : BitVec 32 := Scalar.addi c128_i32 v2767
  let v2808 : Index := Scalar.indexCast v2807
  let c0_2308 : Index := 0#32
  ![v2808.toNat, 0]
def k0_off202 (k0_t9 : Fin k0_t9_loop.trips) : Fin 1 → Nat :=
  let c0_i32_100 : BitVec 32 := 0#32
  let c1_i32_102 : BitVec 32 := 1#32
  let arg25 : BitVec 32 := Scf.iv c0_i32_100 c1_i32_102 k0_t9
  let c8_i32_2309 : BitVec 32 := 8#32
  let v2812 : BitVec 32 := Scalar.muli arg25 c8_i32_2309
  let c1_i32_2310 : BitVec 32 := 1#32
  let v2813 : BitVec 32 := Scalar.addi v2812 c1_i32_2310
  let c512_i32_2311 : BitVec 32 := 512#32
  let v2814 : BitVec 32 := Scalar.addi v2813 c512_i32_2311
  let v2815 : Index := Scalar.indexCast v2814
  ![v2815.toNat]
def k0_off203 (v2818 : BitVec 32) : Fin 2 → Nat :=
  let v2819 : Index := Scalar.indexCast v2818
  let c0_2312 : Index := 0#32
  ![v2819.toNat, 0]

def k0_chk59 (v2818 : BitVec 32) : Prop :=
  (∀ a, S24x128.size a = 0 ∨ (k0_off203 v2818) a + (![1121, 1] : Fin 2 → Nat) a * (S24x128.size a - 1) < S26904x128.size a)
theorem k0_off203_inb : ∀ (v2818 : BitVec 32) (k0_hw59 : k0_chk59 v2818), ∀ a, S24x128.size a = 0 ∨ (k0_off203 v2818) a + (![1121, 1] : Fin 2 → Nat) a * (S24x128.size a - 1) < S26904x128.size a := fun v2818 k0_hw59 => k0_hw59

def k0_off204 (k0_t9 : Fin k0_t9_loop.trips) : Fin 1 → Nat :=
  let c0_i32_100 : BitVec 32 := 0#32
  let c1_i32_102 : BitVec 32 := 1#32
  let arg25 : BitVec 32 := Scf.iv c0_i32_100 c1_i32_102 k0_t9
  let c8_i32_2309 : BitVec 32 := 8#32
  let v2812 : BitVec 32 := Scalar.muli arg25 c8_i32_2309
  let c1_i32_2310 : BitVec 32 := 1#32
  let v2813 : BitVec 32 := Scalar.addi v2812 c1_i32_2310
  let c640_i32_2313 : BitVec 32 := 640#32
  let v2823 : BitVec 32 := Scalar.addi v2813 c640_i32_2313
  let v2824 : Index := Scalar.indexCast v2823
  ![v2824.toNat]
def k0_off205 (v2827 : BitVec 32) : Fin 2 → Nat :=
  let v2828 : Index := Scalar.indexCast v2827
  let c0_2314 : Index := 0#32
  ![v2828.toNat, 0]

def k0_chk60 (v2827 : BitVec 32) : Prop :=
  (∀ a, S24x128.size a = 0 ∨ (k0_off205 v2827) a + (![1121, 1] : Fin 2 → Nat) a * (S24x128.size a - 1) < S26904x128.size a)
theorem k0_off205_inb : ∀ (v2827 : BitVec 32) (k0_hw60 : k0_chk60 v2827), ∀ a, S24x128.size a = 0 ∨ (k0_off205 v2827) a + (![1121, 1] : Fin 2 → Nat) a * (S24x128.size a - 1) < S26904x128.size a := fun v2827 k0_hw60 => k0_hw60

def k0_off206 (k0_t9 : Fin k0_t9_loop.trips) : Fin 1 → Nat :=
  let c0_i32_100 : BitVec 32 := 0#32
  let c1_i32_102 : BitVec 32 := 1#32
  let arg25 : BitVec 32 := Scf.iv c0_i32_100 c1_i32_102 k0_t9
  let c8_i32_2309 : BitVec 32 := 8#32
  let v2812 : BitVec 32 := Scalar.muli arg25 c8_i32_2309
  let c1_i32_2310 : BitVec 32 := 1#32
  let v2813 : BitVec 32 := Scalar.addi v2812 c1_i32_2310
  let c768_i32_2315 : BitVec 32 := 768#32
  let v2833 : BitVec 32 := Scalar.addi v2813 c768_i32_2315
  let v2834 : Index := Scalar.indexCast v2833
  ![v2834.toNat]
def k0_off207 (v2837 : BitVec 32) : Fin 2 → Nat :=
  let v2838 : Index := Scalar.indexCast v2837
  let c0_2316 : Index := 0#32
  ![v2838.toNat, 0]

def k0_chk61 (v2837 : BitVec 32) : Prop :=
  (∀ a, S24x128.size a = 0 ∨ (k0_off207 v2837) a + (![1121, 1] : Fin 2 → Nat) a * (S24x128.size a - 1) < S26904x128.size a)
theorem k0_off207_inb : ∀ (v2837 : BitVec 32) (k0_hw61 : k0_chk61 v2837), ∀ a, S24x128.size a = 0 ∨ (k0_off207 v2837) a + (![1121, 1] : Fin 2 → Nat) a * (S24x128.size a - 1) < S26904x128.size a := fun v2837 k0_hw61 => k0_hw61

def k0_off208 (k0_t9 : Fin k0_t9_loop.trips) : Fin 1 → Nat :=
  let c0_i32_100 : BitVec 32 := 0#32
  let c1_i32_102 : BitVec 32 := 1#32
  let arg25 : BitVec 32 := Scf.iv c0_i32_100 c1_i32_102 k0_t9
  let c8_i32_2309 : BitVec 32 := 8#32
  let v2812 : BitVec 32 := Scalar.muli arg25 c8_i32_2309
  let c1_i32_2310 : BitVec 32 := 1#32
  let v2813 : BitVec 32 := Scalar.addi v2812 c1_i32_2310
  let c896_i32_2317 : BitVec 32 := 896#32
  let v2843 : BitVec 32 := Scalar.addi v2813 c896_i32_2317
  let v2844 : Index := Scalar.indexCast v2843
  ![v2844.toNat]
def k0_off209 (v2847 : BitVec 32) : Fin 2 → Nat :=
  let v2848 : Index := Scalar.indexCast v2847
  let c0_2318 : Index := 0#32
  ![v2848.toNat, 0]

def k0_chk62 (v2847 : BitVec 32) : Prop :=
  (∀ a, S24x128.size a = 0 ∨ (k0_off209 v2847) a + (![1121, 1] : Fin 2 → Nat) a * (S24x128.size a - 1) < S26904x128.size a)
theorem k0_off209_inb : ∀ (v2847 : BitVec 32) (k0_hw62 : k0_chk62 v2847), ∀ a, S24x128.size a = 0 ∨ (k0_off209 v2847) a + (![1121, 1] : Fin 2 → Nat) a * (S24x128.size a - 1) < S26904x128.size a := fun v2847 k0_hw62 => k0_hw62

def k0_off210 (k0_t9 : Fin k0_t9_loop.trips) : Fin 2 → Nat :=
  let c128_i32_2319 : BitVec 32 := 128#32
  let c0_i32_100 : BitVec 32 := 0#32
  let c1_i32_102 : BitVec 32 := 1#32
  let arg25 : BitVec 32 := Scf.iv c0_i32_100 c1_i32_102 k0_t9
  let c8_i32_2309 : BitVec 32 := 8#32
  let v2812 : BitVec 32 := Scalar.muli arg25 c8_i32_2309
  let c1_i32_2310 : BitVec 32 := 1#32
  let v2813 : BitVec 32 := Scalar.addi v2812 c1_i32_2310
  let v2853 : BitVec 32 := Scalar.addi c128_i32_2319 v2813
  let v2854 : Index := Scalar.indexCast v2853
  let c0_2320 : Index := 0#32
  ![v2854.toNat, 0]
def k0_off211 (k0_t9 : Fin k0_t9_loop.trips) : Fin 1 → Nat :=
  let c0_i32_100 : BitVec 32 := 0#32
  let c1_i32_102 : BitVec 32 := 1#32
  let arg25 : BitVec 32 := Scf.iv c0_i32_100 c1_i32_102 k0_t9
  let c8_i32_2321 : BitVec 32 := 8#32
  let v2858 : BitVec 32 := Scalar.muli arg25 c8_i32_2321
  let c2_i32_2322 : BitVec 32 := 2#32
  let v2859 : BitVec 32 := Scalar.addi v2858 c2_i32_2322
  let c512_i32_2323 : BitVec 32 := 512#32
  let v2860 : BitVec 32 := Scalar.addi v2859 c512_i32_2323
  let v2861 : Index := Scalar.indexCast v2860
  ![v2861.toNat]
def k0_off212 (v2864 : BitVec 32) : Fin 2 → Nat :=
  let v2865 : Index := Scalar.indexCast v2864
  let c0_2324 : Index := 0#32
  ![v2865.toNat, 0]

def k0_chk63 (v2864 : BitVec 32) : Prop :=
  (∀ a, S24x128.size a = 0 ∨ (k0_off212 v2864) a + (![1121, 1] : Fin 2 → Nat) a * (S24x128.size a - 1) < S26904x128.size a)
theorem k0_off212_inb : ∀ (v2864 : BitVec 32) (k0_hw63 : k0_chk63 v2864), ∀ a, S24x128.size a = 0 ∨ (k0_off212 v2864) a + (![1121, 1] : Fin 2 → Nat) a * (S24x128.size a - 1) < S26904x128.size a := fun v2864 k0_hw63 => k0_hw63

def k0_off213 (k0_t9 : Fin k0_t9_loop.trips) : Fin 1 → Nat :=
  let c0_i32_100 : BitVec 32 := 0#32
  let c1_i32_102 : BitVec 32 := 1#32
  let arg25 : BitVec 32 := Scf.iv c0_i32_100 c1_i32_102 k0_t9
  let c8_i32_2321 : BitVec 32 := 8#32
  let v2858 : BitVec 32 := Scalar.muli arg25 c8_i32_2321
  let c2_i32_2322 : BitVec 32 := 2#32
  let v2859 : BitVec 32 := Scalar.addi v2858 c2_i32_2322
  let c640_i32_2325 : BitVec 32 := 640#32
  let v2869 : BitVec 32 := Scalar.addi v2859 c640_i32_2325
  let v2870 : Index := Scalar.indexCast v2869
  ![v2870.toNat]
def k0_off214 (v2873 : BitVec 32) : Fin 2 → Nat :=
  let v2874 : Index := Scalar.indexCast v2873
  let c0_2326 : Index := 0#32
  ![v2874.toNat, 0]

def k0_chk64 (v2873 : BitVec 32) : Prop :=
  (∀ a, S24x128.size a = 0 ∨ (k0_off214 v2873) a + (![1121, 1] : Fin 2 → Nat) a * (S24x128.size a - 1) < S26904x128.size a)
theorem k0_off214_inb : ∀ (v2873 : BitVec 32) (k0_hw64 : k0_chk64 v2873), ∀ a, S24x128.size a = 0 ∨ (k0_off214 v2873) a + (![1121, 1] : Fin 2 → Nat) a * (S24x128.size a - 1) < S26904x128.size a := fun v2873 k0_hw64 => k0_hw64

def k0_off215 (k0_t9 : Fin k0_t9_loop.trips) : Fin 1 → Nat :=
  let c0_i32_100 : BitVec 32 := 0#32
  let c1_i32_102 : BitVec 32 := 1#32
  let arg25 : BitVec 32 := Scf.iv c0_i32_100 c1_i32_102 k0_t9
  let c8_i32_2321 : BitVec 32 := 8#32
  let v2858 : BitVec 32 := Scalar.muli arg25 c8_i32_2321
  let c2_i32_2322 : BitVec 32 := 2#32
  let v2859 : BitVec 32 := Scalar.addi v2858 c2_i32_2322
  let c768_i32_2327 : BitVec 32 := 768#32
  let v2879 : BitVec 32 := Scalar.addi v2859 c768_i32_2327
  let v2880 : Index := Scalar.indexCast v2879
  ![v2880.toNat]
def k0_off216 (v2883 : BitVec 32) : Fin 2 → Nat :=
  let v2884 : Index := Scalar.indexCast v2883
  let c0_2328 : Index := 0#32
  ![v2884.toNat, 0]

def k0_chk65 (v2883 : BitVec 32) : Prop :=
  (∀ a, S24x128.size a = 0 ∨ (k0_off216 v2883) a + (![1121, 1] : Fin 2 → Nat) a * (S24x128.size a - 1) < S26904x128.size a)
theorem k0_off216_inb : ∀ (v2883 : BitVec 32) (k0_hw65 : k0_chk65 v2883), ∀ a, S24x128.size a = 0 ∨ (k0_off216 v2883) a + (![1121, 1] : Fin 2 → Nat) a * (S24x128.size a - 1) < S26904x128.size a := fun v2883 k0_hw65 => k0_hw65

def k0_off217 (k0_t9 : Fin k0_t9_loop.trips) : Fin 1 → Nat :=
  let c0_i32_100 : BitVec 32 := 0#32
  let c1_i32_102 : BitVec 32 := 1#32
  let arg25 : BitVec 32 := Scf.iv c0_i32_100 c1_i32_102 k0_t9
  let c8_i32_2321 : BitVec 32 := 8#32
  let v2858 : BitVec 32 := Scalar.muli arg25 c8_i32_2321
  let c2_i32_2322 : BitVec 32 := 2#32
  let v2859 : BitVec 32 := Scalar.addi v2858 c2_i32_2322
  let c896_i32_2329 : BitVec 32 := 896#32
  let v2889 : BitVec 32 := Scalar.addi v2859 c896_i32_2329
  let v2890 : Index := Scalar.indexCast v2889
  ![v2890.toNat]
def k0_off218 (v2893 : BitVec 32) : Fin 2 → Nat :=
  let v2894 : Index := Scalar.indexCast v2893
  let c0_2330 : Index := 0#32
  ![v2894.toNat, 0]

def k0_chk66 (v2893 : BitVec 32) : Prop :=
  (∀ a, S24x128.size a = 0 ∨ (k0_off218 v2893) a + (![1121, 1] : Fin 2 → Nat) a * (S24x128.size a - 1) < S26904x128.size a)
theorem k0_off218_inb : ∀ (v2893 : BitVec 32) (k0_hw66 : k0_chk66 v2893), ∀ a, S24x128.size a = 0 ∨ (k0_off218 v2893) a + (![1121, 1] : Fin 2 → Nat) a * (S24x128.size a - 1) < S26904x128.size a := fun v2893 k0_hw66 => k0_hw66

def k0_off219 (k0_t9 : Fin k0_t9_loop.trips) : Fin 2 → Nat :=
  let c128_i32_2331 : BitVec 32 := 128#32
  let c0_i32_100 : BitVec 32 := 0#32
  let c1_i32_102 : BitVec 32 := 1#32
  let arg25 : BitVec 32 := Scf.iv c0_i32_100 c1_i32_102 k0_t9
  let c8_i32_2321 : BitVec 32 := 8#32
  let v2858 : BitVec 32 := Scalar.muli arg25 c8_i32_2321
  let c2_i32_2322 : BitVec 32 := 2#32
  let v2859 : BitVec 32 := Scalar.addi v2858 c2_i32_2322
  let v2899 : BitVec 32 := Scalar.addi c128_i32_2331 v2859
  let v2900 : Index := Scalar.indexCast v2899
  let c0_2332 : Index := 0#32
  ![v2900.toNat, 0]
def k0_off220 (k0_t9 : Fin k0_t9_loop.trips) : Fin 1 → Nat :=
  let c0_i32_100 : BitVec 32 := 0#32
  let c1_i32_102 : BitVec 32 := 1#32
  let arg25 : BitVec 32 := Scf.iv c0_i32_100 c1_i32_102 k0_t9
  let c8_i32_2333 : BitVec 32 := 8#32
  let v2904 : BitVec 32 := Scalar.muli arg25 c8_i32_2333
  let c3_i32_2334 : BitVec 32 := 3#32
  let v2905 : BitVec 32 := Scalar.addi v2904 c3_i32_2334
  let c512_i32_2335 : BitVec 32 := 512#32
  let v2906 : BitVec 32 := Scalar.addi v2905 c512_i32_2335
  let v2907 : Index := Scalar.indexCast v2906
  ![v2907.toNat]
def k0_off221 (v2910 : BitVec 32) : Fin 2 → Nat :=
  let v2911 : Index := Scalar.indexCast v2910
  let c0_2336 : Index := 0#32
  ![v2911.toNat, 0]

def k0_chk67 (v2910 : BitVec 32) : Prop :=
  (∀ a, S24x128.size a = 0 ∨ (k0_off221 v2910) a + (![1121, 1] : Fin 2 → Nat) a * (S24x128.size a - 1) < S26904x128.size a)
theorem k0_off221_inb : ∀ (v2910 : BitVec 32) (k0_hw67 : k0_chk67 v2910), ∀ a, S24x128.size a = 0 ∨ (k0_off221 v2910) a + (![1121, 1] : Fin 2 → Nat) a * (S24x128.size a - 1) < S26904x128.size a := fun v2910 k0_hw67 => k0_hw67

def k0_off222 (k0_t9 : Fin k0_t9_loop.trips) : Fin 1 → Nat :=
  let c0_i32_100 : BitVec 32 := 0#32
  let c1_i32_102 : BitVec 32 := 1#32
  let arg25 : BitVec 32 := Scf.iv c0_i32_100 c1_i32_102 k0_t9
  let c8_i32_2333 : BitVec 32 := 8#32
  let v2904 : BitVec 32 := Scalar.muli arg25 c8_i32_2333
  let c3_i32_2334 : BitVec 32 := 3#32
  let v2905 : BitVec 32 := Scalar.addi v2904 c3_i32_2334
  let c640_i32_2337 : BitVec 32 := 640#32
  let v2915 : BitVec 32 := Scalar.addi v2905 c640_i32_2337
  let v2916 : Index := Scalar.indexCast v2915
  ![v2916.toNat]
def k0_off223 (v2919 : BitVec 32) : Fin 2 → Nat :=
  let v2920 : Index := Scalar.indexCast v2919
  let c0_2338 : Index := 0#32
  ![v2920.toNat, 0]

def k0_chk68 (v2919 : BitVec 32) : Prop :=
  (∀ a, S24x128.size a = 0 ∨ (k0_off223 v2919) a + (![1121, 1] : Fin 2 → Nat) a * (S24x128.size a - 1) < S26904x128.size a)
theorem k0_off223_inb : ∀ (v2919 : BitVec 32) (k0_hw68 : k0_chk68 v2919), ∀ a, S24x128.size a = 0 ∨ (k0_off223 v2919) a + (![1121, 1] : Fin 2 → Nat) a * (S24x128.size a - 1) < S26904x128.size a := fun v2919 k0_hw68 => k0_hw68

def k0_off224 (k0_t9 : Fin k0_t9_loop.trips) : Fin 1 → Nat :=
  let c0_i32_100 : BitVec 32 := 0#32
  let c1_i32_102 : BitVec 32 := 1#32
  let arg25 : BitVec 32 := Scf.iv c0_i32_100 c1_i32_102 k0_t9
  let c8_i32_2333 : BitVec 32 := 8#32
  let v2904 : BitVec 32 := Scalar.muli arg25 c8_i32_2333
  let c3_i32_2334 : BitVec 32 := 3#32
  let v2905 : BitVec 32 := Scalar.addi v2904 c3_i32_2334
  let c768_i32_2339 : BitVec 32 := 768#32
  let v2925 : BitVec 32 := Scalar.addi v2905 c768_i32_2339
  let v2926 : Index := Scalar.indexCast v2925
  ![v2926.toNat]
def k0_off225 (v2929 : BitVec 32) : Fin 2 → Nat :=
  let v2930 : Index := Scalar.indexCast v2929
  let c0_2340 : Index := 0#32
  ![v2930.toNat, 0]

def k0_chk69 (v2929 : BitVec 32) : Prop :=
  (∀ a, S24x128.size a = 0 ∨ (k0_off225 v2929) a + (![1121, 1] : Fin 2 → Nat) a * (S24x128.size a - 1) < S26904x128.size a)
theorem k0_off225_inb : ∀ (v2929 : BitVec 32) (k0_hw69 : k0_chk69 v2929), ∀ a, S24x128.size a = 0 ∨ (k0_off225 v2929) a + (![1121, 1] : Fin 2 → Nat) a * (S24x128.size a - 1) < S26904x128.size a := fun v2929 k0_hw69 => k0_hw69

def k0_off226 (k0_t9 : Fin k0_t9_loop.trips) : Fin 1 → Nat :=
  let c0_i32_100 : BitVec 32 := 0#32
  let c1_i32_102 : BitVec 32 := 1#32
  let arg25 : BitVec 32 := Scf.iv c0_i32_100 c1_i32_102 k0_t9
  let c8_i32_2333 : BitVec 32 := 8#32
  let v2904 : BitVec 32 := Scalar.muli arg25 c8_i32_2333
  let c3_i32_2334 : BitVec 32 := 3#32
  let v2905 : BitVec 32 := Scalar.addi v2904 c3_i32_2334
  let c896_i32_2341 : BitVec 32 := 896#32
  let v2935 : BitVec 32 := Scalar.addi v2905 c896_i32_2341
  let v2936 : Index := Scalar.indexCast v2935
  ![v2936.toNat]
def k0_off227 (v2939 : BitVec 32) : Fin 2 → Nat :=
  let v2940 : Index := Scalar.indexCast v2939
  let c0_2342 : Index := 0#32
  ![v2940.toNat, 0]

def k0_chk70 (v2939 : BitVec 32) : Prop :=
  (∀ a, S24x128.size a = 0 ∨ (k0_off227 v2939) a + (![1121, 1] : Fin 2 → Nat) a * (S24x128.size a - 1) < S26904x128.size a)
theorem k0_off227_inb : ∀ (v2939 : BitVec 32) (k0_hw70 : k0_chk70 v2939), ∀ a, S24x128.size a = 0 ∨ (k0_off227 v2939) a + (![1121, 1] : Fin 2 → Nat) a * (S24x128.size a - 1) < S26904x128.size a := fun v2939 k0_hw70 => k0_hw70

def k0_off228 (k0_t9 : Fin k0_t9_loop.trips) : Fin 2 → Nat :=
  let c128_i32_2343 : BitVec 32 := 128#32
  let c0_i32_100 : BitVec 32 := 0#32
  let c1_i32_102 : BitVec 32 := 1#32
  let arg25 : BitVec 32 := Scf.iv c0_i32_100 c1_i32_102 k0_t9
  let c8_i32_2333 : BitVec 32 := 8#32
  let v2904 : BitVec 32 := Scalar.muli arg25 c8_i32_2333
  let c3_i32_2334 : BitVec 32 := 3#32
  let v2905 : BitVec 32 := Scalar.addi v2904 c3_i32_2334
  let v2945 : BitVec 32 := Scalar.addi c128_i32_2343 v2905
  let v2946 : Index := Scalar.indexCast v2945
  let c0_2344 : Index := 0#32
  ![v2946.toNat, 0]
def k0_off229 (k0_t9 : Fin k0_t9_loop.trips) : Fin 1 → Nat :=
  let c0_i32_100 : BitVec 32 := 0#32
  let c1_i32_102 : BitVec 32 := 1#32
  let arg25 : BitVec 32 := Scf.iv c0_i32_100 c1_i32_102 k0_t9
  let c8_i32_2345 : BitVec 32 := 8#32
  let v2950 : BitVec 32 := Scalar.muli arg25 c8_i32_2345
  let c4_i32_2346 : BitVec 32 := 4#32
  let v2951 : BitVec 32 := Scalar.addi v2950 c4_i32_2346
  let c512_i32_2347 : BitVec 32 := 512#32
  let v2952 : BitVec 32 := Scalar.addi v2951 c512_i32_2347
  let v2953 : Index := Scalar.indexCast v2952
  ![v2953.toNat]
def k0_off230 (v2956 : BitVec 32) : Fin 2 → Nat :=
  let v2957 : Index := Scalar.indexCast v2956
  let c0_2348 : Index := 0#32
  ![v2957.toNat, 0]

def k0_chk71 (v2956 : BitVec 32) : Prop :=
  (∀ a, S24x128.size a = 0 ∨ (k0_off230 v2956) a + (![1121, 1] : Fin 2 → Nat) a * (S24x128.size a - 1) < S26904x128.size a)
theorem k0_off230_inb : ∀ (v2956 : BitVec 32) (k0_hw71 : k0_chk71 v2956), ∀ a, S24x128.size a = 0 ∨ (k0_off230 v2956) a + (![1121, 1] : Fin 2 → Nat) a * (S24x128.size a - 1) < S26904x128.size a := fun v2956 k0_hw71 => k0_hw71

def k0_off231 (k0_t9 : Fin k0_t9_loop.trips) : Fin 1 → Nat :=
  let c0_i32_100 : BitVec 32 := 0#32
  let c1_i32_102 : BitVec 32 := 1#32
  let arg25 : BitVec 32 := Scf.iv c0_i32_100 c1_i32_102 k0_t9
  let c8_i32_2345 : BitVec 32 := 8#32
  let v2950 : BitVec 32 := Scalar.muli arg25 c8_i32_2345
  let c4_i32_2346 : BitVec 32 := 4#32
  let v2951 : BitVec 32 := Scalar.addi v2950 c4_i32_2346
  let c640_i32_2349 : BitVec 32 := 640#32
  let v2961 : BitVec 32 := Scalar.addi v2951 c640_i32_2349
  let v2962 : Index := Scalar.indexCast v2961
  ![v2962.toNat]
def k0_off232 (v2965 : BitVec 32) : Fin 2 → Nat :=
  let v2966 : Index := Scalar.indexCast v2965
  let c0_2350 : Index := 0#32
  ![v2966.toNat, 0]

def k0_chk72 (v2965 : BitVec 32) : Prop :=
  (∀ a, S24x128.size a = 0 ∨ (k0_off232 v2965) a + (![1121, 1] : Fin 2 → Nat) a * (S24x128.size a - 1) < S26904x128.size a)
theorem k0_off232_inb : ∀ (v2965 : BitVec 32) (k0_hw72 : k0_chk72 v2965), ∀ a, S24x128.size a = 0 ∨ (k0_off232 v2965) a + (![1121, 1] : Fin 2 → Nat) a * (S24x128.size a - 1) < S26904x128.size a := fun v2965 k0_hw72 => k0_hw72

def k0_off233 (k0_t9 : Fin k0_t9_loop.trips) : Fin 1 → Nat :=
  let c0_i32_100 : BitVec 32 := 0#32
  let c1_i32_102 : BitVec 32 := 1#32
  let arg25 : BitVec 32 := Scf.iv c0_i32_100 c1_i32_102 k0_t9
  let c8_i32_2345 : BitVec 32 := 8#32
  let v2950 : BitVec 32 := Scalar.muli arg25 c8_i32_2345
  let c4_i32_2346 : BitVec 32 := 4#32
  let v2951 : BitVec 32 := Scalar.addi v2950 c4_i32_2346
  let c768_i32_2351 : BitVec 32 := 768#32
  let v2971 : BitVec 32 := Scalar.addi v2951 c768_i32_2351
  let v2972 : Index := Scalar.indexCast v2971
  ![v2972.toNat]
def k0_off234 (v2975 : BitVec 32) : Fin 2 → Nat :=
  let v2976 : Index := Scalar.indexCast v2975
  let c0_2352 : Index := 0#32
  ![v2976.toNat, 0]

def k0_chk73 (v2975 : BitVec 32) : Prop :=
  (∀ a, S24x128.size a = 0 ∨ (k0_off234 v2975) a + (![1121, 1] : Fin 2 → Nat) a * (S24x128.size a - 1) < S26904x128.size a)
theorem k0_off234_inb : ∀ (v2975 : BitVec 32) (k0_hw73 : k0_chk73 v2975), ∀ a, S24x128.size a = 0 ∨ (k0_off234 v2975) a + (![1121, 1] : Fin 2 → Nat) a * (S24x128.size a - 1) < S26904x128.size a := fun v2975 k0_hw73 => k0_hw73

def k0_off235 (k0_t9 : Fin k0_t9_loop.trips) : Fin 1 → Nat :=
  let c0_i32_100 : BitVec 32 := 0#32
  let c1_i32_102 : BitVec 32 := 1#32
  let arg25 : BitVec 32 := Scf.iv c0_i32_100 c1_i32_102 k0_t9
  let c8_i32_2345 : BitVec 32 := 8#32
  let v2950 : BitVec 32 := Scalar.muli arg25 c8_i32_2345
  let c4_i32_2346 : BitVec 32 := 4#32
  let v2951 : BitVec 32 := Scalar.addi v2950 c4_i32_2346
  let c896_i32_2353 : BitVec 32 := 896#32
  let v2981 : BitVec 32 := Scalar.addi v2951 c896_i32_2353
  let v2982 : Index := Scalar.indexCast v2981
  ![v2982.toNat]
def k0_off236 (v2985 : BitVec 32) : Fin 2 → Nat :=
  let v2986 : Index := Scalar.indexCast v2985
  let c0_2354 : Index := 0#32
  ![v2986.toNat, 0]

def k0_chk74 (v2985 : BitVec 32) : Prop :=
  (∀ a, S24x128.size a = 0 ∨ (k0_off236 v2985) a + (![1121, 1] : Fin 2 → Nat) a * (S24x128.size a - 1) < S26904x128.size a)
theorem k0_off236_inb : ∀ (v2985 : BitVec 32) (k0_hw74 : k0_chk74 v2985), ∀ a, S24x128.size a = 0 ∨ (k0_off236 v2985) a + (![1121, 1] : Fin 2 → Nat) a * (S24x128.size a - 1) < S26904x128.size a := fun v2985 k0_hw74 => k0_hw74

def k0_off237 (k0_t9 : Fin k0_t9_loop.trips) : Fin 2 → Nat :=
  let c128_i32_2355 : BitVec 32 := 128#32
  let c0_i32_100 : BitVec 32 := 0#32
  let c1_i32_102 : BitVec 32 := 1#32
  let arg25 : BitVec 32 := Scf.iv c0_i32_100 c1_i32_102 k0_t9
  let c8_i32_2345 : BitVec 32 := 8#32
  let v2950 : BitVec 32 := Scalar.muli arg25 c8_i32_2345
  let c4_i32_2346 : BitVec 32 := 4#32
  let v2951 : BitVec 32 := Scalar.addi v2950 c4_i32_2346
  let v2991 : BitVec 32 := Scalar.addi c128_i32_2355 v2951
  let v2992 : Index := Scalar.indexCast v2991
  let c0_2356 : Index := 0#32
  ![v2992.toNat, 0]
def k0_off238 (k0_t9 : Fin k0_t9_loop.trips) : Fin 1 → Nat :=
  let c0_i32_100 : BitVec 32 := 0#32
  let c1_i32_102 : BitVec 32 := 1#32
  let arg25 : BitVec 32 := Scf.iv c0_i32_100 c1_i32_102 k0_t9
  let c8_i32_2357 : BitVec 32 := 8#32
  let v2996 : BitVec 32 := Scalar.muli arg25 c8_i32_2357
  let c5_i32_2358 : BitVec 32 := 5#32
  let v2997 : BitVec 32 := Scalar.addi v2996 c5_i32_2358
  let c512_i32_2359 : BitVec 32 := 512#32
  let v2998 : BitVec 32 := Scalar.addi v2997 c512_i32_2359
  let v2999 : Index := Scalar.indexCast v2998
  ![v2999.toNat]
def k0_off239 (v3002 : BitVec 32) : Fin 2 → Nat :=
  let v3003 : Index := Scalar.indexCast v3002
  let c0_2360 : Index := 0#32
  ![v3003.toNat, 0]

def k0_chk75 (v3002 : BitVec 32) : Prop :=
  (∀ a, S24x128.size a = 0 ∨ (k0_off239 v3002) a + (![1121, 1] : Fin 2 → Nat) a * (S24x128.size a - 1) < S26904x128.size a)
theorem k0_off239_inb : ∀ (v3002 : BitVec 32) (k0_hw75 : k0_chk75 v3002), ∀ a, S24x128.size a = 0 ∨ (k0_off239 v3002) a + (![1121, 1] : Fin 2 → Nat) a * (S24x128.size a - 1) < S26904x128.size a := fun v3002 k0_hw75 => k0_hw75

def k0_off240 (k0_t9 : Fin k0_t9_loop.trips) : Fin 1 → Nat :=
  let c0_i32_100 : BitVec 32 := 0#32
  let c1_i32_102 : BitVec 32 := 1#32
  let arg25 : BitVec 32 := Scf.iv c0_i32_100 c1_i32_102 k0_t9
  let c8_i32_2357 : BitVec 32 := 8#32
  let v2996 : BitVec 32 := Scalar.muli arg25 c8_i32_2357
  let c5_i32_2358 : BitVec 32 := 5#32
  let v2997 : BitVec 32 := Scalar.addi v2996 c5_i32_2358
  let c640_i32_2361 : BitVec 32 := 640#32
  let v3007 : BitVec 32 := Scalar.addi v2997 c640_i32_2361
  let v3008 : Index := Scalar.indexCast v3007
  ![v3008.toNat]
def k0_off241 (v3011 : BitVec 32) : Fin 2 → Nat :=
  let v3012 : Index := Scalar.indexCast v3011
  let c0_2362 : Index := 0#32
  ![v3012.toNat, 0]

def k0_chk76 (v3011 : BitVec 32) : Prop :=
  (∀ a, S24x128.size a = 0 ∨ (k0_off241 v3011) a + (![1121, 1] : Fin 2 → Nat) a * (S24x128.size a - 1) < S26904x128.size a)
theorem k0_off241_inb : ∀ (v3011 : BitVec 32) (k0_hw76 : k0_chk76 v3011), ∀ a, S24x128.size a = 0 ∨ (k0_off241 v3011) a + (![1121, 1] : Fin 2 → Nat) a * (S24x128.size a - 1) < S26904x128.size a := fun v3011 k0_hw76 => k0_hw76

def k0_off242 (k0_t9 : Fin k0_t9_loop.trips) : Fin 1 → Nat :=
  let c0_i32_100 : BitVec 32 := 0#32
  let c1_i32_102 : BitVec 32 := 1#32
  let arg25 : BitVec 32 := Scf.iv c0_i32_100 c1_i32_102 k0_t9
  let c8_i32_2357 : BitVec 32 := 8#32
  let v2996 : BitVec 32 := Scalar.muli arg25 c8_i32_2357
  let c5_i32_2358 : BitVec 32 := 5#32
  let v2997 : BitVec 32 := Scalar.addi v2996 c5_i32_2358
  let c768_i32_2363 : BitVec 32 := 768#32
  let v3017 : BitVec 32 := Scalar.addi v2997 c768_i32_2363
  let v3018 : Index := Scalar.indexCast v3017
  ![v3018.toNat]
def k0_off243 (v3021 : BitVec 32) : Fin 2 → Nat :=
  let v3022 : Index := Scalar.indexCast v3021
  let c0_2364 : Index := 0#32
  ![v3022.toNat, 0]

def k0_chk77 (v3021 : BitVec 32) : Prop :=
  (∀ a, S24x128.size a = 0 ∨ (k0_off243 v3021) a + (![1121, 1] : Fin 2 → Nat) a * (S24x128.size a - 1) < S26904x128.size a)
theorem k0_off243_inb : ∀ (v3021 : BitVec 32) (k0_hw77 : k0_chk77 v3021), ∀ a, S24x128.size a = 0 ∨ (k0_off243 v3021) a + (![1121, 1] : Fin 2 → Nat) a * (S24x128.size a - 1) < S26904x128.size a := fun v3021 k0_hw77 => k0_hw77

def k0_off244 (k0_t9 : Fin k0_t9_loop.trips) : Fin 1 → Nat :=
  let c0_i32_100 : BitVec 32 := 0#32
  let c1_i32_102 : BitVec 32 := 1#32
  let arg25 : BitVec 32 := Scf.iv c0_i32_100 c1_i32_102 k0_t9
  let c8_i32_2357 : BitVec 32 := 8#32
  let v2996 : BitVec 32 := Scalar.muli arg25 c8_i32_2357
  let c5_i32_2358 : BitVec 32 := 5#32
  let v2997 : BitVec 32 := Scalar.addi v2996 c5_i32_2358
  let c896_i32_2365 : BitVec 32 := 896#32
  let v3027 : BitVec 32 := Scalar.addi v2997 c896_i32_2365
  let v3028 : Index := Scalar.indexCast v3027
  ![v3028.toNat]
def k0_off245 (v3031 : BitVec 32) : Fin 2 → Nat :=
  let v3032 : Index := Scalar.indexCast v3031
  let c0_2366 : Index := 0#32
  ![v3032.toNat, 0]

def k0_chk78 (v3031 : BitVec 32) : Prop :=
  (∀ a, S24x128.size a = 0 ∨ (k0_off245 v3031) a + (![1121, 1] : Fin 2 → Nat) a * (S24x128.size a - 1) < S26904x128.size a)
theorem k0_off245_inb : ∀ (v3031 : BitVec 32) (k0_hw78 : k0_chk78 v3031), ∀ a, S24x128.size a = 0 ∨ (k0_off245 v3031) a + (![1121, 1] : Fin 2 → Nat) a * (S24x128.size a - 1) < S26904x128.size a := fun v3031 k0_hw78 => k0_hw78

def k0_off246 (k0_t9 : Fin k0_t9_loop.trips) : Fin 2 → Nat :=
  let c128_i32_2367 : BitVec 32 := 128#32
  let c0_i32_100 : BitVec 32 := 0#32
  let c1_i32_102 : BitVec 32 := 1#32
  let arg25 : BitVec 32 := Scf.iv c0_i32_100 c1_i32_102 k0_t9
  let c8_i32_2357 : BitVec 32 := 8#32
  let v2996 : BitVec 32 := Scalar.muli arg25 c8_i32_2357
  let c5_i32_2358 : BitVec 32 := 5#32
  let v2997 : BitVec 32 := Scalar.addi v2996 c5_i32_2358
  let v3037 : BitVec 32 := Scalar.addi c128_i32_2367 v2997
  let v3038 : Index := Scalar.indexCast v3037
  let c0_2368 : Index := 0#32
  ![v3038.toNat, 0]
def k0_off247 (k0_t9 : Fin k0_t9_loop.trips) : Fin 1 → Nat :=
  let c0_i32_100 : BitVec 32 := 0#32
  let c1_i32_102 : BitVec 32 := 1#32
  let arg25 : BitVec 32 := Scf.iv c0_i32_100 c1_i32_102 k0_t9
  let c8_i32_2369 : BitVec 32 := 8#32
  let v3042 : BitVec 32 := Scalar.muli arg25 c8_i32_2369
  let c6_i32 : BitVec 32 := 6#32
  let v3043 : BitVec 32 := Scalar.addi v3042 c6_i32
  let c512_i32_2370 : BitVec 32 := 512#32
  let v3044 : BitVec 32 := Scalar.addi v3043 c512_i32_2370
  let v3045 : Index := Scalar.indexCast v3044
  ![v3045.toNat]
def k0_off248 (v3048 : BitVec 32) : Fin 2 → Nat :=
  let v3049 : Index := Scalar.indexCast v3048
  let c0_2371 : Index := 0#32
  ![v3049.toNat, 0]

def k0_chk79 (v3048 : BitVec 32) : Prop :=
  (∀ a, S24x128.size a = 0 ∨ (k0_off248 v3048) a + (![1121, 1] : Fin 2 → Nat) a * (S24x128.size a - 1) < S26904x128.size a)
theorem k0_off248_inb : ∀ (v3048 : BitVec 32) (k0_hw79 : k0_chk79 v3048), ∀ a, S24x128.size a = 0 ∨ (k0_off248 v3048) a + (![1121, 1] : Fin 2 → Nat) a * (S24x128.size a - 1) < S26904x128.size a := fun v3048 k0_hw79 => k0_hw79

def k0_off249 (k0_t9 : Fin k0_t9_loop.trips) : Fin 1 → Nat :=
  let c0_i32_100 : BitVec 32 := 0#32
  let c1_i32_102 : BitVec 32 := 1#32
  let arg25 : BitVec 32 := Scf.iv c0_i32_100 c1_i32_102 k0_t9
  let c8_i32_2369 : BitVec 32 := 8#32
  let v3042 : BitVec 32 := Scalar.muli arg25 c8_i32_2369
  let c6_i32 : BitVec 32 := 6#32
  let v3043 : BitVec 32 := Scalar.addi v3042 c6_i32
  let c640_i32_2372 : BitVec 32 := 640#32
  let v3053 : BitVec 32 := Scalar.addi v3043 c640_i32_2372
  let v3054 : Index := Scalar.indexCast v3053
  ![v3054.toNat]
def k0_off250 (v3057 : BitVec 32) : Fin 2 → Nat :=
  let v3058 : Index := Scalar.indexCast v3057
  let c0_2373 : Index := 0#32
  ![v3058.toNat, 0]

def k0_chk80 (v3057 : BitVec 32) : Prop :=
  (∀ a, S24x128.size a = 0 ∨ (k0_off250 v3057) a + (![1121, 1] : Fin 2 → Nat) a * (S24x128.size a - 1) < S26904x128.size a)
theorem k0_off250_inb : ∀ (v3057 : BitVec 32) (k0_hw80 : k0_chk80 v3057), ∀ a, S24x128.size a = 0 ∨ (k0_off250 v3057) a + (![1121, 1] : Fin 2 → Nat) a * (S24x128.size a - 1) < S26904x128.size a := fun v3057 k0_hw80 => k0_hw80

def k0_off251 (k0_t9 : Fin k0_t9_loop.trips) : Fin 1 → Nat :=
  let c0_i32_100 : BitVec 32 := 0#32
  let c1_i32_102 : BitVec 32 := 1#32
  let arg25 : BitVec 32 := Scf.iv c0_i32_100 c1_i32_102 k0_t9
  let c8_i32_2369 : BitVec 32 := 8#32
  let v3042 : BitVec 32 := Scalar.muli arg25 c8_i32_2369
  let c6_i32 : BitVec 32 := 6#32
  let v3043 : BitVec 32 := Scalar.addi v3042 c6_i32
  let c768_i32_2374 : BitVec 32 := 768#32
  let v3063 : BitVec 32 := Scalar.addi v3043 c768_i32_2374
  let v3064 : Index := Scalar.indexCast v3063
  ![v3064.toNat]
def k0_off252 (v3067 : BitVec 32) : Fin 2 → Nat :=
  let v3068 : Index := Scalar.indexCast v3067
  let c0_2375 : Index := 0#32
  ![v3068.toNat, 0]

def k0_chk81 (v3067 : BitVec 32) : Prop :=
  (∀ a, S24x128.size a = 0 ∨ (k0_off252 v3067) a + (![1121, 1] : Fin 2 → Nat) a * (S24x128.size a - 1) < S26904x128.size a)
theorem k0_off252_inb : ∀ (v3067 : BitVec 32) (k0_hw81 : k0_chk81 v3067), ∀ a, S24x128.size a = 0 ∨ (k0_off252 v3067) a + (![1121, 1] : Fin 2 → Nat) a * (S24x128.size a - 1) < S26904x128.size a := fun v3067 k0_hw81 => k0_hw81

def k0_off253 (k0_t9 : Fin k0_t9_loop.trips) : Fin 1 → Nat :=
  let c0_i32_100 : BitVec 32 := 0#32
  let c1_i32_102 : BitVec 32 := 1#32
  let arg25 : BitVec 32 := Scf.iv c0_i32_100 c1_i32_102 k0_t9
  let c8_i32_2369 : BitVec 32 := 8#32
  let v3042 : BitVec 32 := Scalar.muli arg25 c8_i32_2369
  let c6_i32 : BitVec 32 := 6#32
  let v3043 : BitVec 32 := Scalar.addi v3042 c6_i32
  let c896_i32_2376 : BitVec 32 := 896#32
  let v3073 : BitVec 32 := Scalar.addi v3043 c896_i32_2376
  let v3074 : Index := Scalar.indexCast v3073
  ![v3074.toNat]
def k0_off254 (v3077 : BitVec 32) : Fin 2 → Nat :=
  let v3078 : Index := Scalar.indexCast v3077
  let c0_2377 : Index := 0#32
  ![v3078.toNat, 0]

def k0_chk82 (v3077 : BitVec 32) : Prop :=
  (∀ a, S24x128.size a = 0 ∨ (k0_off254 v3077) a + (![1121, 1] : Fin 2 → Nat) a * (S24x128.size a - 1) < S26904x128.size a)
theorem k0_off254_inb : ∀ (v3077 : BitVec 32) (k0_hw82 : k0_chk82 v3077), ∀ a, S24x128.size a = 0 ∨ (k0_off254 v3077) a + (![1121, 1] : Fin 2 → Nat) a * (S24x128.size a - 1) < S26904x128.size a := fun v3077 k0_hw82 => k0_hw82

def k0_off255 (k0_t9 : Fin k0_t9_loop.trips) : Fin 2 → Nat :=
  let c128_i32_2378 : BitVec 32 := 128#32
  let c0_i32_100 : BitVec 32 := 0#32
  let c1_i32_102 : BitVec 32 := 1#32
  let arg25 : BitVec 32 := Scf.iv c0_i32_100 c1_i32_102 k0_t9
  let c8_i32_2369 : BitVec 32 := 8#32
  let v3042 : BitVec 32 := Scalar.muli arg25 c8_i32_2369
  let c6_i32 : BitVec 32 := 6#32
  let v3043 : BitVec 32 := Scalar.addi v3042 c6_i32
  let v3083 : BitVec 32 := Scalar.addi c128_i32_2378 v3043
  let v3084 : Index := Scalar.indexCast v3083
  let c0_2379 : Index := 0#32
  ![v3084.toNat, 0]
def k0_off256 (k0_t9 : Fin k0_t9_loop.trips) : Fin 1 → Nat :=
  let c0_i32_100 : BitVec 32 := 0#32
  let c1_i32_102 : BitVec 32 := 1#32
  let arg25 : BitVec 32 := Scf.iv c0_i32_100 c1_i32_102 k0_t9
  let c8_i32_2380 : BitVec 32 := 8#32
  let v3088 : BitVec 32 := Scalar.muli arg25 c8_i32_2380
  let c7_i32 : BitVec 32 := 7#32
  let v3089 : BitVec 32 := Scalar.addi v3088 c7_i32
  let c512_i32_2381 : BitVec 32 := 512#32
  let v3090 : BitVec 32 := Scalar.addi v3089 c512_i32_2381
  let v3091 : Index := Scalar.indexCast v3090
  ![v3091.toNat]
def k0_off257 (v3094 : BitVec 32) : Fin 2 → Nat :=
  let v3095 : Index := Scalar.indexCast v3094
  let c0_2382 : Index := 0#32
  ![v3095.toNat, 0]

def k0_chk83 (v3094 : BitVec 32) : Prop :=
  (∀ a, S24x128.size a = 0 ∨ (k0_off257 v3094) a + (![1121, 1] : Fin 2 → Nat) a * (S24x128.size a - 1) < S26904x128.size a)
theorem k0_off257_inb : ∀ (v3094 : BitVec 32) (k0_hw83 : k0_chk83 v3094), ∀ a, S24x128.size a = 0 ∨ (k0_off257 v3094) a + (![1121, 1] : Fin 2 → Nat) a * (S24x128.size a - 1) < S26904x128.size a := fun v3094 k0_hw83 => k0_hw83

def k0_off258 (k0_t9 : Fin k0_t9_loop.trips) : Fin 1 → Nat :=
  let c0_i32_100 : BitVec 32 := 0#32
  let c1_i32_102 : BitVec 32 := 1#32
  let arg25 : BitVec 32 := Scf.iv c0_i32_100 c1_i32_102 k0_t9
  let c8_i32_2380 : BitVec 32 := 8#32
  let v3088 : BitVec 32 := Scalar.muli arg25 c8_i32_2380
  let c7_i32 : BitVec 32 := 7#32
  let v3089 : BitVec 32 := Scalar.addi v3088 c7_i32
  let c640_i32_2383 : BitVec 32 := 640#32
  let v3099 : BitVec 32 := Scalar.addi v3089 c640_i32_2383
  let v3100 : Index := Scalar.indexCast v3099
  ![v3100.toNat]
def k0_off259 (v3103 : BitVec 32) : Fin 2 → Nat :=
  let v3104 : Index := Scalar.indexCast v3103
  let c0_2384 : Index := 0#32
  ![v3104.toNat, 0]

def k0_chk84 (v3103 : BitVec 32) : Prop :=
  (∀ a, S24x128.size a = 0 ∨ (k0_off259 v3103) a + (![1121, 1] : Fin 2 → Nat) a * (S24x128.size a - 1) < S26904x128.size a)
theorem k0_off259_inb : ∀ (v3103 : BitVec 32) (k0_hw84 : k0_chk84 v3103), ∀ a, S24x128.size a = 0 ∨ (k0_off259 v3103) a + (![1121, 1] : Fin 2 → Nat) a * (S24x128.size a - 1) < S26904x128.size a := fun v3103 k0_hw84 => k0_hw84

def k0_off260 (k0_t9 : Fin k0_t9_loop.trips) : Fin 1 → Nat :=
  let c0_i32_100 : BitVec 32 := 0#32
  let c1_i32_102 : BitVec 32 := 1#32
  let arg25 : BitVec 32 := Scf.iv c0_i32_100 c1_i32_102 k0_t9
  let c8_i32_2380 : BitVec 32 := 8#32
  let v3088 : BitVec 32 := Scalar.muli arg25 c8_i32_2380
  let c7_i32 : BitVec 32 := 7#32
  let v3089 : BitVec 32 := Scalar.addi v3088 c7_i32
  let c768_i32_2385 : BitVec 32 := 768#32
  let v3109 : BitVec 32 := Scalar.addi v3089 c768_i32_2385
  let v3110 : Index := Scalar.indexCast v3109
  ![v3110.toNat]
def k0_off261 (v3113 : BitVec 32) : Fin 2 → Nat :=
  let v3114 : Index := Scalar.indexCast v3113
  let c0_2386 : Index := 0#32
  ![v3114.toNat, 0]

def k0_chk85 (v3113 : BitVec 32) : Prop :=
  (∀ a, S24x128.size a = 0 ∨ (k0_off261 v3113) a + (![1121, 1] : Fin 2 → Nat) a * (S24x128.size a - 1) < S26904x128.size a)
theorem k0_off261_inb : ∀ (v3113 : BitVec 32) (k0_hw85 : k0_chk85 v3113), ∀ a, S24x128.size a = 0 ∨ (k0_off261 v3113) a + (![1121, 1] : Fin 2 → Nat) a * (S24x128.size a - 1) < S26904x128.size a := fun v3113 k0_hw85 => k0_hw85

def k0_off262 (k0_t9 : Fin k0_t9_loop.trips) : Fin 1 → Nat :=
  let c0_i32_100 : BitVec 32 := 0#32
  let c1_i32_102 : BitVec 32 := 1#32
  let arg25 : BitVec 32 := Scf.iv c0_i32_100 c1_i32_102 k0_t9
  let c8_i32_2380 : BitVec 32 := 8#32
  let v3088 : BitVec 32 := Scalar.muli arg25 c8_i32_2380
  let c7_i32 : BitVec 32 := 7#32
  let v3089 : BitVec 32 := Scalar.addi v3088 c7_i32
  let c896_i32_2387 : BitVec 32 := 896#32
  let v3119 : BitVec 32 := Scalar.addi v3089 c896_i32_2387
  let v3120 : Index := Scalar.indexCast v3119
  ![v3120.toNat]
def k0_off263 (v3123 : BitVec 32) : Fin 2 → Nat :=
  let v3124 : Index := Scalar.indexCast v3123
  let c0_2388 : Index := 0#32
  ![v3124.toNat, 0]

def k0_chk86 (v3123 : BitVec 32) : Prop :=
  (∀ a, S24x128.size a = 0 ∨ (k0_off263 v3123) a + (![1121, 1] : Fin 2 → Nat) a * (S24x128.size a - 1) < S26904x128.size a)
theorem k0_off263_inb : ∀ (v3123 : BitVec 32) (k0_hw86 : k0_chk86 v3123), ∀ a, S24x128.size a = 0 ∨ (k0_off263 v3123) a + (![1121, 1] : Fin 2 → Nat) a * (S24x128.size a - 1) < S26904x128.size a := fun v3123 k0_hw86 => k0_hw86

def k0_off264 (k0_t9 : Fin k0_t9_loop.trips) : Fin 2 → Nat :=
  let c128_i32_2389 : BitVec 32 := 128#32
  let c0_i32_100 : BitVec 32 := 0#32
  let c1_i32_102 : BitVec 32 := 1#32
  let arg25 : BitVec 32 := Scf.iv c0_i32_100 c1_i32_102 k0_t9
  let c8_i32_2380 : BitVec 32 := 8#32
  let v3088 : BitVec 32 := Scalar.muli arg25 c8_i32_2380
  let c7_i32 : BitVec 32 := 7#32
  let v3089 : BitVec 32 := Scalar.addi v3088 c7_i32
  let v3129 : BitVec 32 := Scalar.addi c128_i32_2389 v3089
  let v3130 : Index := Scalar.indexCast v3129
  let c0_2390 : Index := 0#32
  ![v3130.toNat, 0]
@[reducible] def k0_t10_loop (v10_0 : BitVec 32) : Scf.Loop 32 :=
  let c0_i32_1633 : BitVec 32 := 0#32
  let v2102 : BitVec 32 := Scalar.subi v10_0 c0_i32_1633
  let c1_i32_1635 : BitVec 32 := 1#32
  let v2104 : BitVec 32 := Scalar.divsi v2102 c1_i32_1635
  let v2105 : BitVec 32 := Scalar.muli v2104 c1_i32_1635
  let v2106 : BitVec 32 := Scalar.addi c0_i32_1633 v2105
  let c1_i32_1636 : BitVec 32 := 1#32
  ⟨c0_i32_1633, v2106, c1_i32_1636⟩
def k0_off265 (v10_0 : BitVec 32) (k0_t10 : Fin (k0_t10_loop v10_0).trips) : Fin 2 → Nat :=
  let c0_2304 : Index := 0#32
  let c0_i32_1633 : BitVec 32 := 0#32
  let c1_i32_1636 : BitVec 32 := 1#32
  let arg25 : BitVec 32 := Scf.iv c0_i32_1633 c1_i32_1636 k0_t10
  let v2769 : Index := Scalar.indexCast arg25
  ![0, v2769.toNat]
def k0_off266 (v10_0 : BitVec 32) (k0_t10 : Fin (k0_t10_loop v10_0).trips) : Fin 2 → Nat :=
  let c1_2305 : Index := 1#32
  let c0_i32_1633 : BitVec 32 := 0#32
  let c1_i32_1636 : BitVec 32 := 1#32
  let arg25 : BitVec 32 := Scf.iv c0_i32_1633 c1_i32_1636 k0_t10
  let v2771 : Index := Scalar.indexCast arg25
  ![1, v2771.toNat]
def k0_off267 (v10_0 : BitVec 32) (k0_t10 : Fin (k0_t10_loop v10_0).trips) : Fin 2 → Nat :=
  let c2_2306 : Index := 2#32
  let c0_i32_1633 : BitVec 32 := 0#32
  let c1_i32_1636 : BitVec 32 := 1#32
  let arg25 : BitVec 32 := Scf.iv c0_i32_1633 c1_i32_1636 k0_t10
  let v2773 : Index := Scalar.indexCast arg25
  ![2, v2773.toNat]
def k0_off268 (v10_0 : BitVec 32) (k0_t10 : Fin (k0_t10_loop v10_0).trips) : Fin 1 → Nat :=
  let c1_i32_2303 : BitVec 32 := 1#32
  let v2766 : BitVec 32 := Scalar.muli c1_i32_2303 v10_0
  let c0_i32_1633 : BitVec 32 := 0#32
  let c1_i32_1636 : BitVec 32 := 1#32
  let arg25 : BitVec 32 := Scf.iv c0_i32_1633 c1_i32_1636 k0_t10
  let v2767 : BitVec 32 := Scalar.addi v2766 arg25
  let c6_i32 : BitVec 32 := 6#32
  let v2768 : BitVec 32 := Scalar.remsi v2767 c6_i32
  ![v2768.toNat]
def k0_off269 (v10_0 : BitVec 32) (k0_t10 : Fin (k0_t10_loop v10_0).trips) : Fin 3 → Nat :=
  let c1_i32_2303 : BitVec 32 := 1#32
  let v2766 : BitVec 32 := Scalar.muli c1_i32_2303 v10_0
  let c0_i32_1633 : BitVec 32 := 0#32
  let c1_i32_1636 : BitVec 32 := 1#32
  let arg25 : BitVec 32 := Scf.iv c0_i32_1633 c1_i32_1636 k0_t10
  let v2767 : BitVec 32 := Scalar.addi v2766 arg25
  let c6_i32 : BitVec 32 := 6#32
  let v2768 : BitVec 32 := Scalar.remsi v2767 c6_i32
  let c0_i32_2309 : BitVec 32 := 0#32
  let c0_i32_2310 : BitVec 32 := 0#32
  ![v2768.toNat, 0, 0]
def k0_off270 (v2781 : BitVec 32) : Fin 3 → Nat :=
  let c0_i32_2311 : BitVec 32 := 0#32
  let c3072_i32_2312 : BitVec 32 := 3072#32
  ![v2781.toNat, 0, 3072]

def k0_chk87 (v2781 : BitVec 32) : Prop :=
  (∀ a, (k0_off270 v2781) a + S1x1408x1024.size a ≤ S15x1408x4096.size a) ∧
  (∀ (hinb : ∀ a, (k0_off270 v2781) a + S1x1408x1024.size a ≤ S15x1408x4096.size a), (Rect.unit (s := S15x1408x4096) (k0_off270 v2781) S1x1408x1024.size hinb).WholeWords (EltTy.packing .fp8e4m3))
theorem k0_off270_inb : ∀ (v2781 : BitVec 32) (k0_hw87 : k0_chk87 v2781), ∀ a, (k0_off270 v2781) a + S1x1408x1024.size a ≤ S15x1408x4096.size a := fun v2781 k0_hw87 => k0_hw87.1
theorem k0_off270_wordsfp8e4m3 : ∀ (v2781 : BitVec 32) (k0_hw87 : k0_chk87 v2781), (Rect.unit (s := S15x1408x4096) (k0_off270 v2781) S1x1408x1024.size (k0_off270_inb v2781 k0_hw87)).WholeWords (EltTy.packing .fp8e4m3) := fun v2781 k0_hw87 => k0_hw87.2 (k0_off270_inb v2781 k0_hw87)

@[reducible] def k0_t11_loop (v2772 : BitVec 32) (v2774 : BitVec 32) : Scf.Loop 32 :=
  let c0_i32_2313 : BitVec 32 := 0#32
  let c_m32_i32 : BitVec 32 := 4294967264#32
  let v2775 : BitVec 32 := Scalar.andi v2772 c_m32_i32
  let v2776 : BitVec 32 := Scalar.subi v2774 v2775
  let c128_i32 : BitVec 32 := 128#32
  let v2777 : BitVec 32 := Scalar.addi v2776 c128_i32
  let c1_i32_2307 : BitVec 32 := 1#32
  let v2778 : BitVec 32 := Scalar.subi v2777 c1_i32_2307
  let c7_i32 : BitVec 32 := 7#32
  let v2779 : BitVec 32 := Scalar.shrui v2778 c7_i32
  let v2788 : BitVec 32 := Scalar.subi v2779 c0_i32_2313
  let c1_i32_2315 : BitVec 32 := 1#32
  let v2790 : BitVec 32 := Scalar.divsi v2788 c1_i32_2315
  let v2791 : BitVec 32 := Scalar.muli v2790 c1_i32_2315
  let v2792 : BitVec 32 := Scalar.addi c0_i32_2313 v2791
  let c1_i32_2316 : BitVec 32 := 1#32
  ⟨c0_i32_2313, v2792, c1_i32_2316⟩

def k0_mult5 (v2772 : BitVec 32) (v2774 : BitVec 32) (k0_t11 : Fin (k0_t11_loop v2772 v2774).trips) : BitVec 32 :=
  let c_m32_i32 : BitVec 32 := 4294967264#32
  let v2775 : BitVec 32 := Scalar.andi v2772 c_m32_i32
  let c0_i32_2313 : BitVec 32 := 0#32
  let c1_i32_2316 : BitVec 32 := 1#32
  let arg27 : BitVec 32 := Scf.iv c0_i32_2313 c1_i32_2316 k0_t11
  let c128_i32_2326 : BitVec 32 := 128#32
  let v2810 : BitVec 32 := Scalar.muli arg27 c128_i32_2326
  let v2811 : BitVec 32 := Scalar.addi v2775 v2810
  v2811
def k0_off271 (v2772 : BitVec 32) (v2774 : BitVec 32) (k0_t11 : Fin (k0_t11_loop v2772 v2774).trips) : Fin 2 → Nat :=
  let c_m32_i32 : BitVec 32 := 4294967264#32
  let v2775 : BitVec 32 := Scalar.andi v2772 c_m32_i32
  let c0_i32_2313 : BitVec 32 := 0#32
  let c1_i32_2316 : BitVec 32 := 1#32
  let arg27 : BitVec 32 := Scf.iv c0_i32_2313 c1_i32_2316 k0_t11
  let c128_i32_2326 : BitVec 32 := 128#32
  let v2810 : BitVec 32 := Scalar.muli arg27 c128_i32_2326
  let v2811 : BitVec 32 := Scalar.addi v2775 v2810
  let v2812 : BitVec 32 := v2811
  let v2813 : Index := Scalar.indexCast v2812
  let c0_2327 : Index := 0#32
  ![v2813.toNat, 0]
def k0_off272 (v2772 : BitVec 32) (v2774 : BitVec 32) (k0_t11 : Fin (k0_t11_loop v2772 v2774).trips) : Fin 2 → Nat :=
  let c_m32_i32 : BitVec 32 := 4294967264#32
  let v2775 : BitVec 32 := Scalar.andi v2772 c_m32_i32
  let c0_i32_2313 : BitVec 32 := 0#32
  let c1_i32_2316 : BitVec 32 := 1#32
  let arg27 : BitVec 32 := Scf.iv c0_i32_2313 c1_i32_2316 k0_t11
  let c128_i32_2326 : BitVec 32 := 128#32
  let v2810 : BitVec 32 := Scalar.muli arg27 c128_i32_2326
  let v2811 : BitVec 32 := Scalar.addi v2775 v2810
  let v2812 : BitVec 32 := v2811
  let v2815 : Index := Scalar.indexCast v2812
  let c0_2328 : Index := 0#32
  ![v2815.toNat, 0]
def k0_off273 (v10_0 : BitVec 32) (k0_t10 : Fin (k0_t10_loop v10_0).trips) : Fin 3 → Nat :=
  let c1_i32_2303 : BitVec 32 := 1#32
  let v2766 : BitVec 32 := Scalar.muli c1_i32_2303 v10_0
  let c0_i32_1633 : BitVec 32 := 0#32
  let c1_i32_1636 : BitVec 32 := 1#32
  let arg25 : BitVec 32 := Scf.iv c0_i32_1633 c1_i32_1636 k0_t10
  let v2767 : BitVec 32 := Scalar.addi v2766 arg25
  let c6_i32 : BitVec 32 := 6#32
  let v2768 : BitVec 32 := Scalar.remsi v2767 c6_i32
  let v2822 : Index := Scalar.indexCast v2768
  let c0_2329 : Index := 0#32
  let c0_2330 : Index := 0#32
  ![v2822.toNat, 0, 0]
def k0_off274 (v2770 : BitVec 32) : Fin 2 → Nat :=
  let v2826 : Index := Scalar.indexCast v2770
  let c3072 : Index := 3072#32
  ![v2826.toNat, 3072]
def k0_off275 (v2772 : BitVec 32) (v2774 : BitVec 32) (k0_t11 : Fin (k0_t11_loop v2772 v2774).trips) (c0_i32_2332 : BitVec 32) : Fin 2 → Nat :=
  let c_m32_i32 : BitVec 32 := 4294967264#32
  let v2775 : BitVec 32 := Scalar.andi v2772 c_m32_i32
  let c0_i32_2313 : BitVec 32 := 0#32
  let c1_i32_2316 : BitVec 32 := 1#32
  let arg27 : BitVec 32 := Scf.iv c0_i32_2313 c1_i32_2316 k0_t11
  let c128_i32_2326 : BitVec 32 := 128#32
  let v2810 : BitVec 32 := Scalar.muli arg27 c128_i32_2326
  let v2811 : BitVec 32 := Scalar.addi v2775 v2810
  let v2812 : BitVec 32 := v2811
  let v2832 : BitVec 32 := Scalar.addi c0_i32_2332 v2812
  let v2834 : Index := Scalar.indexCast v2832
  let c0_2333 : Index := 0#32
  ![v2834.toNat, 0]
def k0_off276 (v2772 : BitVec 32) (v2774 : BitVec 32) (k0_t11 : Fin (k0_t11_loop v2772 v2774).trips) (c0_i32_2332 : BitVec 32) : Fin 2 → Nat :=
  let c_m32_i32 : BitVec 32 := 4294967264#32
  let v2775 : BitVec 32 := Scalar.andi v2772 c_m32_i32
  let c0_i32_2313 : BitVec 32 := 0#32
  let c1_i32_2316 : BitVec 32 := 1#32
  let arg27 : BitVec 32 := Scf.iv c0_i32_2313 c1_i32_2316 k0_t11
  let c128_i32_2326 : BitVec 32 := 128#32
  let v2810 : BitVec 32 := Scalar.muli arg27 c128_i32_2326
  let v2811 : BitVec 32 := Scalar.addi v2775 v2810
  let v2812 : BitVec 32 := v2811
  let v2832 : BitVec 32 := Scalar.addi c0_i32_2332 v2812
  let c32_i32 : BitVec 32 := 32#32
  let v2840 : BitVec 32 := Scalar.addi v2832 c32_i32
  let v2841 : Index := Scalar.indexCast v2840
  let c0_2334 : Index := 0#32
  ![v2841.toNat, 0]
@[reducible] def k0_t12_loop (v2772 : BitVec 32) (v2774 : BitVec 32) : Scf.Loop 32 :=
  let c0_i32_2313 : BitVec 32 := 0#32
  let c_m32_i32 : BitVec 32 := 4294967264#32
  let v2775 : BitVec 32 := Scalar.andi v2772 c_m32_i32
  let v2776 : BitVec 32 := Scalar.subi v2774 v2775
  let c128_i32 : BitVec 32 := 128#32
  let v2777 : BitVec 32 := Scalar.addi v2776 c128_i32
  let c1_i32_2307 : BitVec 32 := 1#32
  let v2778 : BitVec 32 := Scalar.subi v2777 c1_i32_2307
  let c7_i32 : BitVec 32 := 7#32
  let v2779 : BitVec 32 := Scalar.shrui v2778 c7_i32
  let v2788 : BitVec 32 := Scalar.subi v2779 c0_i32_2313
  let c1_i32_2315 : BitVec 32 := 1#32
  let v2790 : BitVec 32 := Scalar.divsi v2788 c1_i32_2315
  let v2791 : BitVec 32 := Scalar.muli v2790 c1_i32_2315
  let v2792 : BitVec 32 := Scalar.addi c0_i32_2313 v2791
  let v2789 : BitVec 32 := Scalar.addi c0_i32_2313 v2788
  let c1_i32_2317 : BitVec 32 := 1#32
  ⟨v2792, v2789, c1_i32_2317⟩
def k0_mult6 (v2772 : BitVec 32) (v2774 : BitVec 32) (k0_t12 : Fin (k0_t12_loop v2772 v2774).trips) : BitVec 32 :=
  let c_m32_i32 : BitVec 32 := 4294967264#32
  let v2775 : BitVec 32 := Scalar.andi v2772 c_m32_i32
  let c0_i32_2313 : BitVec 32 := 0#32
  let v2776 : BitVec 32 := Scalar.subi v2774 v2775
  let c128_i32 : BitVec 32 := 128#32
  let v2777 : BitVec 32 := Scalar.addi v2776 c128_i32
  let c1_i32_2307 : BitVec 32 := 1#32
  let v2778 : BitVec 32 := Scalar.subi v2777 c1_i32_2307
  let c7_i32 : BitVec 32 := 7#32
  let v2779 : BitVec 32 := Scalar.shrui v2778 c7_i32
  let v2788 : BitVec 32 := Scalar.subi v2779 c0_i32_2313
  let c1_i32_2315 : BitVec 32 := 1#32
  let v2790 : BitVec 32 := Scalar.divsi v2788 c1_i32_2315
  let v2791 : BitVec 32 := Scalar.muli v2790 c1_i32_2315
  let v2792 : BitVec 32 := Scalar.addi c0_i32_2313 v2791
  let c1_i32_2317 : BitVec 32 := 1#32
  let arg27 : BitVec 32 := Scf.iv v2792 c1_i32_2317 k0_t12
  let c128_i32_2326 : BitVec 32 := 128#32
  let v2810 : BitVec 32 := Scalar.muli arg27 c128_i32_2326
  let v2811 : BitVec 32 := Scalar.addi v2775 v2810
  v2811
def k0_off277 (v2772 : BitVec 32) (v2774 : BitVec 32) (k0_t12 : Fin (k0_t12_loop v2772 v2774).trips) : Fin 2 → Nat :=
  let c_m32_i32 : BitVec 32 := 4294967264#32
  let v2775 : BitVec 32 := Scalar.andi v2772 c_m32_i32
  let c0_i32_2313 : BitVec 32 := 0#32
  let v2776 : BitVec 32 := Scalar.subi v2774 v2775
  let c128_i32 : BitVec 32 := 128#32
  let v2777 : BitVec 32 := Scalar.addi v2776 c128_i32
  let c1_i32_2307 : BitVec 32 := 1#32
  let v2778 : BitVec 32 := Scalar.subi v2777 c1_i32_2307
  let c7_i32 : BitVec 32 := 7#32
  let v2779 : BitVec 32 := Scalar.shrui v2778 c7_i32
  let v2788 : BitVec 32 := Scalar.subi v2779 c0_i32_2313
  let c1_i32_2315 : BitVec 32 := 1#32
  let v2790 : BitVec 32 := Scalar.divsi v2788 c1_i32_2315
  let v2791 : BitVec 32 := Scalar.muli v2790 c1_i32_2315
  let v2792 : BitVec 32 := Scalar.addi c0_i32_2313 v2791
  let c1_i32_2317 : BitVec 32 := 1#32
  let arg27 : BitVec 32 := Scf.iv v2792 c1_i32_2317 k0_t12
  let c128_i32_2326 : BitVec 32 := 128#32
  let v2810 : BitVec 32 := Scalar.muli arg27 c128_i32_2326
  let v2811 : BitVec 32 := Scalar.addi v2775 v2810
  let v2812 : BitVec 32 := v2811
  let v2813 : Index := Scalar.indexCast v2812
  let c0_2327 : Index := 0#32
  ![v2813.toNat, 0]
def k0_off278 (v2772 : BitVec 32) (v2774 : BitVec 32) (k0_t12 : Fin (k0_t12_loop v2772 v2774).trips) : Fin 2 → Nat :=
  let c_m32_i32 : BitVec 32 := 4294967264#32
  let v2775 : BitVec 32 := Scalar.andi v2772 c_m32_i32
  let c0_i32_2313 : BitVec 32 := 0#32
  let v2776 : BitVec 32 := Scalar.subi v2774 v2775
  let c128_i32 : BitVec 32 := 128#32
  let v2777 : BitVec 32 := Scalar.addi v2776 c128_i32
  let c1_i32_2307 : BitVec 32 := 1#32
  let v2778 : BitVec 32 := Scalar.subi v2777 c1_i32_2307
  let c7_i32 : BitVec 32 := 7#32
  let v2779 : BitVec 32 := Scalar.shrui v2778 c7_i32
  let v2788 : BitVec 32 := Scalar.subi v2779 c0_i32_2313
  let c1_i32_2315 : BitVec 32 := 1#32
  let v2790 : BitVec 32 := Scalar.divsi v2788 c1_i32_2315
  let v2791 : BitVec 32 := Scalar.muli v2790 c1_i32_2315
  let v2792 : BitVec 32 := Scalar.addi c0_i32_2313 v2791
  let c1_i32_2317 : BitVec 32 := 1#32
  let arg27 : BitVec 32 := Scf.iv v2792 c1_i32_2317 k0_t12
  let c128_i32_2326 : BitVec 32 := 128#32
  let v2810 : BitVec 32 := Scalar.muli arg27 c128_i32_2326
  let v2811 : BitVec 32 := Scalar.addi v2775 v2810
  let v2812 : BitVec 32 := v2811
  let v2815 : Index := Scalar.indexCast v2812
  let c0_2328 : Index := 0#32
  ![v2815.toNat, 0]
def k0_off279 (v10_0 : BitVec 32) (k0_t10 : Fin (k0_t10_loop v10_0).trips) : Fin 3 → Nat :=
  let c1_i32_2303 : BitVec 32 := 1#32
  let v2766 : BitVec 32 := Scalar.muli c1_i32_2303 v10_0
  let c0_i32_1633 : BitVec 32 := 0#32
  let c1_i32_1636 : BitVec 32 := 1#32
  let arg25 : BitVec 32 := Scf.iv c0_i32_1633 c1_i32_1636 k0_t10
  let v2767 : BitVec 32 := Scalar.addi v2766 arg25
  let c6_i32 : BitVec 32 := 6#32
  let v2768 : BitVec 32 := Scalar.remsi v2767 c6_i32
  let v2822 : Index := Scalar.indexCast v2768
  let c0_2329 : Index := 0#32
  let c0_2330 : Index := 0#32
  ![v2822.toNat, 0, 0]
def k0_off280 (v2770 : BitVec 32) : Fin 2 → Nat :=
  let v2826 : Index := Scalar.indexCast v2770
  let c3072 : Index := 3072#32
  ![v2826.toNat, 3072]
def k0_off281 (v2772 : BitVec 32) (v2774 : BitVec 32) (k0_t12 : Fin (k0_t12_loop v2772 v2774).trips) (c0_i32_2332 : BitVec 32) : Fin 2 → Nat :=
  let c_m32_i32 : BitVec 32 := 4294967264#32
  let v2775 : BitVec 32 := Scalar.andi v2772 c_m32_i32
  let c0_i32_2313 : BitVec 32 := 0#32
  let v2776 : BitVec 32 := Scalar.subi v2774 v2775
  let c128_i32 : BitVec 32 := 128#32
  let v2777 : BitVec 32 := Scalar.addi v2776 c128_i32
  let c1_i32_2307 : BitVec 32 := 1#32
  let v2778 : BitVec 32 := Scalar.subi v2777 c1_i32_2307
  let c7_i32 : BitVec 32 := 7#32
  let v2779 : BitVec 32 := Scalar.shrui v2778 c7_i32
  let v2788 : BitVec 32 := Scalar.subi v2779 c0_i32_2313
  let c1_i32_2315 : BitVec 32 := 1#32
  let v2790 : BitVec 32 := Scalar.divsi v2788 c1_i32_2315
  let v2791 : BitVec 32 := Scalar.muli v2790 c1_i32_2315
  let v2792 : BitVec 32 := Scalar.addi c0_i32_2313 v2791
  let c1_i32_2317 : BitVec 32 := 1#32
  let arg27 : BitVec 32 := Scf.iv v2792 c1_i32_2317 k0_t12
  let c128_i32_2326 : BitVec 32 := 128#32
  let v2810 : BitVec 32 := Scalar.muli arg27 c128_i32_2326
  let v2811 : BitVec 32 := Scalar.addi v2775 v2810
  let v2812 : BitVec 32 := v2811
  let v2832 : BitVec 32 := Scalar.addi c0_i32_2332 v2812
  let v2834 : Index := Scalar.indexCast v2832
  let c0_2333 : Index := 0#32
  ![v2834.toNat, 0]
def k0_off282 (v2772 : BitVec 32) (v2774 : BitVec 32) (k0_t12 : Fin (k0_t12_loop v2772 v2774).trips) (c0_i32_2332 : BitVec 32) : Fin 2 → Nat :=
  let c_m32_i32 : BitVec 32 := 4294967264#32
  let v2775 : BitVec 32 := Scalar.andi v2772 c_m32_i32
  let c0_i32_2313 : BitVec 32 := 0#32
  let v2776 : BitVec 32 := Scalar.subi v2774 v2775
  let c128_i32 : BitVec 32 := 128#32
  let v2777 : BitVec 32 := Scalar.addi v2776 c128_i32
  let c1_i32_2307 : BitVec 32 := 1#32
  let v2778 : BitVec 32 := Scalar.subi v2777 c1_i32_2307
  let c7_i32 : BitVec 32 := 7#32
  let v2779 : BitVec 32 := Scalar.shrui v2778 c7_i32
  let v2788 : BitVec 32 := Scalar.subi v2779 c0_i32_2313
  let c1_i32_2315 : BitVec 32 := 1#32
  let v2790 : BitVec 32 := Scalar.divsi v2788 c1_i32_2315
  let v2791 : BitVec 32 := Scalar.muli v2790 c1_i32_2315
  let v2792 : BitVec 32 := Scalar.addi c0_i32_2313 v2791
  let c1_i32_2317 : BitVec 32 := 1#32
  let arg27 : BitVec 32 := Scf.iv v2792 c1_i32_2317 k0_t12
  let c128_i32_2326 : BitVec 32 := 128#32
  let v2810 : BitVec 32 := Scalar.muli arg27 c128_i32_2326
  let v2811 : BitVec 32 := Scalar.addi v2775 v2810
  let v2812 : BitVec 32 := v2811
  let v2832 : BitVec 32 := Scalar.addi c0_i32_2332 v2812
  let c32_i32 : BitVec 32 := 32#32
  let v2840 : BitVec 32 := Scalar.addi v2832 c32_i32
  let v2841 : Index := Scalar.indexCast v2840
  let c0_2334 : Index := 0#32
  ![v2841.toNat, 0]

def k0_chk88 (v10_0 : BitVec 32) (k0_t10 : Fin (k0_t10_loop v10_0).trips) (v2770 : BitVec 32) (v2772 : BitVec 32) (v2774 : BitVec 32) : Prop :=
  ((k0_t11_loop v2772 v2774).OK) ∧
  (∀ k0_t11 : Fin (k0_t11_loop v2772 v2774).trips, 32 ∣ (k0_mult5 v2772 v2774 k0_t11).toNat) ∧
  (∀ k0_t11 : Fin (k0_t11_loop v2772 v2774).trips, ∀ a, (k0_off271 v2772 v2774 k0_t11) a + S128x1408.size a ≤ S1120x1408.size a) ∧
  (∀ k0_t11 : Fin (k0_t11_loop v2772 v2774).trips, ∀ a, (k0_off272 v2772 v2774 k0_t11) a + S128x128.size a ≤ S1120x128.size a) ∧
  (∀ k0_t11 : Fin (k0_t11_loop v2772 v2774).trips, ∀ a, (k0_off273 v10_0 k0_t10) a + S1x1408x1024.size a ≤ S6x1408x3072.size a) ∧
  (∀ k0_t11 : Fin (k0_t11_loop v2772 v2774).trips, ∀ a, (k0_off274 v2770) a + S1x1024.size a ≤ S15x4096.size a) ∧
  (∀ k0_t11 : Fin (k0_t11_loop v2772 v2774).trips, ∀ (r : Fin 8), ∀ a, (k0_off275 v2772 v2774 k0_t11 (BitVec.ofNat 32 (1121 * r.val))) a + S32x128.size a ≤ S26904x128.size a) ∧
  (∀ k0_t11 : Fin (k0_t11_loop v2772 v2774).trips, ∀ (r : Fin 8), ∀ a, (k0_off276 v2772 v2774 k0_t11 (BitVec.ofNat 32 (1121 * r.val))) a + S96x128.size a ≤ S26904x128.size a) ∧
  ((k0_t12_loop v2772 v2774).OK) ∧
  (∀ k0_t12 : Fin (k0_t12_loop v2772 v2774).trips, 32 ∣ (k0_mult6 v2772 v2774 k0_t12).toNat) ∧
  (∀ k0_t12 : Fin (k0_t12_loop v2772 v2774).trips, ∀ a, (k0_off277 v2772 v2774 k0_t12) a + S128x1408.size a ≤ S1120x1408.size a) ∧
  (∀ k0_t12 : Fin (k0_t12_loop v2772 v2774).trips, ∀ a, (k0_off278 v2772 v2774 k0_t12) a + S128x128.size a ≤ S1120x128.size a) ∧
  (∀ k0_t12 : Fin (k0_t12_loop v2772 v2774).trips, ∀ a, (k0_off279 v10_0 k0_t10) a + S1x1408x1024.size a ≤ S6x1408x3072.size a) ∧
  (∀ k0_t12 : Fin (k0_t12_loop v2772 v2774).trips, ∀ a, (k0_off280 v2770) a + S1x1024.size a ≤ S15x4096.size a) ∧
  (∀ k0_t12 : Fin (k0_t12_loop v2772 v2774).trips, ∀ (r : Fin 8), ∀ a, (k0_off281 v2772 v2774 k0_t12 (BitVec.ofNat 32 (1121 * r.val))) a + S32x128.size a ≤ S26904x128.size a) ∧
  (∀ k0_t12 : Fin (k0_t12_loop v2772 v2774).trips, ∀ (r : Fin 8), ∀ a, (k0_off282 v2772 v2774 k0_t12 (BitVec.ofNat 32 (1121 * r.val))) a + S96x128.size a ≤ S26904x128.size a)
theorem k0_t11_ok : ∀ (v10_0 : BitVec 32) (k0_t10 : Fin (k0_t10_loop v10_0).trips) (v2770 : BitVec 32) (v2772 : BitVec 32) (v2774 : BitVec 32) (k0_hw88 : k0_chk88 v10_0 k0_t10 v2770 v2772 v2774), (k0_t11_loop v2772 v2774).OK := fun v10_0 k0_t10 v2770 v2772 v2774 k0_hw88 => k0_hw88.1
theorem k0_mult5_dvd : ∀ (v10_0 : BitVec 32) (k0_t10 : Fin (k0_t10_loop v10_0).trips) (v2770 : BitVec 32) (v2772 : BitVec 32) (v2774 : BitVec 32) (k0_hw88 : k0_chk88 v10_0 k0_t10 v2770 v2772 v2774) (k0_t11 : Fin (k0_t11_loop v2772 v2774).trips), 32 ∣ (k0_mult5 v2772 v2774 k0_t11).toNat := fun v10_0 k0_t10 v2770 v2772 v2774 k0_hw88 k0_t11 => k0_hw88.2.1 k0_t11
theorem k0_off271_inb : ∀ (v10_0 : BitVec 32) (k0_t10 : Fin (k0_t10_loop v10_0).trips) (v2770 : BitVec 32) (v2772 : BitVec 32) (v2774 : BitVec 32) (k0_hw88 : k0_chk88 v10_0 k0_t10 v2770 v2772 v2774) (k0_t11 : Fin (k0_t11_loop v2772 v2774).trips), ∀ a, (k0_off271 v2772 v2774 k0_t11) a + S128x1408.size a ≤ S1120x1408.size a := fun v10_0 k0_t10 v2770 v2772 v2774 k0_hw88 k0_t11 => k0_hw88.2.2.1 k0_t11
theorem k0_off272_inb : ∀ (v10_0 : BitVec 32) (k0_t10 : Fin (k0_t10_loop v10_0).trips) (v2770 : BitVec 32) (v2772 : BitVec 32) (v2774 : BitVec 32) (k0_hw88 : k0_chk88 v10_0 k0_t10 v2770 v2772 v2774) (k0_t11 : Fin (k0_t11_loop v2772 v2774).trips), ∀ a, (k0_off272 v2772 v2774 k0_t11) a + S128x128.size a ≤ S1120x128.size a := fun v10_0 k0_t10 v2770 v2772 v2774 k0_hw88 k0_t11 => k0_hw88.2.2.2.1 k0_t11
theorem k0_off273_inb : ∀ (v10_0 : BitVec 32) (k0_t10 : Fin (k0_t10_loop v10_0).trips) (v2770 : BitVec 32) (v2772 : BitVec 32) (v2774 : BitVec 32) (k0_hw88 : k0_chk88 v10_0 k0_t10 v2770 v2772 v2774) (k0_t11 : Fin (k0_t11_loop v2772 v2774).trips), ∀ a, (k0_off273 v10_0 k0_t10) a + S1x1408x1024.size a ≤ S6x1408x3072.size a := fun v10_0 k0_t10 v2770 v2772 v2774 k0_hw88 k0_t11 => k0_hw88.2.2.2.2.1 k0_t11
theorem k0_off274_inb : ∀ (v10_0 : BitVec 32) (k0_t10 : Fin (k0_t10_loop v10_0).trips) (v2770 : BitVec 32) (v2772 : BitVec 32) (v2774 : BitVec 32) (k0_hw88 : k0_chk88 v10_0 k0_t10 v2770 v2772 v2774) (k0_t11 : Fin (k0_t11_loop v2772 v2774).trips), ∀ a, (k0_off274 v2770) a + S1x1024.size a ≤ S15x4096.size a := fun v10_0 k0_t10 v2770 v2772 v2774 k0_hw88 k0_t11 => k0_hw88.2.2.2.2.2.1 k0_t11
theorem k0_off275_inb : ∀ (v10_0 : BitVec 32) (k0_t10 : Fin (k0_t10_loop v10_0).trips) (v2770 : BitVec 32) (v2772 : BitVec 32) (v2774 : BitVec 32) (k0_hw88 : k0_chk88 v10_0 k0_t10 v2770 v2772 v2774) (k0_t11 : Fin (k0_t11_loop v2772 v2774).trips), ∀ (r : Fin 8), ∀ a, (k0_off275 v2772 v2774 k0_t11 (BitVec.ofNat 32 (1121 * r.val))) a + S32x128.size a ≤ S26904x128.size a := fun v10_0 k0_t10 v2770 v2772 v2774 k0_hw88 k0_t11 r => k0_hw88.2.2.2.2.2.2.1 k0_t11 r
theorem k0_off276_inb : ∀ (v10_0 : BitVec 32) (k0_t10 : Fin (k0_t10_loop v10_0).trips) (v2770 : BitVec 32) (v2772 : BitVec 32) (v2774 : BitVec 32) (k0_hw88 : k0_chk88 v10_0 k0_t10 v2770 v2772 v2774) (k0_t11 : Fin (k0_t11_loop v2772 v2774).trips), ∀ (r : Fin 8), ∀ a, (k0_off276 v2772 v2774 k0_t11 (BitVec.ofNat 32 (1121 * r.val))) a + S96x128.size a ≤ S26904x128.size a := fun v10_0 k0_t10 v2770 v2772 v2774 k0_hw88 k0_t11 r => k0_hw88.2.2.2.2.2.2.2.1 k0_t11 r
theorem k0_t12_ok : ∀ (v10_0 : BitVec 32) (k0_t10 : Fin (k0_t10_loop v10_0).trips) (v2770 : BitVec 32) (v2772 : BitVec 32) (v2774 : BitVec 32) (k0_hw88 : k0_chk88 v10_0 k0_t10 v2770 v2772 v2774), (k0_t12_loop v2772 v2774).OK := fun v10_0 k0_t10 v2770 v2772 v2774 k0_hw88 => k0_hw88.2.2.2.2.2.2.2.2.1
theorem k0_mult6_dvd : ∀ (v10_0 : BitVec 32) (k0_t10 : Fin (k0_t10_loop v10_0).trips) (v2770 : BitVec 32) (v2772 : BitVec 32) (v2774 : BitVec 32) (k0_hw88 : k0_chk88 v10_0 k0_t10 v2770 v2772 v2774) (k0_t12 : Fin (k0_t12_loop v2772 v2774).trips), 32 ∣ (k0_mult6 v2772 v2774 k0_t12).toNat := fun v10_0 k0_t10 v2770 v2772 v2774 k0_hw88 k0_t12 => k0_hw88.2.2.2.2.2.2.2.2.2.1 k0_t12
theorem k0_off277_inb : ∀ (v10_0 : BitVec 32) (k0_t10 : Fin (k0_t10_loop v10_0).trips) (v2770 : BitVec 32) (v2772 : BitVec 32) (v2774 : BitVec 32) (k0_hw88 : k0_chk88 v10_0 k0_t10 v2770 v2772 v2774) (k0_t12 : Fin (k0_t12_loop v2772 v2774).trips), ∀ a, (k0_off277 v2772 v2774 k0_t12) a + S128x1408.size a ≤ S1120x1408.size a := fun v10_0 k0_t10 v2770 v2772 v2774 k0_hw88 k0_t12 => k0_hw88.2.2.2.2.2.2.2.2.2.2.1 k0_t12
theorem k0_off278_inb : ∀ (v10_0 : BitVec 32) (k0_t10 : Fin (k0_t10_loop v10_0).trips) (v2770 : BitVec 32) (v2772 : BitVec 32) (v2774 : BitVec 32) (k0_hw88 : k0_chk88 v10_0 k0_t10 v2770 v2772 v2774) (k0_t12 : Fin (k0_t12_loop v2772 v2774).trips), ∀ a, (k0_off278 v2772 v2774 k0_t12) a + S128x128.size a ≤ S1120x128.size a := fun v10_0 k0_t10 v2770 v2772 v2774 k0_hw88 k0_t12 => k0_hw88.2.2.2.2.2.2.2.2.2.2.2.1 k0_t12
theorem k0_off279_inb : ∀ (v10_0 : BitVec 32) (k0_t10 : Fin (k0_t10_loop v10_0).trips) (v2770 : BitVec 32) (v2772 : BitVec 32) (v2774 : BitVec 32) (k0_hw88 : k0_chk88 v10_0 k0_t10 v2770 v2772 v2774) (k0_t12 : Fin (k0_t12_loop v2772 v2774).trips), ∀ a, (k0_off279 v10_0 k0_t10) a + S1x1408x1024.size a ≤ S6x1408x3072.size a := fun v10_0 k0_t10 v2770 v2772 v2774 k0_hw88 k0_t12 => k0_hw88.2.2.2.2.2.2.2.2.2.2.2.2.1 k0_t12
theorem k0_off280_inb : ∀ (v10_0 : BitVec 32) (k0_t10 : Fin (k0_t10_loop v10_0).trips) (v2770 : BitVec 32) (v2772 : BitVec 32) (v2774 : BitVec 32) (k0_hw88 : k0_chk88 v10_0 k0_t10 v2770 v2772 v2774) (k0_t12 : Fin (k0_t12_loop v2772 v2774).trips), ∀ a, (k0_off280 v2770) a + S1x1024.size a ≤ S15x4096.size a := fun v10_0 k0_t10 v2770 v2772 v2774 k0_hw88 k0_t12 => k0_hw88.2.2.2.2.2.2.2.2.2.2.2.2.2.1 k0_t12
theorem k0_off281_inb : ∀ (v10_0 : BitVec 32) (k0_t10 : Fin (k0_t10_loop v10_0).trips) (v2770 : BitVec 32) (v2772 : BitVec 32) (v2774 : BitVec 32) (k0_hw88 : k0_chk88 v10_0 k0_t10 v2770 v2772 v2774) (k0_t12 : Fin (k0_t12_loop v2772 v2774).trips), ∀ (r : Fin 8), ∀ a, (k0_off281 v2772 v2774 k0_t12 (BitVec.ofNat 32 (1121 * r.val))) a + S32x128.size a ≤ S26904x128.size a := fun v10_0 k0_t10 v2770 v2772 v2774 k0_hw88 k0_t12 r => k0_hw88.2.2.2.2.2.2.2.2.2.2.2.2.2.2.1 k0_t12 r
theorem k0_off282_inb : ∀ (v10_0 : BitVec 32) (k0_t10 : Fin (k0_t10_loop v10_0).trips) (v2770 : BitVec 32) (v2772 : BitVec 32) (v2774 : BitVec 32) (k0_hw88 : k0_chk88 v10_0 k0_t10 v2770 v2772 v2774) (k0_t12 : Fin (k0_t12_loop v2772 v2774).trips), ∀ (r : Fin 8), ∀ a, (k0_off282 v2772 v2774 k0_t12 (BitVec.ofNat 32 (1121 * r.val))) a + S96x128.size a ≤ S26904x128.size a := fun v10_0 k0_t10 v2770 v2772 v2774 k0_hw88 k0_t12 r => k0_hw88.2.2.2.2.2.2.2.2.2.2.2.2.2.2.2 k0_t12 r

def k0_off283 (v10_0 : BitVec 32) (k0_t10 : Fin (k0_t10_loop v10_0).trips) : Fin 2 → Nat :=
  let c0_2327 : Index := 0#32
  let c1_i32_2303 : BitVec 32 := 1#32
  let v2766 : BitVec 32 := Scalar.muli c1_i32_2303 v10_0
  let c0_i32_1633 : BitVec 32 := 0#32
  let c1_i32_1636 : BitVec 32 := 1#32
  let arg25 : BitVec 32 := Scf.iv c0_i32_1633 c1_i32_1636 k0_t10
  let v2767 : BitVec 32 := Scalar.addi v2766 arg25
  let c6_i32_2318 : BitVec 32 := 6#32
  let v2795 : BitVec 32 := Scalar.addi v2767 c6_i32_2318
  let c0_i32_2319 : BitVec 32 := 0#32
  let v2796 : BitVec 32 := Scalar.muli c0_i32_2319 v10_0
  let v2797 : BitVec 32 := Scalar.subi v2795 v2796
  let v2811 : Index := Scalar.indexCast v2797
  ![0, v2811.toNat]
def k0_cond17 (v10_0 : BitVec 32) (k0_t10 : Fin (k0_t10_loop v10_0).trips) : BitVec 1 :=
  let c1_i32_2303 : BitVec 32 := 1#32
  let v2766 : BitVec 32 := Scalar.muli c1_i32_2303 v10_0
  let c0_i32_1633 : BitVec 32 := 0#32
  let c1_i32_1636 : BitVec 32 := 1#32
  let arg25 : BitVec 32 := Scf.iv c0_i32_1633 c1_i32_1636 k0_t10
  let v2767 : BitVec 32 := Scalar.addi v2766 arg25
  let c6_i32_2318 : BitVec 32 := 6#32
  let v2795 : BitVec 32 := Scalar.addi v2767 c6_i32_2318
  let c0_i32_2319 : BitVec 32 := 0#32
  let v2796 : BitVec 32 := Scalar.muli c0_i32_2319 v10_0
  let v2797 : BitVec 32 := Scalar.subi v2795 v2796
  let c0_i32_2320 : BitVec 32 := 0#32
  let v2798 : BitVec 1 := Scalar.cmpi .sge v2797 c0_i32_2320
  let v2799 : BitVec 1 := Scalar.cmpi .slt v2797 v10_0
  let v2800 : BitVec 1 := Scalar.andi v2798 v2799
  let v2801 : BitVec 32 := Scalar.extui v2800
  let c0_i32_2321 : BitVec 32 := 0#32
  let v2802 : BitVec 1 := Scalar.cmpi .ne v2801 c0_i32_2321
  v2802

def k0_off284 (v10_0 : BitVec 32) (k0_t10 : Fin (k0_t10_loop v10_0).trips) : Fin 1 → Nat :=
  let c1_i32_2303 : BitVec 32 := 1#32
  let v2766 : BitVec 32 := Scalar.muli c1_i32_2303 v10_0
  let c0_i32_1633 : BitVec 32 := 0#32
  let c1_i32_1636 : BitVec 32 := 1#32
  let arg25 : BitVec 32 := Scf.iv c0_i32_1633 c1_i32_1636 k0_t10
  let v2767 : BitVec 32 := Scalar.addi v2766 arg25
  let c6_i32_2318 : BitVec 32 := 6#32
  let v2795 : BitVec 32 := Scalar.addi v2767 c6_i32_2318
  let c6_i32_2326 : BitVec 32 := 6#32
  let v2810 : BitVec 32 := Scalar.remsi v2795 c6_i32_2326
  ![v2810.toNat]
def k0_off285 (v10_0 : BitVec 32) (k0_t10 : Fin (k0_t10_loop v10_0).trips) : Fin 3 → Nat :=
  let c1_i32_2303 : BitVec 32 := 1#32
  let v2766 : BitVec 32 := Scalar.muli c1_i32_2303 v10_0
  let c0_i32_1633 : BitVec 32 := 0#32
  let c1_i32_1636 : BitVec 32 := 1#32
  let arg25 : BitVec 32 := Scf.iv c0_i32_1633 c1_i32_1636 k0_t10
  let v2767 : BitVec 32 := Scalar.addi v2766 arg25
  let c6_i32_2318 : BitVec 32 := 6#32
  let v2795 : BitVec 32 := Scalar.addi v2767 c6_i32_2318
  let c6_i32_2326 : BitVec 32 := 6#32
  let v2810 : BitVec 32 := Scalar.remsi v2795 c6_i32_2326
  let c0_i32_2328 : BitVec 32 := 0#32
  let c0_i32_2329 : BitVec 32 := 0#32
  ![v2810.toNat, 0, 0]
def k0_off286 (v2812 : BitVec 32) : Fin 3 → Nat :=
  let c0_i32_2330 : BitVec 32 := 0#32
  let c0_i32_2331 : BitVec 32 := 0#32
  ![v2812.toNat, 0, 0]

def k0_chk89 (v10_0 : BitVec 32) (k0_t10 : Fin (k0_t10_loop v10_0).trips) (v2812 : BitVec 32) : Prop :=
  (∀ (k0_h17 : k0_cond17 v10_0 k0_t10 = 1#1), ∀ a, (k0_off286 v2812) a + S1x1408x3072.size a ≤ S15x1408x4096.size a) ∧
  (∀ (k0_h17 : k0_cond17 v10_0 k0_t10 = 1#1), ∀ (hinb : ∀ a, (k0_off286 v2812) a + S1x1408x3072.size a ≤ S15x1408x4096.size a), (Rect.unit (s := S15x1408x4096) (k0_off286 v2812) S1x1408x3072.size hinb).WholeWords (EltTy.packing .fp8e4m3))
theorem k0_off286_inb : ∀ (v10_0 : BitVec 32) (k0_t10 : Fin (k0_t10_loop v10_0).trips) (v2812 : BitVec 32) (k0_hw89 : k0_chk89 v10_0 k0_t10 v2812), ∀ (k0_h17 : k0_cond17 v10_0 k0_t10 = 1#1), ∀ a, (k0_off286 v2812) a + S1x1408x3072.size a ≤ S15x1408x4096.size a := fun v10_0 k0_t10 v2812 k0_hw89 k0_h17 => k0_hw89.1 k0_h17
theorem k0_off286_wordsfp8e4m3 : ∀ (v10_0 : BitVec 32) (k0_t10 : Fin (k0_t10_loop v10_0).trips) (v2812 : BitVec 32) (k0_hw89 : k0_chk89 v10_0 k0_t10 v2812), ∀ (k0_h17 : k0_cond17 v10_0 k0_t10 = 1#1), (Rect.unit (s := S15x1408x4096) (k0_off286 v2812) S1x1408x3072.size (k0_off286_inb v10_0 k0_t10 v2812 k0_hw89 k0_h17)).WholeWords (EltTy.packing .fp8e4m3) := fun v10_0 k0_t10 v2812 k0_hw89 k0_h17 => k0_hw89.2 k0_h17 (k0_off286_inb v10_0 k0_t10 v2812 k0_hw89 k0_h17)

def k0_off287 (v10_0 : BitVec 32) (k0_t10 : Fin (k0_t10_loop v10_0).trips) : Fin 2 → Nat :=
  let c0_2327 : Index := 0#32
  let c1_i32_2303 : BitVec 32 := 1#32
  let v2766 : BitVec 32 := Scalar.muli c1_i32_2303 v10_0
  let c0_i32_1633 : BitVec 32 := 0#32
  let c1_i32_1636 : BitVec 32 := 1#32
  let arg25 : BitVec 32 := Scf.iv c0_i32_1633 c1_i32_1636 k0_t10
  let v2767 : BitVec 32 := Scalar.addi v2766 arg25
  let c6_i32_2318 : BitVec 32 := 6#32
  let v2795 : BitVec 32 := Scalar.addi v2767 c6_i32_2318
  let c1_i32_2322 : BitVec 32 := 1#32
  let v2803 : BitVec 32 := Scalar.muli c1_i32_2322 v10_0
  let v2804 : BitVec 32 := Scalar.subi v2795 v2803
  let v2811 : Index := Scalar.indexCast v2804
  ![0, v2811.toNat]
def k0_cond18 (v10_0 : BitVec 32) (k0_t10 : Fin (k0_t10_loop v10_0).trips) : BitVec 1 :=
  let c1_i32_2303 : BitVec 32 := 1#32
  let v2766 : BitVec 32 := Scalar.muli c1_i32_2303 v10_0
  let c0_i32_1633 : BitVec 32 := 0#32
  let c1_i32_1636 : BitVec 32 := 1#32
  let arg25 : BitVec 32 := Scf.iv c0_i32_1633 c1_i32_1636 k0_t10
  let v2767 : BitVec 32 := Scalar.addi v2766 arg25
  let c6_i32_2318 : BitVec 32 := 6#32
  let v2795 : BitVec 32 := Scalar.addi v2767 c6_i32_2318
  let c1_i32_2322 : BitVec 32 := 1#32
  let v2803 : BitVec 32 := Scalar.muli c1_i32_2322 v10_0
  let v2804 : BitVec 32 := Scalar.subi v2795 v2803
  let c0_i32_2323 : BitVec 32 := 0#32
  let v2805 : BitVec 1 := Scalar.cmpi .sge v2804 c0_i32_2323
  let v2806 : BitVec 1 := Scalar.cmpi .slt v2804 v10_0
  let v2807 : BitVec 1 := Scalar.andi v2805 v2806
  let v2808 : BitVec 32 := Scalar.extui v2807
  let c0_i32_2324 : BitVec 32 := 0#32
  let v2809 : BitVec 1 := Scalar.cmpi .ne v2808 c0_i32_2324
  v2809

def k0_off288 (v10_0 : BitVec 32) (k0_t10 : Fin (k0_t10_loop v10_0).trips) : Fin 1 → Nat :=
  let c1_i32_2303 : BitVec 32 := 1#32
  let v2766 : BitVec 32 := Scalar.muli c1_i32_2303 v10_0
  let c0_i32_1633 : BitVec 32 := 0#32
  let c1_i32_1636 : BitVec 32 := 1#32
  let arg25 : BitVec 32 := Scf.iv c0_i32_1633 c1_i32_1636 k0_t10
  let v2767 : BitVec 32 := Scalar.addi v2766 arg25
  let c6_i32_2318 : BitVec 32 := 6#32
  let v2795 : BitVec 32 := Scalar.addi v2767 c6_i32_2318
  let c6_i32_2326 : BitVec 32 := 6#32
  let v2810 : BitVec 32 := Scalar.remsi v2795 c6_i32_2326
  ![v2810.toNat]
def k0_off289 (v10_0 : BitVec 32) (k0_t10 : Fin (k0_t10_loop v10_0).trips) : Fin 3 → Nat :=
  let c1_i32_2303 : BitVec 32 := 1#32
  let v2766 : BitVec 32 := Scalar.muli c1_i32_2303 v10_0
  let c0_i32_1633 : BitVec 32 := 0#32
  let c1_i32_1636 : BitVec 32 := 1#32
  let arg25 : BitVec 32 := Scf.iv c0_i32_1633 c1_i32_1636 k0_t10
  let v2767 : BitVec 32 := Scalar.addi v2766 arg25
  let c6_i32_2318 : BitVec 32 := 6#32
  let v2795 : BitVec 32 := Scalar.addi v2767 c6_i32_2318
  let c6_i32_2326 : BitVec 32 := 6#32
  let v2810 : BitVec 32 := Scalar.remsi v2795 c6_i32_2326
  let c0_i32_2328 : BitVec 32 := 0#32
  let c0_i32_2329 : BitVec 32 := 0#32
  ![v2810.toNat, 0, 0]
def k0_off290 (v2812 : BitVec 32) : Fin 3 → Nat :=
  let c0_i32_2330 : BitVec 32 := 0#32
  let c3072_i32_2331 : BitVec 32 := 3072#32
  ![v2812.toNat, 0, 3072]

def k0_chk90 (v10_0 : BitVec 32) (k0_t10 : Fin (k0_t10_loop v10_0).trips) (v2812 : BitVec 32) : Prop :=
  (∀ (k0_h18 : k0_cond18 v10_0 k0_t10 = 1#1), ∀ a, (k0_off290 v2812) a + S1x1408x1024.size a ≤ S15x1408x4096.size a) ∧
  (∀ (k0_h18 : k0_cond18 v10_0 k0_t10 = 1#1), ∀ (hinb : ∀ a, (k0_off290 v2812) a + S1x1408x1024.size a ≤ S15x1408x4096.size a), (Rect.unit (s := S15x1408x4096) (k0_off290 v2812) S1x1408x1024.size hinb).WholeWords (EltTy.packing .fp8e4m3))
theorem k0_off290_inb : ∀ (v10_0 : BitVec 32) (k0_t10 : Fin (k0_t10_loop v10_0).trips) (v2812 : BitVec 32) (k0_hw90 : k0_chk90 v10_0 k0_t10 v2812), ∀ (k0_h18 : k0_cond18 v10_0 k0_t10 = 1#1), ∀ a, (k0_off290 v2812) a + S1x1408x1024.size a ≤ S15x1408x4096.size a := fun v10_0 k0_t10 v2812 k0_hw90 k0_h18 => k0_hw90.1 k0_h18
theorem k0_off290_wordsfp8e4m3 : ∀ (v10_0 : BitVec 32) (k0_t10 : Fin (k0_t10_loop v10_0).trips) (v2812 : BitVec 32) (k0_hw90 : k0_chk90 v10_0 k0_t10 v2812), ∀ (k0_h18 : k0_cond18 v10_0 k0_t10 = 1#1), (Rect.unit (s := S15x1408x4096) (k0_off290 v2812) S1x1408x1024.size (k0_off290_inb v10_0 k0_t10 v2812 k0_hw90 k0_h18)).WholeWords (EltTy.packing .fp8e4m3) := fun v10_0 k0_t10 v2812 k0_hw90 k0_h18 => k0_hw90.2 k0_h18 (k0_off290_inb v10_0 k0_t10 v2812 k0_hw90 k0_h18)

@[reducible] def k0_t13_loop (v10_0 : BitVec 32) : Scf.Loop 32 :=
  let c0_i32_1633 : BitVec 32 := 0#32
  let v2102 : BitVec 32 := Scalar.subi v10_0 c0_i32_1633
  let c1_i32_1635 : BitVec 32 := 1#32
  let v2104 : BitVec 32 := Scalar.divsi v2102 c1_i32_1635
  let v2105 : BitVec 32 := Scalar.muli v2104 c1_i32_1635
  let v2106 : BitVec 32 := Scalar.addi c0_i32_1633 v2105
  let v2103 : BitVec 32 := Scalar.addi c0_i32_1633 v2102
  let c1_i32_1637 : BitVec 32 := 1#32
  ⟨v2106, v2103, c1_i32_1637⟩
def k0_off291 (v10_0 : BitVec 32) (k0_t13 : Fin (k0_t13_loop v10_0).trips) : Fin 2 → Nat :=
  let c0_2304 : Index := 0#32
  let c0_i32_1633 : BitVec 32 := 0#32
  let v2102 : BitVec 32 := Scalar.subi v10_0 c0_i32_1633
  let c1_i32_1635 : BitVec 32 := 1#32
  let v2104 : BitVec 32 := Scalar.divsi v2102 c1_i32_1635
  let v2105 : BitVec 32 := Scalar.muli v2104 c1_i32_1635
  let v2106 : BitVec 32 := Scalar.addi c0_i32_1633 v2105
  let c1_i32_1637 : BitVec 32 := 1#32
  let arg25 : BitVec 32 := Scf.iv v2106 c1_i32_1637 k0_t13
  let v2769 : Index := Scalar.indexCast arg25
  ![0, v2769.toNat]
def k0_off292 (v10_0 : BitVec 32) (k0_t13 : Fin (k0_t13_loop v10_0).trips) : Fin 2 → Nat :=
  let c1_2305 : Index := 1#32
  let c0_i32_1633 : BitVec 32 := 0#32
  let v2102 : BitVec 32 := Scalar.subi v10_0 c0_i32_1633
  let c1_i32_1635 : BitVec 32 := 1#32
  let v2104 : BitVec 32 := Scalar.divsi v2102 c1_i32_1635
  let v2105 : BitVec 32 := Scalar.muli v2104 c1_i32_1635
  let v2106 : BitVec 32 := Scalar.addi c0_i32_1633 v2105
  let c1_i32_1637 : BitVec 32 := 1#32
  let arg25 : BitVec 32 := Scf.iv v2106 c1_i32_1637 k0_t13
  let v2771 : Index := Scalar.indexCast arg25
  ![1, v2771.toNat]
def k0_off293 (v10_0 : BitVec 32) (k0_t13 : Fin (k0_t13_loop v10_0).trips) : Fin 2 → Nat :=
  let c2_2306 : Index := 2#32
  let c0_i32_1633 : BitVec 32 := 0#32
  let v2102 : BitVec 32 := Scalar.subi v10_0 c0_i32_1633
  let c1_i32_1635 : BitVec 32 := 1#32
  let v2104 : BitVec 32 := Scalar.divsi v2102 c1_i32_1635
  let v2105 : BitVec 32 := Scalar.muli v2104 c1_i32_1635
  let v2106 : BitVec 32 := Scalar.addi c0_i32_1633 v2105
  let c1_i32_1637 : BitVec 32 := 1#32
  let arg25 : BitVec 32 := Scf.iv v2106 c1_i32_1637 k0_t13
  let v2773 : Index := Scalar.indexCast arg25
  ![2, v2773.toNat]
def k0_off294 (v10_0 : BitVec 32) (k0_t13 : Fin (k0_t13_loop v10_0).trips) : Fin 1 → Nat :=
  let c1_i32_2303 : BitVec 32 := 1#32
  let v2766 : BitVec 32 := Scalar.muli c1_i32_2303 v10_0
  let c0_i32_1633 : BitVec 32 := 0#32
  let v2102 : BitVec 32 := Scalar.subi v10_0 c0_i32_1633
  let c1_i32_1635 : BitVec 32 := 1#32
  let v2104 : BitVec 32 := Scalar.divsi v2102 c1_i32_1635
  let v2105 : BitVec 32 := Scalar.muli v2104 c1_i32_1635
  let v2106 : BitVec 32 := Scalar.addi c0_i32_1633 v2105
  let c1_i32_1637 : BitVec 32 := 1#32
  let arg25 : BitVec 32 := Scf.iv v2106 c1_i32_1637 k0_t13
  let v2767 : BitVec 32 := Scalar.addi v2766 arg25
  let c6_i32 : BitVec 32 := 6#32
  let v2768 : BitVec 32 := Scalar.remsi v2767 c6_i32
  ![v2768.toNat]
def k0_off295 (v10_0 : BitVec 32) (k0_t13 : Fin (k0_t13_loop v10_0).trips) : Fin 3 → Nat :=
  let c1_i32_2303 : BitVec 32 := 1#32
  let v2766 : BitVec 32 := Scalar.muli c1_i32_2303 v10_0
  let c0_i32_1633 : BitVec 32 := 0#32
  let v2102 : BitVec 32 := Scalar.subi v10_0 c0_i32_1633
  let c1_i32_1635 : BitVec 32 := 1#32
  let v2104 : BitVec 32 := Scalar.divsi v2102 c1_i32_1635
  let v2105 : BitVec 32 := Scalar.muli v2104 c1_i32_1635
  let v2106 : BitVec 32 := Scalar.addi c0_i32_1633 v2105
  let c1_i32_1637 : BitVec 32 := 1#32
  let arg25 : BitVec 32 := Scf.iv v2106 c1_i32_1637 k0_t13
  let v2767 : BitVec 32 := Scalar.addi v2766 arg25
  let c6_i32 : BitVec 32 := 6#32
  let v2768 : BitVec 32 := Scalar.remsi v2767 c6_i32
  let c0_i32_2309 : BitVec 32 := 0#32
  let c0_i32_2310 : BitVec 32 := 0#32
  ![v2768.toNat, 0, 0]
def k0_off296 (v2781 : BitVec 32) : Fin 3 → Nat :=
  let c0_i32_2311 : BitVec 32 := 0#32
  let c3072_i32_2312 : BitVec 32 := 3072#32
  ![v2781.toNat, 0, 3072]

def k0_chk91 (v2781 : BitVec 32) : Prop :=
  (∀ a, (k0_off296 v2781) a + S1x1408x1024.size a ≤ S15x1408x4096.size a) ∧
  (∀ (hinb : ∀ a, (k0_off296 v2781) a + S1x1408x1024.size a ≤ S15x1408x4096.size a), (Rect.unit (s := S15x1408x4096) (k0_off296 v2781) S1x1408x1024.size hinb).WholeWords (EltTy.packing .fp8e4m3))
theorem k0_off296_inb : ∀ (v2781 : BitVec 32) (k0_hw91 : k0_chk91 v2781), ∀ a, (k0_off296 v2781) a + S1x1408x1024.size a ≤ S15x1408x4096.size a := fun v2781 k0_hw91 => k0_hw91.1
theorem k0_off296_wordsfp8e4m3 : ∀ (v2781 : BitVec 32) (k0_hw91 : k0_chk91 v2781), (Rect.unit (s := S15x1408x4096) (k0_off296 v2781) S1x1408x1024.size (k0_off296_inb v2781 k0_hw91)).WholeWords (EltTy.packing .fp8e4m3) := fun v2781 k0_hw91 => k0_hw91.2 (k0_off296_inb v2781 k0_hw91)

@[reducible] def k0_t14_loop (v2772 : BitVec 32) (v2774 : BitVec 32) : Scf.Loop 32 :=
  let c0_i32_2313 : BitVec 32 := 0#32
  let c_m32_i32 : BitVec 32 := 4294967264#32
  let v2775 : BitVec 32 := Scalar.andi v2772 c_m32_i32
  let v2776 : BitVec 32 := Scalar.subi v2774 v2775
  let c128_i32 : BitVec 32 := 128#32
  let v2777 : BitVec 32 := Scalar.addi v2776 c128_i32
  let c1_i32_2307 : BitVec 32 := 1#32
  let v2778 : BitVec 32 := Scalar.subi v2777 c1_i32_2307
  let c7_i32 : BitVec 32 := 7#32
  let v2779 : BitVec 32 := Scalar.shrui v2778 c7_i32
  let v2788 : BitVec 32 := Scalar.subi v2779 c0_i32_2313
  let c1_i32_2315 : BitVec 32 := 1#32
  let v2790 : BitVec 32 := Scalar.divsi v2788 c1_i32_2315
  let v2791 : BitVec 32 := Scalar.muli v2790 c1_i32_2315
  let v2792 : BitVec 32 := Scalar.addi c0_i32_2313 v2791
  let c1_i32_2316 : BitVec 32 := 1#32
  ⟨c0_i32_2313, v2792, c1_i32_2316⟩

def k0_mult7 (v2772 : BitVec 32) (v2774 : BitVec 32) (k0_t14 : Fin (k0_t14_loop v2772 v2774).trips) : BitVec 32 :=
  let c_m32_i32 : BitVec 32 := 4294967264#32
  let v2775 : BitVec 32 := Scalar.andi v2772 c_m32_i32
  let c0_i32_2313 : BitVec 32 := 0#32
  let c1_i32_2316 : BitVec 32 := 1#32
  let arg27 : BitVec 32 := Scf.iv c0_i32_2313 c1_i32_2316 k0_t14
  let c128_i32_2326 : BitVec 32 := 128#32
  let v2810 : BitVec 32 := Scalar.muli arg27 c128_i32_2326
  let v2811 : BitVec 32 := Scalar.addi v2775 v2810
  v2811
def k0_off297 (v2772 : BitVec 32) (v2774 : BitVec 32) (k0_t14 : Fin (k0_t14_loop v2772 v2774).trips) : Fin 2 → Nat :=
  let c_m32_i32 : BitVec 32 := 4294967264#32
  let v2775 : BitVec 32 := Scalar.andi v2772 c_m32_i32
  let c0_i32_2313 : BitVec 32 := 0#32
  let c1_i32_2316 : BitVec 32 := 1#32
  let arg27 : BitVec 32 := Scf.iv c0_i32_2313 c1_i32_2316 k0_t14
  let c128_i32_2326 : BitVec 32 := 128#32
  let v2810 : BitVec 32 := Scalar.muli arg27 c128_i32_2326
  let v2811 : BitVec 32 := Scalar.addi v2775 v2810
  let v2812 : BitVec 32 := v2811
  let v2813 : Index := Scalar.indexCast v2812
  let c0_2327 : Index := 0#32
  ![v2813.toNat, 0]
def k0_off298 (v2772 : BitVec 32) (v2774 : BitVec 32) (k0_t14 : Fin (k0_t14_loop v2772 v2774).trips) : Fin 2 → Nat :=
  let c_m32_i32 : BitVec 32 := 4294967264#32
  let v2775 : BitVec 32 := Scalar.andi v2772 c_m32_i32
  let c0_i32_2313 : BitVec 32 := 0#32
  let c1_i32_2316 : BitVec 32 := 1#32
  let arg27 : BitVec 32 := Scf.iv c0_i32_2313 c1_i32_2316 k0_t14
  let c128_i32_2326 : BitVec 32 := 128#32
  let v2810 : BitVec 32 := Scalar.muli arg27 c128_i32_2326
  let v2811 : BitVec 32 := Scalar.addi v2775 v2810
  let v2812 : BitVec 32 := v2811
  let v2815 : Index := Scalar.indexCast v2812
  let c0_2328 : Index := 0#32
  ![v2815.toNat, 0]
def k0_off299 (v10_0 : BitVec 32) (k0_t13 : Fin (k0_t13_loop v10_0).trips) : Fin 3 → Nat :=
  let c1_i32_2303 : BitVec 32 := 1#32
  let v2766 : BitVec 32 := Scalar.muli c1_i32_2303 v10_0
  let c0_i32_1633 : BitVec 32 := 0#32
  let v2102 : BitVec 32 := Scalar.subi v10_0 c0_i32_1633
  let c1_i32_1635 : BitVec 32 := 1#32
  let v2104 : BitVec 32 := Scalar.divsi v2102 c1_i32_1635
  let v2105 : BitVec 32 := Scalar.muli v2104 c1_i32_1635
  let v2106 : BitVec 32 := Scalar.addi c0_i32_1633 v2105
  let c1_i32_1637 : BitVec 32 := 1#32
  let arg25 : BitVec 32 := Scf.iv v2106 c1_i32_1637 k0_t13
  let v2767 : BitVec 32 := Scalar.addi v2766 arg25
  let c6_i32 : BitVec 32 := 6#32
  let v2768 : BitVec 32 := Scalar.remsi v2767 c6_i32
  let v2822 : Index := Scalar.indexCast v2768
  let c0_2329 : Index := 0#32
  let c0_2330 : Index := 0#32
  ![v2822.toNat, 0, 0]
def k0_off300 (v2770 : BitVec 32) : Fin 2 → Nat :=
  let v2826 : Index := Scalar.indexCast v2770
  let c3072 : Index := 3072#32
  ![v2826.toNat, 3072]
def k0_off301 (v2772 : BitVec 32) (v2774 : BitVec 32) (k0_t14 : Fin (k0_t14_loop v2772 v2774).trips) (c0_i32_2332 : BitVec 32) : Fin 2 → Nat :=
  let c_m32_i32 : BitVec 32 := 4294967264#32
  let v2775 : BitVec 32 := Scalar.andi v2772 c_m32_i32
  let c0_i32_2313 : BitVec 32 := 0#32
  let c1_i32_2316 : BitVec 32 := 1#32
  let arg27 : BitVec 32 := Scf.iv c0_i32_2313 c1_i32_2316 k0_t14
  let c128_i32_2326 : BitVec 32 := 128#32
  let v2810 : BitVec 32 := Scalar.muli arg27 c128_i32_2326
  let v2811 : BitVec 32 := Scalar.addi v2775 v2810
  let v2812 : BitVec 32 := v2811
  let v2832 : BitVec 32 := Scalar.addi c0_i32_2332 v2812
  let v2834 : Index := Scalar.indexCast v2832
  let c0_2333 : Index := 0#32
  ![v2834.toNat, 0]
def k0_off302 (v2772 : BitVec 32) (v2774 : BitVec 32) (k0_t14 : Fin (k0_t14_loop v2772 v2774).trips) (c0_i32_2332 : BitVec 32) : Fin 2 → Nat :=
  let c_m32_i32 : BitVec 32 := 4294967264#32
  let v2775 : BitVec 32 := Scalar.andi v2772 c_m32_i32
  let c0_i32_2313 : BitVec 32 := 0#32
  let c1_i32_2316 : BitVec 32 := 1#32
  let arg27 : BitVec 32 := Scf.iv c0_i32_2313 c1_i32_2316 k0_t14
  let c128_i32_2326 : BitVec 32 := 128#32
  let v2810 : BitVec 32 := Scalar.muli arg27 c128_i32_2326
  let v2811 : BitVec 32 := Scalar.addi v2775 v2810
  let v2812 : BitVec 32 := v2811
  let v2832 : BitVec 32 := Scalar.addi c0_i32_2332 v2812
  let c32_i32 : BitVec 32 := 32#32
  let v2840 : BitVec 32 := Scalar.addi v2832 c32_i32
  let v2841 : Index := Scalar.indexCast v2840
  let c0_2334 : Index := 0#32
  ![v2841.toNat, 0]
@[reducible] def k0_t15_loop (v2772 : BitVec 32) (v2774 : BitVec 32) : Scf.Loop 32 :=
  let c0_i32_2313 : BitVec 32 := 0#32
  let c_m32_i32 : BitVec 32 := 4294967264#32
  let v2775 : BitVec 32 := Scalar.andi v2772 c_m32_i32
  let v2776 : BitVec 32 := Scalar.subi v2774 v2775
  let c128_i32 : BitVec 32 := 128#32
  let v2777 : BitVec 32 := Scalar.addi v2776 c128_i32
  let c1_i32_2307 : BitVec 32 := 1#32
  let v2778 : BitVec 32 := Scalar.subi v2777 c1_i32_2307
  let c7_i32 : BitVec 32 := 7#32
  let v2779 : BitVec 32 := Scalar.shrui v2778 c7_i32
  let v2788 : BitVec 32 := Scalar.subi v2779 c0_i32_2313
  let c1_i32_2315 : BitVec 32 := 1#32
  let v2790 : BitVec 32 := Scalar.divsi v2788 c1_i32_2315
  let v2791 : BitVec 32 := Scalar.muli v2790 c1_i32_2315
  let v2792 : BitVec 32 := Scalar.addi c0_i32_2313 v2791
  let v2789 : BitVec 32 := Scalar.addi c0_i32_2313 v2788
  let c1_i32_2317 : BitVec 32 := 1#32
  ⟨v2792, v2789, c1_i32_2317⟩
def k0_mult8 (v2772 : BitVec 32) (v2774 : BitVec 32) (k0_t15 : Fin (k0_t15_loop v2772 v2774).trips) : BitVec 32 :=
  let c_m32_i32 : BitVec 32 := 4294967264#32
  let v2775 : BitVec 32 := Scalar.andi v2772 c_m32_i32
  let c0_i32_2313 : BitVec 32 := 0#32
  let v2776 : BitVec 32 := Scalar.subi v2774 v2775
  let c128_i32 : BitVec 32 := 128#32
  let v2777 : BitVec 32 := Scalar.addi v2776 c128_i32
  let c1_i32_2307 : BitVec 32 := 1#32
  let v2778 : BitVec 32 := Scalar.subi v2777 c1_i32_2307
  let c7_i32 : BitVec 32 := 7#32
  let v2779 : BitVec 32 := Scalar.shrui v2778 c7_i32
  let v2788 : BitVec 32 := Scalar.subi v2779 c0_i32_2313
  let c1_i32_2315 : BitVec 32 := 1#32
  let v2790 : BitVec 32 := Scalar.divsi v2788 c1_i32_2315
  let v2791 : BitVec 32 := Scalar.muli v2790 c1_i32_2315
  let v2792 : BitVec 32 := Scalar.addi c0_i32_2313 v2791
  let c1_i32_2317 : BitVec 32 := 1#32
  let arg27 : BitVec 32 := Scf.iv v2792 c1_i32_2317 k0_t15
  let c128_i32_2326 : BitVec 32 := 128#32
  let v2810 : BitVec 32 := Scalar.muli arg27 c128_i32_2326
  let v2811 : BitVec 32 := Scalar.addi v2775 v2810
  v2811
def k0_off303 (v2772 : BitVec 32) (v2774 : BitVec 32) (k0_t15 : Fin (k0_t15_loop v2772 v2774).trips) : Fin 2 → Nat :=
  let c_m32_i32 : BitVec 32 := 4294967264#32
  let v2775 : BitVec 32 := Scalar.andi v2772 c_m32_i32
  let c0_i32_2313 : BitVec 32 := 0#32
  let v2776 : BitVec 32 := Scalar.subi v2774 v2775
  let c128_i32 : BitVec 32 := 128#32
  let v2777 : BitVec 32 := Scalar.addi v2776 c128_i32
  let c1_i32_2307 : BitVec 32 := 1#32
  let v2778 : BitVec 32 := Scalar.subi v2777 c1_i32_2307
  let c7_i32 : BitVec 32 := 7#32
  let v2779 : BitVec 32 := Scalar.shrui v2778 c7_i32
  let v2788 : BitVec 32 := Scalar.subi v2779 c0_i32_2313
  let c1_i32_2315 : BitVec 32 := 1#32
  let v2790 : BitVec 32 := Scalar.divsi v2788 c1_i32_2315
  let v2791 : BitVec 32 := Scalar.muli v2790 c1_i32_2315
  let v2792 : BitVec 32 := Scalar.addi c0_i32_2313 v2791
  let c1_i32_2317 : BitVec 32 := 1#32
  let arg27 : BitVec 32 := Scf.iv v2792 c1_i32_2317 k0_t15
  let c128_i32_2326 : BitVec 32 := 128#32
  let v2810 : BitVec 32 := Scalar.muli arg27 c128_i32_2326
  let v2811 : BitVec 32 := Scalar.addi v2775 v2810
  let v2812 : BitVec 32 := v2811
  let v2813 : Index := Scalar.indexCast v2812
  let c0_2327 : Index := 0#32
  ![v2813.toNat, 0]
def k0_off304 (v2772 : BitVec 32) (v2774 : BitVec 32) (k0_t15 : Fin (k0_t15_loop v2772 v2774).trips) : Fin 2 → Nat :=
  let c_m32_i32 : BitVec 32 := 4294967264#32
  let v2775 : BitVec 32 := Scalar.andi v2772 c_m32_i32
  let c0_i32_2313 : BitVec 32 := 0#32
  let v2776 : BitVec 32 := Scalar.subi v2774 v2775
  let c128_i32 : BitVec 32 := 128#32
  let v2777 : BitVec 32 := Scalar.addi v2776 c128_i32
  let c1_i32_2307 : BitVec 32 := 1#32
  let v2778 : BitVec 32 := Scalar.subi v2777 c1_i32_2307
  let c7_i32 : BitVec 32 := 7#32
  let v2779 : BitVec 32 := Scalar.shrui v2778 c7_i32
  let v2788 : BitVec 32 := Scalar.subi v2779 c0_i32_2313
  let c1_i32_2315 : BitVec 32 := 1#32
  let v2790 : BitVec 32 := Scalar.divsi v2788 c1_i32_2315
  let v2791 : BitVec 32 := Scalar.muli v2790 c1_i32_2315
  let v2792 : BitVec 32 := Scalar.addi c0_i32_2313 v2791
  let c1_i32_2317 : BitVec 32 := 1#32
  let arg27 : BitVec 32 := Scf.iv v2792 c1_i32_2317 k0_t15
  let c128_i32_2326 : BitVec 32 := 128#32
  let v2810 : BitVec 32 := Scalar.muli arg27 c128_i32_2326
  let v2811 : BitVec 32 := Scalar.addi v2775 v2810
  let v2812 : BitVec 32 := v2811
  let v2815 : Index := Scalar.indexCast v2812
  let c0_2328 : Index := 0#32
  ![v2815.toNat, 0]
def k0_off305 (v10_0 : BitVec 32) (k0_t13 : Fin (k0_t13_loop v10_0).trips) : Fin 3 → Nat :=
  let c1_i32_2303 : BitVec 32 := 1#32
  let v2766 : BitVec 32 := Scalar.muli c1_i32_2303 v10_0
  let c0_i32_1633 : BitVec 32 := 0#32
  let v2102 : BitVec 32 := Scalar.subi v10_0 c0_i32_1633
  let c1_i32_1635 : BitVec 32 := 1#32
  let v2104 : BitVec 32 := Scalar.divsi v2102 c1_i32_1635
  let v2105 : BitVec 32 := Scalar.muli v2104 c1_i32_1635
  let v2106 : BitVec 32 := Scalar.addi c0_i32_1633 v2105
  let c1_i32_1637 : BitVec 32 := 1#32
  let arg25 : BitVec 32 := Scf.iv v2106 c1_i32_1637 k0_t13
  let v2767 : BitVec 32 := Scalar.addi v2766 arg25
  let c6_i32 : BitVec 32 := 6#32
  let v2768 : BitVec 32 := Scalar.remsi v2767 c6_i32
  let v2822 : Index := Scalar.indexCast v2768
  let c0_2329 : Index := 0#32
  let c0_2330 : Index := 0#32
  ![v2822.toNat, 0, 0]
def k0_off306 (v2770 : BitVec 32) : Fin 2 → Nat :=
  let v2826 : Index := Scalar.indexCast v2770
  let c3072 : Index := 3072#32
  ![v2826.toNat, 3072]
def k0_off307 (v2772 : BitVec 32) (v2774 : BitVec 32) (k0_t15 : Fin (k0_t15_loop v2772 v2774).trips) (c0_i32_2332 : BitVec 32) : Fin 2 → Nat :=
  let c_m32_i32 : BitVec 32 := 4294967264#32
  let v2775 : BitVec 32 := Scalar.andi v2772 c_m32_i32
  let c0_i32_2313 : BitVec 32 := 0#32
  let v2776 : BitVec 32 := Scalar.subi v2774 v2775
  let c128_i32 : BitVec 32 := 128#32
  let v2777 : BitVec 32 := Scalar.addi v2776 c128_i32
  let c1_i32_2307 : BitVec 32 := 1#32
  let v2778 : BitVec 32 := Scalar.subi v2777 c1_i32_2307
  let c7_i32 : BitVec 32 := 7#32
  let v2779 : BitVec 32 := Scalar.shrui v2778 c7_i32
  let v2788 : BitVec 32 := Scalar.subi v2779 c0_i32_2313
  let c1_i32_2315 : BitVec 32 := 1#32
  let v2790 : BitVec 32 := Scalar.divsi v2788 c1_i32_2315
  let v2791 : BitVec 32 := Scalar.muli v2790 c1_i32_2315
  let v2792 : BitVec 32 := Scalar.addi c0_i32_2313 v2791
  let c1_i32_2317 : BitVec 32 := 1#32
  let arg27 : BitVec 32 := Scf.iv v2792 c1_i32_2317 k0_t15
  let c128_i32_2326 : BitVec 32 := 128#32
  let v2810 : BitVec 32 := Scalar.muli arg27 c128_i32_2326
  let v2811 : BitVec 32 := Scalar.addi v2775 v2810
  let v2812 : BitVec 32 := v2811
  let v2832 : BitVec 32 := Scalar.addi c0_i32_2332 v2812
  let v2834 : Index := Scalar.indexCast v2832
  let c0_2333 : Index := 0#32
  ![v2834.toNat, 0]
def k0_off308 (v2772 : BitVec 32) (v2774 : BitVec 32) (k0_t15 : Fin (k0_t15_loop v2772 v2774).trips) (c0_i32_2332 : BitVec 32) : Fin 2 → Nat :=
  let c_m32_i32 : BitVec 32 := 4294967264#32
  let v2775 : BitVec 32 := Scalar.andi v2772 c_m32_i32
  let c0_i32_2313 : BitVec 32 := 0#32
  let v2776 : BitVec 32 := Scalar.subi v2774 v2775
  let c128_i32 : BitVec 32 := 128#32
  let v2777 : BitVec 32 := Scalar.addi v2776 c128_i32
  let c1_i32_2307 : BitVec 32 := 1#32
  let v2778 : BitVec 32 := Scalar.subi v2777 c1_i32_2307
  let c7_i32 : BitVec 32 := 7#32
  let v2779 : BitVec 32 := Scalar.shrui v2778 c7_i32
  let v2788 : BitVec 32 := Scalar.subi v2779 c0_i32_2313
  let c1_i32_2315 : BitVec 32 := 1#32
  let v2790 : BitVec 32 := Scalar.divsi v2788 c1_i32_2315
  let v2791 : BitVec 32 := Scalar.muli v2790 c1_i32_2315
  let v2792 : BitVec 32 := Scalar.addi c0_i32_2313 v2791
  let c1_i32_2317 : BitVec 32 := 1#32
  let arg27 : BitVec 32 := Scf.iv v2792 c1_i32_2317 k0_t15
  let c128_i32_2326 : BitVec 32 := 128#32
  let v2810 : BitVec 32 := Scalar.muli arg27 c128_i32_2326
  let v2811 : BitVec 32 := Scalar.addi v2775 v2810
  let v2812 : BitVec 32 := v2811
  let v2832 : BitVec 32 := Scalar.addi c0_i32_2332 v2812
  let c32_i32 : BitVec 32 := 32#32
  let v2840 : BitVec 32 := Scalar.addi v2832 c32_i32
  let v2841 : Index := Scalar.indexCast v2840
  let c0_2334 : Index := 0#32
  ![v2841.toNat, 0]

def k0_chk92 (v10_0 : BitVec 32) (k0_t13 : Fin (k0_t13_loop v10_0).trips) (v2770 : BitVec 32) (v2772 : BitVec 32) (v2774 : BitVec 32) : Prop :=
  ((k0_t14_loop v2772 v2774).OK) ∧
  (∀ k0_t14 : Fin (k0_t14_loop v2772 v2774).trips, 32 ∣ (k0_mult7 v2772 v2774 k0_t14).toNat) ∧
  (∀ k0_t14 : Fin (k0_t14_loop v2772 v2774).trips, ∀ a, (k0_off297 v2772 v2774 k0_t14) a + S128x1408.size a ≤ S1120x1408.size a) ∧
  (∀ k0_t14 : Fin (k0_t14_loop v2772 v2774).trips, ∀ a, (k0_off298 v2772 v2774 k0_t14) a + S128x128.size a ≤ S1120x128.size a) ∧
  (∀ k0_t14 : Fin (k0_t14_loop v2772 v2774).trips, ∀ a, (k0_off299 v10_0 k0_t13) a + S1x1408x1024.size a ≤ S6x1408x3072.size a) ∧
  (∀ k0_t14 : Fin (k0_t14_loop v2772 v2774).trips, ∀ a, (k0_off300 v2770) a + S1x1024.size a ≤ S15x4096.size a) ∧
  (∀ k0_t14 : Fin (k0_t14_loop v2772 v2774).trips, ∀ (r : Fin 8), ∀ a, (k0_off301 v2772 v2774 k0_t14 (BitVec.ofNat 32 (1121 * r.val))) a + S32x128.size a ≤ S26904x128.size a) ∧
  (∀ k0_t14 : Fin (k0_t14_loop v2772 v2774).trips, ∀ (r : Fin 8), ∀ a, (k0_off302 v2772 v2774 k0_t14 (BitVec.ofNat 32 (1121 * r.val))) a + S96x128.size a ≤ S26904x128.size a) ∧
  ((k0_t15_loop v2772 v2774).OK) ∧
  (∀ k0_t15 : Fin (k0_t15_loop v2772 v2774).trips, 32 ∣ (k0_mult8 v2772 v2774 k0_t15).toNat) ∧
  (∀ k0_t15 : Fin (k0_t15_loop v2772 v2774).trips, ∀ a, (k0_off303 v2772 v2774 k0_t15) a + S128x1408.size a ≤ S1120x1408.size a) ∧
  (∀ k0_t15 : Fin (k0_t15_loop v2772 v2774).trips, ∀ a, (k0_off304 v2772 v2774 k0_t15) a + S128x128.size a ≤ S1120x128.size a) ∧
  (∀ k0_t15 : Fin (k0_t15_loop v2772 v2774).trips, ∀ a, (k0_off305 v10_0 k0_t13) a + S1x1408x1024.size a ≤ S6x1408x3072.size a) ∧
  (∀ k0_t15 : Fin (k0_t15_loop v2772 v2774).trips, ∀ a, (k0_off306 v2770) a + S1x1024.size a ≤ S15x4096.size a) ∧
  (∀ k0_t15 : Fin (k0_t15_loop v2772 v2774).trips, ∀ (r : Fin 8), ∀ a, (k0_off307 v2772 v2774 k0_t15 (BitVec.ofNat 32 (1121 * r.val))) a + S32x128.size a ≤ S26904x128.size a) ∧
  (∀ k0_t15 : Fin (k0_t15_loop v2772 v2774).trips, ∀ (r : Fin 8), ∀ a, (k0_off308 v2772 v2774 k0_t15 (BitVec.ofNat 32 (1121 * r.val))) a + S96x128.size a ≤ S26904x128.size a)
theorem k0_t14_ok : ∀ (v10_0 : BitVec 32) (k0_t13 : Fin (k0_t13_loop v10_0).trips) (v2770 : BitVec 32) (v2772 : BitVec 32) (v2774 : BitVec 32) (k0_hw92 : k0_chk92 v10_0 k0_t13 v2770 v2772 v2774), (k0_t14_loop v2772 v2774).OK := fun v10_0 k0_t13 v2770 v2772 v2774 k0_hw92 => k0_hw92.1
theorem k0_mult7_dvd : ∀ (v10_0 : BitVec 32) (k0_t13 : Fin (k0_t13_loop v10_0).trips) (v2770 : BitVec 32) (v2772 : BitVec 32) (v2774 : BitVec 32) (k0_hw92 : k0_chk92 v10_0 k0_t13 v2770 v2772 v2774) (k0_t14 : Fin (k0_t14_loop v2772 v2774).trips), 32 ∣ (k0_mult7 v2772 v2774 k0_t14).toNat := fun v10_0 k0_t13 v2770 v2772 v2774 k0_hw92 k0_t14 => k0_hw92.2.1 k0_t14
theorem k0_off297_inb : ∀ (v10_0 : BitVec 32) (k0_t13 : Fin (k0_t13_loop v10_0).trips) (v2770 : BitVec 32) (v2772 : BitVec 32) (v2774 : BitVec 32) (k0_hw92 : k0_chk92 v10_0 k0_t13 v2770 v2772 v2774) (k0_t14 : Fin (k0_t14_loop v2772 v2774).trips), ∀ a, (k0_off297 v2772 v2774 k0_t14) a + S128x1408.size a ≤ S1120x1408.size a := fun v10_0 k0_t13 v2770 v2772 v2774 k0_hw92 k0_t14 => k0_hw92.2.2.1 k0_t14
theorem k0_off298_inb : ∀ (v10_0 : BitVec 32) (k0_t13 : Fin (k0_t13_loop v10_0).trips) (v2770 : BitVec 32) (v2772 : BitVec 32) (v2774 : BitVec 32) (k0_hw92 : k0_chk92 v10_0 k0_t13 v2770 v2772 v2774) (k0_t14 : Fin (k0_t14_loop v2772 v2774).trips), ∀ a, (k0_off298 v2772 v2774 k0_t14) a + S128x128.size a ≤ S1120x128.size a := fun v10_0 k0_t13 v2770 v2772 v2774 k0_hw92 k0_t14 => k0_hw92.2.2.2.1 k0_t14
theorem k0_off299_inb : ∀ (v10_0 : BitVec 32) (k0_t13 : Fin (k0_t13_loop v10_0).trips) (v2770 : BitVec 32) (v2772 : BitVec 32) (v2774 : BitVec 32) (k0_hw92 : k0_chk92 v10_0 k0_t13 v2770 v2772 v2774) (k0_t14 : Fin (k0_t14_loop v2772 v2774).trips), ∀ a, (k0_off299 v10_0 k0_t13) a + S1x1408x1024.size a ≤ S6x1408x3072.size a := fun v10_0 k0_t13 v2770 v2772 v2774 k0_hw92 k0_t14 => k0_hw92.2.2.2.2.1 k0_t14
theorem k0_off300_inb : ∀ (v10_0 : BitVec 32) (k0_t13 : Fin (k0_t13_loop v10_0).trips) (v2770 : BitVec 32) (v2772 : BitVec 32) (v2774 : BitVec 32) (k0_hw92 : k0_chk92 v10_0 k0_t13 v2770 v2772 v2774) (k0_t14 : Fin (k0_t14_loop v2772 v2774).trips), ∀ a, (k0_off300 v2770) a + S1x1024.size a ≤ S15x4096.size a := fun v10_0 k0_t13 v2770 v2772 v2774 k0_hw92 k0_t14 => k0_hw92.2.2.2.2.2.1 k0_t14
theorem k0_off301_inb : ∀ (v10_0 : BitVec 32) (k0_t13 : Fin (k0_t13_loop v10_0).trips) (v2770 : BitVec 32) (v2772 : BitVec 32) (v2774 : BitVec 32) (k0_hw92 : k0_chk92 v10_0 k0_t13 v2770 v2772 v2774) (k0_t14 : Fin (k0_t14_loop v2772 v2774).trips), ∀ (r : Fin 8), ∀ a, (k0_off301 v2772 v2774 k0_t14 (BitVec.ofNat 32 (1121 * r.val))) a + S32x128.size a ≤ S26904x128.size a := fun v10_0 k0_t13 v2770 v2772 v2774 k0_hw92 k0_t14 r => k0_hw92.2.2.2.2.2.2.1 k0_t14 r
theorem k0_off302_inb : ∀ (v10_0 : BitVec 32) (k0_t13 : Fin (k0_t13_loop v10_0).trips) (v2770 : BitVec 32) (v2772 : BitVec 32) (v2774 : BitVec 32) (k0_hw92 : k0_chk92 v10_0 k0_t13 v2770 v2772 v2774) (k0_t14 : Fin (k0_t14_loop v2772 v2774).trips), ∀ (r : Fin 8), ∀ a, (k0_off302 v2772 v2774 k0_t14 (BitVec.ofNat 32 (1121 * r.val))) a + S96x128.size a ≤ S26904x128.size a := fun v10_0 k0_t13 v2770 v2772 v2774 k0_hw92 k0_t14 r => k0_hw92.2.2.2.2.2.2.2.1 k0_t14 r
theorem k0_t15_ok : ∀ (v10_0 : BitVec 32) (k0_t13 : Fin (k0_t13_loop v10_0).trips) (v2770 : BitVec 32) (v2772 : BitVec 32) (v2774 : BitVec 32) (k0_hw92 : k0_chk92 v10_0 k0_t13 v2770 v2772 v2774), (k0_t15_loop v2772 v2774).OK := fun v10_0 k0_t13 v2770 v2772 v2774 k0_hw92 => k0_hw92.2.2.2.2.2.2.2.2.1
theorem k0_mult8_dvd : ∀ (v10_0 : BitVec 32) (k0_t13 : Fin (k0_t13_loop v10_0).trips) (v2770 : BitVec 32) (v2772 : BitVec 32) (v2774 : BitVec 32) (k0_hw92 : k0_chk92 v10_0 k0_t13 v2770 v2772 v2774) (k0_t15 : Fin (k0_t15_loop v2772 v2774).trips), 32 ∣ (k0_mult8 v2772 v2774 k0_t15).toNat := fun v10_0 k0_t13 v2770 v2772 v2774 k0_hw92 k0_t15 => k0_hw92.2.2.2.2.2.2.2.2.2.1 k0_t15
theorem k0_off303_inb : ∀ (v10_0 : BitVec 32) (k0_t13 : Fin (k0_t13_loop v10_0).trips) (v2770 : BitVec 32) (v2772 : BitVec 32) (v2774 : BitVec 32) (k0_hw92 : k0_chk92 v10_0 k0_t13 v2770 v2772 v2774) (k0_t15 : Fin (k0_t15_loop v2772 v2774).trips), ∀ a, (k0_off303 v2772 v2774 k0_t15) a + S128x1408.size a ≤ S1120x1408.size a := fun v10_0 k0_t13 v2770 v2772 v2774 k0_hw92 k0_t15 => k0_hw92.2.2.2.2.2.2.2.2.2.2.1 k0_t15
theorem k0_off304_inb : ∀ (v10_0 : BitVec 32) (k0_t13 : Fin (k0_t13_loop v10_0).trips) (v2770 : BitVec 32) (v2772 : BitVec 32) (v2774 : BitVec 32) (k0_hw92 : k0_chk92 v10_0 k0_t13 v2770 v2772 v2774) (k0_t15 : Fin (k0_t15_loop v2772 v2774).trips), ∀ a, (k0_off304 v2772 v2774 k0_t15) a + S128x128.size a ≤ S1120x128.size a := fun v10_0 k0_t13 v2770 v2772 v2774 k0_hw92 k0_t15 => k0_hw92.2.2.2.2.2.2.2.2.2.2.2.1 k0_t15
theorem k0_off305_inb : ∀ (v10_0 : BitVec 32) (k0_t13 : Fin (k0_t13_loop v10_0).trips) (v2770 : BitVec 32) (v2772 : BitVec 32) (v2774 : BitVec 32) (k0_hw92 : k0_chk92 v10_0 k0_t13 v2770 v2772 v2774) (k0_t15 : Fin (k0_t15_loop v2772 v2774).trips), ∀ a, (k0_off305 v10_0 k0_t13) a + S1x1408x1024.size a ≤ S6x1408x3072.size a := fun v10_0 k0_t13 v2770 v2772 v2774 k0_hw92 k0_t15 => k0_hw92.2.2.2.2.2.2.2.2.2.2.2.2.1 k0_t15
theorem k0_off306_inb : ∀ (v10_0 : BitVec 32) (k0_t13 : Fin (k0_t13_loop v10_0).trips) (v2770 : BitVec 32) (v2772 : BitVec 32) (v2774 : BitVec 32) (k0_hw92 : k0_chk92 v10_0 k0_t13 v2770 v2772 v2774) (k0_t15 : Fin (k0_t15_loop v2772 v2774).trips), ∀ a, (k0_off306 v2770) a + S1x1024.size a ≤ S15x4096.size a := fun v10_0 k0_t13 v2770 v2772 v2774 k0_hw92 k0_t15 => k0_hw92.2.2.2.2.2.2.2.2.2.2.2.2.2.1 k0_t15
theorem k0_off307_inb : ∀ (v10_0 : BitVec 32) (k0_t13 : Fin (k0_t13_loop v10_0).trips) (v2770 : BitVec 32) (v2772 : BitVec 32) (v2774 : BitVec 32) (k0_hw92 : k0_chk92 v10_0 k0_t13 v2770 v2772 v2774) (k0_t15 : Fin (k0_t15_loop v2772 v2774).trips), ∀ (r : Fin 8), ∀ a, (k0_off307 v2772 v2774 k0_t15 (BitVec.ofNat 32 (1121 * r.val))) a + S32x128.size a ≤ S26904x128.size a := fun v10_0 k0_t13 v2770 v2772 v2774 k0_hw92 k0_t15 r => k0_hw92.2.2.2.2.2.2.2.2.2.2.2.2.2.2.1 k0_t15 r
theorem k0_off308_inb : ∀ (v10_0 : BitVec 32) (k0_t13 : Fin (k0_t13_loop v10_0).trips) (v2770 : BitVec 32) (v2772 : BitVec 32) (v2774 : BitVec 32) (k0_hw92 : k0_chk92 v10_0 k0_t13 v2770 v2772 v2774) (k0_t15 : Fin (k0_t15_loop v2772 v2774).trips), ∀ (r : Fin 8), ∀ a, (k0_off308 v2772 v2774 k0_t15 (BitVec.ofNat 32 (1121 * r.val))) a + S96x128.size a ≤ S26904x128.size a := fun v10_0 k0_t13 v2770 v2772 v2774 k0_hw92 k0_t15 r => k0_hw92.2.2.2.2.2.2.2.2.2.2.2.2.2.2.2 k0_t15 r

def k0_off309 (v10_0 : BitVec 32) (k0_t13 : Fin (k0_t13_loop v10_0).trips) : Fin 2 → Nat :=
  let c0_2327 : Index := 0#32
  let c1_i32_2303 : BitVec 32 := 1#32
  let v2766 : BitVec 32 := Scalar.muli c1_i32_2303 v10_0
  let c0_i32_1633 : BitVec 32 := 0#32
  let v2102 : BitVec 32 := Scalar.subi v10_0 c0_i32_1633
  let c1_i32_1635 : BitVec 32 := 1#32
  let v2104 : BitVec 32 := Scalar.divsi v2102 c1_i32_1635
  let v2105 : BitVec 32 := Scalar.muli v2104 c1_i32_1635
  let v2106 : BitVec 32 := Scalar.addi c0_i32_1633 v2105
  let c1_i32_1637 : BitVec 32 := 1#32
  let arg25 : BitVec 32 := Scf.iv v2106 c1_i32_1637 k0_t13
  let v2767 : BitVec 32 := Scalar.addi v2766 arg25
  let c6_i32_2318 : BitVec 32 := 6#32
  let v2795 : BitVec 32 := Scalar.addi v2767 c6_i32_2318
  let c0_i32_2319 : BitVec 32 := 0#32
  let v2796 : BitVec 32 := Scalar.muli c0_i32_2319 v10_0
  let v2797 : BitVec 32 := Scalar.subi v2795 v2796
  let v2811 : Index := Scalar.indexCast v2797
  ![0, v2811.toNat]
def k0_cond19 (v10_0 : BitVec 32) (k0_t13 : Fin (k0_t13_loop v10_0).trips) : BitVec 1 :=
  let c1_i32_2303 : BitVec 32 := 1#32
  let v2766 : BitVec 32 := Scalar.muli c1_i32_2303 v10_0
  let c0_i32_1633 : BitVec 32 := 0#32
  let v2102 : BitVec 32 := Scalar.subi v10_0 c0_i32_1633
  let c1_i32_1635 : BitVec 32 := 1#32
  let v2104 : BitVec 32 := Scalar.divsi v2102 c1_i32_1635
  let v2105 : BitVec 32 := Scalar.muli v2104 c1_i32_1635
  let v2106 : BitVec 32 := Scalar.addi c0_i32_1633 v2105
  let c1_i32_1637 : BitVec 32 := 1#32
  let arg25 : BitVec 32 := Scf.iv v2106 c1_i32_1637 k0_t13
  let v2767 : BitVec 32 := Scalar.addi v2766 arg25
  let c6_i32_2318 : BitVec 32 := 6#32
  let v2795 : BitVec 32 := Scalar.addi v2767 c6_i32_2318
  let c0_i32_2319 : BitVec 32 := 0#32
  let v2796 : BitVec 32 := Scalar.muli c0_i32_2319 v10_0
  let v2797 : BitVec 32 := Scalar.subi v2795 v2796
  let c0_i32_2320 : BitVec 32 := 0#32
  let v2798 : BitVec 1 := Scalar.cmpi .sge v2797 c0_i32_2320
  let v2799 : BitVec 1 := Scalar.cmpi .slt v2797 v10_0
  let v2800 : BitVec 1 := Scalar.andi v2798 v2799
  let v2801 : BitVec 32 := Scalar.extui v2800
  let c0_i32_2321 : BitVec 32 := 0#32
  let v2802 : BitVec 1 := Scalar.cmpi .ne v2801 c0_i32_2321
  v2802

def k0_off310 (v10_0 : BitVec 32) (k0_t13 : Fin (k0_t13_loop v10_0).trips) : Fin 1 → Nat :=
  let c1_i32_2303 : BitVec 32 := 1#32
  let v2766 : BitVec 32 := Scalar.muli c1_i32_2303 v10_0
  let c0_i32_1633 : BitVec 32 := 0#32
  let v2102 : BitVec 32 := Scalar.subi v10_0 c0_i32_1633
  let c1_i32_1635 : BitVec 32 := 1#32
  let v2104 : BitVec 32 := Scalar.divsi v2102 c1_i32_1635
  let v2105 : BitVec 32 := Scalar.muli v2104 c1_i32_1635
  let v2106 : BitVec 32 := Scalar.addi c0_i32_1633 v2105
  let c1_i32_1637 : BitVec 32 := 1#32
  let arg25 : BitVec 32 := Scf.iv v2106 c1_i32_1637 k0_t13
  let v2767 : BitVec 32 := Scalar.addi v2766 arg25
  let c6_i32_2318 : BitVec 32 := 6#32
  let v2795 : BitVec 32 := Scalar.addi v2767 c6_i32_2318
  let c6_i32_2326 : BitVec 32 := 6#32
  let v2810 : BitVec 32 := Scalar.remsi v2795 c6_i32_2326
  ![v2810.toNat]
def k0_off311 (v10_0 : BitVec 32) (k0_t13 : Fin (k0_t13_loop v10_0).trips) : Fin 3 → Nat :=
  let c1_i32_2303 : BitVec 32 := 1#32
  let v2766 : BitVec 32 := Scalar.muli c1_i32_2303 v10_0
  let c0_i32_1633 : BitVec 32 := 0#32
  let v2102 : BitVec 32 := Scalar.subi v10_0 c0_i32_1633
  let c1_i32_1635 : BitVec 32 := 1#32
  let v2104 : BitVec 32 := Scalar.divsi v2102 c1_i32_1635
  let v2105 : BitVec 32 := Scalar.muli v2104 c1_i32_1635
  let v2106 : BitVec 32 := Scalar.addi c0_i32_1633 v2105
  let c1_i32_1637 : BitVec 32 := 1#32
  let arg25 : BitVec 32 := Scf.iv v2106 c1_i32_1637 k0_t13
  let v2767 : BitVec 32 := Scalar.addi v2766 arg25
  let c6_i32_2318 : BitVec 32 := 6#32
  let v2795 : BitVec 32 := Scalar.addi v2767 c6_i32_2318
  let c6_i32_2326 : BitVec 32 := 6#32
  let v2810 : BitVec 32 := Scalar.remsi v2795 c6_i32_2326
  let c0_i32_2328 : BitVec 32 := 0#32
  let c0_i32_2329 : BitVec 32 := 0#32
  ![v2810.toNat, 0, 0]
def k0_off312 (v2812 : BitVec 32) : Fin 3 → Nat :=
  let c0_i32_2330 : BitVec 32 := 0#32
  let c0_i32_2331 : BitVec 32 := 0#32
  ![v2812.toNat, 0, 0]

def k0_chk93 (v10_0 : BitVec 32) (k0_t13 : Fin (k0_t13_loop v10_0).trips) (v2812 : BitVec 32) : Prop :=
  (∀ (k0_h19 : k0_cond19 v10_0 k0_t13 = 1#1), ∀ a, (k0_off312 v2812) a + S1x1408x3072.size a ≤ S15x1408x4096.size a) ∧
  (∀ (k0_h19 : k0_cond19 v10_0 k0_t13 = 1#1), ∀ (hinb : ∀ a, (k0_off312 v2812) a + S1x1408x3072.size a ≤ S15x1408x4096.size a), (Rect.unit (s := S15x1408x4096) (k0_off312 v2812) S1x1408x3072.size hinb).WholeWords (EltTy.packing .fp8e4m3))
theorem k0_off312_inb : ∀ (v10_0 : BitVec 32) (k0_t13 : Fin (k0_t13_loop v10_0).trips) (v2812 : BitVec 32) (k0_hw93 : k0_chk93 v10_0 k0_t13 v2812), ∀ (k0_h19 : k0_cond19 v10_0 k0_t13 = 1#1), ∀ a, (k0_off312 v2812) a + S1x1408x3072.size a ≤ S15x1408x4096.size a := fun v10_0 k0_t13 v2812 k0_hw93 k0_h19 => k0_hw93.1 k0_h19
theorem k0_off312_wordsfp8e4m3 : ∀ (v10_0 : BitVec 32) (k0_t13 : Fin (k0_t13_loop v10_0).trips) (v2812 : BitVec 32) (k0_hw93 : k0_chk93 v10_0 k0_t13 v2812), ∀ (k0_h19 : k0_cond19 v10_0 k0_t13 = 1#1), (Rect.unit (s := S15x1408x4096) (k0_off312 v2812) S1x1408x3072.size (k0_off312_inb v10_0 k0_t13 v2812 k0_hw93 k0_h19)).WholeWords (EltTy.packing .fp8e4m3) := fun v10_0 k0_t13 v2812 k0_hw93 k0_h19 => k0_hw93.2 k0_h19 (k0_off312_inb v10_0 k0_t13 v2812 k0_hw93 k0_h19)

def k0_off313 (v10_0 : BitVec 32) (k0_t13 : Fin (k0_t13_loop v10_0).trips) : Fin 2 → Nat :=
  let c0_2327 : Index := 0#32
  let c1_i32_2303 : BitVec 32 := 1#32
  let v2766 : BitVec 32 := Scalar.muli c1_i32_2303 v10_0
  let c0_i32_1633 : BitVec 32 := 0#32
  let v2102 : BitVec 32 := Scalar.subi v10_0 c0_i32_1633
  let c1_i32_1635 : BitVec 32 := 1#32
  let v2104 : BitVec 32 := Scalar.divsi v2102 c1_i32_1635
  let v2105 : BitVec 32 := Scalar.muli v2104 c1_i32_1635
  let v2106 : BitVec 32 := Scalar.addi c0_i32_1633 v2105
  let c1_i32_1637 : BitVec 32 := 1#32
  let arg25 : BitVec 32 := Scf.iv v2106 c1_i32_1637 k0_t13
  let v2767 : BitVec 32 := Scalar.addi v2766 arg25
  let c6_i32_2318 : BitVec 32 := 6#32
  let v2795 : BitVec 32 := Scalar.addi v2767 c6_i32_2318
  let c1_i32_2322 : BitVec 32 := 1#32
  let v2803 : BitVec 32 := Scalar.muli c1_i32_2322 v10_0
  let v2804 : BitVec 32 := Scalar.subi v2795 v2803
  let v2811 : Index := Scalar.indexCast v2804
  ![0, v2811.toNat]
def k0_cond20 (v10_0 : BitVec 32) (k0_t13 : Fin (k0_t13_loop v10_0).trips) : BitVec 1 :=
  let c1_i32_2303 : BitVec 32 := 1#32
  let v2766 : BitVec 32 := Scalar.muli c1_i32_2303 v10_0
  let c0_i32_1633 : BitVec 32 := 0#32
  let v2102 : BitVec 32 := Scalar.subi v10_0 c0_i32_1633
  let c1_i32_1635 : BitVec 32 := 1#32
  let v2104 : BitVec 32 := Scalar.divsi v2102 c1_i32_1635
  let v2105 : BitVec 32 := Scalar.muli v2104 c1_i32_1635
  let v2106 : BitVec 32 := Scalar.addi c0_i32_1633 v2105
  let c1_i32_1637 : BitVec 32 := 1#32
  let arg25 : BitVec 32 := Scf.iv v2106 c1_i32_1637 k0_t13
  let v2767 : BitVec 32 := Scalar.addi v2766 arg25
  let c6_i32_2318 : BitVec 32 := 6#32
  let v2795 : BitVec 32 := Scalar.addi v2767 c6_i32_2318
  let c1_i32_2322 : BitVec 32 := 1#32
  let v2803 : BitVec 32 := Scalar.muli c1_i32_2322 v10_0
  let v2804 : BitVec 32 := Scalar.subi v2795 v2803
  let c0_i32_2323 : BitVec 32 := 0#32
  let v2805 : BitVec 1 := Scalar.cmpi .sge v2804 c0_i32_2323
  let v2806 : BitVec 1 := Scalar.cmpi .slt v2804 v10_0
  let v2807 : BitVec 1 := Scalar.andi v2805 v2806
  let v2808 : BitVec 32 := Scalar.extui v2807
  let c0_i32_2324 : BitVec 32 := 0#32
  let v2809 : BitVec 1 := Scalar.cmpi .ne v2808 c0_i32_2324
  v2809

def k0_off314 (v10_0 : BitVec 32) (k0_t13 : Fin (k0_t13_loop v10_0).trips) : Fin 1 → Nat :=
  let c1_i32_2303 : BitVec 32 := 1#32
  let v2766 : BitVec 32 := Scalar.muli c1_i32_2303 v10_0
  let c0_i32_1633 : BitVec 32 := 0#32
  let v2102 : BitVec 32 := Scalar.subi v10_0 c0_i32_1633
  let c1_i32_1635 : BitVec 32 := 1#32
  let v2104 : BitVec 32 := Scalar.divsi v2102 c1_i32_1635
  let v2105 : BitVec 32 := Scalar.muli v2104 c1_i32_1635
  let v2106 : BitVec 32 := Scalar.addi c0_i32_1633 v2105
  let c1_i32_1637 : BitVec 32 := 1#32
  let arg25 : BitVec 32 := Scf.iv v2106 c1_i32_1637 k0_t13
  let v2767 : BitVec 32 := Scalar.addi v2766 arg25
  let c6_i32_2318 : BitVec 32 := 6#32
  let v2795 : BitVec 32 := Scalar.addi v2767 c6_i32_2318
  let c6_i32_2326 : BitVec 32 := 6#32
  let v2810 : BitVec 32 := Scalar.remsi v2795 c6_i32_2326
  ![v2810.toNat]
def k0_off315 (v10_0 : BitVec 32) (k0_t13 : Fin (k0_t13_loop v10_0).trips) : Fin 3 → Nat :=
  let c1_i32_2303 : BitVec 32 := 1#32
  let v2766 : BitVec 32 := Scalar.muli c1_i32_2303 v10_0
  let c0_i32_1633 : BitVec 32 := 0#32
  let v2102 : BitVec 32 := Scalar.subi v10_0 c0_i32_1633
  let c1_i32_1635 : BitVec 32 := 1#32
  let v2104 : BitVec 32 := Scalar.divsi v2102 c1_i32_1635
  let v2105 : BitVec 32 := Scalar.muli v2104 c1_i32_1635
  let v2106 : BitVec 32 := Scalar.addi c0_i32_1633 v2105
  let c1_i32_1637 : BitVec 32 := 1#32
  let arg25 : BitVec 32 := Scf.iv v2106 c1_i32_1637 k0_t13
  let v2767 : BitVec 32 := Scalar.addi v2766 arg25
  let c6_i32_2318 : BitVec 32 := 6#32
  let v2795 : BitVec 32 := Scalar.addi v2767 c6_i32_2318
  let c6_i32_2326 : BitVec 32 := 6#32
  let v2810 : BitVec 32 := Scalar.remsi v2795 c6_i32_2326
  let c0_i32_2328 : BitVec 32 := 0#32
  let c0_i32_2329 : BitVec 32 := 0#32
  ![v2810.toNat, 0, 0]
def k0_off316 (v2812 : BitVec 32) : Fin 3 → Nat :=
  let c0_i32_2330 : BitVec 32 := 0#32
  let c3072_i32_2331 : BitVec 32 := 3072#32
  ![v2812.toNat, 0, 3072]

def k0_chk94 (v10_0 : BitVec 32) (k0_t13 : Fin (k0_t13_loop v10_0).trips) (v2812 : BitVec 32) : Prop :=
  (∀ (k0_h20 : k0_cond20 v10_0 k0_t13 = 1#1), ∀ a, (k0_off316 v2812) a + S1x1408x1024.size a ≤ S15x1408x4096.size a) ∧
  (∀ (k0_h20 : k0_cond20 v10_0 k0_t13 = 1#1), ∀ (hinb : ∀ a, (k0_off316 v2812) a + S1x1408x1024.size a ≤ S15x1408x4096.size a), (Rect.unit (s := S15x1408x4096) (k0_off316 v2812) S1x1408x1024.size hinb).WholeWords (EltTy.packing .fp8e4m3))
theorem k0_off316_inb : ∀ (v10_0 : BitVec 32) (k0_t13 : Fin (k0_t13_loop v10_0).trips) (v2812 : BitVec 32) (k0_hw94 : k0_chk94 v10_0 k0_t13 v2812), ∀ (k0_h20 : k0_cond20 v10_0 k0_t13 = 1#1), ∀ a, (k0_off316 v2812) a + S1x1408x1024.size a ≤ S15x1408x4096.size a := fun v10_0 k0_t13 v2812 k0_hw94 k0_h20 => k0_hw94.1 k0_h20
theorem k0_off316_wordsfp8e4m3 : ∀ (v10_0 : BitVec 32) (k0_t13 : Fin (k0_t13_loop v10_0).trips) (v2812 : BitVec 32) (k0_hw94 : k0_chk94 v10_0 k0_t13 v2812), ∀ (k0_h20 : k0_cond20 v10_0 k0_t13 = 1#1), (Rect.unit (s := S15x1408x4096) (k0_off316 v2812) S1x1408x1024.size (k0_off316_inb v10_0 k0_t13 v2812 k0_hw94 k0_h20)).WholeWords (EltTy.packing .fp8e4m3) := fun v10_0 k0_t13 v2812 k0_hw94 k0_h20 => k0_hw94.2 k0_h20 (k0_off316_inb v10_0 k0_t13 v2812 k0_hw94 k0_h20)

def k0_chk2_0 (v10_0 : BitVec 32) : Prop :=
  (∀ (k0_h1 : k0_cond1 v10_0 = 1#1), ∀ a, (k0_off5 v10_0) a + S1x1.size a ≤ S3x16.size a) ∧
  (∀ (k0_h2 : k0_cond2 v10_0 = 1#1), ∀ a, (k0_off9 v10_0) a + S1x1.size a ≤ S3x16.size a) ∧
  (∀ (k0_h3 : k0_cond3 v10_0 = 1#1), ∀ a, (k0_off13 v10_0) a + S1x1.size a ≤ S3x16.size a) ∧
  (∀ (k0_h4 : k0_cond4 v10_0 = 1#1), ∀ a, (k0_off17 v10_0) a + S1x1.size a ≤ S3x16.size a) ∧
  (∀ (k0_h5 : k0_cond5 v10_0 = 1#1), ∀ a, (k0_off21 v10_0) a + S1x1.size a ≤ S3x16.size a) ∧
  (∀ (k0_h6 : k0_cond6 v10_0 = 1#1), ∀ a, (k0_off25 v10_0) a + S1x1.size a ≤ S3x16.size a) ∧
  (∀ (k0_h7 : k0_cond7 v10_0 = 1#1), ∀ a, (k0_off29 v10_0) a + S1x1.size a ≤ S3x16.size a) ∧
  (∀ (k0_h8 : k0_cond8 v10_0 = 1#1), ∀ a, (k0_off33 v10_0) a + S1x1.size a ≤ S3x16.size a) ∧
  (∀ (k0_h9 : k0_cond9 v10_0 = 1#1), ∀ a, (k0_off37 v10_0) a + S1x1.size a ≤ S3x16.size a) ∧
  (∀ (k0_h10 : k0_cond10 v10_0 = 1#1), ∀ a, (k0_off41 v10_0) a + S1x1.size a ≤ S3x16.size a) ∧
  (∀ (k0_h11 : k0_cond11 v10_0 = 1#1), ∀ a, (k0_off45 v10_0) a + S1x1.size a ≤ S3x16.size a) ∧
  (∀ (k0_h12 : k0_cond12 v10_0 = 1#1), ∀ a, (k0_off49 v10_0) a + S1x1.size a ≤ S3x16.size a) ∧
  ((k0_t2_loop v10_0).OK) ∧
  (∀ k0_t2 : Fin (k0_t2_loop v10_0).trips, ∀ a, (k0_off53 v10_0 k0_t2) a + S1x1.size a ≤ S3x16.size a) ∧
  (∀ k0_t2 : Fin (k0_t2_loop v10_0).trips, ∀ a, (k0_off54 v10_0 k0_t2) a + S1x1.size a ≤ S3x16.size a) ∧
  (∀ k0_t2 : Fin (k0_t2_loop v10_0).trips, ∀ a, (k0_off55 v10_0 k0_t2) a + S1x1.size a ≤ S3x16.size a) ∧
  (∀ k0_t2 : Fin (k0_t2_loop v10_0).trips, ∀ a, (k0_off56 v10_0 k0_t2) a + S1.size a ≤ S6.size a) ∧
  (∀ k0_t2 : Fin (k0_t2_loop v10_0).trips, ∀ a, (k0_off57 v10_0 k0_t2) a + S1x1408x3072.size a ≤ S6x1408x3072.size a) ∧
  (∀ k0_t2 : Fin (k0_t2_loop v10_0).trips, ∀ (hinb : ∀ a, (k0_off57 v10_0 k0_t2) a + S1x1408x3072.size a ≤ S6x1408x3072.size a), (Rect.unit (s := S6x1408x3072) (k0_off57 v10_0 k0_t2) S1x1408x3072.size hinb).WholeWords (EltTy.packing .fp8e4m3)) ∧
  (∀ k0_t2 : Fin (k0_t2_loop v10_0).trips, ∀ (k0_h13 : k0_cond13 v10_0 k0_t2 = 1#1), ∀ a, (k0_off79 v10_0 k0_t2) a + S1x1.size a ≤ S3x16.size a) ∧
  (∀ k0_t2 : Fin (k0_t2_loop v10_0).trips, ∀ (k0_h13 : k0_cond13 v10_0 k0_t2 = 1#1), ∀ a, (k0_off80 v10_0 k0_t2) a + S1.size a ≤ S6.size a) ∧
  (∀ k0_t2 : Fin (k0_t2_loop v10_0).trips, ∀ (k0_h13 : k0_cond13 v10_0 k0_t2 = 1#1), ∀ a, (k0_off81 v10_0 k0_t2) a + S1x1408x3072.size a ≤ S6x1408x3072.size a) ∧
  (∀ k0_t2 : Fin (k0_t2_loop v10_0).trips, ∀ (k0_h13 : k0_cond13 v10_0 k0_t2 = 1#1), ∀ (hinb : ∀ a, (k0_off81 v10_0 k0_t2) a + S1x1408x3072.size a ≤ S6x1408x3072.size a), (Rect.unit (s := S6x1408x3072) (k0_off81 v10_0 k0_t2) S1x1408x3072.size hinb).WholeWords (EltTy.packing .fp8e4m3)) ∧
  (∀ k0_t2 : Fin (k0_t2_loop v10_0).trips, ∀ (k0_h14 : k0_cond14 v10_0 k0_t2 = 1#1), ∀ a, (k0_off83 v10_0 k0_t2) a + S1x1.size a ≤ S3x16.size a) ∧
  (∀ k0_t2 : Fin (k0_t2_loop v10_0).trips, ∀ (k0_h14 : k0_cond14 v10_0 k0_t2 = 1#1), ∀ a, (k0_off84 v10_0 k0_t2) a + S1.size a ≤ S6.size a) ∧
  (∀ k0_t2 : Fin (k0_t2_loop v10_0).trips, ∀ (k0_h14 : k0_cond14 v10_0 k0_t2 = 1#1), ∀ a, (k0_off85 v10_0 k0_t2) a + S1x1408x1024.size a ≤ S6x1408x3072.size a) ∧
  (∀ k0_t2 : Fin (k0_t2_loop v10_0).trips, ∀ (k0_h14 : k0_cond14 v10_0 k0_t2 = 1#1), ∀ (hinb : ∀ a, (k0_off85 v10_0 k0_t2) a + S1x1408x1024.size a ≤ S6x1408x3072.size a), (Rect.unit (s := S6x1408x3072) (k0_off85 v10_0 k0_t2) S1x1408x1024.size hinb).WholeWords (EltTy.packing .fp8e4m3)) ∧
  ((k0_t5_loop v10_0).OK) ∧
  (∀ k0_t5 : Fin (k0_t5_loop v10_0).trips, ∀ a, (k0_off87 v10_0 k0_t5) a + S1x1.size a ≤ S3x16.size a) ∧
  (∀ k0_t5 : Fin (k0_t5_loop v10_0).trips, ∀ a, (k0_off88 v10_0 k0_t5) a + S1x1.size a ≤ S3x16.size a) ∧
  (∀ k0_t5 : Fin (k0_t5_loop v10_0).trips, ∀ a, (k0_off89 v10_0 k0_t5) a + S1x1.size a ≤ S3x16.size a) ∧
  (∀ k0_t5 : Fin (k0_t5_loop v10_0).trips, ∀ a, (k0_off90 v10_0 k0_t5) a + S1.size a ≤ S6.size a)
def k0_chk2_1 (v10_0 : BitVec 32) : Prop :=
  (∀ k0_t5 : Fin (k0_t5_loop v10_0).trips, ∀ a, (k0_off91 v10_0 k0_t5) a + S1x1408x3072.size a ≤ S6x1408x3072.size a) ∧
  (∀ k0_t5 : Fin (k0_t5_loop v10_0).trips, ∀ (hinb : ∀ a, (k0_off91 v10_0 k0_t5) a + S1x1408x3072.size a ≤ S6x1408x3072.size a), (Rect.unit (s := S6x1408x3072) (k0_off91 v10_0 k0_t5) S1x1408x3072.size hinb).WholeWords (EltTy.packing .fp8e4m3)) ∧
  (∀ k0_t5 : Fin (k0_t5_loop v10_0).trips, ∀ (k0_h15 : k0_cond15 v10_0 k0_t5 = 1#1), ∀ a, (k0_off113 v10_0 k0_t5) a + S1x1.size a ≤ S3x16.size a) ∧
  (∀ k0_t5 : Fin (k0_t5_loop v10_0).trips, ∀ (k0_h15 : k0_cond15 v10_0 k0_t5 = 1#1), ∀ a, (k0_off114 v10_0 k0_t5) a + S1.size a ≤ S6.size a) ∧
  (∀ k0_t5 : Fin (k0_t5_loop v10_0).trips, ∀ (k0_h15 : k0_cond15 v10_0 k0_t5 = 1#1), ∀ a, (k0_off115 v10_0 k0_t5) a + S1x1408x3072.size a ≤ S6x1408x3072.size a) ∧
  (∀ k0_t5 : Fin (k0_t5_loop v10_0).trips, ∀ (k0_h15 : k0_cond15 v10_0 k0_t5 = 1#1), ∀ (hinb : ∀ a, (k0_off115 v10_0 k0_t5) a + S1x1408x3072.size a ≤ S6x1408x3072.size a), (Rect.unit (s := S6x1408x3072) (k0_off115 v10_0 k0_t5) S1x1408x3072.size hinb).WholeWords (EltTy.packing .fp8e4m3)) ∧
  (∀ k0_t5 : Fin (k0_t5_loop v10_0).trips, ∀ (k0_h16 : k0_cond16 v10_0 k0_t5 = 1#1), ∀ a, (k0_off117 v10_0 k0_t5) a + S1x1.size a ≤ S3x16.size a) ∧
  (∀ k0_t5 : Fin (k0_t5_loop v10_0).trips, ∀ (k0_h16 : k0_cond16 v10_0 k0_t5 = 1#1), ∀ a, (k0_off118 v10_0 k0_t5) a + S1.size a ≤ S6.size a) ∧
  (∀ k0_t5 : Fin (k0_t5_loop v10_0).trips, ∀ (k0_h16 : k0_cond16 v10_0 k0_t5 = 1#1), ∀ a, (k0_off119 v10_0 k0_t5) a + S1x1408x1024.size a ≤ S6x1408x3072.size a) ∧
  (∀ k0_t5 : Fin (k0_t5_loop v10_0).trips, ∀ (k0_h16 : k0_cond16 v10_0 k0_t5 = 1#1), ∀ (hinb : ∀ a, (k0_off119 v10_0 k0_t5) a + S1x1408x1024.size a ≤ S6x1408x3072.size a), (Rect.unit (s := S6x1408x3072) (k0_off119 v10_0 k0_t5) S1x1408x1024.size hinb).WholeWords (EltTy.packing .fp8e4m3)) ∧
  ((k0_t10_loop v10_0).OK) ∧
  (∀ k0_t10 : Fin (k0_t10_loop v10_0).trips, ∀ a, (k0_off265 v10_0 k0_t10) a + S1x1.size a ≤ S3x16.size a) ∧
  (∀ k0_t10 : Fin (k0_t10_loop v10_0).trips, ∀ a, (k0_off266 v10_0 k0_t10) a + S1x1.size a ≤ S3x16.size a) ∧
  (∀ k0_t10 : Fin (k0_t10_loop v10_0).trips, ∀ a, (k0_off267 v10_0 k0_t10) a + S1x1.size a ≤ S3x16.size a) ∧
  (∀ k0_t10 : Fin (k0_t10_loop v10_0).trips, ∀ a, (k0_off268 v10_0 k0_t10) a + S1.size a ≤ S6.size a) ∧
  (∀ k0_t10 : Fin (k0_t10_loop v10_0).trips, ∀ a, (k0_off269 v10_0 k0_t10) a + S1x1408x1024.size a ≤ S6x1408x3072.size a) ∧
  (∀ k0_t10 : Fin (k0_t10_loop v10_0).trips, ∀ (hinb : ∀ a, (k0_off269 v10_0 k0_t10) a + S1x1408x1024.size a ≤ S6x1408x3072.size a), (Rect.unit (s := S6x1408x3072) (k0_off269 v10_0 k0_t10) S1x1408x1024.size hinb).WholeWords (EltTy.packing .fp8e4m3)) ∧
  (∀ k0_t10 : Fin (k0_t10_loop v10_0).trips, ∀ (k0_h17 : k0_cond17 v10_0 k0_t10 = 1#1), ∀ a, (k0_off283 v10_0 k0_t10) a + S1x1.size a ≤ S3x16.size a) ∧
  (∀ k0_t10 : Fin (k0_t10_loop v10_0).trips, ∀ (k0_h17 : k0_cond17 v10_0 k0_t10 = 1#1), ∀ a, (k0_off284 v10_0 k0_t10) a + S1.size a ≤ S6.size a) ∧
  (∀ k0_t10 : Fin (k0_t10_loop v10_0).trips, ∀ (k0_h17 : k0_cond17 v10_0 k0_t10 = 1#1), ∀ a, (k0_off285 v10_0 k0_t10) a + S1x1408x3072.size a ≤ S6x1408x3072.size a) ∧
  (∀ k0_t10 : Fin (k0_t10_loop v10_0).trips, ∀ (k0_h17 : k0_cond17 v10_0 k0_t10 = 1#1), ∀ (hinb : ∀ a, (k0_off285 v10_0 k0_t10) a + S1x1408x3072.size a ≤ S6x1408x3072.size a), (Rect.unit (s := S6x1408x3072) (k0_off285 v10_0 k0_t10) S1x1408x3072.size hinb).WholeWords (EltTy.packing .fp8e4m3)) ∧
  (∀ k0_t10 : Fin (k0_t10_loop v10_0).trips, ∀ (k0_h18 : k0_cond18 v10_0 k0_t10 = 1#1), ∀ a, (k0_off287 v10_0 k0_t10) a + S1x1.size a ≤ S3x16.size a) ∧
  (∀ k0_t10 : Fin (k0_t10_loop v10_0).trips, ∀ (k0_h18 : k0_cond18 v10_0 k0_t10 = 1#1), ∀ a, (k0_off288 v10_0 k0_t10) a + S1.size a ≤ S6.size a) ∧
  (∀ k0_t10 : Fin (k0_t10_loop v10_0).trips, ∀ (k0_h18 : k0_cond18 v10_0 k0_t10 = 1#1), ∀ a, (k0_off289 v10_0 k0_t10) a + S1x1408x1024.size a ≤ S6x1408x3072.size a) ∧
  (∀ k0_t10 : Fin (k0_t10_loop v10_0).trips, ∀ (k0_h18 : k0_cond18 v10_0 k0_t10 = 1#1), ∀ (hinb : ∀ a, (k0_off289 v10_0 k0_t10) a + S1x1408x1024.size a ≤ S6x1408x3072.size a), (Rect.unit (s := S6x1408x3072) (k0_off289 v10_0 k0_t10) S1x1408x1024.size hinb).WholeWords (EltTy.packing .fp8e4m3)) ∧
  ((k0_t13_loop v10_0).OK) ∧
  (∀ k0_t13 : Fin (k0_t13_loop v10_0).trips, ∀ a, (k0_off291 v10_0 k0_t13) a + S1x1.size a ≤ S3x16.size a) ∧
  (∀ k0_t13 : Fin (k0_t13_loop v10_0).trips, ∀ a, (k0_off292 v10_0 k0_t13) a + S1x1.size a ≤ S3x16.size a) ∧
  (∀ k0_t13 : Fin (k0_t13_loop v10_0).trips, ∀ a, (k0_off293 v10_0 k0_t13) a + S1x1.size a ≤ S3x16.size a) ∧
  (∀ k0_t13 : Fin (k0_t13_loop v10_0).trips, ∀ a, (k0_off294 v10_0 k0_t13) a + S1.size a ≤ S6.size a) ∧
  (∀ k0_t13 : Fin (k0_t13_loop v10_0).trips, ∀ a, (k0_off295 v10_0 k0_t13) a + S1x1408x1024.size a ≤ S6x1408x3072.size a) ∧
  (∀ k0_t13 : Fin (k0_t13_loop v10_0).trips, ∀ (hinb : ∀ a, (k0_off295 v10_0 k0_t13) a + S1x1408x1024.size a ≤ S6x1408x3072.size a), (Rect.unit (s := S6x1408x3072) (k0_off295 v10_0 k0_t13) S1x1408x1024.size hinb).WholeWords (EltTy.packing .fp8e4m3))
def k0_chk2_2 (v10_0 : BitVec 32) : Prop :=
  (∀ k0_t13 : Fin (k0_t13_loop v10_0).trips, ∀ (k0_h19 : k0_cond19 v10_0 k0_t13 = 1#1), ∀ a, (k0_off309 v10_0 k0_t13) a + S1x1.size a ≤ S3x16.size a) ∧
  (∀ k0_t13 : Fin (k0_t13_loop v10_0).trips, ∀ (k0_h19 : k0_cond19 v10_0 k0_t13 = 1#1), ∀ a, (k0_off310 v10_0 k0_t13) a + S1.size a ≤ S6.size a) ∧
  (∀ k0_t13 : Fin (k0_t13_loop v10_0).trips, ∀ (k0_h19 : k0_cond19 v10_0 k0_t13 = 1#1), ∀ a, (k0_off311 v10_0 k0_t13) a + S1x1408x3072.size a ≤ S6x1408x3072.size a) ∧
  (∀ k0_t13 : Fin (k0_t13_loop v10_0).trips, ∀ (k0_h19 : k0_cond19 v10_0 k0_t13 = 1#1), ∀ (hinb : ∀ a, (k0_off311 v10_0 k0_t13) a + S1x1408x3072.size a ≤ S6x1408x3072.size a), (Rect.unit (s := S6x1408x3072) (k0_off311 v10_0 k0_t13) S1x1408x3072.size hinb).WholeWords (EltTy.packing .fp8e4m3)) ∧
  (∀ k0_t13 : Fin (k0_t13_loop v10_0).trips, ∀ (k0_h20 : k0_cond20 v10_0 k0_t13 = 1#1), ∀ a, (k0_off313 v10_0 k0_t13) a + S1x1.size a ≤ S3x16.size a) ∧
  (∀ k0_t13 : Fin (k0_t13_loop v10_0).trips, ∀ (k0_h20 : k0_cond20 v10_0 k0_t13 = 1#1), ∀ a, (k0_off314 v10_0 k0_t13) a + S1.size a ≤ S6.size a) ∧
  (∀ k0_t13 : Fin (k0_t13_loop v10_0).trips, ∀ (k0_h20 : k0_cond20 v10_0 k0_t13 = 1#1), ∀ a, (k0_off315 v10_0 k0_t13) a + S1x1408x1024.size a ≤ S6x1408x3072.size a) ∧
  (∀ k0_t13 : Fin (k0_t13_loop v10_0).trips, ∀ (k0_h20 : k0_cond20 v10_0 k0_t13 = 1#1), ∀ (hinb : ∀ a, (k0_off315 v10_0 k0_t13) a + S1x1408x1024.size a ≤ S6x1408x3072.size a), (Rect.unit (s := S6x1408x3072) (k0_off315 v10_0 k0_t13) S1x1408x1024.size hinb).WholeWords (EltTy.packing .fp8e4m3))
def k0_chk2 (v10_0 : BitVec 32) : Prop :=
  k0_chk2_0 v10_0 ∧
  k0_chk2_1 v10_0 ∧
  k0_chk2_2 v10_0
theorem k0_off5_inb : ∀ (v10_0 : BitVec 32) (k0_hw2 : k0_chk2 v10_0), ∀ (k0_h1 : k0_cond1 v10_0 = 1#1), ∀ a, (k0_off5 v10_0) a + S1x1.size a ≤ S3x16.size a := fun v10_0 k0_hw2 k0_h1 => k0_hw2.1.1 k0_h1
theorem k0_off9_inb : ∀ (v10_0 : BitVec 32) (k0_hw2 : k0_chk2 v10_0), ∀ (k0_h2 : k0_cond2 v10_0 = 1#1), ∀ a, (k0_off9 v10_0) a + S1x1.size a ≤ S3x16.size a := fun v10_0 k0_hw2 k0_h2 => k0_hw2.1.2.1 k0_h2
theorem k0_off13_inb : ∀ (v10_0 : BitVec 32) (k0_hw2 : k0_chk2 v10_0), ∀ (k0_h3 : k0_cond3 v10_0 = 1#1), ∀ a, (k0_off13 v10_0) a + S1x1.size a ≤ S3x16.size a := fun v10_0 k0_hw2 k0_h3 => k0_hw2.1.2.2.1 k0_h3
theorem k0_off17_inb : ∀ (v10_0 : BitVec 32) (k0_hw2 : k0_chk2 v10_0), ∀ (k0_h4 : k0_cond4 v10_0 = 1#1), ∀ a, (k0_off17 v10_0) a + S1x1.size a ≤ S3x16.size a := fun v10_0 k0_hw2 k0_h4 => k0_hw2.1.2.2.2.1 k0_h4
theorem k0_off21_inb : ∀ (v10_0 : BitVec 32) (k0_hw2 : k0_chk2 v10_0), ∀ (k0_h5 : k0_cond5 v10_0 = 1#1), ∀ a, (k0_off21 v10_0) a + S1x1.size a ≤ S3x16.size a := fun v10_0 k0_hw2 k0_h5 => k0_hw2.1.2.2.2.2.1 k0_h5
theorem k0_off25_inb : ∀ (v10_0 : BitVec 32) (k0_hw2 : k0_chk2 v10_0), ∀ (k0_h6 : k0_cond6 v10_0 = 1#1), ∀ a, (k0_off25 v10_0) a + S1x1.size a ≤ S3x16.size a := fun v10_0 k0_hw2 k0_h6 => k0_hw2.1.2.2.2.2.2.1 k0_h6
theorem k0_off29_inb : ∀ (v10_0 : BitVec 32) (k0_hw2 : k0_chk2 v10_0), ∀ (k0_h7 : k0_cond7 v10_0 = 1#1), ∀ a, (k0_off29 v10_0) a + S1x1.size a ≤ S3x16.size a := fun v10_0 k0_hw2 k0_h7 => k0_hw2.1.2.2.2.2.2.2.1 k0_h7
theorem k0_off33_inb : ∀ (v10_0 : BitVec 32) (k0_hw2 : k0_chk2 v10_0), ∀ (k0_h8 : k0_cond8 v10_0 = 1#1), ∀ a, (k0_off33 v10_0) a + S1x1.size a ≤ S3x16.size a := fun v10_0 k0_hw2 k0_h8 => k0_hw2.1.2.2.2.2.2.2.2.1 k0_h8
theorem k0_off37_inb : ∀ (v10_0 : BitVec 32) (k0_hw2 : k0_chk2 v10_0), ∀ (k0_h9 : k0_cond9 v10_0 = 1#1), ∀ a, (k0_off37 v10_0) a + S1x1.size a ≤ S3x16.size a := fun v10_0 k0_hw2 k0_h9 => k0_hw2.1.2.2.2.2.2.2.2.2.1 k0_h9
theorem k0_off41_inb : ∀ (v10_0 : BitVec 32) (k0_hw2 : k0_chk2 v10_0), ∀ (k0_h10 : k0_cond10 v10_0 = 1#1), ∀ a, (k0_off41 v10_0) a + S1x1.size a ≤ S3x16.size a := fun v10_0 k0_hw2 k0_h10 => k0_hw2.1.2.2.2.2.2.2.2.2.2.1 k0_h10
theorem k0_off45_inb : ∀ (v10_0 : BitVec 32) (k0_hw2 : k0_chk2 v10_0), ∀ (k0_h11 : k0_cond11 v10_0 = 1#1), ∀ a, (k0_off45 v10_0) a + S1x1.size a ≤ S3x16.size a := fun v10_0 k0_hw2 k0_h11 => k0_hw2.1.2.2.2.2.2.2.2.2.2.2.1 k0_h11
theorem k0_off49_inb : ∀ (v10_0 : BitVec 32) (k0_hw2 : k0_chk2 v10_0), ∀ (k0_h12 : k0_cond12 v10_0 = 1#1), ∀ a, (k0_off49 v10_0) a + S1x1.size a ≤ S3x16.size a := fun v10_0 k0_hw2 k0_h12 => k0_hw2.1.2.2.2.2.2.2.2.2.2.2.2.1 k0_h12
theorem k0_t2_ok : ∀ (v10_0 : BitVec 32) (k0_hw2 : k0_chk2 v10_0), (k0_t2_loop v10_0).OK := fun v10_0 k0_hw2 => k0_hw2.1.2.2.2.2.2.2.2.2.2.2.2.2.1
theorem k0_off53_inb : ∀ (v10_0 : BitVec 32) (k0_hw2 : k0_chk2 v10_0) (k0_t2 : Fin (k0_t2_loop v10_0).trips), ∀ a, (k0_off53 v10_0 k0_t2) a + S1x1.size a ≤ S3x16.size a := fun v10_0 k0_hw2 k0_t2 => k0_hw2.1.2.2.2.2.2.2.2.2.2.2.2.2.2.1 k0_t2
theorem k0_off54_inb : ∀ (v10_0 : BitVec 32) (k0_hw2 : k0_chk2 v10_0) (k0_t2 : Fin (k0_t2_loop v10_0).trips), ∀ a, (k0_off54 v10_0 k0_t2) a + S1x1.size a ≤ S3x16.size a := fun v10_0 k0_hw2 k0_t2 => k0_hw2.1.2.2.2.2.2.2.2.2.2.2.2.2.2.2.1 k0_t2
theorem k0_off55_inb : ∀ (v10_0 : BitVec 32) (k0_hw2 : k0_chk2 v10_0) (k0_t2 : Fin (k0_t2_loop v10_0).trips), ∀ a, (k0_off55 v10_0 k0_t2) a + S1x1.size a ≤ S3x16.size a := fun v10_0 k0_hw2 k0_t2 => k0_hw2.1.2.2.2.2.2.2.2.2.2.2.2.2.2.2.2.1 k0_t2
theorem k0_off56_inb : ∀ (v10_0 : BitVec 32) (k0_hw2 : k0_chk2 v10_0) (k0_t2 : Fin (k0_t2_loop v10_0).trips), ∀ a, (k0_off56 v10_0 k0_t2) a + S1.size a ≤ S6.size a := fun v10_0 k0_hw2 k0_t2 => k0_hw2.1.2.2.2.2.2.2.2.2.2.2.2.2.2.2.2.2.1 k0_t2
theorem k0_off57_inb : ∀ (v10_0 : BitVec 32) (k0_hw2 : k0_chk2 v10_0) (k0_t2 : Fin (k0_t2_loop v10_0).trips), ∀ a, (k0_off57 v10_0 k0_t2) a + S1x1408x3072.size a ≤ S6x1408x3072.size a := fun v10_0 k0_hw2 k0_t2 => k0_hw2.1.2.2.2.2.2.2.2.2.2.2.2.2.2.2.2.2.2.1 k0_t2
theorem k0_off57_wordsfp8e4m3 : ∀ (v10_0 : BitVec 32) (k0_hw2 : k0_chk2 v10_0) (k0_t2 : Fin (k0_t2_loop v10_0).trips), (Rect.unit (s := S6x1408x3072) (k0_off57 v10_0 k0_t2) S1x1408x3072.size (k0_off57_inb v10_0 k0_hw2 k0_t2)).WholeWords (EltTy.packing .fp8e4m3) := fun v10_0 k0_hw2 k0_t2 => k0_hw2.1.2.2.2.2.2.2.2.2.2.2.2.2.2.2.2.2.2.2.1 k0_t2 (k0_off57_inb v10_0 k0_hw2 k0_t2)
theorem k0_off79_inb : ∀ (v10_0 : BitVec 32) (k0_hw2 : k0_chk2 v10_0) (k0_t2 : Fin (k0_t2_loop v10_0).trips), ∀ (k0_h13 : k0_cond13 v10_0 k0_t2 = 1#1), ∀ a, (k0_off79 v10_0 k0_t2) a + S1x1.size a ≤ S3x16.size a := fun v10_0 k0_hw2 k0_t2 k0_h13 => k0_hw2.1.2.2.2.2.2.2.2.2.2.2.2.2.2.2.2.2.2.2.2.1 k0_t2 k0_h13
theorem k0_off80_inb : ∀ (v10_0 : BitVec 32) (k0_hw2 : k0_chk2 v10_0) (k0_t2 : Fin (k0_t2_loop v10_0).trips), ∀ (k0_h13 : k0_cond13 v10_0 k0_t2 = 1#1), ∀ a, (k0_off80 v10_0 k0_t2) a + S1.size a ≤ S6.size a := fun v10_0 k0_hw2 k0_t2 k0_h13 => k0_hw2.1.2.2.2.2.2.2.2.2.2.2.2.2.2.2.2.2.2.2.2.2.1 k0_t2 k0_h13
theorem k0_off81_inb : ∀ (v10_0 : BitVec 32) (k0_hw2 : k0_chk2 v10_0) (k0_t2 : Fin (k0_t2_loop v10_0).trips), ∀ (k0_h13 : k0_cond13 v10_0 k0_t2 = 1#1), ∀ a, (k0_off81 v10_0 k0_t2) a + S1x1408x3072.size a ≤ S6x1408x3072.size a := fun v10_0 k0_hw2 k0_t2 k0_h13 => k0_hw2.1.2.2.2.2.2.2.2.2.2.2.2.2.2.2.2.2.2.2.2.2.2.1 k0_t2 k0_h13
theorem k0_off81_wordsfp8e4m3 : ∀ (v10_0 : BitVec 32) (k0_hw2 : k0_chk2 v10_0) (k0_t2 : Fin (k0_t2_loop v10_0).trips), ∀ (k0_h13 : k0_cond13 v10_0 k0_t2 = 1#1), (Rect.unit (s := S6x1408x3072) (k0_off81 v10_0 k0_t2) S1x1408x3072.size (k0_off81_inb v10_0 k0_hw2 k0_t2 k0_h13)).WholeWords (EltTy.packing .fp8e4m3) := fun v10_0 k0_hw2 k0_t2 k0_h13 => k0_hw2.1.2.2.2.2.2.2.2.2.2.2.2.2.2.2.2.2.2.2.2.2.2.2.1 k0_t2 k0_h13 (k0_off81_inb v10_0 k0_hw2 k0_t2 k0_h13)
theorem k0_off83_inb : ∀ (v10_0 : BitVec 32) (k0_hw2 : k0_chk2 v10_0) (k0_t2 : Fin (k0_t2_loop v10_0).trips), ∀ (k0_h14 : k0_cond14 v10_0 k0_t2 = 1#1), ∀ a, (k0_off83 v10_0 k0_t2) a + S1x1.size a ≤ S3x16.size a := fun v10_0 k0_hw2 k0_t2 k0_h14 => k0_hw2.1.2.2.2.2.2.2.2.2.2.2.2.2.2.2.2.2.2.2.2.2.2.2.2.1 k0_t2 k0_h14
theorem k0_off84_inb : ∀ (v10_0 : BitVec 32) (k0_hw2 : k0_chk2 v10_0) (k0_t2 : Fin (k0_t2_loop v10_0).trips), ∀ (k0_h14 : k0_cond14 v10_0 k0_t2 = 1#1), ∀ a, (k0_off84 v10_0 k0_t2) a + S1.size a ≤ S6.size a := fun v10_0 k0_hw2 k0_t2 k0_h14 => k0_hw2.1.2.2.2.2.2.2.2.2.2.2.2.2.2.2.2.2.2.2.2.2.2.2.2.2.1 k0_t2 k0_h14
theorem k0_off85_inb : ∀ (v10_0 : BitVec 32) (k0_hw2 : k0_chk2 v10_0) (k0_t2 : Fin (k0_t2_loop v10_0).trips), ∀ (k0_h14 : k0_cond14 v10_0 k0_t2 = 1#1), ∀ a, (k0_off85 v10_0 k0_t2) a + S1x1408x1024.size a ≤ S6x1408x3072.size a := fun v10_0 k0_hw2 k0_t2 k0_h14 => k0_hw2.1.2.2.2.2.2.2.2.2.2.2.2.2.2.2.2.2.2.2.2.2.2.2.2.2.2.1 k0_t2 k0_h14
theorem k0_off85_wordsfp8e4m3 : ∀ (v10_0 : BitVec 32) (k0_hw2 : k0_chk2 v10_0) (k0_t2 : Fin (k0_t2_loop v10_0).trips), ∀ (k0_h14 : k0_cond14 v10_0 k0_t2 = 1#1), (Rect.unit (s := S6x1408x3072) (k0_off85 v10_0 k0_t2) S1x1408x1024.size (k0_off85_inb v10_0 k0_hw2 k0_t2 k0_h14)).WholeWords (EltTy.packing .fp8e4m3) := fun v10_0 k0_hw2 k0_t2 k0_h14 => k0_hw2.1.2.2.2.2.2.2.2.2.2.2.2.2.2.2.2.2.2.2.2.2.2.2.2.2.2.2.1 k0_t2 k0_h14 (k0_off85_inb v10_0 k0_hw2 k0_t2 k0_h14)
theorem k0_t5_ok : ∀ (v10_0 : BitVec 32) (k0_hw2 : k0_chk2 v10_0), (k0_t5_loop v10_0).OK := fun v10_0 k0_hw2 => k0_hw2.1.2.2.2.2.2.2.2.2.2.2.2.2.2.2.2.2.2.2.2.2.2.2.2.2.2.2.2.1
theorem k0_off87_inb : ∀ (v10_0 : BitVec 32) (k0_hw2 : k0_chk2 v10_0) (k0_t5 : Fin (k0_t5_loop v10_0).trips), ∀ a, (k0_off87 v10_0 k0_t5) a + S1x1.size a ≤ S3x16.size a := fun v10_0 k0_hw2 k0_t5 => k0_hw2.1.2.2.2.2.2.2.2.2.2.2.2.2.2.2.2.2.2.2.2.2.2.2.2.2.2.2.2.2.1 k0_t5
theorem k0_off88_inb : ∀ (v10_0 : BitVec 32) (k0_hw2 : k0_chk2 v10_0) (k0_t5 : Fin (k0_t5_loop v10_0).trips), ∀ a, (k0_off88 v10_0 k0_t5) a + S1x1.size a ≤ S3x16.size a := fun v10_0 k0_hw2 k0_t5 => k0_hw2.1.2.2.2.2.2.2.2.2.2.2.2.2.2.2.2.2.2.2.2.2.2.2.2.2.2.2.2.2.2.1 k0_t5
theorem k0_off89_inb : ∀ (v10_0 : BitVec 32) (k0_hw2 : k0_chk2 v10_0) (k0_t5 : Fin (k0_t5_loop v10_0).trips), ∀ a, (k0_off89 v10_0 k0_t5) a + S1x1.size a ≤ S3x16.size a := fun v10_0 k0_hw2 k0_t5 => k0_hw2.1.2.2.2.2.2.2.2.2.2.2.2.2.2.2.2.2.2.2.2.2.2.2.2.2.2.2.2.2.2.2.1 k0_t5
theorem k0_off90_inb : ∀ (v10_0 : BitVec 32) (k0_hw2 : k0_chk2 v10_0) (k0_t5 : Fin (k0_t5_loop v10_0).trips), ∀ a, (k0_off90 v10_0 k0_t5) a + S1.size a ≤ S6.size a := fun v10_0 k0_hw2 k0_t5 => k0_hw2.1.2.2.2.2.2.2.2.2.2.2.2.2.2.2.2.2.2.2.2.2.2.2.2.2.2.2.2.2.2.2.2 k0_t5
theorem k0_off91_inb : ∀ (v10_0 : BitVec 32) (k0_hw2 : k0_chk2 v10_0) (k0_t5 : Fin (k0_t5_loop v10_0).trips), ∀ a, (k0_off91 v10_0 k0_t5) a + S1x1408x3072.size a ≤ S6x1408x3072.size a := fun v10_0 k0_hw2 k0_t5 => k0_hw2.2.1.1 k0_t5
theorem k0_off91_wordsfp8e4m3 : ∀ (v10_0 : BitVec 32) (k0_hw2 : k0_chk2 v10_0) (k0_t5 : Fin (k0_t5_loop v10_0).trips), (Rect.unit (s := S6x1408x3072) (k0_off91 v10_0 k0_t5) S1x1408x3072.size (k0_off91_inb v10_0 k0_hw2 k0_t5)).WholeWords (EltTy.packing .fp8e4m3) := fun v10_0 k0_hw2 k0_t5 => k0_hw2.2.1.2.1 k0_t5 (k0_off91_inb v10_0 k0_hw2 k0_t5)
theorem k0_off113_inb : ∀ (v10_0 : BitVec 32) (k0_hw2 : k0_chk2 v10_0) (k0_t5 : Fin (k0_t5_loop v10_0).trips), ∀ (k0_h15 : k0_cond15 v10_0 k0_t5 = 1#1), ∀ a, (k0_off113 v10_0 k0_t5) a + S1x1.size a ≤ S3x16.size a := fun v10_0 k0_hw2 k0_t5 k0_h15 => k0_hw2.2.1.2.2.1 k0_t5 k0_h15
theorem k0_off114_inb : ∀ (v10_0 : BitVec 32) (k0_hw2 : k0_chk2 v10_0) (k0_t5 : Fin (k0_t5_loop v10_0).trips), ∀ (k0_h15 : k0_cond15 v10_0 k0_t5 = 1#1), ∀ a, (k0_off114 v10_0 k0_t5) a + S1.size a ≤ S6.size a := fun v10_0 k0_hw2 k0_t5 k0_h15 => k0_hw2.2.1.2.2.2.1 k0_t5 k0_h15
theorem k0_off115_inb : ∀ (v10_0 : BitVec 32) (k0_hw2 : k0_chk2 v10_0) (k0_t5 : Fin (k0_t5_loop v10_0).trips), ∀ (k0_h15 : k0_cond15 v10_0 k0_t5 = 1#1), ∀ a, (k0_off115 v10_0 k0_t5) a + S1x1408x3072.size a ≤ S6x1408x3072.size a := fun v10_0 k0_hw2 k0_t5 k0_h15 => k0_hw2.2.1.2.2.2.2.1 k0_t5 k0_h15
theorem k0_off115_wordsfp8e4m3 : ∀ (v10_0 : BitVec 32) (k0_hw2 : k0_chk2 v10_0) (k0_t5 : Fin (k0_t5_loop v10_0).trips), ∀ (k0_h15 : k0_cond15 v10_0 k0_t5 = 1#1), (Rect.unit (s := S6x1408x3072) (k0_off115 v10_0 k0_t5) S1x1408x3072.size (k0_off115_inb v10_0 k0_hw2 k0_t5 k0_h15)).WholeWords (EltTy.packing .fp8e4m3) := fun v10_0 k0_hw2 k0_t5 k0_h15 => k0_hw2.2.1.2.2.2.2.2.1 k0_t5 k0_h15 (k0_off115_inb v10_0 k0_hw2 k0_t5 k0_h15)
theorem k0_off117_inb : ∀ (v10_0 : BitVec 32) (k0_hw2 : k0_chk2 v10_0) (k0_t5 : Fin (k0_t5_loop v10_0).trips), ∀ (k0_h16 : k0_cond16 v10_0 k0_t5 = 1#1), ∀ a, (k0_off117 v10_0 k0_t5) a + S1x1.size a ≤ S3x16.size a := fun v10_0 k0_hw2 k0_t5 k0_h16 => k0_hw2.2.1.2.2.2.2.2.2.1 k0_t5 k0_h16
theorem k0_off118_inb : ∀ (v10_0 : BitVec 32) (k0_hw2 : k0_chk2 v10_0) (k0_t5 : Fin (k0_t5_loop v10_0).trips), ∀ (k0_h16 : k0_cond16 v10_0 k0_t5 = 1#1), ∀ a, (k0_off118 v10_0 k0_t5) a + S1.size a ≤ S6.size a := fun v10_0 k0_hw2 k0_t5 k0_h16 => k0_hw2.2.1.2.2.2.2.2.2.2.1 k0_t5 k0_h16
theorem k0_off119_inb : ∀ (v10_0 : BitVec 32) (k0_hw2 : k0_chk2 v10_0) (k0_t5 : Fin (k0_t5_loop v10_0).trips), ∀ (k0_h16 : k0_cond16 v10_0 k0_t5 = 1#1), ∀ a, (k0_off119 v10_0 k0_t5) a + S1x1408x1024.size a ≤ S6x1408x3072.size a := fun v10_0 k0_hw2 k0_t5 k0_h16 => k0_hw2.2.1.2.2.2.2.2.2.2.2.1 k0_t5 k0_h16
theorem k0_off119_wordsfp8e4m3 : ∀ (v10_0 : BitVec 32) (k0_hw2 : k0_chk2 v10_0) (k0_t5 : Fin (k0_t5_loop v10_0).trips), ∀ (k0_h16 : k0_cond16 v10_0 k0_t5 = 1#1), (Rect.unit (s := S6x1408x3072) (k0_off119 v10_0 k0_t5) S1x1408x1024.size (k0_off119_inb v10_0 k0_hw2 k0_t5 k0_h16)).WholeWords (EltTy.packing .fp8e4m3) := fun v10_0 k0_hw2 k0_t5 k0_h16 => k0_hw2.2.1.2.2.2.2.2.2.2.2.2.1 k0_t5 k0_h16 (k0_off119_inb v10_0 k0_hw2 k0_t5 k0_h16)
theorem k0_t10_ok : ∀ (v10_0 : BitVec 32) (k0_hw2 : k0_chk2 v10_0), (k0_t10_loop v10_0).OK := fun v10_0 k0_hw2 => k0_hw2.2.1.2.2.2.2.2.2.2.2.2.2.1
theorem k0_off265_inb : ∀ (v10_0 : BitVec 32) (k0_hw2 : k0_chk2 v10_0) (k0_t10 : Fin (k0_t10_loop v10_0).trips), ∀ a, (k0_off265 v10_0 k0_t10) a + S1x1.size a ≤ S3x16.size a := fun v10_0 k0_hw2 k0_t10 => k0_hw2.2.1.2.2.2.2.2.2.2.2.2.2.2.1 k0_t10
theorem k0_off266_inb : ∀ (v10_0 : BitVec 32) (k0_hw2 : k0_chk2 v10_0) (k0_t10 : Fin (k0_t10_loop v10_0).trips), ∀ a, (k0_off266 v10_0 k0_t10) a + S1x1.size a ≤ S3x16.size a := fun v10_0 k0_hw2 k0_t10 => k0_hw2.2.1.2.2.2.2.2.2.2.2.2.2.2.2.1 k0_t10
theorem k0_off267_inb : ∀ (v10_0 : BitVec 32) (k0_hw2 : k0_chk2 v10_0) (k0_t10 : Fin (k0_t10_loop v10_0).trips), ∀ a, (k0_off267 v10_0 k0_t10) a + S1x1.size a ≤ S3x16.size a := fun v10_0 k0_hw2 k0_t10 => k0_hw2.2.1.2.2.2.2.2.2.2.2.2.2.2.2.2.1 k0_t10
theorem k0_off268_inb : ∀ (v10_0 : BitVec 32) (k0_hw2 : k0_chk2 v10_0) (k0_t10 : Fin (k0_t10_loop v10_0).trips), ∀ a, (k0_off268 v10_0 k0_t10) a + S1.size a ≤ S6.size a := fun v10_0 k0_hw2 k0_t10 => k0_hw2.2.1.2.2.2.2.2.2.2.2.2.2.2.2.2.2.1 k0_t10
theorem k0_off269_inb : ∀ (v10_0 : BitVec 32) (k0_hw2 : k0_chk2 v10_0) (k0_t10 : Fin (k0_t10_loop v10_0).trips), ∀ a, (k0_off269 v10_0 k0_t10) a + S1x1408x1024.size a ≤ S6x1408x3072.size a := fun v10_0 k0_hw2 k0_t10 => k0_hw2.2.1.2.2.2.2.2.2.2.2.2.2.2.2.2.2.2.1 k0_t10
theorem k0_off269_wordsfp8e4m3 : ∀ (v10_0 : BitVec 32) (k0_hw2 : k0_chk2 v10_0) (k0_t10 : Fin (k0_t10_loop v10_0).trips), (Rect.unit (s := S6x1408x3072) (k0_off269 v10_0 k0_t10) S1x1408x1024.size (k0_off269_inb v10_0 k0_hw2 k0_t10)).WholeWords (EltTy.packing .fp8e4m3) := fun v10_0 k0_hw2 k0_t10 => k0_hw2.2.1.2.2.2.2.2.2.2.2.2.2.2.2.2.2.2.2.1 k0_t10 (k0_off269_inb v10_0 k0_hw2 k0_t10)
theorem k0_off283_inb : ∀ (v10_0 : BitVec 32) (k0_hw2 : k0_chk2 v10_0) (k0_t10 : Fin (k0_t10_loop v10_0).trips), ∀ (k0_h17 : k0_cond17 v10_0 k0_t10 = 1#1), ∀ a, (k0_off283 v10_0 k0_t10) a + S1x1.size a ≤ S3x16.size a := fun v10_0 k0_hw2 k0_t10 k0_h17 => k0_hw2.2.1.2.2.2.2.2.2.2.2.2.2.2.2.2.2.2.2.2.1 k0_t10 k0_h17
theorem k0_off284_inb : ∀ (v10_0 : BitVec 32) (k0_hw2 : k0_chk2 v10_0) (k0_t10 : Fin (k0_t10_loop v10_0).trips), ∀ (k0_h17 : k0_cond17 v10_0 k0_t10 = 1#1), ∀ a, (k0_off284 v10_0 k0_t10) a + S1.size a ≤ S6.size a := fun v10_0 k0_hw2 k0_t10 k0_h17 => k0_hw2.2.1.2.2.2.2.2.2.2.2.2.2.2.2.2.2.2.2.2.2.1 k0_t10 k0_h17
theorem k0_off285_inb : ∀ (v10_0 : BitVec 32) (k0_hw2 : k0_chk2 v10_0) (k0_t10 : Fin (k0_t10_loop v10_0).trips), ∀ (k0_h17 : k0_cond17 v10_0 k0_t10 = 1#1), ∀ a, (k0_off285 v10_0 k0_t10) a + S1x1408x3072.size a ≤ S6x1408x3072.size a := fun v10_0 k0_hw2 k0_t10 k0_h17 => k0_hw2.2.1.2.2.2.2.2.2.2.2.2.2.2.2.2.2.2.2.2.2.2.1 k0_t10 k0_h17
theorem k0_off285_wordsfp8e4m3 : ∀ (v10_0 : BitVec 32) (k0_hw2 : k0_chk2 v10_0) (k0_t10 : Fin (k0_t10_loop v10_0).trips), ∀ (k0_h17 : k0_cond17 v10_0 k0_t10 = 1#1), (Rect.unit (s := S6x1408x3072) (k0_off285 v10_0 k0_t10) S1x1408x3072.size (k0_off285_inb v10_0 k0_hw2 k0_t10 k0_h17)).WholeWords (EltTy.packing .fp8e4m3) := fun v10_0 k0_hw2 k0_t10 k0_h17 => k0_hw2.2.1.2.2.2.2.2.2.2.2.2.2.2.2.2.2.2.2.2.2.2.2.1 k0_t10 k0_h17 (k0_off285_inb v10_0 k0_hw2 k0_t10 k0_h17)
theorem k0_off287_inb : ∀ (v10_0 : BitVec 32) (k0_hw2 : k0_chk2 v10_0) (k0_t10 : Fin (k0_t10_loop v10_0).trips), ∀ (k0_h18 : k0_cond18 v10_0 k0_t10 = 1#1), ∀ a, (k0_off287 v10_0 k0_t10) a + S1x1.size a ≤ S3x16.size a := fun v10_0 k0_hw2 k0_t10 k0_h18 => k0_hw2.2.1.2.2.2.2.2.2.2.2.2.2.2.2.2.2.2.2.2.2.2.2.2.1 k0_t10 k0_h18
theorem k0_off288_inb : ∀ (v10_0 : BitVec 32) (k0_hw2 : k0_chk2 v10_0) (k0_t10 : Fin (k0_t10_loop v10_0).trips), ∀ (k0_h18 : k0_cond18 v10_0 k0_t10 = 1#1), ∀ a, (k0_off288 v10_0 k0_t10) a + S1.size a ≤ S6.size a := fun v10_0 k0_hw2 k0_t10 k0_h18 => k0_hw2.2.1.2.2.2.2.2.2.2.2.2.2.2.2.2.2.2.2.2.2.2.2.2.2.1 k0_t10 k0_h18
theorem k0_off289_inb : ∀ (v10_0 : BitVec 32) (k0_hw2 : k0_chk2 v10_0) (k0_t10 : Fin (k0_t10_loop v10_0).trips), ∀ (k0_h18 : k0_cond18 v10_0 k0_t10 = 1#1), ∀ a, (k0_off289 v10_0 k0_t10) a + S1x1408x1024.size a ≤ S6x1408x3072.size a := fun v10_0 k0_hw2 k0_t10 k0_h18 => k0_hw2.2.1.2.2.2.2.2.2.2.2.2.2.2.2.2.2.2.2.2.2.2.2.2.2.2.1 k0_t10 k0_h18
theorem k0_off289_wordsfp8e4m3 : ∀ (v10_0 : BitVec 32) (k0_hw2 : k0_chk2 v10_0) (k0_t10 : Fin (k0_t10_loop v10_0).trips), ∀ (k0_h18 : k0_cond18 v10_0 k0_t10 = 1#1), (Rect.unit (s := S6x1408x3072) (k0_off289 v10_0 k0_t10) S1x1408x1024.size (k0_off289_inb v10_0 k0_hw2 k0_t10 k0_h18)).WholeWords (EltTy.packing .fp8e4m3) := fun v10_0 k0_hw2 k0_t10 k0_h18 => k0_hw2.2.1.2.2.2.2.2.2.2.2.2.2.2.2.2.2.2.2.2.2.2.2.2.2.2.2.1 k0_t10 k0_h18 (k0_off289_inb v10_0 k0_hw2 k0_t10 k0_h18)
theorem k0_t13_ok : ∀ (v10_0 : BitVec 32) (k0_hw2 : k0_chk2 v10_0), (k0_t13_loop v10_0).OK := fun v10_0 k0_hw2 => k0_hw2.2.1.2.2.2.2.2.2.2.2.2.2.2.2.2.2.2.2.2.2.2.2.2.2.2.2.2.1
theorem k0_off291_inb : ∀ (v10_0 : BitVec 32) (k0_hw2 : k0_chk2 v10_0) (k0_t13 : Fin (k0_t13_loop v10_0).trips), ∀ a, (k0_off291 v10_0 k0_t13) a + S1x1.size a ≤ S3x16.size a := fun v10_0 k0_hw2 k0_t13 => k0_hw2.2.1.2.2.2.2.2.2.2.2.2.2.2.2.2.2.2.2.2.2.2.2.2.2.2.2.2.2.1 k0_t13
theorem k0_off292_inb : ∀ (v10_0 : BitVec 32) (k0_hw2 : k0_chk2 v10_0) (k0_t13 : Fin (k0_t13_loop v10_0).trips), ∀ a, (k0_off292 v10_0 k0_t13) a + S1x1.size a ≤ S3x16.size a := fun v10_0 k0_hw2 k0_t13 => k0_hw2.2.1.2.2.2.2.2.2.2.2.2.2.2.2.2.2.2.2.2.2.2.2.2.2.2.2.2.2.2.1 k0_t13
theorem k0_off293_inb : ∀ (v10_0 : BitVec 32) (k0_hw2 : k0_chk2 v10_0) (k0_t13 : Fin (k0_t13_loop v10_0).trips), ∀ a, (k0_off293 v10_0 k0_t13) a + S1x1.size a ≤ S3x16.size a := fun v10_0 k0_hw2 k0_t13 => k0_hw2.2.1.2.2.2.2.2.2.2.2.2.2.2.2.2.2.2.2.2.2.2.2.2.2.2.2.2.2.2.2.1 k0_t13
theorem k0_off294_inb : ∀ (v10_0 : BitVec 32) (k0_hw2 : k0_chk2 v10_0) (k0_t13 : Fin (k0_t13_loop v10_0).trips), ∀ a, (k0_off294 v10_0 k0_t13) a + S1.size a ≤ S6.size a := fun v10_0 k0_hw2 k0_t13 => k0_hw2.2.1.2.2.2.2.2.2.2.2.2.2.2.2.2.2.2.2.2.2.2.2.2.2.2.2.2.2.2.2.2.1 k0_t13
theorem k0_off295_inb : ∀ (v10_0 : BitVec 32) (k0_hw2 : k0_chk2 v10_0) (k0_t13 : Fin (k0_t13_loop v10_0).trips), ∀ a, (k0_off295 v10_0 k0_t13) a + S1x1408x1024.size a ≤ S6x1408x3072.size a := fun v10_0 k0_hw2 k0_t13 => k0_hw2.2.1.2.2.2.2.2.2.2.2.2.2.2.2.2.2.2.2.2.2.2.2.2.2.2.2.2.2.2.2.2.2.1 k0_t13
theorem k0_off295_wordsfp8e4m3 : ∀ (v10_0 : BitVec 32) (k0_hw2 : k0_chk2 v10_0) (k0_t13 : Fin (k0_t13_loop v10_0).trips), (Rect.unit (s := S6x1408x3072) (k0_off295 v10_0 k0_t13) S1x1408x1024.size (k0_off295_inb v10_0 k0_hw2 k0_t13)).WholeWords (EltTy.packing .fp8e4m3) := fun v10_0 k0_hw2 k0_t13 => k0_hw2.2.1.2.2.2.2.2.2.2.2.2.2.2.2.2.2.2.2.2.2.2.2.2.2.2.2.2.2.2.2.2.2.2 k0_t13 (k0_off295_inb v10_0 k0_hw2 k0_t13)
theorem k0_off309_inb : ∀ (v10_0 : BitVec 32) (k0_hw2 : k0_chk2 v10_0) (k0_t13 : Fin (k0_t13_loop v10_0).trips), ∀ (k0_h19 : k0_cond19 v10_0 k0_t13 = 1#1), ∀ a, (k0_off309 v10_0 k0_t13) a + S1x1.size a ≤ S3x16.size a := fun v10_0 k0_hw2 k0_t13 k0_h19 => k0_hw2.2.2.1 k0_t13 k0_h19
theorem k0_off310_inb : ∀ (v10_0 : BitVec 32) (k0_hw2 : k0_chk2 v10_0) (k0_t13 : Fin (k0_t13_loop v10_0).trips), ∀ (k0_h19 : k0_cond19 v10_0 k0_t13 = 1#1), ∀ a, (k0_off310 v10_0 k0_t13) a + S1.size a ≤ S6.size a := fun v10_0 k0_hw2 k0_t13 k0_h19 => k0_hw2.2.2.2.1 k0_t13 k0_h19
theorem k0_off311_inb : ∀ (v10_0 : BitVec 32) (k0_hw2 : k0_chk2 v10_0) (k0_t13 : Fin (k0_t13_loop v10_0).trips), ∀ (k0_h19 : k0_cond19 v10_0 k0_t13 = 1#1), ∀ a, (k0_off311 v10_0 k0_t13) a + S1x1408x3072.size a ≤ S6x1408x3072.size a := fun v10_0 k0_hw2 k0_t13 k0_h19 => k0_hw2.2.2.2.2.1 k0_t13 k0_h19
theorem k0_off311_wordsfp8e4m3 : ∀ (v10_0 : BitVec 32) (k0_hw2 : k0_chk2 v10_0) (k0_t13 : Fin (k0_t13_loop v10_0).trips), ∀ (k0_h19 : k0_cond19 v10_0 k0_t13 = 1#1), (Rect.unit (s := S6x1408x3072) (k0_off311 v10_0 k0_t13) S1x1408x3072.size (k0_off311_inb v10_0 k0_hw2 k0_t13 k0_h19)).WholeWords (EltTy.packing .fp8e4m3) := fun v10_0 k0_hw2 k0_t13 k0_h19 => k0_hw2.2.2.2.2.2.1 k0_t13 k0_h19 (k0_off311_inb v10_0 k0_hw2 k0_t13 k0_h19)
theorem k0_off313_inb : ∀ (v10_0 : BitVec 32) (k0_hw2 : k0_chk2 v10_0) (k0_t13 : Fin (k0_t13_loop v10_0).trips), ∀ (k0_h20 : k0_cond20 v10_0 k0_t13 = 1#1), ∀ a, (k0_off313 v10_0 k0_t13) a + S1x1.size a ≤ S3x16.size a := fun v10_0 k0_hw2 k0_t13 k0_h20 => k0_hw2.2.2.2.2.2.2.1 k0_t13 k0_h20
theorem k0_off314_inb : ∀ (v10_0 : BitVec 32) (k0_hw2 : k0_chk2 v10_0) (k0_t13 : Fin (k0_t13_loop v10_0).trips), ∀ (k0_h20 : k0_cond20 v10_0 k0_t13 = 1#1), ∀ a, (k0_off314 v10_0 k0_t13) a + S1.size a ≤ S6.size a := fun v10_0 k0_hw2 k0_t13 k0_h20 => k0_hw2.2.2.2.2.2.2.2.1 k0_t13 k0_h20
theorem k0_off315_inb : ∀ (v10_0 : BitVec 32) (k0_hw2 : k0_chk2 v10_0) (k0_t13 : Fin (k0_t13_loop v10_0).trips), ∀ (k0_h20 : k0_cond20 v10_0 k0_t13 = 1#1), ∀ a, (k0_off315 v10_0 k0_t13) a + S1x1408x1024.size a ≤ S6x1408x3072.size a := fun v10_0 k0_hw2 k0_t13 k0_h20 => k0_hw2.2.2.2.2.2.2.2.2.1 k0_t13 k0_h20
theorem k0_off315_wordsfp8e4m3 : ∀ (v10_0 : BitVec 32) (k0_hw2 : k0_chk2 v10_0) (k0_t13 : Fin (k0_t13_loop v10_0).trips), ∀ (k0_h20 : k0_cond20 v10_0 k0_t13 = 1#1), (Rect.unit (s := S6x1408x3072) (k0_off315 v10_0 k0_t13) S1x1408x1024.size (k0_off315_inb v10_0 k0_hw2 k0_t13 k0_h20)).WholeWords (EltTy.packing .fp8e4m3) := fun v10_0 k0_hw2 k0_t13 k0_h20 => k0_hw2.2.2.2.2.2.2.2.2.2 k0_t13 k0_h20 (k0_off315_inb v10_0 k0_hw2 k0_t13 k0_h20)

@[reducible] def k0_t16_loop : Scf.Loop 32 :=
  let c0_i32_1638 : BitVec 32 := 0#32
  let c16_i32_1639 : BitVec 32 := 16#32
  let v2109 : BitVec 32 := Scalar.addi c0_i32_1638 c16_i32_1639
  let c1_i32_1640 : BitVec 32 := 1#32
  ⟨c0_i32_1638, v2109, c1_i32_1640⟩
def k0_off317 (k0_t16 : Fin k0_t16_loop.trips) : Fin 1 → Nat :=
  let c0_i32_1638 : BitVec 32 := 0#32
  let c1_i32_1640 : BitVec 32 := 1#32
  let arg25 : BitVec 32 := Scf.iv c0_i32_1638 c1_i32_1640 k0_t16
  let c8_i32 : BitVec 32 := 8#32
  let v2766 : BitVec 32 := Scalar.muli arg25 c8_i32
  let c0_i32_2303 : BitVec 32 := 0#32
  let v2767 : BitVec 32 := Scalar.addi v2766 c0_i32_2303
  let c0_i32_2304 : BitVec 32 := 0#32
  let v2768 : BitVec 32 := Scalar.addi v2767 c0_i32_2304
  let v2769 : Index := Scalar.indexCast v2768
  ![v2769.toNat]
def k0_off318 (v2772 : BitVec 32) : Fin 2 → Nat :=
  let v2773 : Index := Scalar.indexCast v2772
  let c0_2305 : Index := 0#32
  ![v2773.toNat, 0]

def k0_chk95 (v2772 : BitVec 32) : Prop :=
  (∀ a, S8x128.size a = 0 ∨ (k0_off318 v2772) a + (![1121, 1] : Fin 2 → Nat) a * (S8x128.size a - 1) < S26904x128.size a)
theorem k0_off318_inb : ∀ (v2772 : BitVec 32) (k0_hw95 : k0_chk95 v2772), ∀ a, S8x128.size a = 0 ∨ (k0_off318 v2772) a + (![1121, 1] : Fin 2 → Nat) a * (S8x128.size a - 1) < S26904x128.size a := fun v2772 k0_hw95 => k0_hw95

def k0_off319 (k0_t16 : Fin k0_t16_loop.trips) : Fin 1 → Nat :=
  let c0_i32_1638 : BitVec 32 := 0#32
  let c1_i32_1640 : BitVec 32 := 1#32
  let arg25 : BitVec 32 := Scf.iv c0_i32_1638 c1_i32_1640 k0_t16
  let c8_i32 : BitVec 32 := 8#32
  let v2766 : BitVec 32 := Scalar.muli arg25 c8_i32
  let c0_i32_2303 : BitVec 32 := 0#32
  let v2767 : BitVec 32 := Scalar.addi v2766 c0_i32_2303
  let c128_i32 : BitVec 32 := 128#32
  let v2777 : BitVec 32 := Scalar.addi v2767 c128_i32
  let v2778 : Index := Scalar.indexCast v2777
  ![v2778.toNat]
def k0_off320 (v2781 : BitVec 32) : Fin 2 → Nat :=
  let v2782 : Index := Scalar.indexCast v2781
  let c0_2306 : Index := 0#32
  ![v2782.toNat, 0]

def k0_chk96 (v2781 : BitVec 32) : Prop :=
  (∀ a, S8x128.size a = 0 ∨ (k0_off320 v2781) a + (![1121, 1] : Fin 2 → Nat) a * (S8x128.size a - 1) < S26904x128.size a)
theorem k0_off320_inb : ∀ (v2781 : BitVec 32) (k0_hw96 : k0_chk96 v2781), ∀ a, S8x128.size a = 0 ∨ (k0_off320 v2781) a + (![1121, 1] : Fin 2 → Nat) a * (S8x128.size a - 1) < S26904x128.size a := fun v2781 k0_hw96 => k0_hw96

def k0_off321 (k0_t16 : Fin k0_t16_loop.trips) : Fin 1 → Nat :=
  let c0_i32_1638 : BitVec 32 := 0#32
  let c1_i32_1640 : BitVec 32 := 1#32
  let arg25 : BitVec 32 := Scf.iv c0_i32_1638 c1_i32_1640 k0_t16
  let c8_i32 : BitVec 32 := 8#32
  let v2766 : BitVec 32 := Scalar.muli arg25 c8_i32
  let c0_i32_2303 : BitVec 32 := 0#32
  let v2767 : BitVec 32 := Scalar.addi v2766 c0_i32_2303
  let c256_i32 : BitVec 32 := 256#32
  let v2787 : BitVec 32 := Scalar.addi v2767 c256_i32
  let v2788 : Index := Scalar.indexCast v2787
  ![v2788.toNat]
def k0_off322 (v2791 : BitVec 32) : Fin 2 → Nat :=
  let v2792 : Index := Scalar.indexCast v2791
  let c0_2307 : Index := 0#32
  ![v2792.toNat, 0]

def k0_chk97 (v2791 : BitVec 32) : Prop :=
  (∀ a, S8x128.size a = 0 ∨ (k0_off322 v2791) a + (![1121, 1] : Fin 2 → Nat) a * (S8x128.size a - 1) < S26904x128.size a)
theorem k0_off322_inb : ∀ (v2791 : BitVec 32) (k0_hw97 : k0_chk97 v2791), ∀ a, S8x128.size a = 0 ∨ (k0_off322 v2791) a + (![1121, 1] : Fin 2 → Nat) a * (S8x128.size a - 1) < S26904x128.size a := fun v2791 k0_hw97 => k0_hw97

def k0_off323 (k0_t16 : Fin k0_t16_loop.trips) : Fin 1 → Nat :=
  let c0_i32_1638 : BitVec 32 := 0#32
  let c1_i32_1640 : BitVec 32 := 1#32
  let arg25 : BitVec 32 := Scf.iv c0_i32_1638 c1_i32_1640 k0_t16
  let c8_i32 : BitVec 32 := 8#32
  let v2766 : BitVec 32 := Scalar.muli arg25 c8_i32
  let c0_i32_2303 : BitVec 32 := 0#32
  let v2767 : BitVec 32 := Scalar.addi v2766 c0_i32_2303
  let c384_i32 : BitVec 32 := 384#32
  let v2797 : BitVec 32 := Scalar.addi v2767 c384_i32
  let v2798 : Index := Scalar.indexCast v2797
  ![v2798.toNat]
def k0_off324 (v2801 : BitVec 32) : Fin 2 → Nat :=
  let v2802 : Index := Scalar.indexCast v2801
  let c0_2308 : Index := 0#32
  ![v2802.toNat, 0]

def k0_chk98 (v2801 : BitVec 32) : Prop :=
  (∀ a, S8x128.size a = 0 ∨ (k0_off324 v2801) a + (![1121, 1] : Fin 2 → Nat) a * (S8x128.size a - 1) < S26904x128.size a)
theorem k0_off324_inb : ∀ (v2801 : BitVec 32) (k0_hw98 : k0_chk98 v2801), ∀ a, S8x128.size a = 0 ∨ (k0_off324 v2801) a + (![1121, 1] : Fin 2 → Nat) a * (S8x128.size a - 1) < S26904x128.size a := fun v2801 k0_hw98 => k0_hw98

def k0_off325 (k0_t16 : Fin k0_t16_loop.trips) : Fin 2 → Nat :=
  let c0_i32_2309 : BitVec 32 := 0#32
  let c0_i32_1638 : BitVec 32 := 0#32
  let c1_i32_1640 : BitVec 32 := 1#32
  let arg25 : BitVec 32 := Scf.iv c0_i32_1638 c1_i32_1640 k0_t16
  let c8_i32 : BitVec 32 := 8#32
  let v2766 : BitVec 32 := Scalar.muli arg25 c8_i32
  let c0_i32_2303 : BitVec 32 := 0#32
  let v2767 : BitVec 32 := Scalar.addi v2766 c0_i32_2303
  let v2807 : BitVec 32 := Scalar.addi c0_i32_2309 v2767
  let v2808 : Index := Scalar.indexCast v2807
  let c0_2310 : Index := 0#32
  ![v2808.toNat, 0]
def k0_off326 (k0_t16 : Fin k0_t16_loop.trips) : Fin 1 → Nat :=
  let c0_i32_1638 : BitVec 32 := 0#32
  let c1_i32_1640 : BitVec 32 := 1#32
  let arg25 : BitVec 32 := Scf.iv c0_i32_1638 c1_i32_1640 k0_t16
  let c8_i32_2311 : BitVec 32 := 8#32
  let v2812 : BitVec 32 := Scalar.muli arg25 c8_i32_2311
  let c1_i32_2312 : BitVec 32 := 1#32
  let v2813 : BitVec 32 := Scalar.addi v2812 c1_i32_2312
  let c0_i32_2313 : BitVec 32 := 0#32
  let v2814 : BitVec 32 := Scalar.addi v2813 c0_i32_2313
  let v2815 : Index := Scalar.indexCast v2814
  ![v2815.toNat]
def k0_off327 (v2818 : BitVec 32) : Fin 2 → Nat :=
  let v2819 : Index := Scalar.indexCast v2818
  let c0_2314 : Index := 0#32
  ![v2819.toNat, 0]

def k0_chk99 (v2818 : BitVec 32) : Prop :=
  (∀ a, S8x128.size a = 0 ∨ (k0_off327 v2818) a + (![1121, 1] : Fin 2 → Nat) a * (S8x128.size a - 1) < S26904x128.size a)
theorem k0_off327_inb : ∀ (v2818 : BitVec 32) (k0_hw99 : k0_chk99 v2818), ∀ a, S8x128.size a = 0 ∨ (k0_off327 v2818) a + (![1121, 1] : Fin 2 → Nat) a * (S8x128.size a - 1) < S26904x128.size a := fun v2818 k0_hw99 => k0_hw99

def k0_off328 (k0_t16 : Fin k0_t16_loop.trips) : Fin 1 → Nat :=
  let c0_i32_1638 : BitVec 32 := 0#32
  let c1_i32_1640 : BitVec 32 := 1#32
  let arg25 : BitVec 32 := Scf.iv c0_i32_1638 c1_i32_1640 k0_t16
  let c8_i32_2311 : BitVec 32 := 8#32
  let v2812 : BitVec 32 := Scalar.muli arg25 c8_i32_2311
  let c1_i32_2312 : BitVec 32 := 1#32
  let v2813 : BitVec 32 := Scalar.addi v2812 c1_i32_2312
  let c128_i32_2315 : BitVec 32 := 128#32
  let v2823 : BitVec 32 := Scalar.addi v2813 c128_i32_2315
  let v2824 : Index := Scalar.indexCast v2823
  ![v2824.toNat]
def k0_off329 (v2827 : BitVec 32) : Fin 2 → Nat :=
  let v2828 : Index := Scalar.indexCast v2827
  let c0_2316 : Index := 0#32
  ![v2828.toNat, 0]

def k0_chk100 (v2827 : BitVec 32) : Prop :=
  (∀ a, S8x128.size a = 0 ∨ (k0_off329 v2827) a + (![1121, 1] : Fin 2 → Nat) a * (S8x128.size a - 1) < S26904x128.size a)
theorem k0_off329_inb : ∀ (v2827 : BitVec 32) (k0_hw100 : k0_chk100 v2827), ∀ a, S8x128.size a = 0 ∨ (k0_off329 v2827) a + (![1121, 1] : Fin 2 → Nat) a * (S8x128.size a - 1) < S26904x128.size a := fun v2827 k0_hw100 => k0_hw100

def k0_off330 (k0_t16 : Fin k0_t16_loop.trips) : Fin 1 → Nat :=
  let c0_i32_1638 : BitVec 32 := 0#32
  let c1_i32_1640 : BitVec 32 := 1#32
  let arg25 : BitVec 32 := Scf.iv c0_i32_1638 c1_i32_1640 k0_t16
  let c8_i32_2311 : BitVec 32 := 8#32
  let v2812 : BitVec 32 := Scalar.muli arg25 c8_i32_2311
  let c1_i32_2312 : BitVec 32 := 1#32
  let v2813 : BitVec 32 := Scalar.addi v2812 c1_i32_2312
  let c256_i32_2317 : BitVec 32 := 256#32
  let v2833 : BitVec 32 := Scalar.addi v2813 c256_i32_2317
  let v2834 : Index := Scalar.indexCast v2833
  ![v2834.toNat]
def k0_off331 (v2837 : BitVec 32) : Fin 2 → Nat :=
  let v2838 : Index := Scalar.indexCast v2837
  let c0_2318 : Index := 0#32
  ![v2838.toNat, 0]

def k0_chk101 (v2837 : BitVec 32) : Prop :=
  (∀ a, S8x128.size a = 0 ∨ (k0_off331 v2837) a + (![1121, 1] : Fin 2 → Nat) a * (S8x128.size a - 1) < S26904x128.size a)
theorem k0_off331_inb : ∀ (v2837 : BitVec 32) (k0_hw101 : k0_chk101 v2837), ∀ a, S8x128.size a = 0 ∨ (k0_off331 v2837) a + (![1121, 1] : Fin 2 → Nat) a * (S8x128.size a - 1) < S26904x128.size a := fun v2837 k0_hw101 => k0_hw101

def k0_off332 (k0_t16 : Fin k0_t16_loop.trips) : Fin 1 → Nat :=
  let c0_i32_1638 : BitVec 32 := 0#32
  let c1_i32_1640 : BitVec 32 := 1#32
  let arg25 : BitVec 32 := Scf.iv c0_i32_1638 c1_i32_1640 k0_t16
  let c8_i32_2311 : BitVec 32 := 8#32
  let v2812 : BitVec 32 := Scalar.muli arg25 c8_i32_2311
  let c1_i32_2312 : BitVec 32 := 1#32
  let v2813 : BitVec 32 := Scalar.addi v2812 c1_i32_2312
  let c384_i32_2319 : BitVec 32 := 384#32
  let v2843 : BitVec 32 := Scalar.addi v2813 c384_i32_2319
  let v2844 : Index := Scalar.indexCast v2843
  ![v2844.toNat]
def k0_off333 (v2847 : BitVec 32) : Fin 2 → Nat :=
  let v2848 : Index := Scalar.indexCast v2847
  let c0_2320 : Index := 0#32
  ![v2848.toNat, 0]

def k0_chk102 (v2847 : BitVec 32) : Prop :=
  (∀ a, S8x128.size a = 0 ∨ (k0_off333 v2847) a + (![1121, 1] : Fin 2 → Nat) a * (S8x128.size a - 1) < S26904x128.size a)
theorem k0_off333_inb : ∀ (v2847 : BitVec 32) (k0_hw102 : k0_chk102 v2847), ∀ a, S8x128.size a = 0 ∨ (k0_off333 v2847) a + (![1121, 1] : Fin 2 → Nat) a * (S8x128.size a - 1) < S26904x128.size a := fun v2847 k0_hw102 => k0_hw102

def k0_off334 (k0_t16 : Fin k0_t16_loop.trips) : Fin 2 → Nat :=
  let c0_i32_2321 : BitVec 32 := 0#32
  let c0_i32_1638 : BitVec 32 := 0#32
  let c1_i32_1640 : BitVec 32 := 1#32
  let arg25 : BitVec 32 := Scf.iv c0_i32_1638 c1_i32_1640 k0_t16
  let c8_i32_2311 : BitVec 32 := 8#32
  let v2812 : BitVec 32 := Scalar.muli arg25 c8_i32_2311
  let c1_i32_2312 : BitVec 32 := 1#32
  let v2813 : BitVec 32 := Scalar.addi v2812 c1_i32_2312
  let v2853 : BitVec 32 := Scalar.addi c0_i32_2321 v2813
  let v2854 : Index := Scalar.indexCast v2853
  let c0_2322 : Index := 0#32
  ![v2854.toNat, 0]
def k0_off335 (k0_t16 : Fin k0_t16_loop.trips) : Fin 1 → Nat :=
  let c0_i32_1638 : BitVec 32 := 0#32
  let c1_i32_1640 : BitVec 32 := 1#32
  let arg25 : BitVec 32 := Scf.iv c0_i32_1638 c1_i32_1640 k0_t16
  let c8_i32_2323 : BitVec 32 := 8#32
  let v2858 : BitVec 32 := Scalar.muli arg25 c8_i32_2323
  let c2_i32_2324 : BitVec 32 := 2#32
  let v2859 : BitVec 32 := Scalar.addi v2858 c2_i32_2324
  let c0_i32_2325 : BitVec 32 := 0#32
  let v2860 : BitVec 32 := Scalar.addi v2859 c0_i32_2325
  let v2861 : Index := Scalar.indexCast v2860
  ![v2861.toNat]
def k0_off336 (v2864 : BitVec 32) : Fin 2 → Nat :=
  let v2865 : Index := Scalar.indexCast v2864
  let c0_2326 : Index := 0#32
  ![v2865.toNat, 0]

def k0_chk103 (v2864 : BitVec 32) : Prop :=
  (∀ a, S8x128.size a = 0 ∨ (k0_off336 v2864) a + (![1121, 1] : Fin 2 → Nat) a * (S8x128.size a - 1) < S26904x128.size a)
theorem k0_off336_inb : ∀ (v2864 : BitVec 32) (k0_hw103 : k0_chk103 v2864), ∀ a, S8x128.size a = 0 ∨ (k0_off336 v2864) a + (![1121, 1] : Fin 2 → Nat) a * (S8x128.size a - 1) < S26904x128.size a := fun v2864 k0_hw103 => k0_hw103

def k0_off337 (k0_t16 : Fin k0_t16_loop.trips) : Fin 1 → Nat :=
  let c0_i32_1638 : BitVec 32 := 0#32
  let c1_i32_1640 : BitVec 32 := 1#32
  let arg25 : BitVec 32 := Scf.iv c0_i32_1638 c1_i32_1640 k0_t16
  let c8_i32_2323 : BitVec 32 := 8#32
  let v2858 : BitVec 32 := Scalar.muli arg25 c8_i32_2323
  let c2_i32_2324 : BitVec 32 := 2#32
  let v2859 : BitVec 32 := Scalar.addi v2858 c2_i32_2324
  let c128_i32_2327 : BitVec 32 := 128#32
  let v2869 : BitVec 32 := Scalar.addi v2859 c128_i32_2327
  let v2870 : Index := Scalar.indexCast v2869
  ![v2870.toNat]
def k0_off338 (v2873 : BitVec 32) : Fin 2 → Nat :=
  let v2874 : Index := Scalar.indexCast v2873
  let c0_2328 : Index := 0#32
  ![v2874.toNat, 0]

def k0_chk104 (v2873 : BitVec 32) : Prop :=
  (∀ a, S8x128.size a = 0 ∨ (k0_off338 v2873) a + (![1121, 1] : Fin 2 → Nat) a * (S8x128.size a - 1) < S26904x128.size a)
theorem k0_off338_inb : ∀ (v2873 : BitVec 32) (k0_hw104 : k0_chk104 v2873), ∀ a, S8x128.size a = 0 ∨ (k0_off338 v2873) a + (![1121, 1] : Fin 2 → Nat) a * (S8x128.size a - 1) < S26904x128.size a := fun v2873 k0_hw104 => k0_hw104

def k0_off339 (k0_t16 : Fin k0_t16_loop.trips) : Fin 1 → Nat :=
  let c0_i32_1638 : BitVec 32 := 0#32
  let c1_i32_1640 : BitVec 32 := 1#32
  let arg25 : BitVec 32 := Scf.iv c0_i32_1638 c1_i32_1640 k0_t16
  let c8_i32_2323 : BitVec 32 := 8#32
  let v2858 : BitVec 32 := Scalar.muli arg25 c8_i32_2323
  let c2_i32_2324 : BitVec 32 := 2#32
  let v2859 : BitVec 32 := Scalar.addi v2858 c2_i32_2324
  let c256_i32_2329 : BitVec 32 := 256#32
  let v2879 : BitVec 32 := Scalar.addi v2859 c256_i32_2329
  let v2880 : Index := Scalar.indexCast v2879
  ![v2880.toNat]
def k0_off340 (v2883 : BitVec 32) : Fin 2 → Nat :=
  let v2884 : Index := Scalar.indexCast v2883
  let c0_2330 : Index := 0#32
  ![v2884.toNat, 0]

def k0_chk105 (v2883 : BitVec 32) : Prop :=
  (∀ a, S8x128.size a = 0 ∨ (k0_off340 v2883) a + (![1121, 1] : Fin 2 → Nat) a * (S8x128.size a - 1) < S26904x128.size a)
theorem k0_off340_inb : ∀ (v2883 : BitVec 32) (k0_hw105 : k0_chk105 v2883), ∀ a, S8x128.size a = 0 ∨ (k0_off340 v2883) a + (![1121, 1] : Fin 2 → Nat) a * (S8x128.size a - 1) < S26904x128.size a := fun v2883 k0_hw105 => k0_hw105

def k0_off341 (k0_t16 : Fin k0_t16_loop.trips) : Fin 1 → Nat :=
  let c0_i32_1638 : BitVec 32 := 0#32
  let c1_i32_1640 : BitVec 32 := 1#32
  let arg25 : BitVec 32 := Scf.iv c0_i32_1638 c1_i32_1640 k0_t16
  let c8_i32_2323 : BitVec 32 := 8#32
  let v2858 : BitVec 32 := Scalar.muli arg25 c8_i32_2323
  let c2_i32_2324 : BitVec 32 := 2#32
  let v2859 : BitVec 32 := Scalar.addi v2858 c2_i32_2324
  let c384_i32_2331 : BitVec 32 := 384#32
  let v2889 : BitVec 32 := Scalar.addi v2859 c384_i32_2331
  let v2890 : Index := Scalar.indexCast v2889
  ![v2890.toNat]
def k0_off342 (v2893 : BitVec 32) : Fin 2 → Nat :=
  let v2894 : Index := Scalar.indexCast v2893
  let c0_2332 : Index := 0#32
  ![v2894.toNat, 0]

def k0_chk106 (v2893 : BitVec 32) : Prop :=
  (∀ a, S8x128.size a = 0 ∨ (k0_off342 v2893) a + (![1121, 1] : Fin 2 → Nat) a * (S8x128.size a - 1) < S26904x128.size a)
theorem k0_off342_inb : ∀ (v2893 : BitVec 32) (k0_hw106 : k0_chk106 v2893), ∀ a, S8x128.size a = 0 ∨ (k0_off342 v2893) a + (![1121, 1] : Fin 2 → Nat) a * (S8x128.size a - 1) < S26904x128.size a := fun v2893 k0_hw106 => k0_hw106

def k0_off343 (k0_t16 : Fin k0_t16_loop.trips) : Fin 2 → Nat :=
  let c0_i32_2333 : BitVec 32 := 0#32
  let c0_i32_1638 : BitVec 32 := 0#32
  let c1_i32_1640 : BitVec 32 := 1#32
  let arg25 : BitVec 32 := Scf.iv c0_i32_1638 c1_i32_1640 k0_t16
  let c8_i32_2323 : BitVec 32 := 8#32
  let v2858 : BitVec 32 := Scalar.muli arg25 c8_i32_2323
  let c2_i32_2324 : BitVec 32 := 2#32
  let v2859 : BitVec 32 := Scalar.addi v2858 c2_i32_2324
  let v2899 : BitVec 32 := Scalar.addi c0_i32_2333 v2859
  let v2900 : Index := Scalar.indexCast v2899
  let c0_2334 : Index := 0#32
  ![v2900.toNat, 0]
def k0_off344 (k0_t16 : Fin k0_t16_loop.trips) : Fin 1 → Nat :=
  let c0_i32_1638 : BitVec 32 := 0#32
  let c1_i32_1640 : BitVec 32 := 1#32
  let arg25 : BitVec 32 := Scf.iv c0_i32_1638 c1_i32_1640 k0_t16
  let c8_i32_2335 : BitVec 32 := 8#32
  let v2904 : BitVec 32 := Scalar.muli arg25 c8_i32_2335
  let c3_i32_2336 : BitVec 32 := 3#32
  let v2905 : BitVec 32 := Scalar.addi v2904 c3_i32_2336
  let c0_i32_2337 : BitVec 32 := 0#32
  let v2906 : BitVec 32 := Scalar.addi v2905 c0_i32_2337
  let v2907 : Index := Scalar.indexCast v2906
  ![v2907.toNat]
def k0_off345 (v2910 : BitVec 32) : Fin 2 → Nat :=
  let v2911 : Index := Scalar.indexCast v2910
  let c0_2338 : Index := 0#32
  ![v2911.toNat, 0]

def k0_chk107 (v2910 : BitVec 32) : Prop :=
  (∀ a, S8x128.size a = 0 ∨ (k0_off345 v2910) a + (![1121, 1] : Fin 2 → Nat) a * (S8x128.size a - 1) < S26904x128.size a)
theorem k0_off345_inb : ∀ (v2910 : BitVec 32) (k0_hw107 : k0_chk107 v2910), ∀ a, S8x128.size a = 0 ∨ (k0_off345 v2910) a + (![1121, 1] : Fin 2 → Nat) a * (S8x128.size a - 1) < S26904x128.size a := fun v2910 k0_hw107 => k0_hw107

def k0_off346 (k0_t16 : Fin k0_t16_loop.trips) : Fin 1 → Nat :=
  let c0_i32_1638 : BitVec 32 := 0#32
  let c1_i32_1640 : BitVec 32 := 1#32
  let arg25 : BitVec 32 := Scf.iv c0_i32_1638 c1_i32_1640 k0_t16
  let c8_i32_2335 : BitVec 32 := 8#32
  let v2904 : BitVec 32 := Scalar.muli arg25 c8_i32_2335
  let c3_i32_2336 : BitVec 32 := 3#32
  let v2905 : BitVec 32 := Scalar.addi v2904 c3_i32_2336
  let c128_i32_2339 : BitVec 32 := 128#32
  let v2915 : BitVec 32 := Scalar.addi v2905 c128_i32_2339
  let v2916 : Index := Scalar.indexCast v2915
  ![v2916.toNat]
def k0_off347 (v2919 : BitVec 32) : Fin 2 → Nat :=
  let v2920 : Index := Scalar.indexCast v2919
  let c0_2340 : Index := 0#32
  ![v2920.toNat, 0]

def k0_chk108 (v2919 : BitVec 32) : Prop :=
  (∀ a, S8x128.size a = 0 ∨ (k0_off347 v2919) a + (![1121, 1] : Fin 2 → Nat) a * (S8x128.size a - 1) < S26904x128.size a)
theorem k0_off347_inb : ∀ (v2919 : BitVec 32) (k0_hw108 : k0_chk108 v2919), ∀ a, S8x128.size a = 0 ∨ (k0_off347 v2919) a + (![1121, 1] : Fin 2 → Nat) a * (S8x128.size a - 1) < S26904x128.size a := fun v2919 k0_hw108 => k0_hw108

def k0_off348 (k0_t16 : Fin k0_t16_loop.trips) : Fin 1 → Nat :=
  let c0_i32_1638 : BitVec 32 := 0#32
  let c1_i32_1640 : BitVec 32 := 1#32
  let arg25 : BitVec 32 := Scf.iv c0_i32_1638 c1_i32_1640 k0_t16
  let c8_i32_2335 : BitVec 32 := 8#32
  let v2904 : BitVec 32 := Scalar.muli arg25 c8_i32_2335
  let c3_i32_2336 : BitVec 32 := 3#32
  let v2905 : BitVec 32 := Scalar.addi v2904 c3_i32_2336
  let c256_i32_2341 : BitVec 32 := 256#32
  let v2925 : BitVec 32 := Scalar.addi v2905 c256_i32_2341
  let v2926 : Index := Scalar.indexCast v2925
  ![v2926.toNat]
def k0_off349 (v2929 : BitVec 32) : Fin 2 → Nat :=
  let v2930 : Index := Scalar.indexCast v2929
  let c0_2342 : Index := 0#32
  ![v2930.toNat, 0]

def k0_chk109 (v2929 : BitVec 32) : Prop :=
  (∀ a, S8x128.size a = 0 ∨ (k0_off349 v2929) a + (![1121, 1] : Fin 2 → Nat) a * (S8x128.size a - 1) < S26904x128.size a)
theorem k0_off349_inb : ∀ (v2929 : BitVec 32) (k0_hw109 : k0_chk109 v2929), ∀ a, S8x128.size a = 0 ∨ (k0_off349 v2929) a + (![1121, 1] : Fin 2 → Nat) a * (S8x128.size a - 1) < S26904x128.size a := fun v2929 k0_hw109 => k0_hw109

def k0_off350 (k0_t16 : Fin k0_t16_loop.trips) : Fin 1 → Nat :=
  let c0_i32_1638 : BitVec 32 := 0#32
  let c1_i32_1640 : BitVec 32 := 1#32
  let arg25 : BitVec 32 := Scf.iv c0_i32_1638 c1_i32_1640 k0_t16
  let c8_i32_2335 : BitVec 32 := 8#32
  let v2904 : BitVec 32 := Scalar.muli arg25 c8_i32_2335
  let c3_i32_2336 : BitVec 32 := 3#32
  let v2905 : BitVec 32 := Scalar.addi v2904 c3_i32_2336
  let c384_i32_2343 : BitVec 32 := 384#32
  let v2935 : BitVec 32 := Scalar.addi v2905 c384_i32_2343
  let v2936 : Index := Scalar.indexCast v2935
  ![v2936.toNat]
def k0_off351 (v2939 : BitVec 32) : Fin 2 → Nat :=
  let v2940 : Index := Scalar.indexCast v2939
  let c0_2344 : Index := 0#32
  ![v2940.toNat, 0]

def k0_chk110 (v2939 : BitVec 32) : Prop :=
  (∀ a, S8x128.size a = 0 ∨ (k0_off351 v2939) a + (![1121, 1] : Fin 2 → Nat) a * (S8x128.size a - 1) < S26904x128.size a)
theorem k0_off351_inb : ∀ (v2939 : BitVec 32) (k0_hw110 : k0_chk110 v2939), ∀ a, S8x128.size a = 0 ∨ (k0_off351 v2939) a + (![1121, 1] : Fin 2 → Nat) a * (S8x128.size a - 1) < S26904x128.size a := fun v2939 k0_hw110 => k0_hw110

def k0_off352 (k0_t16 : Fin k0_t16_loop.trips) : Fin 2 → Nat :=
  let c0_i32_2345 : BitVec 32 := 0#32
  let c0_i32_1638 : BitVec 32 := 0#32
  let c1_i32_1640 : BitVec 32 := 1#32
  let arg25 : BitVec 32 := Scf.iv c0_i32_1638 c1_i32_1640 k0_t16
  let c8_i32_2335 : BitVec 32 := 8#32
  let v2904 : BitVec 32 := Scalar.muli arg25 c8_i32_2335
  let c3_i32_2336 : BitVec 32 := 3#32
  let v2905 : BitVec 32 := Scalar.addi v2904 c3_i32_2336
  let v2945 : BitVec 32 := Scalar.addi c0_i32_2345 v2905
  let v2946 : Index := Scalar.indexCast v2945
  let c0_2346 : Index := 0#32
  ![v2946.toNat, 0]
def k0_off353 (k0_t16 : Fin k0_t16_loop.trips) : Fin 1 → Nat :=
  let c0_i32_1638 : BitVec 32 := 0#32
  let c1_i32_1640 : BitVec 32 := 1#32
  let arg25 : BitVec 32 := Scf.iv c0_i32_1638 c1_i32_1640 k0_t16
  let c8_i32_2347 : BitVec 32 := 8#32
  let v2950 : BitVec 32 := Scalar.muli arg25 c8_i32_2347
  let c4_i32_2348 : BitVec 32 := 4#32
  let v2951 : BitVec 32 := Scalar.addi v2950 c4_i32_2348
  let c0_i32_2349 : BitVec 32 := 0#32
  let v2952 : BitVec 32 := Scalar.addi v2951 c0_i32_2349
  let v2953 : Index := Scalar.indexCast v2952
  ![v2953.toNat]
def k0_off354 (v2956 : BitVec 32) : Fin 2 → Nat :=
  let v2957 : Index := Scalar.indexCast v2956
  let c0_2350 : Index := 0#32
  ![v2957.toNat, 0]

def k0_chk111 (v2956 : BitVec 32) : Prop :=
  (∀ a, S8x128.size a = 0 ∨ (k0_off354 v2956) a + (![1121, 1] : Fin 2 → Nat) a * (S8x128.size a - 1) < S26904x128.size a)
theorem k0_off354_inb : ∀ (v2956 : BitVec 32) (k0_hw111 : k0_chk111 v2956), ∀ a, S8x128.size a = 0 ∨ (k0_off354 v2956) a + (![1121, 1] : Fin 2 → Nat) a * (S8x128.size a - 1) < S26904x128.size a := fun v2956 k0_hw111 => k0_hw111

def k0_off355 (k0_t16 : Fin k0_t16_loop.trips) : Fin 1 → Nat :=
  let c0_i32_1638 : BitVec 32 := 0#32
  let c1_i32_1640 : BitVec 32 := 1#32
  let arg25 : BitVec 32 := Scf.iv c0_i32_1638 c1_i32_1640 k0_t16
  let c8_i32_2347 : BitVec 32 := 8#32
  let v2950 : BitVec 32 := Scalar.muli arg25 c8_i32_2347
  let c4_i32_2348 : BitVec 32 := 4#32
  let v2951 : BitVec 32 := Scalar.addi v2950 c4_i32_2348
  let c128_i32_2351 : BitVec 32 := 128#32
  let v2961 : BitVec 32 := Scalar.addi v2951 c128_i32_2351
  let v2962 : Index := Scalar.indexCast v2961
  ![v2962.toNat]
def k0_off356 (v2965 : BitVec 32) : Fin 2 → Nat :=
  let v2966 : Index := Scalar.indexCast v2965
  let c0_2352 : Index := 0#32
  ![v2966.toNat, 0]

def k0_chk112 (v2965 : BitVec 32) : Prop :=
  (∀ a, S8x128.size a = 0 ∨ (k0_off356 v2965) a + (![1121, 1] : Fin 2 → Nat) a * (S8x128.size a - 1) < S26904x128.size a)
theorem k0_off356_inb : ∀ (v2965 : BitVec 32) (k0_hw112 : k0_chk112 v2965), ∀ a, S8x128.size a = 0 ∨ (k0_off356 v2965) a + (![1121, 1] : Fin 2 → Nat) a * (S8x128.size a - 1) < S26904x128.size a := fun v2965 k0_hw112 => k0_hw112

def k0_off357 (k0_t16 : Fin k0_t16_loop.trips) : Fin 1 → Nat :=
  let c0_i32_1638 : BitVec 32 := 0#32
  let c1_i32_1640 : BitVec 32 := 1#32
  let arg25 : BitVec 32 := Scf.iv c0_i32_1638 c1_i32_1640 k0_t16
  let c8_i32_2347 : BitVec 32 := 8#32
  let v2950 : BitVec 32 := Scalar.muli arg25 c8_i32_2347
  let c4_i32_2348 : BitVec 32 := 4#32
  let v2951 : BitVec 32 := Scalar.addi v2950 c4_i32_2348
  let c256_i32_2353 : BitVec 32 := 256#32
  let v2971 : BitVec 32 := Scalar.addi v2951 c256_i32_2353
  let v2972 : Index := Scalar.indexCast v2971
  ![v2972.toNat]
def k0_off358 (v2975 : BitVec 32) : Fin 2 → Nat :=
  let v2976 : Index := Scalar.indexCast v2975
  let c0_2354 : Index := 0#32
  ![v2976.toNat, 0]

def k0_chk113 (v2975 : BitVec 32) : Prop :=
  (∀ a, S8x128.size a = 0 ∨ (k0_off358 v2975) a + (![1121, 1] : Fin 2 → Nat) a * (S8x128.size a - 1) < S26904x128.size a)
theorem k0_off358_inb : ∀ (v2975 : BitVec 32) (k0_hw113 : k0_chk113 v2975), ∀ a, S8x128.size a = 0 ∨ (k0_off358 v2975) a + (![1121, 1] : Fin 2 → Nat) a * (S8x128.size a - 1) < S26904x128.size a := fun v2975 k0_hw113 => k0_hw113

def k0_off359 (k0_t16 : Fin k0_t16_loop.trips) : Fin 1 → Nat :=
  let c0_i32_1638 : BitVec 32 := 0#32
  let c1_i32_1640 : BitVec 32 := 1#32
  let arg25 : BitVec 32 := Scf.iv c0_i32_1638 c1_i32_1640 k0_t16
  let c8_i32_2347 : BitVec 32 := 8#32
  let v2950 : BitVec 32 := Scalar.muli arg25 c8_i32_2347
  let c4_i32_2348 : BitVec 32 := 4#32
  let v2951 : BitVec 32 := Scalar.addi v2950 c4_i32_2348
  let c384_i32_2355 : BitVec 32 := 384#32
  let v2981 : BitVec 32 := Scalar.addi v2951 c384_i32_2355
  let v2982 : Index := Scalar.indexCast v2981
  ![v2982.toNat]
def k0_off360 (v2985 : BitVec 32) : Fin 2 → Nat :=
  let v2986 : Index := Scalar.indexCast v2985
  let c0_2356 : Index := 0#32
  ![v2986.toNat, 0]

def k0_chk114 (v2985 : BitVec 32) : Prop :=
  (∀ a, S8x128.size a = 0 ∨ (k0_off360 v2985) a + (![1121, 1] : Fin 2 → Nat) a * (S8x128.size a - 1) < S26904x128.size a)
theorem k0_off360_inb : ∀ (v2985 : BitVec 32) (k0_hw114 : k0_chk114 v2985), ∀ a, S8x128.size a = 0 ∨ (k0_off360 v2985) a + (![1121, 1] : Fin 2 → Nat) a * (S8x128.size a - 1) < S26904x128.size a := fun v2985 k0_hw114 => k0_hw114

def k0_off361 (k0_t16 : Fin k0_t16_loop.trips) : Fin 2 → Nat :=
  let c0_i32_2357 : BitVec 32 := 0#32
  let c0_i32_1638 : BitVec 32 := 0#32
  let c1_i32_1640 : BitVec 32 := 1#32
  let arg25 : BitVec 32 := Scf.iv c0_i32_1638 c1_i32_1640 k0_t16
  let c8_i32_2347 : BitVec 32 := 8#32
  let v2950 : BitVec 32 := Scalar.muli arg25 c8_i32_2347
  let c4_i32_2348 : BitVec 32 := 4#32
  let v2951 : BitVec 32 := Scalar.addi v2950 c4_i32_2348
  let v2991 : BitVec 32 := Scalar.addi c0_i32_2357 v2951
  let v2992 : Index := Scalar.indexCast v2991
  let c0_2358 : Index := 0#32
  ![v2992.toNat, 0]
def k0_off362 (k0_t16 : Fin k0_t16_loop.trips) : Fin 1 → Nat :=
  let c0_i32_1638 : BitVec 32 := 0#32
  let c1_i32_1640 : BitVec 32 := 1#32
  let arg25 : BitVec 32 := Scf.iv c0_i32_1638 c1_i32_1640 k0_t16
  let c8_i32_2359 : BitVec 32 := 8#32
  let v2996 : BitVec 32 := Scalar.muli arg25 c8_i32_2359
  let c5_i32_2360 : BitVec 32 := 5#32
  let v2997 : BitVec 32 := Scalar.addi v2996 c5_i32_2360
  let c0_i32_2361 : BitVec 32 := 0#32
  let v2998 : BitVec 32 := Scalar.addi v2997 c0_i32_2361
  let v2999 : Index := Scalar.indexCast v2998
  ![v2999.toNat]
def k0_off363 (v3002 : BitVec 32) : Fin 2 → Nat :=
  let v3003 : Index := Scalar.indexCast v3002
  let c0_2362 : Index := 0#32
  ![v3003.toNat, 0]

def k0_chk115 (v3002 : BitVec 32) : Prop :=
  (∀ a, S8x128.size a = 0 ∨ (k0_off363 v3002) a + (![1121, 1] : Fin 2 → Nat) a * (S8x128.size a - 1) < S26904x128.size a)
theorem k0_off363_inb : ∀ (v3002 : BitVec 32) (k0_hw115 : k0_chk115 v3002), ∀ a, S8x128.size a = 0 ∨ (k0_off363 v3002) a + (![1121, 1] : Fin 2 → Nat) a * (S8x128.size a - 1) < S26904x128.size a := fun v3002 k0_hw115 => k0_hw115

def k0_off364 (k0_t16 : Fin k0_t16_loop.trips) : Fin 1 → Nat :=
  let c0_i32_1638 : BitVec 32 := 0#32
  let c1_i32_1640 : BitVec 32 := 1#32
  let arg25 : BitVec 32 := Scf.iv c0_i32_1638 c1_i32_1640 k0_t16
  let c8_i32_2359 : BitVec 32 := 8#32
  let v2996 : BitVec 32 := Scalar.muli arg25 c8_i32_2359
  let c5_i32_2360 : BitVec 32 := 5#32
  let v2997 : BitVec 32 := Scalar.addi v2996 c5_i32_2360
  let c128_i32_2363 : BitVec 32 := 128#32
  let v3007 : BitVec 32 := Scalar.addi v2997 c128_i32_2363
  let v3008 : Index := Scalar.indexCast v3007
  ![v3008.toNat]
def k0_off365 (v3011 : BitVec 32) : Fin 2 → Nat :=
  let v3012 : Index := Scalar.indexCast v3011
  let c0_2364 : Index := 0#32
  ![v3012.toNat, 0]

def k0_chk116 (v3011 : BitVec 32) : Prop :=
  (∀ a, S8x128.size a = 0 ∨ (k0_off365 v3011) a + (![1121, 1] : Fin 2 → Nat) a * (S8x128.size a - 1) < S26904x128.size a)
theorem k0_off365_inb : ∀ (v3011 : BitVec 32) (k0_hw116 : k0_chk116 v3011), ∀ a, S8x128.size a = 0 ∨ (k0_off365 v3011) a + (![1121, 1] : Fin 2 → Nat) a * (S8x128.size a - 1) < S26904x128.size a := fun v3011 k0_hw116 => k0_hw116

def k0_off366 (k0_t16 : Fin k0_t16_loop.trips) : Fin 1 → Nat :=
  let c0_i32_1638 : BitVec 32 := 0#32
  let c1_i32_1640 : BitVec 32 := 1#32
  let arg25 : BitVec 32 := Scf.iv c0_i32_1638 c1_i32_1640 k0_t16
  let c8_i32_2359 : BitVec 32 := 8#32
  let v2996 : BitVec 32 := Scalar.muli arg25 c8_i32_2359
  let c5_i32_2360 : BitVec 32 := 5#32
  let v2997 : BitVec 32 := Scalar.addi v2996 c5_i32_2360
  let c256_i32_2365 : BitVec 32 := 256#32
  let v3017 : BitVec 32 := Scalar.addi v2997 c256_i32_2365
  let v3018 : Index := Scalar.indexCast v3017
  ![v3018.toNat]
def k0_off367 (v3021 : BitVec 32) : Fin 2 → Nat :=
  let v3022 : Index := Scalar.indexCast v3021
  let c0_2366 : Index := 0#32
  ![v3022.toNat, 0]

def k0_chk117 (v3021 : BitVec 32) : Prop :=
  (∀ a, S8x128.size a = 0 ∨ (k0_off367 v3021) a + (![1121, 1] : Fin 2 → Nat) a * (S8x128.size a - 1) < S26904x128.size a)
theorem k0_off367_inb : ∀ (v3021 : BitVec 32) (k0_hw117 : k0_chk117 v3021), ∀ a, S8x128.size a = 0 ∨ (k0_off367 v3021) a + (![1121, 1] : Fin 2 → Nat) a * (S8x128.size a - 1) < S26904x128.size a := fun v3021 k0_hw117 => k0_hw117

def k0_off368 (k0_t16 : Fin k0_t16_loop.trips) : Fin 1 → Nat :=
  let c0_i32_1638 : BitVec 32 := 0#32
  let c1_i32_1640 : BitVec 32 := 1#32
  let arg25 : BitVec 32 := Scf.iv c0_i32_1638 c1_i32_1640 k0_t16
  let c8_i32_2359 : BitVec 32 := 8#32
  let v2996 : BitVec 32 := Scalar.muli arg25 c8_i32_2359
  let c5_i32_2360 : BitVec 32 := 5#32
  let v2997 : BitVec 32 := Scalar.addi v2996 c5_i32_2360
  let c384_i32_2367 : BitVec 32 := 384#32
  let v3027 : BitVec 32 := Scalar.addi v2997 c384_i32_2367
  let v3028 : Index := Scalar.indexCast v3027
  ![v3028.toNat]
def k0_off369 (v3031 : BitVec 32) : Fin 2 → Nat :=
  let v3032 : Index := Scalar.indexCast v3031
  let c0_2368 : Index := 0#32
  ![v3032.toNat, 0]

def k0_chk118 (v3031 : BitVec 32) : Prop :=
  (∀ a, S8x128.size a = 0 ∨ (k0_off369 v3031) a + (![1121, 1] : Fin 2 → Nat) a * (S8x128.size a - 1) < S26904x128.size a)
theorem k0_off369_inb : ∀ (v3031 : BitVec 32) (k0_hw118 : k0_chk118 v3031), ∀ a, S8x128.size a = 0 ∨ (k0_off369 v3031) a + (![1121, 1] : Fin 2 → Nat) a * (S8x128.size a - 1) < S26904x128.size a := fun v3031 k0_hw118 => k0_hw118

def k0_off370 (k0_t16 : Fin k0_t16_loop.trips) : Fin 2 → Nat :=
  let c0_i32_2369 : BitVec 32 := 0#32
  let c0_i32_1638 : BitVec 32 := 0#32
  let c1_i32_1640 : BitVec 32 := 1#32
  let arg25 : BitVec 32 := Scf.iv c0_i32_1638 c1_i32_1640 k0_t16
  let c8_i32_2359 : BitVec 32 := 8#32
  let v2996 : BitVec 32 := Scalar.muli arg25 c8_i32_2359
  let c5_i32_2360 : BitVec 32 := 5#32
  let v2997 : BitVec 32 := Scalar.addi v2996 c5_i32_2360
  let v3037 : BitVec 32 := Scalar.addi c0_i32_2369 v2997
  let v3038 : Index := Scalar.indexCast v3037
  let c0_2370 : Index := 0#32
  ![v3038.toNat, 0]
def k0_off371 (k0_t16 : Fin k0_t16_loop.trips) : Fin 1 → Nat :=
  let c0_i32_1638 : BitVec 32 := 0#32
  let c1_i32_1640 : BitVec 32 := 1#32
  let arg25 : BitVec 32 := Scf.iv c0_i32_1638 c1_i32_1640 k0_t16
  let c8_i32_2371 : BitVec 32 := 8#32
  let v3042 : BitVec 32 := Scalar.muli arg25 c8_i32_2371
  let c6_i32 : BitVec 32 := 6#32
  let v3043 : BitVec 32 := Scalar.addi v3042 c6_i32
  let c0_i32_2372 : BitVec 32 := 0#32
  let v3044 : BitVec 32 := Scalar.addi v3043 c0_i32_2372
  let v3045 : Index := Scalar.indexCast v3044
  ![v3045.toNat]
def k0_off372 (v3048 : BitVec 32) : Fin 2 → Nat :=
  let v3049 : Index := Scalar.indexCast v3048
  let c0_2373 : Index := 0#32
  ![v3049.toNat, 0]

def k0_chk119 (v3048 : BitVec 32) : Prop :=
  (∀ a, S8x128.size a = 0 ∨ (k0_off372 v3048) a + (![1121, 1] : Fin 2 → Nat) a * (S8x128.size a - 1) < S26904x128.size a)
theorem k0_off372_inb : ∀ (v3048 : BitVec 32) (k0_hw119 : k0_chk119 v3048), ∀ a, S8x128.size a = 0 ∨ (k0_off372 v3048) a + (![1121, 1] : Fin 2 → Nat) a * (S8x128.size a - 1) < S26904x128.size a := fun v3048 k0_hw119 => k0_hw119

def k0_off373 (k0_t16 : Fin k0_t16_loop.trips) : Fin 1 → Nat :=
  let c0_i32_1638 : BitVec 32 := 0#32
  let c1_i32_1640 : BitVec 32 := 1#32
  let arg25 : BitVec 32 := Scf.iv c0_i32_1638 c1_i32_1640 k0_t16
  let c8_i32_2371 : BitVec 32 := 8#32
  let v3042 : BitVec 32 := Scalar.muli arg25 c8_i32_2371
  let c6_i32 : BitVec 32 := 6#32
  let v3043 : BitVec 32 := Scalar.addi v3042 c6_i32
  let c128_i32_2374 : BitVec 32 := 128#32
  let v3053 : BitVec 32 := Scalar.addi v3043 c128_i32_2374
  let v3054 : Index := Scalar.indexCast v3053
  ![v3054.toNat]
def k0_off374 (v3057 : BitVec 32) : Fin 2 → Nat :=
  let v3058 : Index := Scalar.indexCast v3057
  let c0_2375 : Index := 0#32
  ![v3058.toNat, 0]

def k0_chk120 (v3057 : BitVec 32) : Prop :=
  (∀ a, S8x128.size a = 0 ∨ (k0_off374 v3057) a + (![1121, 1] : Fin 2 → Nat) a * (S8x128.size a - 1) < S26904x128.size a)
theorem k0_off374_inb : ∀ (v3057 : BitVec 32) (k0_hw120 : k0_chk120 v3057), ∀ a, S8x128.size a = 0 ∨ (k0_off374 v3057) a + (![1121, 1] : Fin 2 → Nat) a * (S8x128.size a - 1) < S26904x128.size a := fun v3057 k0_hw120 => k0_hw120

def k0_off375 (k0_t16 : Fin k0_t16_loop.trips) : Fin 1 → Nat :=
  let c0_i32_1638 : BitVec 32 := 0#32
  let c1_i32_1640 : BitVec 32 := 1#32
  let arg25 : BitVec 32 := Scf.iv c0_i32_1638 c1_i32_1640 k0_t16
  let c8_i32_2371 : BitVec 32 := 8#32
  let v3042 : BitVec 32 := Scalar.muli arg25 c8_i32_2371
  let c6_i32 : BitVec 32 := 6#32
  let v3043 : BitVec 32 := Scalar.addi v3042 c6_i32
  let c256_i32_2376 : BitVec 32 := 256#32
  let v3063 : BitVec 32 := Scalar.addi v3043 c256_i32_2376
  let v3064 : Index := Scalar.indexCast v3063
  ![v3064.toNat]
def k0_off376 (v3067 : BitVec 32) : Fin 2 → Nat :=
  let v3068 : Index := Scalar.indexCast v3067
  let c0_2377 : Index := 0#32
  ![v3068.toNat, 0]

def k0_chk121 (v3067 : BitVec 32) : Prop :=
  (∀ a, S8x128.size a = 0 ∨ (k0_off376 v3067) a + (![1121, 1] : Fin 2 → Nat) a * (S8x128.size a - 1) < S26904x128.size a)
theorem k0_off376_inb : ∀ (v3067 : BitVec 32) (k0_hw121 : k0_chk121 v3067), ∀ a, S8x128.size a = 0 ∨ (k0_off376 v3067) a + (![1121, 1] : Fin 2 → Nat) a * (S8x128.size a - 1) < S26904x128.size a := fun v3067 k0_hw121 => k0_hw121

def k0_off377 (k0_t16 : Fin k0_t16_loop.trips) : Fin 1 → Nat :=
  let c0_i32_1638 : BitVec 32 := 0#32
  let c1_i32_1640 : BitVec 32 := 1#32
  let arg25 : BitVec 32 := Scf.iv c0_i32_1638 c1_i32_1640 k0_t16
  let c8_i32_2371 : BitVec 32 := 8#32
  let v3042 : BitVec 32 := Scalar.muli arg25 c8_i32_2371
  let c6_i32 : BitVec 32 := 6#32
  let v3043 : BitVec 32 := Scalar.addi v3042 c6_i32
  let c384_i32_2378 : BitVec 32 := 384#32
  let v3073 : BitVec 32 := Scalar.addi v3043 c384_i32_2378
  let v3074 : Index := Scalar.indexCast v3073
  ![v3074.toNat]
def k0_off378 (v3077 : BitVec 32) : Fin 2 → Nat :=
  let v3078 : Index := Scalar.indexCast v3077
  let c0_2379 : Index := 0#32
  ![v3078.toNat, 0]

def k0_chk122 (v3077 : BitVec 32) : Prop :=
  (∀ a, S8x128.size a = 0 ∨ (k0_off378 v3077) a + (![1121, 1] : Fin 2 → Nat) a * (S8x128.size a - 1) < S26904x128.size a)
theorem k0_off378_inb : ∀ (v3077 : BitVec 32) (k0_hw122 : k0_chk122 v3077), ∀ a, S8x128.size a = 0 ∨ (k0_off378 v3077) a + (![1121, 1] : Fin 2 → Nat) a * (S8x128.size a - 1) < S26904x128.size a := fun v3077 k0_hw122 => k0_hw122

def k0_off379 (k0_t16 : Fin k0_t16_loop.trips) : Fin 2 → Nat :=
  let c0_i32_2380 : BitVec 32 := 0#32
  let c0_i32_1638 : BitVec 32 := 0#32
  let c1_i32_1640 : BitVec 32 := 1#32
  let arg25 : BitVec 32 := Scf.iv c0_i32_1638 c1_i32_1640 k0_t16
  let c8_i32_2371 : BitVec 32 := 8#32
  let v3042 : BitVec 32 := Scalar.muli arg25 c8_i32_2371
  let c6_i32 : BitVec 32 := 6#32
  let v3043 : BitVec 32 := Scalar.addi v3042 c6_i32
  let v3083 : BitVec 32 := Scalar.addi c0_i32_2380 v3043
  let v3084 : Index := Scalar.indexCast v3083
  let c0_2381 : Index := 0#32
  ![v3084.toNat, 0]
def k0_off380 (k0_t16 : Fin k0_t16_loop.trips) : Fin 1 → Nat :=
  let c0_i32_1638 : BitVec 32 := 0#32
  let c1_i32_1640 : BitVec 32 := 1#32
  let arg25 : BitVec 32 := Scf.iv c0_i32_1638 c1_i32_1640 k0_t16
  let c8_i32_2382 : BitVec 32 := 8#32
  let v3088 : BitVec 32 := Scalar.muli arg25 c8_i32_2382
  let c7_i32 : BitVec 32 := 7#32
  let v3089 : BitVec 32 := Scalar.addi v3088 c7_i32
  let c0_i32_2383 : BitVec 32 := 0#32
  let v3090 : BitVec 32 := Scalar.addi v3089 c0_i32_2383
  let v3091 : Index := Scalar.indexCast v3090
  ![v3091.toNat]
def k0_off381 (v3094 : BitVec 32) : Fin 2 → Nat :=
  let v3095 : Index := Scalar.indexCast v3094
  let c0_2384 : Index := 0#32
  ![v3095.toNat, 0]

def k0_chk123 (v3094 : BitVec 32) : Prop :=
  (∀ a, S8x128.size a = 0 ∨ (k0_off381 v3094) a + (![1121, 1] : Fin 2 → Nat) a * (S8x128.size a - 1) < S26904x128.size a)
theorem k0_off381_inb : ∀ (v3094 : BitVec 32) (k0_hw123 : k0_chk123 v3094), ∀ a, S8x128.size a = 0 ∨ (k0_off381 v3094) a + (![1121, 1] : Fin 2 → Nat) a * (S8x128.size a - 1) < S26904x128.size a := fun v3094 k0_hw123 => k0_hw123

def k0_off382 (k0_t16 : Fin k0_t16_loop.trips) : Fin 1 → Nat :=
  let c0_i32_1638 : BitVec 32 := 0#32
  let c1_i32_1640 : BitVec 32 := 1#32
  let arg25 : BitVec 32 := Scf.iv c0_i32_1638 c1_i32_1640 k0_t16
  let c8_i32_2382 : BitVec 32 := 8#32
  let v3088 : BitVec 32 := Scalar.muli arg25 c8_i32_2382
  let c7_i32 : BitVec 32 := 7#32
  let v3089 : BitVec 32 := Scalar.addi v3088 c7_i32
  let c128_i32_2385 : BitVec 32 := 128#32
  let v3099 : BitVec 32 := Scalar.addi v3089 c128_i32_2385
  let v3100 : Index := Scalar.indexCast v3099
  ![v3100.toNat]
def k0_off383 (v3103 : BitVec 32) : Fin 2 → Nat :=
  let v3104 : Index := Scalar.indexCast v3103
  let c0_2386 : Index := 0#32
  ![v3104.toNat, 0]

def k0_chk124 (v3103 : BitVec 32) : Prop :=
  (∀ a, S8x128.size a = 0 ∨ (k0_off383 v3103) a + (![1121, 1] : Fin 2 → Nat) a * (S8x128.size a - 1) < S26904x128.size a)
theorem k0_off383_inb : ∀ (v3103 : BitVec 32) (k0_hw124 : k0_chk124 v3103), ∀ a, S8x128.size a = 0 ∨ (k0_off383 v3103) a + (![1121, 1] : Fin 2 → Nat) a * (S8x128.size a - 1) < S26904x128.size a := fun v3103 k0_hw124 => k0_hw124

def k0_off384 (k0_t16 : Fin k0_t16_loop.trips) : Fin 1 → Nat :=
  let c0_i32_1638 : BitVec 32 := 0#32
  let c1_i32_1640 : BitVec 32 := 1#32
  let arg25 : BitVec 32 := Scf.iv c0_i32_1638 c1_i32_1640 k0_t16
  let c8_i32_2382 : BitVec 32 := 8#32
  let v3088 : BitVec 32 := Scalar.muli arg25 c8_i32_2382
  let c7_i32 : BitVec 32 := 7#32
  let v3089 : BitVec 32 := Scalar.addi v3088 c7_i32
  let c256_i32_2387 : BitVec 32 := 256#32
  let v3109 : BitVec 32 := Scalar.addi v3089 c256_i32_2387
  let v3110 : Index := Scalar.indexCast v3109
  ![v3110.toNat]
def k0_off385 (v3113 : BitVec 32) : Fin 2 → Nat :=
  let v3114 : Index := Scalar.indexCast v3113
  let c0_2388 : Index := 0#32
  ![v3114.toNat, 0]

def k0_chk125 (v3113 : BitVec 32) : Prop :=
  (∀ a, S8x128.size a = 0 ∨ (k0_off385 v3113) a + (![1121, 1] : Fin 2 → Nat) a * (S8x128.size a - 1) < S26904x128.size a)
theorem k0_off385_inb : ∀ (v3113 : BitVec 32) (k0_hw125 : k0_chk125 v3113), ∀ a, S8x128.size a = 0 ∨ (k0_off385 v3113) a + (![1121, 1] : Fin 2 → Nat) a * (S8x128.size a - 1) < S26904x128.size a := fun v3113 k0_hw125 => k0_hw125

def k0_off386 (k0_t16 : Fin k0_t16_loop.trips) : Fin 1 → Nat :=
  let c0_i32_1638 : BitVec 32 := 0#32
  let c1_i32_1640 : BitVec 32 := 1#32
  let arg25 : BitVec 32 := Scf.iv c0_i32_1638 c1_i32_1640 k0_t16
  let c8_i32_2382 : BitVec 32 := 8#32
  let v3088 : BitVec 32 := Scalar.muli arg25 c8_i32_2382
  let c7_i32 : BitVec 32 := 7#32
  let v3089 : BitVec 32 := Scalar.addi v3088 c7_i32
  let c384_i32_2389 : BitVec 32 := 384#32
  let v3119 : BitVec 32 := Scalar.addi v3089 c384_i32_2389
  let v3120 : Index := Scalar.indexCast v3119
  ![v3120.toNat]
def k0_off387 (v3123 : BitVec 32) : Fin 2 → Nat :=
  let v3124 : Index := Scalar.indexCast v3123
  let c0_2390 : Index := 0#32
  ![v3124.toNat, 0]

def k0_chk126 (v3123 : BitVec 32) : Prop :=
  (∀ a, S8x128.size a = 0 ∨ (k0_off387 v3123) a + (![1121, 1] : Fin 2 → Nat) a * (S8x128.size a - 1) < S26904x128.size a)
theorem k0_off387_inb : ∀ (v3123 : BitVec 32) (k0_hw126 : k0_chk126 v3123), ∀ a, S8x128.size a = 0 ∨ (k0_off387 v3123) a + (![1121, 1] : Fin 2 → Nat) a * (S8x128.size a - 1) < S26904x128.size a := fun v3123 k0_hw126 => k0_hw126

def k0_off388 (k0_t16 : Fin k0_t16_loop.trips) : Fin 2 → Nat :=
  let c0_i32_2391 : BitVec 32 := 0#32
  let c0_i32_1638 : BitVec 32 := 0#32
  let c1_i32_1640 : BitVec 32 := 1#32
  let arg25 : BitVec 32 := Scf.iv c0_i32_1638 c1_i32_1640 k0_t16
  let c8_i32_2382 : BitVec 32 := 8#32
  let v3088 : BitVec 32 := Scalar.muli arg25 c8_i32_2382
  let c7_i32 : BitVec 32 := 7#32
  let v3089 : BitVec 32 := Scalar.addi v3088 c7_i32
  let v3129 : BitVec 32 := Scalar.addi c0_i32_2391 v3089
  let v3130 : Index := Scalar.indexCast v3129
  let c0_2392 : Index := 0#32
  ![v3130.toNat, 0]
@[reducible] def k0_t17_loop : Scf.Loop 32 :=
  let c0_i32_1642 : BitVec 32 := 0#32
  let c16_i32_1643 : BitVec 32 := 16#32
  let v2110 : BitVec 32 := Scalar.addi c0_i32_1642 c16_i32_1643
  let c1_i32_1644 : BitVec 32 := 1#32
  ⟨c0_i32_1642, v2110, c1_i32_1644⟩
def k0_off389 (k0_t17 : Fin k0_t17_loop.trips) : Fin 1 → Nat :=
  let c0_i32_1642 : BitVec 32 := 0#32
  let c1_i32_1644 : BitVec 32 := 1#32
  let arg25 : BitVec 32 := Scf.iv c0_i32_1642 c1_i32_1644 k0_t17
  let c8_i32 : BitVec 32 := 8#32
  let v2766 : BitVec 32 := Scalar.muli arg25 c8_i32
  let c0_i32_2303 : BitVec 32 := 0#32
  let v2767 : BitVec 32 := Scalar.addi v2766 c0_i32_2303
  let c512_i32 : BitVec 32 := 512#32
  let v2768 : BitVec 32 := Scalar.addi v2767 c512_i32
  let v2769 : Index := Scalar.indexCast v2768
  ![v2769.toNat]
def k0_off390 (v2772 : BitVec 32) : Fin 2 → Nat :=
  let v2773 : Index := Scalar.indexCast v2772
  let c0_2304 : Index := 0#32
  ![v2773.toNat, 0]

def k0_chk127 (v2772 : BitVec 32) : Prop :=
  (∀ a, S8x128.size a = 0 ∨ (k0_off390 v2772) a + (![1121, 1] : Fin 2 → Nat) a * (S8x128.size a - 1) < S26904x128.size a)
theorem k0_off390_inb : ∀ (v2772 : BitVec 32) (k0_hw127 : k0_chk127 v2772), ∀ a, S8x128.size a = 0 ∨ (k0_off390 v2772) a + (![1121, 1] : Fin 2 → Nat) a * (S8x128.size a - 1) < S26904x128.size a := fun v2772 k0_hw127 => k0_hw127

def k0_off391 (k0_t17 : Fin k0_t17_loop.trips) : Fin 1 → Nat :=
  let c0_i32_1642 : BitVec 32 := 0#32
  let c1_i32_1644 : BitVec 32 := 1#32
  let arg25 : BitVec 32 := Scf.iv c0_i32_1642 c1_i32_1644 k0_t17
  let c8_i32 : BitVec 32 := 8#32
  let v2766 : BitVec 32 := Scalar.muli arg25 c8_i32
  let c0_i32_2303 : BitVec 32 := 0#32
  let v2767 : BitVec 32 := Scalar.addi v2766 c0_i32_2303
  let c640_i32 : BitVec 32 := 640#32
  let v2777 : BitVec 32 := Scalar.addi v2767 c640_i32
  let v2778 : Index := Scalar.indexCast v2777
  ![v2778.toNat]
def k0_off392 (v2781 : BitVec 32) : Fin 2 → Nat :=
  let v2782 : Index := Scalar.indexCast v2781
  let c0_2305 : Index := 0#32
  ![v2782.toNat, 0]

def k0_chk128 (v2781 : BitVec 32) : Prop :=
  (∀ a, S8x128.size a = 0 ∨ (k0_off392 v2781) a + (![1121, 1] : Fin 2 → Nat) a * (S8x128.size a - 1) < S26904x128.size a)
theorem k0_off392_inb : ∀ (v2781 : BitVec 32) (k0_hw128 : k0_chk128 v2781), ∀ a, S8x128.size a = 0 ∨ (k0_off392 v2781) a + (![1121, 1] : Fin 2 → Nat) a * (S8x128.size a - 1) < S26904x128.size a := fun v2781 k0_hw128 => k0_hw128

def k0_off393 (k0_t17 : Fin k0_t17_loop.trips) : Fin 1 → Nat :=
  let c0_i32_1642 : BitVec 32 := 0#32
  let c1_i32_1644 : BitVec 32 := 1#32
  let arg25 : BitVec 32 := Scf.iv c0_i32_1642 c1_i32_1644 k0_t17
  let c8_i32 : BitVec 32 := 8#32
  let v2766 : BitVec 32 := Scalar.muli arg25 c8_i32
  let c0_i32_2303 : BitVec 32 := 0#32
  let v2767 : BitVec 32 := Scalar.addi v2766 c0_i32_2303
  let c768_i32 : BitVec 32 := 768#32
  let v2787 : BitVec 32 := Scalar.addi v2767 c768_i32
  let v2788 : Index := Scalar.indexCast v2787
  ![v2788.toNat]
def k0_off394 (v2791 : BitVec 32) : Fin 2 → Nat :=
  let v2792 : Index := Scalar.indexCast v2791
  let c0_2306 : Index := 0#32
  ![v2792.toNat, 0]

def k0_chk129 (v2791 : BitVec 32) : Prop :=
  (∀ a, S8x128.size a = 0 ∨ (k0_off394 v2791) a + (![1121, 1] : Fin 2 → Nat) a * (S8x128.size a - 1) < S26904x128.size a)
theorem k0_off394_inb : ∀ (v2791 : BitVec 32) (k0_hw129 : k0_chk129 v2791), ∀ a, S8x128.size a = 0 ∨ (k0_off394 v2791) a + (![1121, 1] : Fin 2 → Nat) a * (S8x128.size a - 1) < S26904x128.size a := fun v2791 k0_hw129 => k0_hw129

def k0_off395 (k0_t17 : Fin k0_t17_loop.trips) : Fin 1 → Nat :=
  let c0_i32_1642 : BitVec 32 := 0#32
  let c1_i32_1644 : BitVec 32 := 1#32
  let arg25 : BitVec 32 := Scf.iv c0_i32_1642 c1_i32_1644 k0_t17
  let c8_i32 : BitVec 32 := 8#32
  let v2766 : BitVec 32 := Scalar.muli arg25 c8_i32
  let c0_i32_2303 : BitVec 32 := 0#32
  let v2767 : BitVec 32 := Scalar.addi v2766 c0_i32_2303
  let c896_i32 : BitVec 32 := 896#32
  let v2797 : BitVec 32 := Scalar.addi v2767 c896_i32
  let v2798 : Index := Scalar.indexCast v2797
  ![v2798.toNat]
def k0_off396 (v2801 : BitVec 32) : Fin 2 → Nat :=
  let v2802 : Index := Scalar.indexCast v2801
  let c0_2307 : Index := 0#32
  ![v2802.toNat, 0]

def k0_chk130 (v2801 : BitVec 32) : Prop :=
  (∀ a, S8x128.size a = 0 ∨ (k0_off396 v2801) a + (![1121, 1] : Fin 2 → Nat) a * (S8x128.size a - 1) < S26904x128.size a)
theorem k0_off396_inb : ∀ (v2801 : BitVec 32) (k0_hw130 : k0_chk130 v2801), ∀ a, S8x128.size a = 0 ∨ (k0_off396 v2801) a + (![1121, 1] : Fin 2 → Nat) a * (S8x128.size a - 1) < S26904x128.size a := fun v2801 k0_hw130 => k0_hw130

def k0_off397 (k0_t17 : Fin k0_t17_loop.trips) : Fin 2 → Nat :=
  let c128_i32 : BitVec 32 := 128#32
  let c0_i32_1642 : BitVec 32 := 0#32
  let c1_i32_1644 : BitVec 32 := 1#32
  let arg25 : BitVec 32 := Scf.iv c0_i32_1642 c1_i32_1644 k0_t17
  let c8_i32 : BitVec 32 := 8#32
  let v2766 : BitVec 32 := Scalar.muli arg25 c8_i32
  let c0_i32_2303 : BitVec 32 := 0#32
  let v2767 : BitVec 32 := Scalar.addi v2766 c0_i32_2303
  let v2807 : BitVec 32 := Scalar.addi c128_i32 v2767
  let v2808 : Index := Scalar.indexCast v2807
  let c0_2308 : Index := 0#32
  ![v2808.toNat, 0]
def k0_off398 (k0_t17 : Fin k0_t17_loop.trips) : Fin 1 → Nat :=
  let c0_i32_1642 : BitVec 32 := 0#32
  let c1_i32_1644 : BitVec 32 := 1#32
  let arg25 : BitVec 32 := Scf.iv c0_i32_1642 c1_i32_1644 k0_t17
  let c8_i32_2309 : BitVec 32 := 8#32
  let v2812 : BitVec 32 := Scalar.muli arg25 c8_i32_2309
  let c1_i32_2310 : BitVec 32 := 1#32
  let v2813 : BitVec 32 := Scalar.addi v2812 c1_i32_2310
  let c512_i32_2311 : BitVec 32 := 512#32
  let v2814 : BitVec 32 := Scalar.addi v2813 c512_i32_2311
  let v2815 : Index := Scalar.indexCast v2814
  ![v2815.toNat]
def k0_off399 (v2818 : BitVec 32) : Fin 2 → Nat :=
  let v2819 : Index := Scalar.indexCast v2818
  let c0_2312 : Index := 0#32
  ![v2819.toNat, 0]

def k0_chk131 (v2818 : BitVec 32) : Prop :=
  (∀ a, S8x128.size a = 0 ∨ (k0_off399 v2818) a + (![1121, 1] : Fin 2 → Nat) a * (S8x128.size a - 1) < S26904x128.size a)
theorem k0_off399_inb : ∀ (v2818 : BitVec 32) (k0_hw131 : k0_chk131 v2818), ∀ a, S8x128.size a = 0 ∨ (k0_off399 v2818) a + (![1121, 1] : Fin 2 → Nat) a * (S8x128.size a - 1) < S26904x128.size a := fun v2818 k0_hw131 => k0_hw131

def k0_off400 (k0_t17 : Fin k0_t17_loop.trips) : Fin 1 → Nat :=
  let c0_i32_1642 : BitVec 32 := 0#32
  let c1_i32_1644 : BitVec 32 := 1#32
  let arg25 : BitVec 32 := Scf.iv c0_i32_1642 c1_i32_1644 k0_t17
  let c8_i32_2309 : BitVec 32 := 8#32
  let v2812 : BitVec 32 := Scalar.muli arg25 c8_i32_2309
  let c1_i32_2310 : BitVec 32 := 1#32
  let v2813 : BitVec 32 := Scalar.addi v2812 c1_i32_2310
  let c640_i32_2313 : BitVec 32 := 640#32
  let v2823 : BitVec 32 := Scalar.addi v2813 c640_i32_2313
  let v2824 : Index := Scalar.indexCast v2823
  ![v2824.toNat]
def k0_off401 (v2827 : BitVec 32) : Fin 2 → Nat :=
  let v2828 : Index := Scalar.indexCast v2827
  let c0_2314 : Index := 0#32
  ![v2828.toNat, 0]

def k0_chk132 (v2827 : BitVec 32) : Prop :=
  (∀ a, S8x128.size a = 0 ∨ (k0_off401 v2827) a + (![1121, 1] : Fin 2 → Nat) a * (S8x128.size a - 1) < S26904x128.size a)
theorem k0_off401_inb : ∀ (v2827 : BitVec 32) (k0_hw132 : k0_chk132 v2827), ∀ a, S8x128.size a = 0 ∨ (k0_off401 v2827) a + (![1121, 1] : Fin 2 → Nat) a * (S8x128.size a - 1) < S26904x128.size a := fun v2827 k0_hw132 => k0_hw132

def k0_off402 (k0_t17 : Fin k0_t17_loop.trips) : Fin 1 → Nat :=
  let c0_i32_1642 : BitVec 32 := 0#32
  let c1_i32_1644 : BitVec 32 := 1#32
  let arg25 : BitVec 32 := Scf.iv c0_i32_1642 c1_i32_1644 k0_t17
  let c8_i32_2309 : BitVec 32 := 8#32
  let v2812 : BitVec 32 := Scalar.muli arg25 c8_i32_2309
  let c1_i32_2310 : BitVec 32 := 1#32
  let v2813 : BitVec 32 := Scalar.addi v2812 c1_i32_2310
  let c768_i32_2315 : BitVec 32 := 768#32
  let v2833 : BitVec 32 := Scalar.addi v2813 c768_i32_2315
  let v2834 : Index := Scalar.indexCast v2833
  ![v2834.toNat]
def k0_off403 (v2837 : BitVec 32) : Fin 2 → Nat :=
  let v2838 : Index := Scalar.indexCast v2837
  let c0_2316 : Index := 0#32
  ![v2838.toNat, 0]

def k0_chk133 (v2837 : BitVec 32) : Prop :=
  (∀ a, S8x128.size a = 0 ∨ (k0_off403 v2837) a + (![1121, 1] : Fin 2 → Nat) a * (S8x128.size a - 1) < S26904x128.size a)
theorem k0_off403_inb : ∀ (v2837 : BitVec 32) (k0_hw133 : k0_chk133 v2837), ∀ a, S8x128.size a = 0 ∨ (k0_off403 v2837) a + (![1121, 1] : Fin 2 → Nat) a * (S8x128.size a - 1) < S26904x128.size a := fun v2837 k0_hw133 => k0_hw133

def k0_off404 (k0_t17 : Fin k0_t17_loop.trips) : Fin 1 → Nat :=
  let c0_i32_1642 : BitVec 32 := 0#32
  let c1_i32_1644 : BitVec 32 := 1#32
  let arg25 : BitVec 32 := Scf.iv c0_i32_1642 c1_i32_1644 k0_t17
  let c8_i32_2309 : BitVec 32 := 8#32
  let v2812 : BitVec 32 := Scalar.muli arg25 c8_i32_2309
  let c1_i32_2310 : BitVec 32 := 1#32
  let v2813 : BitVec 32 := Scalar.addi v2812 c1_i32_2310
  let c896_i32_2317 : BitVec 32 := 896#32
  let v2843 : BitVec 32 := Scalar.addi v2813 c896_i32_2317
  let v2844 : Index := Scalar.indexCast v2843
  ![v2844.toNat]
def k0_off405 (v2847 : BitVec 32) : Fin 2 → Nat :=
  let v2848 : Index := Scalar.indexCast v2847
  let c0_2318 : Index := 0#32
  ![v2848.toNat, 0]

def k0_chk134 (v2847 : BitVec 32) : Prop :=
  (∀ a, S8x128.size a = 0 ∨ (k0_off405 v2847) a + (![1121, 1] : Fin 2 → Nat) a * (S8x128.size a - 1) < S26904x128.size a)
theorem k0_off405_inb : ∀ (v2847 : BitVec 32) (k0_hw134 : k0_chk134 v2847), ∀ a, S8x128.size a = 0 ∨ (k0_off405 v2847) a + (![1121, 1] : Fin 2 → Nat) a * (S8x128.size a - 1) < S26904x128.size a := fun v2847 k0_hw134 => k0_hw134

def k0_off406 (k0_t17 : Fin k0_t17_loop.trips) : Fin 2 → Nat :=
  let c128_i32_2319 : BitVec 32 := 128#32
  let c0_i32_1642 : BitVec 32 := 0#32
  let c1_i32_1644 : BitVec 32 := 1#32
  let arg25 : BitVec 32 := Scf.iv c0_i32_1642 c1_i32_1644 k0_t17
  let c8_i32_2309 : BitVec 32 := 8#32
  let v2812 : BitVec 32 := Scalar.muli arg25 c8_i32_2309
  let c1_i32_2310 : BitVec 32 := 1#32
  let v2813 : BitVec 32 := Scalar.addi v2812 c1_i32_2310
  let v2853 : BitVec 32 := Scalar.addi c128_i32_2319 v2813
  let v2854 : Index := Scalar.indexCast v2853
  let c0_2320 : Index := 0#32
  ![v2854.toNat, 0]
def k0_off407 (k0_t17 : Fin k0_t17_loop.trips) : Fin 1 → Nat :=
  let c0_i32_1642 : BitVec 32 := 0#32
  let c1_i32_1644 : BitVec 32 := 1#32
  let arg25 : BitVec 32 := Scf.iv c0_i32_1642 c1_i32_1644 k0_t17
  let c8_i32_2321 : BitVec 32 := 8#32
  let v2858 : BitVec 32 := Scalar.muli arg25 c8_i32_2321
  let c2_i32_2322 : BitVec 32 := 2#32
  let v2859 : BitVec 32 := Scalar.addi v2858 c2_i32_2322
  let c512_i32_2323 : BitVec 32 := 512#32
  let v2860 : BitVec 32 := Scalar.addi v2859 c512_i32_2323
  let v2861 : Index := Scalar.indexCast v2860
  ![v2861.toNat]
def k0_off408 (v2864 : BitVec 32) : Fin 2 → Nat :=
  let v2865 : Index := Scalar.indexCast v2864
  let c0_2324 : Index := 0#32
  ![v2865.toNat, 0]

def k0_chk135 (v2864 : BitVec 32) : Prop :=
  (∀ a, S8x128.size a = 0 ∨ (k0_off408 v2864) a + (![1121, 1] : Fin 2 → Nat) a * (S8x128.size a - 1) < S26904x128.size a)
theorem k0_off408_inb : ∀ (v2864 : BitVec 32) (k0_hw135 : k0_chk135 v2864), ∀ a, S8x128.size a = 0 ∨ (k0_off408 v2864) a + (![1121, 1] : Fin 2 → Nat) a * (S8x128.size a - 1) < S26904x128.size a := fun v2864 k0_hw135 => k0_hw135

def k0_off409 (k0_t17 : Fin k0_t17_loop.trips) : Fin 1 → Nat :=
  let c0_i32_1642 : BitVec 32 := 0#32
  let c1_i32_1644 : BitVec 32 := 1#32
  let arg25 : BitVec 32 := Scf.iv c0_i32_1642 c1_i32_1644 k0_t17
  let c8_i32_2321 : BitVec 32 := 8#32
  let v2858 : BitVec 32 := Scalar.muli arg25 c8_i32_2321
  let c2_i32_2322 : BitVec 32 := 2#32
  let v2859 : BitVec 32 := Scalar.addi v2858 c2_i32_2322
  let c640_i32_2325 : BitVec 32 := 640#32
  let v2869 : BitVec 32 := Scalar.addi v2859 c640_i32_2325
  let v2870 : Index := Scalar.indexCast v2869
  ![v2870.toNat]
def k0_off410 (v2873 : BitVec 32) : Fin 2 → Nat :=
  let v2874 : Index := Scalar.indexCast v2873
  let c0_2326 : Index := 0#32
  ![v2874.toNat, 0]

def k0_chk136 (v2873 : BitVec 32) : Prop :=
  (∀ a, S8x128.size a = 0 ∨ (k0_off410 v2873) a + (![1121, 1] : Fin 2 → Nat) a * (S8x128.size a - 1) < S26904x128.size a)
theorem k0_off410_inb : ∀ (v2873 : BitVec 32) (k0_hw136 : k0_chk136 v2873), ∀ a, S8x128.size a = 0 ∨ (k0_off410 v2873) a + (![1121, 1] : Fin 2 → Nat) a * (S8x128.size a - 1) < S26904x128.size a := fun v2873 k0_hw136 => k0_hw136

def k0_off411 (k0_t17 : Fin k0_t17_loop.trips) : Fin 1 → Nat :=
  let c0_i32_1642 : BitVec 32 := 0#32
  let c1_i32_1644 : BitVec 32 := 1#32
  let arg25 : BitVec 32 := Scf.iv c0_i32_1642 c1_i32_1644 k0_t17
  let c8_i32_2321 : BitVec 32 := 8#32
  let v2858 : BitVec 32 := Scalar.muli arg25 c8_i32_2321
  let c2_i32_2322 : BitVec 32 := 2#32
  let v2859 : BitVec 32 := Scalar.addi v2858 c2_i32_2322
  let c768_i32_2327 : BitVec 32 := 768#32
  let v2879 : BitVec 32 := Scalar.addi v2859 c768_i32_2327
  let v2880 : Index := Scalar.indexCast v2879
  ![v2880.toNat]
def k0_off412 (v2883 : BitVec 32) : Fin 2 → Nat :=
  let v2884 : Index := Scalar.indexCast v2883
  let c0_2328 : Index := 0#32
  ![v2884.toNat, 0]

def k0_chk137 (v2883 : BitVec 32) : Prop :=
  (∀ a, S8x128.size a = 0 ∨ (k0_off412 v2883) a + (![1121, 1] : Fin 2 → Nat) a * (S8x128.size a - 1) < S26904x128.size a)
theorem k0_off412_inb : ∀ (v2883 : BitVec 32) (k0_hw137 : k0_chk137 v2883), ∀ a, S8x128.size a = 0 ∨ (k0_off412 v2883) a + (![1121, 1] : Fin 2 → Nat) a * (S8x128.size a - 1) < S26904x128.size a := fun v2883 k0_hw137 => k0_hw137

def k0_off413 (k0_t17 : Fin k0_t17_loop.trips) : Fin 1 → Nat :=
  let c0_i32_1642 : BitVec 32 := 0#32
  let c1_i32_1644 : BitVec 32 := 1#32
  let arg25 : BitVec 32 := Scf.iv c0_i32_1642 c1_i32_1644 k0_t17
  let c8_i32_2321 : BitVec 32 := 8#32
  let v2858 : BitVec 32 := Scalar.muli arg25 c8_i32_2321
  let c2_i32_2322 : BitVec 32 := 2#32
  let v2859 : BitVec 32 := Scalar.addi v2858 c2_i32_2322
  let c896_i32_2329 : BitVec 32 := 896#32
  let v2889 : BitVec 32 := Scalar.addi v2859 c896_i32_2329
  let v2890 : Index := Scalar.indexCast v2889
  ![v2890.toNat]
def k0_off414 (v2893 : BitVec 32) : Fin 2 → Nat :=
  let v2894 : Index := Scalar.indexCast v2893
  let c0_2330 : Index := 0#32
  ![v2894.toNat, 0]

def k0_chk138 (v2893 : BitVec 32) : Prop :=
  (∀ a, S8x128.size a = 0 ∨ (k0_off414 v2893) a + (![1121, 1] : Fin 2 → Nat) a * (S8x128.size a - 1) < S26904x128.size a)
theorem k0_off414_inb : ∀ (v2893 : BitVec 32) (k0_hw138 : k0_chk138 v2893), ∀ a, S8x128.size a = 0 ∨ (k0_off414 v2893) a + (![1121, 1] : Fin 2 → Nat) a * (S8x128.size a - 1) < S26904x128.size a := fun v2893 k0_hw138 => k0_hw138

def k0_off415 (k0_t17 : Fin k0_t17_loop.trips) : Fin 2 → Nat :=
  let c128_i32_2331 : BitVec 32 := 128#32
  let c0_i32_1642 : BitVec 32 := 0#32
  let c1_i32_1644 : BitVec 32 := 1#32
  let arg25 : BitVec 32 := Scf.iv c0_i32_1642 c1_i32_1644 k0_t17
  let c8_i32_2321 : BitVec 32 := 8#32
  let v2858 : BitVec 32 := Scalar.muli arg25 c8_i32_2321
  let c2_i32_2322 : BitVec 32 := 2#32
  let v2859 : BitVec 32 := Scalar.addi v2858 c2_i32_2322
  let v2899 : BitVec 32 := Scalar.addi c128_i32_2331 v2859
  let v2900 : Index := Scalar.indexCast v2899
  let c0_2332 : Index := 0#32
  ![v2900.toNat, 0]
def k0_off416 (k0_t17 : Fin k0_t17_loop.trips) : Fin 1 → Nat :=
  let c0_i32_1642 : BitVec 32 := 0#32
  let c1_i32_1644 : BitVec 32 := 1#32
  let arg25 : BitVec 32 := Scf.iv c0_i32_1642 c1_i32_1644 k0_t17
  let c8_i32_2333 : BitVec 32 := 8#32
  let v2904 : BitVec 32 := Scalar.muli arg25 c8_i32_2333
  let c3_i32_2334 : BitVec 32 := 3#32
  let v2905 : BitVec 32 := Scalar.addi v2904 c3_i32_2334
  let c512_i32_2335 : BitVec 32 := 512#32
  let v2906 : BitVec 32 := Scalar.addi v2905 c512_i32_2335
  let v2907 : Index := Scalar.indexCast v2906
  ![v2907.toNat]
def k0_off417 (v2910 : BitVec 32) : Fin 2 → Nat :=
  let v2911 : Index := Scalar.indexCast v2910
  let c0_2336 : Index := 0#32
  ![v2911.toNat, 0]

def k0_chk139 (v2910 : BitVec 32) : Prop :=
  (∀ a, S8x128.size a = 0 ∨ (k0_off417 v2910) a + (![1121, 1] : Fin 2 → Nat) a * (S8x128.size a - 1) < S26904x128.size a)
theorem k0_off417_inb : ∀ (v2910 : BitVec 32) (k0_hw139 : k0_chk139 v2910), ∀ a, S8x128.size a = 0 ∨ (k0_off417 v2910) a + (![1121, 1] : Fin 2 → Nat) a * (S8x128.size a - 1) < S26904x128.size a := fun v2910 k0_hw139 => k0_hw139

def k0_off418 (k0_t17 : Fin k0_t17_loop.trips) : Fin 1 → Nat :=
  let c0_i32_1642 : BitVec 32 := 0#32
  let c1_i32_1644 : BitVec 32 := 1#32
  let arg25 : BitVec 32 := Scf.iv c0_i32_1642 c1_i32_1644 k0_t17
  let c8_i32_2333 : BitVec 32 := 8#32
  let v2904 : BitVec 32 := Scalar.muli arg25 c8_i32_2333
  let c3_i32_2334 : BitVec 32 := 3#32
  let v2905 : BitVec 32 := Scalar.addi v2904 c3_i32_2334
  let c640_i32_2337 : BitVec 32 := 640#32
  let v2915 : BitVec 32 := Scalar.addi v2905 c640_i32_2337
  let v2916 : Index := Scalar.indexCast v2915
  ![v2916.toNat]
def k0_off419 (v2919 : BitVec 32) : Fin 2 → Nat :=
  let v2920 : Index := Scalar.indexCast v2919
  let c0_2338 : Index := 0#32
  ![v2920.toNat, 0]

def k0_chk140 (v2919 : BitVec 32) : Prop :=
  (∀ a, S8x128.size a = 0 ∨ (k0_off419 v2919) a + (![1121, 1] : Fin 2 → Nat) a * (S8x128.size a - 1) < S26904x128.size a)
theorem k0_off419_inb : ∀ (v2919 : BitVec 32) (k0_hw140 : k0_chk140 v2919), ∀ a, S8x128.size a = 0 ∨ (k0_off419 v2919) a + (![1121, 1] : Fin 2 → Nat) a * (S8x128.size a - 1) < S26904x128.size a := fun v2919 k0_hw140 => k0_hw140

def k0_off420 (k0_t17 : Fin k0_t17_loop.trips) : Fin 1 → Nat :=
  let c0_i32_1642 : BitVec 32 := 0#32
  let c1_i32_1644 : BitVec 32 := 1#32
  let arg25 : BitVec 32 := Scf.iv c0_i32_1642 c1_i32_1644 k0_t17
  let c8_i32_2333 : BitVec 32 := 8#32
  let v2904 : BitVec 32 := Scalar.muli arg25 c8_i32_2333
  let c3_i32_2334 : BitVec 32 := 3#32
  let v2905 : BitVec 32 := Scalar.addi v2904 c3_i32_2334
  let c768_i32_2339 : BitVec 32 := 768#32
  let v2925 : BitVec 32 := Scalar.addi v2905 c768_i32_2339
  let v2926 : Index := Scalar.indexCast v2925
  ![v2926.toNat]
def k0_off421 (v2929 : BitVec 32) : Fin 2 → Nat :=
  let v2930 : Index := Scalar.indexCast v2929
  let c0_2340 : Index := 0#32
  ![v2930.toNat, 0]

def k0_chk141 (v2929 : BitVec 32) : Prop :=
  (∀ a, S8x128.size a = 0 ∨ (k0_off421 v2929) a + (![1121, 1] : Fin 2 → Nat) a * (S8x128.size a - 1) < S26904x128.size a)
theorem k0_off421_inb : ∀ (v2929 : BitVec 32) (k0_hw141 : k0_chk141 v2929), ∀ a, S8x128.size a = 0 ∨ (k0_off421 v2929) a + (![1121, 1] : Fin 2 → Nat) a * (S8x128.size a - 1) < S26904x128.size a := fun v2929 k0_hw141 => k0_hw141

def k0_off422 (k0_t17 : Fin k0_t17_loop.trips) : Fin 1 → Nat :=
  let c0_i32_1642 : BitVec 32 := 0#32
  let c1_i32_1644 : BitVec 32 := 1#32
  let arg25 : BitVec 32 := Scf.iv c0_i32_1642 c1_i32_1644 k0_t17
  let c8_i32_2333 : BitVec 32 := 8#32
  let v2904 : BitVec 32 := Scalar.muli arg25 c8_i32_2333
  let c3_i32_2334 : BitVec 32 := 3#32
  let v2905 : BitVec 32 := Scalar.addi v2904 c3_i32_2334
  let c896_i32_2341 : BitVec 32 := 896#32
  let v2935 : BitVec 32 := Scalar.addi v2905 c896_i32_2341
  let v2936 : Index := Scalar.indexCast v2935
  ![v2936.toNat]
def k0_off423 (v2939 : BitVec 32) : Fin 2 → Nat :=
  let v2940 : Index := Scalar.indexCast v2939
  let c0_2342 : Index := 0#32
  ![v2940.toNat, 0]

def k0_chk142 (v2939 : BitVec 32) : Prop :=
  (∀ a, S8x128.size a = 0 ∨ (k0_off423 v2939) a + (![1121, 1] : Fin 2 → Nat) a * (S8x128.size a - 1) < S26904x128.size a)
theorem k0_off423_inb : ∀ (v2939 : BitVec 32) (k0_hw142 : k0_chk142 v2939), ∀ a, S8x128.size a = 0 ∨ (k0_off423 v2939) a + (![1121, 1] : Fin 2 → Nat) a * (S8x128.size a - 1) < S26904x128.size a := fun v2939 k0_hw142 => k0_hw142

def k0_off424 (k0_t17 : Fin k0_t17_loop.trips) : Fin 2 → Nat :=
  let c128_i32_2343 : BitVec 32 := 128#32
  let c0_i32_1642 : BitVec 32 := 0#32
  let c1_i32_1644 : BitVec 32 := 1#32
  let arg25 : BitVec 32 := Scf.iv c0_i32_1642 c1_i32_1644 k0_t17
  let c8_i32_2333 : BitVec 32 := 8#32
  let v2904 : BitVec 32 := Scalar.muli arg25 c8_i32_2333
  let c3_i32_2334 : BitVec 32 := 3#32
  let v2905 : BitVec 32 := Scalar.addi v2904 c3_i32_2334
  let v2945 : BitVec 32 := Scalar.addi c128_i32_2343 v2905
  let v2946 : Index := Scalar.indexCast v2945
  let c0_2344 : Index := 0#32
  ![v2946.toNat, 0]
def k0_off425 (k0_t17 : Fin k0_t17_loop.trips) : Fin 1 → Nat :=
  let c0_i32_1642 : BitVec 32 := 0#32
  let c1_i32_1644 : BitVec 32 := 1#32
  let arg25 : BitVec 32 := Scf.iv c0_i32_1642 c1_i32_1644 k0_t17
  let c8_i32_2345 : BitVec 32 := 8#32
  let v2950 : BitVec 32 := Scalar.muli arg25 c8_i32_2345
  let c4_i32_2346 : BitVec 32 := 4#32
  let v2951 : BitVec 32 := Scalar.addi v2950 c4_i32_2346
  let c512_i32_2347 : BitVec 32 := 512#32
  let v2952 : BitVec 32 := Scalar.addi v2951 c512_i32_2347
  let v2953 : Index := Scalar.indexCast v2952
  ![v2953.toNat]
def k0_off426 (v2956 : BitVec 32) : Fin 2 → Nat :=
  let v2957 : Index := Scalar.indexCast v2956
  let c0_2348 : Index := 0#32
  ![v2957.toNat, 0]

def k0_chk143 (v2956 : BitVec 32) : Prop :=
  (∀ a, S8x128.size a = 0 ∨ (k0_off426 v2956) a + (![1121, 1] : Fin 2 → Nat) a * (S8x128.size a - 1) < S26904x128.size a)
theorem k0_off426_inb : ∀ (v2956 : BitVec 32) (k0_hw143 : k0_chk143 v2956), ∀ a, S8x128.size a = 0 ∨ (k0_off426 v2956) a + (![1121, 1] : Fin 2 → Nat) a * (S8x128.size a - 1) < S26904x128.size a := fun v2956 k0_hw143 => k0_hw143

def k0_off427 (k0_t17 : Fin k0_t17_loop.trips) : Fin 1 → Nat :=
  let c0_i32_1642 : BitVec 32 := 0#32
  let c1_i32_1644 : BitVec 32 := 1#32
  let arg25 : BitVec 32 := Scf.iv c0_i32_1642 c1_i32_1644 k0_t17
  let c8_i32_2345 : BitVec 32 := 8#32
  let v2950 : BitVec 32 := Scalar.muli arg25 c8_i32_2345
  let c4_i32_2346 : BitVec 32 := 4#32
  let v2951 : BitVec 32 := Scalar.addi v2950 c4_i32_2346
  let c640_i32_2349 : BitVec 32 := 640#32
  let v2961 : BitVec 32 := Scalar.addi v2951 c640_i32_2349
  let v2962 : Index := Scalar.indexCast v2961
  ![v2962.toNat]
def k0_off428 (v2965 : BitVec 32) : Fin 2 → Nat :=
  let v2966 : Index := Scalar.indexCast v2965
  let c0_2350 : Index := 0#32
  ![v2966.toNat, 0]

def k0_chk144 (v2965 : BitVec 32) : Prop :=
  (∀ a, S8x128.size a = 0 ∨ (k0_off428 v2965) a + (![1121, 1] : Fin 2 → Nat) a * (S8x128.size a - 1) < S26904x128.size a)
theorem k0_off428_inb : ∀ (v2965 : BitVec 32) (k0_hw144 : k0_chk144 v2965), ∀ a, S8x128.size a = 0 ∨ (k0_off428 v2965) a + (![1121, 1] : Fin 2 → Nat) a * (S8x128.size a - 1) < S26904x128.size a := fun v2965 k0_hw144 => k0_hw144

def k0_off429 (k0_t17 : Fin k0_t17_loop.trips) : Fin 1 → Nat :=
  let c0_i32_1642 : BitVec 32 := 0#32
  let c1_i32_1644 : BitVec 32 := 1#32
  let arg25 : BitVec 32 := Scf.iv c0_i32_1642 c1_i32_1644 k0_t17
  let c8_i32_2345 : BitVec 32 := 8#32
  let v2950 : BitVec 32 := Scalar.muli arg25 c8_i32_2345
  let c4_i32_2346 : BitVec 32 := 4#32
  let v2951 : BitVec 32 := Scalar.addi v2950 c4_i32_2346
  let c768_i32_2351 : BitVec 32 := 768#32
  let v2971 : BitVec 32 := Scalar.addi v2951 c768_i32_2351
  let v2972 : Index := Scalar.indexCast v2971
  ![v2972.toNat]
def k0_off430 (v2975 : BitVec 32) : Fin 2 → Nat :=
  let v2976 : Index := Scalar.indexCast v2975
  let c0_2352 : Index := 0#32
  ![v2976.toNat, 0]

def k0_chk145 (v2975 : BitVec 32) : Prop :=
  (∀ a, S8x128.size a = 0 ∨ (k0_off430 v2975) a + (![1121, 1] : Fin 2 → Nat) a * (S8x128.size a - 1) < S26904x128.size a)
theorem k0_off430_inb : ∀ (v2975 : BitVec 32) (k0_hw145 : k0_chk145 v2975), ∀ a, S8x128.size a = 0 ∨ (k0_off430 v2975) a + (![1121, 1] : Fin 2 → Nat) a * (S8x128.size a - 1) < S26904x128.size a := fun v2975 k0_hw145 => k0_hw145

def k0_off431 (k0_t17 : Fin k0_t17_loop.trips) : Fin 1 → Nat :=
  let c0_i32_1642 : BitVec 32 := 0#32
  let c1_i32_1644 : BitVec 32 := 1#32
  let arg25 : BitVec 32 := Scf.iv c0_i32_1642 c1_i32_1644 k0_t17
  let c8_i32_2345 : BitVec 32 := 8#32
  let v2950 : BitVec 32 := Scalar.muli arg25 c8_i32_2345
  let c4_i32_2346 : BitVec 32 := 4#32
  let v2951 : BitVec 32 := Scalar.addi v2950 c4_i32_2346
  let c896_i32_2353 : BitVec 32 := 896#32
  let v2981 : BitVec 32 := Scalar.addi v2951 c896_i32_2353
  let v2982 : Index := Scalar.indexCast v2981
  ![v2982.toNat]
def k0_off432 (v2985 : BitVec 32) : Fin 2 → Nat :=
  let v2986 : Index := Scalar.indexCast v2985
  let c0_2354 : Index := 0#32
  ![v2986.toNat, 0]

def k0_chk146 (v2985 : BitVec 32) : Prop :=
  (∀ a, S8x128.size a = 0 ∨ (k0_off432 v2985) a + (![1121, 1] : Fin 2 → Nat) a * (S8x128.size a - 1) < S26904x128.size a)
theorem k0_off432_inb : ∀ (v2985 : BitVec 32) (k0_hw146 : k0_chk146 v2985), ∀ a, S8x128.size a = 0 ∨ (k0_off432 v2985) a + (![1121, 1] : Fin 2 → Nat) a * (S8x128.size a - 1) < S26904x128.size a := fun v2985 k0_hw146 => k0_hw146

def k0_off433 (k0_t17 : Fin k0_t17_loop.trips) : Fin 2 → Nat :=
  let c128_i32_2355 : BitVec 32 := 128#32
  let c0_i32_1642 : BitVec 32 := 0#32
  let c1_i32_1644 : BitVec 32 := 1#32
  let arg25 : BitVec 32 := Scf.iv c0_i32_1642 c1_i32_1644 k0_t17
  let c8_i32_2345 : BitVec 32 := 8#32
  let v2950 : BitVec 32 := Scalar.muli arg25 c8_i32_2345
  let c4_i32_2346 : BitVec 32 := 4#32
  let v2951 : BitVec 32 := Scalar.addi v2950 c4_i32_2346
  let v2991 : BitVec 32 := Scalar.addi c128_i32_2355 v2951
  let v2992 : Index := Scalar.indexCast v2991
  let c0_2356 : Index := 0#32
  ![v2992.toNat, 0]
def k0_off434 (k0_t17 : Fin k0_t17_loop.trips) : Fin 1 → Nat :=
  let c0_i32_1642 : BitVec 32 := 0#32
  let c1_i32_1644 : BitVec 32 := 1#32
  let arg25 : BitVec 32 := Scf.iv c0_i32_1642 c1_i32_1644 k0_t17
  let c8_i32_2357 : BitVec 32 := 8#32
  let v2996 : BitVec 32 := Scalar.muli arg25 c8_i32_2357
  let c5_i32_2358 : BitVec 32 := 5#32
  let v2997 : BitVec 32 := Scalar.addi v2996 c5_i32_2358
  let c512_i32_2359 : BitVec 32 := 512#32
  let v2998 : BitVec 32 := Scalar.addi v2997 c512_i32_2359
  let v2999 : Index := Scalar.indexCast v2998
  ![v2999.toNat]
def k0_off435 (v3002 : BitVec 32) : Fin 2 → Nat :=
  let v3003 : Index := Scalar.indexCast v3002
  let c0_2360 : Index := 0#32
  ![v3003.toNat, 0]

def k0_chk147 (v3002 : BitVec 32) : Prop :=
  (∀ a, S8x128.size a = 0 ∨ (k0_off435 v3002) a + (![1121, 1] : Fin 2 → Nat) a * (S8x128.size a - 1) < S26904x128.size a)
theorem k0_off435_inb : ∀ (v3002 : BitVec 32) (k0_hw147 : k0_chk147 v3002), ∀ a, S8x128.size a = 0 ∨ (k0_off435 v3002) a + (![1121, 1] : Fin 2 → Nat) a * (S8x128.size a - 1) < S26904x128.size a := fun v3002 k0_hw147 => k0_hw147

def k0_off436 (k0_t17 : Fin k0_t17_loop.trips) : Fin 1 → Nat :=
  let c0_i32_1642 : BitVec 32 := 0#32
  let c1_i32_1644 : BitVec 32 := 1#32
  let arg25 : BitVec 32 := Scf.iv c0_i32_1642 c1_i32_1644 k0_t17
  let c8_i32_2357 : BitVec 32 := 8#32
  let v2996 : BitVec 32 := Scalar.muli arg25 c8_i32_2357
  let c5_i32_2358 : BitVec 32 := 5#32
  let v2997 : BitVec 32 := Scalar.addi v2996 c5_i32_2358
  let c640_i32_2361 : BitVec 32 := 640#32
  let v3007 : BitVec 32 := Scalar.addi v2997 c640_i32_2361
  let v3008 : Index := Scalar.indexCast v3007
  ![v3008.toNat]
def k0_off437 (v3011 : BitVec 32) : Fin 2 → Nat :=
  let v3012 : Index := Scalar.indexCast v3011
  let c0_2362 : Index := 0#32
  ![v3012.toNat, 0]

def k0_chk148 (v3011 : BitVec 32) : Prop :=
  (∀ a, S8x128.size a = 0 ∨ (k0_off437 v3011) a + (![1121, 1] : Fin 2 → Nat) a * (S8x128.size a - 1) < S26904x128.size a)
theorem k0_off437_inb : ∀ (v3011 : BitVec 32) (k0_hw148 : k0_chk148 v3011), ∀ a, S8x128.size a = 0 ∨ (k0_off437 v3011) a + (![1121, 1] : Fin 2 → Nat) a * (S8x128.size a - 1) < S26904x128.size a := fun v3011 k0_hw148 => k0_hw148

def k0_off438 (k0_t17 : Fin k0_t17_loop.trips) : Fin 1 → Nat :=
  let c0_i32_1642 : BitVec 32 := 0#32
  let c1_i32_1644 : BitVec 32 := 1#32
  let arg25 : BitVec 32 := Scf.iv c0_i32_1642 c1_i32_1644 k0_t17
  let c8_i32_2357 : BitVec 32 := 8#32
  let v2996 : BitVec 32 := Scalar.muli arg25 c8_i32_2357
  let c5_i32_2358 : BitVec 32 := 5#32
  let v2997 : BitVec 32 := Scalar.addi v2996 c5_i32_2358
  let c768_i32_2363 : BitVec 32 := 768#32
  let v3017 : BitVec 32 := Scalar.addi v2997 c768_i32_2363
  let v3018 : Index := Scalar.indexCast v3017
  ![v3018.toNat]
def k0_off439 (v3021 : BitVec 32) : Fin 2 → Nat :=
  let v3022 : Index := Scalar.indexCast v3021
  let c0_2364 : Index := 0#32
  ![v3022.toNat, 0]

def k0_chk149 (v3021 : BitVec 32) : Prop :=
  (∀ a, S8x128.size a = 0 ∨ (k0_off439 v3021) a + (![1121, 1] : Fin 2 → Nat) a * (S8x128.size a - 1) < S26904x128.size a)
theorem k0_off439_inb : ∀ (v3021 : BitVec 32) (k0_hw149 : k0_chk149 v3021), ∀ a, S8x128.size a = 0 ∨ (k0_off439 v3021) a + (![1121, 1] : Fin 2 → Nat) a * (S8x128.size a - 1) < S26904x128.size a := fun v3021 k0_hw149 => k0_hw149

def k0_off440 (k0_t17 : Fin k0_t17_loop.trips) : Fin 1 → Nat :=
  let c0_i32_1642 : BitVec 32 := 0#32
  let c1_i32_1644 : BitVec 32 := 1#32
  let arg25 : BitVec 32 := Scf.iv c0_i32_1642 c1_i32_1644 k0_t17
  let c8_i32_2357 : BitVec 32 := 8#32
  let v2996 : BitVec 32 := Scalar.muli arg25 c8_i32_2357
  let c5_i32_2358 : BitVec 32 := 5#32
  let v2997 : BitVec 32 := Scalar.addi v2996 c5_i32_2358
  let c896_i32_2365 : BitVec 32 := 896#32
  let v3027 : BitVec 32 := Scalar.addi v2997 c896_i32_2365
  let v3028 : Index := Scalar.indexCast v3027
  ![v3028.toNat]
def k0_off441 (v3031 : BitVec 32) : Fin 2 → Nat :=
  let v3032 : Index := Scalar.indexCast v3031
  let c0_2366 : Index := 0#32
  ![v3032.toNat, 0]

def k0_chk150 (v3031 : BitVec 32) : Prop :=
  (∀ a, S8x128.size a = 0 ∨ (k0_off441 v3031) a + (![1121, 1] : Fin 2 → Nat) a * (S8x128.size a - 1) < S26904x128.size a)
theorem k0_off441_inb : ∀ (v3031 : BitVec 32) (k0_hw150 : k0_chk150 v3031), ∀ a, S8x128.size a = 0 ∨ (k0_off441 v3031) a + (![1121, 1] : Fin 2 → Nat) a * (S8x128.size a - 1) < S26904x128.size a := fun v3031 k0_hw150 => k0_hw150

def k0_off442 (k0_t17 : Fin k0_t17_loop.trips) : Fin 2 → Nat :=
  let c128_i32_2367 : BitVec 32 := 128#32
  let c0_i32_1642 : BitVec 32 := 0#32
  let c1_i32_1644 : BitVec 32 := 1#32
  let arg25 : BitVec 32 := Scf.iv c0_i32_1642 c1_i32_1644 k0_t17
  let c8_i32_2357 : BitVec 32 := 8#32
  let v2996 : BitVec 32 := Scalar.muli arg25 c8_i32_2357
  let c5_i32_2358 : BitVec 32 := 5#32
  let v2997 : BitVec 32 := Scalar.addi v2996 c5_i32_2358
  let v3037 : BitVec 32 := Scalar.addi c128_i32_2367 v2997
  let v3038 : Index := Scalar.indexCast v3037
  let c0_2368 : Index := 0#32
  ![v3038.toNat, 0]
def k0_off443 (k0_t17 : Fin k0_t17_loop.trips) : Fin 1 → Nat :=
  let c0_i32_1642 : BitVec 32 := 0#32
  let c1_i32_1644 : BitVec 32 := 1#32
  let arg25 : BitVec 32 := Scf.iv c0_i32_1642 c1_i32_1644 k0_t17
  let c8_i32_2369 : BitVec 32 := 8#32
  let v3042 : BitVec 32 := Scalar.muli arg25 c8_i32_2369
  let c6_i32 : BitVec 32 := 6#32
  let v3043 : BitVec 32 := Scalar.addi v3042 c6_i32
  let c512_i32_2370 : BitVec 32 := 512#32
  let v3044 : BitVec 32 := Scalar.addi v3043 c512_i32_2370
  let v3045 : Index := Scalar.indexCast v3044
  ![v3045.toNat]
def k0_off444 (v3048 : BitVec 32) : Fin 2 → Nat :=
  let v3049 : Index := Scalar.indexCast v3048
  let c0_2371 : Index := 0#32
  ![v3049.toNat, 0]

def k0_chk151 (v3048 : BitVec 32) : Prop :=
  (∀ a, S8x128.size a = 0 ∨ (k0_off444 v3048) a + (![1121, 1] : Fin 2 → Nat) a * (S8x128.size a - 1) < S26904x128.size a)
theorem k0_off444_inb : ∀ (v3048 : BitVec 32) (k0_hw151 : k0_chk151 v3048), ∀ a, S8x128.size a = 0 ∨ (k0_off444 v3048) a + (![1121, 1] : Fin 2 → Nat) a * (S8x128.size a - 1) < S26904x128.size a := fun v3048 k0_hw151 => k0_hw151

def k0_off445 (k0_t17 : Fin k0_t17_loop.trips) : Fin 1 → Nat :=
  let c0_i32_1642 : BitVec 32 := 0#32
  let c1_i32_1644 : BitVec 32 := 1#32
  let arg25 : BitVec 32 := Scf.iv c0_i32_1642 c1_i32_1644 k0_t17
  let c8_i32_2369 : BitVec 32 := 8#32
  let v3042 : BitVec 32 := Scalar.muli arg25 c8_i32_2369
  let c6_i32 : BitVec 32 := 6#32
  let v3043 : BitVec 32 := Scalar.addi v3042 c6_i32
  let c640_i32_2372 : BitVec 32 := 640#32
  let v3053 : BitVec 32 := Scalar.addi v3043 c640_i32_2372
  let v3054 : Index := Scalar.indexCast v3053
  ![v3054.toNat]
def k0_off446 (v3057 : BitVec 32) : Fin 2 → Nat :=
  let v3058 : Index := Scalar.indexCast v3057
  let c0_2373 : Index := 0#32
  ![v3058.toNat, 0]

def k0_chk152 (v3057 : BitVec 32) : Prop :=
  (∀ a, S8x128.size a = 0 ∨ (k0_off446 v3057) a + (![1121, 1] : Fin 2 → Nat) a * (S8x128.size a - 1) < S26904x128.size a)
theorem k0_off446_inb : ∀ (v3057 : BitVec 32) (k0_hw152 : k0_chk152 v3057), ∀ a, S8x128.size a = 0 ∨ (k0_off446 v3057) a + (![1121, 1] : Fin 2 → Nat) a * (S8x128.size a - 1) < S26904x128.size a := fun v3057 k0_hw152 => k0_hw152

def k0_off447 (k0_t17 : Fin k0_t17_loop.trips) : Fin 1 → Nat :=
  let c0_i32_1642 : BitVec 32 := 0#32
  let c1_i32_1644 : BitVec 32 := 1#32
  let arg25 : BitVec 32 := Scf.iv c0_i32_1642 c1_i32_1644 k0_t17
  let c8_i32_2369 : BitVec 32 := 8#32
  let v3042 : BitVec 32 := Scalar.muli arg25 c8_i32_2369
  let c6_i32 : BitVec 32 := 6#32
  let v3043 : BitVec 32 := Scalar.addi v3042 c6_i32
  let c768_i32_2374 : BitVec 32 := 768#32
  let v3063 : BitVec 32 := Scalar.addi v3043 c768_i32_2374
  let v3064 : Index := Scalar.indexCast v3063
  ![v3064.toNat]
def k0_off448 (v3067 : BitVec 32) : Fin 2 → Nat :=
  let v3068 : Index := Scalar.indexCast v3067
  let c0_2375 : Index := 0#32
  ![v3068.toNat, 0]

def k0_chk153 (v3067 : BitVec 32) : Prop :=
  (∀ a, S8x128.size a = 0 ∨ (k0_off448 v3067) a + (![1121, 1] : Fin 2 → Nat) a * (S8x128.size a - 1) < S26904x128.size a)
theorem k0_off448_inb : ∀ (v3067 : BitVec 32) (k0_hw153 : k0_chk153 v3067), ∀ a, S8x128.size a = 0 ∨ (k0_off448 v3067) a + (![1121, 1] : Fin 2 → Nat) a * (S8x128.size a - 1) < S26904x128.size a := fun v3067 k0_hw153 => k0_hw153

def k0_off449 (k0_t17 : Fin k0_t17_loop.trips) : Fin 1 → Nat :=
  let c0_i32_1642 : BitVec 32 := 0#32
  let c1_i32_1644 : BitVec 32 := 1#32
  let arg25 : BitVec 32 := Scf.iv c0_i32_1642 c1_i32_1644 k0_t17
  let c8_i32_2369 : BitVec 32 := 8#32
  let v3042 : BitVec 32 := Scalar.muli arg25 c8_i32_2369
  let c6_i32 : BitVec 32 := 6#32
  let v3043 : BitVec 32 := Scalar.addi v3042 c6_i32
  let c896_i32_2376 : BitVec 32 := 896#32
  let v3073 : BitVec 32 := Scalar.addi v3043 c896_i32_2376
  let v3074 : Index := Scalar.indexCast v3073
  ![v3074.toNat]
def k0_off450 (v3077 : BitVec 32) : Fin 2 → Nat :=
  let v3078 : Index := Scalar.indexCast v3077
  let c0_2377 : Index := 0#32
  ![v3078.toNat, 0]

def k0_chk154 (v3077 : BitVec 32) : Prop :=
  (∀ a, S8x128.size a = 0 ∨ (k0_off450 v3077) a + (![1121, 1] : Fin 2 → Nat) a * (S8x128.size a - 1) < S26904x128.size a)
theorem k0_off450_inb : ∀ (v3077 : BitVec 32) (k0_hw154 : k0_chk154 v3077), ∀ a, S8x128.size a = 0 ∨ (k0_off450 v3077) a + (![1121, 1] : Fin 2 → Nat) a * (S8x128.size a - 1) < S26904x128.size a := fun v3077 k0_hw154 => k0_hw154

def k0_off451 (k0_t17 : Fin k0_t17_loop.trips) : Fin 2 → Nat :=
  let c128_i32_2378 : BitVec 32 := 128#32
  let c0_i32_1642 : BitVec 32 := 0#32
  let c1_i32_1644 : BitVec 32 := 1#32
  let arg25 : BitVec 32 := Scf.iv c0_i32_1642 c1_i32_1644 k0_t17
  let c8_i32_2369 : BitVec 32 := 8#32
  let v3042 : BitVec 32 := Scalar.muli arg25 c8_i32_2369
  let c6_i32 : BitVec 32 := 6#32
  let v3043 : BitVec 32 := Scalar.addi v3042 c6_i32
  let v3083 : BitVec 32 := Scalar.addi c128_i32_2378 v3043
  let v3084 : Index := Scalar.indexCast v3083
  let c0_2379 : Index := 0#32
  ![v3084.toNat, 0]
def k0_off452 (k0_t17 : Fin k0_t17_loop.trips) : Fin 1 → Nat :=
  let c0_i32_1642 : BitVec 32 := 0#32
  let c1_i32_1644 : BitVec 32 := 1#32
  let arg25 : BitVec 32 := Scf.iv c0_i32_1642 c1_i32_1644 k0_t17
  let c8_i32_2380 : BitVec 32 := 8#32
  let v3088 : BitVec 32 := Scalar.muli arg25 c8_i32_2380
  let c7_i32 : BitVec 32 := 7#32
  let v3089 : BitVec 32 := Scalar.addi v3088 c7_i32
  let c512_i32_2381 : BitVec 32 := 512#32
  let v3090 : BitVec 32 := Scalar.addi v3089 c512_i32_2381
  let v3091 : Index := Scalar.indexCast v3090
  ![v3091.toNat]
def k0_off453 (v3094 : BitVec 32) : Fin 2 → Nat :=
  let v3095 : Index := Scalar.indexCast v3094
  let c0_2382 : Index := 0#32
  ![v3095.toNat, 0]

def k0_chk155 (v3094 : BitVec 32) : Prop :=
  (∀ a, S8x128.size a = 0 ∨ (k0_off453 v3094) a + (![1121, 1] : Fin 2 → Nat) a * (S8x128.size a - 1) < S26904x128.size a)
theorem k0_off453_inb : ∀ (v3094 : BitVec 32) (k0_hw155 : k0_chk155 v3094), ∀ a, S8x128.size a = 0 ∨ (k0_off453 v3094) a + (![1121, 1] : Fin 2 → Nat) a * (S8x128.size a - 1) < S26904x128.size a := fun v3094 k0_hw155 => k0_hw155

def k0_off454 (k0_t17 : Fin k0_t17_loop.trips) : Fin 1 → Nat :=
  let c0_i32_1642 : BitVec 32 := 0#32
  let c1_i32_1644 : BitVec 32 := 1#32
  let arg25 : BitVec 32 := Scf.iv c0_i32_1642 c1_i32_1644 k0_t17
  let c8_i32_2380 : BitVec 32 := 8#32
  let v3088 : BitVec 32 := Scalar.muli arg25 c8_i32_2380
  let c7_i32 : BitVec 32 := 7#32
  let v3089 : BitVec 32 := Scalar.addi v3088 c7_i32
  let c640_i32_2383 : BitVec 32 := 640#32
  let v3099 : BitVec 32 := Scalar.addi v3089 c640_i32_2383
  let v3100 : Index := Scalar.indexCast v3099
  ![v3100.toNat]
def k0_off455 (v3103 : BitVec 32) : Fin 2 → Nat :=
  let v3104 : Index := Scalar.indexCast v3103
  let c0_2384 : Index := 0#32
  ![v3104.toNat, 0]

def k0_chk156 (v3103 : BitVec 32) : Prop :=
  (∀ a, S8x128.size a = 0 ∨ (k0_off455 v3103) a + (![1121, 1] : Fin 2 → Nat) a * (S8x128.size a - 1) < S26904x128.size a)
theorem k0_off455_inb : ∀ (v3103 : BitVec 32) (k0_hw156 : k0_chk156 v3103), ∀ a, S8x128.size a = 0 ∨ (k0_off455 v3103) a + (![1121, 1] : Fin 2 → Nat) a * (S8x128.size a - 1) < S26904x128.size a := fun v3103 k0_hw156 => k0_hw156

def k0_off456 (k0_t17 : Fin k0_t17_loop.trips) : Fin 1 → Nat :=
  let c0_i32_1642 : BitVec 32 := 0#32
  let c1_i32_1644 : BitVec 32 := 1#32
  let arg25 : BitVec 32 := Scf.iv c0_i32_1642 c1_i32_1644 k0_t17
  let c8_i32_2380 : BitVec 32 := 8#32
  let v3088 : BitVec 32 := Scalar.muli arg25 c8_i32_2380
  let c7_i32 : BitVec 32 := 7#32
  let v3089 : BitVec 32 := Scalar.addi v3088 c7_i32
  let c768_i32_2385 : BitVec 32 := 768#32
  let v3109 : BitVec 32 := Scalar.addi v3089 c768_i32_2385
  let v3110 : Index := Scalar.indexCast v3109
  ![v3110.toNat]
def k0_off457 (v3113 : BitVec 32) : Fin 2 → Nat :=
  let v3114 : Index := Scalar.indexCast v3113
  let c0_2386 : Index := 0#32
  ![v3114.toNat, 0]

def k0_chk157 (v3113 : BitVec 32) : Prop :=
  (∀ a, S8x128.size a = 0 ∨ (k0_off457 v3113) a + (![1121, 1] : Fin 2 → Nat) a * (S8x128.size a - 1) < S26904x128.size a)
theorem k0_off457_inb : ∀ (v3113 : BitVec 32) (k0_hw157 : k0_chk157 v3113), ∀ a, S8x128.size a = 0 ∨ (k0_off457 v3113) a + (![1121, 1] : Fin 2 → Nat) a * (S8x128.size a - 1) < S26904x128.size a := fun v3113 k0_hw157 => k0_hw157

def k0_off458 (k0_t17 : Fin k0_t17_loop.trips) : Fin 1 → Nat :=
  let c0_i32_1642 : BitVec 32 := 0#32
  let c1_i32_1644 : BitVec 32 := 1#32
  let arg25 : BitVec 32 := Scf.iv c0_i32_1642 c1_i32_1644 k0_t17
  let c8_i32_2380 : BitVec 32 := 8#32
  let v3088 : BitVec 32 := Scalar.muli arg25 c8_i32_2380
  let c7_i32 : BitVec 32 := 7#32
  let v3089 : BitVec 32 := Scalar.addi v3088 c7_i32
  let c896_i32_2387 : BitVec 32 := 896#32
  let v3119 : BitVec 32 := Scalar.addi v3089 c896_i32_2387
  let v3120 : Index := Scalar.indexCast v3119
  ![v3120.toNat]
def k0_off459 (v3123 : BitVec 32) : Fin 2 → Nat :=
  let v3124 : Index := Scalar.indexCast v3123
  let c0_2388 : Index := 0#32
  ![v3124.toNat, 0]

def k0_chk158 (v3123 : BitVec 32) : Prop :=
  (∀ a, S8x128.size a = 0 ∨ (k0_off459 v3123) a + (![1121, 1] : Fin 2 → Nat) a * (S8x128.size a - 1) < S26904x128.size a)
theorem k0_off459_inb : ∀ (v3123 : BitVec 32) (k0_hw158 : k0_chk158 v3123), ∀ a, S8x128.size a = 0 ∨ (k0_off459 v3123) a + (![1121, 1] : Fin 2 → Nat) a * (S8x128.size a - 1) < S26904x128.size a := fun v3123 k0_hw158 => k0_hw158

def k0_off460 (k0_t17 : Fin k0_t17_loop.trips) : Fin 2 → Nat :=
  let c128_i32_2389 : BitVec 32 := 128#32
  let c0_i32_1642 : BitVec 32 := 0#32
  let c1_i32_1644 : BitVec 32 := 1#32
  let arg25 : BitVec 32 := Scf.iv c0_i32_1642 c1_i32_1644 k0_t17
  let c8_i32_2380 : BitVec 32 := 8#32
  let v3088 : BitVec 32 := Scalar.muli arg25 c8_i32_2380
  let c7_i32 : BitVec 32 := 7#32
  let v3089 : BitVec 32 := Scalar.addi v3088 c7_i32
  let v3129 : BitVec 32 := Scalar.addi c128_i32_2389 v3089
  let v3130 : Index := Scalar.indexCast v3129
  let c0_2390 : Index := 0#32
  ![v3130.toNat, 0]
-- ==== ReferenceIdeal.lean ====
abbrev S1024x1408 : Shape := ⟨2, ![1024, 1408]⟩
abbrev S1024 : Shape := ⟨1, ![1024]⟩
abbrev S15 : Shape := ⟨1, ![15]⟩
abbrev S15x1408x4096 : Shape := ⟨3, ![15, 1408, 4096]⟩
abbrev S15x4096 : Shape := ⟨2, ![15, 4096]⟩
abbrev S256x4 : Shape := ⟨2, ![256, 4]⟩
abbrev S_ : Shape := ⟨0, ![]⟩
abbrev S1024x1 : Shape := ⟨2, ![1024, 1]⟩
abbrev S1x15 : Shape := ⟨2, ![1, 15]⟩
abbrev S1024x15 : Shape := ⟨2, ![1024, 15]⟩
abbrev S1024x15x4096 : Shape := ⟨3, ![1024, 15, 4096]⟩
abbrev S1024x15x1 : Shape := ⟨3, ![1024, 15, 1]⟩
abbrev S1x15x4096 : Shape := ⟨3, ![1, 15, 4096]⟩
abbrev S1024x4096 : Shape := ⟨2, ![1024, 4096]⟩
abbrev S256x4x1 : Shape := ⟨3, ![256, 4, 1]⟩
abbrev S256x4x4096 : Shape := ⟨3, ![256, 4, 4096]⟩
abbrev S256x4096 : Shape := ⟨2, ![256, 4096]⟩

abbrev nBuf : Space → Nat
  | .hbm => 62
  | .vmem => 4
  | .smem => 0
  | _ => 0

abbrev bufTy : (tb : Table) → Fin (tcTables nBuf tb) → BufTy
  | .hbm, ⟨0, _⟩ => ⟨S1024x1408, .fp8e4m3⟩
  | .hbm, ⟨1, _⟩ => ⟨S1024, .f32⟩
  | .hbm, ⟨2, _⟩ => ⟨S15, .i32⟩
  | .hbm, ⟨3, _⟩ => ⟨S15x1408x4096, .fp8e4m3⟩
  | .hbm, ⟨4, _⟩ => ⟨S15x4096, .f32⟩
  | .hbm, ⟨5, _⟩ => ⟨S256x4, .i32⟩
  | .hbm, ⟨6, _⟩ => ⟨S256x4, .f32⟩
  | .hbm, ⟨7, _⟩ => ⟨S1024x1408, .f32⟩
  | .hbm, ⟨8, _⟩ => ⟨S15x1408x4096, .f32⟩
  | .hbm, ⟨9, _⟩ => ⟨S_, .i32⟩
  | .hbm, ⟨10, _⟩ => ⟨S_, .i32⟩
  | .hbm, ⟨11, _⟩ => ⟨S15, .i32⟩
  | .hbm, ⟨12, _⟩ => ⟨S15, .i32⟩
  | .hbm, ⟨13, _⟩ => ⟨S1024, .i32⟩
  | .hbm, ⟨14, _⟩ => ⟨S1024x1, .i32⟩
  | .hbm, ⟨15, _⟩ => ⟨S1x15, .i32⟩
  | .hbm, ⟨16, _⟩ => ⟨S1024x15, .i32⟩
  | .hbm, ⟨17, _⟩ => ⟨S1024x15, .i32⟩
  | .hbm, ⟨18, _⟩ => ⟨S1024x15, .i1⟩
  | .hbm, ⟨19, _⟩ => ⟨S1024x1, .i32⟩
  | .hbm, ⟨20, _⟩ => ⟨S1x15, .i32⟩
  | .hbm, ⟨21, _⟩ => ⟨S1024x15, .i32⟩
  | .hbm, ⟨22, _⟩ => ⟨S1024x15, .i32⟩
  | .hbm, ⟨23, _⟩ => ⟨S1024x15, .i1⟩
  | .hbm, ⟨24, _⟩ => ⟨S1024x15, .i1⟩
  | .hbm, ⟨25, _⟩ => ⟨S1024x15x4096, .f32⟩
  | .hbm, ⟨26, _⟩ => ⟨S1024x15x1, .i1⟩
  | .hbm, ⟨27, _⟩ => ⟨S1x15x4096, .f32⟩
  | .hbm, ⟨28, _⟩ => ⟨S1024x15x4096, .f32⟩
  | .hbm, ⟨29, _⟩ => ⟨S1024x15x4096, .f32⟩
  | .hbm, ⟨30, _⟩ => ⟨S_, .f32⟩
  | .hbm, ⟨31, _⟩ => ⟨S_, .f32⟩
  | .hbm, ⟨32, _⟩ => ⟨S1024x15x4096, .i1⟩
  | .hbm, ⟨33, _⟩ => ⟨S1024x15x4096, .f32⟩
  | .hbm, ⟨34, _⟩ => ⟨S1024x15x4096, .f32⟩
  | .hbm, ⟨35, _⟩ => ⟨S_, .f32⟩
  | .hbm, ⟨36, _⟩ => ⟨S1024x4096, .f32⟩
  | .hbm, ⟨37, _⟩ => ⟨S_, .i32⟩
  | .hbm, ⟨38, _⟩ => ⟨S256x4, .i32⟩
  | .hbm, ⟨39, _⟩ => ⟨S256x4, .i1⟩
  | .hbm, ⟨40, _⟩ => ⟨S_, .i32⟩
  | .hbm, ⟨41, _⟩ => ⟨S256x4, .i32⟩
  | .hbm, ⟨42, _⟩ => ⟨S256x4, .i32⟩
  | .hbm, ⟨43, _⟩ => ⟨S256x4, .i32⟩
  | .hbm, ⟨44, _⟩ => ⟨S256x4x1, .i32⟩
  | .hbm, ⟨45, _⟩ => ⟨S256x4, .f32⟩
  | .hbm, ⟨46, _⟩ => ⟨S256x4, .f32⟩
  | .hbm, ⟨47, _⟩ => ⟨S_, .i32⟩
  | .hbm, ⟨48, _⟩ => ⟨S256x4, .i32⟩
  | .hbm, ⟨49, _⟩ => ⟨S256x4, .i1⟩
  | .hbm, ⟨50, _⟩ => ⟨S_, .i32⟩
  | .hbm, ⟨51, _⟩ => ⟨S256x4, .i32⟩
  | .hbm, ⟨52, _⟩ => ⟨S256x4, .i32⟩
  | .hbm, ⟨53, _⟩ => ⟨S256x4, .i32⟩
  | .hbm, ⟨54, _⟩ => ⟨S256x4x1, .i32⟩
  | .hbm, ⟨55, _⟩ => ⟨S256x4x4096, .f32⟩
  | .hbm, ⟨56, _⟩ => ⟨S256x4x1, .f32⟩
  | .hbm, ⟨57, _⟩ => ⟨S256x4x4096, .f32⟩
  | .hbm, ⟨58, _⟩ => ⟨S256x4x4096, .f32⟩
  | .hbm, ⟨59, _⟩ => ⟨S_, .f32⟩
  | .hbm, ⟨60, _⟩ => ⟨S256x4096, .f32⟩
  | .hbm, ⟨61, _⟩ => ⟨S256x4096, .bf16⟩
  | .local _ .vmem, ⟨0, _⟩ => ⟨S1024x1408, .fp8e4m3⟩
  | .local _ .vmem, ⟨1, _⟩ => ⟨S15x1408x4096, .fp8e4m3⟩
  | .local _ .vmem, ⟨2, _⟩ => ⟨S1024x1408, .f32⟩
  | .local _ .vmem, ⟨3, _⟩ => ⟨S15x1408x4096, .f32⟩
  | _, _ => ⟨S1024x1408, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_call0_call0_c : Ref sig .tc := ⟨.hbm, 9, rfl⟩
abbrev main_call0_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v20 : Ref sig .tc := ⟨.hbm, 34, rfl⟩
abbrev main_cst_0 : Ref sig .tc := ⟨.hbm, 35, rfl⟩
abbrev main_v21 : Ref sig .tc := ⟨.hbm, 36, rfl⟩
abbrev main_c : Ref sig .tc := ⟨.hbm, 37, rfl⟩
abbrev main_v22 : Ref sig .tc := ⟨.hbm, 38, rfl⟩
abbrev main_v23 : Ref sig .tc := ⟨.hbm, 39, rfl⟩
abbrev main_c_1 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_2 : Ref sig .tc := ⟨.hbm, 47, rfl⟩
abbrev main_v30 : Ref sig .tc := ⟨.hbm, 48, rfl⟩
abbrev main_v31 : Ref sig .tc := ⟨.hbm, 49, rfl⟩
abbrev main_c_3 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_4 : Ref sig .tc := ⟨.hbm, 59, rfl⟩
abbrev main_v40 : Ref sig .tc := ⟨.hbm, 60, rfl⟩
abbrev main_v41 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1024x1408 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S15x1408x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S15x1408x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.K.Base.lean ====
/-
  Common names of the proof: the resource algebra, the kernel's buffers as the body is called with them, and the
  elementary facts about machine words that the address chains come down to.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic
public import Idealize.ShloMosaic.Lib.LoopRemainder

@[expose] public section

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The user algebra: the launch's rounds and the counters that the transfers in flight are kept by. -/
abbrev UU (nD : Nat) (τ : Topo) : Type := UR sig nD τ × Counters
/-- No loop variants. -/
abbrev 𝒱₀ : Variants := Variants.none

/-! ## The body's memrefs -/
abbrev aGs : Memref sig .tc .hbm S15 .i32 := Memref.whole main_arg2
abbrev aCi : Memref sig .tc .hbm S1024 .i32 := Memref.whole main_v3
abbrev aTw : Memref sig .tc .hbm S1024 .f32 := Memref.whole main_v7
abbrev aHs : Memref sig .tc .hbm S8x128 .f32 := Memref.whole main_v8
abbrev aH : Memref sig .tc .hbm S1024x1408 .fp8e4m3 := Memref.whole main_arg0
abbrev aW : Memref sig .tc .hbm S15x1408x4096 .fp8e4m3 := Memref.whole main_arg3
abbrev aWs : Memref sig .tc .hbm S15x4096 .f32 := Memref.whole main_arg4
abbrev aOut : Memref sig .tc .hbm S256x4096 .bf16 := Memref.whole main_v9
abbrev mGs : Memref sig .tc .smem S15 .i32 := Memref.whole cc0_scratch0
abbrev mCi : Memref sig .tc .smem S1024 .i32 := Memref.whole cc0_scratch1
abbrev mTw : Memref sig .tc .smem S1024 .f32 := Memref.whole cc0_scratch2
abbrev mLive : Memref sig .tc .smem S3x16 .i32 := Memref.whole cc0_scratch3
abbrev mHs : Memref sig .tc .vmem S8x128 .f32 := Memref.whole cc0_scratch4
abbrev mH : Memref sig .tc .vmem S1120x1408 .fp8e4m3 := Memref.whole cc0_scratch5
abbrev mWs : Memref sig .tc .vmem S15x4096 .f32 := Memref.whole cc0_scratch6
abbrev mHsx : Memref sig .tc .vmem S1120x128 .f32 := Memref.whole cc0_scratch7
abbrev mRing : Memref sig .tc .vmem S6x1408x3072 .fp8e4m3 := Memref.whole cc0_scratch8
abbrev mAcc : Memref sig .tc .vmem S26904x128 .f32 := Memref.whole cc0_scratch9
abbrev mOtok : Memref sig .tc .vmem S6168x128 .f32 := Memref.whole cc0_scratch10
abbrev mObuf : Memref sig .tc .vmem S2x256x3072 .bf16 := Memref.whole cc0_scratch11

/-! ## The ring's slots -/

theorem inbSlot (s : Fin 6) : ∀ a, (![s.val, 0, 0] : Fin 3 → Nat) a + S1x1408x3072.size a ≤ S6x1408x3072.size a := by
  intro a; have := s.isLt; fin_cases a <;> simp [Shape.size] <;> omega

/-- Slot `s` of the ring, as one 1408 × 3072 matrix. -/
def rslot (s : Fin 6) : Memref sig .tc .vmem S1408x3072 .fp8e4m3 :=
  (mRing.slice (Rect.unit (s := S6x1408x3072) ![s.val, 0, 0] S1x1408x3072.size (inbSlot s)) (fun _ => rfl)).squeeze S1408x3072 squeezes_S1x1408x3072_S1408x3072

end Cert.Proof.K

end
-- ==== Proof.K.Words.lean ====
/-
  The machine words of the address chains, read as natural numbers: an expert's first row rounded down to 32, the
  number of 128-row blocks it takes, the row at which a block begins, and the slot of the ring that a unit takes.
-/
module

public import proofs.«01_k».proof.Proof.K.Base

@[expose] public section

set_option maxRecDepth 16384

noncomputable section

namespace Cert.Proof.K

open Cert.KernelIdeal Cert.KernelIdeal.Gen
open Idealize.ShloMosaic

/-! ## The blocks of one expert -/

theorem and_m32 : ∀ n : Fin 1025, (Scalar.andi (BitVec.ofNat 32 n.val) 4294967264#32).toNat = n.val / 32 * 32 := by
  decide +kernel

/-- The first row rounded down to a multiple of 32. -/
theorem base_toNat {lo : BitVec 32} (h : lo.toNat ≤ 1024) : (Scalar.andi lo 4294967264#32).toNat = lo.toNat / 32 * 32 := by
  have := and_m32 ⟨lo.toNat, by omega⟩
  simpa using this

/-- An expert's rows `lo ≤ r < hi`, not empty, within the 1024 rows. -/
structure Rows (lo hi : BitVec 32) : Prop where
  lt : lo.toNat < hi.toNat
  le : hi.toNat ≤ 1024

/-- The first row of block `k`. -/
def row0 (lo : BitVec 32) (k : ℕ) : ℕ := lo.toNat / 32 * 32 + 128 * k
/-- The number of blocks. -/
def nBlocks (lo hi : BitVec 32) : ℕ := (hi.toNat - lo.toNat / 32 * 32 + 127) / 128

variable {lo hi : BitVec 32}

theorem shr_toNat (h : Rows lo hi) :
    (Scalar.shrui (Scalar.subi (Scalar.addi (Scalar.subi hi (Scalar.andi lo 4294967264#32)) 128#32) 1#32) 7#32).toNat = nBlocks lo hi := by
  have hb := base_toNat (lo := lo) (by have := h.lt; have := h.le; omega)
  have h1 := h.lt; have h2 := h.le
  unfold nBlocks
  generalize Scalar.andi lo 4294967264#32 = b at hb
  have e7 : (7#32 : BitVec 32).toNat = 7 := rfl
  simp only [Scalar.shrui, IntOp.shrui, Scalar.subi, IntOp.subi, Scalar.addi, IntOp.addi]
  rw [show (7#32 : BitVec 32).toNat = 7 from rfl]
  simp [BitVec.toNat_ushiftRight, BitVec.toNat_sub, BitVec.toNat_add, Nat.shiftRight_eq_div_pow]
  omega

theorem nBlocks_le (h : Rows lo hi) : nBlocks lo hi ≤ 9 := by have := h.le; unfold nBlocks; omega
theorem row0_lt (h : Rows lo hi) {k : ℕ} (hk : k < nBlocks lo hi) : row0 lo k + 32 ≤ 1024 := by
  have := h.lt; have := h.le; unfold nBlocks at hk; unfold row0; omega
/-- The blocks reach the last row. -/
theorem row0_end (h : Rows lo hi) : hi.toNat ≤ row0 lo (nBlocks lo hi) := by
  have := h.lt; have := h.le; unfold nBlocks row0; omega
theorem row0_le_lo (k : ℕ) (hk : 0 < k) : lo.toNat < row0 lo k := by unfold row0; omega

theorem toInt_small {x : BitVec 32} {n : ℕ} (h : x.toNat = n) (hn : n < 2 ^ 31) : x.toInt = n := by
  have := BitVec.toInt_eq_toNat_cond x; split at this <;> omega

/-- The trips of a loop from 0 to a small word by ones, as the lowering spells its upper bound. -/
theorem trips_of {x : BitVec 32} {n : ℕ} (h : x.toNat = n) (hn : n < 2 ^ 31) :
    Scf.trips 0#32 (Scalar.addi 0#32 (Scalar.muli (Scalar.divsi (Scalar.subi x 0#32) 1#32) 1#32)) 1#32 = n := by
  rw [Scalar.muli_divsi_one]
  have : Scalar.addi 0#32 (Scalar.subi x 0#32) = x := by simp [Scalar.addi, IntOp.addi, Scalar.subi, IntOp.subi]
  rw [this]; unfold Scf.trips
  rw [toInt_small h hn]; simp
theorem ok_of {x : BitVec 32} {n : ℕ} (h : x.toNat = n) (hn : n < 2 ^ 31) :
    Scf.OK 0#32 (Scalar.addi 0#32 (Scalar.muli (Scalar.divsi (Scalar.subi x 0#32) 1#32) 1#32)) 1#32 := by
  rw [Scalar.muli_divsi_one]
  have : Scalar.addi 0#32 (Scalar.subi x 0#32) = x := by simp [Scalar.addi, IntOp.addi, Scalar.subi, IntOp.subi]
  rw [this]
  have hi := toInt_small h hn
  exact Affine.ok (el := 0) (eu := n) (Affine.ofNat 0 ⟨rfl, by decide⟩) (by delta Affine.IsInt; exact hi) (Affine.ofNat 1 ⟨rfl, by decide⟩) ⟨by decide, by omega⟩

theorem trips3 (h : Rows lo hi) : (k0_t3_loop lo hi).trips = nBlocks lo hi :=
  trips_of (shr_toNat h) (by have := nBlocks_le h; omega)
theorem trips11 (h : Rows lo hi) : (k0_t11_loop lo hi).trips = nBlocks lo hi := trips3 h

theorem iv_toNat {k : ℕ} (hk : k < 2 ^ 32) : (Scf.iv (0#32 : BitVec 32) 1#32 k).toNat = k := by
  simp [Scf.iv]; omega

/-- The word of block `k`'s first row, and of it in a column of the accumulator. -/
theorem row0_word (h : Rows lo hi) {k : ℕ} (hk : k < nBlocks lo hi) :
    (Scalar.addi (Scalar.andi lo 4294967264#32) (Scalar.muli (Scf.iv 0#32 1#32 k) 128#32)).toNat = row0 lo k := by
  have hb := base_toNat (lo := lo) (by have := h.lt; have := h.le; omega)
  have h1 := h.lt; have h2 := h.le; have h3 := row0_lt h hk
  unfold row0 at *
  have hi := iv_toNat (k := k) (by omega)
  generalize Scalar.andi lo 4294967264#32 = b at hb
  generalize Scf.iv (0#32 : BitVec 32) 1#32 k = i at hi
  simp only [Scalar.addi, IntOp.addi, Scalar.muli, IntOp.muli, BitVec.toNat_add, BitVec.toNat_mul, hb, hi, BitVec.toNat_ofNat]
  omega

theorem off59_eq (h : Rows lo hi) (k : Fin (k0_t3_loop lo hi).trips) : k0_off59 lo hi k = ![row0 lo k, 0] := by
  show (![(Scalar.addi (Scalar.andi lo 4294967264#32) (Scalar.muli (Scf.iv 0#32 1#32 k.val) 128#32)).toNat, 0] : Fin 2 → ℕ) = _
  rw [row0_word h (by rw [← trips3 h]; exact k.isLt)]
theorem off60_eq (h : Rows lo hi) (k : Fin (k0_t3_loop lo hi).trips) : k0_off60 lo hi k = ![row0 lo k, 0] := off59_eq h k
theorem off63_eq (h : Rows lo hi) (k : Fin (k0_t3_loop lo hi).trips) (w : BitVec 32) (hw : w.toNat ≤ 25783) :
    k0_off63 lo hi k w = ![w.toNat + row0 lo k, 0] := by
  have hk : k.val < nBlocks lo hi := by rw [← trips3 h]; exact k.isLt
  have hr := row0_word h hk; have := row0_lt h hk
  show (![(Scalar.addi w (Scalar.addi (Scalar.andi lo 4294967264#32) (Scalar.muli (Scf.iv 0#32 1#32 k.val) 128#32))).toNat, 0] : Fin 2 → ℕ) = _
  congr 1
  generalize Scalar.addi (Scalar.andi lo 4294967264#32) (Scalar.muli (Scf.iv 0#32 1#32 k.val) 128#32) = b at hr
  simp only [Scalar.addi, IntOp.addi, BitVec.toNat_add, hr]; omega
theorem off64_eq (h : Rows lo hi) (k : Fin (k0_t3_loop lo hi).trips) (w : BitVec 32) (hw : w.toNat ≤ 25783) :
    k0_off64 lo hi k w = ![w.toNat + row0 lo k + 32, 0] := by
  have hk : k.val < nBlocks lo hi := by rw [← trips3 h]; exact k.isLt
  have hr := row0_word h hk; have := row0_lt h hk
  show (![(Scalar.addi (Scalar.addi w (Scalar.addi (Scalar.andi lo 4294967264#32) (Scalar.muli (Scf.iv 0#32 1#32 k.val) 128#32))) 32#32).toNat, 0] : Fin 2 → ℕ) = _
  congr 1
  generalize Scalar.addi (Scalar.andi lo 4294967264#32) (Scalar.muli (Scf.iv 0#32 1#32 k.val) 128#32) = b at hr
  simp only [Scalar.addi, IntOp.addi, BitVec.toNat_add, hr, BitVec.toNat_ofNat]; omega
theorem off271_eq (h : Rows lo hi) (k : Fin (k0_t11_loop lo hi).trips) : k0_off271 lo hi k = ![row0 lo k, 0] := off59_eq h k
theorem off272_eq (h : Rows lo hi) (k : Fin (k0_t11_loop lo hi).trips) : k0_off272 lo hi k = ![row0 lo k, 0] := off59_eq h k
theorem off275_eq (h : Rows lo hi) (k : Fin (k0_t11_loop lo hi).trips) (w : BitVec 32) (hw : w.toNat ≤ 25783) :
    k0_off275 lo hi k w = ![w.toNat + row0 lo k, 0] := off63_eq h k w hw
theorem off276_eq (h : Rows lo hi) (k : Fin (k0_t11_loop lo hi).trips) (w : BitVec 32) (hw : w.toNat ≤ 25783) :
    k0_off276 lo hi k w = ![w.toNat + row0 lo k + 32, 0] := off64_eq h k w hw

/-! ## The units -/

/-- The word of a number of at most 15. -/
abbrev W (n : ℕ) : BitVec 32 := BitVec.ofNat 32 n

theorem W_toNat {n : ℕ} (h : n < 2 ^ 32) : (W n).toNat = n := by simp [W]; omega

theorem trips2 {n : ℕ} (hn : n ≤ 15) : (k0_t2_loop (W n)).trips = n := trips_of (W_toNat (by omega)) (by omega)
theorem trips10 {n : ℕ} (hn : n ≤ 15) : (k0_t10_loop (W n)).trips = n := trips2 hn

theorem slot0 : ∀ n : Fin 16, ∀ k : Fin 16, (Scalar.remsi (Scalar.addi (Scalar.muli 0#32 (W n)) (Scf.iv 0#32 1#32 k)) 6#32).toNat = k % 6 := by
  decide +kernel
theorem slot1 : ∀ n : Fin 16, ∀ k : Fin 16, (Scalar.remsi (Scalar.addi (Scalar.muli 1#32 (W n)) (Scf.iv 0#32 1#32 k)) 6#32).toNat = (n.val + k.val) % 6 := by
  decide +kernel

theorem trip2_lt {n : ℕ} (hn : n ≤ 15) (k : Fin (k0_t2_loop (W n)).trips) : k.val < n :=
  Nat.lt_of_lt_of_eq k.isLt (trips2 hn)
theorem trip10_lt {n : ℕ} (hn : n ≤ 15) (k : Fin (k0_t10_loop (W n)).trips) : k.val < n :=
  Nat.lt_of_lt_of_eq k.isLt (trips10 hn)

/-- The run-time check of a unit's slices, first width. -/
theorem chk16_of {n : ℕ} (hn : n ≤ 15) (t : Fin (k0_t2_loop (W n)).trips) {e : BitVec 32} (he : e.toNat < 15) (h : Rows lo hi) :
    k0_chk16 (W n) t e lo hi := by
  have ht := trip2_lt hn t
  have hs : ∀ c : ℕ, c ≤ 2048 → ∀ a, (![t.val % 6, 0, c] : Fin 3 → ℕ) a + S1x1408x1024.size a ≤ S6x1408x3072.size a := by
    intro c hc a; fin_cases a <;> simp [Shape.size] <;> omega
  have hw : ∀ c : ℕ, c ≤ 3072 → ∀ a, (![e.toNat, c] : Fin 2 → ℕ) a + S1x1024.size a ≤ S15x4096.size a := by
    intro c hc a; fin_cases a <;> simp [Shape.size] <;> omega
  have hsl := slot0 ⟨n, by omega⟩ ⟨t.val, by omega⟩
  have o61 : k0_off61 (W n) t = ![t.val % 6, 0, 0] := congrArg (fun z => (![z, 0, 0] : Fin 3 → ℕ)) hsl
  have o65 : k0_off65 (W n) t = ![t.val % 6, 0, 1024] := congrArg (fun z => (![z, 0, 1024] : Fin 3 → ℕ)) hsl
  have o67 : k0_off67 (W n) t = ![t.val % 6, 0, 2048] := congrArg (fun z => (![z, 0, 2048] : Fin 3 → ℕ)) hsl
  have hb : ∀ k : Fin (k0_t3_loop lo hi).trips, row0 lo k + 32 ≤ 1024 := fun k => row0_lt h (by rw [← trips3 h]; exact k.isLt)
  have hr : ∀ r : Fin 24, (BitVec.ofNat 32 (1121 * r.val)).toNat = 1121 * r.val := fun r => by have := r.isLt; simp; omega
  have hno : ∀ k : Fin (k0_t4_loop lo hi).trips, False := fun k => Scf.rem_no_trip 0#32 _ k
  refine ⟨ok_of (shr_toNat h) (by have := nBlocks_le h; omega), fun k => ?_, fun k a => ?_, fun k a => ?_, fun k => ?_, fun k => hw 0 (by omega),
    fun k r a => ?_, fun k r a => ?_, fun k => ?_, fun k => hw 1024 (by omega), fun k => ?_, fun k => hw 2048 (by omega), Scf.rem_ok _ _,
    fun k => (hno k).elim, fun k => (hno k).elim, fun k => (hno k).elim, fun k => (hno k).elim, fun k => (hno k).elim, fun k => (hno k).elim,
    fun k => (hno k).elim, fun k => (hno k).elim, fun k => (hno k).elim, fun k => (hno k).elim, fun k => (hno k).elim⟩
  · show 32 ∣ (Scalar.addi (Scalar.andi lo 4294967264#32) (Scalar.muli (Scf.iv 0#32 1#32 k.val) 128#32)).toNat
    rw [row0_word h (by rw [← trips3 h]; exact k.isLt)]; unfold row0; omega
  · rw [off59_eq h k]; have := hb k; fin_cases a <;> simp [Shape.size] <;> omega
  · rw [off60_eq h k]; have := hb k; fin_cases a <;> simp [Shape.size] <;> omega
  · rw [o61]; exact hs 0 (by omega)
  · have := r.isLt; rw [off63_eq h k _ (by rw [hr]; omega), hr]; have := hb k; fin_cases a <;> simp [Shape.size] <;> omega
  · have := r.isLt; rw [off64_eq h k _ (by rw [hr]; omega), hr]; have := hb k; fin_cases a <;> simp [Shape.size] <;> omega
  · rw [o65]; exact hs 1024 (by omega)
  · rw [o67]; exact hs 2048 (by omega)

/-- The run-time check of a unit's slices, second width. -/
theorem chk88_of {n : ℕ} (hn : n ≤ 15) (t : Fin (k0_t10_loop (W n)).trips) {e : BitVec 32} (he : e.toNat < 15) (h : Rows lo hi) :
    k0_chk88 (W n) t e lo hi := by
  have ht := trip10_lt hn t
  have hs : ∀ c : ℕ, c ≤ 2048 → ∀ a, (![(n + t.val) % 6, 0, c] : Fin 3 → ℕ) a + S1x1408x1024.size a ≤ S6x1408x3072.size a := by
    intro c hc a; fin_cases a <;> simp [Shape.size] <;> omega
  have hw : ∀ c : ℕ, c ≤ 3072 → ∀ a, (![e.toNat, c] : Fin 2 → ℕ) a + S1x1024.size a ≤ S15x4096.size a := by
    intro c hc a; fin_cases a <;> simp [Shape.size] <;> omega
  have hsl := slot1 ⟨n, by omega⟩ ⟨t.val, by omega⟩
  have o273 : k0_off273 (W n) t = ![(n + t.val) % 6, 0, 0] := congrArg (fun z => (![z, 0, 0] : Fin 3 → ℕ)) hsl
  have hb : ∀ k : Fin (k0_t11_loop lo hi).trips, row0 lo k + 32 ≤ 1024 := fun k => row0_lt h (by rw [← trips11 h]; exact k.isLt)
  have hr : ∀ r : Fin 8, (BitVec.ofNat 32 (1121 * r.val)).toNat = 1121 * r.val := fun r => by have := r.isLt; simp; omega
  have hno : ∀ k : Fin (k0_t12_loop lo hi).trips, False := fun k => Scf.rem_no_trip 0#32 _ k
  refine ⟨ok_of (shr_toNat h) (by have := nBlocks_le h; omega), fun k => ?_, fun k a => ?_, fun k a => ?_, fun k => ?_, fun k => hw 3072 (by omega),
    fun k r a => ?_, fun k r a => ?_, Scf.rem_ok _ _,
    fun k => (hno k).elim, fun k => (hno k).elim, fun k => (hno k).elim, fun k => (hno k).elim, fun k => (hno k).elim, fun k => (hno k).elim,
    fun k => (hno k).elim⟩
  · show 32 ∣ (Scalar.addi (Scalar.andi lo 4294967264#32) (Scalar.muli (Scf.iv 0#32 1#32 k.val) 128#32)).toNat
    rw [row0_word h (by rw [← trips11 h]; exact k.isLt)]; unfold row0; omega
  · rw [off271_eq h k]; have := hb k; fin_cases a <;> simp [Shape.size] <;> omega
  · rw [off272_eq h k]; have := hb k; fin_cases a <;> simp [Shape.size] <;> omega
  · rw [o273]; exact hs 0 (by omega)
  · have := r.isLt; rw [off275_eq h k _ (by rw [hr]; omega), hr]; have := hb k; fin_cases a <;> simp [Shape.size] <;> omega
  · have := r.isLt; rw [off276_eq h k _ (by rw [hr]; omega), hr]; have := hb k; fin_cases a <;> simp [Shape.size] <;> omega

end Cert.Proof.K

end
-- ==== Proof.K.Ring.lean ====
/-
  The ring of six slots that the experts' weights are copied into: what a slot holds while it is free and while a copy
  into it is in flight, for both widths of a unit.
-/
module

public import proofs.«01_k».proof.Proof.K.Words
public import Idealize.ShloMosaic.Lib.Ring

@[expose] public section

set_option maxRecDepth 16384
set_option maxHeartbeats 4000000

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]
local notation "𝕄" => MT nD τ sig Unit (Elt F) ℕ (UU nD τ) ℕ

/-! ## Names -/

theorem inbR1 (s : Fin 6) : ∀ a, (![s.val, 0, 0] : Fin 3 → Nat) a + S1x1408x1024.size a ≤ S6x1408x3072.size a := by
  intro a; have := s.isLt; fin_cases a <;> simp [Shape.size] <;> omega
theorem inbC (s : Fin 6) : ∀ a, (![s.val] : Fin 1 → Nat) a + S1.size a ≤ S6.size a := by
  intro a; have := s.isLt; fin_cases a; show s.val + 1 ≤ 6; omega
theorem inbW0 (e : Fin 15) : ∀ a, (![e.val, 0, 0] : Fin 3 → Nat) a + S1x1408x3072.size a ≤ S15x1408x4096.size a := by
  intro a; have := e.isLt; fin_cases a <;> simp [Shape.size] <;> omega
theorem inbW1 (e : Fin 15) : ∀ a, (![e.val, 0, 3072] : Fin 3 → Nat) a + S1x1408x1024.size a ≤ S15x1408x4096.size a := by
  intro a; have := e.isLt; fin_cases a <;> simp [Shape.size] <;> omega

/-- The first 1024 columns of slot `s`. -/
def rslot1 (s : Fin 6) : Memref sig .tc .vmem S1408x1024 .fp8e4m3 :=
  (mRing.slice (Rect.unit (s := S6x1408x3072) ![s.val, 0, 0] S1x1408x1024.size (inbR1 s)) (fun _ => rfl)).squeeze S1408x1024 squeezes_S1x1408x1024_S1408x1024
/-- Expert `e`'s weights, columns 0 … 3071. -/
def wsl0 (e : Fin 15) : Memref sig .tc .hbm S1408x3072 .fp8e4m3 :=
  (aW.slice (Rect.unit (s := S15x1408x4096) ![e.val, 0, 0] S1x1408x3072.size (inbW0 e)) (fun _ => rfl)).squeeze S1408x3072 squeezes_S1x1408x3072_S1408x3072
/-- Expert `e`'s weights, columns 3072 … 4095. -/
def wsl1 (e : Fin 15) : Memref sig .tc .hbm S1408x1024 .fp8e4m3 :=
  (aW.slice (Rect.unit (s := S15x1408x4096) ![e.val, 0, 3072] S1x1408x1024.size (inbW1 e)) (fun _ => rfl)).squeeze S1408x1024 squeezes_S1x1408x1024_S1408x1024
/-- Slot `s`'s semaphore. -/
def rcell (s : Fin 6) : DmaSems sig S_ :=
  (cc0_scratch15.slice (Rect.unit (s := S6) ![s.val] S1.size (inbC s))).squeeze S_ squeezes_S1_S_

theorem rslot_of {off : Fin 3 → ℕ} (s : Fin 6) (e : off = ![s.val, 0, 0]) (i : ∀ a, off a + S1x1408x3072.size a ≤ S6x1408x3072.size a) (h) :
    (mRing.slice (Rect.unit (s := S6x1408x3072) off S1x1408x3072.size i) h).squeeze S1408x3072 squeezes_S1x1408x3072_S1408x3072 = rslot s := by subst e; rfl
theorem rslot1_of {off : Fin 3 → ℕ} (s : Fin 6) (e : off = ![s.val, 0, 0]) (i : ∀ a, off a + S1x1408x1024.size a ≤ S6x1408x3072.size a) (h) :
    (mRing.slice (Rect.unit (s := S6x1408x3072) off S1x1408x1024.size i) h).squeeze S1408x1024 squeezes_S1x1408x1024_S1408x1024 = rslot1 s := by subst e; rfl
theorem rcell_of {off : Fin 1 → ℕ} (s : Fin 6) (e : off = ![s.val]) (i : ∀ a, off a + S1.size a ≤ S6.size a) :
    (cc0_scratch15.slice (Rect.unit (s := S6) off S1.size i)).squeeze S_ squeezes_S1_S_ = rcell s := by subst e; rfl
theorem wsl0_of {off : Fin 3 → ℕ} (x : Fin 15) (e : off = ![x.val, 0, 0]) (i : ∀ a, off a + S1x1408x3072.size a ≤ S15x1408x4096.size a) (h) :
    (aW.slice (Rect.unit (s := S15x1408x4096) off S1x1408x3072.size i) h).squeeze S1408x3072 squeezes_S1x1408x3072_S1408x3072 = wsl0 x := by subst e; rfl
theorem wsl1_of {off : Fin 3 → ℕ} (x : Fin 15) (e : off = ![x.val, 0, 3072]) (i : ∀ a, off a + S1x1408x1024.size a ≤ S15x1408x4096.size a) (h) :
    (aW.slice (Rect.unit (s := S15x1408x4096) off S1x1408x1024.size i) h).squeeze S1408x1024 squeezes_S1x1408x1024_S1408x1024 = wsl1 x := by subst e; rfl

/-! ## A slot's states -/

/-- The weights' read token for slot `k`'s copies. -/
abbrev tokW (c : Dev nD) (k : Fin 6) (S : Finset (Idx (aW.view.loc (c : Thread nD τ)))) (fw : Buf (Elt F) (aW.view.loc (c : Thread nD τ))) : sProp 𝕄 :=
  aW.view.loc (c : Thread nD τ) ↦[S]{Transfers.shareTok fullShare 6 k} fw

abbrev rloc (s : Fin 6) : SemLoc sig := SemLoc.dma (rcell s).sem

/-- Free: the semaphore at zero, the slot at anything, the token whole. -/
abbrev rFree (c : Dev nD) (fw : Buf (Elt F) (aW.view.loc (c : Thread nD τ))) (s : Fin 6) : sProp 𝕄 :=
  iprop(semVal ((c : Thread nD τ), rloc s) 0 ∗ (∃ f, (rslot s).view.loc (c : Thread nD τ) ↦[(rslot s).view.set]{fullShare} f) ∗ tokW c s Finset.univ fw)

/-- A copy of expert `e`'s first 3072 columns in flight. -/
abbrev rFly0 (c : Dev nD) (fw : Buf (Elt F) (aW.view.loc (c : Thread nD τ))) (s : Fin 6) (e : Fin 15) : sProp 𝕄 :=
  iprop((∃ f, Transfers.Flight (countersEmb (U := UU nD τ)) (c : Thread nD τ) (rloc s) () 135168
      iprop(((rslot s).view.loc (c : Thread nD τ) ↦[(rslot s).view.set]{fullShare}
          (rslot s).view.writes (Elt F) f [⟨Rect.whole S1408x3072, ReadAs.same.apply ((wsl0 e).view.read (Elt F) fw)⟩])
        ∗ tokW c s (wsl0 e).view.set fw))
    ∗ tokW c s (Finset.univ \ (wsl0 e).view.set) fw)

/-- A copy of expert `e`'s last 1024 columns in flight. -/
abbrev rFly1 (c : Dev nD) (fw : Buf (Elt F) (aW.view.loc (c : Thread nD τ))) (s : Fin 6) (e : Fin 15) : sProp 𝕄 :=
  iprop((∃ f, Transfers.Flight (countersEmb (U := UU nD τ)) (c : Thread nD τ) (rloc s) () 45056
      iprop(((rslot1 s).view.loc (c : Thread nD τ) ↦[(rslot1 s).view.set]{fullShare}
          (rslot1 s).view.writes (Elt F) f [⟨Rect.whole S1408x1024, ReadAs.same.apply ((wsl1 e).view.read (Elt F) fw)⟩])
        ∗ tokW c s (wsl1 e).view.set fw))
    ∗ (∃ f, (rslot s).view.loc (c : Thread nD τ) ↦[(rslot s).view.set \ (rslot1 s).view.set]{fullShare} f)
    ∗ tokW c s (Finset.univ \ (wsl1 e).view.set) fw)

/-! ## The slots' elements -/

theorem rslot_set (s : Fin 6) : (rslot s).view.set = (Rect.unit (s := S6x1408x3072) ![s.val, 0, 0] S1x1408x3072.size (inbSlot s)).set := by
  unfold rslot; exact (View.set_reshape _ _).trans (View.set_slice_whole _ _)
theorem rslot1_set (s : Fin 6) : (rslot1 s).view.set = (Rect.unit (s := S6x1408x3072) ![s.val, 0, 0] S1x1408x1024.size (inbR1 s)).set := by
  unfold rslot1; exact (View.set_reshape _ _).trans (View.set_slice_whole _ _)
theorem rslot1_sub (s : Fin 6) : (rslot1 s).view.set ⊆ (rslot s).view.set := by
  rw [rslot_set, rslot1_set]; intro i hi
  refine Rect.mem_set_unit.mpr fun a => ?_
  have h := Rect.mem_set_unit.mp hi a
  fin_cases a <;> simp [Shape.size] at h ⊢ <;> omega
/-- A read of 1024 columns of slot `s` reads the slot's elements. -/
theorem acc_sub {off : Fin 3 → ℕ} (s : Fin 6) (col : ℕ) (hc : col ≤ 2048) (e : off = ![s.val, 0, col]) (hh : ∀ a, off a + S1x1408x1024.size a ≤ S6x1408x3072.size a) :
    (mRing.access (Rect.unit (s := S6x1408x3072) off S1x1408x1024.size hh)).set ⊆ (rslot s).view.set := by
  subst e
  rw [rslot_set]; intro i hi
  have hi' := (View.set_slice_whole (sig := sig) cc0_scratch8 (Rect.unit (s := S6x1408x3072) ![s.val, 0, col] S1x1408x1024.size hh)) ▸ hi
  refine Rect.mem_set_unit.mpr fun a => ?_
  have h := Rect.mem_set_unit.mp hi' a
  fin_cases a <;> simp [Shape.size] at h ⊢ <;> omega
theorem acc_sub1 {off : Fin 3 → ℕ} (s : Fin 6) (e : off = ![s.val, 0, 0]) (hh : ∀ a, off a + S1x1408x1024.size a ≤ S6x1408x3072.size a) :
    (mRing.access (Rect.unit (s := S6x1408x3072) off S1x1408x1024.size hh)).set ⊆ (rslot1 s).view.set := by
  subst e
  rw [rslot1_set]; intro i hi
  exact (View.set_slice_whole (sig := sig) cc0_scratch8 (Rect.unit (s := S6x1408x3072) ![s.val, 0, 0] S1x1408x1024.size hh)) ▸ hi

/-! ## Starting a copy -/

theorem enq0 [∀ e, Nonempty (Elt F e)] (c : Dev nD) (fw : Buf (Elt F) (aW.view.loc (c : Thread nD τ))) (s : Fin 6) (e : Fin 15) (p1 p2 p3) (Q : PUnit → sProp 𝕄) :
    iprop(rFree c fw s ∗ (rFly0 c fw s e -∗ Q ⟨⟩)) ⊢ wp frame (wpE defs₀ 𝒱₀ (c : Thread nD τ) none) Set.univ
      (Prog.lift (.enqueueDma (wsl0 e) (.here (rslot s)) (.dma (rcell s).sem) p1 p2 p3) : Prog (TpuEff nD τ sig (Elt F) Λ₀ .tc) PUnit) Q := by
  iintro ⟨⟨Hc, ⟨%f, Hs⟩, Ht⟩, Hk⟩
  sl_exec
  sl_step
  iapply Hk
  isplitl [Hc]
  · iexists f; iexact Hc
  · iexact Ht

theorem enq1 [∀ e, Nonempty (Elt F e)] (c : Dev nD) (fw : Buf (Elt F) (aW.view.loc (c : Thread nD τ))) (s : Fin 6) (e : Fin 15) (p1 p2 p3) (Q : PUnit → sProp 𝕄) :
    iprop(rFree c fw s ∗ (rFly1 c fw s e -∗ Q ⟨⟩)) ⊢ wp frame (wpE defs₀ 𝒱₀ (c : Thread nD τ) none) Set.univ
      (Prog.lift (.enqueueDma (wsl1 e) (.here (rslot1 s)) (.dma (rcell s).sem) p1 p2 p3) : Prog (TpuEff nD τ sig (Elt F) Λ₀ .tc) PUnit) Q := by
  iintro ⟨⟨Hc, ⟨%f, Hs⟩, Ht⟩, Hk⟩
  ihave Hs' := (pointsTo_split_subset (rslot1_sub s)).1 $$ Hs
  icases Hs' with ⟨Hs1, Hs2⟩
  ihave Hs3 := (show ((rslot s).view.loc (c : Thread nD τ) ↦[(rslot1 s).view.set]{fullShare} f : sProp 𝕄) ⊢ ((rslot1 s).view.loc (c : Thread nD τ) ↦[(rslot1 s).view.set]{fullShare} f : sProp 𝕄) from .rfl) $$ Hs1
  sl_exec
  sl_step
  iapply Hk
  isplitl [Hc]
  · iexists f; iexact Hc
  isplitl [Hs2]
  · iexists f; iexact Hs2
  · iexact Ht

/-- The two parts of a slot put together again. -/
theorem rJoin (c : Dev nD) (s : Fin 6) (f g : Buf (Elt F) ((rslot s).view.loc (c : Thread nD τ))) :
    iprop(((rslot1 s).view.loc (c : Thread nD τ) ↦[(rslot1 s).view.set]{fullShare} f) ∗ ((rslot s).view.loc (c : Thread nD τ) ↦[(rslot s).view.set \ (rslot1 s).view.set]{fullShare} g))
      ⊢ (iprop(∃ f, (rslot s).view.loc (c : Thread nD τ) ↦[(rslot s).view.set]{fullShare} f) : sProp 𝕄) := by
  refine (pointsTo_join_subset (rslot1_sub s)).trans ?_
  iintro H; iexists _; iexact H

end Cert.Proof.K

end
-- ==== Proof.K.Issue.lean ====
/-
  The conditional start of a unit's copy into its slot: the expert read from the live table, the copy started when the
  unit exists, nothing done otherwise.
-/
module

public import proofs.«01_k».proof.Proof.K.Ring
public import Idealize.ShloMosaic.Lib.ValueIdx

@[expose] public section

set_option maxRecDepth 16384
set_option maxHeartbeats 4000000

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.ValueIdx (ix1 ix2 ix3)

variable {F : FTy → Type} [FloatOps F]
local notation "𝕄" => MT nD τ sig Unit (Elt F) ℕ (UU nD τ) ℕ

/-! ## Canonical names at numerals -/

@[sl_canon] theorem rslot_canon (n : ℕ) (i : ∀ a, (![n, 0, 0] : Fin 3 → ℕ) a + S1x1408x3072.size a ≤ S6x1408x3072.size a) (h) :
    (mRing.slice (Rect.unit (s := S6x1408x3072) ![n, 0, 0] S1x1408x3072.size i) h).squeeze S1408x3072 squeezes_S1x1408x3072_S1408x3072
      = rslot ⟨n, Nat.lt_of_succ_le (i 0)⟩ := rfl
@[sl_canon] theorem rslot1_canon (n : ℕ) (i : ∀ a, (![n, 0, 0] : Fin 3 → ℕ) a + S1x1408x1024.size a ≤ S6x1408x3072.size a) (h) :
    (mRing.slice (Rect.unit (s := S6x1408x3072) ![n, 0, 0] S1x1408x1024.size i) h).squeeze S1408x1024 squeezes_S1x1408x1024_S1408x1024
      = rslot1 ⟨n, Nat.lt_of_succ_le (i 0)⟩ := rfl
@[sl_canon] theorem rcell_canon (n : ℕ) (i : ∀ a, (![n] : Fin 1 → ℕ) a + S1.size a ≤ S6.size a) :
    (cc0_scratch15.slice (Rect.unit (s := S6) ![n] S1.size i)).squeeze S_ squeezes_S1_S_ = rcell ⟨n, Nat.lt_of_succ_le (i 0)⟩ := rfl
@[sl_canon] theorem wsl0_canon (n : ℕ) (i : ∀ a, (![n, 0, 0] : Fin 3 → ℕ) a + S1x1408x3072.size a ≤ S15x1408x4096.size a) (h) :
    (aW.slice (Rect.unit (s := S15x1408x4096) ![n, 0, 0] S1x1408x3072.size i) h).squeeze S1408x3072 squeezes_S1x1408x3072_S1408x3072
      = wsl0 ⟨n, Nat.lt_of_succ_le (i 0)⟩ := rfl
@[sl_canon] theorem wsl1_canon (n : ℕ) (i : ∀ a, (![n, 0, 3072] : Fin 3 → ℕ) a + S1x1408x1024.size a ≤ S15x1408x4096.size a) (h) :
    (aW.slice (Rect.unit (s := S15x1408x4096) ![n, 0, 3072] S1x1408x1024.size i) h).squeeze S1408x1024 squeezes_S1x1408x1024_S1408x1024
      = wsl1 ⟨n, Nat.lt_of_succ_le (i 0)⟩ := rfl

/-! ## The live table -/

/-- Word `i` of row `q` of the live table. -/
def lv (fl : mLive.view.ty.Contents (Elt F)) (q i : ℕ) : BitVec 32 :=
  if h : q < 3 ∧ i < 16 then (mLive.view.read (Elt F) fl (ix2 ⟨q, h.1⟩ ⟨i, h.2⟩) : Elt F .i32) else 0#32

theorem ld_lv (fl : mLive.view.ty.Contents (Elt F)) {off : Fin 2 → ℕ} {q i : ℕ} (e : off = ![q, i]) (inb : ∀ a, off a + S1x1.size a ≤ S3x16.size a)
    (x : (Rect.unit (s := S3x16) off S1x1.size inb).toLoadRect.shape.Idx) :
    mLive.view.readAt (Elt F) (Rect.unit (s := S3x16) off S1x1.size inb).toLoadRect fl x = lv fl q i := by
  subst e
  have h0 : q + 1 ≤ 3 := inb 0
  have h1 : i + 1 ≤ 16 := inb 1
  unfold lv
  rw [dif_pos ⟨by omega, by omega⟩, View.readAt_rect]
  show mLive.view.read (Elt F) fl _ = _
  congr 1
  funext a
  have hx : (x a).val < S1x1.size a := (x a).isLt
  refine Fin.ext ?_
  fin_cases a
  · have hx' : (x (0 : Fin 2)).val < 1 := hx
    show q + 1 * (x (0 : Fin 2)).val = q; omega
  · have hx' : (x (1 : Fin 2)).val < 1 := hx
    show i + 1 * (x (1 : Fin 2)).val = i; omega

/-! ## A slot by its state -/

/-- A slot's state: free, or a copy of an expert's first or last columns in flight. -/
inductive St | free | fly0 (e : Fin 15) | fly1 (e : Fin 15)

/-- What a slot is owned as in a state. -/
def rSt (c : Dev nD) (fw : Buf (Elt F) (aW.view.loc (c : Thread nD τ))) (s : Fin 6) : St → sProp 𝕄
  | .free => rFree c fw s
  | .fly0 e => rFly0 c fw s e
  | .fly1 e => rFly1 c fw s e

/-! ## The programs -/

/-- The start of a unit's copy, width 0. -/
def issue0 {chk : BitVec 32 → Prop} (dec : ∀ v, Decidable (chk v)) (offL : Fin 2 → ℕ) (iL : ∀ a, offL a + S1x1.size a ≤ S3x16.size a)
    (offS : Fin 1 → ℕ) (iS : ∀ a, offS a + S1.size a ≤ S6.size a) (offR : Fin 3 → ℕ) (iR : ∀ a, offR a + S1x1408x3072.size a ≤ S6x1408x3072.size a)
    (offW : BitVec 32 → Fin 3 → ℕ) (iW : ∀ v, chk v → ∀ a, offW v a + S1x1408x3072.size a ≤ S15x1408x4096.size a)
    (p1 : ∀ (v : BitVec 32) (h : chk v), ((aW.slice (Rect.unit (s := S15x1408x4096) (offW v) S1x1408x3072.size (iW v h)) (fun _ => rfl)).squeeze S1408x3072 squeezes_S1x1408x3072_S1408x3072).view.WordExact) (p2 : ((mRing.slice (Rect.unit (s := S6x1408x3072) offR S1x1408x3072.size iR) (fun _ => rfl)).squeeze S1408x3072 squeezes_S1x1408x3072_S1408x3072).view.WordExact) :
    Prog (TpuEff nD τ sig (Elt F) Λ₀ .tc) PUnit := do
  let v : Elt F .i32 ← smemLoad mLive (Rect.unit (s := S3x16) offL S1x1.size iL) numel1_S1x1 rfl
  have hw : chk v := (← Prog.lift (TpuEff.assume (chk v) (dec v))).down
  Prog.lift (.enqueueDma ((aW.slice (Rect.unit (s := S15x1408x4096) (offW v) S1x1408x3072.size (iW v hw)) (fun _ => rfl)).squeeze S1408x3072 squeezes_S1x1408x3072_S1408x3072) (.here ((mRing.slice (Rect.unit (s := S6x1408x3072) offR S1x1408x3072.size iR) (fun _ => rfl)).squeeze S1408x3072 squeezes_S1x1408x3072_S1408x3072))
    (.dma ((cc0_scratch15.slice (Rect.unit (s := S6) offS S1.size iS)).squeeze S_ squeezes_S1_S_).sem) (p1 v hw) p2 ⟨Or.inl rfl, trivial⟩)
  pure ⟨⟩

/-- It starts the copy into a free slot. -/
theorem issue0_wp [∀ e, Nonempty (Elt F e)] (c : Dev nD) (fw : Buf (Elt F) (aW.view.loc (c : Thread nD τ))) (fl : Buf (Elt F) (mLive.view.loc (c : Thread nD τ)))
    (s : Fin 6) (e : Fin 15) (i : ℕ) {chk : BitVec 32 → Prop} (dec : ∀ v, Decidable (chk v)) {offL iL offS iS offR iR} {offW : BitVec 32 → Fin 3 → ℕ} {iW p1 p2}
    (he : (lv fl 0 i).toNat = e.val) (hchk : ∀ v : BitVec 32, v.toNat < 15 → chk v) (hL : offL = ![0, i]) (hS : offS = ![s.val]) (hR : offR = ![s.val, 0, 0])
    (hW : ∀ v : BitVec 32, offW v = ![v.toNat, 0, 0]) (Q : PUnit → sProp 𝕄) :
    iprop(rFree c fw s ∗ (mLive.view.loc (c : Thread nD τ) ↦{fullShare} fl) ∗ ((rFly0 c fw s e ∗ (mLive.view.loc (c : Thread nD τ) ↦{fullShare} fl)) -∗ Q ⟨⟩))
      ⊢ wp frame (wpE defs₀ 𝒱₀ (c : Thread nD τ) none) Set.univ (issue0 (F := F) dec offL iL offS iS offR iR offW iW p1 p2) Q := by
  have hv := ld_lv fl hL iL
  have hc : ∀ x, chk (mLive.view.readAt (Elt F) (Rect.unit (s := S3x16) offL S1x1.size iL).toLoadRect fl x) := fun x => hchk _ (by rw [hv x, he]; exact e.isLt)
  obtain rfl : offW = fun v => ![v.toNat, 0, 0] := funext hW
  subst hL hS hR
  have hlt : ∀ x, (mLive.view.readAt (Elt F) (Rect.unit (s := S3x16) ![0, i] S1x1.size iL).toLoadRect fl x : BitVec 32).toNat < 15 :=
    fun x => by rw [hv x, he]; exact e.isLt
  obtain rfl : e = ⟨(mLive.view.readAt (Elt F) (Rect.unit (s := S3x16) ![0, i] S1x1.size iL).toLoadRect fl (Shape.Idx.first (numel1_S1x1.symm ▸ Nat.one_pos)) : BitVec 32).toNat, hlt _⟩ :=
    Fin.ext (he.symm.trans (congrArg BitVec.toNat (hv _)).symm)
  iintro ⟨⟨Hc, ⟨%f, Hs⟩, Ht⟩, Hl, Hk⟩
  unfold issue0
  sl_exec (disch := exact hc _)
  beta_reduce
  sl_exec
  sl_step
  iapply Hk
  isplitr [Hl]
  · isplitl [Hc]
    · iexists f; iexact Hc
    iexact Ht
  · iexact Hl

/-- The start of a unit's copy, width 1. -/
def issue1 {chk : BitVec 32 → Prop} (dec : ∀ v, Decidable (chk v)) (offL : Fin 2 → ℕ) (iL : ∀ a, offL a + S1x1.size a ≤ S3x16.size a)
    (offS : Fin 1 → ℕ) (iS : ∀ a, offS a + S1.size a ≤ S6.size a) (offR : Fin 3 → ℕ) (iR : ∀ a, offR a + S1x1408x1024.size a ≤ S6x1408x3072.size a)
    (offW : BitVec 32 → Fin 3 → ℕ) (iW : ∀ v, chk v → ∀ a, offW v a + S1x1408x1024.size a ≤ S15x1408x4096.size a)
    (p1 : ∀ (v : BitVec 32) (h : chk v), ((aW.slice (Rect.unit (s := S15x1408x4096) (offW v) S1x1408x1024.size (iW v h)) (fun _ => rfl)).squeeze S1408x1024 squeezes_S1x1408x1024_S1408x1024).view.WordExact) (p2 : ((mRing.slice (Rect.unit (s := S6x1408x3072) offR S1x1408x1024.size iR) (fun _ => rfl)).squeeze S1408x1024 squeezes_S1x1408x1024_S1408x1024).view.WordExact) :
    Prog (TpuEff nD τ sig (Elt F) Λ₀ .tc) PUnit := do
  let v : Elt F .i32 ← smemLoad mLive (Rect.unit (s := S3x16) offL S1x1.size iL) numel1_S1x1 rfl
  have hw : chk v := (← Prog.lift (TpuEff.assume (chk v) (dec v))).down
  Prog.lift (.enqueueDma ((aW.slice (Rect.unit (s := S15x1408x4096) (offW v) S1x1408x1024.size (iW v hw)) (fun _ => rfl)).squeeze S1408x1024 squeezes_S1x1408x1024_S1408x1024) (.here ((mRing.slice (Rect.unit (s := S6x1408x3072) offR S1x1408x1024.size iR) (fun _ => rfl)).squeeze S1408x1024 squeezes_S1x1408x1024_S1408x1024))
    (.dma ((cc0_scratch15.slice (Rect.unit (s := S6) offS S1.size iS)).squeeze S_ squeezes_S1_S_).sem) (p1 v hw) p2 ⟨Or.inl rfl, trivial⟩)
  pure ⟨⟩

/-- It starts the copy into a free slot. -/
theorem issue1_wp [∀ e, Nonempty (Elt F e)] (c : Dev nD) (fw : Buf (Elt F) (aW.view.loc (c : Thread nD τ))) (fl : Buf (Elt F) (mLive.view.loc (c : Thread nD τ)))
    (s : Fin 6) (e : Fin 15) (i : ℕ) {chk : BitVec 32 → Prop} (dec : ∀ v, Decidable (chk v)) {offL iL offS iS offR iR} {offW : BitVec 32 → Fin 3 → ℕ} {iW p1 p2}
    (he : (lv fl 0 i).toNat = e.val) (hchk : ∀ v : BitVec 32, v.toNat < 15 → chk v) (hL : offL = ![0, i]) (hS : offS = ![s.val]) (hR : offR = ![s.val, 0, 0])
    (hW : ∀ v : BitVec 32, offW v = ![v.toNat, 0, 3072]) (Q : PUnit → sProp 𝕄) :
    iprop(rFree c fw s ∗ (mLive.view.loc (c : Thread nD τ) ↦{fullShare} fl) ∗ ((rFly1 c fw s e ∗ (mLive.view.loc (c : Thread nD τ) ↦{fullShare} fl)) -∗ Q ⟨⟩))
      ⊢ wp frame (wpE defs₀ 𝒱₀ (c : Thread nD τ) none) Set.univ (issue1 (F := F) dec offL iL offS iS offR iR offW iW p1 p2) Q := by
  have hv := ld_lv fl hL iL
  have hc : ∀ x, chk (mLive.view.readAt (Elt F) (Rect.unit (s := S3x16) offL S1x1.size iL).toLoadRect fl x) := fun x => hchk _ (by rw [hv x, he]; exact e.isLt)
  obtain rfl : offW = fun v => ![v.toNat, 0, 3072] := funext hW
  subst hL hS hR
  have hlt : ∀ x, (mLive.view.readAt (Elt F) (Rect.unit (s := S3x16) ![0, i] S1x1.size iL).toLoadRect fl x : BitVec 32).toNat < 15 :=
    fun x => by rw [hv x, he]; exact e.isLt
  obtain rfl : e = ⟨(mLive.view.readAt (Elt F) (Rect.unit (s := S3x16) ![0, i] S1x1.size iL).toLoadRect fl (Shape.Idx.first (numel1_S1x1.symm ▸ Nat.one_pos)) : BitVec 32).toNat, hlt _⟩ :=
    Fin.ext (he.symm.trans (congrArg BitVec.toNat (hv _)).symm)
  iintro ⟨⟨Hc, ⟨%f, Hs⟩, Ht⟩, Hl, Hk⟩
  unfold issue1
  ihave Hs' := (pointsTo_split_subset (rslot1_sub s)).1 $$ Hs
  icases Hs' with ⟨Hs1, Hs2⟩
  ihave Hs3 := (show ((rslot s).view.loc (c : Thread nD τ) ↦[(rslot1 s).view.set]{fullShare} f : sProp 𝕄) ⊢ ((rslot1 s).view.loc (c : Thread nD τ) ↦[(rslot1 s).view.set]{fullShare} f : sProp 𝕄) from .rfl) $$ Hs1
  sl_exec (disch := exact hc _)
  beta_reduce
  sl_exec
  sl_step
  iapply Hk
  isplitr [Hl]
  · isplitl [Hc]
    · iexists f; iexact Hc
    isplitl [Hs2]
    · iexists f; iexact Hs2
    iexact Ht
  · iexact Hl

/-! ## Under the condition -/

/-- The copy started when `b` is set, nothing done otherwise: the slot goes from `st` to `st'`. -/
theorem site0 [∀ e, Nonempty (Elt F e)] (c : Dev nD) (fw : Buf (Elt F) (aW.view.loc (c : Thread nD τ))) (fl : Buf (Elt F) (mLive.view.loc (c : Thread nD τ)))
    (s : Fin 6) (b : BitVec 1) {α : Type} (A : b = 1#1 → Prog (TpuEff nD τ sig (Elt F) Λ₀ .tc) α) (B : ¬ b = 1#1 → Prog (TpuEff nD τ sig (Elt F) Λ₀ .tc) α) (p : Prog (TpuEff nD τ sig (Elt F) Λ₀ .tc) α) (st st' : St) (i : ℕ) (e : Fin 15) {chk : BitVec 32 → Prop} (dec : ∀ v, Decidable (chk v))
    {offL offS offR} {offW : BitVec 32 → Fin 3 → ℕ}
    (hA : ∀ h, ∃ iL iS iR iW p1 p2, A h = (issue0 (F := F) dec offL iL offS iS offR iR offW iW p1 p2 >>= fun _ => p)) (hB : ∀ h, B h = p)
    (h1 : b = 1#1 → st = .free ∧ st' = .fly0 e ∧ (lv fl 0 i).toNat = e.val ∧ (∀ v : BitVec 32, v.toNat < 15 → chk v) ∧ offL = ![0, i] ∧ offS = ![s.val] ∧ offR = ![s.val, 0, 0])
    (h0 : b ≠ 1#1 → st' = st)
    (hW : ∀ v : BitVec 32, offW v = ![v.toNat, 0, 0]) (Q : α → sProp 𝕄) :
    iprop(rSt c fw s st ∗ (mLive.view.loc (c : Thread nD τ) ↦{fullShare} fl) ∗ ((rSt c fw s st' ∗ (mLive.view.loc (c : Thread nD τ) ↦{fullShare} fl)) -∗ wp frame (wpE defs₀ 𝒱₀ (c : Thread nD τ) none) Set.univ p Q))
      ⊢ wp frame (wpE defs₀ 𝒱₀ (c : Thread nD τ) none) Set.univ (if h : b = 1#1 then A h else B h) Q := by
  by_cases h : b = 1#1
  · obtain ⟨iL, iS, iR, iW, p1, p2, hA⟩ := hA h
    rw [dif_pos h, hA]
    obtain ⟨rfl, rfl, he, hc, hL, hS, hR⟩ := h1 h
    rw [wp_bind]
    exact issue0_wp c fw fl s e i dec he hc hL hS hR hW (fun _ => wp frame (wpE defs₀ 𝒱₀ (c : Thread nD τ) none) Set.univ p Q)
  · rw [dif_neg h, hB h]
    obtain rfl := h0 h
    iintro ⟨Hr, Hl, Hk⟩
    iapply Hk
    isplitl [Hr]; · iexact Hr
    iexact Hl

/-- The copy started when `b` is set, nothing done otherwise: the slot goes from `st` to `st'`. -/
theorem site1 [∀ e, Nonempty (Elt F e)] (c : Dev nD) (fw : Buf (Elt F) (aW.view.loc (c : Thread nD τ))) (fl : Buf (Elt F) (mLive.view.loc (c : Thread nD τ)))
    (s : Fin 6) (b : BitVec 1) {α : Type} (A : b = 1#1 → Prog (TpuEff nD τ sig (Elt F) Λ₀ .tc) α) (B : ¬ b = 1#1 → Prog (TpuEff nD τ sig (Elt F) Λ₀ .tc) α) (p : Prog (TpuEff nD τ sig (Elt F) Λ₀ .tc) α) (st st' : St) (i : ℕ) (e : Fin 15) {chk : BitVec 32 → Prop} (dec : ∀ v, Decidable (chk v))
    {offL offS offR} {offW : BitVec 32 → Fin 3 → ℕ}
    (hA : ∀ h, ∃ iL iS iR iW p1 p2, A h = (issue1 (F := F) dec offL iL offS iS offR iR offW iW p1 p2 >>= fun _ => p)) (hB : ∀ h, B h = p)
    (h1 : b = 1#1 → st = .free ∧ st' = .fly1 e ∧ (lv fl 0 i).toNat = e.val ∧ (∀ v : BitVec 32, v.toNat < 15 → chk v) ∧ offL = ![0, i] ∧ offS = ![s.val] ∧ offR = ![s.val, 0, 0])
    (h0 : b ≠ 1#1 → st' = st)
    (hW : ∀ v : BitVec 32, offW v = ![v.toNat, 0, 3072]) (Q : α → sProp 𝕄) :
    iprop(rSt c fw s st ∗ (mLive.view.loc (c : Thread nD τ) ↦{fullShare} fl) ∗ ((rSt c fw s st' ∗ (mLive.view.loc (c : Thread nD τ) ↦{fullShare} fl)) -∗ wp frame (wpE defs₀ 𝒱₀ (c : Thread nD τ) none) Set.univ p Q))
      ⊢ wp frame (wpE defs₀ 𝒱₀ (c : Thread nD τ) none) Set.univ (if h : b = 1#1 then A h else B h) Q := by
  by_cases h : b = 1#1
  · obtain ⟨iL, iS, iR, iW, p1, p2, hA⟩ := hA h
    rw [dif_pos h, hA]
    obtain ⟨rfl, rfl, he, hc, hL, hS, hR⟩ := h1 h
    rw [wp_bind]
    exact issue1_wp c fw fl s e i dec he hc hL hS hR hW (fun _ => wp frame (wpE defs₀ 𝒱₀ (c : Thread nD τ) none) Set.univ p Q)
  · rw [dif_neg h, hB h]
    obtain rfl := h0 h
    iintro ⟨Hr, Hl, Hk⟩
    iapply Hk
    isplitl [Hr]; · iexact Hr
    iexact Hl

end Cert.Proof.K

end
-- ==== Proof.K.Live.lean ====
/-
  The units in order: an expert's first columns or its last ones, the slot each takes, the words that say whether a later
  unit exists, and the slots of the ring before a unit runs.
-/
module

public import proofs.«01_k».proof.Proof.K.Issue

@[expose] public section

set_option maxRecDepth 16384
set_option maxHeartbeats 4000000

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.ValueIdx (ix1 ix2 ix3)

variable {F : FTy → Type} [FloatOps F]
local notation "𝕄" => MT nD τ sig Unit (Elt F) ℕ (UU nD τ) ℕ

/-! ## The words of the units -/

/-- The unit's word `q·n + t` plus 6, less `x·n`. -/
abbrev nextW (q x n t : ℕ) : BitVec 32 :=
  Scalar.subi (Scalar.addi (Scalar.addi (Scalar.muli (W q) (W n)) (Scf.iv 0#32 1#32 t)) 6#32) (Scalar.muli (W x) (W n))
/-- Whether that word lies in `0 … n - 1`. -/
abbrev condW (q x n t : ℕ) : BitVec 1 :=
  Scalar.cmpi .ne (Scalar.extui (Scalar.andi (Scalar.cmpi .sge (nextW q x n t) 0#32) (Scalar.cmpi .slt (nextW q x n t) (W n)))) (0#32 : BitVec 32)

theorem condW_iff : ∀ q x : Fin 2, ∀ n t : Fin 16, (condW q x n t = 1#1) ↔ (x.val * n.val ≤ q.val * n.val + t.val + 6 ∧ q.val * n.val + t.val + 6 - x.val * n.val < n.val) := by
  decide +kernel
theorem nextW_toNat : ∀ q x : Fin 2, ∀ n t : Fin 16, x.val * n.val ≤ q.val * n.val + t.val + 6 → (nextW q x n t).toNat = q.val * n.val + t.val + 6 - x.val * n.val := by
  decide +kernel
theorem slotW : ∀ q : Fin 2, ∀ n t : Fin 16, (Scalar.remsi (Scalar.addi (Scalar.addi (Scalar.muli (W q) (W n)) (Scf.iv 0#32 1#32 t)) 6#32) 6#32).toNat = (q.val * n.val + t.val) % 6 := by
  decide +kernel

theorem chkW0 (v : BitVec 32) (h : v.toNat < 15) : ∀ a, (![v.toNat, 0, 0] : Fin 3 → ℕ) a + S1x1408x3072.size a ≤ S15x1408x4096.size a := inbW0 ⟨_, h⟩
theorem chkW1 (v : BitVec 32) (h : v.toNat < 15) : ∀ a, (![v.toNat, 0, 3072] : Fin 3 → ℕ) a + S1x1408x1024.size a ≤ S15x1408x4096.size a := inbW1 ⟨_, h⟩

theorem chkWW0 (v : BitVec 32) (h) (p : ℕ) : (Rect.unit (s := S15x1408x4096) ![v.toNat, 0, 0] S1x1408x3072.size h).WholeWords p := Or.inr ⟨by decide, rfl, rfl, rfl⟩
theorem chkWW1 (v : BitVec 32) (h) (p : ℕ) : (Rect.unit (s := S15x1408x4096) ![v.toNat, 0, 3072] S1x1408x1024.size h).WholeWords p := Or.inr ⟨by decide, rfl, rfl, rfl⟩

/-- A flight at a slot's cell, the cell spelt as a slice at an offset of that value. -/
theorem fly_cell (c : Dev nD) {off : Fin 1 → ℕ} (s : Fin 6) (e : off = ![s.val]) (i : ∀ a, off a + S1.size a ≤ S6.size a) (amt : ℕ) (P : sProp 𝕄) :
    Transfers.Flight (countersEmb (U := UU nD τ)) (c : Thread nD τ) (rloc s) () amt P
      ⊢ (Transfers.Flight (countersEmb (U := UU nD τ)) (c : Thread nD τ) (SemLoc.dma ((cc0_scratch15.slice (Rect.unit (s := S6) off S1.size i)).squeeze S_ squeezes_S1_S_).sem) () amt P : sProp 𝕄) := by
  subst e; exact .rfl
theorem cell_back (c : Dev nD) {off : Fin 1 → ℕ} (s : Fin 6) (e : off = ![s.val]) (i : ∀ a, off a + S1.size a ≤ S6.size a) :
    semVal ((c : Thread nD τ), SemLoc.dma ((cc0_scratch15.slice (Rect.unit (s := S6) off S1.size i)).squeeze S_ squeezes_S1_S_).sem) 0
      ⊢ (semVal ((c : Thread nD τ), rloc s) 0 : sProp 𝕄) := by
  subst e; exact .rfl

/-! ## The live table -/

/-- The table of the experts that have rows: `n` of them, each with its rows. -/
structure LiveOK (n : ℕ) (fl : mLive.view.ty.Contents (Elt F)) : Prop where
  le : n ≤ 15
  ex : ∀ i < n, (lv fl 0 i).toNat < 15
  rows : ∀ i < n, Rows (lv fl 1 i) (lv fl 2 i)
  ord : ∀ i < n, ∀ i' < i, (lv fl 2 i').toNat ≤ (lv fl 1 i).toNat

/-- The expert of entry `i`. -/
def exi (fl : mLive.view.ty.Contents (Elt F)) (i : ℕ) : Fin 15 := if h : (lv fl 0 i).toNat < 15 then ⟨(lv fl 0 i).toNat, h⟩ else 0
theorem LiveOK.ex_val {n : ℕ} {fl : mLive.view.ty.Contents (Elt F)} (h : LiveOK n fl) {i : ℕ} (hi : i < n) : (lv fl 0 i).toNat = (exi fl i).val := by
  unfold exi; rw [dif_pos (h.ex i hi)]

/-- The copy of unit `u`: the first columns of the entries in order, then their last columns, then nothing. -/
def ust (fl : mLive.view.ty.Contents (Elt F)) (n u : ℕ) : St :=
  if u < n then .fly0 (exi fl u) else if u < 2 * n then .fly1 (exi fl (u - n)) else .free

/-- The unit that slot `s` is for before unit `u` runs: the first at or after `u` that is `s` modulo 6. -/
def nxt (u s : ℕ) : ℕ := u + (s + 6 - u % 6) % 6
theorem nxt_self (u : ℕ) : nxt u (u % 6) = u := by unfold nxt; omega
theorem nxt_succ_self (u : ℕ) : nxt (u + 1) (u % 6) = u + 6 := by unfold nxt; omega
theorem nxt_succ_ne {u s : ℕ} (hs : s < 6) (h : s ≠ u % 6) : nxt (u + 1) s = nxt u s := by unfold nxt; omega
theorem nxt_zero {s : ℕ} (hs : s < 6) : nxt 0 s = s := by unfold nxt; omega

/-- The six slots before unit `u`. -/
def rings (c : Dev nD) (fw : Buf (Elt F) (aW.view.loc (c : Thread nD τ))) (fl : mLive.view.ty.Contents (Elt F)) (n u : ℕ) : sProp 𝕄 :=
  bigSep Finset.univ fun s : Fin 6 => rSt c fw s (ust fl n (nxt u s.val))

/-- The slot of unit `u` taken out, and what gives the slots of the next unit back. -/
theorem rings_step (c : Dev nD) (fw : Buf (Elt F) (aW.view.loc (c : Thread nD τ))) (fl : mLive.view.ty.Contents (Elt F)) (n u : ℕ) (s : Fin 6) (hs : s.val = u % 6) :
    rings c fw fl n u ⊢ iprop(rSt c fw s (ust fl n u) ∗ (rSt c fw s (ust fl n (u + 6)) -∗ rings c fw fl n (u + 1))) := by
  have hcong : (bigSep (Finset.univ.erase s) fun k : Fin 6 => rSt c fw k (ust fl n (nxt u k.val)))
      = bigSep (Finset.univ.erase s) fun k : Fin 6 => rSt c fw k (ust fl n (nxt (u + 1) k.val)) := by
    refine bigSep_congr fun k hk => ?_
    rw [nxt_succ_ne k.isLt (fun e => (Finset.mem_erase.mp hk).1 (Fin.ext (e.trans hs.symm)))]
  have h1 : rings c fw fl n u = iprop(rSt c fw s (ust fl n u) ∗ bigSep (Finset.univ.erase s) fun k : Fin 6 => rSt c fw k (ust fl n (nxt u k.val))) := by
    unfold rings
    rw [bigSep_erase (Finset.mem_univ s), hs, nxt_self]; rfl
  have h2 : rings c fw fl n (u + 1) = iprop(rSt c fw s (ust fl n (u + 6)) ∗ bigSep (Finset.univ.erase s) fun k : Fin 6 => rSt c fw k (ust fl n (nxt (u + 1) k.val))) := by
    unfold rings
    rw [bigSep_erase (Finset.mem_univ s), hs, nxt_succ_self]; rfl
  rw [h1, h2, hcong]
  iintro ⟨H1, H2⟩
  isplitl [H1]; · iexact H1
  iintro H; isplitl [H]; · iexact H
  iexact H2

end Cert.Proof.K

end
-- ==== Proof.K.TokV.lean ====
/-
  The sum of one token: its four rows of the accumulator, each times its weight.
-/
module

public import proofs.«01_k».proof.Proof.K.Live
public import Idealize.ShloMosaic.Lib.WritesUnit
public import Idealize.ShloMosaic.Lib.Pointwise

@[expose] public section

set_option maxRecDepth 16384
set_option maxHeartbeats 4000000

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]
local notation "𝕄" => MT nD τ sig Unit (Elt F) ℕ (UU nD τ) ℕ

/-- Every word of the token table names a row below 1024. -/
def CiOK (yc : mCi.view.ty.Contents (Elt F)) : Prop := ∀ i, (show BitVec 32 from mCi.view.read (Elt F) yc i).toNat < 1024

theorem ci_small (yc : mCi.view.ty.Contents (Elt F)) (hc : CiOK yc) {off : Fin 1 → ℕ} (inb : ∀ a, off a + S1.size a ≤ S1024.size a)
    (x : (Rect.unit (s := S1024) off S1.size inb).toLoadRect.shape.Idx) :
    (show BitVec 32 from mCi.view.readAt (Elt F) (Rect.unit (s := S1024) off S1.size inb).toLoadRect yc x).toNat < 1024 := by
  rw [View.readAt_rect]
  exact hc _

theorem tokchk {v : BitVec 32} (h : v.toNat < 1024) : ∀ a, S24x128.size a = 0 ∨ (![v.toNat, 0] : Fin 2 → ℕ) a + (![1121, 1] : Fin 2 → Nat) a * (S24x128.size a - 1) < S26904x128.size a := by
  intro a; right
  fin_cases a
  · show v.toNat + 1121 * (24 - 1) < 26904; omega
  · show 0 + 1 * (128 - 1) < 128; omega

theorem tokchk8 {v : BitVec 32} (h : v.toNat < 1024) : ∀ a, S8x128.size a = 0 ∨ (![v.toNat, 0] : Fin 2 → ℕ) a + (![1121, 1] : Fin 2 → Nat) a * (S8x128.size a - 1) < S26904x128.size a := by
  intro a; right
  fin_cases a
  · show v.toNat + 1121 * (8 - 1) < 26904; omega
  · show 0 + 1 * (128 - 1) < 128; omega

/-- Word `s` of the weights, of the rows, and element `(r, l)` of the accumulator. -/
def tww (yt : mTw.view.ty.Contents (Elt F)) (s : ℕ) : F .f32 := if h : s < 1024 then (mTw.view.read (Elt F) yt (ValueIdx.ix1 ⟨s, h⟩) : Elt F .f32) else Scalar.ofBits .f32 0x00000000#32
def ciw (yc : mCi.view.ty.Contents (Elt F)) (s : ℕ) : BitVec 32 := if h : s < 1024 then (mCi.view.read (Elt F) yc (ValueIdx.ix1 ⟨s, h⟩) : Elt F .i32) else 0#32
def accR (g : mAcc.view.ty.Contents (Elt F)) (r : ℕ) (l : Fin 128) : F .f32 := if h : r < 26904 then (mAcc.view.read (Elt F) g (ValueIdx.ix2 ⟨r, h⟩ l) : Elt F .f32) else Scalar.ofBits .f32 0x00000000#32

theorem ld_tw (yt : mTw.view.ty.Contents (Elt F)) {off : Fin 1 → ℕ} {e : ℕ} (he : off = ![e]) (inb : ∀ a, off a + S1.size a ≤ S1024.size a)
    (x : (Rect.unit (s := S1024) off S1.size inb).toLoadRect.shape.Idx) :
    mTw.view.readAt (Elt F) (Rect.unit (s := S1024) off S1.size inb).toLoadRect yt x = tww yt e := by
  subst he
  have h : e < 1024 := inb 0
  unfold tww
  rw [dif_pos h]
  show mTw.view.read (Elt F) yt _ = _
  congr 1
  funext a
  refine Fin.ext ?_
  fin_cases a
  have : (x (0 : Fin 1)).val < 1 := (x (0 : Fin 1)).isLt
  show e + 1 * (x (0 : Fin 1)).val = e; omega
theorem ld_ci (yc : mCi.view.ty.Contents (Elt F)) {off : Fin 1 → ℕ} {e : ℕ} (he : off = ![e]) (inb : ∀ a, off a + S1.size a ≤ S1024.size a)
    (x : (Rect.unit (s := S1024) off S1.size inb).toLoadRect.shape.Idx) :
    mCi.view.readAt (Elt F) (Rect.unit (s := S1024) off S1.size inb).toLoadRect yc x = ciw yc e := by
  subst he
  have h : e < 1024 := inb 0
  unfold ciw
  rw [dif_pos h]
  show mCi.view.read (Elt F) yc _ = _
  congr 1
  funext a
  refine Fin.ext ?_
  fin_cases a
  have : (x (0 : Fin 1)).val < 1 := (x (0 : Fin 1)).isLt
  show e + 1 * (x (0 : Fin 1)).val = e; omega

/-- The place in the two tables of token `T`'s row `k`. -/
def sw (T k : ℕ) : ℕ := T % 128 + (T / 128 * 4 + k) * 128

/-- Token `T`'s sum in column block `j`, lane `l`. -/
def tokG (yc : mCi.view.ty.Contents (Elt F)) (yt : mTw.view.ty.Contents (Elt F)) (a : ℕ → ℕ → Fin 128 → F .f32) (T j : ℕ) (l : Fin 128) : F .f32 :=
  FloatOps.addf (FloatOps.addf (FloatOps.addf
    (FloatOps.mulf (tww yt (sw T 0)) (a (ciw yc (sw T 0)).toNat j l)) (FloatOps.mulf (tww yt (sw T 1)) (a (ciw yc (sw T 1)).toNat j l)))
    (FloatOps.mulf (tww yt (sw T 2)) (a (ciw yc (sw T 2)).toNat j l))) (FloatOps.mulf (tww yt (sw T 3)) (a (ciw yc (sw T 3)).toNat j l))

/-- The accumulator by row and column block. -/
def accJ (g : mAcc.view.ty.Contents (Elt F)) (r j : ℕ) (l : Fin 128) : F .f32 := accR g (1121 * j + r) l

/-- Four weighted rows summed. -/
def totV {s : Shape} (t0 t1 t2 t3 : F .f32) (a0 a1 a2 a3 : FVec F s .f32) : FVec F s .f32 :=
  addf (addf (addf (mulf (broadcast s t0) a0) (mulf (broadcast s t1) a1)) (mulf (broadcast s t2) a2)) (mulf (broadcast s t3) a3)

/-- A loaded weight and a loaded row are those of place `s`. -/
structure TW {J : ℕ} (yc : mCi.view.ty.Contents (Elt F)) (yt : mTw.view.ty.Contents (Elt F)) (g : mAcc.view.ty.Contents (Elt F)) (s : ℕ) (t : F .f32) (a : FVec F (⟨2, ![J, 128]⟩ : Shape) .f32) : Prop where
  w : t = tww yt s
  v : ∀ (j : Fin J) (l : Fin 128), a (ValueIdx.ix2 j l) = accJ g (ciw yc s).toNat j.val l

theorem TW.mk' {J : ℕ} (yc : mCi.view.ty.Contents (Elt F)) (yt : mTw.view.ty.Contents (Elt F)) (g : mAcc.view.ty.Contents (Elt F)) {s : ℕ} {off : Fin 1 → ℕ} (he : off = ![s])
    (inb inb' : ∀ a, off a + S1.size a ≤ S1024.size a) (x : (Rect.unit (s := S1024) off S1.size inb).toLoadRect.shape.Idx) (x' : (Rect.unit (s := S1024) off S1.size inb').toLoadRect.shape.Idx)
    {offA : Fin 2 → ℕ} (ha : offA = ![(show BitVec 32 from mCi.view.readAt (Elt F) (Rect.unit (s := S1024) off S1.size inb').toLoadRect yc x').toNat, 0])
    (inA : ∀ a, (⟨2, ![J, 128]⟩ : Shape).size a = 0 ∨ offA a + (![1121, 1] : Fin 2 → ℕ) a * ((⟨2, ![J, 128]⟩ : Shape).size a - 1) < S26904x128.size a) :
    TW (J := J) yc yt g s (mTw.view.readAt (Elt F) (Rect.unit (s := S1024) off S1.size inb).toLoadRect yt x)
      (mAcc.view.readAt (Elt F) (⟨offA, (⟨2, ![J, 128]⟩ : Shape).size, ![1121, 1], inA⟩ : LoadRect S26904x128) g) := by
  refine ⟨ld_tw yt he inb x, fun j l => ?_⟩
  have e := ld_ci yc he inb' x'
  have ha' : offA = ![(ciw yc s).toNat, 0] := by rw [ha]; exact congrArg (fun z : BitVec 32 => (![z.toNat, 0] : Fin 2 → ℕ)) e
  clear ha
  subst ha'
  have hr : (ciw yc s).toNat + 1121 * (J - 1) < 26904 := (inA 0).resolve_left (by have := j.isLt; show J ≠ 0; omega)
  have hj := j.isLt
  have hq : 1121 * j.val + (ciw yc s).toNat < 26904 := by
    have : 1121 * j.val ≤ 1121 * (J - 1) := Nat.mul_le_mul_left _ (by omega)
    omega
  unfold accJ accR
  rw [dif_pos hq]
  show mAcc.view.read (Elt F) g _ = _
  congr 1
  funext a
  refine Fin.ext ?_
  fin_cases a
  · show (ciw yc s).toNat + 1121 * j.val = 1121 * j.val + (ciw yc s).toNat; omega
  · show 0 + 1 * l.val = l.val; omega

/-- The first `T` tokens' sums are stored. -/
def TAcc (yc : mCi.view.ty.Contents (Elt F)) (yt : mTw.view.ty.Contents (Elt F)) (g : mAcc.view.ty.Contents (Elt F)) (J T : ℕ) (o : mOtok.view.ty.Contents (Elt F)) : Prop :=
  ∀ T' < T, ∀ j < J, ∀ y : S6168x128.Idx, (y (0 : Fin 2)).val = 257 * j + T' → mOtok.view.read (Elt F) o y = tokG yc yt (accJ g) T' j (y (1 : Fin 2))

theorem TAcc.zero (yc yt g) (J : ℕ) (o : mOtok.view.ty.Contents (Elt F)) : TAcc (F := F) yc yt g J 0 o := fun T' h => absurd h (by omega)

/-- One token more. -/
theorem TAcc.step {J T : ℕ} {yc : mCi.view.ty.Contents (Elt F)} {yt : mTw.view.ty.Contents (Elt F)} {g : mAcc.view.ty.Contents (Elt F)} (hT : T < 256)
    {off : Fin 2 → ℕ} (eo : off = ![T, 0])
    (inb : ∀ a, (⟨2, ![J, 128]⟩ : Shape).size a = 0 ∨ off a + (![257, 1] : Fin 2 → ℕ) a * ((⟨2, ![J, 128]⟩ : Shape).size a - 1) < S6168x128.size a) (sp : ∀ a, 0 < (![257, 1] : Fin 2 → ℕ) a)
    {t0 t1 t2 t3 : F .f32} {a0 a1 a2 a3 : FVec F (⟨2, ![J, 128]⟩ : Shape) .f32}
    (w0 : TW yc yt g (sw T 0) t0 a0) (w1 : TW yc yt g (sw T 1) t1 a1) (w2 : TW yc yt g (sw T 2) t2 a2) (w3 : TW yc yt g (sw T 3) t3 a3)
    {hc : (⟨2, ![J, 128]⟩ : Shape).ShapeCasts (⟨2, ![J, 128]⟩ : Shape)} {v : FVec F (⟨2, ![J, 128]⟩ : Shape) .f32} (hv : v = shapeCast (⟨2, ![J, 128]⟩ : Shape) (totV t0 t1 t2 t3 a0 a1 a2 a3) hc)
    {o : mOtok.view.ty.Contents (Elt F)} {L : List (View.Piece (Elt F) S6168x128 .f32)} (h : TAcc yc yt g J T (mOtok.view.writes (Elt F) o L)) :
    TAcc yc yt g J (T + 1) (mOtok.view.writes (Elt F) o ((⟨⟨⟨off, (⟨2, ![J, 128]⟩ : Shape).size, ![257, 1], inb⟩, sp⟩, v⟩ : View.Piece (Elt F) S6168x128 .f32) :: L)) := by
  subst eo
  intro T' hT' j hj y hy
  by_cases e : T' = T
  · subst e
    refine (View.read_writes_cons_hit_of_coords mOtok.view o ⟨⟨![T', 0], (⟨2, ![J, 128]⟩ : Shape).size, ![257, 1], inb⟩, sp⟩ v L (ValueIdx.ix2 (n0 := J) (n1 := 128) ⟨j, hj⟩ (y (1 : Fin 2))) y (fun a => by
      fin_cases a
      · show (y (0 : Fin 2)).val = T' + 257 * j; omega
      · show (y (1 : Fin 2)).val = 0 + 1 * (y (1 : Fin 2)).val; omega)).trans ?_
    rw [hv, shapeCast_self]
    exact congrArg₂ FloatOps.addf (congrArg₂ FloatOps.addf (congrArg₂ FloatOps.addf
      (congrArg₂ FloatOps.mulf w0.w (w0.v ⟨j, hj⟩ (y (1 : Fin 2)))) (congrArg₂ FloatOps.mulf w1.w (w1.v ⟨j, hj⟩ (y (1 : Fin 2)))))
      (congrArg₂ FloatOps.mulf w2.w (w2.v ⟨j, hj⟩ (y (1 : Fin 2))))) (congrArg₂ FloatOps.mulf w3.w (w3.v ⟨j, hj⟩ (y (1 : Fin 2))))
  · rw [View.read_writes_cons_miss]
    · exact h T' (by omega) j hj y hy
    · intro hm
      obtain ⟨j', hj', h0⟩ := (LoadRect.mem_set _).mp hm (0 : Fin 2)
      have hj'' : j' < J := hj'
      have h0 : (y (0 : Fin 2)).val = T + 257 * j' := h0
      omega

end Cert.Proof.K

end
-- ==== Proof.K.Tok.lean ====
/-
  The token loops: each trip gathers, for eight tokens, the four accumulator rows that a token names, weighs them and stores the sum.
-/
module

public import proofs.«01_k».proof.Proof.K.TokV

@[expose] public section

set_option maxRecDepth 16384
set_option maxHeartbeats 4000000

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.ValueIdx (ix1 ix2 ix3)

variable {F : FTy → Type} [FloatOps F]
local notation "𝕄" => MT nD τ sig Unit (Elt F) ℕ (UU nD τ) ℕ

/-- What a token loop reads and writes; the first `T` tokens are stored. -/
abbrev tokRes (c : Dev nD) (yc : Buf (Elt F) (mCi.view.loc (c : Thread nD τ))) (yt : Buf (Elt F) (mTw.view.loc (c : Thread nD τ))) (g : Buf (Elt F) (mAcc.view.loc (c : Thread nD τ))) (J T : ℕ) : sProp 𝕄 :=
  iprop((mCi.view.loc (c : Thread nD τ) ↦{fullShare} yc) ∗ (mTw.view.loc (c : Thread nD τ) ↦{fullShare} yt) ∗ (mAcc.view.loc (c : Thread nD τ) ↦{fullShare} g) ∗ ∃ o, (mOtok.view.loc (c : Thread nD τ) ↦{fullShare} o) ∗ ⌜TAcc yc yt g J T o⌝)

/-- A trip of the token loop (width 0, first half of the tokens). -/
theorem tok8 [∀ e, Nonempty (Elt F e)] (c : Dev nD) {n : ℕ} (hw2 : k0_chk2 (W n)) (cst : F .fp8e4m3) (t : Fin k0_t8_loop.trips) (a : PUnit) (yc : Buf (Elt F) (mCi.view.loc (c : Thread nD τ))) (yt : Buf (Elt F) (mTw.view.loc (c : Thread nD τ)))
   (hc : CiOK yc) (g : Buf (Elt F) (mAcc.view.loc (c : Thread nD τ))) (Q : PUnit → sProp 𝕄) :
    iprop(tokRes c yc yt g 24 (8 * t.val) ∗ (tokRes c yc yt g 24 (8 * t.val + 8) -∗ Q ⟨⟩))
      ⊢ wp frame (wpE defs₀ 𝒱₀ (c : Thread nD τ) none) Set.univ (k0_t8_body (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 (W n) hw2 cst t a) Q := by
  iintro ⟨⟨Hc, Ht, Ha, ⟨%o, Ho, %ho⟩⟩, Hk⟩
  sl_unfold [k0_t8_body]
  sl_exec (disch := exact tokchk (ci_small yc hc _ _))
  sl_step
  iapply Hk
  isplitl [Hc]; · iexact Hc
  isplitl [Ht]; · iexact Ht
  isplitl [Ha]; · iexact Ha
  iexists _; isplitl [Ho]; · iexact Ho
  ipureintro
  have ht : t.val < 16 := t.isLt
  apply TAcc.step (J := 24) (T := 8 * t.val + 7) (by omega) ((by decide +kernel : ∀ t : Fin k0_t8_loop.trips, k0_off192 t = ![8 * t.val + 7, 0]) t)
  case hv => rfl
  case w0 => exact TW.mk' (J := 24) yc yt g ((by decide +kernel : ∀ t : Fin k0_t8_loop.trips, k0_off184 t = ![sw (8 * t.val + 7) 0]) t) _ _ _ _ rfl _
  case w1 => exact TW.mk' (J := 24) yc yt g ((by decide +kernel : ∀ t : Fin k0_t8_loop.trips, k0_off186 t = ![sw (8 * t.val + 7) 1]) t) _ _ _ _ rfl _
  case w2 => exact TW.mk' (J := 24) yc yt g ((by decide +kernel : ∀ t : Fin k0_t8_loop.trips, k0_off188 t = ![sw (8 * t.val + 7) 2]) t) _ _ _ _ rfl _
  case w3 => exact TW.mk' (J := 24) yc yt g ((by decide +kernel : ∀ t : Fin k0_t8_loop.trips, k0_off190 t = ![sw (8 * t.val + 7) 3]) t) _ _ _ _ rfl _
  apply TAcc.step (J := 24) (T := 8 * t.val + 6) (by omega) ((by decide +kernel : ∀ t : Fin k0_t8_loop.trips, k0_off183 t = ![8 * t.val + 6, 0]) t)
  case hv => rfl
  case w0 => exact TW.mk' (J := 24) yc yt g ((by decide +kernel : ∀ t : Fin k0_t8_loop.trips, k0_off175 t = ![sw (8 * t.val + 6) 0]) t) _ _ _ _ rfl _
  case w1 => exact TW.mk' (J := 24) yc yt g ((by decide +kernel : ∀ t : Fin k0_t8_loop.trips, k0_off177 t = ![sw (8 * t.val + 6) 1]) t) _ _ _ _ rfl _
  case w2 => exact TW.mk' (J := 24) yc yt g ((by decide +kernel : ∀ t : Fin k0_t8_loop.trips, k0_off179 t = ![sw (8 * t.val + 6) 2]) t) _ _ _ _ rfl _
  case w3 => exact TW.mk' (J := 24) yc yt g ((by decide +kernel : ∀ t : Fin k0_t8_loop.trips, k0_off181 t = ![sw (8 * t.val + 6) 3]) t) _ _ _ _ rfl _
  apply TAcc.step (J := 24) (T := 8 * t.val + 5) (by omega) ((by decide +kernel : ∀ t : Fin k0_t8_loop.trips, k0_off174 t = ![8 * t.val + 5, 0]) t)
  case hv => rfl
  case w0 => exact TW.mk' (J := 24) yc yt g ((by decide +kernel : ∀ t : Fin k0_t8_loop.trips, k0_off166 t = ![sw (8 * t.val + 5) 0]) t) _ _ _ _ rfl _
  case w1 => exact TW.mk' (J := 24) yc yt g ((by decide +kernel : ∀ t : Fin k0_t8_loop.trips, k0_off168 t = ![sw (8 * t.val + 5) 1]) t) _ _ _ _ rfl _
  case w2 => exact TW.mk' (J := 24) yc yt g ((by decide +kernel : ∀ t : Fin k0_t8_loop.trips, k0_off170 t = ![sw (8 * t.val + 5) 2]) t) _ _ _ _ rfl _
  case w3 => exact TW.mk' (J := 24) yc yt g ((by decide +kernel : ∀ t : Fin k0_t8_loop.trips, k0_off172 t = ![sw (8 * t.val + 5) 3]) t) _ _ _ _ rfl _
  apply TAcc.step (J := 24) (T := 8 * t.val + 4) (by omega) ((by decide +kernel : ∀ t : Fin k0_t8_loop.trips, k0_off165 t = ![8 * t.val + 4, 0]) t)
  case hv => rfl
  case w0 => exact TW.mk' (J := 24) yc yt g ((by decide +kernel : ∀ t : Fin k0_t8_loop.trips, k0_off157 t = ![sw (8 * t.val + 4) 0]) t) _ _ _ _ rfl _
  case w1 => exact TW.mk' (J := 24) yc yt g ((by decide +kernel : ∀ t : Fin k0_t8_loop.trips, k0_off159 t = ![sw (8 * t.val + 4) 1]) t) _ _ _ _ rfl _
  case w2 => exact TW.mk' (J := 24) yc yt g ((by decide +kernel : ∀ t : Fin k0_t8_loop.trips, k0_off161 t = ![sw (8 * t.val + 4) 2]) t) _ _ _ _ rfl _
  case w3 => exact TW.mk' (J := 24) yc yt g ((by decide +kernel : ∀ t : Fin k0_t8_loop.trips, k0_off163 t = ![sw (8 * t.val + 4) 3]) t) _ _ _ _ rfl _
  apply TAcc.step (J := 24) (T := 8 * t.val + 3) (by omega) ((by decide +kernel : ∀ t : Fin k0_t8_loop.trips, k0_off156 t = ![8 * t.val + 3, 0]) t)
  case hv => rfl
  case w0 => exact TW.mk' (J := 24) yc yt g ((by decide +kernel : ∀ t : Fin k0_t8_loop.trips, k0_off148 t = ![sw (8 * t.val + 3) 0]) t) _ _ _ _ rfl _
  case w1 => exact TW.mk' (J := 24) yc yt g ((by decide +kernel : ∀ t : Fin k0_t8_loop.trips, k0_off150 t = ![sw (8 * t.val + 3) 1]) t) _ _ _ _ rfl _
  case w2 => exact TW.mk' (J := 24) yc yt g ((by decide +kernel : ∀ t : Fin k0_t8_loop.trips, k0_off152 t = ![sw (8 * t.val + 3) 2]) t) _ _ _ _ rfl _
  case w3 => exact TW.mk' (J := 24) yc yt g ((by decide +kernel : ∀ t : Fin k0_t8_loop.trips, k0_off154 t = ![sw (8 * t.val + 3) 3]) t) _ _ _ _ rfl _
  apply TAcc.step (J := 24) (T := 8 * t.val + 2) (by omega) ((by decide +kernel : ∀ t : Fin k0_t8_loop.trips, k0_off147 t = ![8 * t.val + 2, 0]) t)
  case hv => rfl
  case w0 => exact TW.mk' (J := 24) yc yt g ((by decide +kernel : ∀ t : Fin k0_t8_loop.trips, k0_off139 t = ![sw (8 * t.val + 2) 0]) t) _ _ _ _ rfl _
  case w1 => exact TW.mk' (J := 24) yc yt g ((by decide +kernel : ∀ t : Fin k0_t8_loop.trips, k0_off141 t = ![sw (8 * t.val + 2) 1]) t) _ _ _ _ rfl _
  case w2 => exact TW.mk' (J := 24) yc yt g ((by decide +kernel : ∀ t : Fin k0_t8_loop.trips, k0_off143 t = ![sw (8 * t.val + 2) 2]) t) _ _ _ _ rfl _
  case w3 => exact TW.mk' (J := 24) yc yt g ((by decide +kernel : ∀ t : Fin k0_t8_loop.trips, k0_off145 t = ![sw (8 * t.val + 2) 3]) t) _ _ _ _ rfl _
  apply TAcc.step (J := 24) (T := 8 * t.val + 1) (by omega) ((by decide +kernel : ∀ t : Fin k0_t8_loop.trips, k0_off138 t = ![8 * t.val + 1, 0]) t)
  case hv => rfl
  case w0 => exact TW.mk' (J := 24) yc yt g ((by decide +kernel : ∀ t : Fin k0_t8_loop.trips, k0_off130 t = ![sw (8 * t.val + 1) 0]) t) _ _ _ _ rfl _
  case w1 => exact TW.mk' (J := 24) yc yt g ((by decide +kernel : ∀ t : Fin k0_t8_loop.trips, k0_off132 t = ![sw (8 * t.val + 1) 1]) t) _ _ _ _ rfl _
  case w2 => exact TW.mk' (J := 24) yc yt g ((by decide +kernel : ∀ t : Fin k0_t8_loop.trips, k0_off134 t = ![sw (8 * t.val + 1) 2]) t) _ _ _ _ rfl _
  case w3 => exact TW.mk' (J := 24) yc yt g ((by decide +kernel : ∀ t : Fin k0_t8_loop.trips, k0_off136 t = ![sw (8 * t.val + 1) 3]) t) _ _ _ _ rfl _
  apply TAcc.step (J := 24) (T := 8 * t.val + 0) (by omega) ((by decide +kernel : ∀ t : Fin k0_t8_loop.trips, k0_off129 t = ![8 * t.val + 0, 0]) t)
  case hv => rfl
  case w0 => exact TW.mk' (J := 24) yc yt g ((by decide +kernel : ∀ t : Fin k0_t8_loop.trips, k0_off121 t = ![sw (8 * t.val + 0) 0]) t) _ _ _ _ rfl _
  case w1 => exact TW.mk' (J := 24) yc yt g ((by decide +kernel : ∀ t : Fin k0_t8_loop.trips, k0_off123 t = ![sw (8 * t.val + 0) 1]) t) _ _ _ _ rfl _
  case w2 => exact TW.mk' (J := 24) yc yt g ((by decide +kernel : ∀ t : Fin k0_t8_loop.trips, k0_off125 t = ![sw (8 * t.val + 0) 2]) t) _ _ _ _ rfl _
  case w3 => exact TW.mk' (J := 24) yc yt g ((by decide +kernel : ∀ t : Fin k0_t8_loop.trips, k0_off127 t = ![sw (8 * t.val + 0) 3]) t) _ _ _ _ rfl _
  exact ho

/-- A trip of the token loop (width 0, second half of the tokens). -/
theorem tok9 [∀ e, Nonempty (Elt F e)] (c : Dev nD) {n : ℕ} (hw2 : k0_chk2 (W n)) (cst : F .fp8e4m3) (t : Fin k0_t9_loop.trips) (a : PUnit) (yc : Buf (Elt F) (mCi.view.loc (c : Thread nD τ))) (yt : Buf (Elt F) (mTw.view.loc (c : Thread nD τ)))
   (hc : CiOK yc) (g : Buf (Elt F) (mAcc.view.loc (c : Thread nD τ))) (Q : PUnit → sProp 𝕄) :
    iprop(tokRes c yc yt g 24 (128 + 8 * t.val) ∗ (tokRes c yc yt g 24 (128 + 8 * t.val + 8) -∗ Q ⟨⟩))
      ⊢ wp frame (wpE defs₀ 𝒱₀ (c : Thread nD τ) none) Set.univ (k0_t9_body (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 (W n) hw2 cst t a) Q := by
  iintro ⟨⟨Hc, Ht, Ha, ⟨%o, Ho, %ho⟩⟩, Hk⟩
  sl_unfold [k0_t9_body]
  sl_exec (disch := exact tokchk (ci_small yc hc _ _))
  sl_step
  iapply Hk
  isplitl [Hc]; · iexact Hc
  isplitl [Ht]; · iexact Ht
  isplitl [Ha]; · iexact Ha
  iexists _; isplitl [Ho]; · iexact Ho
  ipureintro
  have ht : t.val < 16 := t.isLt
  apply TAcc.step (J := 24) (T := 128 + 8 * t.val + 7) (by omega) ((by decide +kernel : ∀ t : Fin k0_t9_loop.trips, k0_off264 t = ![128 + 8 * t.val + 7, 0]) t)
  case hv => rfl
  case w0 => exact TW.mk' (J := 24) yc yt g ((by decide +kernel : ∀ t : Fin k0_t9_loop.trips, k0_off256 t = ![sw (128 + 8 * t.val + 7) 0]) t) _ _ _ _ rfl _
  case w1 => exact TW.mk' (J := 24) yc yt g ((by decide +kernel : ∀ t : Fin k0_t9_loop.trips, k0_off258 t = ![sw (128 + 8 * t.val + 7) 1]) t) _ _ _ _ rfl _
  case w2 => exact TW.mk' (J := 24) yc yt g ((by decide +kernel : ∀ t : Fin k0_t9_loop.trips, k0_off260 t = ![sw (128 + 8 * t.val + 7) 2]) t) _ _ _ _ rfl _
  case w3 => exact TW.mk' (J := 24) yc yt g ((by decide +kernel : ∀ t : Fin k0_t9_loop.trips, k0_off262 t = ![sw (128 + 8 * t.val + 7) 3]) t) _ _ _ _ rfl _
  apply TAcc.step (J := 24) (T := 128 + 8 * t.val + 6) (by omega) ((by decide +kernel : ∀ t : Fin k0_t9_loop.trips, k0_off255 t = ![128 + 8 * t.val + 6, 0]) t)
  case hv => rfl
  case w0 => exact TW.mk' (J := 24) yc yt g ((by decide +kernel : ∀ t : Fin k0_t9_loop.trips, k0_off247 t = ![sw (128 + 8 * t.val + 6) 0]) t) _ _ _ _ rfl _
  case w1 => exact TW.mk' (J := 24) yc yt g ((by decide +kernel : ∀ t : Fin k0_t9_loop.trips, k0_off249 t = ![sw (128 + 8 * t.val + 6) 1]) t) _ _ _ _ rfl _
  case w2 => exact TW.mk' (J := 24) yc yt g ((by decide +kernel : ∀ t : Fin k0_t9_loop.trips, k0_off251 t = ![sw (128 + 8 * t.val + 6) 2]) t) _ _ _ _ rfl _
  case w3 => exact TW.mk' (J := 24) yc yt g ((by decide +kernel : ∀ t : Fin k0_t9_loop.trips, k0_off253 t = ![sw (128 + 8 * t.val + 6) 3]) t) _ _ _ _ rfl _
  apply TAcc.step (J := 24) (T := 128 + 8 * t.val + 5) (by omega) ((by decide +kernel : ∀ t : Fin k0_t9_loop.trips, k0_off246 t = ![128 + 8 * t.val + 5, 0]) t)
  case hv => rfl
  case w0 => exact TW.mk' (J := 24) yc yt g ((by decide +kernel : ∀ t : Fin k0_t9_loop.trips, k0_off238 t = ![sw (128 + 8 * t.val + 5) 0]) t) _ _ _ _ rfl _
  case w1 => exact TW.mk' (J := 24) yc yt g ((by decide +kernel : ∀ t : Fin k0_t9_loop.trips, k0_off240 t = ![sw (128 + 8 * t.val + 5) 1]) t) _ _ _ _ rfl _
  case w2 => exact TW.mk' (J := 24) yc yt g ((by decide +kernel : ∀ t : Fin k0_t9_loop.trips, k0_off242 t = ![sw (128 + 8 * t.val + 5) 2]) t) _ _ _ _ rfl _
  case w3 => exact TW.mk' (J := 24) yc yt g ((by decide +kernel : ∀ t : Fin k0_t9_loop.trips, k0_off244 t = ![sw (128 + 8 * t.val + 5) 3]) t) _ _ _ _ rfl _
  apply TAcc.step (J := 24) (T := 128 + 8 * t.val + 4) (by omega) ((by decide +kernel : ∀ t : Fin k0_t9_loop.trips, k0_off237 t = ![128 + 8 * t.val + 4, 0]) t)
  case hv => rfl
  case w0 => exact TW.mk' (J := 24) yc yt g ((by decide +kernel : ∀ t : Fin k0_t9_loop.trips, k0_off229 t = ![sw (128 + 8 * t.val + 4) 0]) t) _ _ _ _ rfl _
  case w1 => exact TW.mk' (J := 24) yc yt g ((by decide +kernel : ∀ t : Fin k0_t9_loop.trips, k0_off231 t = ![sw (128 + 8 * t.val + 4) 1]) t) _ _ _ _ rfl _
  case w2 => exact TW.mk' (J := 24) yc yt g ((by decide +kernel : ∀ t : Fin k0_t9_loop.trips, k0_off233 t = ![sw (128 + 8 * t.val + 4) 2]) t) _ _ _ _ rfl _
  case w3 => exact TW.mk' (J := 24) yc yt g ((by decide +kernel : ∀ t : Fin k0_t9_loop.trips, k0_off235 t = ![sw (128 + 8 * t.val + 4) 3]) t) _ _ _ _ rfl _
  apply TAcc.step (J := 24) (T := 128 + 8 * t.val + 3) (by omega) ((by decide +kernel : ∀ t : Fin k0_t9_loop.trips, k0_off228 t = ![128 + 8 * t.val + 3, 0]) t)
  case hv => rfl
  case w0 => exact TW.mk' (J := 24) yc yt g ((by decide +kernel : ∀ t : Fin k0_t9_loop.trips, k0_off220 t = ![sw (128 + 8 * t.val + 3) 0]) t) _ _ _ _ rfl _
  case w1 => exact TW.mk' (J := 24) yc yt g ((by decide +kernel : ∀ t : Fin k0_t9_loop.trips, k0_off222 t = ![sw (128 + 8 * t.val + 3) 1]) t) _ _ _ _ rfl _
  case w2 => exact TW.mk' (J := 24) yc yt g ((by decide +kernel : ∀ t : Fin k0_t9_loop.trips, k0_off224 t = ![sw (128 + 8 * t.val + 3) 2]) t) _ _ _ _ rfl _
  case w3 => exact TW.mk' (J := 24) yc yt g ((by decide +kernel : ∀ t : Fin k0_t9_loop.trips, k0_off226 t = ![sw (128 + 8 * t.val + 3) 3]) t) _ _ _ _ rfl _
  apply TAcc.step (J := 24) (T := 128 + 8 * t.val + 2) (by omega) ((by decide +kernel : ∀ t : Fin k0_t9_loop.trips, k0_off219 t = ![128 + 8 * t.val + 2, 0]) t)
  case hv => rfl
  case w0 => exact TW.mk' (J := 24) yc yt g ((by decide +kernel : ∀ t : Fin k0_t9_loop.trips, k0_off211 t = ![sw (128 + 8 * t.val + 2) 0]) t) _ _ _ _ rfl _
  case w1 => exact TW.mk' (J := 24) yc yt g ((by decide +kernel : ∀ t : Fin k0_t9_loop.trips, k0_off213 t = ![sw (128 + 8 * t.val + 2) 1]) t) _ _ _ _ rfl _
  case w2 => exact TW.mk' (J := 24) yc yt g ((by decide +kernel : ∀ t : Fin k0_t9_loop.trips, k0_off215 t = ![sw (128 + 8 * t.val + 2) 2]) t) _ _ _ _ rfl _
  case w3 => exact TW.mk' (J := 24) yc yt g ((by decide +kernel : ∀ t : Fin k0_t9_loop.trips, k0_off217 t = ![sw (128 + 8 * t.val + 2) 3]) t) _ _ _ _ rfl _
  apply TAcc.step (J := 24) (T := 128 + 8 * t.val + 1) (by omega) ((by decide +kernel : ∀ t : Fin k0_t9_loop.trips, k0_off210 t = ![128 + 8 * t.val + 1, 0]) t)
  case hv => rfl
  case w0 => exact TW.mk' (J := 24) yc yt g ((by decide +kernel : ∀ t : Fin k0_t9_loop.trips, k0_off202 t = ![sw (128 + 8 * t.val + 1) 0]) t) _ _ _ _ rfl _
  case w1 => exact TW.mk' (J := 24) yc yt g ((by decide +kernel : ∀ t : Fin k0_t9_loop.trips, k0_off204 t = ![sw (128 + 8 * t.val + 1) 1]) t) _ _ _ _ rfl _
  case w2 => exact TW.mk' (J := 24) yc yt g ((by decide +kernel : ∀ t : Fin k0_t9_loop.trips, k0_off206 t = ![sw (128 + 8 * t.val + 1) 2]) t) _ _ _ _ rfl _
  case w3 => exact TW.mk' (J := 24) yc yt g ((by decide +kernel : ∀ t : Fin k0_t9_loop.trips, k0_off208 t = ![sw (128 + 8 * t.val + 1) 3]) t) _ _ _ _ rfl _
  apply TAcc.step (J := 24) (T := 128 + 8 * t.val + 0) (by omega) ((by decide +kernel : ∀ t : Fin k0_t9_loop.trips, k0_off201 t = ![128 + 8 * t.val + 0, 0]) t)
  case hv => rfl
  case w0 => exact TW.mk' (J := 24) yc yt g ((by decide +kernel : ∀ t : Fin k0_t9_loop.trips, k0_off193 t = ![sw (128 + 8 * t.val + 0) 0]) t) _ _ _ _ rfl _
  case w1 => exact TW.mk' (J := 24) yc yt g ((by decide +kernel : ∀ t : Fin k0_t9_loop.trips, k0_off195 t = ![sw (128 + 8 * t.val + 0) 1]) t) _ _ _ _ rfl _
  case w2 => exact TW.mk' (J := 24) yc yt g ((by decide +kernel : ∀ t : Fin k0_t9_loop.trips, k0_off197 t = ![sw (128 + 8 * t.val + 0) 2]) t) _ _ _ _ rfl _
  case w3 => exact TW.mk' (J := 24) yc yt g ((by decide +kernel : ∀ t : Fin k0_t9_loop.trips, k0_off199 t = ![sw (128 + 8 * t.val + 0) 3]) t) _ _ _ _ rfl _
  exact ho

/-- A trip of the token loop (width 1, first half of the tokens). -/
theorem tok16 [∀ e, Nonempty (Elt F e)] (c : Dev nD) {n : ℕ} (hw2 : k0_chk2 (W n)) (cst : FVec F S16x128 .bf16) (t : Fin k0_t16_loop.trips) (a : PUnit) (yc : Buf (Elt F) (mCi.view.loc (c : Thread nD τ))) (yt : Buf (Elt F) (mTw.view.loc (c : Thread nD τ)))
   (hc : CiOK yc) (g : Buf (Elt F) (mAcc.view.loc (c : Thread nD τ))) (Q : PUnit → sProp 𝕄) :
    iprop(tokRes c yc yt g 8 (8 * t.val) ∗ (tokRes c yc yt g 8 (8 * t.val + 8) -∗ Q ⟨⟩))
      ⊢ wp frame (wpE defs₀ 𝒱₀ (c : Thread nD τ) none) Set.univ (k0_t16_body (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 (W n) hw2 cst t a) Q := by
  iintro ⟨⟨Hc, Ht, Ha, ⟨%o, Ho, %ho⟩⟩, Hk⟩
  sl_unfold [k0_t16_body]
  sl_exec (disch := exact tokchk8 (ci_small yc hc _ _))
  sl_step
  iapply Hk
  isplitl [Hc]; · iexact Hc
  isplitl [Ht]; · iexact Ht
  isplitl [Ha]; · iexact Ha
  iexists _; isplitl [Ho]; · iexact Ho
  ipureintro
  have ht : t.val < 16 := t.isLt
  apply TAcc.step (J := 8) (T := 8 * t.val + 7) (by omega) ((by decide +kernel : ∀ t : Fin k0_t16_loop.trips, k0_off388 t = ![8 * t.val + 7, 0]) t)
  case hv => rfl
  case w0 => exact TW.mk' (J := 8) yc yt g ((by decide +kernel : ∀ t : Fin k0_t16_loop.trips, k0_off380 t = ![sw (8 * t.val + 7) 0]) t) _ _ _ _ rfl _
  case w1 => exact TW.mk' (J := 8) yc yt g ((by decide +kernel : ∀ t : Fin k0_t16_loop.trips, k0_off382 t = ![sw (8 * t.val + 7) 1]) t) _ _ _ _ rfl _
  case w2 => exact TW.mk' (J := 8) yc yt g ((by decide +kernel : ∀ t : Fin k0_t16_loop.trips, k0_off384 t = ![sw (8 * t.val + 7) 2]) t) _ _ _ _ rfl _
  case w3 => exact TW.mk' (J := 8) yc yt g ((by decide +kernel : ∀ t : Fin k0_t16_loop.trips, k0_off386 t = ![sw (8 * t.val + 7) 3]) t) _ _ _ _ rfl _
  apply TAcc.step (J := 8) (T := 8 * t.val + 6) (by omega) ((by decide +kernel : ∀ t : Fin k0_t16_loop.trips, k0_off379 t = ![8 * t.val + 6, 0]) t)
  case hv => rfl
  case w0 => exact TW.mk' (J := 8) yc yt g ((by decide +kernel : ∀ t : Fin k0_t16_loop.trips, k0_off371 t = ![sw (8 * t.val + 6) 0]) t) _ _ _ _ rfl _
  case w1 => exact TW.mk' (J := 8) yc yt g ((by decide +kernel : ∀ t : Fin k0_t16_loop.trips, k0_off373 t = ![sw (8 * t.val + 6) 1]) t) _ _ _ _ rfl _
  case w2 => exact TW.mk' (J := 8) yc yt g ((by decide +kernel : ∀ t : Fin k0_t16_loop.trips, k0_off375 t = ![sw (8 * t.val + 6) 2]) t) _ _ _ _ rfl _
  case w3 => exact TW.mk' (J := 8) yc yt g ((by decide +kernel : ∀ t : Fin k0_t16_loop.trips, k0_off377 t = ![sw (8 * t.val + 6) 3]) t) _ _ _ _ rfl _
  apply TAcc.step (J := 8) (T := 8 * t.val + 5) (by omega) ((by decide +kernel : ∀ t : Fin k0_t16_loop.trips, k0_off370 t = ![8 * t.val + 5, 0]) t)
  case hv => rfl
  case w0 => exact TW.mk' (J := 8) yc yt g ((by decide +kernel : ∀ t : Fin k0_t16_loop.trips, k0_off362 t = ![sw (8 * t.val + 5) 0]) t) _ _ _ _ rfl _
  case w1 => exact TW.mk' (J := 8) yc yt g ((by decide +kernel : ∀ t : Fin k0_t16_loop.trips, k0_off364 t = ![sw (8 * t.val + 5) 1]) t) _ _ _ _ rfl _
  case w2 => exact TW.mk' (J := 8) yc yt g ((by decide +kernel : ∀ t : Fin k0_t16_loop.trips, k0_off366 t = ![sw (8 * t.val + 5) 2]) t) _ _ _ _ rfl _
  case w3 => exact TW.mk' (J := 8) yc yt g ((by decide +kernel : ∀ t : Fin k0_t16_loop.trips, k0_off368 t = ![sw (8 * t.val + 5) 3]) t) _ _ _ _ rfl _
  apply TAcc.step (J := 8) (T := 8 * t.val + 4) (by omega) ((by decide +kernel : ∀ t : Fin k0_t16_loop.trips, k0_off361 t = ![8 * t.val + 4, 0]) t)
  case hv => rfl
  case w0 => exact TW.mk' (J := 8) yc yt g ((by decide +kernel : ∀ t : Fin k0_t16_loop.trips, k0_off353 t = ![sw (8 * t.val + 4) 0]) t) _ _ _ _ rfl _
  case w1 => exact TW.mk' (J := 8) yc yt g ((by decide +kernel : ∀ t : Fin k0_t16_loop.trips, k0_off355 t = ![sw (8 * t.val + 4) 1]) t) _ _ _ _ rfl _
  case w2 => exact TW.mk' (J := 8) yc yt g ((by decide +kernel : ∀ t : Fin k0_t16_loop.trips, k0_off357 t = ![sw (8 * t.val + 4) 2]) t) _ _ _ _ rfl _
  case w3 => exact TW.mk' (J := 8) yc yt g ((by decide +kernel : ∀ t : Fin k0_t16_loop.trips, k0_off359 t = ![sw (8 * t.val + 4) 3]) t) _ _ _ _ rfl _
  apply TAcc.step (J := 8) (T := 8 * t.val + 3) (by omega) ((by decide +kernel : ∀ t : Fin k0_t16_loop.trips, k0_off352 t = ![8 * t.val + 3, 0]) t)
  case hv => rfl
  case w0 => exact TW.mk' (J := 8) yc yt g ((by decide +kernel : ∀ t : Fin k0_t16_loop.trips, k0_off344 t = ![sw (8 * t.val + 3) 0]) t) _ _ _ _ rfl _
  case w1 => exact TW.mk' (J := 8) yc yt g ((by decide +kernel : ∀ t : Fin k0_t16_loop.trips, k0_off346 t = ![sw (8 * t.val + 3) 1]) t) _ _ _ _ rfl _
  case w2 => exact TW.mk' (J := 8) yc yt g ((by decide +kernel : ∀ t : Fin k0_t16_loop.trips, k0_off348 t = ![sw (8 * t.val + 3) 2]) t) _ _ _ _ rfl _
  case w3 => exact TW.mk' (J := 8) yc yt g ((by decide +kernel : ∀ t : Fin k0_t16_loop.trips, k0_off350 t = ![sw (8 * t.val + 3) 3]) t) _ _ _ _ rfl _
  apply TAcc.step (J := 8) (T := 8 * t.val + 2) (by omega) ((by decide +kernel : ∀ t : Fin k0_t16_loop.trips, k0_off343 t = ![8 * t.val + 2, 0]) t)
  case hv => rfl
  case w0 => exact TW.mk' (J := 8) yc yt g ((by decide +kernel : ∀ t : Fin k0_t16_loop.trips, k0_off335 t = ![sw (8 * t.val + 2) 0]) t) _ _ _ _ rfl _
  case w1 => exact TW.mk' (J := 8) yc yt g ((by decide +kernel : ∀ t : Fin k0_t16_loop.trips, k0_off337 t = ![sw (8 * t.val + 2) 1]) t) _ _ _ _ rfl _
  case w2 => exact TW.mk' (J := 8) yc yt g ((by decide +kernel : ∀ t : Fin k0_t16_loop.trips, k0_off339 t = ![sw (8 * t.val + 2) 2]) t) _ _ _ _ rfl _
  case w3 => exact TW.mk' (J := 8) yc yt g ((by decide +kernel : ∀ t : Fin k0_t16_loop.trips, k0_off341 t = ![sw (8 * t.val + 2) 3]) t) _ _ _ _ rfl _
  apply TAcc.step (J := 8) (T := 8 * t.val + 1) (by omega) ((by decide +kernel : ∀ t : Fin k0_t16_loop.trips, k0_off334 t = ![8 * t.val + 1, 0]) t)
  case hv => rfl
  case w0 => exact TW.mk' (J := 8) yc yt g ((by decide +kernel : ∀ t : Fin k0_t16_loop.trips, k0_off326 t = ![sw (8 * t.val + 1) 0]) t) _ _ _ _ rfl _
  case w1 => exact TW.mk' (J := 8) yc yt g ((by decide +kernel : ∀ t : Fin k0_t16_loop.trips, k0_off328 t = ![sw (8 * t.val + 1) 1]) t) _ _ _ _ rfl _
  case w2 => exact TW.mk' (J := 8) yc yt g ((by decide +kernel : ∀ t : Fin k0_t16_loop.trips, k0_off330 t = ![sw (8 * t.val + 1) 2]) t) _ _ _ _ rfl _
  case w3 => exact TW.mk' (J := 8) yc yt g ((by decide +kernel : ∀ t : Fin k0_t16_loop.trips, k0_off332 t = ![sw (8 * t.val + 1) 3]) t) _ _ _ _ rfl _
  apply TAcc.step (J := 8) (T := 8 * t.val + 0) (by omega) ((by decide +kernel : ∀ t : Fin k0_t16_loop.trips, k0_off325 t = ![8 * t.val + 0, 0]) t)
  case hv => rfl
  case w0 => exact TW.mk' (J := 8) yc yt g ((by decide +kernel : ∀ t : Fin k0_t16_loop.trips, k0_off317 t = ![sw (8 * t.val + 0) 0]) t) _ _ _ _ rfl _
  case w1 => exact TW.mk' (J := 8) yc yt g ((by decide +kernel : ∀ t : Fin k0_t16_loop.trips, k0_off319 t = ![sw (8 * t.val + 0) 1]) t) _ _ _ _ rfl _
  case w2 => exact TW.mk' (J := 8) yc yt g ((by decide +kernel : ∀ t : Fin k0_t16_loop.trips, k0_off321 t = ![sw (8 * t.val + 0) 2]) t) _ _ _ _ rfl _
  case w3 => exact TW.mk' (J := 8) yc yt g ((by decide +kernel : ∀ t : Fin k0_t16_loop.trips, k0_off323 t = ![sw (8 * t.val + 0) 3]) t) _ _ _ _ rfl _
  exact ho

/-- A trip of the token loop (width 1, second half of the tokens). -/
theorem tok17 [∀ e, Nonempty (Elt F e)] (c : Dev nD) {n : ℕ} (hw2 : k0_chk2 (W n)) (cst : FVec F S16x128 .bf16) (t : Fin k0_t17_loop.trips) (a : PUnit) (yc : Buf (Elt F) (mCi.view.loc (c : Thread nD τ))) (yt : Buf (Elt F) (mTw.view.loc (c : Thread nD τ)))
   (hc : CiOK yc) (g : Buf (Elt F) (mAcc.view.loc (c : Thread nD τ))) (Q : PUnit → sProp 𝕄) :
    iprop(tokRes c yc yt g 8 (128 + 8 * t.val) ∗ (tokRes c yc yt g 8 (128 + 8 * t.val + 8) -∗ Q ⟨⟩))
      ⊢ wp frame (wpE defs₀ 𝒱₀ (c : Thread nD τ) none) Set.univ (k0_t17_body (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 (W n) hw2 cst t a) Q := by
  iintro ⟨⟨Hc, Ht, Ha, ⟨%o, Ho, %ho⟩⟩, Hk⟩
  sl_unfold [k0_t17_body]
  sl_exec (disch := exact tokchk8 (ci_small yc hc _ _))
  sl_step
  iapply Hk
  isplitl [Hc]; · iexact Hc
  isplitl [Ht]; · iexact Ht
  isplitl [Ha]; · iexact Ha
  iexists _; isplitl [Ho]; · iexact Ho
  ipureintro
  have ht : t.val < 16 := t.isLt
  apply TAcc.step (J := 8) (T := 128 + 8 * t.val + 7) (by omega) ((by decide +kernel : ∀ t : Fin k0_t17_loop.trips, k0_off460 t = ![128 + 8 * t.val + 7, 0]) t)
  case hv => rfl
  case w0 => exact TW.mk' (J := 8) yc yt g ((by decide +kernel : ∀ t : Fin k0_t17_loop.trips, k0_off452 t = ![sw (128 + 8 * t.val + 7) 0]) t) _ _ _ _ rfl _
  case w1 => exact TW.mk' (J := 8) yc yt g ((by decide +kernel : ∀ t : Fin k0_t17_loop.trips, k0_off454 t = ![sw (128 + 8 * t.val + 7) 1]) t) _ _ _ _ rfl _
  case w2 => exact TW.mk' (J := 8) yc yt g ((by decide +kernel : ∀ t : Fin k0_t17_loop.trips, k0_off456 t = ![sw (128 + 8 * t.val + 7) 2]) t) _ _ _ _ rfl _
  case w3 => exact TW.mk' (J := 8) yc yt g ((by decide +kernel : ∀ t : Fin k0_t17_loop.trips, k0_off458 t = ![sw (128 + 8 * t.val + 7) 3]) t) _ _ _ _ rfl _
  apply TAcc.step (J := 8) (T := 128 + 8 * t.val + 6) (by omega) ((by decide +kernel : ∀ t : Fin k0_t17_loop.trips, k0_off451 t = ![128 + 8 * t.val + 6, 0]) t)
  case hv => rfl
  case w0 => exact TW.mk' (J := 8) yc yt g ((by decide +kernel : ∀ t : Fin k0_t17_loop.trips, k0_off443 t = ![sw (128 + 8 * t.val + 6) 0]) t) _ _ _ _ rfl _
  case w1 => exact TW.mk' (J := 8) yc yt g ((by decide +kernel : ∀ t : Fin k0_t17_loop.trips, k0_off445 t = ![sw (128 + 8 * t.val + 6) 1]) t) _ _ _ _ rfl _
  case w2 => exact TW.mk' (J := 8) yc yt g ((by decide +kernel : ∀ t : Fin k0_t17_loop.trips, k0_off447 t = ![sw (128 + 8 * t.val + 6) 2]) t) _ _ _ _ rfl _
  case w3 => exact TW.mk' (J := 8) yc yt g ((by decide +kernel : ∀ t : Fin k0_t17_loop.trips, k0_off449 t = ![sw (128 + 8 * t.val + 6) 3]) t) _ _ _ _ rfl _
  apply TAcc.step (J := 8) (T := 128 + 8 * t.val + 5) (by omega) ((by decide +kernel : ∀ t : Fin k0_t17_loop.trips, k0_off442 t = ![128 + 8 * t.val + 5, 0]) t)
  case hv => rfl
  case w0 => exact TW.mk' (J := 8) yc yt g ((by decide +kernel : ∀ t : Fin k0_t17_loop.trips, k0_off434 t = ![sw (128 + 8 * t.val + 5) 0]) t) _ _ _ _ rfl _
  case w1 => exact TW.mk' (J := 8) yc yt g ((by decide +kernel : ∀ t : Fin k0_t17_loop.trips, k0_off436 t = ![sw (128 + 8 * t.val + 5) 1]) t) _ _ _ _ rfl _
  case w2 => exact TW.mk' (J := 8) yc yt g ((by decide +kernel : ∀ t : Fin k0_t17_loop.trips, k0_off438 t = ![sw (128 + 8 * t.val + 5) 2]) t) _ _ _ _ rfl _
  case w3 => exact TW.mk' (J := 8) yc yt g ((by decide +kernel : ∀ t : Fin k0_t17_loop.trips, k0_off440 t = ![sw (128 + 8 * t.val + 5) 3]) t) _ _ _ _ rfl _
  apply TAcc.step (J := 8) (T := 128 + 8 * t.val + 4) (by omega) ((by decide +kernel : ∀ t : Fin k0_t17_loop.trips, k0_off433 t = ![128 + 8 * t.val + 4, 0]) t)
  case hv => rfl
  case w0 => exact TW.mk' (J := 8) yc yt g ((by decide +kernel : ∀ t : Fin k0_t17_loop.trips, k0_off425 t = ![sw (128 + 8 * t.val + 4) 0]) t) _ _ _ _ rfl _
  case w1 => exact TW.mk' (J := 8) yc yt g ((by decide +kernel : ∀ t : Fin k0_t17_loop.trips, k0_off427 t = ![sw (128 + 8 * t.val + 4) 1]) t) _ _ _ _ rfl _
  case w2 => exact TW.mk' (J := 8) yc yt g ((by decide +kernel : ∀ t : Fin k0_t17_loop.trips, k0_off429 t = ![sw (128 + 8 * t.val + 4) 2]) t) _ _ _ _ rfl _
  case w3 => exact TW.mk' (J := 8) yc yt g ((by decide +kernel : ∀ t : Fin k0_t17_loop.trips, k0_off431 t = ![sw (128 + 8 * t.val + 4) 3]) t) _ _ _ _ rfl _
  apply TAcc.step (J := 8) (T := 128 + 8 * t.val + 3) (by omega) ((by decide +kernel : ∀ t : Fin k0_t17_loop.trips, k0_off424 t = ![128 + 8 * t.val + 3, 0]) t)
  case hv => rfl
  case w0 => exact TW.mk' (J := 8) yc yt g ((by decide +kernel : ∀ t : Fin k0_t17_loop.trips, k0_off416 t = ![sw (128 + 8 * t.val + 3) 0]) t) _ _ _ _ rfl _
  case w1 => exact TW.mk' (J := 8) yc yt g ((by decide +kernel : ∀ t : Fin k0_t17_loop.trips, k0_off418 t = ![sw (128 + 8 * t.val + 3) 1]) t) _ _ _ _ rfl _
  case w2 => exact TW.mk' (J := 8) yc yt g ((by decide +kernel : ∀ t : Fin k0_t17_loop.trips, k0_off420 t = ![sw (128 + 8 * t.val + 3) 2]) t) _ _ _ _ rfl _
  case w3 => exact TW.mk' (J := 8) yc yt g ((by decide +kernel : ∀ t : Fin k0_t17_loop.trips, k0_off422 t = ![sw (128 + 8 * t.val + 3) 3]) t) _ _ _ _ rfl _
  apply TAcc.step (J := 8) (T := 128 + 8 * t.val + 2) (by omega) ((by decide +kernel : ∀ t : Fin k0_t17_loop.trips, k0_off415 t = ![128 + 8 * t.val + 2, 0]) t)
  case hv => rfl
  case w0 => exact TW.mk' (J := 8) yc yt g ((by decide +kernel : ∀ t : Fin k0_t17_loop.trips, k0_off407 t = ![sw (128 + 8 * t.val + 2) 0]) t) _ _ _ _ rfl _
  case w1 => exact TW.mk' (J := 8) yc yt g ((by decide +kernel : ∀ t : Fin k0_t17_loop.trips, k0_off409 t = ![sw (128 + 8 * t.val + 2) 1]) t) _ _ _ _ rfl _
  case w2 => exact TW.mk' (J := 8) yc yt g ((by decide +kernel : ∀ t : Fin k0_t17_loop.trips, k0_off411 t = ![sw (128 + 8 * t.val + 2) 2]) t) _ _ _ _ rfl _
  case w3 => exact TW.mk' (J := 8) yc yt g ((by decide +kernel : ∀ t : Fin k0_t17_loop.trips, k0_off413 t = ![sw (128 + 8 * t.val + 2) 3]) t) _ _ _ _ rfl _
  apply TAcc.step (J := 8) (T := 128 + 8 * t.val + 1) (by omega) ((by decide +kernel : ∀ t : Fin k0_t17_loop.trips, k0_off406 t = ![128 + 8 * t.val + 1, 0]) t)
  case hv => rfl
  case w0 => exact TW.mk' (J := 8) yc yt g ((by decide +kernel : ∀ t : Fin k0_t17_loop.trips, k0_off398 t = ![sw (128 + 8 * t.val + 1) 0]) t) _ _ _ _ rfl _
  case w1 => exact TW.mk' (J := 8) yc yt g ((by decide +kernel : ∀ t : Fin k0_t17_loop.trips, k0_off400 t = ![sw (128 + 8 * t.val + 1) 1]) t) _ _ _ _ rfl _
  case w2 => exact TW.mk' (J := 8) yc yt g ((by decide +kernel : ∀ t : Fin k0_t17_loop.trips, k0_off402 t = ![sw (128 + 8 * t.val + 1) 2]) t) _ _ _ _ rfl _
  case w3 => exact TW.mk' (J := 8) yc yt g ((by decide +kernel : ∀ t : Fin k0_t17_loop.trips, k0_off404 t = ![sw (128 + 8 * t.val + 1) 3]) t) _ _ _ _ rfl _
  apply TAcc.step (J := 8) (T := 128 + 8 * t.val + 0) (by omega) ((by decide +kernel : ∀ t : Fin k0_t17_loop.trips, k0_off397 t = ![128 + 8 * t.val + 0, 0]) t)
  case hv => rfl
  case w0 => exact TW.mk' (J := 8) yc yt g ((by decide +kernel : ∀ t : Fin k0_t17_loop.trips, k0_off389 t = ![sw (128 + 8 * t.val + 0) 0]) t) _ _ _ _ rfl _
  case w1 => exact TW.mk' (J := 8) yc yt g ((by decide +kernel : ∀ t : Fin k0_t17_loop.trips, k0_off391 t = ![sw (128 + 8 * t.val + 0) 1]) t) _ _ _ _ rfl _
  case w2 => exact TW.mk' (J := 8) yc yt g ((by decide +kernel : ∀ t : Fin k0_t17_loop.trips, k0_off393 t = ![sw (128 + 8 * t.val + 0) 2]) t) _ _ _ _ rfl _
  case w3 => exact TW.mk' (J := 8) yc yt g ((by decide +kernel : ∀ t : Fin k0_t17_loop.trips, k0_off395 t = ![sw (128 + 8 * t.val + 0) 3]) t) _ _ _ _ rfl _
  exact ho

end Cert.Proof.K

end
-- ==== Proof.K.Table.lean ====
/-
  The table of the experts that have rows, built by one pass over the row counts: its entries in order, each with the
  expert's first row and the row after its last.
-/
module

public import proofs.«01_k».proof.Proof.K.Live
public import Idealize.ShloMosaic.Lib.WritesUnit

@[expose] public section

set_option maxRecDepth 16384
set_option maxHeartbeats 4000000

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.ValueIdx (ix1 ix2 ix3)

variable {F : FTy → Type} [FloatOps F]
local notation "𝕄" => MT nD τ sig Unit (Elt F) ℕ (UU nD τ) ℕ

/-- Word `e` of the experts' row counts. -/
def gw (fg : mGs.view.ty.Contents (Elt F)) (e : ℕ) : BitVec 32 :=
  if h : e < 15 then (mGs.view.read (Elt F) fg (ix1 ⟨e, h⟩) : Elt F .i32) else 0#32

theorem ld_gw (fg : mGs.view.ty.Contents (Elt F)) {off : Fin 1 → ℕ} {e : ℕ} (he : off = ![e]) (inb : ∀ a, off a + S1.size a ≤ S15.size a)
    (x : (Rect.unit (s := S15) off S1.size inb).toLoadRect.shape.Idx) :
    mGs.view.readAt (Elt F) (Rect.unit (s := S15) off S1.size inb).toLoadRect fg x = gw fg e := by
  subst he
  have h0 : e + 1 ≤ 15 := inb 0
  unfold gw
  rw [dif_pos (by omega), View.readAt_rect]
  show mGs.view.read (Elt F) fg _ = _
  congr 1
  funext a
  have hx : (x a).val < S1.size a := (x a).isLt
  refine Fin.ext ?_
  fin_cases a
  have hx' : (x (0 : Fin 1)).val < 1 := hx
  show e + 1 * (x (0 : Fin 1)).val = e; omega

theorem chk2_all : ∀ n : Fin 16, k0_chk2 (W n) := by decide +kernel
theorem chk2_of {n : ℕ} (hn : n ≤ 15) : k0_chk2 (W n) := chk2_all ⟨n, by omega⟩

/-- A word stored into the table. -/
theorem lv_store (fl : mLive.view.ty.Contents (Elt F)) {off : Fin 2 → ℕ} {q0 i0 : ℕ} (e : off = ![q0, i0]) (inb : ∀ a, off a + S1x1.size a ≤ S3x16.size a)
    (v : Elt F .i32) (L : List (View.Piece (Elt F) S3x16 .i32)) (q i : ℕ) :
    lv (mLive.view.writes (Elt F) fl ((⟨Rect.unit (s := S3x16) off S1x1.size inb, fun _ => v⟩ : View.Piece (Elt F) S3x16 .i32) :: L)) q i
      = if q = q0 ∧ i = i0 then (v : BitVec 32) else lv (mLive.view.writes (Elt F) fl L) q i := by
  have e0 := e
  subst e
  have h0 : q0 + 1 ≤ 3 := inb 0
  have h1 : i0 + 1 ≤ 16 := inb 1
  by_cases h : q = q0 ∧ i = i0
  · obtain ⟨rfl, rfl⟩ := h
    unfold lv
    rw [if_pos ⟨rfl, rfl⟩, dif_pos ⟨by omega, by omega⟩]
    exact View.read_writes_cons_unit_of_mem mLive.view fl inb (fun _ => v) L _ (fun a => ⟨0, by fin_cases a <;> exact Nat.one_pos⟩) rfl (by intro a; fin_cases a <;> rfl)
  · rw [if_neg h]
    unfold lv
    by_cases hb : q < 3 ∧ i < 16
    · rw [dif_pos hb, dif_pos hb]
      by_cases hq : q = q0
      · exact View.read_writes_cons_unit_of_not_mem mLive.view fl inb (fun _ => v) L _ rfl (1 : Fin 2) (by show i < i0 ∨ i0 + 1 ≤ i; omega)
      · exact View.read_writes_cons_unit_of_not_mem mLive.view fl inb (fun _ => v) L _ rfl (0 : Fin 2) (by show q < q0 ∨ q0 + 1 ≤ q; omega)
    · rw [dif_neg hb, dif_neg hb]

/-- The rows before expert `e`. -/
def pre (fg : mGs.view.ty.Contents (Elt F)) (e : ℕ) : ℕ := ∑ j ∈ Finset.range e, (gw fg j).toNat
theorem pre_succ (fg : mGs.view.ty.Contents (Elt F)) (e : ℕ) : pre fg (e + 1) = pre fg e + (gw fg e).toNat := Finset.sum_range_succ _ _
theorem pre_mono (fg : mGs.view.ty.Contents (Elt F)) {a b : ℕ} (h : a ≤ b) : pre fg a ≤ pre fg b :=
  Finset.sum_le_sum_of_subset (Finset.range_mono h)

/-- The table after `k` experts: `n` entries, in order, each an expert that has rows with its rows. -/
structure LiveI (fg : mGs.view.ty.Contents (Elt F)) (k n : ℕ) (fl : mLive.view.ty.Contents (Elt F)) : Prop where
  le : n ≤ k
  ex : ∀ i < n, (lv fl 0 i).toNat < k
  lo : ∀ i < n, (lv fl 1 i).toNat = pre fg (lv fl 0 i).toNat
  hi : ∀ i < n, (lv fl 2 i).toNat = pre fg ((lv fl 0 i).toNat + 1)
  lt : ∀ i < n, (lv fl 1 i).toNat < (lv fl 2 i).toNat
  chain : ∀ i < n, (lv fl 1 i).toNat = if i = 0 then 0 else (lv fl 2 (i - 1)).toNat
  last : pre fg k = if n = 0 then 0 else (lv fl 2 (n - 1)).toNat

theorem LiveI.ord {fg : mGs.view.ty.Contents (Elt F)} {k n : ℕ} {fl : mLive.view.ty.Contents (Elt F)} (h : LiveI fg k n fl) :
    ∀ i < n, ∀ i' < i, (lv fl 2 i').toNat ≤ (lv fl 1 i).toNat := by
  intro i
  induction i with
  | zero => intro _ i' h'; omega
  | succ i ih =>
    intro hi i' hi'
    have hc := h.chain (i + 1) hi
    rw [if_neg (by omega), Nat.add_sub_cancel] at hc
    rw [hc]
    by_cases e : i' = i
    · subst e; exact le_rfl
    · have h1 := ih (by omega) i' (by omega)
      have h2 := h.lt i (by omega)
      omega

/-- The table complete. -/
theorem LiveI.ok {fg : mGs.view.ty.Contents (Elt F)} {n : ℕ} {fl : mLive.view.ty.Contents (Elt F)} (h : LiveI fg 15 n fl) (hs : pre fg 15 = 1024) : LiveOK n fl :=
  ⟨h.le, h.ex, fun i hi => ⟨h.lt i hi, by rw [h.hi i hi, ← hs]; exact pre_mono _ (h.ex i hi)⟩, h.ord⟩

theorem LiveI.step {fg : mGs.view.ty.Contents (Elt F)} {k n : ℕ} {fl fl' : mLive.view.ty.Contents (Elt F)} (h : LiveI fg k n fl)
    (h0 : (lv fl' 0 n).toNat = k) (h1 : (lv fl' 1 n).toNat = pre fg k) (h2 : (lv fl' 2 n).toNat = pre fg (k + 1))
    (hne : ∀ q i, i ≠ n → lv fl' q i = lv fl q i) (n' : ℕ) (hn : n' = if 0 < (gw fg k).toNat then n + 1 else n) : LiveI fg (k + 1) n' fl' := by
  have hp := pre_succ fg k
  have hl := h.last
  have hle := h.le
  by_cases hv : 0 < (gw fg k).toNat
  · rw [if_pos hv] at hn; subst hn
    refine ⟨by omega, fun i hi => ?_, fun i hi => ?_, fun i hi => ?_, fun i hi => ?_, fun i hi => ?_, ?_⟩
    · by_cases e : i = n
      · subst e; omega
      · rw [hne _ _ e]; have := h.ex i (by omega); omega
    · by_cases e : i = n
      · subst e; rw [h1, h0]
      · rw [hne _ _ e, hne _ _ e]; exact h.lo i (by omega)
    · by_cases e : i = n
      · subst e; rw [h2, h0]
      · rw [hne _ _ e, hne _ _ e]; exact h.hi i (by omega)
    · by_cases e : i = n
      · subst e; omega
      · rw [hne _ _ e, hne _ _ e]; exact h.lt i (by omega)
    · by_cases e : i = n
      · subst e; rw [h1, hl]
        by_cases e0 : i = 0
        · rw [if_pos e0, if_pos e0]
        · rw [if_neg e0, if_neg e0, hne _ _ (by omega)]
      · rw [hne _ _ e, h.chain i (by omega), hne _ _ (by omega)]
    · rw [if_neg (by omega), Nat.add_sub_cancel, h2]
  · rw [if_neg hv] at hn; subst hn
    refine ⟨by omega, fun i hi => ?_, fun i hi => ?_, fun i hi => ?_, fun i hi => ?_, fun i hi => ?_, ?_⟩
    · rw [hne _ _ (by omega)]; have := h.ex i hi; omega
    · rw [hne _ _ (by omega), hne _ _ (by omega)]; exact h.lo i hi
    · rw [hne _ _ (by omega), hne _ _ (by omega)]; exact h.hi i hi
    · rw [hne _ _ (by omega), hne _ _ (by omega)]; exact h.lt i hi
    · rw [hne _ _ (by omega), h.chain i hi, hne _ _ (by omega)]
    · rw [hp, hl]
      by_cases e0 : n' = 0
      · rw [if_pos e0, if_pos e0]; omega
      · rw [if_neg e0, if_neg e0, hne _ _ (by omega)]; omega

/-- The table's loop: its invariant. -/
abbrev t1Inv (c : Dev nD) (fg : Buf (Elt F) (mGs.view.loc (c : Thread nD τ))) (k : ℕ) (a : BitVec 32 × BitVec 32) : sProp 𝕄 :=
  iprop((mGs.view.loc (c : Thread nD τ) ↦{fullShare} fg) ∗ ∃ fl, (mLive.view.loc (c : Thread nD τ) ↦{fullShare} fl) ∗ ⌜∃ n, a.1 = W n ∧ a.2.toNat = pre fg k ∧ LiveI fg k n fl⌝)

theorem t1_trip [∀ e, Nonempty (Elt F e)] (c : Dev nD) (fg : Buf (Elt F) (mGs.view.loc (c : Thread nD τ))) (hs : pre fg 15 = 1024) (k : Fin k0_t1_loop.trips) (a : BitVec 32 × BitVec 32) :
    t1Inv c fg k.val a ⊢ wp frame (wpE defs₀ 𝒱₀ (c : Thread nD τ) none) Set.univ (k0_t1_body (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 k a) (t1Inv c fg (k.val + 1)) := by
  have hk : k.val < 15 := k.isLt
  obtain ⟨a, b⟩ := a
  iintro ⟨Hg, ⟨%fl, Hl, %hI⟩⟩
  obtain ⟨n, rfl, hb, hI⟩ := hI
  have hb : b.toNat = pre fg k.val := hb
  have hn := hI.le
  have e1 : k0_off1 k = ![k.val] := congrArg (fun z => (![z] : Fin 1 → ℕ)) (iv_toNat (by omega))
  have o (q : ℕ) : (![q, (W n).toNat] : Fin 2 → ℕ) = ![q, n] := congrArg (fun z => (![q, z] : Fin 2 → ℕ)) (W_toNat (by omega))
  have hc : k0_chk1 (W n) := by
    have hin : ∀ q : ℕ, q < 3 → ∀ a, (![q, (W n).toNat] : Fin 2 → ℕ) a + S1x1.size a ≤ S3x16.size a := fun q hq => by
      rw [o]; intro a; fin_cases a <;> simp [Shape.size] <;> omega
    exact ⟨hin 0 (by omega), hin 1 (by omega), hin 2 (by omega)⟩
  sl_unfold [k0_t1_body]
  sl_exec (disch := exact hc)
  sl_step
  isplitl [Hg]; · iexact Hg
  iexists _
  isplitl [Hl]; · iexact Hl
  ipureintro
  have hw : ∀ x, mGs.view.readAt (Elt F) (Rect.unit (s := S15) (k0_off1 k) S1.size (k0_off1_inb k)).toLoadRect fg x = gw fg k.val := fun x => ld_gw fg e1 _ x
  have hpm := pre_mono fg (show k.val + 1 ≤ 15 by omega)
  have hps := pre_succ fg k.val
  have hadd : (Scalar.addi b (gw fg k.val)).toNat = pre fg (k.val + 1) := by
    show (b + gw fg k.val).toNat = _
    rw [BitVec.toNat_add]; omega
  have hv72 : t1_trip.sl.v2772 c fg k b = Scalar.addi b (gw fg k.val) := congrArg (Scalar.addi b) (hw _)
  refine ⟨if 0 < (gw fg k.val).toNat then n + 1 else n, ?_, ?_, ?_⟩
  · show Scalar.addi (W n) (Scalar.extui (Scalar.cmpi .sgt (mGs.view.readAt (Elt F) (Rect.unit (s := S15) (k0_off1 k) S1.size (k0_off1_inb k)).toLoadRect fg _) 0#32)) = _
    rw [hw]
    have hgt : (Scalar.cmpi .sgt (gw fg k.val) 0#32 = 1#1) ↔ 0 < (gw fg k.val).toNat := by
      have hi := toInt_small (x := gw fg k.val) rfl (by omega)
      show BitVec.ofBool (BitVec.slt 0#32 (gw fg k.val)) = 1#1 ↔ _
      rw [BitVec.slt_eq_decide, hi]
      by_cases hz : 0 < (gw fg k.val).toNat
      · have : decide ((0#32 : BitVec 32).toInt < ((gw fg k.val).toNat : ℤ)) = true := decide_eq_true (by simpa using hz)
        rw [this]; exact ⟨fun _ => hz, fun _ => rfl⟩
      · have : decide ((0#32 : BitVec 32).toInt < ((gw fg k.val).toNat : ℤ)) = false := decide_eq_false (by simpa using hz)
        rw [this]; exact ⟨fun h => absurd h (by decide), fun h => absurd h hz⟩
    by_cases hz : 0 < (gw fg k.val).toNat
    · rw [if_pos hz, hgt.mpr hz]
      have := W_toNat (n := n) (by omega)
      apply BitVec.eq_of_toNat_eq
      show (Scalar.addi (W n) 1#32).toNat = _
      rw [W_toNat (by omega)]
      simp only [Scalar.addi, IntOp.addi, BitVec.toNat_add, this, BitVec.toNat_ofNat]; omega
    · rw [if_neg hz]
      have hz0 : Scalar.cmpi .sgt (gw fg k.val) 0#32 = 0#1 := by
        rcases (show ∀ b : BitVec 1, b = 0#1 ∨ b = 1#1 by decide) (Scalar.cmpi .sgt (gw fg k.val) 0#32) with h | h
        · exact h
        · exact absurd (hgt.mp h) hz
      rw [hz0]
      show W n + 0#32 = W n
      simp
  · show (t1_trip.sl.v2772 c fg k b).toNat = _
    rw [hv72, hadd]
  · show LiveI fg (k.val + 1) _ (mLive.view.writes (Elt F) fl [⟨Rect.unit (k0_off4 (W n)) S1x1.size (k0_off4_inb (W n) hc), fun _ => t1_trip.sl.v2772 c fg k b⟩,
      ⟨Rect.unit (k0_off3 (W n)) S1x1.size (k0_off3_inb (W n) hc), fun _ => b⟩, ⟨Rect.unit (k0_off2 (W n)) S1x1.size (k0_off2_inb (W n) hc), fun _ => Scf.iv 0#32 1#32 k.val⟩])
    have hl (q i : ℕ) := (lv_store fl (o 2) (k0_off4_inb (W n) hc) (t1_trip.sl.v2772 c fg k b) [⟨Rect.unit (k0_off3 (W n)) S1x1.size (k0_off3_inb (W n) hc), fun _ => b⟩, ⟨Rect.unit (k0_off2 (W n)) S1x1.size (k0_off2_inb (W n) hc), fun _ => Scf.iv 0#32 1#32 k.val⟩] q i).trans
      (congrArg (fun z => if q = 2 ∧ i = n then (t1_trip.sl.v2772 c fg k b : BitVec 32) else z) ((lv_store fl (o 1) (k0_off3_inb (W n) hc) b [⟨Rect.unit (k0_off2 (W n)) S1x1.size (k0_off2_inb (W n) hc), fun _ => Scf.iv 0#32 1#32 k.val⟩] q i).trans
        (congrArg (fun z => if q = 1 ∧ i = n then (b : BitVec 32) else z) (lv_store fl (o 0) (k0_off2_inb (W n) hc) (Scf.iv 0#32 1#32 k.val) [] q i))))
    refine hI.step ?_ ?_ ?_ ?_ _ rfl
    · refine (congrArg BitVec.toNat (hl 0 n)).trans ?_
      rw [if_neg (by omega), if_neg (by omega), if_pos ⟨rfl, rfl⟩, iv_toNat (by omega)]
    · refine (congrArg BitVec.toNat (hl 1 n)).trans ?_
      rw [if_neg (by omega), if_pos ⟨rfl, rfl⟩, hb]
    · refine (congrArg BitVec.toNat (hl 2 n)).trans ?_
      rw [if_pos ⟨rfl, rfl⟩, hv72, hadd]
    · intro q i hi
      refine (hl q i).trans ?_
      rw [if_neg (by omega), if_neg (by omega), if_neg (by omega)]; rfl

end Cert.Proof.K

end
-- ==== Proof.K.Start.lean ====
/-
  The copies of weights begun before the first unit: unit `s` in slot `s`, its first columns if it is one of the first
  `n`, else its last columns if it is one of the next `n`.
-/
module

public import proofs.«01_k».proof.Proof.K.Table

@[expose] public section

set_option maxRecDepth 16384
set_option maxHeartbeats 4000000

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.ValueIdx (ix1 ix2 ix3)

variable {F : FTy → Type} [FloatOps F]
local notation "𝕄" => MT nD τ sig Unit (Elt F) ℕ (UU nD τ) ℕ

/-- The word `s` less `x·n`. -/
abbrev proW (x s n : ℕ) : BitVec 32 := Scalar.subi (W s) (Scalar.muli (W x) (W n))
/-- Whether it lies in `0 … n - 1`. -/
abbrev proC (x s n : ℕ) : BitVec 1 :=
  Scalar.cmpi .ne (Scalar.extui (Scalar.andi (Scalar.cmpi .sge (proW x s n) 0#32) (Scalar.cmpi .slt (proW x s n) (W n)))) (0#32 : BitVec 32)

theorem proC_iff : ∀ x : Fin 2, ∀ s : Fin 6, ∀ n : Fin 16, (proC x s n = 1#1) ↔ (x.val * n.val ≤ s.val ∧ s.val - x.val * n.val < n.val) := by
  decide +kernel
theorem proW_toNat : ∀ x : Fin 2, ∀ s : Fin 6, ∀ n : Fin 16, x.val * n.val ≤ s.val → (proW x s n).toNat = s.val - x.val * n.val := by
  decide +kernel

/-- Slot `s` between its two conditionals. -/
def mid (fl : mLive.view.ty.Contents (Elt F)) (n s : ℕ) : St := if s < n then .fly0 (exi fl s) else .free

/-- The conditional that begins the copy of unit `s`'s first columns. -/
theorem start0 [∀ e, Nonempty (Elt F e)] (c : Dev nD) (fw : Buf (Elt F) (aW.view.loc (c : Thread nD τ))) (fl : Buf (Elt F) (mLive.view.loc (c : Thread nD τ))) {n : ℕ} (hn : n ≤ 15) (hL : LiveOK n fl)
    (s : Fin 6) {α : Type} (A : proC 0 s n = 1#1 → Prog (TpuEff nD τ sig (Elt F) Λ₀ .tc) α) (B : ¬ proC 0 s n = 1#1 → Prog (TpuEff nD τ sig (Elt F) Λ₀ .tc) α) (p : Prog (TpuEff nD τ sig (Elt F) Λ₀ .tc) α) {chk : BitVec 32 → Prop} (dec : ∀ v, Decidable (chk v))
    {offL offS offR} {offW : BitVec 32 → Fin 3 → ℕ}
    (hA : ∀ h, ∃ iL iS iR iW p1 p2, A h = (issue0 (F := F) dec offL iL offS iS offR iR offW iW p1 p2 >>= fun _ => p)) (hB : ∀ h, B h = p)
    (hchk : ∀ v : BitVec 32, v.toNat < 15 → chk v) (hoL : offL = ![0, (proW 0 s n).toNat]) (hoS : offS = ![s.val]) (hoR : offR = ![s.val, 0, 0])
    (hW : ∀ v : BitVec 32, offW v = ![v.toNat, 0, 0]) (Q : α → sProp 𝕄) :
    iprop(rSt c fw s .free ∗ (mLive.view.loc (c : Thread nD τ) ↦{fullShare} fl) ∗ ((rSt c fw s (mid fl n s.val) ∗ (mLive.view.loc (c : Thread nD τ) ↦{fullShare} fl)) -∗ wp frame (wpE defs₀ 𝒱₀ (c : Thread nD τ) none) Set.univ p Q))
      ⊢ wp frame (wpE defs₀ 𝒱₀ (c : Thread nD τ) none) Set.univ (if h : proC 0 s n = 1#1 then A h else B h) Q := by
  have hc : proC 0 s n = 1#1 ↔ 0 ≤ s.val ∧ s.val < n := (proC_iff 0 s ⟨n, by omega⟩).trans ⟨fun h => by simp at h; omega, fun h => by simp; omega⟩
  have hw : (proW 0 s n).toNat = s.val := (proW_toNat 0 s ⟨n, by omega⟩ (by simp)).trans (by simp)
  exact site0 c fw fl s _ A B p .free (mid fl n s.val) s.val (exi fl s.val) dec hA hB (fun h => ⟨rfl, if_pos (hc.mp h).2, hL.ex_val (hc.mp h).2, hchk, hoL.trans (congrArg (fun z => (![0, z] : Fin 2 → ℕ)) hw), hoS, hoR⟩)
    (fun h => if_neg (fun h2 => h (hc.mpr ⟨Nat.zero_le _, h2⟩))) hW Q

/-- The conditional that begins the copy of unit `s`'s last columns. -/
theorem start1 [∀ e, Nonempty (Elt F e)] (c : Dev nD) (fw : Buf (Elt F) (aW.view.loc (c : Thread nD τ))) (fl : Buf (Elt F) (mLive.view.loc (c : Thread nD τ))) {n : ℕ} (hn : n ≤ 15) (hL : LiveOK n fl)
    (s : Fin 6) {α : Type} (A : proC 1 s n = 1#1 → Prog (TpuEff nD τ sig (Elt F) Λ₀ .tc) α) (B : ¬ proC 1 s n = 1#1 → Prog (TpuEff nD τ sig (Elt F) Λ₀ .tc) α) (p : Prog (TpuEff nD τ sig (Elt F) Λ₀ .tc) α) {chk : BitVec 32 → Prop} (dec : ∀ v, Decidable (chk v))
    {offL offS offR} {offW : BitVec 32 → Fin 3 → ℕ}
    (hA : ∀ h, ∃ iL iS iR iW p1 p2, A h = (issue1 (F := F) dec offL iL offS iS offR iR offW iW p1 p2 >>= fun _ => p)) (hB : ∀ h, B h = p)
    (hchk : ∀ v : BitVec 32, v.toNat < 15 → chk v) (hoL : offL = ![0, (proW 1 s n).toNat]) (hoS : offS = ![s.val]) (hoR : offR = ![s.val, 0, 0])
    (hW : ∀ v : BitVec 32, offW v = ![v.toNat, 0, 3072]) (Q : α → sProp 𝕄) :
    iprop(rSt c fw s (mid fl n s.val) ∗ (mLive.view.loc (c : Thread nD τ) ↦{fullShare} fl) ∗ ((rSt c fw s (ust fl n s.val) ∗ (mLive.view.loc (c : Thread nD τ) ↦{fullShare} fl)) -∗ wp frame (wpE defs₀ 𝒱₀ (c : Thread nD τ) none) Set.univ p Q))
      ⊢ wp frame (wpE defs₀ 𝒱₀ (c : Thread nD τ) none) Set.univ (if h : proC 1 s n = 1#1 then A h else B h) Q := by
  have hc : proC 1 s n = 1#1 ↔ n ≤ s.val ∧ s.val < 2 * n := (proC_iff 1 s ⟨n, by omega⟩).trans ⟨fun h => by simp at h; omega, fun h => by simp; omega⟩
  have hw : proC 1 s n = 1#1 → (proW 1 s n).toNat = s.val - n := fun h => (proW_toNat 1 s ⟨n, by omega⟩ (by have := hc.mp h; simp; omega)).trans (by simp)
  exact site1 c fw fl s _ A B p (mid fl n s.val) (ust fl n s.val) (s.val - n) (exi fl (s.val - n)) dec hA hB (fun h => ⟨if_neg (by have := hc.mp h; omega), by unfold ust; rw [if_neg (by have := hc.mp h; omega), if_pos (by have := hc.mp h; omega)], hL.ex_val (by have := hc.mp h; omega), hchk, hoL.trans (congrArg (fun z => (![0, z] : Fin 2 → ℕ)) (hw h)), hoS, hoR⟩)
    (fun h => by
      by_cases h2 : s.val < n
      · exact (if_pos h2).trans (if_pos h2).symm
      · exact ((if_neg h2).trans (if_neg (fun h3 => h (hc.mpr (by omega))))).trans (if_neg h2).symm) hW Q

end Cert.Proof.K

end
-- ==== Proof.K.Pro.lean ====
/-
  The start of the body: the tables copied in, the table of live experts built, and the first copies of weights begun.
-/
module

public import proofs.«01_k».proof.Proof.K.Start

@[expose] public section

set_option maxRecDepth 16384
set_option maxHeartbeats 4000000

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.ValueIdx (ix1 ix2 ix3)

variable {F : FTy → Type} [FloatOps F]
local notation "𝕄" => MT nD τ sig Unit (Elt F) ℕ (UU nD τ) ℕ

/-- The rows of the activations' buffer that the copy fills. -/
abbrev hsl : Memref sig .tc .vmem S1024x1408 .fp8e4m3 :=
  mH.slice (Rect.unit (s := S1120x1408) ![0, 0] S1024x1408.size inb_S1120x1408_S1024x1408_0_0) (fun _ => rfl)

/-- A whole array copied onto a whole one. -/
abbrev copied {s : Shape} {e : EltTy} {sp sp' : Space} (m : Memref sig .tc sp s e) (m' : Memref sig .tc sp' s e) (y : m'.view.ty.Contents (Elt F)) (x : m.view.ty.Contents (Elt F)) : m'.view.ty.Contents (Elt F) :=
  View.write (Elt F) m'.view y (ReadAs.same.apply (m.view.read (Elt F) x)) Finset.univ

/-- A copy of a whole array onto a whole one, in flight. -/
abbrev FlyT {s : Shape} {e : EltTy} {sp sp' : Space} (c : Dev nD) (k : DmaSem sig) (amt : ℕ) (m : Memref sig .tc sp s e) (m' : Memref sig .tc sp' s e)
    (y : Buf (Elt F) (m'.view.loc (c : Thread nD τ))) (x : Buf (Elt F) (m.view.loc (c : Thread nD τ))) : sProp 𝕄 :=
  iprop(Transfers.Flight (countersEmb (U := UU nD τ)) (c : Thread nD τ) (SemLoc.dma k) () amt
    iprop((m'.view.loc (c : Thread nD τ) ↦{fullShare} copied m m' y x) ∗ (m.view.loc (c : Thread nD τ) ↦[m.view.set]{fullShare} x))
    ∗ (m.view.loc (c : Thread nD τ) ↦[Finset.univ \ m.view.set]{fullShare} x))

/-- The copy of the activations in flight. -/
abbrev FlyH (c : Dev nD) (y : Buf (Elt F) (mH.view.loc (c : Thread nD τ))) (x : Buf (Elt F) (aH.view.loc (c : Thread nD τ))) : sProp 𝕄 :=
  iprop(Transfers.Flight (countersEmb (U := UU nD τ)) (c : Thread nD τ) (SemLoc.dma cc0_scratch14.sem) () 45056
    iprop((hsl.view.loc (c : Thread nD τ) ↦[hsl.view.set]{fullShare} hsl.view.writes (Elt F) y [⟨Rect.whole S1024x1408, ReadAs.same.apply (aH.view.read (Elt F) x)⟩])
      ∗ (aH.view.loc (c : Thread nD τ) ↦[aH.view.set]{fullShare} x))
    ∗ (aH.view.loc (c : Thread nD τ) ↦[Finset.univ \ aH.view.set]{fullShare} x))

/-- The copies begun, the experts' counts copied in and the table built from them; then slot 0's first copies. -/
theorem pro85 [∀ e, Nonempty (Elt F e)] (c : Dev nD) (xg : Buf (Elt F) (aGs.view.loc (c : Thread nD τ))) (xh : Buf (Elt F) (aH.view.loc (c : Thread nD τ))) (xc : Buf (Elt F) (aCi.view.loc (c : Thread nD τ))) (xt : Buf (Elt F) (aTw.view.loc (c : Thread nD τ))) (xs : Buf (Elt F) (aHs.view.loc (c : Thread nD τ))) (xw : Buf (Elt F) (aWs.view.loc (c : Thread nD τ))) (yg : Buf (Elt F) (mGs.view.loc (c : Thread nD τ))) (yc : Buf (Elt F) (mCi.view.loc (c : Thread nD τ))) (yt : Buf (Elt F) (mTw.view.loc (c : Thread nD τ))) (ys : Buf (Elt F) (mHs.view.loc (c : Thread nD τ))) (yw : Buf (Elt F) (mWs.view.loc (c : Thread nD τ))) (yl : Buf (Elt F) (mLive.view.loc (c : Thread nD τ))) (yh : Buf (Elt F) (mH.view.loc (c : Thread nD τ)))
    (fw : Buf (Elt F) (aW.view.loc (c : Thread nD τ))) (hs : pre (copied aGs mGs yg xg) 15 = 1024) (W0 : Finset _) (Q : (Σ' (v10_0 : BitVec 32) (k0_hw2 : k0_chk2 v10_0) (v25 : BitVec 32), BitVec 32) → sProp 𝕄) :
    iprop(((aGs.view.loc (c : Thread nD τ) ↦{fullShare} xg) ∗ (aH.view.loc (c : Thread nD τ) ↦{fullShare} xh) ∗ (aCi.view.loc (c : Thread nD τ) ↦{fullShare} xc) ∗ (aTw.view.loc (c : Thread nD τ) ↦{fullShare} xt) ∗ (aHs.view.loc (c : Thread nD τ) ↦{fullShare} xs) ∗ (aWs.view.loc (c : Thread nD τ) ↦{fullShare} xw) ∗ (mGs.view.loc (c : Thread nD τ) ↦{fullShare} yg) ∗ (mCi.view.loc (c : Thread nD τ) ↦{fullShare} yc) ∗ (mTw.view.loc (c : Thread nD τ) ↦{fullShare} yt) ∗ (mHs.view.loc (c : Thread nD τ) ↦{fullShare} ys) ∗ (mWs.view.loc (c : Thread nD τ) ↦{fullShare} yw) ∗ (mLive.view.loc (c : Thread nD τ) ↦{fullShare} yl) ∗ (hsl.view.loc (c : Thread nD τ) ↦[hsl.view.set]{fullShare} yh) ∗ semVal ((c : Thread nD τ), SemLoc.dma cc0_scratch12.sem) 0 ∗ semVal ((c : Thread nD τ), SemLoc.dma cc0_scratch14.sem) 0 ∗ semVal ((c : Thread nD τ), SemLoc.dma ((cc0_scratch13.slice (Rect.unit (s := S4) ![0] S1.size inb_S4_S1_0)).squeeze S_ squeezes_S1_S_).sem) 0 ∗ semVal ((c : Thread nD τ), SemLoc.dma ((cc0_scratch13.slice (Rect.unit (s := S4) ![1] S1.size inb_S4_S1_1)).squeeze S_ squeezes_S1_S_).sem) 0 ∗ semVal ((c : Thread nD τ), SemLoc.dma ((cc0_scratch13.slice (Rect.unit (s := S4) ![2] S1.size inb_S4_S1_2)).squeeze S_ squeezes_S1_S_).sem) 0 ∗ semVal ((c : Thread nD τ), SemLoc.dma ((cc0_scratch13.slice (Rect.unit (s := S4) ![3] S1.size inb_S4_S1_3)).squeeze S_ squeezes_S1_S_).sem) 0 ∗ rSt c fw 0 .free ∗ owes (c : Thread nD τ) 0 W0)
        ∗ (∀ n fl v25 c1, ∀ hw2 : k0_chk2 (W n), ⌜n ≤ 15 ∧ LiveI (copied aGs mGs yg xg) 15 n fl⌝
          -∗ ((FlyT c ((cc0_scratch13.slice (Rect.unit (s := S4) ![0] S1.size inb_S4_S1_0)).squeeze S_ squeezes_S1_S_).sem 128 aCi mCi yc xc ∗ FlyT c ((cc0_scratch13.slice (Rect.unit (s := S4) ![1] S1.size inb_S4_S1_1)).squeeze S_ squeezes_S1_S_).sem 128 aTw mTw yt xt ∗ FlyT c ((cc0_scratch13.slice (Rect.unit (s := S4) ![2] S1.size inb_S4_S1_2)).squeeze S_ squeezes_S1_S_).sem 128 aHs mHs ys xs ∗ FlyT c ((cc0_scratch13.slice (Rect.unit (s := S4) ![3] S1.size inb_S4_S1_3)).squeeze S_ squeezes_S1_S_).sem 7680 aWs mWs yw xw) ∗ FlyH c yh xh ∗ (aGs.view.loc (c : Thread nD τ) ↦{fullShare} xg) ∗ (mGs.view.loc (c : Thread nD τ) ↦{fullShare} (copied aGs mGs yg xg)) ∗ (mLive.view.loc (c : Thread nD τ) ↦{fullShare} fl) ∗ semVal ((c : Thread nD τ), SemLoc.dma cc0_scratch12.sem) 0 ∗ rSt c fw 0 (ust fl n 0) ∗ ∃ Wt, owes (c : Thread nD τ) 0 Wt)
          -∗ Q ⟨W n, hw2, v25, c1⟩))
      ⊢ wp frame (wpE defs₀ 𝒱₀ (c : Thread nD τ) none) Set.univ (k0_part85 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16) Q := by
  iintro ⟨⟨Hxg, Hxh, Hxc, Hxt, Hxs, Hxw, Hyg, Hyc, Hyt, Hys, Hyw, Hyl, Hyh, Sg, Sh, S0, S1, S2, S3, R0, HO⟩, Hk⟩
  sl_rw [k0_part85_eq_skeleton]
  sl_unfold [k0_part85_skel]
  sl_exec
  sl_for (t1Inv c (copied aGs mGs yg xg)) $$ [Hyg Hyl]
  case region =>
    intro k acc
    exact t1_trip c _ hs k acc
  · isplitl [Hyg]; · iexact Hyg
    iexists yl; isplitl [Hyl]; · iexact Hyl
    ipureintro
    exact ⟨0, rfl, rfl, ⟨le_refl _, fun i hi => absurd hi (Nat.not_lt_zero _), fun i hi => absurd hi (Nat.not_lt_zero _), fun i hi => absurd hi (Nat.not_lt_zero _), fun i hi => absurd hi (Nat.not_lt_zero _), fun i hi => absurd hi (Nat.not_lt_zero _), rfl⟩⟩
  iintro %acc ⟨Hyg, ⟨%fl, HL, %hI⟩⟩
  obtain ⟨a, b⟩ := acc
  obtain ⟨n, rfl, hb, hI⟩ := hI
  have hn : n ≤ 15 := hI.le
  have hL : LiveOK n fl := hI.ok hs
  have hw2 := chk2_of hn
  sl_exec (disch := exact hw2)
  iapply (start0 c fw fl hn hL 0 _ _ _ (k0_chk3.dec (W n))
    (offL := k0_off5 (W n)) (offS := k0_off6) (offR := k0_off7) (offW := fun v => k0_off8 v)
    (fun h => ⟨k0_off5_inb (W n) hw2 h, k0_off6_inb, k0_off7_inb, fun v hw => k0_off8_inb (W n) v hw h, _, _, rfl⟩) (fun _ => rfl)
    (fun v hv => ⟨fun _ => chkW0 v hv, fun _ _ => chkWW0 v _ _⟩) rfl rfl rfl (fun v => rfl) _)
  isplitl [R0]; · iexact R0
  isplitl [HL]; · iexact HL
  iintro ⟨R0, HL⟩
  iapply (start1 c fw fl hn hL 0 _ _ _ (k0_chk4.dec (W n))
    (offL := k0_off9 (W n)) (offS := k0_off10) (offR := k0_off11) (offW := fun v => k0_off12 v)
    (fun h => ⟨k0_off9_inb (W n) hw2 h, k0_off10_inb, k0_off11_inb, fun v hw => k0_off12_inb (W n) v hw h, _, _, rfl⟩) (fun _ => rfl)
    (fun v hv => ⟨fun _ => chkW1 v hv, fun _ _ => chkWW1 v _ _⟩) rfl rfl rfl (fun v => rfl) _)
  isplitl [R0]; · iexact R0
  isplitl [HL]; · iexact HL
  iintro ⟨R0, HL⟩
  sl_exec
  sl_step
  iapply Hk $$ %n %fl %_ %_ %hw2
  · ipureintro; exact ⟨hn, hI⟩
  isplitl [S0 Hxc S1 Hxt S2 Hxs S3 Hxw]
  · isplitl [S0 Hxc]
    · isplitl [S0]; · iexact S0
      iexact Hxc
    isplitl [S1 Hxt]
    · isplitl [S1]; · iexact S1
      iexact Hxt
    isplitl [S2 Hxs]
    · isplitl [S2]; · iexact S2
      iexact Hxs
    isplitl [S3]; · iexact S3
    iexact Hxw
  isplitl [Sh Hxh]
  · isplitl [Sh]; · iexact Sh
    iexact Hxh
  isplitl [Hxg]; · iexact Hxg
  isplitl [Hyg]; · iexact Hyg
  isplitl [HL]; · iexact HL
  isplitl [Sg]; · iexact Sg
  isplitl [R0]; · iexact R0
  iexists _; iexact HO

end Cert.Proof.K

end
-- ==== Proof.K.Hsx.lean ====
/-
  The scales of the activations' rows, spread over the lanes of a buffer with one row per activation row.
-/
module

public import proofs.«01_k».proof.Proof.K.Table
public import Idealize.ShloMosaic.Lib.WritesUnit
public import Idealize.ShloMosaic.Lib.Pointwise
public import Idealize.ShloMosaic.Lib.Pipeline.Value

@[expose] public section

set_option maxRecDepth 16384
set_option maxHeartbeats 4000000

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.ValueIdx (ix1 ix2 ix3)

variable {F : FTy → Type} [FloatOps F]
local notation "𝕄" => MT nD τ sig Unit (Elt F) ℕ (UU nD τ) ℕ

/-- The scale of row `r`: element `(r / 128, r % 128)` of the table. -/
def hsw (ys : mHs.view.ty.Contents (Elt F)) (r : ℕ) : F .f32 :=
  if h : r < 1024 then (mHs.view.read (Elt F) ys (ValueIdx.ix2 ⟨r / 128, by omega⟩ ⟨r % 128, by omega⟩) : Elt F .f32) else Scalar.ofBits .f32 0x00000000#32

/-- The first `128·k` rows of the spread scales hold, on every lane, their row's scale. -/
def HsxOK (ys : mHs.view.ty.Contents (Elt F)) (k : ℕ) (g : mHsx.view.ty.Contents (Elt F)) : Prop :=
  ∀ y : S1120x128.Idx, (y (0 : Fin 2)).val < 128 * k → mHsx.view.read (Elt F) g y = hsw ys (y (0 : Fin 2)).val

theorem HsxOK.zero (ys : mHs.view.ty.Contents (Elt F)) (g : mHsx.view.ty.Contents (Elt F)) : HsxOK ys 0 g := fun y hy => absurd hy (by omega)

/-- One block of 128 rows more: row `k` of the table, transposed over the lanes. -/
theorem HsxOK.step (ys : mHs.view.ty.Contents (Elt F)) (k : ℕ) (hk : k < 8) (g : mHsx.view.ty.Contents (Elt F)) (L : List (View.Piece (Elt F) S1120x128 .f32))
    (h : HsxOK ys k (mHsx.view.writes (Elt F) g L)) (inb : ∀ a, (![128 * k, 0] : Fin 2 → ℕ) a + S128x128.size a ≤ S1120x128.size a)
    (inr : ∀ a, (![k, 0] : Fin 2 → ℕ) a + S1x128.size a ≤ S8x128.size a) :
    HsxOK ys (k + 1) (mHsx.view.writes (Elt F) g ((⟨Rect.unit (s := S1120x128) ![128 * k, 0] S128x128.size inb,
      k0_pay637 (mHs.view.readAt (Elt F) (Rect.unit (s := S8x128) ![k, 0] S1x128.size inr).toLoadRect ys)⟩ : View.Piece (Elt F) S1120x128 .f32) :: L)) := by
  intro y hy
  by_cases hlt : (y (0 : Fin 2)).val < 128 * k
  · rw [View.read_writes_cons_rows_of_not_mem mHsx.view g inb _ L y rfl rfl (by left; omega)]
    exact h y hlt
  · have hx : (y (0 : Fin 2)).val - 128 * k < 128 := by omega
    rw [View.read_writes_cons_rows_of_mem mHsx.view g inb _ L y (ValueIdx.ix2 (n0 := 128) (n1 := 128) ⟨(y (0 : Fin 2)).val - 128 * k, hx⟩ (y (1 : Fin 2))) rfl (by simp; omega) rfl]
    unfold k0_pay637
    rw [shapeCast_self]
    have e1 : ∀ (v : FVec F S128x128 .f32) (a b : Fin 128), transpose S128x128 [1, 0] v transposes_S128x128_p1_0_S128x128 (ValueIdx.ix2 a b) = v (ValueIdx.ix2 b a) := fun v a b => by
      pointwise; rfl
    refine (e1 _ ⟨_, hx⟩ (y (1 : Fin 2))).trans ?_
    have e2 : ∀ (v : FVec F S1x128 .f32) (a b : Fin 128), broadcastTo S128x128 v broadcasts_S1x128_S128x128 (ValueIdx.ix2 a b) = v (ValueIdx.ix2 0 b) := fun v a b => by
      pointwise; rfl
    refine (e2 _ (y (1 : Fin 2)) ⟨_, hx⟩).trans ?_
    rw [shapeCast_self, View.readAt_rect]
    unfold hsw
    rw [dif_pos (by omega)]
    show mHs.view.read (Elt F) ys _ = mHs.view.read (Elt F) ys _
    congr 1
    funext a
    apply Fin.ext
    fin_cases a
    · show k + 1 * 0 = (y (0 : Fin 2)).val / 128; omega
    · show 0 + 1 * ((y (0 : Fin 2)).val - 128 * k) = (y (0 : Fin 2)).val % 128; omega

end Cert.Proof.K

end
-- ==== Proof.K.Pro2.lean ====
/-
  The start of the body, continued: the first copies of the other slots; then the tables awaited and the scales spread.
-/
module

public import proofs.«01_k».proof.Proof.K.Pro
public import proofs.«01_k».proof.Proof.K.Hsx

@[expose] public section

set_option maxRecDepth 16384
set_option maxHeartbeats 4000000

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.ValueIdx (ix1 ix2 ix3)

variable {F : FTy → Type} [FloatOps F]
local notation "𝕄" => MT nD τ sig Unit (Elt F) ℕ (UU nD τ) ℕ

theorem pro86 [∀ e, Nonempty (Elt F e)] (c : Dev nD) (fw : Buf (Elt F) (aW.view.loc (c : Thread nD τ))) (fl : Buf (Elt F) (mLive.view.loc (c : Thread nD τ))) {n : ℕ} (hn : n ≤ 15) (hL : LiveOK n fl) (hw2 : k0_chk2 (W n)) (v25 c1 : BitVec 32) (Q : (Σ' (v54 : BitVec 32) (v58 : BitVec 32) (c3_i32_40 : BitVec 32), BitVec 32) → sProp 𝕄) :
    iprop((rSt c fw 1 .free ∗ rSt c fw 2 .free ∗ (mLive.view.loc (c : Thread nD τ) ↦{fullShare} fl)) ∗ (∀ a b d e, (rSt c fw 1 (ust fl n 1) ∗ rSt c fw 2 (ust fl n 2) ∗ (mLive.view.loc (c : Thread nD τ) ↦{fullShare} fl)) -∗ Q ⟨a, b, d, e⟩))
      ⊢ wp frame (wpE defs₀ 𝒱₀ (c : Thread nD τ) none) Set.univ (k0_part86 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 (W n) hw2 v25 c1) Q := by
  iintro ⟨⟨R1, R2, HL⟩, Hk⟩
  sl_rw [k0_part86_eq_skeleton]
  sl_unfold [k0_part86_skel]
  iapply (start0 c fw fl hn hL 1 _ _ _ (k0_chk5.dec (W n))
    (offL := k0_off13 (W n)) (offS := k0_off14) (offR := k0_off15) (offW := fun v => k0_off16 v)
    (fun h => ⟨k0_off13_inb (W n) hw2 h, k0_off14_inb, k0_off15_inb, fun v hw => k0_off16_inb (W n) v hw h, _, _, rfl⟩) (fun _ => rfl)
    (fun v hv => ⟨fun _ => chkW0 v hv, fun _ _ => chkWW0 v _ _⟩) rfl rfl rfl (fun v => rfl) _)
  isplitl [R1]; · iexact R1
  isplitl [HL]; · iexact HL
  iintro ⟨R1, HL⟩
  iapply (start1 c fw fl hn hL 1 _ _ _ (k0_chk6.dec (W n))
    (offL := k0_off17 (W n)) (offS := k0_off18) (offR := k0_off19) (offW := fun v => k0_off20 v)
    (fun h => ⟨k0_off17_inb (W n) hw2 h, k0_off18_inb, k0_off19_inb, fun v hw => k0_off20_inb (W n) v hw h, _, _, rfl⟩) (fun _ => rfl)
    (fun v hv => ⟨fun _ => chkW1 v hv, fun _ _ => chkWW1 v _ _⟩) rfl rfl rfl (fun v => rfl) _)
  isplitl [R1]; · iexact R1
  isplitl [HL]; · iexact HL
  iintro ⟨R1, HL⟩
  iapply (start0 c fw fl hn hL 2 _ _ _ (k0_chk7.dec (W n))
    (offL := k0_off21 (W n)) (offS := k0_off22) (offR := k0_off23) (offW := fun v => k0_off24 v)
    (fun h => ⟨k0_off21_inb (W n) hw2 h, k0_off22_inb, k0_off23_inb, fun v hw => k0_off24_inb (W n) v hw h, _, _, rfl⟩) (fun _ => rfl)
    (fun v hv => ⟨fun _ => chkW0 v hv, fun _ _ => chkWW0 v _ _⟩) rfl rfl rfl (fun v => rfl) _)
  isplitl [R2]; · iexact R2
  isplitl [HL]; · iexact HL
  iintro ⟨R2, HL⟩
  iapply (start1 c fw fl hn hL 2 _ _ _ (k0_chk8.dec (W n))
    (offL := k0_off25 (W n)) (offS := k0_off26) (offR := k0_off27) (offW := fun v => k0_off28 v)
    (fun h => ⟨k0_off25_inb (W n) hw2 h, k0_off26_inb, k0_off27_inb, fun v hw => k0_off28_inb (W n) v hw h, _, _, rfl⟩) (fun _ => rfl)
    (fun v hv => ⟨fun _ => chkW1 v hv, fun _ _ => chkWW1 v _ _⟩) rfl rfl rfl (fun v => rfl) _)
  isplitl [R2]; · iexact R2
  isplitl [HL]; · iexact HL
  iintro ⟨R2, HL⟩
  sl_exec
  sl_step
  iapply Hk $$ %_ %_ %_ %_
  isplitl [R1]; · iexact R1
  isplitl [R2]; · iexact R2
  iexact HL

theorem pro87 [∀ e, Nonempty (Elt F e)] (c : Dev nD) (fw : Buf (Elt F) (aW.view.loc (c : Thread nD τ))) (fl : Buf (Elt F) (mLive.view.loc (c : Thread nD τ))) {n : ℕ} (hn : n ≤ 15) (hL : LiveOK n fl) (hw2 : k0_chk2 (W n)) (v54 v58 a b : BitVec 32) (Q : (Σ' (v89 : BitVec 32), BitVec 1) → sProp 𝕄) :
    iprop((rSt c fw 3 .free ∗ rSt c fw 4 .free ∗ rSt c fw 5 .free ∗ (mLive.view.loc (c : Thread nD τ) ↦{fullShare} fl)) ∗ (∀ a b, (rSt c fw 3 (ust fl n 3) ∗ rSt c fw 4 (ust fl n 4) ∗ rSt c fw 5 (mid fl n 5) ∗ (mLive.view.loc (c : Thread nD τ) ↦{fullShare} fl)) -∗ Q ⟨a, b⟩))
      ⊢ wp frame (wpE defs₀ 𝒱₀ (c : Thread nD τ) none) Set.univ (k0_part87 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 (W n) hw2 v54 v58 a b) Q := by
  iintro ⟨⟨R3, R4, R5, HL⟩, Hk⟩
  sl_rw [k0_part87_eq_skeleton]
  sl_unfold [k0_part87_skel]
  iapply (start0 c fw fl hn hL 3 _ _ _ (k0_chk9.dec (W n))
    (offL := k0_off29 (W n)) (offS := k0_off30) (offR := k0_off31) (offW := fun v => k0_off32 v)
    (fun h => ⟨k0_off29_inb (W n) hw2 h, k0_off30_inb, k0_off31_inb, fun v hw => k0_off32_inb (W n) v hw h, _, _, rfl⟩) (fun _ => rfl)
    (fun v hv => ⟨fun _ => chkW0 v hv, fun _ _ => chkWW0 v _ _⟩) rfl rfl rfl (fun v => rfl) _)
  isplitl [R3]; · iexact R3
  isplitl [HL]; · iexact HL
  iintro ⟨R3, HL⟩
  iapply (start1 c fw fl hn hL 3 _ _ _ (k0_chk10.dec (W n))
    (offL := k0_off33 (W n)) (offS := k0_off34) (offR := k0_off35) (offW := fun v => k0_off36 v)
    (fun h => ⟨k0_off33_inb (W n) hw2 h, k0_off34_inb, k0_off35_inb, fun v hw => k0_off36_inb (W n) v hw h, _, _, rfl⟩) (fun _ => rfl)
    (fun v hv => ⟨fun _ => chkW1 v hv, fun _ _ => chkWW1 v _ _⟩) rfl rfl rfl (fun v => rfl) _)
  isplitl [R3]; · iexact R3
  isplitl [HL]; · iexact HL
  iintro ⟨R3, HL⟩
  iapply (start0 c fw fl hn hL 4 _ _ _ (k0_chk11.dec (W n))
    (offL := k0_off37 (W n)) (offS := k0_off38) (offR := k0_off39) (offW := fun v => k0_off40 v)
    (fun h => ⟨k0_off37_inb (W n) hw2 h, k0_off38_inb, k0_off39_inb, fun v hw => k0_off40_inb (W n) v hw h, _, _, rfl⟩) (fun _ => rfl)
    (fun v hv => ⟨fun _ => chkW0 v hv, fun _ _ => chkWW0 v _ _⟩) rfl rfl rfl (fun v => rfl) _)
  isplitl [R4]; · iexact R4
  isplitl [HL]; · iexact HL
  iintro ⟨R4, HL⟩
  iapply (start1 c fw fl hn hL 4 _ _ _ (k0_chk12.dec (W n))
    (offL := k0_off41 (W n)) (offS := k0_off42) (offR := k0_off43) (offW := fun v => k0_off44 v)
    (fun h => ⟨k0_off41_inb (W n) hw2 h, k0_off42_inb, k0_off43_inb, fun v hw => k0_off44_inb (W n) v hw h, _, _, rfl⟩) (fun _ => rfl)
    (fun v hv => ⟨fun _ => chkW1 v hv, fun _ _ => chkWW1 v _ _⟩) rfl rfl rfl (fun v => rfl) _)
  isplitl [R4]; · iexact R4
  isplitl [HL]; · iexact HL
  iintro ⟨R4, HL⟩
  iapply (start0 c fw fl hn hL 5 _ _ _ (k0_chk13.dec (W n))
    (offL := k0_off45 (W n)) (offS := k0_off46) (offR := k0_off47) (offW := fun v => k0_off48 v)
    (fun h => ⟨k0_off45_inb (W n) hw2 h, k0_off46_inb, k0_off47_inb, fun v hw => k0_off48_inb (W n) v hw h, _, _, rfl⟩) (fun _ => rfl)
    (fun v hv => ⟨fun _ => chkW0 v hv, fun _ _ => chkWW0 v _ _⟩) rfl rfl rfl (fun v => rfl) _)
  isplitl [R5]; · iexact R5
  isplitl [HL]; · iexact HL
  iintro ⟨R5, HL⟩
  sl_exec
  sl_step
  iapply Hk $$ %_ %_
  isplitl [R3]; · iexact R3
  isplitl [R4]; · iexact R4
  isplitl [R5]; · iexact R5
  iexact HL

theorem pro88 [∀ e, Nonempty (Elt F e)] (c : Dev nD) (fw : Buf (Elt F) (aW.view.loc (c : Thread nD τ))) (fl : Buf (Elt F) (mLive.view.loc (c : Thread nD τ))) {n : ℕ} (hn : n ≤ 15) (hL : LiveOK n fl) (hw2 : k0_chk2 (W n)) (xc : Buf (Elt F) (aCi.view.loc (c : Thread nD τ))) (yc : Buf (Elt F) (mCi.view.loc (c : Thread nD τ))) (xt : Buf (Elt F) (aTw.view.loc (c : Thread nD τ))) (yt : Buf (Elt F) (mTw.view.loc (c : Thread nD τ))) (xs : Buf (Elt F) (aHs.view.loc (c : Thread nD τ))) (ys : Buf (Elt F) (mHs.view.loc (c : Thread nD τ))) (xw : Buf (Elt F) (aWs.view.loc (c : Thread nD τ))) (yw : Buf (Elt F) (mWs.view.loc (c : Thread nD τ))) (yx : Buf (Elt F) (mHsx.view.loc (c : Thread nD τ))) (W0 : Finset _) (v89 : BitVec 32) (v90 : BitVec 1) (Q : PUnit → sProp 𝕄) :
    iprop((rSt c fw 5 (mid fl n 5) ∗ (mLive.view.loc (c : Thread nD τ) ↦{fullShare} fl) ∗ (FlyT c ((cc0_scratch13.slice (Rect.unit (s := S4) ![0] S1.size inb_S4_S1_0)).squeeze S_ squeezes_S1_S_).sem 128 aCi mCi yc xc ∗ FlyT c ((cc0_scratch13.slice (Rect.unit (s := S4) ![1] S1.size inb_S4_S1_1)).squeeze S_ squeezes_S1_S_).sem 128 aTw mTw yt xt ∗ FlyT c ((cc0_scratch13.slice (Rect.unit (s := S4) ![2] S1.size inb_S4_S1_2)).squeeze S_ squeezes_S1_S_).sem 128 aHs mHs ys xs ∗ FlyT c ((cc0_scratch13.slice (Rect.unit (s := S4) ![3] S1.size inb_S4_S1_3)).squeeze S_ squeezes_S1_S_).sem 7680 aWs mWs yw xw) ∗ (mHsx.view.loc (c : Thread nD τ) ↦{fullShare} yx) ∗ owes (c : Thread nD τ) 0 W0)
        ∗ ((rSt c fw 5 (ust fl n 5) ∗ (mLive.view.loc (c : Thread nD τ) ↦{fullShare} fl) ∗ (((aCi.view.loc (c : Thread nD τ) ↦{fullShare} xc) ∗ (mCi.view.loc (c : Thread nD τ) ↦{fullShare} (copied aCi mCi yc xc)) ∗ semVal ((c : Thread nD τ), SemLoc.dma ((cc0_scratch13.slice (Rect.unit (s := S4) ![0] S1.size inb_S4_S1_0)).squeeze S_ squeezes_S1_S_).sem) 0) ∗ ((aTw.view.loc (c : Thread nD τ) ↦{fullShare} xt) ∗ (mTw.view.loc (c : Thread nD τ) ↦{fullShare} (copied aTw mTw yt xt)) ∗ semVal ((c : Thread nD τ), SemLoc.dma ((cc0_scratch13.slice (Rect.unit (s := S4) ![1] S1.size inb_S4_S1_1)).squeeze S_ squeezes_S1_S_).sem) 0) ∗ ((aHs.view.loc (c : Thread nD τ) ↦{fullShare} xs) ∗ (mHs.view.loc (c : Thread nD τ) ↦{fullShare} (copied aHs mHs ys xs)) ∗ semVal ((c : Thread nD τ), SemLoc.dma ((cc0_scratch13.slice (Rect.unit (s := S4) ![2] S1.size inb_S4_S1_2)).squeeze S_ squeezes_S1_S_).sem) 0) ∗ ((aWs.view.loc (c : Thread nD τ) ↦{fullShare} xw) ∗ (mWs.view.loc (c : Thread nD τ) ↦{fullShare} (copied aWs mWs yw xw)) ∗ semVal ((c : Thread nD τ), SemLoc.dma ((cc0_scratch13.slice (Rect.unit (s := S4) ![3] S1.size inb_S4_S1_3)).squeeze S_ squeezes_S1_S_).sem) 0)) ∗ (∃ g, (mHsx.view.loc (c : Thread nD τ) ↦{fullShare} g) ∗ ⌜HsxOK (copied aHs mHs ys xs) 3 g⌝) ∗ ∃ Wt, owes (c : Thread nD τ) 0 Wt) -∗ Q ⟨⟩))
      ⊢ wp frame (wpE defs₀ 𝒱₀ (c : Thread nD τ) none) Set.univ (k0_part88 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 (W n) hw2 v89 v90) Q := by
  iintro ⟨⟨R5, HL, ⟨⟨F0, X0⟩, ⟨F1, X1⟩, ⟨F2, X2⟩, ⟨F3, X3⟩⟩, Hx, HO⟩, Hk⟩
  sl_rw [k0_part88_eq_skeleton]
  sl_unfold [k0_part88_skel]
  iapply (start1 c fw fl hn hL 5 _ _ _ (k0_chk14.dec (W n))
    (offL := k0_off49 (W n)) (offS := k0_off50) (offR := k0_off51) (offW := fun v => k0_off52 v)
    (fun h => ⟨k0_off49_inb (W n) hw2 h, k0_off50_inb, k0_off51_inb, fun v hw => k0_off52_inb (W n) v hw h, _, _, rfl⟩) (fun _ => rfl)
    (fun v hv => ⟨fun _ => chkW1 v hv, fun _ _ => chkWW1 v _ _⟩) rfl rfl rfl (fun v => rfl) _)
  isplitl [R5]; · iexact R5
  isplitl [HL]; · iexact HL
  iintro ⟨R5, HL⟩
  sl_exec
  sl_step
  iapply Hk
  isplitl [R5]; · iexact R5
  isplitl [HL]; · iexact HL
  isplitl [F0 F0_dst X0 F1 F1_dst X1 F2 F2_dst X2 F3 F3_dst X3]
  · isplitl [F0 F0_dst X0]
    · isplitl [X0]; · iexact X0
      isplitl [F0_dst]; · iexact F0_dst
      iexact F0
    isplitl [F1 F1_dst X1]
    · isplitl [X1]; · iexact X1
      isplitl [F1_dst]; · iexact F1_dst
      iexact F1
    isplitl [F2 F2_dst X2]
    · isplitl [X2]; · iexact X2
      isplitl [F2_dst]; · iexact F2_dst
      iexact F2
    isplitl [X3]; · iexact X3
    isplitl [F3_dst]; · iexact F3_dst
    iexact F3
  isplitl [Hx]
  · iexists _; isplitl [Hx]; · iexact Hx
    ipureintro
    exact HsxOK.step _ 2 (by decide) _ _ (HsxOK.step _ 1 (by decide) _ _ (HsxOK.step _ 0 (by decide) _ [] (HsxOK.zero _ _) _ _) _ _) _ _
  iexists _; iexact HO

theorem pro89 [∀ e, Nonempty (Elt F e)] (c : Dev nD) (ys : Buf (Elt F) (mHs.view.loc (c : Thread nD τ))) (yx : Buf (Elt F) (mHsx.view.loc (c : Thread nD τ))) (hx : HsxOK ys 3 yx) (Q : F .fp8e4m3 → sProp 𝕄) :
    iprop(((mHs.view.loc (c : Thread nD τ) ↦{fullShare} ys) ∗ (mHsx.view.loc (c : Thread nD τ) ↦{fullShare} yx))
        ∗ (∀ cst, ((mHs.view.loc (c : Thread nD τ) ↦{fullShare} ys) ∗ (∃ g, (mHsx.view.loc (c : Thread nD τ) ↦{fullShare} g) ∗ ⌜HsxOK ys 8 g⌝)) -∗ Q cst))
      ⊢ wp frame (wpE defs₀ 𝒱₀ (c : Thread nD τ) none) Set.univ (k0_part89 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16) Q := by
  iintro ⟨⟨Hs, Hx⟩, Hk⟩
  sl_rw [k0_part89_eq_skeleton]
  sl_unfold [k0_part89_skel]
  sl_exec
  sl_step
  iapply Hk $$ %_
  isplitl [Hs]; · iexact Hs
  iexists _; isplitl [Hx]; · iexact Hx
  ipureintro
  exact HsxOK.step _ 7 (by decide) _ _ (HsxOK.step _ 6 (by decide) _ _ (HsxOK.step _ 5 (by decide) _ _ (HsxOK.step _ 4 (by decide) _ _ (HsxOK.step _ 3 (by decide) _ [] hx _ _) _ _) _ _) _ _) _ _

end Cert.Proof.K

end
-- ==== Proof.K.Acc.lean ====
/-
  The accumulator: 24 columns of 128 lanes, column `j` at rows 1121·j … 1121·j + 1120. A block of 128 rows is stored
  into each column in two pieces, its first 32 rows under a mask that leaves the rows before the expert's first alone.
  `Merge`: what the accumulator holds after the stores into the first `J` columns.
-/
module

public import proofs.«01_k».proof.Proof.K.Base
public import Idealize.ShloMosaic.Lib.WritesUnit
public import Idealize.ShloMosaic.Lib.ValueIdx

@[expose] public section

noncomputable section

namespace Cert.Proof.K

open Cert.KernelIdeal Cert.KernelIdeal.Gen
open Idealize.ShloMosaic
open Idealize.ShloMosaic.ValueIdx (ix2)

variable {F : FTy → Type} [FloatOps F]
variable {sg : RefSig} {κ : Kind} {sp : Space} (v : View sg κ sp S26904x128 .f32)

/-- The accumulator `g` is `g0` with rows `max lo b0 ≤ r < b0 + 128` of the columns `j < J` replaced by the rows of `V j`. -/
structure Merge (b0 lo : ℕ) (V : ℕ → FVec F S128x128 .f32) (J : ℕ) (g0 g : v.ty.Contents (Elt F)) : Prop where
  hit : ∀ (y : S26904x128.Idx) (j x : ℕ) (hx : x < 128), j < J → lo ≤ b0 + x → (y (0 : Fin 2)).val = 1121 * j + b0 + x →
    v.read (Elt F) g y = V j (ix2 ⟨x, hx⟩ (y (1 : Fin 2)))
  miss : ∀ (y : S26904x128.Idx), (∀ j x : ℕ, j < J → x < 128 → lo ≤ b0 + x → (y (0 : Fin 2)).val ≠ 1121 * j + b0 + x) →
    v.read (Elt F) g y = v.read (Elt F) g0 y

theorem Merge.zero (b0 lo : ℕ) (V : ℕ → FVec F S128x128 .f32) (g0 : v.ty.Contents (Elt F)) : Merge v b0 lo V 0 g0 g0 :=
  ⟨fun y j x hx hj => absurd hj (by omega), fun y _ => rfl⟩

/-- Two stores more: the first 32 rows of `V J` under the mask, the other 96 as they are. -/
theorem Merge.step {b0 lo : ℕ} {V : ℕ → FVec F S128x128 .f32} {J : ℕ} {g0 g : v.ty.Contents (Elt F)}
    (hb : b0 + 128 ≤ 1121) (hlo : lo ≤ b0 + 31) {offA offB : Fin 2 → ℕ}
    (inA : ∀ a, offA a + S32x128.size a ≤ S26904x128.size a) (inB : ∀ a, offB a + S96x128.size a ≤ S26904x128.size a)
    (hA : offA = ![1121 * J + b0, 0]) (hB : offB = ![1121 * J + b0 + 32, 0])
    {pA : (Rect.unit (s := S26904x128) offA S32x128.size inA).shape.Idx → Elt F .f32}
    {pB : (Rect.unit (s := S26904x128) offB S96x128.size inB).shape.Idx → Elt F .f32}
    {M : Finset (Rect.unit (s := S26904x128) offA S32x128.size inA).shape.Idx}
    (hM : ∀ i : S32x128.Idx, i ∈ M ↔ lo ≤ b0 + (i (0 : Fin 2)).val)
    (hpA : pA = extractStridedSlice S32x128 ![0, 0] (V J) slices_S128x128_o0_0_S32x128)
    (hpB : pB = extractStridedSlice S96x128 ![32, 0] (V J) slices_S128x128_o32_0_S96x128)
    (hg : Merge v b0 lo V J g0 g) :
    Merge v b0 lo V (J + 1) g0
      (v.writes (Elt F) ((v.slice (Rect.unit (s := S26904x128) offA S32x128.size inA)).write (Elt F) g pA M)
        [⟨Rect.unit (s := S26904x128) offB S96x128.size inB, pB⟩]) := by
  subst hA hB hpA hpB
  have hrest : ∀ y : S26904x128.Idx, (∀ x : ℕ, x < 128 → lo ≤ b0 + x → (y (0 : Fin 2)).val ≠ 1121 * J + b0 + x) →
      v.read (Elt F) (v.writes (Elt F) ((v.slice (Rect.unit (s := S26904x128) _ S32x128.size inA)).write (Elt F) g
        (extractStridedSlice S32x128 ![0, 0] (V J) slices_S128x128_o0_0_S32x128) M)
        [⟨Rect.unit (s := S26904x128) _ S96x128.size inB, extractStridedSlice S96x128 ![32, 0] (V J) slices_S128x128_o32_0_S96x128⟩]) y
        = v.read (Elt F) g y := by
    intro y hy
    rw [View.read_writes_cons_rows_of_not_mem v _ inB _ [] y rfl rfl (by
      rcases Nat.lt_or_ge (y (0 : Fin 2)).val (1121 * J + b0 + 32) with h | h
      · exact .inl h
      · refine .inr (Nat.le_of_not_lt fun h2 => hy ((y (0 : Fin 2)).val - (1121 * J + b0)) ?_ ?_ ?_)
        · have : S96x128.size 0 = 96 := rfl
          omega
        · omega
        · omega)]
    refine View.read_slice_write_of_not_mem _ _ _ _ fun hm => ?_
    obtain ⟨i, hi, rfl⟩ := Finset.mem_map.mp hm
    have hil : (i (0 : Fin 2)).val < 32 := (i (0 : Fin 2)).isLt
    refine hy (i (0 : Fin 2)).val (by omega) ((hM i).mp hi) ?_
    simp [Rect.emb, Rect.unit]
  refine ⟨fun y j x hx hj hl hy => ?_, fun y hy => ?_⟩
  · rcases Nat.lt_succ_iff_lt_or_eq.mp hj with hj | rfl
    · rw [hrest y fun x' hx' _ => by omega]; exact hg.hit y j x hx hj hl hy
    · by_cases h32 : x < 32
      · rw [View.read_writes_cons_rows_of_not_mem v _ inB _ [] y rfl rfl (by left; omega)]
        have hy' : y = (Rect.unit (s := S26904x128) ![1121 * j + b0, 0] S32x128.size inA).emb (ix2 (n0 := 32) (n1 := 128) ⟨x, h32⟩ (y (1 : Fin 2))) := by
          funext a; refine Fin.ext ?_
          fin_cases a <;> simp [Rect.emb, Rect.unit, hy]
        conv_lhs => rw [hy']
        refine (View.read_slice_write_emb _ _ _ ((hM _).mpr hl)).trans ?_
        show V j _ = V j _
        congr 1; funext a; refine Fin.ext ?_; fin_cases a <;> simp
      · rw [View.read_writes_cons_rows_of_mem v _ inB _ [] y (ix2 (n0 := 96) (n1 := 128) ⟨x - 32, by omega⟩ (y (1 : Fin 2))) rfl (by simp; omega) rfl]
        show V j _ = V j _
        congr 1; funext a; refine Fin.ext ?_; fin_cases a <;> simp; omega
  · rw [hrest y fun x hx hl => hy J x (by omega) hx hl]
    exact hg.miss y fun j x hj => hy j x (by omega)

end Cert.Proof.K

end
-- ==== Proof.K.BlkV.lean ====
/-
  One block of one expert: 128 rows of the activations times the expert's slot of the ring, scaled by the expert's and
  the rows' scales, stored into the accumulator's columns.
-/
module

public import proofs.«01_k».proof.Proof.K.Words
public import proofs.«01_k».proof.Proof.K.Acc
public import Idealize.ShloMosaic.Lib.Pipeline.Value

@[expose] public section

set_option maxRecDepth 16384
set_option maxHeartbeats 4000000

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]
local notation "𝕄" => MT nD τ sig Unit (Elt F) ℕ (UU nD τ) ℕ

/-! ## The value of a block -/

theorem slices_col (j : ℕ) : S128x1024.Slices ![0, 128 * (j % 8)] S128x128 := by
  refine ⟨rfl, fun a => ?_⟩
  fin_cases a <;> simp [Shape.size] <;> omega

/-- Column `j`'s 128 lanes of the block: the product with the `j / 8`-th 1024 columns of the weights, scaled. -/
def colV (h : Vec F S128x1408 .fp8e4m3) (hs : Vec F S128x128 .f32) (w : ℕ → Vec F S1x1408x1024 .fp8e4m3) (ws : ℕ → Vec F S1x1024 .f32)
    (j : ℕ) : FVec F S128x128 .f32 :=
  mulf (extractStridedSlice S128x128 ![0, 128 * (j % 8)] (k0_pay2 h (w (j / 8)) (ws (j / 8))) (slices_col j)) hs

/-- Three parts by number. -/
def pick3 {α : Type} (a b c : α) : ℕ → α | 0 => a | 1 => b | _ => c

theorem on_iff {t : Shape} (m : IVec t 1) (x : t.Idx) : x ∈ IVec.on m ↔ m x = 1 := by simp [IVec.on]

/-- The mask of a block's first 32 rows: the rows from the expert's first on. -/
theorem mask_iff {lo hi : BitVec 32} (h : Rows lo hi) (k : Fin (k0_t3_loop lo hi).trips) (i : S32x128.Idx) :
    i ∈ IVec.on (k0_pay5 (F := F) lo hi (Scalar.andi lo 4294967264#32) 0#32 1#32 k) ↔ lo.toNat ≤ row0 lo k + (i (0 : Fin 2)).val := by
  have hk : k.val < nBlocks lo hi := Nat.lt_of_lt_of_eq k.isLt (trips3 h)
  have hr := row0_word h hk
  have h0 := row0_lt h hk
  have h1 := h.lt; have h2 := h.le
  have hi0 : (i (0 : Fin 2)).val < 32 := (i (0 : Fin 2)).isLt
  rw [on_iff]
  unfold k0_pay5
  simp only [shapeCast_self]
  show IntOp.cmpi .sge (IntOp.addi (Scalar.addi (Scalar.andi lo 4294967264#32) (Scalar.muli (Scf.iv 0#32 1#32 k.val) 128#32)) (BitVec.ofNat 32 (0 * 32 + (i (0 : Fin 2)).val))) lo = 1 ↔ _
  generalize Scalar.addi (Scalar.andi lo 4294967264#32) (Scalar.muli (Scf.iv 0#32 1#32 k.val) 128#32) = b at hr
  have hs : (IntOp.addi b (BitVec.ofNat 32 (0 * 32 + (i (0 : Fin 2)).val))).toNat = row0 lo k + (i (0 : Fin 2)).val := by
    simp only [IntOp.addi, BitVec.toNat_add, hr, BitVec.toNat_ofNat]; omega
  have e1 := toInt_small hs (by omega)
  have e2 := toInt_small (rfl : lo.toNat = lo.toNat) (by omega)
  generalize IntOp.addi b (BitVec.ofNat 32 (0 * 32 + (i (0 : Fin 2)).val)) = z at hs e1
  have hd : BitVec.sle lo z = decide (lo.toNat ≤ row0 lo k + (i (0 : Fin 2)).val) := by
    rw [BitVec.sle_eq_decide, e1, e2]; exact decide_eq_decide.mpr (by omega)
  show BitVec.ofBool (BitVec.sle lo z) = 1 ↔ _
  rw [hd]
  by_cases hc : lo.toNat ≤ row0 lo k + (i (0 : Fin 2)).val <;> simp [hc]

end Cert.Proof.K

end
-- ==== Proof.K.Val.lean ====
/-
  The accumulator's contents: what every row of every finished expert holds.
-/
module

public import proofs.«01_k».proof.Proof.K.Live
public import proofs.«01_k».proof.Proof.K.BlkV
public import Idealize.ShloMosaic.Lib.ValueLayout
public import Idealize.ShloMosaic.Lib.WritesUnit
public import Idealize.ShloMosaic.Lib.Pointwise

@[expose] public section

set_option maxRecDepth 16384
set_option maxHeartbeats 4000000

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

theorem inb_hB (b : ℕ) : ∀ a, (![min b 992, 0] : Fin 2 → ℕ) a + S128x1408.size a ≤ S1120x1408.size a := by
  intro a; fin_cases a <;> simp [Shape.size]
theorem inb_sB (b : ℕ) : ∀ a, (![min b 992, 0] : Fin 2 → ℕ) a + S128x128.size a ≤ S1120x128.size a := by
  intro a; fin_cases a <;> simp [Shape.size]
theorem inb_wB (e c : ℕ) : ∀ a, (![min e 14, 0, min c 3072] : Fin 3 → ℕ) a + S1x1408x1024.size a ≤ S15x1408x4096.size a := by
  intro a; fin_cases a <;> simp [Shape.size] <;> omega
theorem inb_zB (e c : ℕ) : ∀ a, (![min e 14, min c 3072] : Fin 2 → ℕ) a + S1x1024.size a ≤ S15x4096.size a := by
  intro a; fin_cases a <;> simp [Shape.size] <;> omega

/-- The 128 rows of the activations from row `b` on. -/
def hB (fh : mH.view.ty.Contents (Elt F)) (b : ℕ) : Vec F S128x1408 .fp8e4m3 := mH.view.readAt (Elt F) (Rect.unit (s := S1120x1408) ![min b 992, 0] S128x1408.size (inb_hB b)).toLoadRect fh
/-- The 128 rows of the spread scales from row `b` on. -/
def sB (fs : mHsx.view.ty.Contents (Elt F)) (b : ℕ) : Vec F S128x128 .f32 := mHsx.view.readAt (Elt F) (Rect.unit (s := S1120x128) ![min b 992, 0] S128x128.size (inb_sB b)).toLoadRect fs
/-- Expert `e`'s weights, the 1024 columns from `c` on. -/
def wB (fw : aW.view.ty.Contents (Elt F)) (e c : ℕ) : Vec F S1x1408x1024 .fp8e4m3 := aW.view.readAt (Elt F) (Rect.unit (s := S15x1408x4096) ![min e 14, 0, min c 3072] S1x1408x1024.size (inb_wB e c)).toLoadRect fw
/-- Expert `e`'s scales, the 1024 columns from `c` on. -/
def zB (fws : mWs.view.ty.Contents (Elt F)) (e c : ℕ) : Vec F S1x1024 .f32 := mWs.view.readAt (Elt F) (Rect.unit (s := S15x4096) ![min e 14, min c 3072] S1x1024.size (inb_zB e c)).toLoadRect fws

/-- The first row of the block of row `r` when the expert's rows start at `lo`. -/
def blkOf (lo r : ℕ) : ℕ := lo / 32 * 32 + (r - lo / 32 * 32) / 128 * 128

/-- The block of 128 rows and 128 columns that holds row `r`'s column block `j`. -/
def blkV (fh : mH.view.ty.Contents (Elt F)) (fs : mHsx.view.ty.Contents (Elt F)) (fws : mWs.view.ty.Contents (Elt F)) (fw : aW.view.ty.Contents (Elt F)) (c0 e b j : ℕ) : FVec F S128x128 .f32 :=
  colV (hB fh b) (sB fs b) (fun q => wB fw e (c0 + 1024 * q)) (fun q => zB fws e (c0 + 1024 * q)) j

/-- Row `r` of expert `e` (whose rows start at `lo`), column block `j`, lane `l`: the product, scaled. -/
def unitV (fh : mH.view.ty.Contents (Elt F)) (fs : mHsx.view.ty.Contents (Elt F)) (fws : mWs.view.ty.Contents (Elt F)) (fw : aW.view.ty.Contents (Elt F)) (c0 e lo r j : ℕ) (l : Fin 128) : F .f32 :=
  blkV fh fs fws fw c0 e (blkOf lo r) j (ValueIdx.ix2 ⟨(r - blkOf lo r) % 128, Nat.mod_lt _ (by decide)⟩ l)

/-- The rows of the table's first `i` entries are in the accumulator. -/
def UAcc (fl : mLive.view.ty.Contents (Elt F)) (fh : mH.view.ty.Contents (Elt F)) (fs : mHsx.view.ty.Contents (Elt F)) (fws : mWs.view.ty.Contents (Elt F)) (fw : aW.view.ty.Contents (Elt F)) (c0 J i : ℕ) (g : mAcc.view.ty.Contents (Elt F)) : Prop :=
  ∀ i' < i, ∀ r, (lv fl 1 i').toNat ≤ r → r < (lv fl 2 i').toNat → ∀ j < J, ∀ y : S26904x128.Idx, (y (0 : Fin 2)).val = 1121 * j + r →
    mAcc.view.read (Elt F) g y = unitV fh fs fws fw c0 (lv fl 0 i').toNat (lv fl 1 i').toNat r j (y (1 : Fin 2))

/-- The same within an entry: its rows below `X` too. -/
def BAcc (fh : mH.view.ty.Contents (Elt F)) (fs : mHsx.view.ty.Contents (Elt F)) (fws : mWs.view.ty.Contents (Elt F)) (fw : aW.view.ty.Contents (Elt F)) (c0 J e lo hi X : ℕ) (g : mAcc.view.ty.Contents (Elt F)) : Prop :=
  ∀ r, lo ≤ r → r < hi → r < X → ∀ j < J, ∀ y : S26904x128.Idx, (y (0 : Fin 2)).val = 1121 * j + r →
    mAcc.view.read (Elt F) g y = unitV fh fs fws fw c0 e lo r j (y (1 : Fin 2))

theorem UAcc.zero (fl fh fs fws fw) (c0 J : ℕ) (g : mAcc.view.ty.Contents (Elt F)) : UAcc (F := F) fl fh fs fws fw c0 J 0 g := fun i' h => absurd h (by omega)

variable {fl : mLive.view.ty.Contents (Elt F)} {fh : mH.view.ty.Contents (Elt F)} {fs : mHsx.view.ty.Contents (Elt F)} {fws : mWs.view.ty.Contents (Elt F)} {fw : aW.view.ty.Contents (Elt F)}

/-- One block keeps the rows of the entries before. -/
theorem UAcc.merge {n c0 J i : ℕ} (hL : LiveOK n fl) (hi : i < n) {lo : BitVec 32} (hlo : (lv fl 1 i).toNat = lo.toNat) {k : ℕ} (hb : row0 lo k + 128 ≤ 1121)
    {V : ℕ → FVec F S128x128 .f32} {g g' : mAcc.view.ty.Contents (Elt F)} (hm : Merge mAcc.view (row0 lo k) lo.toNat V J g g')
    (h : UAcc fl fh fs fws fw c0 J i g) : UAcc fl fh fs fws fw c0 J i g' := by
  intro i' hi' r h1 h2 j hj y hy
  have ho := hL.ord i hi i' hi'
  have hr := (hL.rows i' (by omega)).le
  rw [hm.miss y (fun j' x hj' hx hl => by omega)]
  exact h i' hi' r h1 h2 j hj y hy

/-- One block adds its rows. -/
theorem BAcc.merge {c0 J e hi : ℕ} {lo : BitVec 32} {k : ℕ} (hb : row0 lo k + 128 ≤ 1121) (hhi : hi ≤ 1024)
    {V : ℕ → FVec F S128x128 .f32} {g g' : mAcc.view.ty.Contents (Elt F)} (hm : Merge mAcc.view (row0 lo k) lo.toNat V J g g')
    (hV : ∀ j < J, V j = blkV fh fs fws fw c0 e (row0 lo k) j)
    (h : BAcc fh fs fws fw c0 J e lo.toNat hi (row0 lo k) g) : BAcc fh fs fws fw c0 J e lo.toNat hi (row0 lo (k + 1)) g' := by
  intro r h1 h2 h3 j hj y hy
  by_cases hlt : r < row0 lo k
  · rw [hm.miss y (fun j' x hj' hx hl => by omega)]
    exact h r h1 h2 hlt j hj y hy
  · have e0 : row0 lo (k + 1) = row0 lo k + 128 := by unfold row0; omega
    have hx : r - row0 lo k < 128 := by omega
    rw [hm.hit y j (r - row0 lo k) hx hj (by omega) (by omega), hV j hj]
    have eb : blkOf lo.toNat r = row0 lo k := by unfold blkOf; unfold row0 at hx hlt ⊢; omega
    unfold unitV
    have ex : ∀ b, b = row0 lo k → blkV fh fs fws fw c0 e (row0 lo k) j (ValueIdx.ix2 (n0 := 128) (n1 := 128) ⟨r - row0 lo k, hx⟩ (y (1 : Fin 2)))
        = blkV fh fs fws fw c0 e b j (ValueIdx.ix2 (n0 := 128) (n1 := 128) ⟨(r - b) % 128, Nat.mod_lt _ (by decide)⟩ (y (1 : Fin 2))) := fun b hb => by
      subst hb
      exact congrArg (fun z => blkV fh fs fws fw c0 e (row0 lo k) j (ValueIdx.ix2 (n0 := 128) (n1 := 128) z (y (1 : Fin 2)))) (Fin.ext (Nat.mod_eq_of_lt hx).symm)
    exact ex _ eb

/-- An entry finished. -/
theorem UAcc.next {c0 J i : ℕ} {lo hi : BitVec 32} (hlo : (lv fl 1 i).toNat = lo.toNat) (hhi : (lv fl 2 i).toNat = hi.toNat) (hR : Rows lo hi)
    {g : mAcc.view.ty.Contents (Elt F)} (h : UAcc fl fh fs fws fw c0 J i g)
    (hB : BAcc fh fs fws fw c0 J (lv fl 0 i).toNat lo.toNat hi.toNat (row0 lo (nBlocks lo hi)) g) : UAcc fl fh fs fws fw c0 J (i + 1) g := by
  intro i' hi' r h1 h2 j hj y hy
  by_cases e : i' = i
  · subst e
    rw [hlo] at h1 ⊢
    exact hB r h1 (by omega) (by have := row0_end hR; omega) j hj y hy
  · exact h i' (by omega) r h1 h2 j hj y hy

/-! ## The parts of a block -/

theorem hB_eq {b : ℕ} (hb : b ≤ 992) {off : Fin 2 → ℕ} (e : off = ![b, 0]) (inb : ∀ a, off a + S128x1408.size a ≤ S1120x1408.size a) :
    mH.view.readAt (Elt F) (Rect.unit (s := S1120x1408) off S128x1408.size inb).toLoadRect fh = hB fh b := by
  have e' : off = ![min b 992, 0] := by rw [e, Nat.min_eq_left hb]
  subst e'; rfl
theorem sB_eq {b : ℕ} (hb : b ≤ 992) {off : Fin 2 → ℕ} (e : off = ![b, 0]) (inb : ∀ a, off a + S128x128.size a ≤ S1120x128.size a) :
    mHsx.view.readAt (Elt F) (Rect.unit (s := S1120x128) off S128x128.size inb).toLoadRect fs = sB fs b := by
  have e' : off = ![min b 992, 0] := by rw [e, Nat.min_eq_left hb]
  subst e'; rfl
theorem zB_eq {x c : ℕ} (hx : x ≤ 14) (hc : c ≤ 3072) {off : Fin 2 → ℕ} (e : off = ![x, c]) (inb : ∀ a, off a + S1x1024.size a ≤ S15x4096.size a) :
    mWs.view.readAt (Elt F) (Rect.unit (s := S15x4096) off S1x1024.size inb).toLoadRect fws = zB fws x c := by
  have e' : off = ![min x 14, min c 3072] := by rw [e, Nat.min_eq_left hx, Nat.min_eq_left hc]
  subst e'; rfl

theorem castsA : S1x1408x3072.ShapeCasts S1408x3072 := by decide +kernel
theorem castsB : S1x1408x1024.ShapeCasts S1408x1024 := by decide +kernel

/-- A slot's element, through the slot's view and through the ring's. -/
theorem rslot_read (s : Fin 6) (f : mRing.view.ty.Contents (Elt F)) (d : Fin 1408) (z : Fin 3072) :
    (rslot s).view.read (Elt F) f (ValueIdx.ix2 d z) = mRing.view.read (Elt F) f (ValueIdx.ix3 s d z) := by
  refine (congrFun (Memref.read_squeeze_slice (Val := Elt F) mRing (Rect.unit (s := S6x1408x3072) ![s.val, 0, 0] S1x1408x3072.size (inbSlot s)) (fun _ => rfl) squeezes_S1x1408x3072_S1408x3072 castsA f) _).trans ?_
  rw [ValueIdx.shapeCast_1ab_ab_apply]
  show mRing.view.read (Elt F) f _ = _
  congr 1
  funext a
  refine Fin.ext ?_
  fin_cases a
  · show s.val + 1 * 0 = s.val; omega
  · show 0 + 1 * d.val = d.val; omega
  · show 0 + 1 * z.val = z.val; omega
theorem rslot1_read (s : Fin 6) (f : mRing.view.ty.Contents (Elt F)) (d : Fin 1408) (z : Fin 1024) :
    (rslot1 s).view.read (Elt F) f (ValueIdx.ix2 d z) = mRing.view.read (Elt F) f (ValueIdx.ix3 s d ⟨z.val, by omega⟩) := by
  refine (congrFun (Memref.read_squeeze_slice (Val := Elt F) mRing (Rect.unit (s := S6x1408x3072) ![s.val, 0, 0] S1x1408x1024.size (inbR1 s)) (fun _ => rfl) squeezes_S1x1408x1024_S1408x1024 castsB f) _).trans ?_
  rw [ValueIdx.shapeCast_1ab_ab_apply]
  show mRing.view.read (Elt F) f _ = _
  congr 1
  funext a
  refine Fin.ext ?_
  fin_cases a
  · show s.val + 1 * 0 = s.val; omega
  · show 0 + 1 * d.val = d.val; omega
  · show 0 + 1 * z.val = z.val; omega
theorem wsl0_read (e : Fin 15) (d : Fin 1408) (z : Fin 3072) :
    (wsl0 e).view.read (Elt F) fw (ValueIdx.ix2 d z) = aW.view.read (Elt F) fw (ValueIdx.ix3 e d ⟨z.val, by omega⟩) := by
  refine (congrFun (Memref.read_squeeze_slice (Val := Elt F) aW (Rect.unit (s := S15x1408x4096) ![e.val, 0, 0] S1x1408x3072.size (inbW0 e)) (fun _ => rfl) squeezes_S1x1408x3072_S1408x3072 castsA fw) _).trans ?_
  rw [ValueIdx.shapeCast_1ab_ab_apply]
  show aW.view.read (Elt F) fw _ = _
  congr 1
  funext a
  refine Fin.ext ?_
  fin_cases a
  · show e.val + 1 * 0 = e.val; omega
  · show 0 + 1 * d.val = d.val; omega
  · show 0 + 1 * z.val = z.val; omega
theorem wsl1_read (e : Fin 15) (d : Fin 1408) (z : Fin 1024) :
    (wsl1 e).view.read (Elt F) fw (ValueIdx.ix2 d z) = aW.view.read (Elt F) fw (ValueIdx.ix3 e d ⟨3072 + z.val, by omega⟩) := by
  refine (congrFun (Memref.read_squeeze_slice (Val := Elt F) aW (Rect.unit (s := S15x1408x4096) ![e.val, 0, 3072] S1x1408x1024.size (inbW1 e)) (fun _ => rfl) squeezes_S1x1408x1024_S1408x1024 castsB fw) _).trans ?_
  rw [ValueIdx.shapeCast_1ab_ab_apply]
  show aW.view.read (Elt F) fw _ = _
  congr 1
  funext a
  refine Fin.ext ?_
  fin_cases a
  · show e.val + 1 * 0 = e.val; omega
  · show 0 + 1 * d.val = d.val; omega
  · show 3072 + 1 * z.val = 3072 + z.val; omega

/-- What a block reads of its slot: the expert's weights. -/
theorem ring_wB0 (s : Fin 6) (e : Fin 15) {c : ℕ} (hc : c ≤ 2048) {off : Fin 3 → ℕ} (eo : off = ![s.val, 0, c]) (inb : ∀ a, off a + S1x1408x1024.size a ≤ S6x1408x3072.size a)
    (f : mRing.view.ty.Contents (Elt F)) :
    mRing.view.readAt (Elt F) (Rect.unit (s := S6x1408x3072) off S1x1408x1024.size inb).toLoadRect
      ((rslot s).view.writes (Elt F) f [⟨Rect.whole S1408x3072, ReadAs.same.apply ((wsl0 e).view.read (Elt F) fw)⟩]) = wB fw e.val (0 + c) := by
  subst eo
  funext y
  have h0 : (y (0 : Fin 3)).val = 0 := by have := (y (0 : Fin 3)).isLt; change _ < 1 at this; omega
  have h1 : (y (1 : Fin 3)).val < 1408 := (y (1 : Fin 3)).isLt
  have h2 : (y (2 : Fin 3)).val < 1024 := (y (2 : Fin 3)).isLt
  have r := rslot_read s ((rslot s).view.writes (Elt F) f [⟨Rect.whole S1408x3072, ReadAs.same.apply ((wsl0 e).view.read (Elt F) fw)⟩]) ⟨_, h1⟩ ⟨c + (y (2 : Fin 3)).val, by omega⟩
  rw [congrFun (View.read_writes_whole (rslot s).view f (ReadAs.same.apply ((wsl0 e).view.read (Elt F) fw))) _] at r
  have r2 := (show (wsl0 e).view.read (Elt F) fw (ValueIdx.ix2 ⟨_, h1⟩ ⟨c + (y (2 : Fin 3)).val, by omega⟩) = _ from r)
  rw [wsl0_read] at r2
  refine Eq.trans ?_ (r2.symm.trans ?_)
  · show mRing.view.read (Elt F) _ _ = _
    congr 1
    funext a
    refine Fin.ext ?_
    fin_cases a
    · show s.val + 1 * (y (0 : Fin 3)).val = s.val; omega
    · show 0 + 1 * (y (1 : Fin 3)).val = (y (1 : Fin 3)).val; omega
    · show c + 1 * (y (2 : Fin 3)).val = c + (y (2 : Fin 3)).val; omega
  · show _ = aW.view.read (Elt F) fw _
    congr 1
    funext a
    refine Fin.ext ?_
    have := e.isLt
    fin_cases a
    · show e.val = min e.val 14 + 1 * (y (0 : Fin 3)).val; omega
    · show (y (1 : Fin 3)).val = 0 + 1 * (y (1 : Fin 3)).val; omega
    · show c + (y (2 : Fin 3)).val = min (0 + c) 3072 + 1 * (y (2 : Fin 3)).val; omega
theorem ring_wB1 (s : Fin 6) (e : Fin 15) {off : Fin 3 → ℕ} (eo : off = ![s.val, 0, 0]) (inb : ∀ a, off a + S1x1408x1024.size a ≤ S6x1408x3072.size a)
    (f : mRing.view.ty.Contents (Elt F)) :
    mRing.view.readAt (Elt F) (Rect.unit (s := S6x1408x3072) off S1x1408x1024.size inb).toLoadRect
      ((rslot1 s).view.writes (Elt F) f [⟨Rect.whole S1408x1024, ReadAs.same.apply ((wsl1 e).view.read (Elt F) fw)⟩]) = wB fw e.val 3072 := by
  subst eo
  funext y
  have h0 : (y (0 : Fin 3)).val = 0 := by have := (y (0 : Fin 3)).isLt; change _ < 1 at this; omega
  have h1 : (y (1 : Fin 3)).val < 1408 := (y (1 : Fin 3)).isLt
  have h2 : (y (2 : Fin 3)).val < 1024 := (y (2 : Fin 3)).isLt
  have r := rslot1_read s ((rslot1 s).view.writes (Elt F) f [⟨Rect.whole S1408x1024, ReadAs.same.apply ((wsl1 e).view.read (Elt F) fw)⟩]) ⟨_, h1⟩ ⟨_, h2⟩
  rw [congrFun (View.read_writes_whole (rslot1 s).view f (ReadAs.same.apply ((wsl1 e).view.read (Elt F) fw))) _] at r
  have r2 := (show (wsl1 e).view.read (Elt F) fw (ValueIdx.ix2 ⟨_, h1⟩ ⟨_, h2⟩) = _ from r)
  rw [wsl1_read] at r2
  refine Eq.trans ?_ (r2.symm.trans ?_)
  · show mRing.view.read (Elt F) _ _ = _
    congr 1
    funext a
    refine Fin.ext ?_
    fin_cases a
    · show s.val + 1 * (y (0 : Fin 3)).val = s.val; omega
    · show 0 + 1 * (y (1 : Fin 3)).val = (y (1 : Fin 3)).val; omega
    · show 0 + 1 * (y (2 : Fin 3)).val = (y (2 : Fin 3)).val; omega
  · show _ = aW.view.read (Elt F) fw _
    congr 1
    funext a
    refine Fin.ext ?_
    have := e.isLt
    fin_cases a
    · show e.val = min e.val 14 + 1 * (y (0 : Fin 3)).val; omega
    · show (y (1 : Fin 3)).val = 0 + 1 * (y (1 : Fin 3)).val; omega
    · show 3072 + (y (2 : Fin 3)).val = min 3072 3072 + 1 * (y (2 : Fin 3)).val; omega

theorem colV_eq0 {h : Vec F S128x1408 .fp8e4m3} {hs : Vec F S128x128 .f32} {w0 w1 w2 : Vec F S1x1408x1024 .fp8e4m3} {z0 z1 z2 : Vec F S1x1024 .f32} {e b : ℕ}
    (eh : h = hB fh b) (es : hs = sB fs b) (ew0 : w0 = wB fw e (0 + 0)) (ew1 : w1 = wB fw e (0 + 1024)) (ew2 : w2 = wB fw e (0 + 2048))
    (ez0 : z0 = zB fws e 0) (ez1 : z1 = zB fws e 1024) (ez2 : z2 = zB fws e 2048) (j : ℕ) (hj : j < 24) :
    colV h hs (pick3 w0 w1 w2) (pick3 z0 z1 z2) j = blkV fh fs fws fw 0 e b j := by
  subst eh es ew0 ew1 ew2 ez0 ez1 ez2
  have h3 : j / 8 = 0 ∨ j / 8 = 1 ∨ j / 8 = 2 := by omega
  unfold blkV colV
  rcases h3 with h3 | h3 | h3 <;> rw [h3] <;> rfl
theorem colV_eq1 {h : Vec F S128x1408 .fp8e4m3} {hs : Vec F S128x128 .f32} {w : Vec F S1x1408x1024 .fp8e4m3} {z : Vec F S1x1024 .f32} {e b : ℕ}
    (eh : h = hB fh b) (es : hs = sB fs b) (ew : w = wB fw e 3072) (ez : z = zB fws e 3072) (j : ℕ) (hj : j < 8) :
    colV h hs (fun _ => w) (fun _ => z) j = blkV fh fs fws fw 3072 e b j := by
  subst eh es ew ez
  have h3 : j / 8 = 0 := by omega
  unfold blkV colV
  rw [h3]

/-- A block, for the entries before and the entry itself. -/
theorem step_acc {n c0 J i e hi : ℕ} {lo lo' : BitVec 32} (el : lo = lo') (hL : LiveOK n fl) (hin : i < n) (hlo : (lv fl 1 i) = lo') (hhi : hi ≤ 1024) {k : ℕ} (hb : row0 lo k + 128 ≤ 1121)
    {V : ℕ → FVec F S128x128 .f32} {g g' : mAcc.view.ty.Contents (Elt F)} (hm : Merge mAcc.view (row0 lo k) lo.toNat V J g g')
    (hV : ∀ j < J, V j = blkV fh fs fws fw c0 e (row0 lo k) j)
    (h : UAcc fl fh fs fws fw c0 J i g ∧ BAcc fh fs fws fw c0 J e lo'.toNat hi (row0 lo' k) g) :
    UAcc fl fh fs fws fw c0 J i g' ∧ BAcc fh fs fws fw c0 J e lo'.toNat hi (row0 lo' (k + 1)) g' := by
  subst el
  exact ⟨UAcc.merge hL hin (by rw [hlo]) hb hm h.1, BAcc.merge hb hhi hm hV h.2⟩
/-- The blocks of an entry done. -/
theorem fin_acc {c0 J i T : ℕ} {lo hi : BitVec 32} (el : lo = lv fl 1 i) (eh : hi = lv fl 2 i) (hR : Rows lo hi) (hT : T = nBlocks lo hi)
    {g : mAcc.view.ty.Contents (Elt F)}
    (h : UAcc fl fh fs fws fw c0 J i g ∧ BAcc fh fs fws fw c0 J (lv fl 0 i).toNat (lv fl 1 i).toNat (lv fl 2 i).toNat (row0 (lv fl 1 i) T) g) :
    UAcc fl fh fs fws fw c0 J (i + 1) g := by
  subst el eh hT
  exact UAcc.next rfl rfl hR h.1 h.2
theorem BAcc.zero {c0 J e hi : ℕ} (lo : BitVec 32) (g : mAcc.view.ty.Contents (Elt F)) : BAcc fh fs fws fw c0 J e lo.toNat hi (row0 lo 0) g :=
  fun r h1 h2 h3 => by unfold row0 at h3; omega

end Cert.Proof.K

end
-- ==== Proof.K.Blk.lean ====
/-
  One block of one expert: 128 rows of the activations times the expert's slot of the ring, scaled by the expert's and
  the rows' scales, stored into the accumulator's columns.
-/
module

public import proofs.«01_k».proof.Proof.K.BlkV
public import Idealize.ShloMosaic.Lib.Pipeline.Value

@[expose] public section

set_option maxRecDepth 16384
set_option maxHeartbeats 4000000

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]
local notation "𝕄" => MT nD τ sig Unit (Elt F) ℕ (UU nD τ) ℕ

set_option sl_exec.squeezeSlice true

/-- One trip of the block loop of a unit of the first width: block `k` of the rows `lo ≤ r < hi` of expert `e`. -/
theorem blk0 [∀ e, Nonempty (Elt F e)] (c : Dev nD) (v10 : BitVec 32) (hw2 : k0_chk2 v10) (t2 : Fin (k0_t2_loop v10).trips)
    (v2768 e lo hi : BitVec 32) (hw : k0_chk16 v10 t2 e lo hi) (hR : Rows lo hi) (k : Fin (k0_t3_loop lo hi).trips) (a : BitVec 32)
    (s : Fin 6)
    (hr0 : ∀ hh, (mRing.access (Rect.unit (s := S6x1408x3072) (k0_off61 v10 t2) S1x1408x1024.size hh)).set ⊆ (rslot s).view.set)
    (hr1 : ∀ hh, (mRing.access (Rect.unit (s := S6x1408x3072) (k0_off65 v10 t2) S1x1408x1024.size hh)).set ⊆ (rslot s).view.set)
    (hr2 : ∀ hh, (mRing.access (Rect.unit (s := S6x1408x3072) (k0_off67 v10 t2) S1x1408x1024.size hh)).set ⊆ (rslot s).view.set)
    (fh : Buf (Elt F) (mH.view.loc (c : Thread nD τ))) (fs : Buf (Elt F) (mHsx.view.loc (c : Thread nD τ)))
    (fw : Buf (Elt F) (mWs.view.loc (c : Thread nD τ))) (fr : Buf (Elt F) ((rslot s).view.loc (c : Thread nD τ)))
    (g : Buf (Elt F) (mAcc.view.loc (c : Thread nD τ))) (Q : BitVec 32 → sProp 𝕄) :
    iprop((mH.view.loc (c : Thread nD τ) ↦{fullShare} fh) ∗ (mHsx.view.loc (c : Thread nD τ) ↦{fullShare} fs) ∗ (mWs.view.loc (c : Thread nD τ) ↦{fullShare} fw)
        ∗ ((rslot s).view.loc (c : Thread nD τ) ↦[(rslot s).view.set]{fullShare} fr) ∗ (mAcc.view.loc (c : Thread nD τ) ↦{fullShare} g)
        ∗ ((mH.view.loc (c : Thread nD τ) ↦{fullShare} fh) ∗ (mHsx.view.loc (c : Thread nD τ) ↦{fullShare} fs) ∗ (mWs.view.loc (c : Thread nD τ) ↦{fullShare} fw)
        ∗ ((rslot s).view.loc (c : Thread nD τ) ↦[(rslot s).view.set]{fullShare} fr)
        ∗ (∃ g' : Buf (Elt F) (mAcc.view.loc (c : Thread nD τ)), (mAcc.view.loc (c : Thread nD τ) ↦{fullShare} g')
          ∗ ⌜Merge mAcc.view (row0 lo k) lo.toNat (colV (mH.view.readAt (Elt F) (Rect.unit (s := S1120x1408) (k0_off59 lo hi k) S128x1408.size (k0_off59_inb v10 t2 e lo hi hw k)).toLoadRect fh)
              (mHsx.view.readAt (Elt F) (Rect.unit (s := S1120x128) (k0_off60 lo hi k) S128x128.size (k0_off60_inb v10 t2 e lo hi hw k)).toLoadRect fs)
              (pick3 (mRing.view.readAt (Elt F) (Rect.unit (s := S6x1408x3072) (k0_off61 v10 t2) S1x1408x1024.size (k0_off61_inb v10 t2 e lo hi hw k)).toLoadRect fr) (mRing.view.readAt (Elt F) (Rect.unit (s := S6x1408x3072) (k0_off65 v10 t2) S1x1408x1024.size (k0_off65_inb v10 t2 e lo hi hw k)).toLoadRect fr) (mRing.view.readAt (Elt F) (Rect.unit (s := S6x1408x3072) (k0_off67 v10 t2) S1x1408x1024.size (k0_off67_inb v10 t2 e lo hi hw k)).toLoadRect fr))
              (pick3 (mWs.view.readAt (Elt F) (Rect.unit (s := S15x4096) (k0_off62 e) S1x1024.size (k0_off62_inb v10 t2 e lo hi hw k)).toLoadRect fw) (mWs.view.readAt (Elt F) (Rect.unit (s := S15x4096) (k0_off66 e) S1x1024.size (k0_off66_inb v10 t2 e lo hi hw k)).toLoadRect fw) (mWs.view.readAt (Elt F) (Rect.unit (s := S15x4096) (k0_off68 e) S1x1024.size (k0_off68_inb v10 t2 e lo hi hw k)).toLoadRect fw))) 24 g g'⌝) -∗ Q 0#32))
      ⊢ wp frame (wpE defs₀ 𝒱₀ (c : Thread nD τ) none) Set.univ
        (k0_t3_body (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v10 hw2 0#32 1#32 t2 v2768 e lo hi hw (Scalar.andi lo 4294967264#32) k a) Q := by
  have hk : k.val < nBlocks lo hi := Nat.lt_of_lt_of_eq k.isLt (trips3 hR)
  have hb : row0 lo k + 128 ≤ 1121 := by have := row0_lt hR hk; unfold row0 at *; omega
  have hlo : lo.toNat ≤ row0 lo k + 31 := by unfold row0; omega
  iintro ⟨Hh, Hs, Hw, Hr, Ha, Hk⟩
  sl_unfold [k0_t3_body]
  sl_exec
  sl_step
  iapply Hk
  isplitl [Hh]; · iexact Hh
  isplitl [Hs]; · iexact Hs
  isplitl [Hw]; · iexact Hw
  isplitl [Hr]; · iexact Hr
  iexists _
  isplitl [Ha]; · iexact Ha
  ipureintro
  iterate 24 refine Merge.step mAcc.view hb hlo _ _ (off63_eq hR k _ (by decide)) (off64_eq hR k _ (by decide)) (fun i => mask_iff (F := F) hR k i) (by refine Eq.trans ?_ (shapeCast_self _ shapeCasts_S32x128_S32x128); rfl) (by refine Eq.trans ?_ (shapeCast_self _ shapeCasts_S96x128_S96x128); rfl) ?_
  exact Merge.zero _ _ _ _ _

end Cert.Proof.K

end
-- ==== Proof.K.Unit0.lean ====
/-
  One unit of the loop over the experts that have rows: its weights waited for, its blocks of rows multiplied, the next
  copy into its slot started.
-/
module

public import proofs.«01_k».proof.Proof.K.Live
public import proofs.«01_k».proof.Proof.K.Val
public import proofs.«01_k».proof.Proof.K.Blk

@[expose] public section

set_option maxRecDepth 16384
set_option maxHeartbeats 4000000

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.ValueIdx (ix1 ix2 ix3)

variable {F : FTy → Type} [FloatOps F]
local notation "𝕄" => MT nD τ sig Unit (Elt F) ℕ (UU nD τ) ℕ

/-- What a unit uses, apart from the ring: the table, the three operands, the accumulator and the core's waits. -/
abbrev unitRes0 (c : Dev nD) (fl : Buf (Elt F) (mLive.view.loc (c : Thread nD τ))) (fh : Buf (Elt F) (mH.view.loc (c : Thread nD τ))) (fs : Buf (Elt F) (mHsx.view.loc (c : Thread nD τ)))
    (fws : Buf (Elt F) (mWs.view.loc (c : Thread nD τ))) (fw : Buf (Elt F) (aW.view.loc (c : Thread nD τ))) (n u : ℕ) : sProp 𝕄 :=
  iprop(rings c fw fl n u ∗ (mLive.view.loc (c : Thread nD τ) ↦{fullShare} fl) ∗ (mH.view.loc (c : Thread nD τ) ↦{fullShare} fh) ∗ (mHsx.view.loc (c : Thread nD τ) ↦{fullShare} fs) ∗ (mWs.view.loc (c : Thread nD τ) ↦{fullShare} fws) ∗ (∃ g, (mAcc.view.loc (c : Thread nD τ) ↦{fullShare} g) ∗ ⌜UAcc fl fh fs fws fw 0 24 u g⌝) ∗ (∃ Wt, owes (c : Thread nD τ) 0 Wt))

/-- The trip of unit `t.val` (width 0): its copy is waited for, its blocks computed, the copy of the unit six later started. -/
theorem trip0 [∀ e, Nonempty (Elt F e)] (c : Dev nD) {n : ℕ} (hn : n ≤ 15) (hw2 : k0_chk2 (W n)) (cst : F .fp8e4m3) (t : Fin (k0_t2_loop (W n)).trips) (a : BitVec 32)
    (fl : Buf (Elt F) (mLive.view.loc (c : Thread nD τ))) (hL : LiveOK n fl) (fh : Buf (Elt F) (mH.view.loc (c : Thread nD τ))) (fs : Buf (Elt F) (mHsx.view.loc (c : Thread nD τ)))
    (fws : Buf (Elt F) (mWs.view.loc (c : Thread nD τ))) (fw : Buf (Elt F) (aW.view.loc (c : Thread nD τ))) (Q : BitVec 32 → sProp 𝕄) :
    iprop(unitRes0 c fl fh fs fws fw n t.val ∗ (unitRes0 c fl fh fs fws fw n (t.val + 1) -∗ Q 0#32))
      ⊢ wp frame (wpE defs₀ 𝒱₀ (c : Thread nD τ) none) Set.univ (k0_t2_body (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 (W n) hw2 cst t a) Q := by
  have ht : t.val < n := trip2_lt hn t
  have hsl := slot0 ⟨n, by omega⟩ ⟨t.val, by omega⟩
  have hs6 : t.val % 6 < 6 := Nat.mod_lt _ (by decide)
  let s : Fin 6 := ⟨t.val % 6, hs6⟩
  have e0 : k0_off53 (W n) t = ![0, t.val] := congrArg (fun z => (![0, z] : Fin 2 → ℕ)) (iv_toNat (by omega))
  have e1 : k0_off54 (W n) t = ![1, t.val] := congrArg (fun z => (![1, z] : Fin 2 → ℕ)) (iv_toNat (by omega))
  have e2 : k0_off55 (W n) t = ![2, t.val] := congrArg (fun z => (![2, z] : Fin 2 → ℕ)) (iv_toNat (by omega))
  have eC : k0_off56 (W n) t = ![s.val] := congrArg (fun z => (![z] : Fin 1 → ℕ)) hsl
  have v0 := ld_lv fl e0 (k0_off53_inb (W n) hw2 t)
  have v1 := ld_lv fl e1 (k0_off54_inb (W n) hw2 t)
  have v2 := ld_lv fl e2 (k0_off55_inb (W n) hw2 t)
  have hchk : ∀ x y z, k0_chk16 (W n) t (mLive.view.readAt (Elt F) (Rect.unit (s := S3x16) (k0_off53 (W n) t) S1x1.size (k0_off53_inb (W n) hw2 t)).toLoadRect fl x)
      (mLive.view.readAt (Elt F) (Rect.unit (s := S3x16) (k0_off54 (W n) t) S1x1.size (k0_off54_inb (W n) hw2 t)).toLoadRect fl y)
      (mLive.view.readAt (Elt F) (Rect.unit (s := S3x16) (k0_off55 (W n) t) S1x1.size (k0_off55_inb (W n) hw2 t)).toLoadRect fl z) := fun x y z =>
    chk16_of hn t (by rw [v0]; exact hL.ex _ ht) (by rw [v1, v2]; exact hL.rows _ ht)
  have hRo : ∀ y z, Rows (mLive.view.readAt (Elt F) (Rect.unit (s := S3x16) (k0_off54 (W n) t) S1x1.size (k0_off54_inb (W n) hw2 t)).toLoadRect fl y)
      (mLive.view.readAt (Elt F) (Rect.unit (s := S3x16) (k0_off55 (W n) t) S1x1.size (k0_off55_inb (W n) hw2 t)).toLoadRect fl z) := fun y z => by
    rw [v1, v2]; exact hL.rows _ ht
  have eA0 : k0_off61 (W n) t = ![s.val, 0, 0] := congrArg (fun z => (![z, 0, 0] : Fin 3 → ℕ)) hsl
  have eA1 : k0_off65 (W n) t = ![s.val, 0, 1024] := congrArg (fun z => (![z, 0, 1024] : Fin 3 → ℕ)) hsl
  have eA2 : k0_off67 (W n) t = ![s.val, 0, 2048] := congrArg (fun z => (![z, 0, 2048] : Fin 3 → ℕ)) hsl
  have hchk' : ∀ x, k0_chk15 (mLive.view.readAt (Elt F) (Rect.unit (s := S3x16) (k0_off53 (W n) t) S1x1.size (k0_off53_inb (W n) hw2 t)).toLoadRect fl x) := fun x =>
    ⟨chkW0 _ (by rw [v0]; exact hL.ex _ ht), fun h => chkWW0 _ _ _⟩
  iintro ⟨⟨HR, HL, Hh, Hs, Hws, ⟨%g, Ha, %hU⟩, ⟨%Wt, HO⟩⟩, Hk⟩
  ihave HR' := rings_step c fw fl n t.val s rfl $$ HR
  icases HR' with ⟨Hr, Hback⟩
  have hst : ust fl n t.val = .fly0 (exi fl t) := by unfold ust; rw [if_pos ht]
  rw [hst]
  ihave Hr2 := (show rSt c fw s (.fly0 (exi fl t)) ⊢ rFly0 c fw s (exi fl t) from .rfl) $$ Hr
  icases Hr2 with ⟨⟨%f, Hfl⟩, Htok⟩
  ihave Hfly := fly_cell c s eC (k0_off56_inb (W n) hw2 t) 135168 _ $$ Hfl
  sl_unfold [k0_t2_body]
  sl_rw [k0_part19_eq_skeleton]
  sl_unfold [k0_part19_skel]
  sl_exec (disch := first | exact hchk _ _ _ | exact hchk' _)
  iapply (Entails.of_eq (wp_bind ..).symm)
  sl_for (fun (k : ℕ) (_ : BitVec 32) => iprop((mH.view.loc (c : Thread nD τ) ↦{fullShare} fh) ∗ (mHsx.view.loc (c : Thread nD τ) ↦{fullShare} fs) ∗ (mWs.view.loc (c : Thread nD τ) ↦{fullShare} fws)
    ∗ ((rslot s).view.loc (c : Thread nD τ) ↦[(rslot s).view.set]{fullShare} (rslot s).view.writes (Elt F) f [⟨Rect.whole S1408x3072, ReadAs.same.apply ((wsl0 (exi fl t)).view.read (Elt F) fw)⟩])
    ∗ (∃ g, (mAcc.view.loc (c : Thread nD τ) ↦{fullShare} g) ∗ ⌜UAcc fl fh fs fws fw 0 24 t.val g ∧ BAcc fh fs fws fw 0 24 (lv fl 0 t.val).toNat (lv fl 1 t.val).toNat (lv fl 2 t.val).toNat (row0 (lv fl 1 t.val) k) g⌝))) $$ [Hh Hs Hws Hfly_dst Ha]
  case region =>
    intro k acc
    iintro ⟨Hh, Hs, Hws, Hr, ⟨%g, Ha, %hg⟩⟩
    iapply (blk0 c (W n) hw2 t _ _ _ _ (hchk _ _ _) (hRo _ _) k _ s (acc_sub s 0 (by decide) eA0) (acc_sub s 1024 (by decide) eA1) (acc_sub s 2048 (by decide) eA2) fh fs fws _ g _)
    isplitl [Hh]; · iexact Hh
    isplitl [Hs]; · iexact Hs
    isplitl [Hws]; · iexact Hws
    isplitl [Hr]; · iexact Hr
    isplitl [Ha]; · iexact Ha
    iintro ⟨Hh, Hs, Hws, Hr, ⟨%g', Ha, %hm⟩⟩
    isplitl [Hh]; · iexact Hh
    isplitl [Hs]; · iexact Hs
    isplitl [Hws]; · iexact Hws
    isplitl [Hr]; · iexact Hr
    iexists g'
    isplitl [Ha]; · iexact Ha
    ipureintro
    have hkb := Nat.lt_of_lt_of_eq k.isLt (trips3 (hRo _ _))
    have hrow := row0_lt (hRo _ _) hkb
    refine step_acc (v1 _) hL ht rfl (hL.rows _ ht).le (by unfold row0 at *; omega) hm (fun j hj => colV_eq0 (hB_eq (by unfold row0 at *; omega) (off59_eq (hRo _ _) k) _) (sB_eq (by unfold row0 at *; omega) (off60_eq (hRo _ _) k) _)
      ((ring_wB0 s (exi fl t) (by decide) eA0 _ _).trans (by rw [hL.ex_val ht])) ((ring_wB0 s (exi fl t) (by decide) eA1 _ _).trans (by rw [hL.ex_val ht])) ((ring_wB0 s (exi fl t) (by decide) eA2 _ _).trans (by rw [hL.ex_val ht]))
      (zB_eq (by have := hL.ex _ ht; omega) (by decide) (congrArg (fun z => (![z, 0] : Fin 2 → ℕ)) (congrArg BitVec.toNat (v0 _))) _) (zB_eq (by have := hL.ex _ ht; omega) (by decide) (congrArg (fun z => (![z, 1024] : Fin 2 → ℕ)) (congrArg BitVec.toNat (v0 _))) _) (zB_eq (by have := hL.ex _ ht; omega) (by decide) (congrArg (fun z => (![z, 2048] : Fin 2 → ℕ)) (congrArg BitVec.toNat (v0 _))) _) j hj) hg
  · isplitl [Hh]; · iexact Hh
    isplitl [Hs]; · iexact Hs
    isplitl [Hws]; · iexact Hws
    isplitl [Hfly_dst]; · iexact Hfly_dst
    iexists g
    isplitl [Ha]; · iexact Ha
    ipureintro; exact ⟨hU, BAcc.zero _ _⟩
  iintro %acc ⟨Hh, Hs, Hws, Hr, ⟨%g2, Ha, %hg2⟩⟩
  have hU2 : UAcc fl fh fs fws fw 0 24 (t.val + 1) g2 := fin_acc (v1 _) (v2 _) (hRo _ _) (trips3 (hRo _ _)) hg2
  sl_exec
  ihave Hc := cell_back c s eC (k0_off56_inb (W n) hw2 t) $$ Hfly
  have hsW := slotW 0 ⟨n, by omega⟩ ⟨t.val, by omega⟩
  have hsW : (Scalar.remsi (Scalar.addi (Scalar.addi (Scalar.muli (W (0 : Fin 2)) (W n)) (Scf.iv 0#32 1#32 t)) 6#32) 6#32).toNat = s.val := hsW.trans (by show _ = t.val % 6; simp)
  have hc0 : k0_cond13 (W n) t = 1#1 ↔ t.val + 6 < n := (condW_iff 0 0 ⟨n, by omega⟩ ⟨t.val, by omega⟩).trans ⟨fun h => by simp at h; omega, fun h => by simp; omega⟩
  have hc1 : k0_cond14 (W n) t = 1#1 ↔ n ≤ t.val + 6 ∧ t.val + 6 < 2 * n := (condW_iff 0 1 ⟨n, by omega⟩ ⟨t.val, by omega⟩).trans ⟨fun h => by simp at h; omega, fun h => by simp; omega⟩
  have hn0 : k0_cond13 (W n) t = 1#1 → (nextW 0 0 n t).toNat = t.val + 6 := fun h => (nextW_toNat 0 0 ⟨n, by omega⟩ ⟨t.val, by omega⟩ (by simp)).trans (by simp)
  have hn1 : k0_cond14 (W n) t = 1#1 → (nextW 0 1 n t).toNat = t.val + 6 - n := fun h => (nextW_toNat 0 1 ⟨n, by omega⟩ ⟨t.val, by omega⟩ (by have := hc1.mp h; simp; omega)).trans (by simp)
  let st1 : St := if t.val + 6 < n then .fly0 (exi fl (t.val + 6)) else .free
  iapply (site0 c fw fl s (k0_cond13 (W n) t) _ _ _ .free st1 (t.val + 6) (exi fl (t.val + 6)) (fun v => k0_chk17.dec (W n) t v)
    (offL := k0_off79 (W n) t) (offS := k0_off80 (W n) t) (offR := k0_off81 (W n) t) (offW := fun v => k0_off82 v)
    (fun h => ⟨k0_off79_inb (W n) hw2 t h, k0_off80_inb (W n) hw2 t h, k0_off81_inb (W n) hw2 t h, fun v hw => k0_off82_inb (W n) t v hw h, _, _, rfl⟩) (fun _ => rfl)
    (fun h => ⟨rfl, if_pos (hc0.mp h), hL.ex_val (by have := hc0.mp h; omega),
      fun v hv => ⟨fun _ => chkW0 v hv, fun _ _ => chkWW0 v _ _⟩, congrArg (fun z => (![0, z] : Fin 2 → ℕ)) (hn0 h), congrArg (fun z => (![z] : Fin 1 → ℕ)) hsW, congrArg (fun z => (![z, 0, 0] : Fin 3 → ℕ)) hsW⟩)
    (fun h => if_neg (fun h2 => h (hc0.mpr h2)))
    (fun v => rfl) _)
  isplitl [Hc Hr Htok]
  · iapply (show rFree c fw s ⊢ rSt c fw s .free from .rfl)
    isplitl [Hc]; · iexact Hc
    isplitl [Hr]; · iexists _; iexact Hr
    iexact Htok
  isplitl [HL]; · iexact HL
  iintro ⟨Hr, HL⟩
  iapply (site1 c fw fl s (k0_cond14 (W n) t) _ _ _ st1 (ust fl n (t.val + 6)) (t.val + 6 - n) (exi fl (t.val + 6 - n)) (fun v => k0_chk18.dec (W n) t v)
    (offL := k0_off83 (W n) t) (offS := k0_off84 (W n) t) (offR := k0_off85 (W n) t) (offW := fun v => k0_off86 v)
    (fun h => ⟨k0_off83_inb (W n) hw2 t h, k0_off84_inb (W n) hw2 t h, k0_off85_inb (W n) hw2 t h, fun v hw => k0_off86_inb (W n) t v hw h, _, _, rfl⟩) (fun _ => rfl)
    (fun h => ⟨if_neg (by have := hc1.mp h; omega), by unfold ust; rw [if_neg (by have := hc1.mp h; omega), if_pos (by have := hc1.mp h; omega)], hL.ex_val (by have := hc1.mp h; omega),
      fun v hv => ⟨fun _ => chkW1 v hv, fun _ _ => chkWW1 v _ _⟩, congrArg (fun z => (![0, z] : Fin 2 → ℕ)) (hn1 h), congrArg (fun z => (![z] : Fin 1 → ℕ)) hsW, congrArg (fun z => (![z, 0, 0] : Fin 3 → ℕ)) hsW⟩)
    (fun h => by
      by_cases h2 : t.val + 6 < n
      · exact (if_pos h2).trans (if_pos h2).symm
      · exact ((if_neg h2).trans (if_neg (fun h3 => h (hc1.mpr (by omega))))).trans (if_neg h2).symm)
    (fun v => rfl) _)
  isplitl [Hr]
  · iexact Hr
  isplitl [HL]; · iexact HL
  iintro ⟨Hr, HL⟩
  sl_step
  iapply Hk
  isplitl [Hback Hr]; · iapply Hback; iexact Hr
  isplitl [HL]; · iexact HL
  isplitl [Hh]; · iexact Hh
  isplitl [Hs]; · iexact Hs
  isplitl [Hws]; · iexact Hws
  isplitl [Ha]
  · iexists g2
    isplitl [Ha]; · iexact Ha
    ipureintro; exact hU2
  iexists _; iexact HO

end Cert.Proof.K

end
-- ==== Proof.K.ObV.lean ====
/-
  The rounded sums as the output buffer holds them, piece by piece.
-/
module

public import proofs.«01_k».proof.Proof.K.Pro
public import Idealize.ShloMosaic.Lib.ValueLayout
public import Idealize.ShloMosaic.Lib.WritesUnit
public import Idealize.ShloMosaic.Lib.Pointwise

@[expose] public section

set_option maxRecDepth 16384
set_option maxHeartbeats 4000000

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]
local notation "𝕄" => MT nD τ sig Unit (Elt F) ℕ (UU nD τ) ℕ

/-- The sum at row `r`, lane `l`, of the buffer of sums, and that rounded. -/
def rawO (o : mOtok.view.ty.Contents (Elt F)) (r : ℕ) (l : Fin 128) : F .f32 := if h : r < 6168 then (mOtok.view.read (Elt F) o (ValueIdx.ix2 ⟨r, h⟩ l) : Elt F .f32) else Scalar.ofBits .f32 0x00000000#32
def ovO (o : mOtok.view.ty.Contents (Elt F)) (r : ℕ) (l : Fin 128) : F .bf16 := FloatOps.truncf .bf16 bitsLt_bf16_f32 (rawO o r l)

/-- The first row of piece `P`. -/
def prow (P : ℕ) : ℕ := 257 * (P / 16) + 16 * (P % 16)

/-- A vector is the sums of piece `P`: as loaded, rounded, or shaped for the store. -/
def PF (o : mOtok.view.ty.Contents (Elt F)) (P : ℕ) (x : Vec F S16x128 .f32) : Prop := ∀ (a : Fin 16) (l : Fin 128), x (ValueIdx.ix2 a l) = rawO o (prow P + a.val) l
def PB (o : mOtok.view.ty.Contents (Elt F)) (P : ℕ) (x : FVec F S16x128 .bf16) : Prop := ∀ (a : Fin 16) (l : Fin 128), x (ValueIdx.ix2 a l) = ovO o (prow P + a.val) l
def PV (o : mOtok.view.ty.Contents (Elt F)) (P : ℕ) (x : FVec F S1x16x128 .bf16) : Prop := ∀ (u : Fin 1) (a : Fin 16) (l : Fin 128), x (ValueIdx.ix3 u a l) = ovO o (prow P + a.val) l

theorem PF.load (o : mOtok.view.ty.Contents (Elt F)) {P : ℕ} {off : Fin 2 → ℕ} (e : off = ![prow P, 0]) (inb : ∀ a, off a + S16x128.size a ≤ S6168x128.size a) :
    PF o P (mOtok.view.readAt (Elt F) (Rect.unit (s := S6168x128) off S16x128.size inb).toLoadRect o) := by
  subst e
  intro a l
  have h : prow P + 16 ≤ 6168 := inb 0
  have ha := a.isLt
  unfold rawO
  rw [dif_pos (by omega)]
  show mOtok.view.read (Elt F) o _ = _
  congr 1
  funext b
  refine Fin.ext ?_
  fin_cases b
  · show prow P + 1 * a.val = prow P + a.val; omega
  · show 0 + 1 * l.val = l.val; omega

theorem PB.ofF {o : mOtok.view.ty.Contents (Elt F)} {P : ℕ} {x : Vec F S16x128 .f32} (h : PF o P x) : PB o P (truncf .bf16 x bitsLt_bf16_f32) := fun a l =>
  congrArg (fun z : F .f32 => FloatOps.truncf .bf16 bitsLt_bf16_f32 z) (h a l)

theorem PV.ofB {o : mOtok.view.ty.Contents (Elt F)} {P : ℕ} {x : FVec F S16x128 .bf16} (h : PB o P x) : PV o P (shapeCast S1x16x128 x shapeCasts_S16x128_S1x16x128) := fun u a l =>
  (ValueIdx.shapeCast_ab_1ab_apply (a := 16) (b := 128) x shapeCasts_S16x128_S1x16x128 u a l).trans (h a l)

theorem PV.ofF {o : mOtok.view.ty.Contents (Elt F)} {P : ℕ} {x : Vec F S16x128 .f32} (h : PF o P x) : PV o P (shapeCast S1x16x128 (truncf .bf16 x bitsLt_bf16_f32) shapeCasts_S16x128_S1x16x128) := PV.ofB (PB.ofF h)

theorem PB.load (o : mOtok.view.ty.Contents (Elt F)) {P : ℕ} {off : Fin 2 → ℕ} (e : off = ![prow P, 0]) (inb : ∀ a, off a + S16x128.size a ≤ S6168x128.size a) :
    PB o P (truncf .bf16 (show Vec F S16x128 .f32 from mOtok.view.readAt (Elt F) (Rect.unit (s := S6168x128) off S16x128.size inb).toLoadRect o) bitsLt_bf16_f32) := PB.ofF (PF.load o e inb)
theorem PV.load (o : mOtok.view.ty.Contents (Elt F)) {P : ℕ} {off : Fin 2 → ℕ} (e : off = ![prow P, 0]) (inb : ∀ a, off a + S16x128.size a ≤ S6168x128.size a) :
    PV o P (shapeCast S1x16x128 (truncf .bf16 (show Vec F S16x128 .f32 from mOtok.view.readAt (Elt F) (Rect.unit (s := S6168x128) off S16x128.size inb).toLoadRect o) bitsLt_bf16_f32) shapeCasts_S16x128_S1x16x128) := PV.ofB (PB.load o e inb)

/-- The first `P` pieces of half `h` of the output buffer hold their rounded sums. -/
def OAcc (h : ℕ) (o : mOtok.view.ty.Contents (Elt F)) (P : ℕ) (b : mObuf.view.ty.Contents (Elt F)) : Prop :=
  ∀ y : S2x256x3072.Idx, (y (0 : Fin 3)).val = h → (y (2 : Fin 3)).val / 128 * 16 + (y (1 : Fin 3)).val / 16 < P →
    mObuf.view.read (Elt F) b y = ovO o (257 * ((y (2 : Fin 3)).val / 128) + (y (1 : Fin 3)).val) ⟨(y (2 : Fin 3)).val % 128, Nat.mod_lt _ (by decide)⟩

theorem OAcc.zero (h : ℕ) (o : mOtok.view.ty.Contents (Elt F)) (b : mObuf.view.ty.Contents (Elt F)) : OAcc h o 0 b := fun y _ hy => absurd hy (by omega)

/-- One piece more. -/
theorem OAcc.step {h : ℕ} {o : mOtok.view.ty.Contents (Elt F)} {P : ℕ} {b : mObuf.view.ty.Contents (Elt F)} {L : List (View.Piece (Elt F) S2x256x3072 .bf16)}
    {off : Fin 3 → ℕ} (e : off = ![h, 16 * (P % 16), 128 * (P / 16)]) {inb : ∀ a, off a + S1x16x128.size a ≤ S2x256x3072.size a} {v : FVec F S1x16x128 .bf16} (hv : PV o P v)
    (hb : OAcc h o P (mObuf.view.writes (Elt F) b L)) :
    OAcc h o (P + 1) (mObuf.view.writes (Elt F) b ((⟨Rect.unit (s := S2x256x3072) off S1x16x128.size inb, v⟩ : View.Piece (Elt F) S2x256x3072 .bf16) :: L)) := by
  subst e
  intro y hy0 hy
  have y1 : (y (1 : Fin 3)).val < 256 := (y (1 : Fin 3)).isLt
  have y2 : (y (2 : Fin 3)).val < 3072 := (y (2 : Fin 3)).isLt
  by_cases he : (y (2 : Fin 3)).val / 128 * 16 + (y (1 : Fin 3)).val / 16 = P
  · refine (View.read_writes_cons_hit_of_coords mObuf.view b (Rect.unit (s := S2x256x3072) ![h, 16 * (P % 16), 128 * (P / 16)] S1x16x128.size inb) v L
      (ValueIdx.ix3 (n0 := 1) (n1 := 16) (n2 := 128) 0 ⟨(y (1 : Fin 3)).val % 16, Nat.mod_lt _ (by decide)⟩ ⟨(y (2 : Fin 3)).val % 128, Nat.mod_lt _ (by decide)⟩) y (fun a => by
      fin_cases a
      · show (y (0 : Fin 3)).val = h + 1 * 0; omega
      · show (y (1 : Fin 3)).val = 16 * (P % 16) + 1 * ((y (1 : Fin 3)).val % 16); omega
      · show (y (2 : Fin 3)).val = 128 * (P / 16) + 1 * ((y (2 : Fin 3)).val % 128); omega)).trans ?_
    rw [hv]
    congr 1
    unfold prow
    show 257 * (P / 16) + 16 * (P % 16) + (y (1 : Fin 3)).val % 16 = _
    have : P / 16 = (y (2 : Fin 3)).val / 128 := by omega
    rw [this]
    omega
  · rw [View.read_writes_cons_miss]
    · exact hb y hy0 (by omega)
    · intro hm
      obtain ⟨j1, hj1, h1⟩ := (LoadRect.mem_set _).mp hm (1 : Fin 3)
      obtain ⟨j2, hj2, h2⟩ := (LoadRect.mem_set _).mp hm (2 : Fin 3)
      have hj1 : j1 < 16 := hj1
      have hj2 : j2 < 128 := hj2
      have h1 : (y (1 : Fin 3)).val = 16 * (P % 16) + 1 * j1 := h1
      have h2 : (y (2 : Fin 3)).val = 128 * (P / 16) + 1 * j2 := h2
      omega

end Cert.Proof.K

end
-- ==== Proof.K.S90.lean ====
/-
  The first pass: the rows of padding cleared, the activations awaited, the units of width 0 and the token loops.
-/
module

public import proofs.«01_k».proof.Proof.K.Tok
public import proofs.«01_k».proof.Proof.K.Pro2
public import proofs.«01_k».proof.Proof.K.Unit0

public import proofs.«01_k».proof.Proof.K.ObV
public import proofs.«01_k».proof.Proof.K.Hsx

@[expose] public section

set_option maxRecDepth 16384
set_option maxHeartbeats 4000000

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.ValueIdx (ix1 ix2 ix3)

variable {F : FTy → Type} [FloatOps F]
local notation "𝕄" => MT nD τ sig Unit (Elt F) ℕ (UU nD τ) ℕ

theorem six (Φ : Fin 6 → sProp 𝕄) : bigSep Finset.univ Φ = iprop(Φ 0 ∗ Φ 1 ∗ Φ 2 ∗ Φ 3 ∗ Φ 4 ∗ Φ 5) := by
  rw [bigSep_univ_split (0 : Fin 6), bigSep_erase (i := (1 : Fin 6)) (by decide), bigSep_erase (i := (2 : Fin 6)) (by decide),
    bigSep_erase (i := (3 : Fin 6)) (by decide), bigSep_erase (i := (4 : Fin 6)) (by decide),
    show ((((Finset.univ.erase (0 : Fin 6)).erase 1).erase 2).erase 3).erase 4 = {5} from by decide, bigSep_singleton]
  rfl

theorem rings_intro (c : Dev nD) (fw : Buf (Elt F) (aW.view.loc (c : Thread nD τ))) (fl : Buf (Elt F) (mLive.view.loc (c : Thread nD τ))) (n : ℕ) :
    iprop(rSt c fw 0 (ust fl n 0) ∗ rSt c fw 1 (ust fl n 1) ∗ rSt c fw 2 (ust fl n 2) ∗ rSt c fw 3 (ust fl n 3) ∗ rSt c fw 4 (ust fl n 4) ∗ rSt c fw 5 (ust fl n 5)) ⊢ rings c fw fl n 0 := by
  unfold rings
  rw [six]
  exact .rfl

theorem rings_elim (c : Dev nD) (fw : Buf (Elt F) (aW.view.loc (c : Thread nD τ))) (fl : Buf (Elt F) (mLive.view.loc (c : Thread nD τ))) (n : ℕ) :
    rings c fw fl n (2 * n) ⊢ iprop(rSt c fw 0 .free ∗ rSt c fw 1 .free ∗ rSt c fw 2 .free ∗ rSt c fw 3 .free ∗ rSt c fw 4 .free ∗ rSt c fw 5 .free) := by
  have h : ∀ s : Fin 6, ust fl n (nxt (2 * n) s.val) = .free := fun s => by
    unfold ust
    rw [if_neg (by unfold nxt; omega), if_neg (by unfold nxt; omega)]
  unfold rings
  rw [six]
  simp only [h]
  exact .rfl

/-- The token tables and the sums stored. -/
abbrev tokP (c : Dev nD) (yc : Buf (Elt F) (mCi.view.loc (c : Thread nD τ))) (yt : Buf (Elt F) (mTw.view.loc (c : Thread nD τ))) (o : Buf (Elt F) (mOtok.view.loc (c : Thread nD τ))) : sProp 𝕄 :=
  iprop((mCi.view.loc (c : Thread nD τ) ↦{fullShare} yc) ∗ (mTw.view.loc (c : Thread nD τ) ↦{fullShare} yt) ∗ (mOtok.view.loc (c : Thread nD τ) ↦{fullShare} o))

/-- What the units read and write, between the loops. -/
abbrev unitE (c : Dev nD) (fl : Buf (Elt F) (mLive.view.loc (c : Thread nD τ))) (fh : Buf (Elt F) (mH.view.loc (c : Thread nD τ))) (fs : Buf (Elt F) (mHsx.view.loc (c : Thread nD τ)))
    (fws : Buf (Elt F) (mWs.view.loc (c : Thread nD τ))) (fw : Buf (Elt F) (aW.view.loc (c : Thread nD τ))) (n u : ℕ) : sProp 𝕄 :=
  iprop(rings c fw fl n u ∗ (mLive.view.loc (c : Thread nD τ) ↦{fullShare} fl) ∗ (mH.view.loc (c : Thread nD τ) ↦{fullShare} fh) ∗ (mHsx.view.loc (c : Thread nD τ) ↦{fullShare} fs) ∗ (mWs.view.loc (c : Thread nD τ) ↦{fullShare} fws) ∗ (∃ g, (mAcc.view.loc (c : Thread nD τ) ↦{fullShare} g)) ∗ (∃ Wt, owes (c : Thread nD τ) 0 Wt))

/-- The first 1024 rows of the activations' buffer are the activations. -/
def FhOK (xh : aH.view.ty.Contents (Elt F)) (fh : mH.view.ty.Contents (Elt F)) : Prop :=
  ∀ (r : Fin 1120) (h : r.val < 1024) (d : Fin 1408), mH.view.read (Elt F) fh (ValueIdx.ix2 r d) = aH.view.read (Elt F) xh (ValueIdx.ix2 ⟨r.val, h⟩ d)

theorem FhOK.join (xh : aH.view.ty.Contents (Elt F)) (z : hsl.view.ty.Contents (Elt F)) (w : mH.view.ty.Contents (Elt F)) :
    FhOK xh (hsl.view.set.piecewise (hsl.view.writes (Elt F) z [⟨Rect.whole S1024x1408, ReadAs.same.apply (aH.view.read (Elt F) xh)⟩]) w) := by
  intro r h d
  have e : (ValueIdx.ix2 r d : S1120x1408.Idx) = (Rect.unit (s := S1120x1408) ![0, 0] S1024x1408.size inb_S1120x1408_S1024x1408_0_0).emb (ValueIdx.ix2 (n0 := 1024) (n1 := 1408) ⟨r.val, h⟩ d) := by
    funext a
    refine Fin.ext ?_
    fin_cases a
    · show r.val = 0 + 1 * r.val; omega
    · show d.val = 0 + 1 * d.val; omega
  rw [e]
  generalize (ValueIdx.ix2 (n0 := 1024) (n1 := 1408) ⟨r.val, h⟩ d : S1024x1408.Idx) = x
  have h2 := congrFun (View.read_writes_whole hsl.view z (ReadAs.same.apply (aH.view.read (Elt F) xh) : S1024x1408.Idx → Elt F .fp8e4m3)) x
  generalize hsl.view.writes (Elt F) z [⟨Rect.whole S1024x1408, ReadAs.same.apply (aH.view.read (Elt F) xh)⟩] = Z at h2 ⊢
  have h1 : (hsl.view.set.piecewise Z w) (hsl.view.emb x) = Z (hsl.view.emb x) := Finset.piecewise_eq_of_mem _ _ _ (View.emb_mem_set _ _)
  exact h1.trans h2

/-- The first chunk's sums are in the buffer of sums. -/
structure C0 (y8 : mHs.view.ty.Contents (Elt F)) (xh : aH.view.ty.Contents (Elt F)) (yc : mCi.view.ty.Contents (Elt F)) (yt : mTw.view.ty.Contents (Elt F)) (fl : mLive.view.ty.Contents (Elt F))
    (fws : mWs.view.ty.Contents (Elt F)) (fw : aW.view.ty.Contents (Elt F)) (n : ℕ) (fh : mH.view.ty.Contents (Elt F)) (fs : mHsx.view.ty.Contents (Elt F)) (o : mOtok.view.ty.Contents (Elt F)) : Prop where
  hh : FhOK xh fh
  hs : HsxOK y8 8 fs
  acc : ∃ g, UAcc fl fh fs fws fw 0 24 n g ∧ TAcc yc yt g 24 256 o

theorem HsxOK.past (y8 : mHs.view.ty.Contents (Elt F)) (g : mHsx.view.ty.Contents (Elt F)) (L : List (View.Piece (Elt F) S1120x128 .f32)) (h : HsxOK y8 8 (mHsx.view.writes (Elt F) g L))
    (inb : ∀ a, (![1024, 0] : Fin 2 → ℕ) a + S96x128.size a ≤ S1120x128.size a) (v : FVec F S96x128 .f32) :
    HsxOK y8 8 (mHsx.view.writes (Elt F) g ((⟨Rect.unit (s := S1120x128) ![1024, 0] S96x128.size inb, v⟩ : View.Piece (Elt F) S1120x128 .f32) :: L)) := by
  intro y hy
  rw [View.read_writes_cons_miss]
  · exact h y hy
  · intro hm
    obtain ⟨j, hj, h0⟩ := (LoadRect.mem_set _).mp hm (0 : Fin 2)
    have h0 : (y (0 : Fin 2)).val = 1024 + 1 * j := h0
    omega

theorem s90 [∀ e, Nonempty (Elt F e)] (c : Dev nD) {n : ℕ} (hn : n ≤ 15) (hw2 : k0_chk2 (W n)) (cst : F .fp8e4m3) (fl : Buf (Elt F) (mLive.view.loc (c : Thread nD τ))) (hL : LiveOK n fl) (fw : Buf (Elt F) (aW.view.loc (c : Thread nD τ)))
   (y8 : Buf (Elt F) (mHs.view.loc (c : Thread nD τ))) (ys : Buf (Elt F) (mHsx.view.loc (c : Thread nD τ))) (hys : HsxOK y8 8 ys) (fws : Buf (Elt F) (mWs.view.loc (c : Thread nD τ))) (yh : Buf (Elt F) (mH.view.loc (c : Thread nD τ))) (xh : Buf (Elt F) (aH.view.loc (c : Thread nD τ))) (ya : Buf (Elt F) (mAcc.view.loc (c : Thread nD τ))) (yc : Buf (Elt F) (mCi.view.loc (c : Thread nD τ))) (hc : CiOK yc) (yt : Buf (Elt F) (mTw.view.loc (c : Thread nD τ))) (yo : Buf (Elt F) (mOtok.view.loc (c : Thread nD τ))) (yb : Buf (Elt F) (mObuf.view.loc (c : Thread nD τ))) (W0 : Finset _)
   (Q : FVec F S16x128 .bf16 → sProp 𝕄) :
    iprop((((rSt c fw 0 (ust fl n 0) ∗ rSt c fw 1 (ust fl n 1) ∗ rSt c fw 2 (ust fl n 2) ∗ rSt c fw 3 (ust fl n 3) ∗ rSt c fw 4 (ust fl n 4) ∗ rSt c fw 5 (ust fl n 5)) ∗ (mLive.view.loc (c : Thread nD τ) ↦{fullShare} fl) ∗ (mHsx.view.loc (c : Thread nD τ) ↦{fullShare} ys) ∗ (mWs.view.loc (c : Thread nD τ) ↦{fullShare} fws) ∗ (mAcc.view.loc (c : Thread nD τ) ↦{fullShare} ya) ∗ (mOtok.view.loc (c : Thread nD τ) ↦{fullShare} yo) ∗ (mCi.view.loc (c : Thread nD τ) ↦{fullShare} yc) ∗ (mTw.view.loc (c : Thread nD τ) ↦{fullShare} yt) ∗ (mObuf.view.loc (c : Thread nD τ) ↦{fullShare} yb) ∗ FlyH c yh xh ∗ (mH.view.loc (c : Thread nD τ) ↦[Finset.univ \ hsl.view.set]{fullShare} yh) ∗ owes (c : Thread nD τ) 0 W0))
        ∗ (∀ x fh fs o b, (unitE c fl fh fs fws fw n n ∗ tokP c yc yt o ∗ (mObuf.view.loc (c : Thread nD τ) ↦{fullShare} b) ∗ ⌜C0 y8 xh yc yt fl fws fw n fh fs o ∧ OAcc 0 o 1 b ∧ PB o 1 x⌝ ∗ (aH.view.loc (c : Thread nD τ) ↦{fullShare} xh) ∗ semVal ((c : Thread nD τ), SemLoc.dma cc0_scratch14.sem) 0) -∗ Q x))
      ⊢ wp frame (wpE defs₀ 𝒱₀ (c : Thread nD τ) none) Set.univ (k0_part90 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 (W n) hw2 cst) Q := by
  iintro ⟨⟨⟨R0, R1, R2, R3, R4, R5⟩, HL, Hs, Hw, Ha, Ho, Hc, Ht, Hb, ⟨Hf, Hsrc⟩, Hh, HO⟩, Hk⟩
  sl_rw [k0_part90_eq_skeleton]
  sl_unfold [k0_part90_skel]
  sl_exec
  ihave Hh := (pointsTo_join_subset (ℓ := mH.view.loc (c : Thread nD τ)) (Finset.subset_univ hsl.view.set)) $$ [Hf_dst Hh]
  · isplitl [Hf_dst]; · iexact Hf_dst
    iexact Hh
  ihave HR := (rings_intro c fw fl n) $$ [R0 R1 R2 R3 R4 R5]
  · isplitl [R0]; · iexact R0
    isplitl [R1]; · iexact R1
    isplitl [R2]; · iexact R2
    isplitl [R3]; · iexact R3
    isplitl [R4]; · iexact R4
    iexact R5
  ihave Hh : iprop(∃ fh, (mH.view.loc (c : Thread nD τ) ↦{fullShare} fh) ∗ ⌜FhOK xh fh⌝) $$ [Hh]
  · iexists _; isplitl [Hh]; · iexact Hh
    ipureintro; exact FhOK.join xh _ _
  icases Hh with ⟨%fh, Hh, %hfh⟩
  ihave Hs : iprop(∃ fs, (mHsx.view.loc (c : Thread nD τ) ↦{fullShare} fs) ∗ ⌜HsxOK y8 8 fs⌝) $$ [Hs]
  · iexists _; isplitl [Hs]; · iexact Hs
    ipureintro; exact HsxOK.past y8 ys [] hys _ _
  icases Hs with ⟨%fs, Hs, %hfs⟩
  sl_for (fun k _ => unitRes0 c fl fh fs fws fw n k) $$ [HR HL Hh Hs Hw Ha HO]
  case region =>
    intro k acc
    iintro HI
    iapply (trip0 c hn hw2 cst k acc fl hL fh fs fws fw _)
    isplitl [HI]; · iexact HI
    iintro HI; iexact HI
  · isplitl [HR]; · iexact HR
    isplitl [HL]; · iexact HL
    isplitl [Hh]; · iexact Hh
    isplitl [Hs]; · iexact Hs
    isplitl [Hw]; · iexact Hw
    isplitl [Ha]
    · iexists _; isplitl [Ha]; · iexact Ha
      ipureintro; exact UAcc.zero _ _ _ _ _ _ _ _
    iexists _; iexact HO
  iintro %acc HI
  rw [show Scf.trips (k0_t2_loop (W n)).lb (k0_t2_loop (W n)).ub (k0_t2_loop (W n)).st = n from trips2 hn]
  icases HI with ⟨HR, HL, Hh, Hs, Hw, ⟨%g, Ha, %hg⟩, HO⟩
  sl_exec
  sl_for (fun k _ => tokRes c yc yt g 24 (8 * k)) $$ [Hc Ht Ha Ho]
  case region =>
    intro k acc
    iintro HI
    iapply (tok8 c hw2 cst k acc yc yt hc g _)
    isplitl [HI]; · iexact HI
    iintro HI; iexact HI
  · isplitl [Hc]; · iexact Hc
    isplitl [Ht]; · iexact Ht
    isplitl [Ha]; · iexact Ha
    iexists _; isplitl [Ho]; · iexact Ho
    ipureintro; exact TAcc.zero _ _ _ _ _
  iintro %acc2 HI
  sl_exec
  sl_for (fun k _ => tokRes c yc yt g 24 (128 + 8 * k)) $$ [HI]
  case region =>
    intro k acc
    iintro HI
    iapply (tok9 c hw2 cst k acc yc yt hc g _)
    isplitl [HI]; · iexact HI
    iintro HI; iexact HI
  · iexact HI
  iintro %acc3 ⟨Hc, Ht, Ha, ⟨%o, Ho, %ho⟩⟩
  sl_exec
  sl_step
  iapply Hk $$ %_ %_ %_ %_ %_
  isplitl [HR HL Hh Hs Hw Ha HO]
  · isplitl [HR]; · iexact HR
    isplitl [HL]; · iexact HL
    isplitl [Hh]; · iexact Hh
    isplitl [Hs]; · iexact Hs
    isplitl [Hw]; · iexact Hw
    isplitl [Ha]
    · iexists _; iexact Ha
    iexact HO
  isplitl [Hc Ht Ho]
  · isplitl [Hc]; · iexact Hc
    isplitl [Ht]; · iexact Ht
    iexact Ho
  isplitl [Hb]; · iexact Hb
  isplitl []
  · ipureintro
    exact And.intro (C0.mk hfh hfs ⟨g, hg, ho⟩) (And.intro (OAcc.step (P := 0) rfl (PV.load o rfl _) (OAcc.zero 0 o (mObuf.view.writes (Elt F) yb []))) (PB.load o rfl _))
  isplitl [Hsrc]; · iexact Hsrc
  iexact Hf

end Cert.Proof.K

end
-- ==== Proof.K.Ob0.lean ====
/-
  The sums of the first chunk copied into the output buffer.
-/
module

public import proofs.«01_k».proof.Proof.K.ObV

@[expose] public section

set_option maxRecDepth 16384
set_option maxHeartbeats 4000000

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.ValueIdx (ix1 ix2 ix3)

variable {F : FTy → Type} [FloatOps F]
local notation "𝕄" => MT nD τ sig Unit (Elt F) ℕ (UU nD τ) ℕ

/-- The first chunk of the output buffer, and the second. -/
abbrev ob0 : Memref sig .tc .vmem S256x3072 .bf16 :=
  (mObuf.slice (Rect.unit (s := S2x256x3072) ![0, 0, 0] S1x256x3072.size inb_S2x256x3072_S1x256x3072_0_0_0) (fun _ => rfl)).squeeze S256x3072 squeezes_S1x256x3072_S256x3072
abbrev ob1 : Memref sig .tc .vmem S256x1024 .bf16 :=
  (mObuf.slice (Rect.unit (s := S2x256x3072) ![1, 0, 0] S1x256x1024.size inb_S2x256x3072_S1x256x1024_1_0_0) (fun _ => rfl)).squeeze S256x1024 squeezes_S1x256x1024_S256x1024
/-- The columns of the output that each chunk goes to. -/
abbrev ot0 : Memref sig .tc .hbm S256x3072 .bf16 := aOut.slice (Rect.unit (s := S256x4096) ![0, 0] S256x3072.size inb_S256x4096_S256x3072_0_0) (fun _ => rfl)
abbrev ot1 : Memref sig .tc .hbm S256x1024 .bf16 := aOut.slice (Rect.unit (s := S256x4096) ![0, 3072] S256x1024.size inb_S256x4096_S256x1024_0_3072) (fun _ => rfl)

theorem ob91 [∀ e, Nonempty (Elt F e)] (c : Dev nD) (v183 : FVec F S16x128 .bf16) (o : Buf (Elt F) (mOtok.view.loc (c : Thread nD τ))) (b : Buf (Elt F) (mObuf.view.loc (c : Thread nD τ))) (hx : PB o 1 v183) (hb : OAcc 0 o 1 b) (Q : (PUnit) → sProp 𝕄) :
    iprop(((mOtok.view.loc (c : Thread nD τ) ↦{fullShare} o) ∗ (mObuf.view.loc (c : Thread nD τ) ↦{fullShare} b)) ∗ (∀ b', ((mOtok.view.loc (c : Thread nD τ) ↦{fullShare} o) ∗ (mObuf.view.loc (c : Thread nD τ) ↦{fullShare} b') ∗ ⌜OAcc 0 o 7 b'⌝) -∗ Q ⟨⟩))
      ⊢ wp frame (wpE defs₀ 𝒱₀ (c : Thread nD τ) none) Set.univ (k0_part91 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v183) Q := by
  iintro ⟨⟨Ho, Hb⟩, Hk⟩
  sl_rw [k0_part91_eq_skeleton]
  sl_unfold [k0_part91_skel]
  sl_exec
  sl_step
  iapply Hk $$ %_
  isplitl [Ho]; · iexact Ho
  isplitl [Hb]; · iexact Hb
  ipureintro
  refine OAcc.step (P := 6) rfl (PV.load o rfl _) ?_
  refine OAcc.step (P := 5) rfl (PV.load o rfl _) ?_
  refine OAcc.step (P := 4) rfl (PV.load o rfl _) ?_
  refine OAcc.step (P := 3) rfl (PV.load o rfl _) ?_
  refine OAcc.step (P := 2) rfl (PV.load o rfl _) ?_
  refine OAcc.step (P := 1) rfl (PV.ofB hx) ?_
  exact hb

theorem ob92 [∀ e, Nonempty (Elt F e)] (c : Dev nD)  (o : Buf (Elt F) (mOtok.view.loc (c : Thread nD τ))) (b : Buf (Elt F) (mObuf.view.loc (c : Thread nD τ))) (hb : OAcc 0 o 7 b) (Q : (FVec F S16x128 .bf16) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 12 b' ∧ PB o 12 r⌝) -∗ Q r))
      ⊢ wp frame (wpE defs₀ 𝒱₀ (c : Thread nD τ) none) Set.univ (k0_part92 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 ) Q := by
  iintro ⟨⟨Ho, Hb⟩, Hk⟩
  sl_rw [k0_part92_eq_skeleton]
  sl_unfold [k0_part92_skel]
  sl_exec
  sl_step
  iapply Hk $$ %_ %_
  isplitl [Ho]; · iexact Ho
  isplitl [Hb]; · iexact Hb
  ipureintro
  refine ⟨?_, ?_⟩
  · refine OAcc.step (P := 11) rfl (PV.load o rfl _) ?_
    refine OAcc.step (P := 10) rfl (PV.load o rfl _) ?_
    refine OAcc.step (P := 9) rfl (PV.load o rfl _) ?_
    refine OAcc.step (P := 8) rfl (PV.load o rfl _) ?_
    refine OAcc.step (P := 7) rfl (PV.load o rfl _) ?_
    exact hb
  · exact PB.load o rfl _

theorem ob93 [∀ e, Nonempty (Elt F e)] (c : Dev nD) (v238 : FVec F S16x128 .bf16) (o : Buf (Elt F) (mOtok.view.loc (c : Thread nD τ))) (b : Buf (Elt F) (mObuf.view.loc (c : Thread nD τ))) (hx : PB o 12 v238) (hb : OAcc 0 o 12 b) (Q : (FVec F S1x16x128 .bf16) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 17 b' ∧ PV o 17 r⌝) -∗ Q r))
      ⊢ wp frame (wpE defs₀ 𝒱₀ (c : Thread nD τ) none) Set.univ (k0_part93 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v238) Q := by
  iintro ⟨⟨Ho, Hb⟩, Hk⟩
  sl_rw [k0_part93_eq_skeleton]
  sl_unfold [k0_part93_skel]
  sl_exec
  sl_step
  iapply Hk $$ %_ %_
  isplitl [Ho]; · iexact Ho
  isplitl [Hb]; · iexact Hb
  ipureintro
  refine ⟨?_, ?_⟩
  · refine OAcc.step (P := 16) rfl (PV.load o rfl _) ?_
    refine OAcc.step (P := 15) rfl (PV.load o rfl _) ?_
    refine OAcc.step (P := 14) rfl (PV.load o rfl _) ?_
    refine OAcc.step (P := 13) rfl (PV.load o rfl _) ?_
    refine OAcc.step (P := 12) rfl (PV.ofB hx) ?_
    exact hb
  · exact PV.load o rfl _

theorem ob94 [∀ e, Nonempty (Elt F e)] (c : Dev nD) (v266 : FVec F S1x16x128 .bf16) (o : Buf (Elt F) (mOtok.view.loc (c : Thread nD τ))) (b : Buf (Elt F) (mObuf.view.loc (c : Thread nD τ))) (hx : PV o 17 v266) (hb : OAcc 0 o 17 b) (Q : (FVec F S16x128 .bf16) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 23 b' ∧ PB o 23 r⌝) -∗ Q r))
      ⊢ wp frame (wpE defs₀ 𝒱₀ (c : Thread nD τ) none) Set.univ (k0_part94 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v266) Q := by
  iintro ⟨⟨Ho, Hb⟩, Hk⟩
  sl_rw [k0_part94_eq_skeleton]
  sl_unfold [k0_part94_skel]
  sl_exec
  sl_step
  iapply Hk $$ %_ %_
  isplitl [Ho]; · iexact Ho
  isplitl [Hb]; · iexact Hb
  ipureintro
  refine ⟨?_, ?_⟩
  · refine OAcc.step (P := 22) rfl (PV.load o rfl _) ?_
    refine OAcc.step (P := 21) rfl (PV.load o rfl _) ?_
    refine OAcc.step (P := 20) rfl (PV.load o rfl _) ?_
    refine OAcc.step (P := 19) rfl (PV.load o rfl _) ?_
    refine OAcc.step (P := 18) rfl (PV.load o rfl _) ?_
    refine OAcc.step (P := 17) rfl (hx) ?_
    exact hb
  · exact PB.load o rfl _

theorem ob95 [∀ e, Nonempty (Elt F e)] (c : Dev nD) (v293 : FVec F S16x128 .bf16) (o : Buf (Elt F) (mOtok.view.loc (c : Thread nD τ))) (b : Buf (Elt F) (mObuf.view.loc (c : Thread nD τ))) (hx : PB o 23 v293) (hb : OAcc 0 o 23 b) (Q : (FVec F S16x128 .bf16) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 28 b' ∧ PB o 28 r⌝) -∗ Q r))
      ⊢ wp frame (wpE defs₀ 𝒱₀ (c : Thread nD τ) none) Set.univ (k0_part95 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v293) Q := by
  iintro ⟨⟨Ho, Hb⟩, Hk⟩
  sl_rw [k0_part95_eq_skeleton]
  sl_unfold [k0_part95_skel]
  sl_exec
  sl_step
  iapply Hk $$ %_ %_
  isplitl [Ho]; · iexact Ho
  isplitl [Hb]; · iexact Hb
  ipureintro
  refine ⟨?_, ?_⟩
  · refine OAcc.step (P := 27) rfl (PV.load o rfl _) ?_
    refine OAcc.step (P := 26) rfl (PV.load o rfl _) ?_
    refine OAcc.step (P := 25) rfl (PV.load o rfl _) ?_
    refine OAcc.step (P := 24) rfl (PV.load o rfl _) ?_
    refine OAcc.step (P := 23) rfl (PV.ofB hx) ?_
    exact hb
  · exact PB.load o rfl _

theorem ob96 [∀ e, Nonempty (Elt F e)] (c : Dev nD) (v318 : FVec F S16x128 .bf16) (o : Buf (Elt F) (mOtok.view.loc (c : Thread nD τ))) (b : Buf (Elt F) (mObuf.view.loc (c : Thread nD τ))) (hx : PB o 28 v318) (hb : OAcc 0 o 28 b) (Q : (Vec F S16x128 .f32) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 34 b' ∧ PF o 34 r⌝) -∗ Q r))
      ⊢ wp frame (wpE defs₀ 𝒱₀ (c : Thread nD τ) none) Set.univ (k0_part96 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v318) Q := by
  iintro ⟨⟨Ho, Hb⟩, Hk⟩
  sl_rw [k0_part96_eq_skeleton]
  sl_unfold [k0_part96_skel]
  sl_exec
  sl_step
  iapply Hk $$ %_ %_
  isplitl [Ho]; · iexact Ho
  isplitl [Hb]; · iexact Hb
  ipureintro
  refine ⟨?_, ?_⟩
  · refine OAcc.step (P := 33) rfl (PV.load o rfl _) ?_
    refine OAcc.step (P := 32) rfl (PV.load o rfl _) ?_
    refine OAcc.step (P := 31) rfl (PV.load o rfl _) ?_
    refine OAcc.step (P := 30) rfl (PV.load o rfl _) ?_
    refine OAcc.step (P := 29) rfl (PV.load o rfl _) ?_
    refine OAcc.step (P := 28) rfl (PV.ofB hx) ?_
    exact hb
  · exact PF.load o rfl _

theorem ob97 [∀ e, Nonempty (Elt F e)] (c : Dev nD) (v347 : Vec F S16x128 .f32) (o : Buf (Elt F) (mOtok.view.loc (c : Thread nD τ))) (b : Buf (Elt F) (mObuf.view.loc (c : Thread nD τ))) (hx : PF o 34 v347) (hb : OAcc 0 o 34 b) (Q : (Σ' (v373 : FVec F S16x128 .bf16), Vec F S1x16x128 .bf16) → sProp 𝕄) :
    iprop(((mOtok.view.loc (c : Thread nD τ) ↦{fullShare} o) ∗ (mObuf.view.loc (c : Thread nD τ) ↦{fullShare} b)) ∗ (∀ r1 r2 b', ((mOtok.view.loc (c : Thread nD τ) ↦{fullShare} o) ∗ (mObuf.view.loc (c : Thread nD τ) ↦{fullShare} b') ∗ ⌜OAcc 0 o 39 b' ∧ PB o 39 r1⌝) -∗ Q ⟨r1, r2⟩))
      ⊢ wp frame (wpE defs₀ 𝒱₀ (c : Thread nD τ) none) Set.univ (k0_part97 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v347) Q := by
  iintro ⟨⟨Ho, Hb⟩, Hk⟩
  sl_rw [k0_part97_eq_skeleton]
  sl_unfold [k0_part97_skel]
  sl_exec
  sl_step
  iapply Hk $$ %_ %_ %_
  isplitl [Ho]; · iexact Ho
  isplitl [Hb]; · iexact Hb
  ipureintro
  refine ⟨?_, ?_⟩
  · refine OAcc.step (P := 38) rfl (PV.load o rfl _) ?_
    refine OAcc.step (P := 37) rfl (PV.load o rfl _) ?_
    refine OAcc.step (P := 36) rfl (PV.load o rfl _) ?_
    refine OAcc.step (P := 35) rfl (PV.load o rfl _) ?_
    refine OAcc.step (P := 34) rfl (PV.ofF hx) ?_
    exact hb
  · exact PB.load o rfl _

theorem ob98 [∀ e, Nonempty (Elt F e)] (c : Dev nD) (v373 : FVec F S16x128 .bf16) (v374 : Vec F S1x16x128 .bf16) (o : Buf (Elt F) (mOtok.view.loc (c : Thread nD τ))) (b : Buf (Elt F) (mObuf.view.loc (c : Thread nD τ))) (hx : PB o 39 v373) (hb : OAcc 0 o 39 b) (Q : (PUnit) → sProp 𝕄) :
    iprop(((mOtok.view.loc (c : Thread nD τ) ↦{fullShare} o) ∗ (mObuf.view.loc (c : Thread nD τ) ↦{fullShare} b)) ∗ (∀ b', ((mOtok.view.loc (c : Thread nD τ) ↦{fullShare} o) ∗ (mObuf.view.loc (c : Thread nD τ) ↦{fullShare} b') ∗ ⌜OAcc 0 o 45 b'⌝) -∗ Q ⟨⟩))
      ⊢ wp frame (wpE defs₀ 𝒱₀ (c : Thread nD τ) none) Set.univ (k0_part98 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v373 v374) Q := by
  iintro ⟨⟨Ho, Hb⟩, Hk⟩
  sl_rw [k0_part98_eq_skeleton]
  sl_unfold [k0_part98_skel]
  sl_exec
  sl_step
  iapply Hk $$ %_
  isplitl [Ho]; · iexact Ho
  isplitl [Hb]; · iexact Hb
  ipureintro
  refine OAcc.step (P := 44) rfl (PV.load o rfl _) ?_
  refine OAcc.step (P := 43) rfl (PV.load o rfl _) ?_
  refine OAcc.step (P := 42) rfl (PV.load o rfl _) ?_
  refine OAcc.step (P := 41) rfl (PV.load o rfl _) ?_
  refine OAcc.step (P := 40) rfl (PV.load o rfl _) ?_
  refine OAcc.step (P := 39) rfl (PV.ofB hx) ?_
  exact hb

theorem ob99 [∀ e, Nonempty (Elt F e)] (c : Dev nD)  (o : Buf (Elt F) (mOtok.view.loc (c : Thread nD τ))) (b : Buf (Elt F) (mObuf.view.loc (c : Thread nD τ))) (hb : OAcc 0 o 45 b) (Q : (FVec F S16x128 .bf16) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 50 b' ∧ PB o 50 r⌝) -∗ Q r))
      ⊢ wp frame (wpE defs₀ 𝒱₀ (c : Thread nD τ) none) Set.univ (k0_part99 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 ) Q := by
  iintro ⟨⟨Ho, Hb⟩, Hk⟩
  sl_rw [k0_part99_eq_skeleton]
  sl_unfold [k0_part99_skel]
  sl_exec
  sl_step
  iapply Hk $$ %_ %_
  isplitl [Ho]; · iexact Ho
  isplitl [Hb]; · iexact Hb
  ipureintro
  refine ⟨?_, ?_⟩
  · refine OAcc.step (P := 49) rfl (PV.load o rfl _) ?_
    refine OAcc.step (P := 48) rfl (PV.load o rfl _) ?_
    refine OAcc.step (P := 47) rfl (PV.load o rfl _) ?_
    refine OAcc.step (P := 46) rfl (PV.load o rfl _) ?_
    refine OAcc.step (P := 45) rfl (PV.load o rfl _) ?_
    exact hb
  · exact PB.load o rfl _

theorem ob100 [∀ e, Nonempty (Elt F e)] (c : Dev nD) (v428 : FVec F S16x128 .bf16) (o : Buf (Elt F) (mOtok.view.loc (c : Thread nD τ))) (b : Buf (Elt F) (mObuf.view.loc (c : Thread nD τ))) (hx : PB o 50 v428) (hb : OAcc 0 o 50 b) (Q : (PUnit) → sProp 𝕄) :
    iprop(((mOtok.view.loc (c : Thread nD τ) ↦{fullShare} o) ∗ (mObuf.view.loc (c : Thread nD τ) ↦{fullShare} b)) ∗ (∀ b', ((mOtok.view.loc (c : Thread nD τ) ↦{fullShare} o) ∗ (mObuf.view.loc (c : Thread nD τ) ↦{fullShare} b') ∗ ⌜OAcc 0 o 56 b'⌝) -∗ Q ⟨⟩))
      ⊢ wp frame (wpE defs₀ 𝒱₀ (c : Thread nD τ) none) Set.univ (k0_part100 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v428) Q := by
  iintro ⟨⟨Ho, Hb⟩, Hk⟩
  sl_rw [k0_part100_eq_skeleton]
  sl_unfold [k0_part100_skel]
  sl_exec
  sl_step
  iapply Hk $$ %_
  isplitl [Ho]; · iexact Ho
  isplitl [Hb]; · iexact Hb
  ipureintro
  refine OAcc.step (P := 55) rfl (PV.load o rfl _) ?_
  refine OAcc.step (P := 54) rfl (PV.load o rfl _) ?_
  refine OAcc.step (P := 53) rfl (PV.load o rfl _) ?_
  refine OAcc.step (P := 52) rfl (PV.load o rfl _) ?_
  refine OAcc.step (P := 51) rfl (PV.load o rfl _) ?_
  refine OAcc.step (P := 50) rfl (PV.ofB hx) ?_
  exact hb

theorem ob101 [∀ e, Nonempty (Elt F e)] (c : Dev nD)  (o : Buf (Elt F) (mOtok.view.loc (c : Thread nD τ))) (b : Buf (Elt F) (mObuf.view.loc (c : Thread nD τ))) (hb : OAcc 0 o 56 b) (Q : (FVec F S16x128 .bf16) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 61 b' ∧ PB o 61 r⌝) -∗ Q r))
      ⊢ wp frame (wpE defs₀ 𝒱₀ (c : Thread nD τ) none) Set.univ (k0_part101 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 ) Q := by
  iintro ⟨⟨Ho, Hb⟩, Hk⟩
  sl_rw [k0_part101_eq_skeleton]
  sl_unfold [k0_part101_skel]
  sl_exec
  sl_step
  iapply Hk $$ %_ %_
  isplitl [Ho]; · iexact Ho
  isplitl [Hb]; · iexact Hb
  ipureintro
  refine ⟨?_, ?_⟩
  · refine OAcc.step (P := 60) rfl (PV.load o rfl _) ?_
    refine OAcc.step (P := 59) rfl (PV.load o rfl _) ?_
    refine OAcc.step (P := 58) rfl (PV.load o rfl _) ?_
    refine OAcc.step (P := 57) rfl (PV.load o rfl _) ?_
    refine OAcc.step (P := 56) rfl (PV.load o rfl _) ?_
    exact hb
  · exact PB.load o rfl _

theorem ob102 [∀ e, Nonempty (Elt F e)] (c : Dev nD) (v483 : FVec F S16x128 .bf16) (o : Buf (Elt F) (mOtok.view.loc (c : Thread nD τ))) (b : Buf (Elt F) (mObuf.view.loc (c : Thread nD τ))) (hx : PB o 61 v483) (hb : OAcc 0 o 61 b) (Q : (PUnit) → sProp 𝕄) :
    iprop(((mOtok.view.loc (c : Thread nD τ) ↦{fullShare} o) ∗ (mObuf.view.loc (c : Thread nD τ) ↦{fullShare} b)) ∗ (∀ b', ((mOtok.view.loc (c : Thread nD τ) ↦{fullShare} o) ∗ (mObuf.view.loc (c : Thread nD τ) ↦{fullShare} b') ∗ ⌜OAcc 0 o 67 b'⌝) -∗ Q ⟨⟩))
      ⊢ wp frame (wpE defs₀ 𝒱₀ (c : Thread nD τ) none) Set.univ (k0_part102 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v483) Q := by
  iintro ⟨⟨Ho, Hb⟩, Hk⟩
  sl_rw [k0_part102_eq_skeleton]
  sl_unfold [k0_part102_skel]
  sl_exec
  sl_step
  iapply Hk $$ %_
  isplitl [Ho]; · iexact Ho
  isplitl [Hb]; · iexact Hb
  ipureintro
  refine OAcc.step (P := 66) rfl (PV.load o rfl _) ?_
  refine OAcc.step (P := 65) rfl (PV.load o rfl _) ?_
  refine OAcc.step (P := 64) rfl (PV.load o rfl _) ?_
  refine OAcc.step (P := 63) rfl (PV.load o rfl _) ?_
  refine OAcc.step (P := 62) rfl (PV.load o rfl _) ?_
  refine OAcc.step (P := 61) rfl (PV.ofB hx) ?_
  exact hb

theorem ob103 [∀ e, Nonempty (Elt F e)] (c : Dev nD)  (o : Buf (Elt F) (mOtok.view.loc (c : Thread nD τ))) (b : Buf (Elt F) (mObuf.view.loc (c : Thread nD τ))) (hb : OAcc 0 o 67 b) (Q : (FVec F S16x128 .bf16) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 72 b' ∧ PB o 72 r⌝) -∗ Q r))
      ⊢ wp frame (wpE defs₀ 𝒱₀ (c : Thread nD τ) none) Set.univ (k0_part103 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 ) Q := by
  iintro ⟨⟨Ho, Hb⟩, Hk⟩
  sl_rw [k0_part103_eq_skeleton]
  sl_unfold [k0_part103_skel]
  sl_exec
  sl_step
  iapply Hk $$ %_ %_
  isplitl [Ho]; · iexact Ho
  isplitl [Hb]; · iexact Hb
  ipureintro
  refine ⟨?_, ?_⟩
  · refine OAcc.step (P := 71) rfl (PV.load o rfl _) ?_
    refine OAcc.step (P := 70) rfl (PV.load o rfl _) ?_
    refine OAcc.step (P := 69) rfl (PV.load o rfl _) ?_
    refine OAcc.step (P := 68) rfl (PV.load o rfl _) ?_
    refine OAcc.step (P := 67) rfl (PV.load o rfl _) ?_
    exact hb
  · exact PB.load o rfl _

theorem ob104 [∀ e, Nonempty (Elt F e)] (c : Dev nD) (v538 : FVec F S16x128 .bf16) (o : Buf (Elt F) (mOtok.view.loc (c : Thread nD τ))) (b : Buf (Elt F) (mObuf.view.loc (c : Thread nD τ))) (hx : PB o 72 v538) (hb : OAcc 0 o 72 b) (Q : (FVec F S1x16x128 .bf16) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 77 b' ∧ PV o 77 r⌝) -∗ Q r))
      ⊢ wp frame (wpE defs₀ 𝒱₀ (c : Thread nD τ) none) Set.univ (k0_part104 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v538) Q := by
  iintro ⟨⟨Ho, Hb⟩, Hk⟩
  sl_rw [k0_part104_eq_skeleton]
  sl_unfold [k0_part104_skel]
  sl_exec
  sl_step
  iapply Hk $$ %_ %_
  isplitl [Ho]; · iexact Ho
  isplitl [Hb]; · iexact Hb
  ipureintro
  refine ⟨?_, ?_⟩
  · refine OAcc.step (P := 76) rfl (PV.load o rfl _) ?_
    refine OAcc.step (P := 75) rfl (PV.load o rfl _) ?_
    refine OAcc.step (P := 74) rfl (PV.load o rfl _) ?_
    refine OAcc.step (P := 73) rfl (PV.load o rfl _) ?_
    refine OAcc.step (P := 72) rfl (PV.ofB hx) ?_
    exact hb
  · exact PV.load o rfl _

theorem ob105 [∀ e, Nonempty (Elt F e)] (c : Dev nD) (v566 : FVec F S1x16x128 .bf16) (o : Buf (Elt F) (mOtok.view.loc (c : Thread nD τ))) (b : Buf (Elt F) (mObuf.view.loc (c : Thread nD τ))) (hx : PV o 77 v566) (hb : OAcc 0 o 77 b) (Q : (FVec F S16x128 .bf16) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 83 b' ∧ PB o 83 r⌝) -∗ Q r))
      ⊢ wp frame (wpE defs₀ 𝒱₀ (c : Thread nD τ) none) Set.univ (k0_part105 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v566) Q := by
  iintro ⟨⟨Ho, Hb⟩, Hk⟩
  sl_rw [k0_part105_eq_skeleton]
  sl_unfold [k0_part105_skel]
  sl_exec
  sl_step
  iapply Hk $$ %_ %_
  isplitl [Ho]; · iexact Ho
  isplitl [Hb]; · iexact Hb
  ipureintro
  refine ⟨?_, ?_⟩
  · refine OAcc.step (P := 82) rfl (PV.load o rfl _) ?_
    refine OAcc.step (P := 81) rfl (PV.load o rfl _) ?_
    refine OAcc.step (P := 80) rfl (PV.load o rfl _) ?_
    refine OAcc.step (P := 79) rfl (PV.load o rfl _) ?_
    refine OAcc.step (P := 78) rfl (PV.load o rfl _) ?_
    refine OAcc.step (P := 77) rfl (hx) ?_
    exact hb
  · exact PB.load o rfl _

theorem ob106 [∀ e, Nonempty (Elt F e)] (c : Dev nD) (v593 : FVec F S16x128 .bf16) (o : Buf (Elt F) (mOtok.view.loc (c : Thread nD τ))) (b : Buf (Elt F) (mObuf.view.loc (c : Thread nD τ))) (hx : PB o 83 v593) (hb : OAcc 0 o 83 b) (Q : (FVec F S16x128 .bf16) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 88 b' ∧ PB o 88 r⌝) -∗ Q r))
      ⊢ wp frame (wpE defs₀ 𝒱₀ (c : Thread nD τ) none) Set.univ (k0_part106 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v593) Q := by
  iintro ⟨⟨Ho, Hb⟩, Hk⟩
  sl_rw [k0_part106_eq_skeleton]
  sl_unfold [k0_part106_skel]
  sl_exec
  sl_step
  iapply Hk $$ %_ %_
  isplitl [Ho]; · iexact Ho
  isplitl [Hb]; · iexact Hb
  ipureintro
  refine ⟨?_, ?_⟩
  · refine OAcc.step (P := 87) rfl (PV.load o rfl _) ?_
    refine OAcc.step (P := 86) rfl (PV.load o rfl _) ?_
    refine OAcc.step (P := 85) rfl (PV.load o rfl _) ?_
    refine OAcc.step (P := 84) rfl (PV.load o rfl _) ?_
    refine OAcc.step (P := 83) rfl (PV.ofB hx) ?_
    exact hb
  · exact PB.load o rfl _

theorem ob107 [∀ e, Nonempty (Elt F e)] (c : Dev nD) (v618 : FVec F S16x128 .bf16) (o : Buf (Elt F) (mOtok.view.loc (c : Thread nD τ))) (b : Buf (Elt F) (mObuf.view.loc (c : Thread nD τ))) (hx : PB o 88 v618) (hb : OAcc 0 o 88 b) (Q : (Vec F S16x128 .f32) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 94 b' ∧ PF o 94 r⌝) -∗ Q r))
      ⊢ wp frame (wpE defs₀ 𝒱₀ (c : Thread nD τ) none) Set.univ (k0_part107 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v618) Q := by
  iintro ⟨⟨Ho, Hb⟩, Hk⟩
  sl_rw [k0_part107_eq_skeleton]
  sl_unfold [k0_part107_skel]
  sl_exec
  sl_step
  iapply Hk $$ %_ %_
  isplitl [Ho]; · iexact Ho
  isplitl [Hb]; · iexact Hb
  ipureintro
  refine ⟨?_, ?_⟩
  · refine OAcc.step (P := 93) rfl (PV.load o rfl _) ?_
    refine OAcc.step (P := 92) rfl (PV.load o rfl _) ?_
    refine OAcc.step (P := 91) rfl (PV.load o rfl _) ?_
    refine OAcc.step (P := 90) rfl (PV.load o rfl _) ?_
    refine OAcc.step (P := 89) rfl (PV.load o rfl _) ?_
    refine OAcc.step (P := 88) rfl (PV.ofB hx) ?_
    exact hb
  · exact PF.load o rfl _

theorem ob108 [∀ e, Nonempty (Elt F e)] (c : Dev nD) (v647 : Vec F S16x128 .f32) (o : Buf (Elt F) (mOtok.view.loc (c : Thread nD τ))) (b : Buf (Elt F) (mObuf.view.loc (c : Thread nD τ))) (hx : PF o 94 v647) (hb : OAcc 0 o 94 b) (Q : (Σ' (v673 : FVec F S16x128 .bf16), Vec F S1x16x128 .bf16) → sProp 𝕄) :
    iprop(((mOtok.view.loc (c : Thread nD τ) ↦{fullShare} o) ∗ (mObuf.view.loc (c : Thread nD τ) ↦{fullShare} b)) ∗ (∀ r1 r2 b', ((mOtok.view.loc (c : Thread nD τ) ↦{fullShare} o) ∗ (mObuf.view.loc (c : Thread nD τ) ↦{fullShare} b') ∗ ⌜OAcc 0 o 99 b' ∧ PB o 99 r1⌝) -∗ Q ⟨r1, r2⟩))
      ⊢ wp frame (wpE defs₀ 𝒱₀ (c : Thread nD τ) none) Set.univ (k0_part108 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v647) Q := by
  iintro ⟨⟨Ho, Hb⟩, Hk⟩
  sl_rw [k0_part108_eq_skeleton]
  sl_unfold [k0_part108_skel]
  sl_exec
  sl_step
  iapply Hk $$ %_ %_ %_
  isplitl [Ho]; · iexact Ho
  isplitl [Hb]; · iexact Hb
  ipureintro
  refine ⟨?_, ?_⟩
  · refine OAcc.step (P := 98) rfl (PV.load o rfl _) ?_
    refine OAcc.step (P := 97) rfl (PV.load o rfl _) ?_
    refine OAcc.step (P := 96) rfl (PV.load o rfl _) ?_
    refine OAcc.step (P := 95) rfl (PV.load o rfl _) ?_
    refine OAcc.step (P := 94) rfl (PV.ofF hx) ?_
    exact hb
  · exact PB.load o rfl _

theorem ob109 [∀ e, Nonempty (Elt F e)] (c : Dev nD) (v673 : FVec F S16x128 .bf16) (v674 : Vec F S1x16x128 .bf16) (o : Buf (Elt F) (mOtok.view.loc (c : Thread nD τ))) (b : Buf (Elt F) (mObuf.view.loc (c : Thread nD τ))) (hx : PB o 99 v673) (hb : OAcc 0 o 99 b) (Q : (PUnit) → sProp 𝕄) :
    iprop(((mOtok.view.loc (c : Thread nD τ) ↦{fullShare} o) ∗ (mObuf.view.loc (c : Thread nD τ) ↦{fullShare} b)) ∗ (∀ b', ((mOtok.view.loc (c : Thread nD τ) ↦{fullShare} o) ∗ (mObuf.view.loc (c : Thread nD τ) ↦{fullShare} b') ∗ ⌜OAcc 0 o 105 b'⌝) -∗ Q ⟨⟩))
      ⊢ wp frame (wpE defs₀ 𝒱₀ (c : Thread nD τ) none) Set.univ (k0_part109 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v673 v674) Q := by
  iintro ⟨⟨Ho, Hb⟩, Hk⟩
  sl_rw [k0_part109_eq_skeleton]
  sl_unfold [k0_part109_skel]
  sl_exec
  sl_step
  iapply Hk $$ %_
  isplitl [Ho]; · iexact Ho
  isplitl [Hb]; · iexact Hb
  ipureintro
  refine OAcc.step (P := 104) rfl (PV.load o rfl _) ?_
  refine OAcc.step (P := 103) rfl (PV.load o rfl _) ?_
  refine OAcc.step (P := 102) rfl (PV.load o rfl _) ?_
  refine OAcc.step (P := 101) rfl (PV.load o rfl _) ?_
  refine OAcc.step (P := 100) rfl (PV.load o rfl _) ?_
  refine OAcc.step (P := 99) rfl (PV.ofB hx) ?_
  exact hb

theorem ob110 [∀ e, Nonempty (Elt F e)] (c : Dev nD)  (o : Buf (Elt F) (mOtok.view.loc (c : Thread nD τ))) (b : Buf (Elt F) (mObuf.view.loc (c : Thread nD τ))) (hb : OAcc 0 o 105 b) (Q : (FVec F S16x128 .bf16) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 110 b' ∧ PB o 110 r⌝) -∗ Q r))
      ⊢ wp frame (wpE defs₀ 𝒱₀ (c : Thread nD τ) none) Set.univ (k0_part110 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 ) Q := by
  iintro ⟨⟨Ho, Hb⟩, Hk⟩
  sl_rw [k0_part110_eq_skeleton]
  sl_unfold [k0_part110_skel]
  sl_exec
  sl_step
  iapply Hk $$ %_ %_
  isplitl [Ho]; · iexact Ho
  isplitl [Hb]; · iexact Hb
  ipureintro
  refine ⟨?_, ?_⟩
  · refine OAcc.step (P := 109) rfl (PV.load o rfl _) ?_
    refine OAcc.step (P := 108) rfl (PV.load o rfl _) ?_
    refine OAcc.step (P := 107) rfl (PV.load o rfl _) ?_
    refine OAcc.step (P := 106) rfl (PV.load o rfl _) ?_
    refine OAcc.step (P := 105) rfl (PV.load o rfl _) ?_
    exact hb
  · exact PB.load o rfl _

theorem ob111 [∀ e, Nonempty (Elt F e)] (c : Dev nD) (v728 : FVec F S16x128 .bf16) (o : Buf (Elt F) (mOtok.view.loc (c : Thread nD τ))) (b : Buf (Elt F) (mObuf.view.loc (c : Thread nD τ))) (hx : PB o 110 v728) (hb : OAcc 0 o 110 b) (Q : (PUnit) → sProp 𝕄) :
    iprop(((mOtok.view.loc (c : Thread nD τ) ↦{fullShare} o) ∗ (mObuf.view.loc (c : Thread nD τ) ↦{fullShare} b)) ∗ (∀ b', ((mOtok.view.loc (c : Thread nD τ) ↦{fullShare} o) ∗ (mObuf.view.loc (c : Thread nD τ) ↦{fullShare} b') ∗ ⌜OAcc 0 o 116 b'⌝) -∗ Q ⟨⟩))
      ⊢ wp frame (wpE defs₀ 𝒱₀ (c : Thread nD τ) none) Set.univ (k0_part111 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v728) Q := by
  iintro ⟨⟨Ho, Hb⟩, Hk⟩
  sl_rw [k0_part111_eq_skeleton]
  sl_unfold [k0_part111_skel]
  sl_exec
  sl_step
  iapply Hk $$ %_
  isplitl [Ho]; · iexact Ho
  isplitl [Hb]; · iexact Hb
  ipureintro
  refine OAcc.step (P := 115) rfl (PV.load o rfl _) ?_
  refine OAcc.step (P := 114) rfl (PV.load o rfl _) ?_
  refine OAcc.step (P := 113) rfl (PV.load o rfl _) ?_
  refine OAcc.step (P := 112) rfl (PV.load o rfl _) ?_
  refine OAcc.step (P := 111) rfl (PV.load o rfl _) ?_
  refine OAcc.step (P := 110) rfl (PV.ofB hx) ?_
  exact hb

theorem ob112 [∀ e, Nonempty (Elt F e)] (c : Dev nD)  (o : Buf (Elt F) (mOtok.view.loc (c : Thread nD τ))) (b : Buf (Elt F) (mObuf.view.loc (c : Thread nD τ))) (hb : OAcc 0 o 116 b) (Q : (FVec F S16x128 .bf16) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 121 b' ∧ PB o 121 r⌝) -∗ Q r))
      ⊢ wp frame (wpE defs₀ 𝒱₀ (c : Thread nD τ) none) Set.univ (k0_part112 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 ) Q := by
  iintro ⟨⟨Ho, Hb⟩, Hk⟩
  sl_rw [k0_part112_eq_skeleton]
  sl_unfold [k0_part112_skel]
  sl_exec
  sl_step
  iapply Hk $$ %_ %_
  isplitl [Ho]; · iexact Ho
  isplitl [Hb]; · iexact Hb
  ipureintro
  refine ⟨?_, ?_⟩
  · refine OAcc.step (P := 120) rfl (PV.load o rfl _) ?_
    refine OAcc.step (P := 119) rfl (PV.load o rfl _) ?_
    refine OAcc.step (P := 118) rfl (PV.load o rfl _) ?_
    refine OAcc.step (P := 117) rfl (PV.load o rfl _) ?_
    refine OAcc.step (P := 116) rfl (PV.load o rfl _) ?_
    exact hb
  · exact PB.load o rfl _

theorem ob113 [∀ e, Nonempty (Elt F e)] (c : Dev nD) (v783 : FVec F S16x128 .bf16) (o : Buf (Elt F) (mOtok.view.loc (c : Thread nD τ))) (b : Buf (Elt F) (mObuf.view.loc (c : Thread nD τ))) (hx : PB o 121 v783) (hb : OAcc 0 o 121 b) (Q : (PUnit) → sProp 𝕄) :
    iprop(((mOtok.view.loc (c : Thread nD τ) ↦{fullShare} o) ∗ (mObuf.view.loc (c : Thread nD τ) ↦{fullShare} b)) ∗ (∀ b', ((mOtok.view.loc (c : Thread nD τ) ↦{fullShare} o) ∗ (mObuf.view.loc (c : Thread nD τ) ↦{fullShare} b') ∗ ⌜OAcc 0 o 127 b'⌝) -∗ Q ⟨⟩))
      ⊢ wp frame (wpE defs₀ 𝒱₀ (c : Thread nD τ) none) Set.univ (k0_part113 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v783) Q := by
  iintro ⟨⟨Ho, Hb⟩, Hk⟩
  sl_rw [k0_part113_eq_skeleton]
  sl_unfold [k0_part113_skel]
  sl_exec
  sl_step
  iapply Hk $$ %_
  isplitl [Ho]; · iexact Ho
  isplitl [Hb]; · iexact Hb
  ipureintro
  refine OAcc.step (P := 126) rfl (PV.load o rfl _) ?_
  refine OAcc.step (P := 125) rfl (PV.load o rfl _) ?_
  refine OAcc.step (P := 124) rfl (PV.load o rfl _) ?_
  refine OAcc.step (P := 123) rfl (PV.load o rfl _) ?_
  refine OAcc.step (P := 122) rfl (PV.load o rfl _) ?_
  refine OAcc.step (P := 121) rfl (PV.ofB hx) ?_
  exact hb

theorem ob114 [∀ e, Nonempty (Elt F e)] (c : Dev nD)  (o : Buf (Elt F) (mOtok.view.loc (c : Thread nD τ))) (b : Buf (Elt F) (mObuf.view.loc (c : Thread nD τ))) (hb : OAcc 0 o 127 b) (Q : (FVec F S16x128 .bf16) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 132 b' ∧ PB o 132 r⌝) -∗ Q r))
      ⊢ wp frame (wpE defs₀ 𝒱₀ (c : Thread nD τ) none) Set.univ (k0_part114 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 ) Q := by
  iintro ⟨⟨Ho, Hb⟩, Hk⟩
  sl_rw [k0_part114_eq_skeleton]
  sl_unfold [k0_part114_skel]
  sl_exec
  sl_step
  iapply Hk $$ %_ %_
  isplitl [Ho]; · iexact Ho
  isplitl [Hb]; · iexact Hb
  ipureintro
  refine ⟨?_, ?_⟩
  · refine OAcc.step (P := 131) rfl (PV.load o rfl _) ?_
    refine OAcc.step (P := 130) rfl (PV.load o rfl _) ?_
    refine OAcc.step (P := 129) rfl (PV.load o rfl _) ?_
    refine OAcc.step (P := 128) rfl (PV.load o rfl _) ?_
    refine OAcc.step (P := 127) rfl (PV.load o rfl _) ?_
    exact hb
  · exact PB.load o rfl _

theorem ob115 [∀ e, Nonempty (Elt F e)] (c : Dev nD) (v838 : FVec F S16x128 .bf16) (o : Buf (Elt F) (mOtok.view.loc (c : Thread nD τ))) (b : Buf (Elt F) (mObuf.view.loc (c : Thread nD τ))) (hx : PB o 132 v838) (hb : OAcc 0 o 132 b) (Q : (FVec F S1x16x128 .bf16) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 137 b' ∧ PV o 137 r⌝) -∗ Q r))
      ⊢ wp frame (wpE defs₀ 𝒱₀ (c : Thread nD τ) none) Set.univ (k0_part115 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v838) Q := by
  iintro ⟨⟨Ho, Hb⟩, Hk⟩
  sl_rw [k0_part115_eq_skeleton]
  sl_unfold [k0_part115_skel]
  sl_exec
  sl_step
  iapply Hk $$ %_ %_
  isplitl [Ho]; · iexact Ho
  isplitl [Hb]; · iexact Hb
  ipureintro
  refine ⟨?_, ?_⟩
  · refine OAcc.step (P := 136) rfl (PV.load o rfl _) ?_
    refine OAcc.step (P := 135) rfl (PV.load o rfl _) ?_
    refine OAcc.step (P := 134) rfl (PV.load o rfl _) ?_
    refine OAcc.step (P := 133) rfl (PV.load o rfl _) ?_
    refine OAcc.step (P := 132) rfl (PV.ofB hx) ?_
    exact hb
  · exact PV.load o rfl _

theorem ob116 [∀ e, Nonempty (Elt F e)] (c : Dev nD) (v866 : FVec F S1x16x128 .bf16) (o : Buf (Elt F) (mOtok.view.loc (c : Thread nD τ))) (b : Buf (Elt F) (mObuf.view.loc (c : Thread nD τ))) (hx : PV o 137 v866) (hb : OAcc 0 o 137 b) (Q : (FVec F S16x128 .bf16) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 143 b' ∧ PB o 143 r⌝) -∗ Q r))
      ⊢ wp frame (wpE defs₀ 𝒱₀ (c : Thread nD τ) none) Set.univ (k0_part116 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v866) Q := by
  iintro ⟨⟨Ho, Hb⟩, Hk⟩
  sl_rw [k0_part116_eq_skeleton]
  sl_unfold [k0_part116_skel]
  sl_exec
  sl_step
  iapply Hk $$ %_ %_
  isplitl [Ho]; · iexact Ho
  isplitl [Hb]; · iexact Hb
  ipureintro
  refine ⟨?_, ?_⟩
  · refine OAcc.step (P := 142) rfl (PV.load o rfl _) ?_
    refine OAcc.step (P := 141) rfl (PV.load o rfl _) ?_
    refine OAcc.step (P := 140) rfl (PV.load o rfl _) ?_
    refine OAcc.step (P := 139) rfl (PV.load o rfl _) ?_
    refine OAcc.step (P := 138) rfl (PV.load o rfl _) ?_
    refine OAcc.step (P := 137) rfl (hx) ?_
    exact hb
  · exact PB.load o rfl _

theorem ob117 [∀ e, Nonempty (Elt F e)] (c : Dev nD) (v893 : FVec F S16x128 .bf16) (o : Buf (Elt F) (mOtok.view.loc (c : Thread nD τ))) (b : Buf (Elt F) (mObuf.view.loc (c : Thread nD τ))) (hx : PB o 143 v893) (hb : OAcc 0 o 143 b) (Q : (FVec F S16x128 .bf16) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 148 b' ∧ PB o 148 r⌝) -∗ Q r))
      ⊢ wp frame (wpE defs₀ 𝒱₀ (c : Thread nD τ) none) Set.univ (k0_part117 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v893) Q := by
  iintro ⟨⟨Ho, Hb⟩, Hk⟩
  sl_rw [k0_part117_eq_skeleton]
  sl_unfold [k0_part117_skel]
  sl_exec
  sl_step
  iapply Hk $$ %_ %_
  isplitl [Ho]; · iexact Ho
  isplitl [Hb]; · iexact Hb
  ipureintro
  refine ⟨?_, ?_⟩
  · refine OAcc.step (P := 147) rfl (PV.load o rfl _) ?_
    refine OAcc.step (P := 146) rfl (PV.load o rfl _) ?_
    refine OAcc.step (P := 145) rfl (PV.load o rfl _) ?_
    refine OAcc.step (P := 144) rfl (PV.load o rfl _) ?_
    refine OAcc.step (P := 143) rfl (PV.ofB hx) ?_
    exact hb
  · exact PB.load o rfl _

theorem ob118 [∀ e, Nonempty (Elt F e)] (c : Dev nD) (v918 : FVec F S16x128 .bf16) (o : Buf (Elt F) (mOtok.view.loc (c : Thread nD τ))) (b : Buf (Elt F) (mObuf.view.loc (c : Thread nD τ))) (hx : PB o 148 v918) (hb : OAcc 0 o 148 b) (Q : (Vec F S16x128 .f32) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 154 b' ∧ PF o 154 r⌝) -∗ Q r))
      ⊢ wp frame (wpE defs₀ 𝒱₀ (c : Thread nD τ) none) Set.univ (k0_part118 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v918) Q := by
  iintro ⟨⟨Ho, Hb⟩, Hk⟩
  sl_rw [k0_part118_eq_skeleton]
  sl_unfold [k0_part118_skel]
  sl_exec
  sl_step
  iapply Hk $$ %_ %_
  isplitl [Ho]; · iexact Ho
  isplitl [Hb]; · iexact Hb
  ipureintro
  refine ⟨?_, ?_⟩
  · refine OAcc.step (P := 153) rfl (PV.load o rfl _) ?_
    refine OAcc.step (P := 152) rfl (PV.load o rfl _) ?_
    refine OAcc.step (P := 151) rfl (PV.load o rfl _) ?_
    refine OAcc.step (P := 150) rfl (PV.load o rfl _) ?_
    refine OAcc.step (P := 149) rfl (PV.load o rfl _) ?_
    refine OAcc.step (P := 148) rfl (PV.ofB hx) ?_
    exact hb
  · exact PF.load o rfl _

theorem ob119 [∀ e, Nonempty (Elt F e)] (c : Dev nD) (v947 : Vec F S16x128 .f32) (o : Buf (Elt F) (mOtok.view.loc (c : Thread nD τ))) (b : Buf (Elt F) (mObuf.view.loc (c : Thread nD τ))) (hx : PF o 154 v947) (hb : OAcc 0 o 154 b) (Q : (Σ' (v973 : FVec F S16x128 .bf16), Vec F S1x16x128 .bf16) → sProp 𝕄) :
    iprop(((mOtok.view.loc (c : Thread nD τ) ↦{fullShare} o) ∗ (mObuf.view.loc (c : Thread nD τ) ↦{fullShare} b)) ∗ (∀ r1 r2 b', ((mOtok.view.loc (c : Thread nD τ) ↦{fullShare} o) ∗ (mObuf.view.loc (c : Thread nD τ) ↦{fullShare} b') ∗ ⌜OAcc 0 o 159 b' ∧ PB o 159 r1⌝) -∗ Q ⟨r1, r2⟩))
      ⊢ wp frame (wpE defs₀ 𝒱₀ (c : Thread nD τ) none) Set.univ (k0_part119 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v947) Q := by
  iintro ⟨⟨Ho, Hb⟩, Hk⟩
  sl_rw [k0_part119_eq_skeleton]
  sl_unfold [k0_part119_skel]
  sl_exec
  sl_step
  iapply Hk $$ %_ %_ %_
  isplitl [Ho]; · iexact Ho
  isplitl [Hb]; · iexact Hb
  ipureintro
  refine ⟨?_, ?_⟩
  · refine OAcc.step (P := 158) rfl (PV.load o rfl _) ?_
    refine OAcc.step (P := 157) rfl (PV.load o rfl _) ?_
    refine OAcc.step (P := 156) rfl (PV.load o rfl _) ?_
    refine OAcc.step (P := 155) rfl (PV.load o rfl _) ?_
    refine OAcc.step (P := 154) rfl (PV.ofF hx) ?_
    exact hb
  · exact PB.load o rfl _

theorem ob120 [∀ e, Nonempty (Elt F e)] (c : Dev nD) (v973 : FVec F S16x128 .bf16) (v974 : Vec F S1x16x128 .bf16) (o : Buf (Elt F) (mOtok.view.loc (c : Thread nD τ))) (b : Buf (Elt F) (mObuf.view.loc (c : Thread nD τ))) (hx : PB o 159 v973) (hb : OAcc 0 o 159 b) (Q : (PUnit) → sProp 𝕄) :
    iprop(((mOtok.view.loc (c : Thread nD τ) ↦{fullShare} o) ∗ (mObuf.view.loc (c : Thread nD τ) ↦{fullShare} b)) ∗ (∀ b', ((mOtok.view.loc (c : Thread nD τ) ↦{fullShare} o) ∗ (mObuf.view.loc (c : Thread nD τ) ↦{fullShare} b') ∗ ⌜OAcc 0 o 165 b'⌝) -∗ Q ⟨⟩))
      ⊢ wp frame (wpE defs₀ 𝒱₀ (c : Thread nD τ) none) Set.univ (k0_part120 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v973 v974) Q := by
  iintro ⟨⟨Ho, Hb⟩, Hk⟩
  sl_rw [k0_part120_eq_skeleton]
  sl_unfold [k0_part120_skel]
  sl_exec
  sl_step
  iapply Hk $$ %_
  isplitl [Ho]; · iexact Ho
  isplitl [Hb]; · iexact Hb
  ipureintro
  refine OAcc.step (P := 164) rfl (PV.load o rfl _) ?_
  refine OAcc.step (P := 163) rfl (PV.load o rfl _) ?_
  refine OAcc.step (P := 162) rfl (PV.load o rfl _) ?_
  refine OAcc.step (P := 161) rfl (PV.load o rfl _) ?_
  refine OAcc.step (P := 160) rfl (PV.load o rfl _) ?_
  refine OAcc.step (P := 159) rfl (PV.ofB hx) ?_
  exact hb

theorem ob121 [∀ e, Nonempty (Elt F e)] (c : Dev nD)  (o : Buf (Elt F) (mOtok.view.loc (c : Thread nD τ))) (b : Buf (Elt F) (mObuf.view.loc (c : Thread nD τ))) (hb : OAcc 0 o 165 b) (Q : (FVec F S16x128 .bf16) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 170 b' ∧ PB o 170 r⌝) -∗ Q r))
      ⊢ wp frame (wpE defs₀ 𝒱₀ (c : Thread nD τ) none) Set.univ (k0_part121 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 ) Q := by
  iintro ⟨⟨Ho, Hb⟩, Hk⟩
  sl_rw [k0_part121_eq_skeleton]
  sl_unfold [k0_part121_skel]
  sl_exec
  sl_step
  iapply Hk $$ %_ %_
  isplitl [Ho]; · iexact Ho
  isplitl [Hb]; · iexact Hb
  ipureintro
  refine ⟨?_, ?_⟩
  · refine OAcc.step (P := 169) rfl (PV.load o rfl _) ?_
    refine OAcc.step (P := 168) rfl (PV.load o rfl _) ?_
    refine OAcc.step (P := 167) rfl (PV.load o rfl _) ?_
    refine OAcc.step (P := 166) rfl (PV.load o rfl _) ?_
    refine OAcc.step (P := 165) rfl (PV.load o rfl _) ?_
    exact hb
  · exact PB.load o rfl _

theorem ob122 [∀ e, Nonempty (Elt F e)] (c : Dev nD) (v1028 : FVec F S16x128 .bf16) (o : Buf (Elt F) (mOtok.view.loc (c : Thread nD τ))) (b : Buf (Elt F) (mObuf.view.loc (c : Thread nD τ))) (hx : PB o 170 v1028) (hb : OAcc 0 o 170 b) (Q : (PUnit) → sProp 𝕄) :
    iprop(((mOtok.view.loc (c : Thread nD τ) ↦{fullShare} o) ∗ (mObuf.view.loc (c : Thread nD τ) ↦{fullShare} b)) ∗ (∀ b', ((mOtok.view.loc (c : Thread nD τ) ↦{fullShare} o) ∗ (mObuf.view.loc (c : Thread nD τ) ↦{fullShare} b') ∗ ⌜OAcc 0 o 176 b'⌝) -∗ Q ⟨⟩))
      ⊢ wp frame (wpE defs₀ 𝒱₀ (c : Thread nD τ) none) Set.univ (k0_part122 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v1028) Q := by
  iintro ⟨⟨Ho, Hb⟩, Hk⟩
  sl_rw [k0_part122_eq_skeleton]
  sl_unfold [k0_part122_skel]
  sl_exec
  sl_step
  iapply Hk $$ %_
  isplitl [Ho]; · iexact Ho
  isplitl [Hb]; · iexact Hb
  ipureintro
  refine OAcc.step (P := 175) rfl (PV.load o rfl _) ?_
  refine OAcc.step (P := 174) rfl (PV.load o rfl _) ?_
  refine OAcc.step (P := 173) rfl (PV.load o rfl _) ?_
  refine OAcc.step (P := 172) rfl (PV.load o rfl _) ?_
  refine OAcc.step (P := 171) rfl (PV.load o rfl _) ?_
  refine OAcc.step (P := 170) rfl (PV.ofB hx) ?_
  exact hb

theorem ob123 [∀ e, Nonempty (Elt F e)] (c : Dev nD)  (o : Buf (Elt F) (mOtok.view.loc (c : Thread nD τ))) (b : Buf (Elt F) (mObuf.view.loc (c : Thread nD τ))) (hb : OAcc 0 o 176 b) (Q : (FVec F S16x128 .bf16) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 181 b' ∧ PB o 181 r⌝) -∗ Q r))
      ⊢ wp frame (wpE defs₀ 𝒱₀ (c : Thread nD τ) none) Set.univ (k0_part123 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 ) Q := by
  iintro ⟨⟨Ho, Hb⟩, Hk⟩
  sl_rw [k0_part123_eq_skeleton]
  sl_unfold [k0_part123_skel]
  sl_exec
  sl_step
  iapply Hk $$ %_ %_
  isplitl [Ho]; · iexact Ho
  isplitl [Hb]; · iexact Hb
  ipureintro
  refine ⟨?_, ?_⟩
  · refine OAcc.step (P := 180) rfl (PV.load o rfl _) ?_
    refine OAcc.step (P := 179) rfl (PV.load o rfl _) ?_
    refine OAcc.step (P := 178) rfl (PV.load o rfl _) ?_
    refine OAcc.step (P := 177) rfl (PV.load o rfl _) ?_
    refine OAcc.step (P := 176) rfl (PV.load o rfl _) ?_
    exact hb
  · exact PB.load o rfl _

theorem ob124 [∀ e, Nonempty (Elt F e)] (c : Dev nD) (v1083 : FVec F S16x128 .bf16) (o : Buf (Elt F) (mOtok.view.loc (c : Thread nD τ))) (b : Buf (Elt F) (mObuf.view.loc (c : Thread nD τ))) (hx : PB o 181 v1083) (hb : OAcc 0 o 181 b) (Q : (PUnit) → sProp 𝕄) :
    iprop(((mOtok.view.loc (c : Thread nD τ) ↦{fullShare} o) ∗ (mObuf.view.loc (c : Thread nD τ) ↦{fullShare} b)) ∗ (∀ b', ((mOtok.view.loc (c : Thread nD τ) ↦{fullShare} o) ∗ (mObuf.view.loc (c : Thread nD τ) ↦{fullShare} b') ∗ ⌜OAcc 0 o 187 b'⌝) -∗ Q ⟨⟩))
      ⊢ wp frame (wpE defs₀ 𝒱₀ (c : Thread nD τ) none) Set.univ (k0_part124 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v1083) Q := by
  iintro ⟨⟨Ho, Hb⟩, Hk⟩
  sl_rw [k0_part124_eq_skeleton]
  sl_unfold [k0_part124_skel]
  sl_exec
  sl_step
  iapply Hk $$ %_
  isplitl [Ho]; · iexact Ho
  isplitl [Hb]; · iexact Hb
  ipureintro
  refine OAcc.step (P := 186) rfl (PV.load o rfl _) ?_
  refine OAcc.step (P := 185) rfl (PV.load o rfl _) ?_
  refine OAcc.step (P := 184) rfl (PV.load o rfl _) ?_
  refine OAcc.step (P := 183) rfl (PV.load o rfl _) ?_
  refine OAcc.step (P := 182) rfl (PV.load o rfl _) ?_
  refine OAcc.step (P := 181) rfl (PV.ofB hx) ?_
  exact hb

theorem ob125 [∀ e, Nonempty (Elt F e)] (c : Dev nD)  (o : Buf (Elt F) (mOtok.view.loc (c : Thread nD τ))) (b : Buf (Elt F) (mObuf.view.loc (c : Thread nD τ))) (hb : OAcc 0 o 187 b) (Q : (FVec F S16x128 .bf16) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 192 b' ∧ PB o 192 r⌝) -∗ Q r))
      ⊢ wp frame (wpE defs₀ 𝒱₀ (c : Thread nD τ) none) Set.univ (k0_part125 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 ) Q := by
  iintro ⟨⟨Ho, Hb⟩, Hk⟩
  sl_rw [k0_part125_eq_skeleton]
  sl_unfold [k0_part125_skel]
  sl_exec
  sl_step
  iapply Hk $$ %_ %_
  isplitl [Ho]; · iexact Ho
  isplitl [Hb]; · iexact Hb
  ipureintro
  refine ⟨?_, ?_⟩
  · refine OAcc.step (P := 191) rfl (PV.load o rfl _) ?_
    refine OAcc.step (P := 190) rfl (PV.load o rfl _) ?_
    refine OAcc.step (P := 189) rfl (PV.load o rfl _) ?_
    refine OAcc.step (P := 188) rfl (PV.load o rfl _) ?_
    refine OAcc.step (P := 187) rfl (PV.load o rfl _) ?_
    exact hb
  · exact PB.load o rfl _

theorem ob126 [∀ e, Nonempty (Elt F e)] (c : Dev nD) (v1138 : FVec F S16x128 .bf16) (o : Buf (Elt F) (mOtok.view.loc (c : Thread nD τ))) (b : Buf (Elt F) (mObuf.view.loc (c : Thread nD τ))) (hx : PB o 192 v1138) (hb : OAcc 0 o 192 b) (Q : (FVec F S1x16x128 .bf16) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 197 b' ∧ PV o 197 r⌝) -∗ Q r))
      ⊢ wp frame (wpE defs₀ 𝒱₀ (c : Thread nD τ) none) Set.univ (k0_part126 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v1138) Q := by
  iintro ⟨⟨Ho, Hb⟩, Hk⟩
  sl_rw [k0_part126_eq_skeleton]
  sl_unfold [k0_part126_skel]
  sl_exec
  sl_step
  iapply Hk $$ %_ %_
  isplitl [Ho]; · iexact Ho
  isplitl [Hb]; · iexact Hb
  ipureintro
  refine ⟨?_, ?_⟩
  · refine OAcc.step (P := 196) rfl (PV.load o rfl _) ?_
    refine OAcc.step (P := 195) rfl (PV.load o rfl _) ?_
    refine OAcc.step (P := 194) rfl (PV.load o rfl _) ?_
    refine OAcc.step (P := 193) rfl (PV.load o rfl _) ?_
    refine OAcc.step (P := 192) rfl (PV.ofB hx) ?_
    exact hb
  · exact PV.load o rfl _

theorem ob127 [∀ e, Nonempty (Elt F e)] (c : Dev nD) (v1166 : FVec F S1x16x128 .bf16) (o : Buf (Elt F) (mOtok.view.loc (c : Thread nD τ))) (b : Buf (Elt F) (mObuf.view.loc (c : Thread nD τ))) (hx : PV o 197 v1166) (hb : OAcc 0 o 197 b) (Q : (FVec F S16x128 .bf16) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 203 b' ∧ PB o 203 r⌝) -∗ Q r))
      ⊢ wp frame (wpE defs₀ 𝒱₀ (c : Thread nD τ) none) Set.univ (k0_part127 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v1166) Q := by
  iintro ⟨⟨Ho, Hb⟩, Hk⟩
  sl_rw [k0_part127_eq_skeleton]
  sl_unfold [k0_part127_skel]
  sl_exec
  sl_step
  iapply Hk $$ %_ %_
  isplitl [Ho]; · iexact Ho
  isplitl [Hb]; · iexact Hb
  ipureintro
  refine ⟨?_, ?_⟩
  · refine OAcc.step (P := 202) rfl (PV.load o rfl _) ?_
    refine OAcc.step (P := 201) rfl (PV.load o rfl _) ?_
    refine OAcc.step (P := 200) rfl (PV.load o rfl _) ?_
    refine OAcc.step (P := 199) rfl (PV.load o rfl _) ?_
    refine OAcc.step (P := 198) rfl (PV.load o rfl _) ?_
    refine OAcc.step (P := 197) rfl (hx) ?_
    exact hb
  · exact PB.load o rfl _

theorem ob128 [∀ e, Nonempty (Elt F e)] (c : Dev nD) (v1193 : FVec F S16x128 .bf16) (o : Buf (Elt F) (mOtok.view.loc (c : Thread nD τ))) (b : Buf (Elt F) (mObuf.view.loc (c : Thread nD τ))) (hx : PB o 203 v1193) (hb : OAcc 0 o 203 b) (Q : (FVec F S16x128 .bf16) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 208 b' ∧ PB o 208 r⌝) -∗ Q r))
      ⊢ wp frame (wpE defs₀ 𝒱₀ (c : Thread nD τ) none) Set.univ (k0_part128 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v1193) Q := by
  iintro ⟨⟨Ho, Hb⟩, Hk⟩
  sl_rw [k0_part128_eq_skeleton]
  sl_unfold [k0_part128_skel]
  sl_exec
  sl_step
  iapply Hk $$ %_ %_
  isplitl [Ho]; · iexact Ho
  isplitl [Hb]; · iexact Hb
  ipureintro
  refine ⟨?_, ?_⟩
  · refine OAcc.step (P := 207) rfl (PV.load o rfl _) ?_
    refine OAcc.step (P := 206) rfl (PV.load o rfl _) ?_
    refine OAcc.step (P := 205) rfl (PV.load o rfl _) ?_
    refine OAcc.step (P := 204) rfl (PV.load o rfl _) ?_
    refine OAcc.step (P := 203) rfl (PV.ofB hx) ?_
    exact hb
  · exact PB.load o rfl _

theorem ob129 [∀ e, Nonempty (Elt F e)] (c : Dev nD) (v1218 : FVec F S16x128 .bf16) (o : Buf (Elt F) (mOtok.view.loc (c : Thread nD τ))) (b : Buf (Elt F) (mObuf.view.loc (c : Thread nD τ))) (hx : PB o 208 v1218) (hb : OAcc 0 o 208 b) (Q : (Vec F S16x128 .f32) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 214 b' ∧ PF o 214 r⌝) -∗ Q r))
      ⊢ wp frame (wpE defs₀ 𝒱₀ (c : Thread nD τ) none) Set.univ (k0_part129 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v1218) Q := by
  iintro ⟨⟨Ho, Hb⟩, Hk⟩
  sl_rw [k0_part129_eq_skeleton]
  sl_unfold [k0_part129_skel]
  sl_exec
  sl_step
  iapply Hk $$ %_ %_
  isplitl [Ho]; · iexact Ho
  isplitl [Hb]; · iexact Hb
  ipureintro
  refine ⟨?_, ?_⟩
  · refine OAcc.step (P := 213) rfl (PV.load o rfl _) ?_
    refine OAcc.step (P := 212) rfl (PV.load o rfl _) ?_
    refine OAcc.step (P := 211) rfl (PV.load o rfl _) ?_
    refine OAcc.step (P := 210) rfl (PV.load o rfl _) ?_
    refine OAcc.step (P := 209) rfl (PV.load o rfl _) ?_
    refine OAcc.step (P := 208) rfl (PV.ofB hx) ?_
    exact hb
  · exact PF.load o rfl _

theorem ob130 [∀ e, Nonempty (Elt F e)] (c : Dev nD) (v1247 : Vec F S16x128 .f32) (o : Buf (Elt F) (mOtok.view.loc (c : Thread nD τ))) (b : Buf (Elt F) (mObuf.view.loc (c : Thread nD τ))) (hx : PF o 214 v1247) (hb : OAcc 0 o 214 b) (Q : (Σ' (v1273 : FVec F S16x128 .bf16), Vec F S1x16x128 .bf16) → sProp 𝕄) :
    iprop(((mOtok.view.loc (c : Thread nD τ) ↦{fullShare} o) ∗ (mObuf.view.loc (c : Thread nD τ) ↦{fullShare} b)) ∗ (∀ r1 r2 b', ((mOtok.view.loc (c : Thread nD τ) ↦{fullShare} o) ∗ (mObuf.view.loc (c : Thread nD τ) ↦{fullShare} b') ∗ ⌜OAcc 0 o 219 b' ∧ PB o 219 r1⌝) -∗ Q ⟨r1, r2⟩))
      ⊢ wp frame (wpE defs₀ 𝒱₀ (c : Thread nD τ) none) Set.univ (k0_part130 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v1247) Q := by
  iintro ⟨⟨Ho, Hb⟩, Hk⟩
  sl_rw [k0_part130_eq_skeleton]
  sl_unfold [k0_part130_skel]
  sl_exec
  sl_step
  iapply Hk $$ %_ %_ %_
  isplitl [Ho]; · iexact Ho
  isplitl [Hb]; · iexact Hb
  ipureintro
  refine ⟨?_, ?_⟩
  · refine OAcc.step (P := 218) rfl (PV.load o rfl _) ?_
    refine OAcc.step (P := 217) rfl (PV.load o rfl _) ?_
    refine OAcc.step (P := 216) rfl (PV.load o rfl _) ?_
    refine OAcc.step (P := 215) rfl (PV.load o rfl _) ?_
    refine OAcc.step (P := 214) rfl (PV.ofF hx) ?_
    exact hb
  · exact PB.load o rfl _

theorem ob131 [∀ e, Nonempty (Elt F e)] (c : Dev nD) (v1273 : FVec F S16x128 .bf16) (v1274 : Vec F S1x16x128 .bf16) (o : Buf (Elt F) (mOtok.view.loc (c : Thread nD τ))) (b : Buf (Elt F) (mObuf.view.loc (c : Thread nD τ))) (hx : PB o 219 v1273) (hb : OAcc 0 o 219 b) (Q : (PUnit) → sProp 𝕄) :
    iprop(((mOtok.view.loc (c : Thread nD τ) ↦{fullShare} o) ∗ (mObuf.view.loc (c : Thread nD τ) ↦{fullShare} b)) ∗ (∀ b', ((mOtok.view.loc (c : Thread nD τ) ↦{fullShare} o) ∗ (mObuf.view.loc (c : Thread nD τ) ↦{fullShare} b') ∗ ⌜OAcc 0 o 225 b'⌝) -∗ Q ⟨⟩))
      ⊢ wp frame (wpE defs₀ 𝒱₀ (c : Thread nD τ) none) Set.univ (k0_part131 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v1273 v1274) Q := by
  iintro ⟨⟨Ho, Hb⟩, Hk⟩
  sl_rw [k0_part131_eq_skeleton]
  sl_unfold [k0_part131_skel]
  sl_exec
  sl_step
  iapply Hk $$ %_
  isplitl [Ho]; · iexact Ho
  isplitl [Hb]; · iexact Hb
  ipureintro
  refine OAcc.step (P := 224) rfl (PV.load o rfl _) ?_
  refine OAcc.step (P := 223) rfl (PV.load o rfl _) ?_
  refine OAcc.step (P := 222) rfl (PV.load o rfl _) ?_
  refine OAcc.step (P := 221) rfl (PV.load o rfl _) ?_
  refine OAcc.step (P := 220) rfl (PV.load o rfl _) ?_
  refine OAcc.step (P := 219) rfl (PV.ofB hx) ?_
  exact hb

theorem ob132 [∀ e, Nonempty (Elt F e)] (c : Dev nD)  (o : Buf (Elt F) (mOtok.view.loc (c : Thread nD τ))) (b : Buf (Elt F) (mObuf.view.loc (c : Thread nD τ))) (hb : OAcc 0 o 225 b) (Q : (FVec F S16x128 .bf16) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 230 b' ∧ PB o 230 r⌝) -∗ Q r))
      ⊢ wp frame (wpE defs₀ 𝒱₀ (c : Thread nD τ) none) Set.univ (k0_part132 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 ) Q := by
  iintro ⟨⟨Ho, Hb⟩, Hk⟩
  sl_rw [k0_part132_eq_skeleton]
  sl_unfold [k0_part132_skel]
  sl_exec
  sl_step
  iapply Hk $$ %_ %_
  isplitl [Ho]; · iexact Ho
  isplitl [Hb]; · iexact Hb
  ipureintro
  refine ⟨?_, ?_⟩
  · refine OAcc.step (P := 229) rfl (PV.load o rfl _) ?_
    refine OAcc.step (P := 228) rfl (PV.load o rfl _) ?_
    refine OAcc.step (P := 227) rfl (PV.load o rfl _) ?_
    refine OAcc.step (P := 226) rfl (PV.load o rfl _) ?_
    refine OAcc.step (P := 225) rfl (PV.load o rfl _) ?_
    exact hb
  · exact PB.load o rfl _

theorem ob133 [∀ e, Nonempty (Elt F e)] (c : Dev nD) (v1328 : FVec F S16x128 .bf16) (o : Buf (Elt F) (mOtok.view.loc (c : Thread nD τ))) (b : Buf (Elt F) (mObuf.view.loc (c : Thread nD τ))) (hx : PB o 230 v1328) (hb : OAcc 0 o 230 b) (Q : (PUnit) → sProp 𝕄) :
    iprop(((mOtok.view.loc (c : Thread nD τ) ↦{fullShare} o) ∗ (mObuf.view.loc (c : Thread nD τ) ↦{fullShare} b)) ∗ (∀ b', ((mOtok.view.loc (c : Thread nD τ) ↦{fullShare} o) ∗ (mObuf.view.loc (c : Thread nD τ) ↦{fullShare} b') ∗ ⌜OAcc 0 o 236 b'⌝) -∗ Q ⟨⟩))
      ⊢ wp frame (wpE defs₀ 𝒱₀ (c : Thread nD τ) none) Set.univ (k0_part133 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v1328) Q := by
  iintro ⟨⟨Ho, Hb⟩, Hk⟩
  sl_rw [k0_part133_eq_skeleton]
  sl_unfold [k0_part133_skel]
  sl_exec
  sl_step
  iapply Hk $$ %_
  isplitl [Ho]; · iexact Ho
  isplitl [Hb]; · iexact Hb
  ipureintro
  refine OAcc.step (P := 235) rfl (PV.load o rfl _) ?_
  refine OAcc.step (P := 234) rfl (PV.load o rfl _) ?_
  refine OAcc.step (P := 233) rfl (PV.load o rfl _) ?_
  refine OAcc.step (P := 232) rfl (PV.load o rfl _) ?_
  refine OAcc.step (P := 231) rfl (PV.load o rfl _) ?_
  refine OAcc.step (P := 230) rfl (PV.ofB hx) ?_
  exact hb

theorem ob134 [∀ e, Nonempty (Elt F e)] (c : Dev nD)  (o : Buf (Elt F) (mOtok.view.loc (c : Thread nD τ))) (b : Buf (Elt F) (mObuf.view.loc (c : Thread nD τ))) (hb : OAcc 0 o 236 b) (Q : (FVec F S16x128 .bf16) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 241 b' ∧ PB o 241 r⌝) -∗ Q r))
      ⊢ wp frame (wpE defs₀ 𝒱₀ (c : Thread nD τ) none) Set.univ (k0_part134 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 ) Q := by
  iintro ⟨⟨Ho, Hb⟩, Hk⟩
  sl_rw [k0_part134_eq_skeleton]
  sl_unfold [k0_part134_skel]
  sl_exec
  sl_step
  iapply Hk $$ %_ %_
  isplitl [Ho]; · iexact Ho
  isplitl [Hb]; · iexact Hb
  ipureintro
  refine ⟨?_, ?_⟩
  · refine OAcc.step (P := 240) rfl (PV.load o rfl _) ?_
    refine OAcc.step (P := 239) rfl (PV.load o rfl _) ?_
    refine OAcc.step (P := 238) rfl (PV.load o rfl _) ?_
    refine OAcc.step (P := 237) rfl (PV.load o rfl _) ?_
    refine OAcc.step (P := 236) rfl (PV.load o rfl _) ?_
    exact hb
  · exact PB.load o rfl _

theorem ob135 [∀ e, Nonempty (Elt F e)] (c : Dev nD) (v1383 : FVec F S16x128 .bf16) (o : Buf (Elt F) (mOtok.view.loc (c : Thread nD τ))) (b : Buf (Elt F) (mObuf.view.loc (c : Thread nD τ))) (hx : PB o 241 v1383) (hb : OAcc 0 o 241 b) (Q : (PUnit) → sProp 𝕄) :
    iprop(((mOtok.view.loc (c : Thread nD τ) ↦{fullShare} o) ∗ (mObuf.view.loc (c : Thread nD τ) ↦{fullShare} b)) ∗ (∀ b', ((mOtok.view.loc (c : Thread nD τ) ↦{fullShare} o) ∗ (mObuf.view.loc (c : Thread nD τ) ↦{fullShare} b') ∗ ⌜OAcc 0 o 247 b'⌝) -∗ Q ⟨⟩))
      ⊢ wp frame (wpE defs₀ 𝒱₀ (c : Thread nD τ) none) Set.univ (k0_part135 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v1383) Q := by
  iintro ⟨⟨Ho, Hb⟩, Hk⟩
  sl_rw [k0_part135_eq_skeleton]
  sl_unfold [k0_part135_skel]
  sl_exec
  sl_step
  iapply Hk $$ %_
  isplitl [Ho]; · iexact Ho
  isplitl [Hb]; · iexact Hb
  ipureintro
  refine OAcc.step (P := 246) rfl (PV.load o rfl _) ?_
  refine OAcc.step (P := 245) rfl (PV.load o rfl _) ?_
  refine OAcc.step (P := 244) rfl (PV.load o rfl _) ?_
  refine OAcc.step (P := 243) rfl (PV.load o rfl _) ?_
  refine OAcc.step (P := 242) rfl (PV.load o rfl _) ?_
  refine OAcc.step (P := 241) rfl (PV.ofB hx) ?_
  exact hb

theorem ob136 [∀ e, Nonempty (Elt F e)] (c : Dev nD)  (o : Buf (Elt F) (mOtok.view.loc (c : Thread nD τ))) (b : Buf (Elt F) (mObuf.view.loc (c : Thread nD τ))) (hb : OAcc 0 o 247 b) (Q : (FVec F S16x128 .bf16) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 252 b' ∧ PB o 252 r⌝) -∗ Q r))
      ⊢ wp frame (wpE defs₀ 𝒱₀ (c : Thread nD τ) none) Set.univ (k0_part136 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 ) Q := by
  iintro ⟨⟨Ho, Hb⟩, Hk⟩
  sl_rw [k0_part136_eq_skeleton]
  sl_unfold [k0_part136_skel]
  sl_exec
  sl_step
  iapply Hk $$ %_ %_
  isplitl [Ho]; · iexact Ho
  isplitl [Hb]; · iexact Hb
  ipureintro
  refine ⟨?_, ?_⟩
  · refine OAcc.step (P := 251) rfl (PV.load o rfl _) ?_
    refine OAcc.step (P := 250) rfl (PV.load o rfl _) ?_
    refine OAcc.step (P := 249) rfl (PV.load o rfl _) ?_
    refine OAcc.step (P := 248) rfl (PV.load o rfl _) ?_
    refine OAcc.step (P := 247) rfl (PV.load o rfl _) ?_
    exact hb
  · exact PB.load o rfl _

theorem ob137 [∀ e, Nonempty (Elt F e)] (c : Dev nD) (v1438 : FVec F S16x128 .bf16) (o : Buf (Elt F) (mOtok.view.loc (c : Thread nD τ))) (b : Buf (Elt F) (mObuf.view.loc (c : Thread nD τ))) (hx : PB o 252 v1438) (hb : OAcc 0 o 252 b) (Q : (FVec F S1x16x128 .bf16) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 257 b' ∧ PV o 257 r⌝) -∗ Q r))
      ⊢ wp frame (wpE defs₀ 𝒱₀ (c : Thread nD τ) none) Set.univ (k0_part137 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v1438) Q := by
  iintro ⟨⟨Ho, Hb⟩, Hk⟩
  sl_rw [k0_part137_eq_skeleton]
  sl_unfold [k0_part137_skel]
  sl_exec
  sl_step
  iapply Hk $$ %_ %_
  isplitl [Ho]; · iexact Ho
  isplitl [Hb]; · iexact Hb
  ipureintro
  refine ⟨?_, ?_⟩
  · refine OAcc.step (P := 256) rfl (PV.load o rfl _) ?_
    refine OAcc.step (P := 255) rfl (PV.load o rfl _) ?_
    refine OAcc.step (P := 254) rfl (PV.load o rfl _) ?_
    refine OAcc.step (P := 253) rfl (PV.load o rfl _) ?_
    refine OAcc.step (P := 252) rfl (PV.ofB hx) ?_
    exact hb
  · exact PV.load o rfl _

theorem ob138 [∀ e, Nonempty (Elt F e)] (c : Dev nD) (v1466 : FVec F S1x16x128 .bf16) (o : Buf (Elt F) (mOtok.view.loc (c : Thread nD τ))) (b : Buf (Elt F) (mObuf.view.loc (c : Thread nD τ))) (hx : PV o 257 v1466) (hb : OAcc 0 o 257 b) (Q : (FVec F S16x128 .bf16) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 263 b' ∧ PB o 263 r⌝) -∗ Q r))
      ⊢ wp frame (wpE defs₀ 𝒱₀ (c : Thread nD τ) none) Set.univ (k0_part138 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v1466) Q := by
  iintro ⟨⟨Ho, Hb⟩, Hk⟩
  sl_rw [k0_part138_eq_skeleton]
  sl_unfold [k0_part138_skel]
  sl_exec
  sl_step
  iapply Hk $$ %_ %_
  isplitl [Ho]; · iexact Ho
  isplitl [Hb]; · iexact Hb
  ipureintro
  refine ⟨?_, ?_⟩
  · refine OAcc.step (P := 262) rfl (PV.load o rfl _) ?_
    refine OAcc.step (P := 261) rfl (PV.load o rfl _) ?_
    refine OAcc.step (P := 260) rfl (PV.load o rfl _) ?_
    refine OAcc.step (P := 259) rfl (PV.load o rfl _) ?_
    refine OAcc.step (P := 258) rfl (PV.load o rfl _) ?_
    refine OAcc.step (P := 257) rfl (hx) ?_
    exact hb
  · exact PB.load o rfl _

theorem ob139 [∀ e, Nonempty (Elt F e)] (c : Dev nD) (v1493 : FVec F S16x128 .bf16) (o : Buf (Elt F) (mOtok.view.loc (c : Thread nD τ))) (b : Buf (Elt F) (mObuf.view.loc (c : Thread nD τ))) (hx : PB o 263 v1493) (hb : OAcc 0 o 263 b) (Q : (FVec F S16x128 .bf16) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 268 b' ∧ PB o 268 r⌝) -∗ Q r))
      ⊢ wp frame (wpE defs₀ 𝒱₀ (c : Thread nD τ) none) Set.univ (k0_part139 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v1493) Q := by
  iintro ⟨⟨Ho, Hb⟩, Hk⟩
  sl_rw [k0_part139_eq_skeleton]
  sl_unfold [k0_part139_skel]
  sl_exec
  sl_step
  iapply Hk $$ %_ %_
  isplitl [Ho]; · iexact Ho
  isplitl [Hb]; · iexact Hb
  ipureintro
  refine ⟨?_, ?_⟩
  · refine OAcc.step (P := 267) rfl (PV.load o rfl _) ?_
    refine OAcc.step (P := 266) rfl (PV.load o rfl _) ?_
    refine OAcc.step (P := 265) rfl (PV.load o rfl _) ?_
    refine OAcc.step (P := 264) rfl (PV.load o rfl _) ?_
    refine OAcc.step (P := 263) rfl (PV.ofB hx) ?_
    exact hb
  · exact PB.load o rfl _

theorem ob140 [∀ e, Nonempty (Elt F e)] (c : Dev nD) (v1518 : FVec F S16x128 .bf16) (o : Buf (Elt F) (mOtok.view.loc (c : Thread nD τ))) (b : Buf (Elt F) (mObuf.view.loc (c : Thread nD τ))) (hx : PB o 268 v1518) (hb : OAcc 0 o 268 b) (Q : (Vec F S16x128 .f32) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 274 b' ∧ PF o 274 r⌝) -∗ Q r))
      ⊢ wp frame (wpE defs₀ 𝒱₀ (c : Thread nD τ) none) Set.univ (k0_part140 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v1518) Q := by
  iintro ⟨⟨Ho, Hb⟩, Hk⟩
  sl_rw [k0_part140_eq_skeleton]
  sl_unfold [k0_part140_skel]
  sl_exec
  sl_step
  iapply Hk $$ %_ %_
  isplitl [Ho]; · iexact Ho
  isplitl [Hb]; · iexact Hb
  ipureintro
  refine ⟨?_, ?_⟩
  · refine OAcc.step (P := 273) rfl (PV.load o rfl _) ?_
    refine OAcc.step (P := 272) rfl (PV.load o rfl _) ?_
    refine OAcc.step (P := 271) rfl (PV.load o rfl _) ?_
    refine OAcc.step (P := 270) rfl (PV.load o rfl _) ?_
    refine OAcc.step (P := 269) rfl (PV.load o rfl _) ?_
    refine OAcc.step (P := 268) rfl (PV.ofB hx) ?_
    exact hb
  · exact PF.load o rfl _

theorem ob141 [∀ e, Nonempty (Elt F e)] (c : Dev nD) (v1547 : Vec F S16x128 .f32) (o : Buf (Elt F) (mOtok.view.loc (c : Thread nD τ))) (b : Buf (Elt F) (mObuf.view.loc (c : Thread nD τ))) (hx : PF o 274 v1547) (hb : OAcc 0 o 274 b) (Q : (Σ' (v1573 : FVec F S16x128 .bf16), Vec F S1x16x128 .bf16) → sProp 𝕄) :
    iprop(((mOtok.view.loc (c : Thread nD τ) ↦{fullShare} o) ∗ (mObuf.view.loc (c : Thread nD τ) ↦{fullShare} b)) ∗ (∀ r1 r2 b', ((mOtok.view.loc (c : Thread nD τ) ↦{fullShare} o) ∗ (mObuf.view.loc (c : Thread nD τ) ↦{fullShare} b') ∗ ⌜OAcc 0 o 279 b' ∧ PB o 279 r1⌝) -∗ Q ⟨r1, r2⟩))
      ⊢ wp frame (wpE defs₀ 𝒱₀ (c : Thread nD τ) none) Set.univ (k0_part141 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v1547) Q := by
  iintro ⟨⟨Ho, Hb⟩, Hk⟩
  sl_rw [k0_part141_eq_skeleton]
  sl_unfold [k0_part141_skel]
  sl_exec
  sl_step
  iapply Hk $$ %_ %_ %_
  isplitl [Ho]; · iexact Ho
  isplitl [Hb]; · iexact Hb
  ipureintro
  refine ⟨?_, ?_⟩
  · refine OAcc.step (P := 278) rfl (PV.load o rfl _) ?_
    refine OAcc.step (P := 277) rfl (PV.load o rfl _) ?_
    refine OAcc.step (P := 276) rfl (PV.load o rfl _) ?_
    refine OAcc.step (P := 275) rfl (PV.load o rfl _) ?_
    refine OAcc.step (P := 274) rfl (PV.ofF hx) ?_
    exact hb
  · exact PB.load o rfl _

theorem ob142 [∀ e, Nonempty (Elt F e)] (c : Dev nD) (v1573 : FVec F S16x128 .bf16) (v1574 : Vec F S1x16x128 .bf16) (o : Buf (Elt F) (mOtok.view.loc (c : Thread nD τ))) (b : Buf (Elt F) (mObuf.view.loc (c : Thread nD τ))) (hx : PB o 279 v1573) (hb : OAcc 0 o 279 b) (Q : (PUnit) → sProp 𝕄) :
    iprop(((mOtok.view.loc (c : Thread nD τ) ↦{fullShare} o) ∗ (mObuf.view.loc (c : Thread nD τ) ↦{fullShare} b)) ∗ (∀ b', ((mOtok.view.loc (c : Thread nD τ) ↦{fullShare} o) ∗ (mObuf.view.loc (c : Thread nD τ) ↦{fullShare} b') ∗ ⌜OAcc 0 o 285 b'⌝) -∗ Q ⟨⟩))
      ⊢ wp frame (wpE defs₀ 𝒱₀ (c : Thread nD τ) none) Set.univ (k0_part142 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v1573 v1574) Q := by
  iintro ⟨⟨Ho, Hb⟩, Hk⟩
  sl_rw [k0_part142_eq_skeleton]
  sl_unfold [k0_part142_skel]
  sl_exec
  sl_step
  iapply Hk $$ %_
  isplitl [Ho]; · iexact Ho
  isplitl [Hb]; · iexact Hb
  ipureintro
  refine OAcc.step (P := 284) rfl (PV.load o rfl _) ?_
  refine OAcc.step (P := 283) rfl (PV.load o rfl _) ?_
  refine OAcc.step (P := 282) rfl (PV.load o rfl _) ?_
  refine OAcc.step (P := 281) rfl (PV.load o rfl _) ?_
  refine OAcc.step (P := 280) rfl (PV.load o rfl _) ?_
  refine OAcc.step (P := 279) rfl (PV.ofB hx) ?_
  exact hb

theorem ob143 [∀ e, Nonempty (Elt F e)] (c : Dev nD)  (o : Buf (Elt F) (mOtok.view.loc (c : Thread nD τ))) (b : Buf (Elt F) (mObuf.view.loc (c : Thread nD τ))) (hb : OAcc 0 o 285 b) (Q : (FVec F S16x128 .bf16) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 290 b' ∧ PB o 290 r⌝) -∗ Q r))
      ⊢ wp frame (wpE defs₀ 𝒱₀ (c : Thread nD τ) none) Set.univ (k0_part143 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 ) Q := by
  iintro ⟨⟨Ho, Hb⟩, Hk⟩
  sl_rw [k0_part143_eq_skeleton]
  sl_unfold [k0_part143_skel]
  sl_exec
  sl_step
  iapply Hk $$ %_ %_
  isplitl [Ho]; · iexact Ho
  isplitl [Hb]; · iexact Hb
  ipureintro
  refine ⟨?_, ?_⟩
  · refine OAcc.step (P := 289) rfl (PV.load o rfl _) ?_
    refine OAcc.step (P := 288) rfl (PV.load o rfl _) ?_
    refine OAcc.step (P := 287) rfl (PV.load o rfl _) ?_
    refine OAcc.step (P := 286) rfl (PV.load o rfl _) ?_
    refine OAcc.step (P := 285) rfl (PV.load o rfl _) ?_
    exact hb
  · exact PB.load o rfl _

theorem ob144 [∀ e, Nonempty (Elt F e)] (c : Dev nD) (v1628 : FVec F S16x128 .bf16) (o : Buf (Elt F) (mOtok.view.loc (c : Thread nD τ))) (b : Buf (Elt F) (mObuf.view.loc (c : Thread nD τ))) (hx : PB o 290 v1628) (hb : OAcc 0 o 290 b) (Q : (PUnit) → sProp 𝕄) :
    iprop(((mOtok.view.loc (c : Thread nD τ) ↦{fullShare} o) ∗ (mObuf.view.loc (c : Thread nD τ) ↦{fullShare} b)) ∗ (∀ b', ((mOtok.view.loc (c : Thread nD τ) ↦{fullShare} o) ∗ (mObuf.view.loc (c : Thread nD τ) ↦{fullShare} b') ∗ ⌜OAcc 0 o 296 b'⌝) -∗ Q ⟨⟩))
      ⊢ wp frame (wpE defs₀ 𝒱₀ (c : Thread nD τ) none) Set.univ (k0_part144 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v1628) Q := by
  iintro ⟨⟨Ho, Hb⟩, Hk⟩
  sl_rw [k0_part144_eq_skeleton]
  sl_unfold [k0_part144_skel]
  sl_exec
  sl_step
  iapply Hk $$ %_
  isplitl [Ho]; · iexact Ho
  isplitl [Hb]; · iexact Hb
  ipureintro
  refine OAcc.step (P := 295) rfl (PV.load o rfl _) ?_
  refine OAcc.step (P := 294) rfl (PV.load o rfl _) ?_
  refine OAcc.step (P := 293) rfl (PV.load o rfl _) ?_
  refine OAcc.step (P := 292) rfl (PV.load o rfl _) ?_
  refine OAcc.step (P := 291) rfl (PV.load o rfl _) ?_
  refine OAcc.step (P := 290) rfl (PV.ofB hx) ?_
  exact hb

theorem ob145 [∀ e, Nonempty (Elt F e)] (c : Dev nD)  (o : Buf (Elt F) (mOtok.view.loc (c : Thread nD τ))) (b : Buf (Elt F) (mObuf.view.loc (c : Thread nD τ))) (hb : OAcc 0 o 296 b) (Q : (FVec F S16x128 .bf16) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 301 b' ∧ PB o 301 r⌝) -∗ Q r))
      ⊢ wp frame (wpE defs₀ 𝒱₀ (c : Thread nD τ) none) Set.univ (k0_part145 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 ) Q := by
  iintro ⟨⟨Ho, Hb⟩, Hk⟩
  sl_rw [k0_part145_eq_skeleton]
  sl_unfold [k0_part145_skel]
  sl_exec
  sl_step
  iapply Hk $$ %_ %_
  isplitl [Ho]; · iexact Ho
  isplitl [Hb]; · iexact Hb
  ipureintro
  refine ⟨?_, ?_⟩
  · refine OAcc.step (P := 300) rfl (PV.load o rfl _) ?_
    refine OAcc.step (P := 299) rfl (PV.load o rfl _) ?_
    refine OAcc.step (P := 298) rfl (PV.load o rfl _) ?_
    refine OAcc.step (P := 297) rfl (PV.load o rfl _) ?_
    refine OAcc.step (P := 296) rfl (PV.load o rfl _) ?_
    exact hb
  · exact PB.load o rfl _

theorem ob146 [∀ e, Nonempty (Elt F e)] (c : Dev nD) (v1683 : FVec F S16x128 .bf16) (o : Buf (Elt F) (mOtok.view.loc (c : Thread nD τ))) (b : Buf (Elt F) (mObuf.view.loc (c : Thread nD τ))) (hx : PB o 301 v1683) (hb : OAcc 0 o 301 b) (Q : (PUnit) → sProp 𝕄) :
    iprop(((mOtok.view.loc (c : Thread nD τ) ↦{fullShare} o) ∗ (mObuf.view.loc (c : Thread nD τ) ↦{fullShare} b)) ∗ (∀ b', ((mOtok.view.loc (c : Thread nD τ) ↦{fullShare} o) ∗ (mObuf.view.loc (c : Thread nD τ) ↦{fullShare} b') ∗ ⌜OAcc 0 o 307 b'⌝) -∗ Q ⟨⟩))
      ⊢ wp frame (wpE defs₀ 𝒱₀ (c : Thread nD τ) none) Set.univ (k0_part146 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v1683) Q := by
  iintro ⟨⟨Ho, Hb⟩, Hk⟩
  sl_rw [k0_part146_eq_skeleton]
  sl_unfold [k0_part146_skel]
  sl_exec
  sl_step
  iapply Hk $$ %_
  isplitl [Ho]; · iexact Ho
  isplitl [Hb]; · iexact Hb
  ipureintro
  refine OAcc.step (P := 306) rfl (PV.load o rfl _) ?_
  refine OAcc.step (P := 305) rfl (PV.load o rfl _) ?_
  refine OAcc.step (P := 304) rfl (PV.load o rfl _) ?_
  refine OAcc.step (P := 303) rfl (PV.load o rfl _) ?_
  refine OAcc.step (P := 302) rfl (PV.load o rfl _) ?_
  refine OAcc.step (P := 301) rfl (PV.ofB hx) ?_
  exact hb

theorem ob147 [∀ e, Nonempty (Elt F e)] (c : Dev nD)  (o : Buf (Elt F) (mOtok.view.loc (c : Thread nD τ))) (b : Buf (Elt F) (mObuf.view.loc (c : Thread nD τ))) (hb : OAcc 0 o 307 b) (Q : (FVec F S16x128 .bf16) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 312 b' ∧ PB o 312 r⌝) -∗ Q r))
      ⊢ wp frame (wpE defs₀ 𝒱₀ (c : Thread nD τ) none) Set.univ (k0_part147 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 ) Q := by
  iintro ⟨⟨Ho, Hb⟩, Hk⟩
  sl_rw [k0_part147_eq_skeleton]
  sl_unfold [k0_part147_skel]
  sl_exec
  sl_step
  iapply Hk $$ %_ %_
  isplitl [Ho]; · iexact Ho
  isplitl [Hb]; · iexact Hb
  ipureintro
  refine ⟨?_, ?_⟩
  · refine OAcc.step (P := 311) rfl (PV.load o rfl _) ?_
    refine OAcc.step (P := 310) rfl (PV.load o rfl _) ?_
    refine OAcc.step (P := 309) rfl (PV.load o rfl _) ?_
    refine OAcc.step (P := 308) rfl (PV.load o rfl _) ?_
    refine OAcc.step (P := 307) rfl (PV.load o rfl _) ?_
    exact hb
  · exact PB.load o rfl _

theorem ob148 [∀ e, Nonempty (Elt F e)] (c : Dev nD) (v1738 : FVec F S16x128 .bf16) (o : Buf (Elt F) (mOtok.view.loc (c : Thread nD τ))) (b : Buf (Elt F) (mObuf.view.loc (c : Thread nD τ))) (hx : PB o 312 v1738) (hb : OAcc 0 o 312 b) (Q : (FVec F S1x16x128 .bf16) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 317 b' ∧ PV o 317 r⌝) -∗ Q r))
      ⊢ wp frame (wpE defs₀ 𝒱₀ (c : Thread nD τ) none) Set.univ (k0_part148 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v1738) Q := by
  iintro ⟨⟨Ho, Hb⟩, Hk⟩
  sl_rw [k0_part148_eq_skeleton]
  sl_unfold [k0_part148_skel]
  sl_exec
  sl_step
  iapply Hk $$ %_ %_
  isplitl [Ho]; · iexact Ho
  isplitl [Hb]; · iexact Hb
  ipureintro
  refine ⟨?_, ?_⟩
  · refine OAcc.step (P := 316) rfl (PV.load o rfl _) ?_
    refine OAcc.step (P := 315) rfl (PV.load o rfl _) ?_
    refine OAcc.step (P := 314) rfl (PV.load o rfl _) ?_
    refine OAcc.step (P := 313) rfl (PV.load o rfl _) ?_
    refine OAcc.step (P := 312) rfl (PV.ofB hx) ?_
    exact hb
  · exact PV.load o rfl _

theorem ob149 [∀ e, Nonempty (Elt F e)] (c : Dev nD) (v1766 : FVec F S1x16x128 .bf16) (o : Buf (Elt F) (mOtok.view.loc (c : Thread nD τ))) (b : Buf (Elt F) (mObuf.view.loc (c : Thread nD τ))) (hx : PV o 317 v1766) (hb : OAcc 0 o 317 b) (Q : (FVec F S16x128 .bf16) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 323 b' ∧ PB o 323 r⌝) -∗ Q r))
      ⊢ wp frame (wpE defs₀ 𝒱₀ (c : Thread nD τ) none) Set.univ (k0_part149 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v1766) Q := by
  iintro ⟨⟨Ho, Hb⟩, Hk⟩
  sl_rw [k0_part149_eq_skeleton]
  sl_unfold [k0_part149_skel]
  sl_exec
  sl_step
  iapply Hk $$ %_ %_
  isplitl [Ho]; · iexact Ho
  isplitl [Hb]; · iexact Hb
  ipureintro
  refine ⟨?_, ?_⟩
  · refine OAcc.step (P := 322) rfl (PV.load o rfl _) ?_
    refine OAcc.step (P := 321) rfl (PV.load o rfl _) ?_
    refine OAcc.step (P := 320) rfl (PV.load o rfl _) ?_
    refine OAcc.step (P := 319) rfl (PV.load o rfl _) ?_
    refine OAcc.step (P := 318) rfl (PV.load o rfl _) ?_
    refine OAcc.step (P := 317) rfl (hx) ?_
    exact hb
  · exact PB.load o rfl _

theorem ob150 [∀ e, Nonempty (Elt F e)] (c : Dev nD) (v1793 : FVec F S16x128 .bf16) (o : Buf (Elt F) (mOtok.view.loc (c : Thread nD τ))) (b : Buf (Elt F) (mObuf.view.loc (c : Thread nD τ))) (hx : PB o 323 v1793) (hb : OAcc 0 o 323 b) (Q : (FVec F S16x128 .bf16) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 328 b' ∧ PB o 328 r⌝) -∗ Q r))
      ⊢ wp frame (wpE defs₀ 𝒱₀ (c : Thread nD τ) none) Set.univ (k0_part150 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v1793) Q := by
  iintro ⟨⟨Ho, Hb⟩, Hk⟩
  sl_rw [k0_part150_eq_skeleton]
  sl_unfold [k0_part150_skel]
  sl_exec
  sl_step
  iapply Hk $$ %_ %_
  isplitl [Ho]; · iexact Ho
  isplitl [Hb]; · iexact Hb
  ipureintro
  refine ⟨?_, ?_⟩
  · refine OAcc.step (P := 327) rfl (PV.load o rfl _) ?_
    refine OAcc.step (P := 326) rfl (PV.load o rfl _) ?_
    refine OAcc.step (P := 325) rfl (PV.load o rfl _) ?_
    refine OAcc.step (P := 324) rfl (PV.load o rfl _) ?_
    refine OAcc.step (P := 323) rfl (PV.ofB hx) ?_
    exact hb
  · exact PB.load o rfl _

theorem ob151 [∀ e, Nonempty (Elt F e)] (c : Dev nD) (v1818 : FVec F S16x128 .bf16) (o : Buf (Elt F) (mOtok.view.loc (c : Thread nD τ))) (b : Buf (Elt F) (mObuf.view.loc (c : Thread nD τ))) (hx : PB o 328 v1818) (hb : OAcc 0 o 328 b) (Q : (Vec F S16x128 .f32) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 334 b' ∧ PF o 334 r⌝) -∗ Q r))
      ⊢ wp frame (wpE defs₀ 𝒱₀ (c : Thread nD τ) none) Set.univ (k0_part151 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v1818) Q := by
  iintro ⟨⟨Ho, Hb⟩, Hk⟩
  sl_rw [k0_part151_eq_skeleton]
  sl_unfold [k0_part151_skel]
  sl_exec
  sl_step
  iapply Hk $$ %_ %_
  isplitl [Ho]; · iexact Ho
  isplitl [Hb]; · iexact Hb
  ipureintro
  refine ⟨?_, ?_⟩
  · refine OAcc.step (P := 333) rfl (PV.load o rfl _) ?_
    refine OAcc.step (P := 332) rfl (PV.load o rfl _) ?_
    refine OAcc.step (P := 331) rfl (PV.load o rfl _) ?_
    refine OAcc.step (P := 330) rfl (PV.load o rfl _) ?_
    refine OAcc.step (P := 329) rfl (PV.load o rfl _) ?_
    refine OAcc.step (P := 328) rfl (PV.ofB hx) ?_
    exact hb
  · exact PF.load o rfl _

theorem ob152 [∀ e, Nonempty (Elt F e)] (c : Dev nD) (v1847 : Vec F S16x128 .f32) (o : Buf (Elt F) (mOtok.view.loc (c : Thread nD τ))) (b : Buf (Elt F) (mObuf.view.loc (c : Thread nD τ))) (hx : PF o 334 v1847) (hb : OAcc 0 o 334 b) (Q : (Σ' (v1873 : FVec F S16x128 .bf16), Vec F S1x16x128 .bf16) → sProp 𝕄) :
    iprop(((mOtok.view.loc (c : Thread nD τ) ↦{fullShare} o) ∗ (mObuf.view.loc (c : Thread nD τ) ↦{fullShare} b)) ∗ (∀ r1 r2 b', ((mOtok.view.loc (c : Thread nD τ) ↦{fullShare} o) ∗ (mObuf.view.loc (c : Thread nD τ) ↦{fullShare} b') ∗ ⌜OAcc 0 o 339 b' ∧ PB o 339 r1⌝) -∗ Q ⟨r1, r2⟩))
      ⊢ wp frame (wpE defs₀ 𝒱₀ (c : Thread nD τ) none) Set.univ (k0_part152 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v1847) Q := by
  iintro ⟨⟨Ho, Hb⟩, Hk⟩
  sl_rw [k0_part152_eq_skeleton]
  sl_unfold [k0_part152_skel]
  sl_exec
  sl_step
  iapply Hk $$ %_ %_ %_
  isplitl [Ho]; · iexact Ho
  isplitl [Hb]; · iexact Hb
  ipureintro
  refine ⟨?_, ?_⟩
  · refine OAcc.step (P := 338) rfl (PV.load o rfl _) ?_
    refine OAcc.step (P := 337) rfl (PV.load o rfl _) ?_
    refine OAcc.step (P := 336) rfl (PV.load o rfl _) ?_
    refine OAcc.step (P := 335) rfl (PV.load o rfl _) ?_
    refine OAcc.step (P := 334) rfl (PV.ofF hx) ?_
    exact hb
  · exact PB.load o rfl _

theorem ob153 [∀ e, Nonempty (Elt F e)] (c : Dev nD) (v1873 : FVec F S16x128 .bf16) (v1874 : Vec F S1x16x128 .bf16) (o : Buf (Elt F) (mOtok.view.loc (c : Thread nD τ))) (b : Buf (Elt F) (mObuf.view.loc (c : Thread nD τ))) (hx : PB o 339 v1873) (hb : OAcc 0 o 339 b) (Q : (PUnit) → sProp 𝕄) :
    iprop(((mOtok.view.loc (c : Thread nD τ) ↦{fullShare} o) ∗ (mObuf.view.loc (c : Thread nD τ) ↦{fullShare} b)) ∗ (∀ b', ((mOtok.view.loc (c : Thread nD τ) ↦{fullShare} o) ∗ (mObuf.view.loc (c : Thread nD τ) ↦{fullShare} b') ∗ ⌜OAcc 0 o 345 b'⌝) -∗ Q ⟨⟩))
      ⊢ wp frame (wpE defs₀ 𝒱₀ (c : Thread nD τ) none) Set.univ (k0_part153 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v1873 v1874) Q := by
  iintro ⟨⟨Ho, Hb⟩, Hk⟩
  sl_rw [k0_part153_eq_skeleton]
  sl_unfold [k0_part153_skel]
  sl_exec
  sl_step
  iapply Hk $$ %_
  isplitl [Ho]; · iexact Ho
  isplitl [Hb]; · iexact Hb
  ipureintro
  refine OAcc.step (P := 344) rfl (PV.load o rfl _) ?_
  refine OAcc.step (P := 343) rfl (PV.load o rfl _) ?_
  refine OAcc.step (P := 342) rfl (PV.load o rfl _) ?_
  refine OAcc.step (P := 341) rfl (PV.load o rfl _) ?_
  refine OAcc.step (P := 340) rfl (PV.load o rfl _) ?_
  refine OAcc.step (P := 339) rfl (PV.ofB hx) ?_
  exact hb

theorem ob154 [∀ e, Nonempty (Elt F e)] (c : Dev nD)  (o : Buf (Elt F) (mOtok.view.loc (c : Thread nD τ))) (b : Buf (Elt F) (mObuf.view.loc (c : Thread nD τ))) (hb : OAcc 0 o 345 b) (Q : (FVec F S16x128 .bf16) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 350 b' ∧ PB o 350 r⌝) -∗ Q r))
      ⊢ wp frame (wpE defs₀ 𝒱₀ (c : Thread nD τ) none) Set.univ (k0_part154 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 ) Q := by
  iintro ⟨⟨Ho, Hb⟩, Hk⟩
  sl_rw [k0_part154_eq_skeleton]
  sl_unfold [k0_part154_skel]
  sl_exec
  sl_step
  iapply Hk $$ %_ %_
  isplitl [Ho]; · iexact Ho
  isplitl [Hb]; · iexact Hb
  ipureintro
  refine ⟨?_, ?_⟩
  · refine OAcc.step (P := 349) rfl (PV.load o rfl _) ?_
    refine OAcc.step (P := 348) rfl (PV.load o rfl _) ?_
    refine OAcc.step (P := 347) rfl (PV.load o rfl _) ?_
    refine OAcc.step (P := 346) rfl (PV.load o rfl _) ?_
    refine OAcc.step (P := 345) rfl (PV.load o rfl _) ?_
    exact hb
  · exact PB.load o rfl _

theorem ob155 [∀ e, Nonempty (Elt F e)] (c : Dev nD) (v1928 : FVec F S16x128 .bf16) (o : Buf (Elt F) (mOtok.view.loc (c : Thread nD τ))) (b : Buf (Elt F) (mObuf.view.loc (c : Thread nD τ))) (hx : PB o 350 v1928) (hb : OAcc 0 o 350 b) (Q : (PUnit) → sProp 𝕄) :
    iprop(((mOtok.view.loc (c : Thread nD τ) ↦{fullShare} o) ∗ (mObuf.view.loc (c : Thread nD τ) ↦{fullShare} b)) ∗ (∀ b', ((mOtok.view.loc (c : Thread nD τ) ↦{fullShare} o) ∗ (mObuf.view.loc (c : Thread nD τ) ↦{fullShare} b') ∗ ⌜OAcc 0 o 356 b'⌝) -∗ Q ⟨⟩))
      ⊢ wp frame (wpE defs₀ 𝒱₀ (c : Thread nD τ) none) Set.univ (k0_part155 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v1928) Q := by
  iintro ⟨⟨Ho, Hb⟩, Hk⟩
  sl_rw [k0_part155_eq_skeleton]
  sl_unfold [k0_part155_skel]
  sl_exec
  sl_step
  iapply Hk $$ %_
  isplitl [Ho]; · iexact Ho
  isplitl [Hb]; · iexact Hb
  ipureintro
  refine OAcc.step (P := 355) rfl (PV.load o rfl _) ?_
  refine OAcc.step (P := 354) rfl (PV.load o rfl _) ?_
  refine OAcc.step (P := 353) rfl (PV.load o rfl _) ?_
  refine OAcc.step (P := 352) rfl (PV.load o rfl _) ?_
  refine OAcc.step (P := 351) rfl (PV.load o rfl _) ?_
  refine OAcc.step (P := 350) rfl (PV.ofB hx) ?_
  exact hb

theorem ob156 [∀ e, Nonempty (Elt F e)] (c : Dev nD)  (o : Buf (Elt F) (mOtok.view.loc (c : Thread nD τ))) (b : Buf (Elt F) (mObuf.view.loc (c : Thread nD τ))) (hb : OAcc 0 o 356 b) (Q : (FVec F S16x128 .bf16) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 361 b' ∧ PB o 361 r⌝) -∗ Q r))
      ⊢ wp frame (wpE defs₀ 𝒱₀ (c : Thread nD τ) none) Set.univ (k0_part156 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 ) Q := by
  iintro ⟨⟨Ho, Hb⟩, Hk⟩
  sl_rw [k0_part156_eq_skeleton]
  sl_unfold [k0_part156_skel]
  sl_exec
  sl_step
  iapply Hk $$ %_ %_
  isplitl [Ho]; · iexact Ho
  isplitl [Hb]; · iexact Hb
  ipureintro
  refine ⟨?_, ?_⟩
  · refine OAcc.step (P := 360) rfl (PV.load o rfl _) ?_
    refine OAcc.step (P := 359) rfl (PV.load o rfl _) ?_
    refine OAcc.step (P := 358) rfl (PV.load o rfl _) ?_
    refine OAcc.step (P := 357) rfl (PV.load o rfl _) ?_
    refine OAcc.step (P := 356) rfl (PV.load o rfl _) ?_
    exact hb
  · exact PB.load o rfl _

theorem ob157 [∀ e, Nonempty (Elt F e)] (c : Dev nD) (v1983 : FVec F S16x128 .bf16) (o : Buf (Elt F) (mOtok.view.loc (c : Thread nD τ))) (b : Buf (Elt F) (mObuf.view.loc (c : Thread nD τ))) (hx : PB o 361 v1983) (hb : OAcc 0 o 361 b) (Q : (PUnit) → sProp 𝕄) :
    iprop(((mOtok.view.loc (c : Thread nD τ) ↦{fullShare} o) ∗ (mObuf.view.loc (c : Thread nD τ) ↦{fullShare} b)) ∗ (∀ b', ((mOtok.view.loc (c : Thread nD τ) ↦{fullShare} o) ∗ (mObuf.view.loc (c : Thread nD τ) ↦{fullShare} b') ∗ ⌜OAcc 0 o 367 b'⌝) -∗ Q ⟨⟩))
      ⊢ wp frame (wpE defs₀ 𝒱₀ (c : Thread nD τ) none) Set.univ (k0_part157 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v1983) Q := by
  iintro ⟨⟨Ho, Hb⟩, Hk⟩
  sl_rw [k0_part157_eq_skeleton]
  sl_unfold [k0_part157_skel]
  sl_exec
  sl_step
  iapply Hk $$ %_
  isplitl [Ho]; · iexact Ho
  isplitl [Hb]; · iexact Hb
  ipureintro
  refine OAcc.step (P := 366) rfl (PV.load o rfl _) ?_
  refine OAcc.step (P := 365) rfl (PV.load o rfl _) ?_
  refine OAcc.step (P := 364) rfl (PV.load o rfl _) ?_
  refine OAcc.step (P := 363) rfl (PV.load o rfl _) ?_
  refine OAcc.step (P := 362) rfl (PV.load o rfl _) ?_
  refine OAcc.step (P := 361) rfl (PV.ofB hx) ?_
  exact hb

theorem ob158 [∀ e, Nonempty (Elt F e)] (c : Dev nD)  (o : Buf (Elt F) (mOtok.view.loc (c : Thread nD τ))) (b : Buf (Elt F) (mObuf.view.loc (c : Thread nD τ))) (hb : OAcc 0 o 367 b) (Q : (FVec F S16x128 .bf16) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 372 b' ∧ PB o 372 r⌝) -∗ Q r))
      ⊢ wp frame (wpE defs₀ 𝒱₀ (c : Thread nD τ) none) Set.univ (k0_part158 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 ) Q := by
  iintro ⟨⟨Ho, Hb⟩, Hk⟩
  sl_rw [k0_part158_eq_skeleton]
  sl_unfold [k0_part158_skel]
  sl_exec
  sl_step
  iapply Hk $$ %_ %_
  isplitl [Ho]; · iexact Ho
  isplitl [Hb]; · iexact Hb
  ipureintro
  refine ⟨?_, ?_⟩
  · refine OAcc.step (P := 371) rfl (PV.load o rfl _) ?_
    refine OAcc.step (P := 370) rfl (PV.load o rfl _) ?_
    refine OAcc.step (P := 369) rfl (PV.load o rfl _) ?_
    refine OAcc.step (P := 368) rfl (PV.load o rfl _) ?_
    refine OAcc.step (P := 367) rfl (PV.load o rfl _) ?_
    exact hb
  · exact PB.load o rfl _

theorem ob159 [∀ e, Nonempty (Elt F e)] (c : Dev nD) (v2038 : FVec F S16x128 .bf16) (o : Buf (Elt F) (mOtok.view.loc (c : Thread nD τ))) (b : Buf (Elt F) (mObuf.view.loc (c : Thread nD τ))) (hx : PB o 372 v2038) (hb : OAcc 0 o 372 b) (Q : (FVec F S1x16x128 .bf16) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 377 b' ∧ PV o 377 r⌝) -∗ Q r))
      ⊢ wp frame (wpE defs₀ 𝒱₀ (c : Thread nD τ) none) Set.univ (k0_part159 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v2038) Q := by
  iintro ⟨⟨Ho, Hb⟩, Hk⟩
  sl_rw [k0_part159_eq_skeleton]
  sl_unfold [k0_part159_skel]
  sl_exec
  sl_step
  iapply Hk $$ %_ %_
  isplitl [Ho]; · iexact Ho
  isplitl [Hb]; · iexact Hb
  ipureintro
  refine ⟨?_, ?_⟩
  · refine OAcc.step (P := 376) rfl (PV.load o rfl _) ?_
    refine OAcc.step (P := 375) rfl (PV.load o rfl _) ?_
    refine OAcc.step (P := 374) rfl (PV.load o rfl _) ?_
    refine OAcc.step (P := 373) rfl (PV.load o rfl _) ?_
    refine OAcc.step (P := 372) rfl (PV.ofB hx) ?_
    exact hb
  · exact PV.load o rfl _

theorem ob160 [∀ e, Nonempty (Elt F e)] (c : Dev nD) (v2066 : FVec F S1x16x128 .bf16) (o : Buf (Elt F) (mOtok.view.loc (c : Thread nD τ))) (b : Buf (Elt F) (mObuf.view.loc (c : Thread nD τ))) (hx : PV o 377 v2066) (hb : OAcc 0 o 377 b) (Q : (FVec F S16x128 .bf16) → sProp 𝕄) :
    iprop(((mOtok.view.loc (c : Thread nD τ) ↦{fullShare} o) ∗ (mObuf.view.loc (c : Thread nD τ) ↦{fullShare} b)) ∗ (∀ r b', ((mOtok.view.loc (c : Thread nD τ) ↦{fullShare} o) ∗ (mObuf.view.loc (c : Thread nD τ) ↦{fullShare} b') ∗ ⌜OAcc 0 o 383 b' ∧ PB o 383 r⌝) -∗ Q r))
      ⊢ wp frame (wpE defs₀ 𝒱₀ (c : Thread nD τ) none) Set.univ (k0_part160 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v2066) Q := by
  iintro ⟨⟨Ho, Hb⟩, Hk⟩
  sl_rw [k0_part160_eq_skeleton]
  sl_unfold [k0_part160_skel]
  sl_exec
  sl_step
  iapply Hk $$ %_ %_
  isplitl [Ho]; · iexact Ho
  isplitl [Hb]; · iexact Hb
  ipureintro
  refine ⟨?_, ?_⟩
  · refine OAcc.step (P := 382) rfl (PV.load o rfl _) ?_
    refine OAcc.step (P := 381) rfl (PV.load o rfl _) ?_
    refine OAcc.step (P := 380) rfl (PV.load o rfl _) ?_
    refine OAcc.step (P := 379) rfl (PV.load o rfl _) ?_
    refine OAcc.step (P := 378) rfl (PV.load o rfl _) ?_
    refine OAcc.step (P := 377) rfl (hx) ?_
    exact hb
  · exact PB.load o rfl _

end Cert.Proof.K

end
-- ==== Proof.K.R185.lean ====
/-
  The body up to the end of the first chunk's stores, but the last few.
-/
module

public import proofs.«01_k».proof.Proof.K.S90
public import proofs.«01_k».proof.Proof.K.Ob0

@[expose] public section

set_option maxRecDepth 16384
set_option maxHeartbeats 4000000

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.ValueIdx (ix1 ix2 ix3)

variable {F : FTy → Type} [FloatOps F]
local notation "𝕄" => MT nD τ sig Unit (Elt F) ℕ (UU nD τ) ℕ

theorem r185 [∀ e, Nonempty (Elt F e)] (c : Dev nD) (xg : Buf (Elt F) (aGs.view.loc (c : Thread nD τ))) (xh : Buf (Elt F) (aH.view.loc (c : Thread nD τ))) (xc : Buf (Elt F) (aCi.view.loc (c : Thread nD τ))) (xt : Buf (Elt F) (aTw.view.loc (c : Thread nD τ))) (xs : Buf (Elt F) (aHs.view.loc (c : Thread nD τ))) (xw : Buf (Elt F) (aWs.view.loc (c : Thread nD τ))) (yg : Buf (Elt F) (mGs.view.loc (c : Thread nD τ))) (yc : Buf (Elt F) (mCi.view.loc (c : Thread nD τ))) (yt : Buf (Elt F) (mTw.view.loc (c : Thread nD τ))) (ys : Buf (Elt F) (mHs.view.loc (c : Thread nD τ))) (yw : Buf (Elt F) (mWs.view.loc (c : Thread nD τ))) (yl : Buf (Elt F) (mLive.view.loc (c : Thread nD τ))) (yh : Buf (Elt F) (mH.view.loc (c : Thread nD τ))) (yx : Buf (Elt F) (mHsx.view.loc (c : Thread nD τ))) (ya : Buf (Elt F) (mAcc.view.loc (c : Thread nD τ))) (yo : Buf (Elt F) (mOtok.view.loc (c : Thread nD τ))) (yb : Buf (Elt F) (mObuf.view.loc (c : Thread nD τ))) (fw : Buf (Elt F) (aW.view.loc (c : Thread nD τ))) (hs : pre (copied aGs mGs yg xg) 15 = 1024) (hc : CiOK (copied aCi mCi yc xc)) (W0 : Finset _)
   (Q : (Σ' (v10_0 : BitVec 32), k0_chk2 v10_0) → sProp 𝕄) :
    iprop((((aGs.view.loc (c : Thread nD τ) ↦{fullShare} xg) ∗ (aH.view.loc (c : Thread nD τ) ↦{fullShare} xh) ∗ (aCi.view.loc (c : Thread nD τ) ↦{fullShare} xc) ∗ (aTw.view.loc (c : Thread nD τ) ↦{fullShare} xt) ∗ (aHs.view.loc (c : Thread nD τ) ↦{fullShare} xs) ∗ (aWs.view.loc (c : Thread nD τ) ↦{fullShare} xw)) ∗ ((mGs.view.loc (c : Thread nD τ) ↦{fullShare} yg) ∗ (mCi.view.loc (c : Thread nD τ) ↦{fullShare} yc) ∗ (mTw.view.loc (c : Thread nD τ) ↦{fullShare} yt) ∗ (mHs.view.loc (c : Thread nD τ) ↦{fullShare} ys) ∗ (mWs.view.loc (c : Thread nD τ) ↦{fullShare} yw) ∗ (mLive.view.loc (c : Thread nD τ) ↦{fullShare} yl)) ∗ (mH.view.loc (c : Thread nD τ) ↦{fullShare} yh) ∗ (mHsx.view.loc (c : Thread nD τ) ↦{fullShare} yx) ∗ (mAcc.view.loc (c : Thread nD τ) ↦{fullShare} ya) ∗ (mOtok.view.loc (c : Thread nD τ) ↦{fullShare} yo) ∗ (mObuf.view.loc (c : Thread nD τ) ↦{fullShare} yb) ∗ (rSt c fw 0 .free ∗ rSt c fw 1 .free ∗ rSt c fw 2 .free ∗ rSt c fw 3 .free ∗ rSt c fw 4 .free ∗ rSt c fw 5 .free) ∗ (semVal ((c : Thread nD τ), SemLoc.dma cc0_scratch12.sem) 0 ∗ semVal ((c : Thread nD τ), SemLoc.dma cc0_scratch14.sem) 0 ∗ semVal ((c : Thread nD τ), SemLoc.dma ((cc0_scratch13.slice (Rect.unit (s := S4) ![0] S1.size inb_S4_S1_0)).squeeze S_ squeezes_S1_S_).sem) 0 ∗ semVal ((c : Thread nD τ), SemLoc.dma ((cc0_scratch13.slice (Rect.unit (s := S4) ![1] S1.size inb_S4_S1_1)).squeeze S_ squeezes_S1_S_).sem) 0 ∗ semVal ((c : Thread nD τ), SemLoc.dma ((cc0_scratch13.slice (Rect.unit (s := S4) ![2] S1.size inb_S4_S1_2)).squeeze S_ squeezes_S1_S_).sem) 0 ∗ semVal ((c : Thread nD τ), SemLoc.dma ((cc0_scratch13.slice (Rect.unit (s := S4) ![3] S1.size inb_S4_S1_3)).squeeze S_ squeezes_S1_S_).sem) 0) ∗ owes (c : Thread nD τ) 0 W0)
        ∗ (∀ n fl fh fs o b, ∀ hw2 : k0_chk2 (W n), ⌜n ≤ 15 ∧ LiveOK n fl ∧ LiveI (copied aGs mGs yg xg) 15 n fl ∧ C0 (copied aHs mHs ys xs) xh (copied aCi mCi yc xc) (copied aTw mTw yt xt) fl (copied aWs mWs yw xw) fw n fh fs o ∧ OAcc 0 o 296 b⌝ -∗ (unitE c fl fh fs (copied aWs mWs yw xw) fw n n ∗ tokP c (copied aCi mCi yc xc) (copied aTw mTw yt xt) o ∗ (mObuf.view.loc (c : Thread nD τ) ↦{fullShare} b) ∗ ((aGs.view.loc (c : Thread nD τ) ↦{fullShare} xg) ∗ (aH.view.loc (c : Thread nD τ) ↦{fullShare} xh) ∗ (aCi.view.loc (c : Thread nD τ) ↦{fullShare} xc) ∗ (aTw.view.loc (c : Thread nD τ) ↦{fullShare} xt) ∗ (aHs.view.loc (c : Thread nD τ) ↦{fullShare} xs) ∗ (aWs.view.loc (c : Thread nD τ) ↦{fullShare} xw)) ∗ (mGs.view.loc (c : Thread nD τ) ↦{fullShare} (copied aGs mGs yg xg)) ∗ (mHs.view.loc (c : Thread nD τ) ↦{fullShare} (copied aHs mHs ys xs)) ∗ (semVal ((c : Thread nD τ), SemLoc.dma cc0_scratch12.sem) 0 ∗ semVal ((c : Thread nD τ), SemLoc.dma cc0_scratch14.sem) 0 ∗ semVal ((c : Thread nD τ), SemLoc.dma ((cc0_scratch13.slice (Rect.unit (s := S4) ![0] S1.size inb_S4_S1_0)).squeeze S_ squeezes_S1_S_).sem) 0 ∗ semVal ((c : Thread nD τ), SemLoc.dma ((cc0_scratch13.slice (Rect.unit (s := S4) ![1] S1.size inb_S4_S1_1)).squeeze S_ squeezes_S1_S_).sem) 0 ∗ semVal ((c : Thread nD τ), SemLoc.dma ((cc0_scratch13.slice (Rect.unit (s := S4) ![2] S1.size inb_S4_S1_2)).squeeze S_ squeezes_S1_S_).sem) 0 ∗ semVal ((c : Thread nD τ), SemLoc.dma ((cc0_scratch13.slice (Rect.unit (s := S4) ![3] S1.size inb_S4_S1_3)).squeeze S_ squeezes_S1_S_).sem) 0)) -∗ Q ⟨W n, hw2⟩))
      ⊢ wp frame (wpE defs₀ 𝒱₀ (c : Thread nD τ) none) Set.univ (k0_part185 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16) Q := by
  iintro ⟨⟨⟨Xg, Xh, Xc, Xt, Xs, Xw⟩, ⟨Yg, Yc, Yt, Ys, Yw, Yl⟩, Yh, Yx, Ya, Yo, Yb, ⟨R0, R1, R2, R3, R4, R5⟩, ⟨S12, S14, T0, T1, T2, T3⟩, HO⟩, Hk⟩
  sl_rw [k0_part185_eq_skeleton]
  sl_unfold [k0_part185_skel]
  ihave Yh := (pointsTo_split_subset (ℓ := mH.view.loc (c : Thread nD τ)) (Finset.subset_univ hsl.view.set)).1 $$ [Yh]
  · iexact Yh
  icases Yh with ⟨Yh, Yh2⟩
  iapply (Entails.of_eq (wp_bind ..).symm)
  iapply (pro85 c xg xh xc xt xs xw yg yc yt ys yw yl yh fw hs W0 _)
  isplitl [Xg Xh Xc Xt Xs Xw Yg Yc Yt Ys Yw Yl Yh S12 S14 T0 T1 T2 T3 R0 HO]
  · isplitl [Xg]; · iexact Xg
    isplitl [Xh]; · iexact Xh
    isplitl [Xc]; · iexact Xc
    isplitl [Xt]; · iexact Xt
    isplitl [Xs]; · iexact Xs
    isplitl [Xw]; · iexact Xw
    isplitl [Yg]; · iexact Yg
    isplitl [Yc]; · iexact Yc
    isplitl [Yt]; · iexact Yt
    isplitl [Ys]; · iexact Ys
    isplitl [Yw]; · iexact Yw
    isplitl [Yl]; · iexact Yl
    isplitl [Yh]; · iexact Yh
    isplitl [S12]; · iexact S12
    isplitl [S14]; · iexact S14
    isplitl [T0]; · iexact T0
    isplitl [T1]; · iexact T1
    isplitl [T2]; · iexact T2
    isplitl [T3]; · iexact T3
    isplitl [R0]; · iexact R0
    iexact HO
  iintro %n %fl %v25 %c1 %hw2 %hI ⟨⟨F0, F1, F2, F3⟩, FH, Xg, Yg, Yl, S12, R0, ⟨%W1, HO⟩⟩
  have hn : n ≤ 15 := hI.1
  have hL : LiveOK n fl := hI.2.ok hs
  iapply (Entails.of_eq (wp_bind ..).symm)
  iapply (pro86 c fw fl hn hL hw2 v25 c1 _)
  isplitl [R1 R2 Yl]
  · isplitl [R1]; · iexact R1
    isplitl [R2]; · iexact R2
    iexact Yl
  iintro %a1 %a2 %a3 %a4 ⟨R1, R2, Yl⟩
  iapply (Entails.of_eq (wp_bind ..).symm)
  iapply (pro87 c fw fl hn hL hw2 a1 a2 a3 a4 _)
  isplitl [R3 R4 R5 Yl]
  · isplitl [R3]; · iexact R3
    isplitl [R4]; · iexact R4
    isplitl [R5]; · iexact R5
    iexact Yl
  iintro %b1 %b2 ⟨R3, R4, R5, Yl⟩
  iapply (Entails.of_eq (wp_bind ..).symm)
  iapply (pro88 c fw fl hn hL hw2 xc yc xt yt xs ys xw yw yx W1 b1 b2 _)
  isplitl [R5 Yl F0 F1 F2 F3 Yx HO]
  · isplitl [R5]; · iexact R5
    isplitl [Yl]; · iexact Yl
    isplitl [F0 F1 F2 F3]
    · isplitl [F0]; · iexact F0
      isplitl [F1]; · iexact F1
      isplitl [F2]; · iexact F2
      iexact F3
    isplitl [Yx]; · iexact Yx
    iexact HO
  iintro ⟨R5, Yl, ⟨⟨Xc, Yc, T0⟩, ⟨Xt, Yt, T1⟩, ⟨Xs, Ys, T2⟩, ⟨Xw, Yw, T3⟩⟩, ⟨%gx, Yx, %hx⟩, ⟨%W2, HO⟩⟩
  iapply (Entails.of_eq (wp_bind ..).symm)
  iapply (pro89 c _ gx hx _)
  isplitl [Ys Yx]
  · isplitl [Ys]; · iexact Ys
    iexact Yx
  iintro %cst ⟨Ys, ⟨%gx2, Yx, %hx2⟩⟩
  iapply (Entails.of_eq (wp_bind ..).symm)
  iapply (s90 c hn hw2 cst fl hL fw _ gx2 hx2 (copied aWs mWs yw xw) yh xh ya (copied aCi mCi yc xc) hc (copied aTw mTw yt xt) yo yb W2 _)
  isplitl [R0 R1 R2 R3 R4 R5 Yl Yx Yw Ya Yo Yc Yt Yb FH Yh2 HO]
  · isplitl [R0 R1 R2 R3 R4 R5]
    · isplitl [R0]; · iexact R0
      isplitl [R1]; · iexact R1
      isplitl [R2]; · iexact R2
      isplitl [R3]; · iexact R3
      isplitl [R4]; · iexact R4
      iexact R5
    isplitl [Yl]; · iexact Yl
    isplitl [Yx]; · iexact Yx
    isplitl [Yw]; · iexact Yw
    isplitl [Ya]; · iexact Ya
    isplitl [Yo]; · iexact Yo
    isplitl [Yc]; · iexact Yc
    isplitl [Yt]; · iexact Yt
    isplitl [Yb]; · iexact Yb
    isplitl [FH]; · iexact FH
    isplitl [Yh2]; · iexact Yh2
    iexact HO
  iintro %x0 %fh %fs %o %b ⟨HU, ⟨Yc, Yt, Yo⟩, Yb, %h90, Xh, S14⟩
  iapply (Entails.of_eq (wp_bind ..).symm)
  iapply (ob91 c x0 o _ h90.2.2 h90.2.1 _)
  isplitl [Yo Yb]
  · isplitl [Yo]; · iexact Yo
    iexact Yb
  iintro  %b91 ⟨Yo, Yb, %h91⟩
  iapply (Entails.of_eq (wp_bind ..).symm)
  iapply (ob92 c  o _ h91 _)
  isplitl [Yo Yb]
  · isplitl [Yo]; · iexact Yo
    iexact Yb
  iintro %x92 %b92 ⟨Yo, Yb, %h92⟩
  iapply (Entails.of_eq (wp_bind ..).symm)
  iapply (ob93 c x92 o _ h92.2 h92.1 _)
  isplitl [Yo Yb]
  · isplitl [Yo]; · iexact Yo
    iexact Yb
  iintro %x93 %b93 ⟨Yo, Yb, %h93⟩
  iapply (Entails.of_eq (wp_bind ..).symm)
  iapply (ob94 c x93 o _ h93.2 h93.1 _)
  isplitl [Yo Yb]
  · isplitl [Yo]; · iexact Yo
    iexact Yb
  iintro %x94 %b94 ⟨Yo, Yb, %h94⟩
  iapply (Entails.of_eq (wp_bind ..).symm)
  iapply (ob95 c x94 o _ h94.2 h94.1 _)
  isplitl [Yo Yb]
  · isplitl [Yo]; · iexact Yo
    iexact Yb
  iintro %x95 %b95 ⟨Yo, Yb, %h95⟩
  iapply (Entails.of_eq (wp_bind ..).symm)
  iapply (ob96 c x95 o _ h95.2 h95.1 _)
  isplitl [Yo Yb]
  · isplitl [Yo]; · iexact Yo
    iexact Yb
  iintro %x96 %b96 ⟨Yo, Yb, %h96⟩
  iapply (Entails.of_eq (wp_bind ..).symm)
  iapply (ob97 c x96 o _ h96.2 h96.1 _)
  isplitl [Yo Yb]
  · isplitl [Yo]; · iexact Yo
    iexact Yb
  iintro %x97a %x97b %b97 ⟨Yo, Yb, %h97⟩
  iapply (Entails.of_eq (wp_bind ..).symm)
  iapply (ob98 c x97a x97b o _ h97.2 h97.1 _)
  isplitl [Yo Yb]
  · isplitl [Yo]; · iexact Yo
    iexact Yb
  iintro  %b98 ⟨Yo, Yb, %h98⟩
  iapply (Entails.of_eq (wp_bind ..).symm)
  iapply (ob99 c  o _ h98 _)
  isplitl [Yo Yb]
  · isplitl [Yo]; · iexact Yo
    iexact Yb
  iintro %x99 %b99 ⟨Yo, Yb, %h99⟩
  iapply (Entails.of_eq (wp_bind ..).symm)
  iapply (ob100 c x99 o _ h99.2 h99.1 _)
  isplitl [Yo Yb]
  · isplitl [Yo]; · iexact Yo
    iexact Yb
  iintro  %b100 ⟨Yo, Yb, %h100⟩
  iapply (Entails.of_eq (wp_bind ..).symm)
  iapply (ob101 c  o _ h100 _)
  isplitl [Yo Yb]
  · isplitl [Yo]; · iexact Yo
    iexact Yb
  iintro %x101 %b101 ⟨Yo, Yb, %h101⟩
  iapply (Entails.of_eq (wp_bind ..).symm)
  iapply (ob102 c x101 o _ h101.2 h101.1 _)
  isplitl [Yo Yb]
  · isplitl [Yo]; · iexact Yo
    iexact Yb
  iintro  %b102 ⟨Yo, Yb, %h102⟩
  iapply (Entails.of_eq (wp_bind ..).symm)
  iapply (ob103 c  o _ h102 _)
  isplitl [Yo Yb]
  · isplitl [Yo]; · iexact Yo
    iexact Yb
  iintro %x103 %b103 ⟨Yo, Yb, %h103⟩
  iapply (Entails.of_eq (wp_bind ..).symm)
  iapply (ob104 c x103 o _ h103.2 h103.1 _)
  isplitl [Yo Yb]
  · isplitl [Yo]; · iexact Yo
    iexact Yb
  iintro %x104 %b104 ⟨Yo, Yb, %h104⟩
  iapply (Entails.of_eq (wp_bind ..).symm)
  iapply (ob105 c x104 o _ h104.2 h104.1 _)
  isplitl [Yo Yb]
  · isplitl [Yo]; · iexact Yo
    iexact Yb
  iintro %x105 %b105 ⟨Yo, Yb, %h105⟩
  iapply (Entails.of_eq (wp_bind ..).symm)
  iapply (ob106 c x105 o _ h105.2 h105.1 _)
  isplitl [Yo Yb]
  · isplitl [Yo]; · iexact Yo
    iexact Yb
  iintro %x106 %b106 ⟨Yo, Yb, %h106⟩
  iapply (Entails.of_eq (wp_bind ..).symm)
  iapply (ob107 c x106 o _ h106.2 h106.1 _)
  isplitl [Yo Yb]
  · isplitl [Yo]; · iexact Yo
    iexact Yb
  iintro %x107 %b107 ⟨Yo, Yb, %h107⟩
  iapply (Entails.of_eq (wp_bind ..).symm)
  iapply (ob108 c x107 o _ h107.2 h107.1 _)
  isplitl [Yo Yb]
  · isplitl [Yo]; · iexact Yo
    iexact Yb
  iintro %x108a %x108b %b108 ⟨Yo, Yb, %h108⟩
  iapply (Entails.of_eq (wp_bind ..).symm)
  iapply (ob109 c x108a x108b o _ h108.2 h108.1 _)
  isplitl [Yo Yb]
  · isplitl [Yo]; · iexact Yo
    iexact Yb
  iintro  %b109 ⟨Yo, Yb, %h109⟩
  iapply (Entails.of_eq (wp_bind ..).symm)
  iapply (ob110 c  o _ h109 _)
  isplitl [Yo Yb]
  · isplitl [Yo]; · iexact Yo
    iexact Yb
  iintro %x110 %b110 ⟨Yo, Yb, %h110⟩
  iapply (Entails.of_eq (wp_bind ..).symm)
  iapply (ob111 c x110 o _ h110.2 h110.1 _)
  isplitl [Yo Yb]
  · isplitl [Yo]; · iexact Yo
    iexact Yb
  iintro  %b111 ⟨Yo, Yb, %h111⟩
  iapply (Entails.of_eq (wp_bind ..).symm)
  iapply (ob112 c  o _ h111 _)
  isplitl [Yo Yb]
  · isplitl [Yo]; · iexact Yo
    iexact Yb
  iintro %x112 %b112 ⟨Yo, Yb, %h112⟩
  iapply (Entails.of_eq (wp_bind ..).symm)
  iapply (ob113 c x112 o _ h112.2 h112.1 _)
  isplitl [Yo Yb]
  · isplitl [Yo]; · iexact Yo
    iexact Yb
  iintro  %b113 ⟨Yo, Yb, %h113⟩
  iapply (Entails.of_eq (wp_bind ..).symm)
  iapply (ob114 c  o _ h113 _)
  isplitl [Yo Yb]
  · isplitl [Yo]; · iexact Yo
    iexact Yb
  iintro %x114 %b114 ⟨Yo, Yb, %h114⟩
  iapply (Entails.of_eq (wp_bind ..).symm)
  iapply (ob115 c x114 o _ h114.2 h114.1 _)
  isplitl [Yo Yb]
  · isplitl [Yo]; · iexact Yo
    iexact Yb
  iintro %x115 %b115 ⟨Yo, Yb, %h115⟩
  iapply (Entails.of_eq (wp_bind ..).symm)
  iapply (ob116 c x115 o _ h115.2 h115.1 _)
  isplitl [Yo Yb]
  · isplitl [Yo]; · iexact Yo
    iexact Yb
  iintro %x116 %b116 ⟨Yo, Yb, %h116⟩
  iapply (Entails.of_eq (wp_bind ..).symm)
  iapply (ob117 c x116 o _ h116.2 h116.1 _)
  isplitl [Yo Yb]
  · isplitl [Yo]; · iexact Yo
    iexact Yb
  iintro %x117 %b117 ⟨Yo, Yb, %h117⟩
  iapply (Entails.of_eq (wp_bind ..).symm)
  iapply (ob118 c x117 o _ h117.2 h117.1 _)
  isplitl [Yo Yb]
  · isplitl [Yo]; · iexact Yo
    iexact Yb
  iintro %x118 %b118 ⟨Yo, Yb, %h118⟩
  iapply (Entails.of_eq (wp_bind ..).symm)
  iapply (ob119 c x118 o _ h118.2 h118.1 _)
  isplitl [Yo Yb]
  · isplitl [Yo]; · iexact Yo
    iexact Yb
  iintro %x119a %x119b %b119 ⟨Yo, Yb, %h119⟩
  iapply (Entails.of_eq (wp_bind ..).symm)
  iapply (ob120 c x119a x119b o _ h119.2 h119.1 _)
  isplitl [Yo Yb]
  · isplitl [Yo]; · iexact Yo
    iexact Yb
  iintro  %b120 ⟨Yo, Yb, %h120⟩
  iapply (Entails.of_eq (wp_bind ..).symm)
  iapply (ob121 c  o _ h120 _)
  isplitl [Yo Yb]
  · isplitl [Yo]; · iexact Yo
    iexact Yb
  iintro %x121 %b121 ⟨Yo, Yb, %h121⟩
  iapply (Entails.of_eq (wp_bind ..).symm)
  iapply (ob122 c x121 o _ h121.2 h121.1 _)
  isplitl [Yo Yb]
  · isplitl [Yo]; · iexact Yo
    iexact Yb
  iintro  %b122 ⟨Yo, Yb, %h122⟩
  iapply (Entails.of_eq (wp_bind ..).symm)
  iapply (ob123 c  o _ h122 _)
  isplitl [Yo Yb]
  · isplitl [Yo]; · iexact Yo
    iexact Yb
  iintro %x123 %b123 ⟨Yo, Yb, %h123⟩
  iapply (Entails.of_eq (wp_bind ..).symm)
  iapply (ob124 c x123 o _ h123.2 h123.1 _)
  isplitl [Yo Yb]
  · isplitl [Yo]; · iexact Yo
    iexact Yb
  iintro  %b124 ⟨Yo, Yb, %h124⟩
  iapply (Entails.of_eq (wp_bind ..).symm)
  iapply (ob125 c  o _ h124 _)
  isplitl [Yo Yb]
  · isplitl [Yo]; · iexact Yo
    iexact Yb
  iintro %x125 %b125 ⟨Yo, Yb, %h125⟩
  iapply (Entails.of_eq (wp_bind ..).symm)
  iapply (ob126 c x125 o _ h125.2 h125.1 _)
  isplitl [Yo Yb]
  · isplitl [Yo]; · iexact Yo
    iexact Yb
  iintro %x126 %b126 ⟨Yo, Yb, %h126⟩
  iapply (Entails.of_eq (wp_bind ..).symm)
  iapply (ob127 c x126 o _ h126.2 h126.1 _)
  isplitl [Yo Yb]
  · isplitl [Yo]; · iexact Yo
    iexact Yb
  iintro %x127 %b127 ⟨Yo, Yb, %h127⟩
  iapply (Entails.of_eq (wp_bind ..).symm)
  iapply (ob128 c x127 o _ h127.2 h127.1 _)
  isplitl [Yo Yb]
  · isplitl [Yo]; · iexact Yo
    iexact Yb
  iintro %x128 %b128 ⟨Yo, Yb, %h128⟩
  iapply (Entails.of_eq (wp_bind ..).symm)
  iapply (ob129 c x128 o _ h128.2 h128.1 _)
  isplitl [Yo Yb]
  · isplitl [Yo]; · iexact Yo
    iexact Yb
  iintro %x129 %b129 ⟨Yo, Yb, %h129⟩
  iapply (Entails.of_eq (wp_bind ..).symm)
  iapply (ob130 c x129 o _ h129.2 h129.1 _)
  isplitl [Yo Yb]
  · isplitl [Yo]; · iexact Yo
    iexact Yb
  iintro %x130a %x130b %b130 ⟨Yo, Yb, %h130⟩
  iapply (Entails.of_eq (wp_bind ..).symm)
  iapply (ob131 c x130a x130b o _ h130.2 h130.1 _)
  isplitl [Yo Yb]
  · isplitl [Yo]; · iexact Yo
    iexact Yb
  iintro  %b131 ⟨Yo, Yb, %h131⟩
  iapply (Entails.of_eq (wp_bind ..).symm)
  iapply (ob132 c  o _ h131 _)
  isplitl [Yo Yb]
  · isplitl [Yo]; · iexact Yo
    iexact Yb
  iintro %x132 %b132 ⟨Yo, Yb, %h132⟩
  iapply (Entails.of_eq (wp_bind ..).symm)
  iapply (ob133 c x132 o _ h132.2 h132.1 _)
  isplitl [Yo Yb]
  · isplitl [Yo]; · iexact Yo
    iexact Yb
  iintro  %b133 ⟨Yo, Yb, %h133⟩
  iapply (Entails.of_eq (wp_bind ..).symm)
  iapply (ob134 c  o _ h133 _)
  isplitl [Yo Yb]
  · isplitl [Yo]; · iexact Yo
    iexact Yb
  iintro %x134 %b134 ⟨Yo, Yb, %h134⟩
  iapply (Entails.of_eq (wp_bind ..).symm)
  iapply (ob135 c x134 o _ h134.2 h134.1 _)
  isplitl [Yo Yb]
  · isplitl [Yo]; · iexact Yo
    iexact Yb
  iintro  %b135 ⟨Yo, Yb, %h135⟩
  iapply (Entails.of_eq (wp_bind ..).symm)
  iapply (ob136 c  o _ h135 _)
  isplitl [Yo Yb]
  · isplitl [Yo]; · iexact Yo
    iexact Yb
  iintro %x136 %b136 ⟨Yo, Yb, %h136⟩
  iapply (Entails.of_eq (wp_bind ..).symm)
  iapply (ob137 c x136 o _ h136.2 h136.1 _)
  isplitl [Yo Yb]
  · isplitl [Yo]; · iexact Yo
    iexact Yb
  iintro %x137 %b137 ⟨Yo, Yb, %h137⟩
  iapply (Entails.of_eq (wp_bind ..).symm)
  iapply (ob138 c x137 o _ h137.2 h137.1 _)
  isplitl [Yo Yb]
  · isplitl [Yo]; · iexact Yo
    iexact Yb
  iintro %x138 %b138 ⟨Yo, Yb, %h138⟩
  iapply (Entails.of_eq (wp_bind ..).symm)
  iapply (ob139 c x138 o _ h138.2 h138.1 _)
  isplitl [Yo Yb]
  · isplitl [Yo]; · iexact Yo
    iexact Yb
  iintro %x139 %b139 ⟨Yo, Yb, %h139⟩
  iapply (Entails.of_eq (wp_bind ..).symm)
  iapply (ob140 c x139 o _ h139.2 h139.1 _)
  isplitl [Yo Yb]
  · isplitl [Yo]; · iexact Yo
    iexact Yb
  iintro %x140 %b140 ⟨Yo, Yb, %h140⟩
  iapply (Entails.of_eq (wp_bind ..).symm)
  iapply (ob141 c x140 o _ h140.2 h140.1 _)
  isplitl [Yo Yb]
  · isplitl [Yo]; · iexact Yo
    iexact Yb
  iintro %x141a %x141b %b141 ⟨Yo, Yb, %h141⟩
  iapply (Entails.of_eq (wp_bind ..).symm)
  iapply (ob142 c x141a x141b o _ h141.2 h141.1 _)
  isplitl [Yo Yb]
  · isplitl [Yo]; · iexact Yo
    iexact Yb
  iintro  %b142 ⟨Yo, Yb, %h142⟩
  iapply (Entails.of_eq (wp_bind ..).symm)
  iapply (ob143 c  o _ h142 _)
  isplitl [Yo Yb]
  · isplitl [Yo]; · iexact Yo
    iexact Yb
  iintro %x143 %b143 ⟨Yo, Yb, %h143⟩
  iapply (Entails.of_eq (wp_bind ..).symm)
  iapply (ob144 c x143 o _ h143.2 h143.1 _)
  isplitl [Yo Yb]
  · isplitl [Yo]; · iexact Yo
    iexact Yb
  iintro  %b144 ⟨Yo, Yb, %h144⟩
  sl_step
  ispecialize Hk $$ %n %fl %fh %fs %o %b144 %hw2 %(And.intro hn (And.intro hL (And.intro hI.2 (And.intro h90.1 h144))))
  iapply Hk
  isplitl [HU]; · iexact HU
  isplitl [Yc Yt Yo]
  · isplitl [Yc]; · iexact Yc
    isplitl [Yt]; · iexact Yt
    iexact Yo
  isplitl [Yb]; · iexact Yb
  isplitl [Xg Xh Xc Xt Xs Xw]
  · isplitl [Xg]; · iexact Xg
    isplitl [Xh]; · iexact Xh
    isplitl [Xc]; · iexact Xc
    isplitl [Xt]; · iexact Xt
    isplitl [Xs]; · iexact Xs
    iexact Xw
  isplitl [Yg]; · iexact Yg
  isplitl [Ys]; · iexact Ys
  isplitl [S12]; · iexact S12
  isplitl [S14]; · iexact S14
  isplitl [T0]; · iexact T0
  isplitl [T1]; · iexact T1
  isplitl [T2]; · iexact T2
  iexact T3

end Cert.Proof.K

end
-- ==== Proof.K.Blk1.lean ====
/-
  One block of one expert: 128 rows of the activations times the expert's slot of the ring, scaled by the expert's and
  the rows' scales, stored into the accumulator's columns.
-/
module

public import proofs.«01_k».proof.Proof.K.BlkV
public import proofs.«01_k».proof.Proof.K.Ring
public import Idealize.ShloMosaic.Lib.Pipeline.Value

@[expose] public section

set_option maxRecDepth 16384
set_option maxHeartbeats 4000000

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]
local notation "𝕄" => MT nD τ sig Unit (Elt F) ℕ (UU nD τ) ℕ

set_option sl_exec.squeezeSlice true

/-- One trip of the block loop of a unit of the second width: block `k` of the rows `lo ≤ r < hi` of expert `e`. -/
theorem blk1 [∀ e, Nonempty (Elt F e)] (c : Dev nD) (v10 : BitVec 32) (hw2 : k0_chk2 v10) (t2 : Fin (k0_t10_loop v10).trips)
    (v2768 e lo hi : BitVec 32) (hw : k0_chk88 v10 t2 e lo hi) (hR : Rows lo hi) (k : Fin (k0_t11_loop lo hi).trips) (a : BitVec 32)
    (s : Fin 6)
    (hr0 : ∀ hh, (mRing.access (Rect.unit (s := S6x1408x3072) (k0_off273 v10 t2) S1x1408x1024.size hh)).set ⊆ (rslot1 s).view.set)
    (fh : Buf (Elt F) (mH.view.loc (c : Thread nD τ))) (fs : Buf (Elt F) (mHsx.view.loc (c : Thread nD τ)))
    (fw : Buf (Elt F) (mWs.view.loc (c : Thread nD τ))) (fr : Buf (Elt F) ((rslot1 s).view.loc (c : Thread nD τ)))
    (g : Buf (Elt F) (mAcc.view.loc (c : Thread nD τ))) (Q : BitVec 32 → sProp 𝕄) :
    iprop((mH.view.loc (c : Thread nD τ) ↦{fullShare} fh) ∗ (mHsx.view.loc (c : Thread nD τ) ↦{fullShare} fs) ∗ (mWs.view.loc (c : Thread nD τ) ↦{fullShare} fw)
        ∗ ((rslot1 s).view.loc (c : Thread nD τ) ↦[(rslot1 s).view.set]{fullShare} fr) ∗ (mAcc.view.loc (c : Thread nD τ) ↦{fullShare} g)
        ∗ ((mH.view.loc (c : Thread nD τ) ↦{fullShare} fh) ∗ (mHsx.view.loc (c : Thread nD τ) ↦{fullShare} fs) ∗ (mWs.view.loc (c : Thread nD τ) ↦{fullShare} fw)
        ∗ ((rslot1 s).view.loc (c : Thread nD τ) ↦[(rslot1 s).view.set]{fullShare} fr)
        ∗ (∃ g' : Buf (Elt F) (mAcc.view.loc (c : Thread nD τ)), (mAcc.view.loc (c : Thread nD τ) ↦{fullShare} g')
          ∗ ⌜Merge mAcc.view (row0 lo k) lo.toNat (colV (mH.view.readAt (Elt F) (Rect.unit (s := S1120x1408) (k0_off271 lo hi k) S128x1408.size (k0_off271_inb v10 t2 e lo hi hw k)).toLoadRect fh)
              (mHsx.view.readAt (Elt F) (Rect.unit (s := S1120x128) (k0_off272 lo hi k) S128x128.size (k0_off272_inb v10 t2 e lo hi hw k)).toLoadRect fs)
              (fun _ => (mRing.view.readAt (Elt F) (Rect.unit (s := S6x1408x3072) (k0_off273 v10 t2) S1x1408x1024.size (k0_off273_inb v10 t2 e lo hi hw k)).toLoadRect fr))
              (fun _ => (mWs.view.readAt (Elt F) (Rect.unit (s := S15x4096) (k0_off274 e) S1x1024.size (k0_off274_inb v10 t2 e lo hi hw k)).toLoadRect fw))) 8 g g'⌝) -∗ Q 0#32))
      ⊢ wp frame (wpE defs₀ 𝒱₀ (c : Thread nD τ) none) Set.univ
        (k0_t11_body (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v10 hw2 0#32 1#32 t2 v2768 e lo hi hw (Scalar.andi lo 4294967264#32) k a) Q := by
  have hk : k.val < nBlocks lo hi := Nat.lt_of_lt_of_eq k.isLt (trips3 hR)
  have hb : row0 lo k + 128 ≤ 1121 := by have := row0_lt hR hk; unfold row0 at *; omega
  have hlo : lo.toNat ≤ row0 lo k + 31 := by unfold row0; omega
  iintro ⟨Hh, Hs, Hw, Hr, Ha, Hk⟩
  sl_unfold [k0_t11_body]
  sl_exec
  sl_step
  iapply Hk
  isplitl [Hh]; · iexact Hh
  isplitl [Hs]; · iexact Hs
  isplitl [Hw]; · iexact Hw
  isplitl [Hr]; · iexact Hr
  iexists _
  isplitl [Ha]; · iexact Ha
  ipureintro
  iterate 8 refine Merge.step mAcc.view hb hlo _ _ (off275_eq hR k _ (by decide)) (off276_eq hR k _ (by decide)) (fun i => mask_iff (F := F) hR k i) (by refine Eq.trans ?_ (shapeCast_self _ shapeCasts_S32x128_S32x128); rfl) (by refine Eq.trans ?_ (shapeCast_self _ shapeCasts_S96x128_S96x128); rfl) ?_
  exact Merge.zero _ _ _ _ _

end Cert.Proof.K

end
-- ==== Proof.K.Unit1.lean ====
/-
  One unit of the loop over the experts that have rows: its weights waited for, its blocks of rows multiplied, the next
  copy into its slot started.
-/
module

public import proofs.«01_k».proof.Proof.K.Live
public import proofs.«01_k».proof.Proof.K.Val
public import proofs.«01_k».proof.Proof.K.Blk1

@[expose] public section

set_option maxRecDepth 16384
set_option maxHeartbeats 4000000

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.ValueIdx (ix1 ix2 ix3)

variable {F : FTy → Type} [FloatOps F]
local notation "𝕄" => MT nD τ sig Unit (Elt F) ℕ (UU nD τ) ℕ

/-- What a unit uses, apart from the ring: the table, the three operands, the accumulator and the core's waits. -/
abbrev unitRes1 (c : Dev nD) (fl : Buf (Elt F) (mLive.view.loc (c : Thread nD τ))) (fh : Buf (Elt F) (mH.view.loc (c : Thread nD τ))) (fs : Buf (Elt F) (mHsx.view.loc (c : Thread nD τ)))
    (fws : Buf (Elt F) (mWs.view.loc (c : Thread nD τ))) (fw : Buf (Elt F) (aW.view.loc (c : Thread nD τ))) (n u : ℕ) : sProp 𝕄 :=
  iprop(rings c fw fl n u ∗ (mLive.view.loc (c : Thread nD τ) ↦{fullShare} fl) ∗ (mH.view.loc (c : Thread nD τ) ↦{fullShare} fh) ∗ (mHsx.view.loc (c : Thread nD τ) ↦{fullShare} fs) ∗ (mWs.view.loc (c : Thread nD τ) ↦{fullShare} fws) ∗ (∃ g, (mAcc.view.loc (c : Thread nD τ) ↦{fullShare} g) ∗ ⌜UAcc fl fh fs fws fw 3072 8 (u - n) g⌝) ∗ (∃ Wt, owes (c : Thread nD τ) 0 Wt))

/-- The trip of unit `(n + t.val)` (width 1): its copy is waited for, its blocks computed, the copy of the unit six later started. -/
theorem trip1 [∀ e, Nonempty (Elt F e)] (c : Dev nD) {n : ℕ} (hn : n ≤ 15) (hw2 : k0_chk2 (W n)) (cst : FVec F S16x128 .bf16) (t : Fin (k0_t10_loop (W n)).trips) (a : BitVec 32)
    (fl : Buf (Elt F) (mLive.view.loc (c : Thread nD τ))) (hL : LiveOK n fl) (fh : Buf (Elt F) (mH.view.loc (c : Thread nD τ))) (fs : Buf (Elt F) (mHsx.view.loc (c : Thread nD τ)))
    (fws : Buf (Elt F) (mWs.view.loc (c : Thread nD τ))) (fw : Buf (Elt F) (aW.view.loc (c : Thread nD τ))) (Q : BitVec 32 → sProp 𝕄) :
    iprop(unitRes1 c fl fh fs fws fw n (n + t.val) ∗ (unitRes1 c fl fh fs fws fw n ((n + t.val) + 1) -∗ Q 0#32))
      ⊢ wp frame (wpE defs₀ 𝒱₀ (c : Thread nD τ) none) Set.univ (k0_t10_body (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 (W n) hw2 cst t a) Q := by
  have ht : t.val < n := trip10_lt hn t
  have hsl := slot1 ⟨n, by omega⟩ ⟨t.val, by omega⟩
  have hs6 : (n + t.val) % 6 < 6 := Nat.mod_lt _ (by decide)
  let s : Fin 6 := ⟨(n + t.val) % 6, hs6⟩
  have e0 : k0_off265 (W n) t = ![0, t.val] := congrArg (fun z => (![0, z] : Fin 2 → ℕ)) (iv_toNat (by omega))
  have e1 : k0_off266 (W n) t = ![1, t.val] := congrArg (fun z => (![1, z] : Fin 2 → ℕ)) (iv_toNat (by omega))
  have e2 : k0_off267 (W n) t = ![2, t.val] := congrArg (fun z => (![2, z] : Fin 2 → ℕ)) (iv_toNat (by omega))
  have eC : k0_off268 (W n) t = ![s.val] := congrArg (fun z => (![z] : Fin 1 → ℕ)) hsl
  have v0 := ld_lv fl e0 (k0_off265_inb (W n) hw2 t)
  have v1 := ld_lv fl e1 (k0_off266_inb (W n) hw2 t)
  have v2 := ld_lv fl e2 (k0_off267_inb (W n) hw2 t)
  have hchk : ∀ x y z, k0_chk88 (W n) t (mLive.view.readAt (Elt F) (Rect.unit (s := S3x16) (k0_off265 (W n) t) S1x1.size (k0_off265_inb (W n) hw2 t)).toLoadRect fl x)
      (mLive.view.readAt (Elt F) (Rect.unit (s := S3x16) (k0_off266 (W n) t) S1x1.size (k0_off266_inb (W n) hw2 t)).toLoadRect fl y)
      (mLive.view.readAt (Elt F) (Rect.unit (s := S3x16) (k0_off267 (W n) t) S1x1.size (k0_off267_inb (W n) hw2 t)).toLoadRect fl z) := fun x y z =>
    chk88_of hn t (by rw [v0]; exact hL.ex _ ht) (by rw [v1, v2]; exact hL.rows _ ht)
  have hRo : ∀ y z, Rows (mLive.view.readAt (Elt F) (Rect.unit (s := S3x16) (k0_off266 (W n) t) S1x1.size (k0_off266_inb (W n) hw2 t)).toLoadRect fl y)
      (mLive.view.readAt (Elt F) (Rect.unit (s := S3x16) (k0_off267 (W n) t) S1x1.size (k0_off267_inb (W n) hw2 t)).toLoadRect fl z) := fun y z => by
    rw [v1, v2]; exact hL.rows _ ht
  have eA0 : k0_off273 (W n) t = ![s.val, 0, 0] := congrArg (fun z => (![z, 0, 0] : Fin 3 → ℕ)) hsl
  have hchk' : ∀ x, k0_chk87 (mLive.view.readAt (Elt F) (Rect.unit (s := S3x16) (k0_off265 (W n) t) S1x1.size (k0_off265_inb (W n) hw2 t)).toLoadRect fl x) := fun x =>
    ⟨chkW1 _ (by rw [v0]; exact hL.ex _ ht), fun h => chkWW1 _ _ _⟩
  iintro ⟨⟨HR, HL, Hh, Hs, Hws, ⟨%g, Ha, %hU⟩, ⟨%Wt, HO⟩⟩, Hk⟩
  have hU : UAcc fl fh fs fws fw 3072 8 t.val g := by rwa [Nat.add_sub_cancel_left] at hU
  ihave HR' := rings_step c fw fl n (n + t.val) s rfl $$ HR
  icases HR' with ⟨Hr, Hback⟩
  have hst : ust fl n (n + t.val) = .fly1 (exi fl t) := by unfold ust; rw [if_neg (by omega), if_pos (by omega), Nat.add_sub_cancel_left]
  rw [hst]
  ihave Hr2 := (show rSt c fw s (.fly1 (exi fl t)) ⊢ rFly1 c fw s (exi fl t) from .rfl) $$ Hr
  icases Hr2 with ⟨⟨%f, Hfl⟩, ⟨%f2, Hrest⟩, Htok⟩
  ihave Hfly := fly_cell c s eC (k0_off268_inb (W n) hw2 t) 45056 _ $$ Hfl
  sl_unfold [k0_t10_body]
  sl_rw [k0_part61_eq_skeleton]
  sl_unfold [k0_part61_skel]
  sl_exec (disch := first | exact hchk _ _ _ | exact hchk' _)
  iapply (Entails.of_eq (wp_bind ..).symm)
  sl_for (fun (k : ℕ) (_ : BitVec 32) => iprop((mH.view.loc (c : Thread nD τ) ↦{fullShare} fh) ∗ (mHsx.view.loc (c : Thread nD τ) ↦{fullShare} fs) ∗ (mWs.view.loc (c : Thread nD τ) ↦{fullShare} fws)
    ∗ ((rslot1 s).view.loc (c : Thread nD τ) ↦[(rslot1 s).view.set]{fullShare} (rslot1 s).view.writes (Elt F) f [⟨Rect.whole S1408x1024, ReadAs.same.apply ((wsl1 (exi fl t)).view.read (Elt F) fw)⟩])
    ∗ (∃ g, (mAcc.view.loc (c : Thread nD τ) ↦{fullShare} g) ∗ ⌜UAcc fl fh fs fws fw 3072 8 t.val g ∧ BAcc fh fs fws fw 3072 8 (lv fl 0 t.val).toNat (lv fl 1 t.val).toNat (lv fl 2 t.val).toNat (row0 (lv fl 1 t.val) k) g⌝))) $$ [Hh Hs Hws Hfly_dst Ha]
  case region =>
    intro k acc
    iintro ⟨Hh, Hs, Hws, Hr, ⟨%g, Ha, %hg⟩⟩
    iapply (blk1 c (W n) hw2 t _ _ _ _ (hchk _ _ _) (hRo _ _) k _ s (acc_sub1 s eA0) fh fs fws _ g _)
    isplitl [Hh]; · iexact Hh
    isplitl [Hs]; · iexact Hs
    isplitl [Hws]; · iexact Hws
    isplitl [Hr]; · iexact Hr
    isplitl [Ha]; · iexact Ha
    iintro ⟨Hh, Hs, Hws, Hr, ⟨%g', Ha, %hm⟩⟩
    isplitl [Hh]; · iexact Hh
    isplitl [Hs]; · iexact Hs
    isplitl [Hws]; · iexact Hws
    isplitl [Hr]; · iexact Hr
    iexists g'
    isplitl [Ha]; · iexact Ha
    ipureintro
    have hkb := Nat.lt_of_lt_of_eq k.isLt (trips11 (hRo _ _))
    have hrow := row0_lt (hRo _ _) hkb
    refine step_acc (v1 _) hL ht rfl (hL.rows _ ht).le (by unfold row0 at *; omega) hm (fun j hj => colV_eq1 (hB_eq (by unfold row0 at *; omega) (off271_eq (hRo _ _) k) _) (sB_eq (by unfold row0 at *; omega) (off272_eq (hRo _ _) k) _)
      ((ring_wB1 s (exi fl t) eA0 _ _).trans (by rw [hL.ex_val ht]))
      (zB_eq (by have := hL.ex _ ht; omega) (by decide) (congrArg (fun z => (![z, 3072] : Fin 2 → ℕ)) (congrArg BitVec.toNat (v0 _))) _) j hj) hg
  · isplitl [Hh]; · iexact Hh
    isplitl [Hs]; · iexact Hs
    isplitl [Hws]; · iexact Hws
    isplitl [Hfly_dst]; · iexact Hfly_dst
    iexists g
    isplitl [Ha]; · iexact Ha
    ipureintro; exact ⟨hU, BAcc.zero _ _⟩
  iintro %acc ⟨Hh, Hs, Hws, Hr, ⟨%g2, Ha, %hg2⟩⟩
  have hU2 : UAcc fl fh fs fws fw 3072 8 (t.val + 1) g2 := fin_acc (v1 _) (v2 _) (hRo _ _) (trips11 (hRo _ _)) hg2
  sl_exec
  ihave Hc := cell_back c s eC (k0_off268_inb (W n) hw2 t) $$ Hfly
  have hsW := slotW 1 ⟨n, by omega⟩ ⟨t.val, by omega⟩
  have hsW : (Scalar.remsi (Scalar.addi (Scalar.addi (Scalar.muli (W (1 : Fin 2)) (W n)) (Scf.iv 0#32 1#32 t)) 6#32) 6#32).toNat = s.val := hsW.trans (by show _ = (n + t.val) % 6; simp)
  have hc0 : k0_cond17 (W n) t = 1#1 ↔ (n + t.val) + 6 < n := (condW_iff 1 0 ⟨n, by omega⟩ ⟨t.val, by omega⟩).trans ⟨fun h => by simp at h; omega, fun h => by simp; omega⟩
  have hc1 : k0_cond18 (W n) t = 1#1 ↔ n ≤ (n + t.val) + 6 ∧ (n + t.val) + 6 < 2 * n := (condW_iff 1 1 ⟨n, by omega⟩ ⟨t.val, by omega⟩).trans ⟨fun h => by simp at h; omega, fun h => by simp; omega⟩
  have hn0 : k0_cond17 (W n) t = 1#1 → (nextW 1 0 n t).toNat = (n + t.val) + 6 := fun h => (nextW_toNat 1 0 ⟨n, by omega⟩ ⟨t.val, by omega⟩ (by simp)).trans (by simp)
  have hn1 : k0_cond18 (W n) t = 1#1 → (nextW 1 1 n t).toNat = (n + t.val) + 6 - n := fun h => (nextW_toNat 1 1 ⟨n, by omega⟩ ⟨t.val, by omega⟩ (by have := hc1.mp h; simp; omega)).trans (by simp)
  let st1 : St := if (n + t.val) + 6 < n then .fly0 (exi fl ((n + t.val) + 6)) else .free
  iapply (site0 c fw fl s (k0_cond17 (W n) t) _ _ _ .free st1 ((n + t.val) + 6) (exi fl ((n + t.val) + 6)) (fun v => k0_chk89.dec (W n) t v)
    (offL := k0_off283 (W n) t) (offS := k0_off284 (W n) t) (offR := k0_off285 (W n) t) (offW := fun v => k0_off286 v)
    (fun h => ⟨k0_off283_inb (W n) hw2 t h, k0_off284_inb (W n) hw2 t h, k0_off285_inb (W n) hw2 t h, fun v hw => k0_off286_inb (W n) t v hw h, _, _, rfl⟩) (fun _ => rfl)
    (fun h => ⟨rfl, if_pos (hc0.mp h), hL.ex_val (by have := hc0.mp h; omega),
      fun v hv => ⟨fun _ => chkW0 v hv, fun _ _ => chkWW0 v _ _⟩, congrArg (fun z => (![0, z] : Fin 2 → ℕ)) (hn0 h), congrArg (fun z => (![z] : Fin 1 → ℕ)) hsW, congrArg (fun z => (![z, 0, 0] : Fin 3 → ℕ)) hsW⟩)
    (fun h => if_neg (fun h2 => h (hc0.mpr h2)))
    (fun v => rfl) _)
  isplitl [Hc Hr Htok Hrest]
  · iapply (show rFree c fw s ⊢ rSt c fw s .free from .rfl)
    isplitl [Hc]; · iexact Hc
    isplitl [Hr Hrest]
    · iapply (rJoin c s _ f2)
      isplitl [Hr]; · iexact Hr
      iexact Hrest
    iexact Htok
  isplitl [HL]; · iexact HL
  iintro ⟨Hr, HL⟩
  iapply (site1 c fw fl s (k0_cond18 (W n) t) _ _ _ st1 (ust fl n ((n + t.val) + 6)) ((n + t.val) + 6 - n) (exi fl ((n + t.val) + 6 - n)) (fun v => k0_chk90.dec (W n) t v)
    (offL := k0_off287 (W n) t) (offS := k0_off288 (W n) t) (offR := k0_off289 (W n) t) (offW := fun v => k0_off290 v)
    (fun h => ⟨k0_off287_inb (W n) hw2 t h, k0_off288_inb (W n) hw2 t h, k0_off289_inb (W n) hw2 t h, fun v hw => k0_off290_inb (W n) t v hw h, _, _, rfl⟩) (fun _ => rfl)
    (fun h => ⟨if_neg (by have := hc1.mp h; omega), by unfold ust; rw [if_neg (by have := hc1.mp h; omega), if_pos (by have := hc1.mp h; omega)], hL.ex_val (by have := hc1.mp h; omega),
      fun v hv => ⟨fun _ => chkW1 v hv, fun _ _ => chkWW1 v _ _⟩, congrArg (fun z => (![0, z] : Fin 2 → ℕ)) (hn1 h), congrArg (fun z => (![z] : Fin 1 → ℕ)) hsW, congrArg (fun z => (![z, 0, 0] : Fin 3 → ℕ)) hsW⟩)
    (fun h => by
      by_cases h2 : (n + t.val) + 6 < n
      · exact (if_pos h2).trans (if_pos h2).symm
      · exact ((if_neg h2).trans (if_neg (fun h3 => h (hc1.mpr (by omega))))).trans (if_neg h2).symm)
    (fun v => rfl) _)
  isplitl [Hr]
  · iexact Hr
  isplitl [HL]; · iexact HL
  iintro ⟨Hr, HL⟩
  sl_step
  iapply Hk
  isplitl [Hback Hr]; · iapply Hback; iexact Hr
  isplitl [HL]; · iexact HL
  isplitl [Hh]; · iexact Hh
  isplitl [Hs]; · iexact Hs
  isplitl [Hws]; · iexact Hws
  isplitl [Ha]
  · iexists g2
    isplitl [Ha]; · iexact Ha
    ipureintro; rw [show n + t.val + 1 - n = t.val + 1 by omega]; exact hU2
  iexists _; iexact HO

end Cert.Proof.K

end
-- ==== Proof.K.S161.lean ====
/-
  The second pass: the copy of the first chunk to the output begun, the units of width 1 and the token loops.
-/
module

public import proofs.«01_k».proof.Proof.K.S90
public import proofs.«01_k».proof.Proof.K.Unit1
public import proofs.«01_k».proof.Proof.K.Ob0

@[expose] public section

set_option maxRecDepth 16384
set_option maxHeartbeats 4000000

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.ValueIdx (ix1 ix2 ix3)

variable {F : FTy → Type} [FloatOps F]
local notation "𝕄" => MT nD τ sig Unit (Elt F) ℕ (UU nD τ) ℕ

/-- The copy of the first chunk to the output, in flight. -/
abbrev FlyO (c : Dev nD) (y : Buf (Elt F) (aOut.view.loc (c : Thread nD τ))) (b : Buf (Elt F) (mObuf.view.loc (c : Thread nD τ))) : sProp 𝕄 :=
  Transfers.Flight (countersEmb (U := UU nD τ)) (c : Thread nD τ) (SemLoc.dma ((cc0_scratch16.slice (Rect.unit (s := S2) ![0] S1.size inb_S2_S1_0)).squeeze S_ squeezes_S1_S_).sem) () 49152
    iprop((ot0.view.loc (c : Thread nD τ) ↦[ot0.view.set]{fullShare} ot0.view.writes (Elt F) y [⟨Rect.whole S256x3072, ReadAs.same.apply (ob0.view.read (Elt F) b)⟩]) ∗ (mObuf.view.loc (c : Thread nD τ) ↦[ob0.view.set]{fullShare} b))

/-- The second chunk's sums are in the buffer of sums. -/
def C1 (yc : mCi.view.ty.Contents (Elt F)) (yt : mTw.view.ty.Contents (Elt F)) (fl : mLive.view.ty.Contents (Elt F))
    (fws : mWs.view.ty.Contents (Elt F)) (fw : aW.view.ty.Contents (Elt F)) (n : ℕ) (fh : mH.view.ty.Contents (Elt F)) (fs : mHsx.view.ty.Contents (Elt F)) (o : mOtok.view.ty.Contents (Elt F)) : Prop :=
  ∃ g, UAcc fl fh fs fws fw 3072 8 n g ∧ TAcc yc yt g 8 256 o

theorem s161 [∀ e, Nonempty (Elt F e)] (c : Dev nD) {n : ℕ} (hn : n ≤ 15) (hw2 : k0_chk2 (W n)) (x : FVec F S16x128 .bf16)
   (fl : Buf (Elt F) (mLive.view.loc (c : Thread nD τ))) (hL : LiveOK n fl) (fw : Buf (Elt F) (aW.view.loc (c : Thread nD τ))) (fs : Buf (Elt F) (mHsx.view.loc (c : Thread nD τ))) (fws : Buf (Elt F) (mWs.view.loc (c : Thread nD τ))) (fh : Buf (Elt F) (mH.view.loc (c : Thread nD τ))) (yc : Buf (Elt F) (mCi.view.loc (c : Thread nD τ))) (hc : CiOK yc) (yt : Buf (Elt F) (mTw.view.loc (c : Thread nD τ))) (o : Buf (Elt F) (mOtok.view.loc (c : Thread nD τ))) (b : Buf (Elt F) (mObuf.view.loc (c : Thread nD τ))) (hb : OAcc 0 o 383 b) (hx : PB o 383 x) (yo : Buf (Elt F) (aOut.view.loc (c : Thread nD τ)))
   (Q : FVec F S16x128 .bf16 → sProp 𝕄) :
    iprop((unitE c fl fh fs fws fw n n ∗ tokP c yc yt o ∗ (mObuf.view.loc (c : Thread nD τ) ↦{fullShare} b) ∗ (ot0.view.loc (c : Thread nD τ) ↦[ot0.view.set]{fullShare} yo) ∗ semVal ((c : Thread nD τ), SemLoc.dma ((cc0_scratch16.slice (Rect.unit (s := S2) ![0] S1.size inb_S2_S1_0)).squeeze S_ squeezes_S1_S_).sem) 0)
        ∗ (∀ x o' b' b0, (unitE c fl fh fs fws fw n (2 * n) ∗ tokP c yc yt o' ∗ (mObuf.view.loc (c : Thread nD τ) ↦[Finset.univ \ ob0.view.set]{fullShare} b') ∗ FlyO (F := F) c yo b0 ∗ ⌜OAcc 0 o 384 b0 ∧ C1 yc yt fl fws fw n fh fs o' ∧ OAcc 1 o' 1 b' ∧ PB o' 1 x⌝) -∗ Q x))
      ⊢ wp frame (wpE defs₀ 𝒱₀ (c : Thread nD τ) none) Set.univ (k0_part161 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 (W n) hw2 x) Q := by
  iintro ⟨⟨⟨UR, UL, UH, UX, UW, ⟨%ga, UA⟩, UO⟩, ⟨Hc, Ht, Ho⟩, Hb, Hy, Hs⟩, Hk⟩
  sl_rw [k0_part161_eq_skeleton]
  sl_unfold [k0_part161_skel]
  sl_exec
  sl_for (fun k _ => unitRes1 c fl fh fs fws fw n (n + k)) $$ [UR UL UH UX UW UA UO]
  case region =>
    intro k acc
    iintro HI
    iapply (trip1 c hn hw2 x k acc fl hL fh fs fws fw _)
    isplitl [HI]; · iexact HI
    iintro HI; iexact HI
  · isplitl [UR]; · iexact UR
    isplitl [UL]; · iexact UL
    isplitl [UH]; · iexact UH
    isplitl [UX]; · iexact UX
    isplitl [UW]; · iexact UW
    isplitl [UA]
    · iexists _; isplitl [UA]; · iexact UA
      ipureintro
      rw [show n + 0 - n = 0 from by omega]
      exact UAcc.zero _ _ _ _ _ _ _ _
    iexact UO
  iintro %acc HI
  rw [show n + Scf.trips (k0_t10_loop (W n)).lb (k0_t10_loop (W n)).ub (k0_t10_loop (W n)).st = 2 * n from (congrArg (n + ·) (trips10 hn)).trans (two_mul n).symm]
  icases HI with ⟨HR, HL, Hh, Hx, Hw, ⟨%g, Ha, %hg⟩, HO⟩
  rw [show 2 * n - n = n from by omega] at hg
  sl_exec
  sl_for (fun k _ => tokRes c yc yt g 8 (8 * k)) $$ [Hc Ht Ha Ho]
  case region =>
    intro k acc
    iintro HI
    iapply (tok16 c hw2 x k acc yc yt hc g _)
    isplitl [HI]; · iexact HI
    iintro HI; iexact HI
  · isplitl [Hc]; · iexact Hc
    isplitl [Ht]; · iexact Ht
    isplitl [Ha]; · iexact Ha
    iexists _; isplitl [Ho]; · iexact Ho
    ipureintro; exact TAcc.zero _ _ _ _ _
  iintro %acc2 HI
  sl_exec
  sl_for (fun k _ => tokRes c yc yt g 8 (128 + 8 * k)) $$ [HI]
  case region =>
    intro k acc
    iintro HI
    iapply (tok17 c hw2 x k acc yc yt hc g _)
    isplitl [HI]; · iexact HI
    iintro HI; iexact HI
  · iexact HI
  iintro %acc3 ⟨Hc, Ht, Ha, ⟨%o', Ho, %ho⟩⟩
  sl_exec
  sl_step
  iapply Hk $$ %_ %_ %_ %_
  isplitl [HR HL Hh Hx Hw Ha HO]
  · isplitl [HR]; · iexact HR
    isplitl [HL]; · iexact HL
    isplitl [Hh]; · iexact Hh
    isplitl [Hx]; · iexact Hx
    isplitl [Hw]; · iexact Hw
    isplitl [Ha]
    · iexists _; iexact Ha
    iexact HO
  isplitl [Hc Ht Ho]
  · isplitl [Hc]; · iexact Hc
    isplitl [Ht]; · iexact Ht
    iexact Ho
  isplitl [Hb]; · iexact Hb
  isplitl [Hs]; · iexact Hs
  ipureintro
  refine ⟨OAcc.step (P := 383) rfl (PV.ofB hx) (L := []) hb, ⟨g, hg, ho⟩, ?_, PB.load o' rfl _⟩
  refine OAcc.step (P := 0) rfl (PV.load o' rfl _) ?_
  exact OAcc.zero 1 o' _

end Cert.Proof.K

end
-- ==== Proof.K.Ob1.lean ====
/-
  The sums of the second chunk copied into the output buffer.
-/
module

public import proofs.«01_k».proof.Proof.K.Ob0

@[expose] public section

set_option maxRecDepth 16384
set_option maxHeartbeats 4000000

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.ValueIdx (ix1 ix2 ix3)

variable {F : FTy → Type} [FloatOps F]
local notation "𝕄" => MT nD τ sig Unit (Elt F) ℕ (UU nD τ) ℕ

theorem ob162 [∀ e, Nonempty (Elt F e)] (c : Dev nD) (v2117 : FVec F S16x128 .bf16) (o : Buf (Elt F) (mOtok.view.loc (c : Thread nD τ))) (b : Buf (Elt F) (mObuf.view.loc (c : Thread nD τ))) (hx : PB o 1 v2117) (hb : OAcc 1 o 1 b) (Q : (PUnit) → sProp 𝕄) :
    iprop(((mOtok.view.loc (c : Thread nD τ) ↦{fullShare} o) ∗ (mObuf.view.loc (c : Thread nD τ) ↦[Finset.univ \ ob0.view.set]{fullShare} b)) ∗ (∀ b', ((mOtok.view.loc (c : Thread nD τ) ↦{fullShare} o) ∗ (mObuf.view.loc (c : Thread nD τ) ↦[Finset.univ \ ob0.view.set]{fullShare} b') ∗ ⌜OAcc 1 o 7 b'⌝) -∗ Q ⟨⟩))
      ⊢ wp frame (wpE defs₀ 𝒱₀ (c : Thread nD τ) none) Set.univ (k0_part162 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v2117) Q := by
  iintro ⟨⟨Ho, Hb⟩, Hk⟩
  sl_rw [k0_part162_eq_skeleton]
  sl_unfold [k0_part162_skel]
  sl_exec
  sl_step
  iapply Hk $$ %_
  isplitl [Ho]; · iexact Ho
  isplitl [Hb]; · iexact Hb
  ipureintro
  refine OAcc.step (P := 6) rfl (PV.load o rfl _) ?_
  refine OAcc.step (P := 5) rfl (PV.load o rfl _) ?_
  refine OAcc.step (P := 4) rfl (PV.load o rfl _) ?_
  refine OAcc.step (P := 3) rfl (PV.load o rfl _) ?_
  refine OAcc.step (P := 2) rfl (PV.load o rfl _) ?_
  refine OAcc.step (P := 1) rfl (PV.ofB hx) ?_
  exact hb

theorem ob163 [∀ e, Nonempty (Elt F e)] (c : Dev nD)  (o : Buf (Elt F) (mOtok.view.loc (c : Thread nD τ))) (b : Buf (Elt F) (mObuf.view.loc (c : Thread nD τ))) (hb : OAcc 1 o 7 b) (Q : (FVec F S16x128 .bf16) → sProp 𝕄) :
    iprop(((mOtok.view.loc (c : Thread nD τ) ↦{fullShare} o) ∗ (mObuf.view.loc (c : Thread nD τ) ↦[Finset.univ \ ob0.view.set]{fullShare} b)) ∗ (∀ r b', ((mOtok.view.loc (c : Thread nD τ) ↦{fullShare} o) ∗ (mObuf.view.loc (c : Thread nD τ) ↦[Finset.univ \ ob0.view.set]{fullShare} b') ∗ ⌜OAcc 1 o 12 b' ∧ PB o 12 r⌝) -∗ Q r))
      ⊢ wp frame (wpE defs₀ 𝒱₀ (c : Thread nD τ) none) Set.univ (k0_part163 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 ) Q := by
  iintro ⟨⟨Ho, Hb⟩, Hk⟩
  sl_rw [k0_part163_eq_skeleton]
  sl_unfold [k0_part163_skel]
  sl_exec
  sl_step
  iapply Hk $$ %_ %_
  isplitl [Ho]; · iexact Ho
  isplitl [Hb]; · iexact Hb
  ipureintro
  refine ⟨?_, ?_⟩
  · refine OAcc.step (P := 11) rfl (PV.load o rfl _) ?_
    refine OAcc.step (P := 10) rfl (PV.load o rfl _) ?_
    refine OAcc.step (P := 9) rfl (PV.load o rfl _) ?_
    refine OAcc.step (P := 8) rfl (PV.load o rfl _) ?_
    refine OAcc.step (P := 7) rfl (PV.load o rfl _) ?_
    exact hb
  · exact PB.load o rfl _

theorem ob164 [∀ e, Nonempty (Elt F e)] (c : Dev nD) (v2172 : FVec F S16x128 .bf16) (o : Buf (Elt F) (mOtok.view.loc (c : Thread nD τ))) (b : Buf (Elt F) (mObuf.view.loc (c : Thread nD τ))) (hx : PB o 12 v2172) (hb : OAcc 1 o 12 b) (Q : (FVec F S1x16x128 .bf16) → sProp 𝕄) :
    iprop(((mOtok.view.loc (c : Thread nD τ) ↦{fullShare} o) ∗ (mObuf.view.loc (c : Thread nD τ) ↦[Finset.univ \ ob0.view.set]{fullShare} b)) ∗ (∀ r b', ((mOtok.view.loc (c : Thread nD τ) ↦{fullShare} o) ∗ (mObuf.view.loc (c : Thread nD τ) ↦[Finset.univ \ ob0.view.set]{fullShare} b') ∗ ⌜OAcc 1 o 17 b' ∧ PV o 17 r⌝) -∗ Q r))
      ⊢ wp frame (wpE defs₀ 𝒱₀ (c : Thread nD τ) none) Set.univ (k0_part164 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v2172) Q := by
  iintro ⟨⟨Ho, Hb⟩, Hk⟩
  sl_rw [k0_part164_eq_skeleton]
  sl_unfold [k0_part164_skel]
  sl_exec
  sl_step
  iapply Hk $$ %_ %_
  isplitl [Ho]; · iexact Ho
  isplitl [Hb]; · iexact Hb
  ipureintro
  refine ⟨?_, ?_⟩
  · refine OAcc.step (P := 16) rfl (PV.load o rfl _) ?_
    refine OAcc.step (P := 15) rfl (PV.load o rfl _) ?_
    refine OAcc.step (P := 14) rfl (PV.load o rfl _) ?_
    refine OAcc.step (P := 13) rfl (PV.load o rfl _) ?_
    refine OAcc.step (P := 12) rfl (PV.ofB hx) ?_
    exact hb
  · exact PV.load o rfl _

theorem ob165 [∀ e, Nonempty (Elt F e)] (c : Dev nD) (v2200 : FVec F S1x16x128 .bf16) (o : Buf (Elt F) (mOtok.view.loc (c : Thread nD τ))) (b : Buf (Elt F) (mObuf.view.loc (c : Thread nD τ))) (hx : PV o 17 v2200) (hb : OAcc 1 o 17 b) (Q : (FVec F S16x128 .bf16) → sProp 𝕄) :
    iprop(((mOtok.view.loc (c : Thread nD τ) ↦{fullShare} o) ∗ (mObuf.view.loc (c : Thread nD τ) ↦[Finset.univ \ ob0.view.set]{fullShare} b)) ∗ (∀ r b', ((mOtok.view.loc (c : Thread nD τ) ↦{fullShare} o) ∗ (mObuf.view.loc (c : Thread nD τ) ↦[Finset.univ \ ob0.view.set]{fullShare} b') ∗ ⌜OAcc 1 o 23 b' ∧ PB o 23 r⌝) -∗ Q r))
      ⊢ wp frame (wpE defs₀ 𝒱₀ (c : Thread nD τ) none) Set.univ (k0_part165 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v2200) Q := by
  iintro ⟨⟨Ho, Hb⟩, Hk⟩
  sl_rw [k0_part165_eq_skeleton]
  sl_unfold [k0_part165_skel]
  sl_exec
  sl_step
  iapply Hk $$ %_ %_
  isplitl [Ho]; · iexact Ho
  isplitl [Hb]; · iexact Hb
  ipureintro
  refine ⟨?_, ?_⟩
  · refine OAcc.step (P := 22) rfl (PV.load o rfl _) ?_
    refine OAcc.step (P := 21) rfl (PV.load o rfl _) ?_
    refine OAcc.step (P := 20) rfl (PV.load o rfl _) ?_
    refine OAcc.step (P := 19) rfl (PV.load o rfl _) ?_
    refine OAcc.step (P := 18) rfl (PV.load o rfl _) ?_
    refine OAcc.step (P := 17) rfl (hx) ?_
    exact hb
  · exact PB.load o rfl _

theorem ob166 [∀ e, Nonempty (Elt F e)] (c : Dev nD) (v2227 : FVec F S16x128 .bf16) (o : Buf (Elt F) (mOtok.view.loc (c : Thread nD τ))) (b : Buf (Elt F) (mObuf.view.loc (c : Thread nD τ))) (hx : PB o 23 v2227) (hb : OAcc 1 o 23 b) (Q : (FVec F S16x128 .bf16) → sProp 𝕄) :
    iprop(((mOtok.view.loc (c : Thread nD τ) ↦{fullShare} o) ∗ (mObuf.view.loc (c : Thread nD τ) ↦[Finset.univ \ ob0.view.set]{fullShare} b)) ∗ (∀ r b', ((mOtok.view.loc (c : Thread nD τ) ↦{fullShare} o) ∗ (mObuf.view.loc (c : Thread nD τ) ↦[Finset.univ \ ob0.view.set]{fullShare} b') ∗ ⌜OAcc 1 o 28 b' ∧ PB o 28 r⌝) -∗ Q r))
      ⊢ wp frame (wpE defs₀ 𝒱₀ (c : Thread nD τ) none) Set.univ (k0_part166 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v2227) Q := by
  iintro ⟨⟨Ho, Hb⟩, Hk⟩
  sl_rw [k0_part166_eq_skeleton]
  sl_unfold [k0_part166_skel]
  sl_exec
  sl_step
  iapply Hk $$ %_ %_
  isplitl [Ho]; · iexact Ho
  isplitl [Hb]; · iexact Hb
  ipureintro
  refine ⟨?_, ?_⟩
  · refine OAcc.step (P := 27) rfl (PV.load o rfl _) ?_
    refine OAcc.step (P := 26) rfl (PV.load o rfl _) ?_
    refine OAcc.step (P := 25) rfl (PV.load o rfl _) ?_
    refine OAcc.step (P := 24) rfl (PV.load o rfl _) ?_
    refine OAcc.step (P := 23) rfl (PV.ofB hx) ?_
    exact hb
  · exact PB.load o rfl _

theorem ob167 [∀ e, Nonempty (Elt F e)] (c : Dev nD) (v2252 : FVec F S16x128 .bf16) (o : Buf (Elt F) (mOtok.view.loc (c : Thread nD τ))) (b : Buf (Elt F) (mObuf.view.loc (c : Thread nD τ))) (hx : PB o 28 v2252) (hb : OAcc 1 o 28 b) (Q : (Vec F S16x128 .f32) → sProp 𝕄) :
    iprop(((mOtok.view.loc (c : Thread nD τ) ↦{fullShare} o) ∗ (mObuf.view.loc (c : Thread nD τ) ↦[Finset.univ \ ob0.view.set]{fullShare} b)) ∗ (∀ r b', ((mOtok.view.loc (c : Thread nD τ) ↦{fullShare} o) ∗ (mObuf.view.loc (c : Thread nD τ) ↦[Finset.univ \ ob0.view.set]{fullShare} b') ∗ ⌜OAcc 1 o 34 b' ∧ PF o 34 r⌝) -∗ Q r))
      ⊢ wp frame (wpE defs₀ 𝒱₀ (c : Thread nD τ) none) Set.univ (k0_part167 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v2252) Q := by
  iintro ⟨⟨Ho, Hb⟩, Hk⟩
  sl_rw [k0_part167_eq_skeleton]
  sl_unfold [k0_part167_skel]
  sl_exec
  sl_step
  iapply Hk $$ %_ %_
  isplitl [Ho]; · iexact Ho
  isplitl [Hb]; · iexact Hb
  ipureintro
  refine ⟨?_, ?_⟩
  · refine OAcc.step (P := 33) rfl (PV.load o rfl _) ?_
    refine OAcc.step (P := 32) rfl (PV.load o rfl _) ?_
    refine OAcc.step (P := 31) rfl (PV.load o rfl _) ?_
    refine OAcc.step (P := 30) rfl (PV.load o rfl _) ?_
    refine OAcc.step (P := 29) rfl (PV.load o rfl _) ?_
    refine OAcc.step (P := 28) rfl (PV.ofB hx) ?_
    exact hb
  · exact PF.load o rfl _

theorem ob168 [∀ e, Nonempty (Elt F e)] (c : Dev nD) (v2281 : Vec F S16x128 .f32) (o : Buf (Elt F) (mOtok.view.loc (c : Thread nD τ))) (b : Buf (Elt F) (mObuf.view.loc (c : Thread nD τ))) (hx : PF o 34 v2281) (hb : OAcc 1 o 34 b) (Q : (Σ' (v2307 : FVec F S16x128 .bf16), Vec F S1x16x128 .bf16) → sProp 𝕄) :
    iprop(((mOtok.view.loc (c : Thread nD τ) ↦{fullShare} o) ∗ (mObuf.view.loc (c : Thread nD τ) ↦[Finset.univ \ ob0.view.set]{fullShare} b)) ∗ (∀ r1 r2 b', ((mOtok.view.loc (c : Thread nD τ) ↦{fullShare} o) ∗ (mObuf.view.loc (c : Thread nD τ) ↦[Finset.univ \ ob0.view.set]{fullShare} b') ∗ ⌜OAcc 1 o 39 b' ∧ PB o 39 r1⌝) -∗ Q ⟨r1, r2⟩))
      ⊢ wp frame (wpE defs₀ 𝒱₀ (c : Thread nD τ) none) Set.univ (k0_part168 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v2281) Q := by
  iintro ⟨⟨Ho, Hb⟩, Hk⟩
  sl_rw [k0_part168_eq_skeleton]
  sl_unfold [k0_part168_skel]
  sl_exec
  sl_step
  iapply Hk $$ %_ %_ %_
  isplitl [Ho]; · iexact Ho
  isplitl [Hb]; · iexact Hb
  ipureintro
  refine ⟨?_, ?_⟩
  · refine OAcc.step (P := 38) rfl (PV.load o rfl _) ?_
    refine OAcc.step (P := 37) rfl (PV.load o rfl _) ?_
    refine OAcc.step (P := 36) rfl (PV.load o rfl _) ?_
    refine OAcc.step (P := 35) rfl (PV.load o rfl _) ?_
    refine OAcc.step (P := 34) rfl (PV.ofF hx) ?_
    exact hb
  · exact PB.load o rfl _

theorem ob169 [∀ e, Nonempty (Elt F e)] (c : Dev nD) (v2307 : FVec F S16x128 .bf16) (v2308 : Vec F S1x16x128 .bf16) (o : Buf (Elt F) (mOtok.view.loc (c : Thread nD τ))) (b : Buf (Elt F) (mObuf.view.loc (c : Thread nD τ))) (hx : PB o 39 v2307) (hb : OAcc 1 o 39 b) (Q : (PUnit) → sProp 𝕄) :
    iprop(((mOtok.view.loc (c : Thread nD τ) ↦{fullShare} o) ∗ (mObuf.view.loc (c : Thread nD τ) ↦[Finset.univ \ ob0.view.set]{fullShare} b)) ∗ (∀ b', ((mOtok.view.loc (c : Thread nD τ) ↦{fullShare} o) ∗ (mObuf.view.loc (c : Thread nD τ) ↦[Finset.univ \ ob0.view.set]{fullShare} b') ∗ ⌜OAcc 1 o 45 b'⌝) -∗ Q ⟨⟩))
      ⊢ wp frame (wpE defs₀ 𝒱₀ (c : Thread nD τ) none) Set.univ (k0_part169 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v2307 v2308) Q := by
  iintro ⟨⟨Ho, Hb⟩, Hk⟩
  sl_rw [k0_part169_eq_skeleton]
  sl_unfold [k0_part169_skel]
  sl_exec
  sl_step
  iapply Hk $$ %_
  isplitl [Ho]; · iexact Ho
  isplitl [Hb]; · iexact Hb
  ipureintro
  refine OAcc.step (P := 44) rfl (PV.load o rfl _) ?_
  refine OAcc.step (P := 43) rfl (PV.load o rfl _) ?_
  refine OAcc.step (P := 42) rfl (PV.load o rfl _) ?_
  refine OAcc.step (P := 41) rfl (PV.load o rfl _) ?_
  refine OAcc.step (P := 40) rfl (PV.load o rfl _) ?_
  refine OAcc.step (P := 39) rfl (PV.ofB hx) ?_
  exact hb

theorem ob170 [∀ e, Nonempty (Elt F e)] (c : Dev nD)  (o : Buf (Elt F) (mOtok.view.loc (c : Thread nD τ))) (b : Buf (Elt F) (mObuf.view.loc (c : Thread nD τ))) (hb : OAcc 1 o 45 b) (Q : (FVec F S16x128 .bf16) → sProp 𝕄) :
    iprop(((mOtok.view.loc (c : Thread nD τ) ↦{fullShare} o) ∗ (mObuf.view.loc (c : Thread nD τ) ↦[Finset.univ \ ob0.view.set]{fullShare} b)) ∗ (∀ r b', ((mOtok.view.loc (c : Thread nD τ) ↦{fullShare} o) ∗ (mObuf.view.loc (c : Thread nD τ) ↦[Finset.univ \ ob0.view.set]{fullShare} b') ∗ ⌜OAcc 1 o 50 b' ∧ PB o 50 r⌝) -∗ Q r))
      ⊢ wp frame (wpE defs₀ 𝒱₀ (c : Thread nD τ) none) Set.univ (k0_part170 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 ) Q := by
  iintro ⟨⟨Ho, Hb⟩, Hk⟩
  sl_rw [k0_part170_eq_skeleton]
  sl_unfold [k0_part170_skel]
  sl_exec
  sl_step
  iapply Hk $$ %_ %_
  isplitl [Ho]; · iexact Ho
  isplitl [Hb]; · iexact Hb
  ipureintro
  refine ⟨?_, ?_⟩
  · refine OAcc.step (P := 49) rfl (PV.load o rfl _) ?_
    refine OAcc.step (P := 48) rfl (PV.load o rfl _) ?_
    refine OAcc.step (P := 47) rfl (PV.load o rfl _) ?_
    refine OAcc.step (P := 46) rfl (PV.load o rfl _) ?_
    refine OAcc.step (P := 45) rfl (PV.load o rfl _) ?_
    exact hb
  · exact PB.load o rfl _

theorem ob171 [∀ e, Nonempty (Elt F e)] (c : Dev nD) (v2362 : FVec F S16x128 .bf16) (o : Buf (Elt F) (mOtok.view.loc (c : Thread nD τ))) (b : Buf (Elt F) (mObuf.view.loc (c : Thread nD τ))) (hx : PB o 50 v2362) (hb : OAcc 1 o 50 b) (Q : (PUnit) → sProp 𝕄) :
    iprop(((mOtok.view.loc (c : Thread nD τ) ↦{fullShare} o) ∗ (mObuf.view.loc (c : Thread nD τ) ↦[Finset.univ \ ob0.view.set]{fullShare} b)) ∗ (∀ b', ((mOtok.view.loc (c : Thread nD τ) ↦{fullShare} o) ∗ (mObuf.view.loc (c : Thread nD τ) ↦[Finset.univ \ ob0.view.set]{fullShare} b') ∗ ⌜OAcc 1 o 56 b'⌝) -∗ Q ⟨⟩))
      ⊢ wp frame (wpE defs₀ 𝒱₀ (c : Thread nD τ) none) Set.univ (k0_part171 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v2362) Q := by
  iintro ⟨⟨Ho, Hb⟩, Hk⟩
  sl_rw [k0_part171_eq_skeleton]
  sl_unfold [k0_part171_skel]
  sl_exec
  sl_step
  iapply Hk $$ %_
  isplitl [Ho]; · iexact Ho
  isplitl [Hb]; · iexact Hb
  ipureintro
  refine OAcc.step (P := 55) rfl (PV.load o rfl _) ?_
  refine OAcc.step (P := 54) rfl (PV.load o rfl _) ?_
  refine OAcc.step (P := 53) rfl (PV.load o rfl _) ?_
  refine OAcc.step (P := 52) rfl (PV.load o rfl _) ?_
  refine OAcc.step (P := 51) rfl (PV.load o rfl _) ?_
  refine OAcc.step (P := 50) rfl (PV.ofB hx) ?_
  exact hb

theorem ob172 [∀ e, Nonempty (Elt F e)] (c : Dev nD)  (o : Buf (Elt F) (mOtok.view.loc (c : Thread nD τ))) (b : Buf (Elt F) (mObuf.view.loc (c : Thread nD τ))) (hb : OAcc 1 o 56 b) (Q : (FVec F S16x128 .bf16) → sProp 𝕄) :
    iprop(((mOtok.view.loc (c : Thread nD τ) ↦{fullShare} o) ∗ (mObuf.view.loc (c : Thread nD τ) ↦[Finset.univ \ ob0.view.set]{fullShare} b)) ∗ (∀ r b', ((mOtok.view.loc (c : Thread nD τ) ↦{fullShare} o) ∗ (mObuf.view.loc (c : Thread nD τ) ↦[Finset.univ \ ob0.view.set]{fullShare} b') ∗ ⌜OAcc 1 o 61 b' ∧ PB o 61 r⌝) -∗ Q r))
      ⊢ wp frame (wpE defs₀ 𝒱₀ (c : Thread nD τ) none) Set.univ (k0_part172 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 ) Q := by
  iintro ⟨⟨Ho, Hb⟩, Hk⟩
  sl_rw [k0_part172_eq_skeleton]
  sl_unfold [k0_part172_skel]
  sl_exec
  sl_step
  iapply Hk $$ %_ %_
  isplitl [Ho]; · iexact Ho
  isplitl [Hb]; · iexact Hb
  ipureintro
  refine ⟨?_, ?_⟩
  · refine OAcc.step (P := 60) rfl (PV.load o rfl _) ?_
    refine OAcc.step (P := 59) rfl (PV.load o rfl _) ?_
    refine OAcc.step (P := 58) rfl (PV.load o rfl _) ?_
    refine OAcc.step (P := 57) rfl (PV.load o rfl _) ?_
    refine OAcc.step (P := 56) rfl (PV.load o rfl _) ?_
    exact hb
  · exact PB.load o rfl _

theorem ob173 [∀ e, Nonempty (Elt F e)] (c : Dev nD) (v2417 : FVec F S16x128 .bf16) (o : Buf (Elt F) (mOtok.view.loc (c : Thread nD τ))) (b : Buf (Elt F) (mObuf.view.loc (c : Thread nD τ))) (hx : PB o 61 v2417) (hb : OAcc 1 o 61 b) (Q : (PUnit) → sProp 𝕄) :
    iprop(((mOtok.view.loc (c : Thread nD τ) ↦{fullShare} o) ∗ (mObuf.view.loc (c : Thread nD τ) ↦[Finset.univ \ ob0.view.set]{fullShare} b)) ∗ (∀ b', ((mOtok.view.loc (c : Thread nD τ) ↦{fullShare} o) ∗ (mObuf.view.loc (c : Thread nD τ) ↦[Finset.univ \ ob0.view.set]{fullShare} b') ∗ ⌜OAcc 1 o 67 b'⌝) -∗ Q ⟨⟩))
      ⊢ wp frame (wpE defs₀ 𝒱₀ (c : Thread nD τ) none) Set.univ (k0_part173 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v2417) Q := by
  iintro ⟨⟨Ho, Hb⟩, Hk⟩
  sl_rw [k0_part173_eq_skeleton]
  sl_unfold [k0_part173_skel]
  sl_exec
  sl_step
  iapply Hk $$ %_
  isplitl [Ho]; · iexact Ho
  isplitl [Hb]; · iexact Hb
  ipureintro
  refine OAcc.step (P := 66) rfl (PV.load o rfl _) ?_
  refine OAcc.step (P := 65) rfl (PV.load o rfl _) ?_
  refine OAcc.step (P := 64) rfl (PV.load o rfl _) ?_
  refine OAcc.step (P := 63) rfl (PV.load o rfl _) ?_
  refine OAcc.step (P := 62) rfl (PV.load o rfl _) ?_
  refine OAcc.step (P := 61) rfl (PV.ofB hx) ?_
  exact hb

theorem ob174 [∀ e, Nonempty (Elt F e)] (c : Dev nD)  (o : Buf (Elt F) (mOtok.view.loc (c : Thread nD τ))) (b : Buf (Elt F) (mObuf.view.loc (c : Thread nD τ))) (hb : OAcc 1 o 67 b) (Q : (FVec F S16x128 .bf16) → sProp 𝕄) :
    iprop(((mOtok.view.loc (c : Thread nD τ) ↦{fullShare} o) ∗ (mObuf.view.loc (c : Thread nD τ) ↦[Finset.univ \ ob0.view.set]{fullShare} b)) ∗ (∀ r b', ((mOtok.view.loc (c : Thread nD τ) ↦{fullShare} o) ∗ (mObuf.view.loc (c : Thread nD τ) ↦[Finset.univ \ ob0.view.set]{fullShare} b') ∗ ⌜OAcc 1 o 72 b' ∧ PB o 72 r⌝) -∗ Q r))
      ⊢ wp frame (wpE defs₀ 𝒱₀ (c : Thread nD τ) none) Set.univ (k0_part174 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 ) Q := by
  iintro ⟨⟨Ho, Hb⟩, Hk⟩
  sl_rw [k0_part174_eq_skeleton]
  sl_unfold [k0_part174_skel]
  sl_exec
  sl_step
  iapply Hk $$ %_ %_
  isplitl [Ho]; · iexact Ho
  isplitl [Hb]; · iexact Hb
  ipureintro
  refine ⟨?_, ?_⟩
  · refine OAcc.step (P := 71) rfl (PV.load o rfl _) ?_
    refine OAcc.step (P := 70) rfl (PV.load o rfl _) ?_
    refine OAcc.step (P := 69) rfl (PV.load o rfl _) ?_
    refine OAcc.step (P := 68) rfl (PV.load o rfl _) ?_
    refine OAcc.step (P := 67) rfl (PV.load o rfl _) ?_
    exact hb
  · exact PB.load o rfl _

theorem ob175 [∀ e, Nonempty (Elt F e)] (c : Dev nD) (v2472 : FVec F S16x128 .bf16) (o : Buf (Elt F) (mOtok.view.loc (c : Thread nD τ))) (b : Buf (Elt F) (mObuf.view.loc (c : Thread nD τ))) (hx : PB o 72 v2472) (hb : OAcc 1 o 72 b) (Q : (FVec F S1x16x128 .bf16) → sProp 𝕄) :
    iprop(((mOtok.view.loc (c : Thread nD τ) ↦{fullShare} o) ∗ (mObuf.view.loc (c : Thread nD τ) ↦[Finset.univ \ ob0.view.set]{fullShare} b)) ∗ (∀ r b', ((mOtok.view.loc (c : Thread nD τ) ↦{fullShare} o) ∗ (mObuf.view.loc (c : Thread nD τ) ↦[Finset.univ \ ob0.view.set]{fullShare} b') ∗ ⌜OAcc 1 o 77 b' ∧ PV o 77 r⌝) -∗ Q r))
      ⊢ wp frame (wpE defs₀ 𝒱₀ (c : Thread nD τ) none) Set.univ (k0_part175 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v2472) Q := by
  iintro ⟨⟨Ho, Hb⟩, Hk⟩
  sl_rw [k0_part175_eq_skeleton]
  sl_unfold [k0_part175_skel]
  sl_exec
  sl_step
  iapply Hk $$ %_ %_
  isplitl [Ho]; · iexact Ho
  isplitl [Hb]; · iexact Hb
  ipureintro
  refine ⟨?_, ?_⟩
  · refine OAcc.step (P := 76) rfl (PV.load o rfl _) ?_
    refine OAcc.step (P := 75) rfl (PV.load o rfl _) ?_
    refine OAcc.step (P := 74) rfl (PV.load o rfl _) ?_
    refine OAcc.step (P := 73) rfl (PV.load o rfl _) ?_
    refine OAcc.step (P := 72) rfl (PV.ofB hx) ?_
    exact hb
  · exact PV.load o rfl _

theorem ob176 [∀ e, Nonempty (Elt F e)] (c : Dev nD) (v2500 : FVec F S1x16x128 .bf16) (o : Buf (Elt F) (mOtok.view.loc (c : Thread nD τ))) (b : Buf (Elt F) (mObuf.view.loc (c : Thread nD τ))) (hx : PV o 77 v2500) (hb : OAcc 1 o 77 b) (Q : (FVec F S16x128 .bf16) → sProp 𝕄) :
    iprop(((mOtok.view.loc (c : Thread nD τ) ↦{fullShare} o) ∗ (mObuf.view.loc (c : Thread nD τ) ↦[Finset.univ \ ob0.view.set]{fullShare} b)) ∗ (∀ r b', ((mOtok.view.loc (c : Thread nD τ) ↦{fullShare} o) ∗ (mObuf.view.loc (c : Thread nD τ) ↦[Finset.univ \ ob0.view.set]{fullShare} b') ∗ ⌜OAcc 1 o 83 b' ∧ PB o 83 r⌝) -∗ Q r))
      ⊢ wp frame (wpE defs₀ 𝒱₀ (c : Thread nD τ) none) Set.univ (k0_part176 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v2500) Q := by
  iintro ⟨⟨Ho, Hb⟩, Hk⟩
  sl_rw [k0_part176_eq_skeleton]
  sl_unfold [k0_part176_skel]
  sl_exec
  sl_step
  iapply Hk $$ %_ %_
  isplitl [Ho]; · iexact Ho
  isplitl [Hb]; · iexact Hb
  ipureintro
  refine ⟨?_, ?_⟩
  · refine OAcc.step (P := 82) rfl (PV.load o rfl _) ?_
    refine OAcc.step (P := 81) rfl (PV.load o rfl _) ?_
    refine OAcc.step (P := 80) rfl (PV.load o rfl _) ?_
    refine OAcc.step (P := 79) rfl (PV.load o rfl _) ?_
    refine OAcc.step (P := 78) rfl (PV.load o rfl _) ?_
    refine OAcc.step (P := 77) rfl (hx) ?_
    exact hb
  · exact PB.load o rfl _

theorem ob177 [∀ e, Nonempty (Elt F e)] (c : Dev nD) (v2527 : FVec F S16x128 .bf16) (o : Buf (Elt F) (mOtok.view.loc (c : Thread nD τ))) (b : Buf (Elt F) (mObuf.view.loc (c : Thread nD τ))) (hx : PB o 83 v2527) (hb : OAcc 1 o 83 b) (Q : (FVec F S16x128 .bf16) → sProp 𝕄) :
    iprop(((mOtok.view.loc (c : Thread nD τ) ↦{fullShare} o) ∗ (mObuf.view.loc (c : Thread nD τ) ↦[Finset.univ \ ob0.view.set]{fullShare} b)) ∗ (∀ r b', ((mOtok.view.loc (c : Thread nD τ) ↦{fullShare} o) ∗ (mObuf.view.loc (c : Thread nD τ) ↦[Finset.univ \ ob0.view.set]{fullShare} b') ∗ ⌜OAcc 1 o 88 b' ∧ PB o 88 r⌝) -∗ Q r))
      ⊢ wp frame (wpE defs₀ 𝒱₀ (c : Thread nD τ) none) Set.univ (k0_part177 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v2527) Q := by
  iintro ⟨⟨Ho, Hb⟩, Hk⟩
  sl_rw [k0_part177_eq_skeleton]
  sl_unfold [k0_part177_skel]
  sl_exec
  sl_step
  iapply Hk $$ %_ %_
  isplitl [Ho]; · iexact Ho
  isplitl [Hb]; · iexact Hb
  ipureintro
  refine ⟨?_, ?_⟩
  · refine OAcc.step (P := 87) rfl (PV.load o rfl _) ?_
    refine OAcc.step (P := 86) rfl (PV.load o rfl _) ?_
    refine OAcc.step (P := 85) rfl (PV.load o rfl _) ?_
    refine OAcc.step (P := 84) rfl (PV.load o rfl _) ?_
    refine OAcc.step (P := 83) rfl (PV.ofB hx) ?_
    exact hb
  · exact PB.load o rfl _

theorem ob178 [∀ e, Nonempty (Elt F e)] (c : Dev nD) (v2552 : FVec F S16x128 .bf16) (o : Buf (Elt F) (mOtok.view.loc (c : Thread nD τ))) (b : Buf (Elt F) (mObuf.view.loc (c : Thread nD τ))) (hx : PB o 88 v2552) (hb : OAcc 1 o 88 b) (Q : (Vec F S16x128 .f32) → sProp 𝕄) :
    iprop(((mOtok.view.loc (c : Thread nD τ) ↦{fullShare} o) ∗ (mObuf.view.loc (c : Thread nD τ) ↦[Finset.univ \ ob0.view.set]{fullShare} b)) ∗ (∀ r b', ((mOtok.view.loc (c : Thread nD τ) ↦{fullShare} o) ∗ (mObuf.view.loc (c : Thread nD τ) ↦[Finset.univ \ ob0.view.set]{fullShare} b') ∗ ⌜OAcc 1 o 94 b' ∧ PF o 94 r⌝) -∗ Q r))
      ⊢ wp frame (wpE defs₀ 𝒱₀ (c : Thread nD τ) none) Set.univ (k0_part178 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v2552) Q := by
  iintro ⟨⟨Ho, Hb⟩, Hk⟩
  sl_rw [k0_part178_eq_skeleton]
  sl_unfold [k0_part178_skel]
  sl_exec
  sl_step
  iapply Hk $$ %_ %_
  isplitl [Ho]; · iexact Ho
  isplitl [Hb]; · iexact Hb
  ipureintro
  refine ⟨?_, ?_⟩
  · refine OAcc.step (P := 93) rfl (PV.load o rfl _) ?_
    refine OAcc.step (P := 92) rfl (PV.load o rfl _) ?_
    refine OAcc.step (P := 91) rfl (PV.load o rfl _) ?_
    refine OAcc.step (P := 90) rfl (PV.load o rfl _) ?_
    refine OAcc.step (P := 89) rfl (PV.load o rfl _) ?_
    refine OAcc.step (P := 88) rfl (PV.ofB hx) ?_
    exact hb
  · exact PF.load o rfl _

theorem ob179 [∀ e, Nonempty (Elt F e)] (c : Dev nD) (v2581 : Vec F S16x128 .f32) (o : Buf (Elt F) (mOtok.view.loc (c : Thread nD τ))) (b : Buf (Elt F) (mObuf.view.loc (c : Thread nD τ))) (hx : PF o 94 v2581) (hb : OAcc 1 o 94 b) (Q : (Σ' (v2607 : FVec F S16x128 .bf16), Vec F S1x16x128 .bf16) → sProp 𝕄) :
    iprop(((mOtok.view.loc (c : Thread nD τ) ↦{fullShare} o) ∗ (mObuf.view.loc (c : Thread nD τ) ↦[Finset.univ \ ob0.view.set]{fullShare} b)) ∗ (∀ r1 r2 b', ((mOtok.view.loc (c : Thread nD τ) ↦{fullShare} o) ∗ (mObuf.view.loc (c : Thread nD τ) ↦[Finset.univ \ ob0.view.set]{fullShare} b') ∗ ⌜OAcc 1 o 99 b' ∧ PB o 99 r1⌝) -∗ Q ⟨r1, r2⟩))
      ⊢ wp frame (wpE defs₀ 𝒱₀ (c : Thread nD τ) none) Set.univ (k0_part179 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v2581) Q := by
  iintro ⟨⟨Ho, Hb⟩, Hk⟩
  sl_rw [k0_part179_eq_skeleton]
  sl_unfold [k0_part179_skel]
  sl_exec
  sl_step
  iapply Hk $$ %_ %_ %_
  isplitl [Ho]; · iexact Ho
  isplitl [Hb]; · iexact Hb
  ipureintro
  refine ⟨?_, ?_⟩
  · refine OAcc.step (P := 98) rfl (PV.load o rfl _) ?_
    refine OAcc.step (P := 97) rfl (PV.load o rfl _) ?_
    refine OAcc.step (P := 96) rfl (PV.load o rfl _) ?_
    refine OAcc.step (P := 95) rfl (PV.load o rfl _) ?_
    refine OAcc.step (P := 94) rfl (PV.ofF hx) ?_
    exact hb
  · exact PB.load o rfl _

theorem ob180 [∀ e, Nonempty (Elt F e)] (c : Dev nD) (v2607 : FVec F S16x128 .bf16) (v2608 : Vec F S1x16x128 .bf16) (o : Buf (Elt F) (mOtok.view.loc (c : Thread nD τ))) (b : Buf (Elt F) (mObuf.view.loc (c : Thread nD τ))) (hx : PB o 99 v2607) (hb : OAcc 1 o 99 b) (Q : (PUnit) → sProp 𝕄) :
    iprop(((mOtok.view.loc (c : Thread nD τ) ↦{fullShare} o) ∗ (mObuf.view.loc (c : Thread nD τ) ↦[Finset.univ \ ob0.view.set]{fullShare} b)) ∗ (∀ b', ((mOtok.view.loc (c : Thread nD τ) ↦{fullShare} o) ∗ (mObuf.view.loc (c : Thread nD τ) ↦[Finset.univ \ ob0.view.set]{fullShare} b') ∗ ⌜OAcc 1 o 105 b'⌝) -∗ Q ⟨⟩))
      ⊢ wp frame (wpE defs₀ 𝒱₀ (c : Thread nD τ) none) Set.univ (k0_part180 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v2607 v2608) Q := by
  iintro ⟨⟨Ho, Hb⟩, Hk⟩
  sl_rw [k0_part180_eq_skeleton]
  sl_unfold [k0_part180_skel]
  sl_exec
  sl_step
  iapply Hk $$ %_
  isplitl [Ho]; · iexact Ho
  isplitl [Hb]; · iexact Hb
  ipureintro
  refine OAcc.step (P := 104) rfl (PV.load o rfl _) ?_
  refine OAcc.step (P := 103) rfl (PV.load o rfl _) ?_
  refine OAcc.step (P := 102) rfl (PV.load o rfl _) ?_
  refine OAcc.step (P := 101) rfl (PV.load o rfl _) ?_
  refine OAcc.step (P := 100) rfl (PV.load o rfl _) ?_
  refine OAcc.step (P := 99) rfl (PV.ofB hx) ?_
  exact hb

theorem ob181 [∀ e, Nonempty (Elt F e)] (c : Dev nD)  (o : Buf (Elt F) (mOtok.view.loc (c : Thread nD τ))) (b : Buf (Elt F) (mObuf.view.loc (c : Thread nD τ))) (hb : OAcc 1 o 105 b) (Q : (FVec F S16x128 .bf16) → sProp 𝕄) :
    iprop(((mOtok.view.loc (c : Thread nD τ) ↦{fullShare} o) ∗ (mObuf.view.loc (c : Thread nD τ) ↦[Finset.univ \ ob0.view.set]{fullShare} b)) ∗ (∀ r b', ((mOtok.view.loc (c : Thread nD τ) ↦{fullShare} o) ∗ (mObuf.view.loc (c : Thread nD τ) ↦[Finset.univ \ ob0.view.set]{fullShare} b') ∗ ⌜OAcc 1 o 110 b' ∧ PB o 110 r⌝) -∗ Q r))
      ⊢ wp frame (wpE defs₀ 𝒱₀ (c : Thread nD τ) none) Set.univ (k0_part181 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 ) Q := by
  iintro ⟨⟨Ho, Hb⟩, Hk⟩
  sl_rw [k0_part181_eq_skeleton]
  sl_unfold [k0_part181_skel]
  sl_exec
  sl_step
  iapply Hk $$ %_ %_
  isplitl [Ho]; · iexact Ho
  isplitl [Hb]; · iexact Hb
  ipureintro
  refine ⟨?_, ?_⟩
  · refine OAcc.step (P := 109) rfl (PV.load o rfl _) ?_
    refine OAcc.step (P := 108) rfl (PV.load o rfl _) ?_
    refine OAcc.step (P := 107) rfl (PV.load o rfl _) ?_
    refine OAcc.step (P := 106) rfl (PV.load o rfl _) ?_
    refine OAcc.step (P := 105) rfl (PV.load o rfl _) ?_
    exact hb
  · exact PB.load o rfl _

theorem ob182 [∀ e, Nonempty (Elt F e)] (c : Dev nD) (v2662 : FVec F S16x128 .bf16) (o : Buf (Elt F) (mOtok.view.loc (c : Thread nD τ))) (b : Buf (Elt F) (mObuf.view.loc (c : Thread nD τ))) (hx : PB o 110 v2662) (hb : OAcc 1 o 110 b) (Q : (PUnit) → sProp 𝕄) :
    iprop(((mOtok.view.loc (c : Thread nD τ) ↦{fullShare} o) ∗ (mObuf.view.loc (c : Thread nD τ) ↦[Finset.univ \ ob0.view.set]{fullShare} b)) ∗ (∀ b', ((mOtok.view.loc (c : Thread nD τ) ↦{fullShare} o) ∗ (mObuf.view.loc (c : Thread nD τ) ↦[Finset.univ \ ob0.view.set]{fullShare} b') ∗ ⌜OAcc 1 o 116 b'⌝) -∗ Q ⟨⟩))
      ⊢ wp frame (wpE defs₀ 𝒱₀ (c : Thread nD τ) none) Set.univ (k0_part182 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v2662) Q := by
  iintro ⟨⟨Ho, Hb⟩, Hk⟩
  sl_rw [k0_part182_eq_skeleton]
  sl_unfold [k0_part182_skel]
  sl_exec
  sl_step
  iapply Hk $$ %_
  isplitl [Ho]; · iexact Ho
  isplitl [Hb]; · iexact Hb
  ipureintro
  refine OAcc.step (P := 115) rfl (PV.load o rfl _) ?_
  refine OAcc.step (P := 114) rfl (PV.load o rfl _) ?_
  refine OAcc.step (P := 113) rfl (PV.load o rfl _) ?_
  refine OAcc.step (P := 112) rfl (PV.load o rfl _) ?_
  refine OAcc.step (P := 111) rfl (PV.load o rfl _) ?_
  refine OAcc.step (P := 110) rfl (PV.ofB hx) ?_
  exact hb

theorem ob183 [∀ e, Nonempty (Elt F e)] (c : Dev nD)  (o : Buf (Elt F) (mOtok.view.loc (c : Thread nD τ))) (b : Buf (Elt F) (mObuf.view.loc (c : Thread nD τ))) (hb : OAcc 1 o 116 b) (Q : (FVec F S16x128 .bf16) → sProp 𝕄) :
    iprop(((mOtok.view.loc (c : Thread nD τ) ↦{fullShare} o) ∗ (mObuf.view.loc (c : Thread nD τ) ↦[Finset.univ \ ob0.view.set]{fullShare} b)) ∗ (∀ r b', ((mOtok.view.loc (c : Thread nD τ) ↦{fullShare} o) ∗ (mObuf.view.loc (c : Thread nD τ) ↦[Finset.univ \ ob0.view.set]{fullShare} b') ∗ ⌜OAcc 1 o 121 b' ∧ PB o 121 r⌝) -∗ Q r))
      ⊢ wp frame (wpE defs₀ 𝒱₀ (c : Thread nD τ) none) Set.univ (k0_part183 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 ) Q := by
  iintro ⟨⟨Ho, Hb⟩, Hk⟩
  sl_rw [k0_part183_eq_skeleton]
  sl_unfold [k0_part183_skel]
  sl_exec
  sl_step
  iapply Hk $$ %_ %_
  isplitl [Ho]; · iexact Ho
  isplitl [Hb]; · iexact Hb
  ipureintro
  refine ⟨?_, ?_⟩
  · refine OAcc.step (P := 120) rfl (PV.load o rfl _) ?_
    refine OAcc.step (P := 119) rfl (PV.load o rfl _) ?_
    refine OAcc.step (P := 118) rfl (PV.load o rfl _) ?_
    refine OAcc.step (P := 117) rfl (PV.load o rfl _) ?_
    refine OAcc.step (P := 116) rfl (PV.load o rfl _) ?_
    exact hb
  · exact PB.load o rfl _

theorem ob184 [∀ e, Nonempty (Elt F e)] (c : Dev nD) (v2717 : FVec F S16x128 .bf16) (o : Buf (Elt F) (mOtok.view.loc (c : Thread nD τ))) (b : Buf (Elt F) (mObuf.view.loc (c : Thread nD τ))) (hx : PB o 121 v2717) (hb : OAcc 1 o 121 b) (Q : (PUnit) → sProp 𝕄) :
    iprop(((mOtok.view.loc (c : Thread nD τ) ↦{fullShare} o) ∗ (mObuf.view.loc (c : Thread nD τ) ↦[Finset.univ \ ob0.view.set]{fullShare} b)) ∗ (∀ b', ((mOtok.view.loc (c : Thread nD τ) ↦{fullShare} o) ∗ (mObuf.view.loc (c : Thread nD τ) ↦[Finset.univ \ ob0.view.set]{fullShare} b') ∗ ⌜OAcc 1 o 127 b'⌝) -∗ Q ⟨⟩))
      ⊢ wp frame (wpE defs₀ 𝒱₀ (c : Thread nD τ) none) Set.univ (k0_part184 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 v2717) Q := by
  iintro ⟨⟨Ho, Hb⟩, Hk⟩
  sl_rw [k0_part184_eq_skeleton]
  sl_unfold [k0_part184_skel]
  sl_exec
  sl_step
  iapply Hk $$ %_
  isplitl [Ho]; · iexact Ho
  isplitl [Hb]; · iexact Hb
  ipureintro
  refine OAcc.step (P := 126) rfl (PV.load o rfl _) ?_
  refine OAcc.step (P := 125) rfl (PV.load o rfl _) ?_
  refine OAcc.step (P := 124) rfl (PV.load o rfl _) ?_
  refine OAcc.step (P := 123) rfl (PV.load o rfl _) ?_
  refine OAcc.step (P := 122) rfl (PV.load o rfl _) ?_
  refine OAcc.step (P := 121) rfl (PV.ofB hx) ?_
  exact hb

end Cert.Proof.K

end
-- ==== Proof.K.R186.lean ====
/-
  The body from the end of the first chunk's stores on, but the copy of the second chunk.
-/
module

public import proofs.«01_k».proof.Proof.K.S161
public import proofs.«01_k».proof.Proof.K.Ob1

@[expose] public section

set_option maxRecDepth 16384
set_option maxHeartbeats 4000000

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.ValueIdx (ix1 ix2 ix3)

variable {F : FTy → Type} [FloatOps F]
local notation "𝕄" => MT nD τ sig Unit (Elt F) ℕ (UU nD τ) ℕ

theorem r186 [∀ e, Nonempty (Elt F e)] (c : Dev nD) {n : ℕ} (hn : n ≤ 15) (hw2 : k0_chk2 (W n))
   (fl : Buf (Elt F) (mLive.view.loc (c : Thread nD τ))) (hL : LiveOK n fl) (fw : Buf (Elt F) (aW.view.loc (c : Thread nD τ))) (fs : Buf (Elt F) (mHsx.view.loc (c : Thread nD τ))) (fws : Buf (Elt F) (mWs.view.loc (c : Thread nD τ))) (fh : Buf (Elt F) (mH.view.loc (c : Thread nD τ))) (yc : Buf (Elt F) (mCi.view.loc (c : Thread nD τ))) (hc : CiOK yc) (yt : Buf (Elt F) (mTw.view.loc (c : Thread nD τ))) (o : Buf (Elt F) (mOtok.view.loc (c : Thread nD τ))) (b : Buf (Elt F) (mObuf.view.loc (c : Thread nD τ))) (hb : OAcc 0 o 296 b) (yo : Buf (Elt F) (aOut.view.loc (c : Thread nD τ)))
   (Q : PUnit → sProp 𝕄) :
    iprop((unitE c fl fh fs fws fw n n ∗ tokP c yc yt o ∗ (mObuf.view.loc (c : Thread nD τ) ↦{fullShare} b) ∗ (ot0.view.loc (c : Thread nD τ) ↦[ot0.view.set]{fullShare} yo) ∗ semVal ((c : Thread nD τ), SemLoc.dma ((cc0_scratch16.slice (Rect.unit (s := S2) ![0] S1.size inb_S2_S1_0)).squeeze S_ squeezes_S1_S_).sem) 0)
        ∗ (∀ o' b' b0, (unitE c fl fh fs fws fw n (2 * n) ∗ tokP c yc yt o' ∗ (mObuf.view.loc (c : Thread nD τ) ↦[Finset.univ \ ob0.view.set]{fullShare} b') ∗ FlyO (F := F) c yo b0 ∗ ⌜OAcc 0 o 384 b0 ∧ C1 yc yt fl fws fw n fh fs o' ∧ OAcc 1 o' 128 b'⌝) -∗ Q ⟨⟩))
      ⊢ wp frame (wpE defs₀ 𝒱₀ (c : Thread nD τ) none) Set.univ (k0_part186 (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16 (W n) hw2) Q := by
  iintro ⟨⟨HU, ⟨Yc, Yt, Yo⟩, Yb, Hy, Hs⟩, Hk⟩
  sl_rw [k0_part186_eq_skeleton]
  sl_unfold [k0_part186_skel]
  iapply (Entails.of_eq (wp_bind ..).symm)
  iapply (ob145 c  o _ hb _)
  isplitl [Yo Yb]
  · isplitl [Yo]; · iexact Yo
    iexact Yb
  iintro %x145 %b145 ⟨Yo, Yb, %h145⟩
  iapply (Entails.of_eq (wp_bind ..).symm)
  iapply (ob146 c x145 o _ h145.2 h145.1 _)
  isplitl [Yo Yb]
  · isplitl [Yo]; · iexact Yo
    iexact Yb
  iintro  %b146 ⟨Yo, Yb, %h146⟩
  iapply (Entails.of_eq (wp_bind ..).symm)
  iapply (ob147 c  o _ h146 _)
  isplitl [Yo Yb]
  · isplitl [Yo]; · iexact Yo
    iexact Yb
  iintro %x147 %b147 ⟨Yo, Yb, %h147⟩
  iapply (Entails.of_eq (wp_bind ..).symm)
  iapply (ob148 c x147 o _ h147.2 h147.1 _)
  isplitl [Yo Yb]
  · isplitl [Yo]; · iexact Yo
    iexact Yb
  iintro %x148 %b148 ⟨Yo, Yb, %h148⟩
  iapply (Entails.of_eq (wp_bind ..).symm)
  iapply (ob149 c x148 o _ h148.2 h148.1 _)
  isplitl [Yo Yb]
  · isplitl [Yo]; · iexact Yo
    iexact Yb
  iintro %x149 %b149 ⟨Yo, Yb, %h149⟩
  iapply (Entails.of_eq (wp_bind ..).symm)
  iapply (ob150 c x149 o _ h149.2 h149.1 _)
  isplitl [Yo Yb]
  · isplitl [Yo]; · iexact Yo
    iexact Yb
  iintro %x150 %b150 ⟨Yo, Yb, %h150⟩
  iapply (Entails.of_eq (wp_bind ..).symm)
  iapply (ob151 c x150 o _ h150.2 h150.1 _)
  isplitl [Yo Yb]
  · isplitl [Yo]; · iexact Yo
    iexact Yb
  iintro %x151 %b151 ⟨Yo, Yb, %h151⟩
  iapply (Entails.of_eq (wp_bind ..).symm)
  iapply (ob152 c x151 o _ h151.2 h151.1 _)
  isplitl [Yo Yb]
  · isplitl [Yo]; · iexact Yo
    iexact Yb
  iintro %x152a %x152b %b152 ⟨Yo, Yb, %h152⟩
  iapply (Entails.of_eq (wp_bind ..).symm)
  iapply (ob153 c x152a x152b o _ h152.2 h152.1 _)
  isplitl [Yo Yb]
  · isplitl [Yo]; · iexact Yo
    iexact Yb
  iintro  %b153 ⟨Yo, Yb, %h153⟩
  iapply (Entails.of_eq (wp_bind ..).symm)
  iapply (ob154 c  o _ h153 _)
  isplitl [Yo Yb]
  · isplitl [Yo]; · iexact Yo
    iexact Yb
  iintro %x154 %b154 ⟨Yo, Yb, %h154⟩
  iapply (Entails.of_eq (wp_bind ..).symm)
  iapply (ob155 c x154 o _ h154.2 h154.1 _)
  isplitl [Yo Yb]
  · isplitl [Yo]; · iexact Yo
    iexact Yb
  iintro  %b155 ⟨Yo, Yb, %h155⟩
  iapply (Entails.of_eq (wp_bind ..).symm)
  iapply (ob156 c  o _ h155 _)
  isplitl [Yo Yb]
  · isplitl [Yo]; · iexact Yo
    iexact Yb
  iintro %x156 %b156 ⟨Yo, Yb, %h156⟩
  iapply (Entails.of_eq (wp_bind ..).symm)
  iapply (ob157 c x156 o _ h156.2 h156.1 _)
  isplitl [Yo Yb]
  · isplitl [Yo]; · iexact Yo
    iexact Yb
  iintro  %b157 ⟨Yo, Yb, %h157⟩
  iapply (Entails.of_eq (wp_bind ..).symm)
  iapply (ob158 c  o _ h157 _)
  isplitl [Yo Yb]
  · isplitl [Yo]; · iexact Yo
    iexact Yb
  iintro %x158 %b158 ⟨Yo, Yb, %h158⟩
  iapply (Entails.of_eq (wp_bind ..).symm)
  iapply (ob159 c x158 o _ h158.2 h158.1 _)
  isplitl [Yo Yb]
  · isplitl [Yo]; · iexact Yo
    iexact Yb
  iintro %x159 %b159 ⟨Yo, Yb, %h159⟩
  iapply (Entails.of_eq (wp_bind ..).symm)
  iapply (ob160 c x159 o _ h159.2 h159.1 _)
  isplitl [Yo Yb]
  · isplitl [Yo]; · iexact Yo
    iexact Yb
  iintro %x160 %b160 ⟨Yo, Yb, %h160⟩
  iapply (Entails.of_eq (wp_bind ..).symm)
  iapply (s161 c hn hw2 x160 fl hL fw fs fws fh yc hc yt o _ h160.1 h160.2 yo _)
  isplitl [HU Yc Yt Yo Yb Hy Hs]
  · isplitl [HU]; · iexact HU
    isplitl [Yc Yt Yo]
    · isplitl [Yc]; · iexact Yc
      isplitl [Yt]; · iexact Yt
      iexact Yo
    isplitl [Yb]; · iexact Yb
    isplitl [Hy]; · iexact Hy
    iexact Hs
  iintro %x161 %o2 %b2 %b0 ⟨HU, ⟨Yc, Yt, Yo⟩, Yb, HF, %h161⟩
  iapply (Entails.of_eq (wp_bind ..).symm)
  iapply (ob162 c x161 o2 _ h161.2.2.2 h161.2.2.1 _)
  isplitl [Yo Yb]
  · isplitl [Yo]; · iexact Yo
    iexact Yb
  iintro  %b162 ⟨Yo, Yb, %h162⟩
  iapply (Entails.of_eq (wp_bind ..).symm)
  iapply (ob163 c  o2 _ h162 _)
  isplitl [Yo Yb]
  · isplitl [Yo]; · iexact Yo
    iexact Yb
  iintro %x163 %b163 ⟨Yo, Yb, %h163⟩
  iapply (Entails.of_eq (wp_bind ..).symm)
  iapply (ob164 c x163 o2 _ h163.2 h163.1 _)
  isplitl [Yo Yb]
  · isplitl [Yo]; · iexact Yo
    iexact Yb
  iintro %x164 %b164 ⟨Yo, Yb, %h164⟩
  iapply (Entails.of_eq (wp_bind ..).symm)
  iapply (ob165 c x164 o2 _ h164.2 h164.1 _)
  isplitl [Yo Yb]
  · isplitl [Yo]; · iexact Yo
    iexact Yb
  iintro %x165 %b165 ⟨Yo, Yb, %h165⟩
  iapply (Entails.of_eq (wp_bind ..).symm)
  iapply (ob166 c x165 o2 _ h165.2 h165.1 _)
  isplitl [Yo Yb]
  · isplitl [Yo]; · iexact Yo
    iexact Yb
  iintro %x166 %b166 ⟨Yo, Yb, %h166⟩
  iapply (Entails.of_eq (wp_bind ..).symm)
  iapply (ob167 c x166 o2 _ h166.2 h166.1 _)
  isplitl [Yo Yb]
  · isplitl [Yo]; · iexact Yo
    iexact Yb
  iintro %x167 %b167 ⟨Yo, Yb, %h167⟩
  iapply (Entails.of_eq (wp_bind ..).symm)
  iapply (ob168 c x167 o2 _ h167.2 h167.1 _)
  isplitl [Yo Yb]
  · isplitl [Yo]; · iexact Yo
    iexact Yb
  iintro %x168a %x168b %b168 ⟨Yo, Yb, %h168⟩
  iapply (Entails.of_eq (wp_bind ..).symm)
  iapply (ob169 c x168a x168b o2 _ h168.2 h168.1 _)
  isplitl [Yo Yb]
  · isplitl [Yo]; · iexact Yo
    iexact Yb
  iintro  %b169 ⟨Yo, Yb, %h169⟩
  iapply (Entails.of_eq (wp_bind ..).symm)
  iapply (ob170 c  o2 _ h169 _)
  isplitl [Yo Yb]
  · isplitl [Yo]; · iexact Yo
    iexact Yb
  iintro %x170 %b170 ⟨Yo, Yb, %h170⟩
  iapply (Entails.of_eq (wp_bind ..).symm)
  iapply (ob171 c x170 o2 _ h170.2 h170.1 _)
  isplitl [Yo Yb]
  · isplitl [Yo]; · iexact Yo
    iexact Yb
  iintro  %b171 ⟨Yo, Yb, %h171⟩
  iapply (Entails.of_eq (wp_bind ..).symm)
  iapply (ob172 c  o2 _ h171 _)
  isplitl [Yo Yb]
  · isplitl [Yo]; · iexact Yo
    iexact Yb
  iintro %x172 %b172 ⟨Yo, Yb, %h172⟩
  iapply (Entails.of_eq (wp_bind ..).symm)
  iapply (ob173 c x172 o2 _ h172.2 h172.1 _)
  isplitl [Yo Yb]
  · isplitl [Yo]; · iexact Yo
    iexact Yb
  iintro  %b173 ⟨Yo, Yb, %h173⟩
  iapply (Entails.of_eq (wp_bind ..).symm)
  iapply (ob174 c  o2 _ h173 _)
  isplitl [Yo Yb]
  · isplitl [Yo]; · iexact Yo
    iexact Yb
  iintro %x174 %b174 ⟨Yo, Yb, %h174⟩
  iapply (Entails.of_eq (wp_bind ..).symm)
  iapply (ob175 c x174 o2 _ h174.2 h174.1 _)
  isplitl [Yo Yb]
  · isplitl [Yo]; · iexact Yo
    iexact Yb
  iintro %x175 %b175 ⟨Yo, Yb, %h175⟩
  iapply (Entails.of_eq (wp_bind ..).symm)
  iapply (ob176 c x175 o2 _ h175.2 h175.1 _)
  isplitl [Yo Yb]
  · isplitl [Yo]; · iexact Yo
    iexact Yb
  iintro %x176 %b176 ⟨Yo, Yb, %h176⟩
  iapply (Entails.of_eq (wp_bind ..).symm)
  iapply (ob177 c x176 o2 _ h176.2 h176.1 _)
  isplitl [Yo Yb]
  · isplitl [Yo]; · iexact Yo
    iexact Yb
  iintro %x177 %b177 ⟨Yo, Yb, %h177⟩
  iapply (Entails.of_eq (wp_bind ..).symm)
  iapply (ob178 c x177 o2 _ h177.2 h177.1 _)
  isplitl [Yo Yb]
  · isplitl [Yo]; · iexact Yo
    iexact Yb
  iintro %x178 %b178 ⟨Yo, Yb, %h178⟩
  iapply (Entails.of_eq (wp_bind ..).symm)
  iapply (ob179 c x178 o2 _ h178.2 h178.1 _)
  isplitl [Yo Yb]
  · isplitl [Yo]; · iexact Yo
    iexact Yb
  iintro %x179a %x179b %b179 ⟨Yo, Yb, %h179⟩
  iapply (Entails.of_eq (wp_bind ..).symm)
  iapply (ob180 c x179a x179b o2 _ h179.2 h179.1 _)
  isplitl [Yo Yb]
  · isplitl [Yo]; · iexact Yo
    iexact Yb
  iintro  %b180 ⟨Yo, Yb, %h180⟩
  iapply (Entails.of_eq (wp_bind ..).symm)
  iapply (ob181 c  o2 _ h180 _)
  isplitl [Yo Yb]
  · isplitl [Yo]; · iexact Yo
    iexact Yb
  iintro %x181 %b181 ⟨Yo, Yb, %h181⟩
  iapply (Entails.of_eq (wp_bind ..).symm)
  iapply (ob182 c x181 o2 _ h181.2 h181.1 _)
  isplitl [Yo Yb]
  · isplitl [Yo]; · iexact Yo
    iexact Yb
  iintro  %b182 ⟨Yo, Yb, %h182⟩
  iapply (Entails.of_eq (wp_bind ..).symm)
  iapply (ob183 c  o2 _ h182 _)
  isplitl [Yo Yb]
  · isplitl [Yo]; · iexact Yo
    iexact Yb
  iintro %x183 %b183 ⟨Yo, Yb, %h183⟩
  iapply (Entails.of_eq (wp_bind ..).symm)
  iapply (ob184 c x183 o2 _ h183.2 h183.1 _)
  isplitl [Yo Yb]
  · isplitl [Yo]; · iexact Yo
    iexact Yb
  iintro  %b184 ⟨Yo, Yb, %h184⟩
  sl_exec
  sl_step
  iapply Hk $$ %_ %_ %_
  isplitl [HU]; · iexact HU
  isplitl [Yc Yt Yo]
  · isplitl [Yc]; · iexact Yc
    isplitl [Yt]; · iexact Yt
    iexact Yo
  isplitl [Yb]; · iexact Yb
  isplitl [HF]; · iexact HF
  ipureintro
  exact ⟨h161.1, h161.2.1, OAcc.step (P := 127) rfl (PV.load o2 rfl _) (L := []) h184⟩

end Cert.Proof.K

end
-- ==== Proof.K.KVal.lean ====
/-
  What the result holds, in terms of the tables and buffers it was computed from.
-/
module

public import proofs.«01_k».proof.Proof.K.S161
public import proofs.«01_k».proof.Proof.K.Table
public import Idealize.ShloMosaic.Lib.ValueLayout
public import Idealize.ShloMosaic.Lib.WritesUnit
public import Idealize.ShloMosaic.Lib.Pointwise

@[expose] public section

set_option maxRecDepth 16384
set_option maxHeartbeats 4000000

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

/-- The result's columns below 3072 are the first chunk's rounded sums, the others the second's. -/
def OutOK (o o2 : mOtok.view.ty.Contents (Elt F)) (v : aOut.view.ty.Contents (Elt F)) : Prop :=
  ∀ (t : Fin 256) (col : Fin 4096), aOut.view.read (Elt F) v (ValueIdx.ix2 (n0 := 256) (n1 := 4096) t col)
    = if col.val < 3072 then ovO o (257 * (col.val / 128) + t.val) ⟨col.val % 128, Nat.mod_lt _ (by decide)⟩
      else ovO o2 (257 * ((col.val - 3072) / 128) + t.val) ⟨col.val % 128, Nat.mod_lt _ (by decide)⟩

/-- The result, from the group sizes, the scales of the rows, the row codes, the row numbers, the token weights, the
    scales of the weights and the weight codes. -/
def KVal (fg : mGs.view.ty.Contents (Elt F)) (y8 : mHs.view.ty.Contents (Elt F)) (xh : aH.view.ty.Contents (Elt F)) (yc : mCi.view.ty.Contents (Elt F)) (yt : mTw.view.ty.Contents (Elt F))
    (fws : mWs.view.ty.Contents (Elt F)) (fw : aW.view.ty.Contents (Elt F)) (v : aOut.view.ty.Contents (Elt F)) : Prop :=
  ∃ n fl fh fs o o2, n ≤ 15 ∧ LiveI fg 15 n fl ∧ C0 y8 xh yc yt fl fws fw n fh fs o ∧ C1 yc yt fl fws fw n fh fs o2 ∧ OutOK o o2 v

theorem ot0_set : ot0.view.set = (Rect.unit (s := S256x4096) ![0, 0] S256x3072.size inb_S256x4096_S256x3072_0_0).set := by
  exact View.set_slice_whole _ _

theorem castsO0 : S1x256x3072.ShapeCasts S256x3072 := by decide +kernel
theorem castsO1 : S1x256x1024.ShapeCasts S256x1024 := by decide +kernel

/-- The two halves of the output buffer, as they are copied out. -/
theorem ob0_read (b : mObuf.view.ty.Contents (Elt F)) (t : Fin 256) (z : Fin 3072) :
    ob0.view.read (Elt F) b (ValueIdx.ix2 t z) = mObuf.view.read (Elt F) b (ValueIdx.ix3 (n0 := 2) 0 t z) := by
  refine (congrFun (Memref.read_squeeze_slice (Val := Elt F) mObuf (Rect.unit (s := S2x256x3072) ![0, 0, 0] S1x256x3072.size inb_S2x256x3072_S1x256x3072_0_0_0) (fun _ => rfl) squeezes_S1x256x3072_S256x3072 castsO0 b) _).trans ?_
  rw [ValueIdx.shapeCast_1ab_ab_apply]
  show mObuf.view.read (Elt F) b _ = _
  congr 1
  funext a
  refine Fin.ext ?_
  fin_cases a
  · show 0 + 1 * 0 = 0; omega
  · show 0 + 1 * t.val = t.val; omega
  · show 0 + 1 * z.val = z.val; omega
theorem ob1_read (b : mObuf.view.ty.Contents (Elt F)) (t : Fin 256) (z : Fin 1024) :
    ob1.view.read (Elt F) b (ValueIdx.ix2 t z) = mObuf.view.read (Elt F) b (ValueIdx.ix3 (n0 := 2) (n2 := 3072) 1 t ⟨z.val, by omega⟩) := by
  refine (congrFun (Memref.read_squeeze_slice (Val := Elt F) mObuf (Rect.unit (s := S2x256x3072) ![1, 0, 0] S1x256x1024.size inb_S2x256x3072_S1x256x1024_1_0_0) (fun _ => rfl) squeezes_S1x256x1024_S256x1024 castsO1 b) _).trans ?_
  rw [ValueIdx.shapeCast_1ab_ab_apply]
  show mObuf.view.read (Elt F) b _ = _
  congr 1
  funext a
  refine Fin.ext ?_
  fin_cases a
  · show 1 + 1 * 0 = 1; omega
  · show 0 + 1 * t.val = t.val; omega
  · show 0 + 1 * z.val = z.val; omega

theorem OutOK.mk {o o2 : mOtok.view.ty.Contents (Elt F)} (z : aOut.view.ty.Contents (Elt F)) {b0 b2 : mObuf.view.ty.Contents (Elt F)} (h0 : OAcc 0 o 384 b0) (h1 : OAcc 1 o2 128 b2) :
    OutOK o o2 (ot0.view.set.piecewise (ot0.view.writes (Elt F) z [⟨Rect.whole S256x3072, ReadAs.same.apply (ob0.view.read (Elt F) b0)⟩])
      (aOut.view.writes (Elt F) z [⟨Rect.unit ![0, 3072] S256x1024.size inb_S256x4096_S256x1024_0_3072, ReadAs.same.apply (ob1.view.read (Elt F) b2)⟩])) := by
  intro t col
  by_cases hc : col.val < 3072
  · rw [if_pos hc]
    have e : (ValueIdx.ix2 t col : S256x4096.Idx) = (Rect.unit (s := S256x4096) ![0, 0] S256x3072.size inb_S256x4096_S256x3072_0_0).emb (ValueIdx.ix2 (n0 := 256) (n1 := 3072) t ⟨col.val, hc⟩) := by
      funext a
      refine Fin.ext ?_
      fin_cases a
      · show t.val = 0 + 1 * t.val; omega
      · show col.val = 0 + 1 * col.val; omega
    have hr := (ob0_read b0 t ⟨col.val, hc⟩).trans (h0 (ValueIdx.ix3 (n0 := 2) (n2 := 3072) 0 t ⟨col.val, hc⟩) rfl (by show col.val / 128 * 16 + t.val / 16 < 384; omega))
    rw [e]
    refine Eq.trans ?_ hr
    generalize (ValueIdx.ix2 (n0 := 256) (n1 := 3072) t ⟨col.val, hc⟩ : S256x3072.Idx) = x
    have h2 := congrFun (View.read_writes_whole ot0.view z (ReadAs.same.apply (ob0.view.read (Elt F) b0) : S256x3072.Idx → Elt F .bf16)) x
    generalize ot0.view.writes (Elt F) z [⟨Rect.whole S256x3072, ReadAs.same.apply (ob0.view.read (Elt F) b0)⟩] = Z at h2 ⊢
    generalize aOut.view.writes (Elt F) z _ = w
    have h1 : (ot0.view.set.piecewise Z w) (ot0.view.emb x) = Z (ot0.view.emb x) := Finset.piecewise_eq_of_mem _ _ _ (View.emb_mem_set _ _)
    exact h1.trans h2
  · rw [if_neg hc]
    have hr := (ob1_read b2 t ⟨col.val - 3072, by omega⟩).trans (h1 (ValueIdx.ix3 (n0 := 2) (n2 := 3072) 1 t ⟨col.val - 3072, by omega⟩) rfl (by show (col.val - 3072) / 128 * 16 + t.val / 16 < 128; omega))
    have hw := View.read_writes_cons_hit_of_coords aOut.view z (Rect.unit (s := S256x4096) ![0, 3072] S256x1024.size inb_S256x4096_S256x1024_0_3072) (ReadAs.same.apply (ob1.view.read (Elt F) b2)) []
      (ValueIdx.ix2 (n0 := 256) (n1 := 1024) t ⟨col.val - 3072, by omega⟩) (ValueIdx.ix2 (n0 := 256) (n1 := 4096) t col) (fun a => by
        fin_cases a
        · show t.val = 0 + 1 * t.val; omega
        · show col.val = 3072 + 1 * (col.val - 3072); omega)
    have hm : (ValueIdx.ix2 (n0 := 256) (n1 := 4096) t col : S256x4096.Idx) ∉ ot0.view.set := by
      intro hm
      have hm' : (ValueIdx.ix2 (n0 := 256) (n1 := 4096) t col : S256x4096.Idx) ∈ (Rect.unit (s := S256x4096) ![0, 0] S256x3072.size inb_S256x4096_S256x3072_0_0).set := by
        rw [← ot0_set]; exact hm
      have h2 : 0 ≤ col.val ∧ col.val < 0 + 3072 := Rect.mem_set_unit.mp hm' (1 : Fin 2)
      omega
    generalize aOut.view.writes (Elt F) z _ = w at hw ⊢
    generalize ot0.view.writes (Elt F) z _ = Z
    have h2 : (ot0.view.set.piecewise Z w) (ValueIdx.ix2 (n0 := 256) (n1 := 4096) t col) = w (ValueIdx.ix2 (n0 := 256) (n1 := 4096) t col) := Finset.piecewise_eq_of_notMem _ _ _ hm
    refine Eq.trans ?_ (hw.trans ?_)
    · exact h2
    · refine Eq.trans ?_ (hr.trans ?_)
      · rfl
      · congr 1
        exact Fin.ext (by show (col.val - 3072) % 128 = col.val % 128; omega)

end Cert.Proof.K

end
-- ==== Proof.K.Body.lean ====
/-
  The whole body.
-/
module

public import proofs.«01_k».proof.Proof.K.R185
public import proofs.«01_k».proof.Proof.K.R186
public import proofs.«01_k».proof.Proof.K.KVal

@[expose] public section

set_option maxRecDepth 16384
set_option maxHeartbeats 4000000

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.ValueIdx (ix1 ix2 ix3)

variable {F : FTy → Type} [FloatOps F]
local notation "𝕄" => MT nD τ sig Unit (Elt F) ℕ (UU nD τ) ℕ

theorem body_wp [∀ e, Nonempty (Elt F e)] (c : Dev nD) (xg : Buf (Elt F) (aGs.view.loc (c : Thread nD τ))) (xh : Buf (Elt F) (aH.view.loc (c : Thread nD τ))) (xc : Buf (Elt F) (aCi.view.loc (c : Thread nD τ))) (xt : Buf (Elt F) (aTw.view.loc (c : Thread nD τ))) (xs : Buf (Elt F) (aHs.view.loc (c : Thread nD τ))) (xw : Buf (Elt F) (aWs.view.loc (c : Thread nD τ))) (yg : Buf (Elt F) (mGs.view.loc (c : Thread nD τ))) (yc : Buf (Elt F) (mCi.view.loc (c : Thread nD τ))) (yt : Buf (Elt F) (mTw.view.loc (c : Thread nD τ))) (ys : Buf (Elt F) (mHs.view.loc (c : Thread nD τ))) (yw : Buf (Elt F) (mWs.view.loc (c : Thread nD τ))) (yl : Buf (Elt F) (mLive.view.loc (c : Thread nD τ))) (yh : Buf (Elt F) (mH.view.loc (c : Thread nD τ))) (yx : Buf (Elt F) (mHsx.view.loc (c : Thread nD τ))) (ya : Buf (Elt F) (mAcc.view.loc (c : Thread nD τ))) (yo : Buf (Elt F) (mOtok.view.loc (c : Thread nD τ))) (yb : Buf (Elt F) (mObuf.view.loc (c : Thread nD τ))) (fw : Buf (Elt F) (aW.view.loc (c : Thread nD τ))) (z : Buf (Elt F) (aOut.view.loc (c : Thread nD τ))) (hs : pre (copied aGs mGs yg xg) 15 = 1024) (hc : CiOK (copied aCi mCi yc xc)) (W0 : Finset _)
   (Q : PUnit → sProp 𝕄) :
    iprop((((aGs.view.loc (c : Thread nD τ) ↦{fullShare} xg) ∗ (aH.view.loc (c : Thread nD τ) ↦{fullShare} xh) ∗ (aCi.view.loc (c : Thread nD τ) ↦{fullShare} xc) ∗ (aTw.view.loc (c : Thread nD τ) ↦{fullShare} xt) ∗ (aHs.view.loc (c : Thread nD τ) ↦{fullShare} xs) ∗ (aWs.view.loc (c : Thread nD τ) ↦{fullShare} xw)) ∗ (aOut.view.loc (c : Thread nD τ) ↦{fullShare} z) ∗ ((mGs.view.loc (c : Thread nD τ) ↦{fullShare} yg) ∗ (mCi.view.loc (c : Thread nD τ) ↦{fullShare} yc) ∗ (mTw.view.loc (c : Thread nD τ) ↦{fullShare} yt) ∗ (mHs.view.loc (c : Thread nD τ) ↦{fullShare} ys) ∗ (mWs.view.loc (c : Thread nD τ) ↦{fullShare} yw) ∗ (mLive.view.loc (c : Thread nD τ) ↦{fullShare} yl)) ∗ (mH.view.loc (c : Thread nD τ) ↦{fullShare} yh) ∗ (mHsx.view.loc (c : Thread nD τ) ↦{fullShare} yx) ∗ (mAcc.view.loc (c : Thread nD τ) ↦{fullShare} ya) ∗ (mOtok.view.loc (c : Thread nD τ) ↦{fullShare} yo) ∗ (mObuf.view.loc (c : Thread nD τ) ↦{fullShare} yb) ∗ (rSt c fw 0 .free ∗ rSt c fw 1 .free ∗ rSt c fw 2 .free ∗ rSt c fw 3 .free ∗ rSt c fw 4 .free ∗ rSt c fw 5 .free) ∗ (semVal ((c : Thread nD τ), SemLoc.dma cc0_scratch12.sem) 0 ∗ semVal ((c : Thread nD τ), SemLoc.dma cc0_scratch14.sem) 0 ∗ semVal ((c : Thread nD τ), SemLoc.dma ((cc0_scratch13.slice (Rect.unit (s := S4) ![0] S1.size inb_S4_S1_0)).squeeze S_ squeezes_S1_S_).sem) 0 ∗ semVal ((c : Thread nD τ), SemLoc.dma ((cc0_scratch13.slice (Rect.unit (s := S4) ![1] S1.size inb_S4_S1_1)).squeeze S_ squeezes_S1_S_).sem) 0 ∗ semVal ((c : Thread nD τ), SemLoc.dma ((cc0_scratch13.slice (Rect.unit (s := S4) ![2] S1.size inb_S4_S1_2)).squeeze S_ squeezes_S1_S_).sem) 0 ∗ semVal ((c : Thread nD τ), SemLoc.dma ((cc0_scratch13.slice (Rect.unit (s := S4) ![3] S1.size inb_S4_S1_3)).squeeze S_ squeezes_S1_S_).sem) 0) ∗ (semVal ((c : Thread nD τ), SemLoc.dma ((cc0_scratch16.slice (Rect.unit (s := S2) ![0] S1.size inb_S2_S1_0)).squeeze S_ squeezes_S1_S_).sem) 0 ∗ semVal ((c : Thread nD τ), SemLoc.dma ((cc0_scratch16.slice (Rect.unit (s := S2) ![1] S1.size inb_S2_S1_1)).squeeze S_ squeezes_S1_S_).sem) 0) ∗ owes (c : Thread nD τ) 0 W0)
        ∗ ((((aGs.view.loc (c : Thread nD τ) ↦{fullShare} xg) ∗ (aH.view.loc (c : Thread nD τ) ↦{fullShare} xh) ∗ (aCi.view.loc (c : Thread nD τ) ↦{fullShare} xc) ∗ (aTw.view.loc (c : Thread nD τ) ↦{fullShare} xt) ∗ (aHs.view.loc (c : Thread nD τ) ↦{fullShare} xs) ∗ (aWs.view.loc (c : Thread nD τ) ↦{fullShare} xw)) ∗ (∃ z, (aOut.view.loc (c : Thread nD τ) ↦{fullShare} z) ∗ ⌜KVal (copied aGs mGs yg xg) (copied aHs mHs ys xs) xh (copied aCi mCi yc xc) (copied aTw mTw yt xt) (copied aWs mWs yw xw) fw z⌝) ∗ ((∃ f, (mGs.view.loc (c : Thread nD τ) ↦{fullShare} f)) ∗ (∃ f, (mCi.view.loc (c : Thread nD τ) ↦{fullShare} f)) ∗ (∃ f, (mTw.view.loc (c : Thread nD τ) ↦{fullShare} f)) ∗ (∃ f, (mHs.view.loc (c : Thread nD τ) ↦{fullShare} f)) ∗ (∃ f, (mWs.view.loc (c : Thread nD τ) ↦{fullShare} f)) ∗ (∃ f, (mLive.view.loc (c : Thread nD τ) ↦{fullShare} f)) ∗ (∃ f, (mH.view.loc (c : Thread nD τ) ↦{fullShare} f)) ∗ (∃ f, (mHsx.view.loc (c : Thread nD τ) ↦{fullShare} f)) ∗ (∃ f, (mAcc.view.loc (c : Thread nD τ) ↦{fullShare} f)) ∗ (∃ f, (mOtok.view.loc (c : Thread nD τ) ↦{fullShare} f)) ∗ (∃ f, (mObuf.view.loc (c : Thread nD τ) ↦{fullShare} f))) ∗ (rSt c fw 0 .free ∗ rSt c fw 1 .free ∗ rSt c fw 2 .free ∗ rSt c fw 3 .free ∗ rSt c fw 4 .free ∗ rSt c fw 5 .free) ∗ (semVal ((c : Thread nD τ), SemLoc.dma cc0_scratch12.sem) 0 ∗ semVal ((c : Thread nD τ), SemLoc.dma cc0_scratch14.sem) 0 ∗ semVal ((c : Thread nD τ), SemLoc.dma ((cc0_scratch13.slice (Rect.unit (s := S4) ![0] S1.size inb_S4_S1_0)).squeeze S_ squeezes_S1_S_).sem) 0 ∗ semVal ((c : Thread nD τ), SemLoc.dma ((cc0_scratch13.slice (Rect.unit (s := S4) ![1] S1.size inb_S4_S1_1)).squeeze S_ squeezes_S1_S_).sem) 0 ∗ semVal ((c : Thread nD τ), SemLoc.dma ((cc0_scratch13.slice (Rect.unit (s := S4) ![2] S1.size inb_S4_S1_2)).squeeze S_ squeezes_S1_S_).sem) 0 ∗ semVal ((c : Thread nD τ), SemLoc.dma ((cc0_scratch13.slice (Rect.unit (s := S4) ![3] S1.size inb_S4_S1_3)).squeeze S_ squeezes_S1_S_).sem) 0) ∗ (semVal ((c : Thread nD τ), SemLoc.dma ((cc0_scratch16.slice (Rect.unit (s := S2) ![0] S1.size inb_S2_S1_0)).squeeze S_ squeezes_S1_S_).sem) 0 ∗ semVal ((c : Thread nD τ), SemLoc.dma ((cc0_scratch16.slice (Rect.unit (s := S2) ![1] S1.size inb_S2_S1_1)).squeeze S_ squeezes_S1_S_).sem) 0) ∗ ∃ Wt, owes (c : Thread nD τ) 0 Wt) -∗ Q ⟨⟩))
      ⊢ wp frame (wpE defs₀ 𝒱₀ (c : Thread nD τ) none) Set.univ (cc0_moe_down_combine (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16) Q := by
  iintro ⟨⟨HI, Hz, HS, Yh, Yx, Ya, Yo, Yb, HR, HM, ⟨O0, O1⟩, HO⟩, Hk⟩
  sl_rw [cc0_moe_down_combine_eq_skeleton]
  sl_unfold [cc0_moe_down_combine_skel]
  iapply (Entails.of_eq (wp_bind ..).symm)
  iapply (r185 c xg xh xc xt xs xw yg yc yt ys yw yl yh yx ya yo yb fw hs hc W0 _)
  isplitl [HI HS Yh Yx Ya Yo Yb HR HM HO]
  · isplitl [HI]; · iexact HI
    isplitl [HS]; · iexact HS
    isplitl [Yh]; · iexact Yh
    isplitl [Yx]; · iexact Yx
    isplitl [Ya]; · iexact Ya
    isplitl [Yo]; · iexact Yo
    isplitl [Yb]; · iexact Yb
    isplitl [HR]; · iexact HR
    isplitl [HM]; · iexact HM
    iexact HO
  iintro %n %fl %fh %fs %o %b %hw2 %hI ⟨HU, HT, Yb, HI, Yg, Ys, HM⟩
  ihave Hz := (pointsTo_split_subset (ℓ := aOut.view.loc (c : Thread nD τ)) (Finset.subset_univ ot0.view.set)).1 $$ [Hz]
  · iexact Hz
  icases Hz with ⟨Z0, Z1⟩
  iapply (Entails.of_eq (wp_bind ..).symm)
  iapply (r186 c hI.1 hw2 fl hI.2.1 fw fs _ fh _ hc _ o b hI.2.2.2.2 z _)
  isplitl [HU HT Yb Z0 O0]
  · isplitl [HU]; · iexact HU
    isplitl [HT]; · iexact HT
    isplitl [Yb]; · iexact Yb
    isplitl [Z0]; · iexact Z0
    iexact O0
  iintro %o2 %b2 %b0 ⟨⟨HR, Hl, Hh, Hx, Hw, Ha, ⟨%W2, HO⟩⟩, ⟨Yc, Yt, Yo⟩, Yb, HF, %hf⟩
  sl_exec
  sl_step
  iapply Hk
  isplitl [HI]; · iexact HI
  isplitl [HF_dst Z1]
  · ihave Z := (pointsTo_join_subset (ℓ := aOut.view.loc (c : Thread nD τ)) (Finset.subset_univ ot0.view.set)) $$ [HF_dst Z1]
    · isplitl [HF_dst]; · iexact HF_dst
      iexact Z1
    iexists _
    isplitl [Z]; · iexact Z
    ipureintro
    exact ⟨n, fl, fh, fs, o, o2, hI.1, hI.2.2.1, hI.2.2.2.1, hf.2.1, OutOK.mk z hf.1 hf.2.2⟩
  isplitl [Yg Yc Yt Ys Hw Hl Hh Hx Ha Yo HF_src Yb]
  · isplitl [Yg]
    · iexists _; iexact Yg
    isplitl [Yc]
    · iexists _; iexact Yc
    isplitl [Yt]
    · iexists _; iexact Yt
    isplitl [Ys]
    · iexists _; iexact Ys
    isplitl [Hw]
    · iexists _; iexact Hw
    isplitl [Hl]
    · iexists _; iexact Hl
    isplitl [Hh]
    · iexists _; iexact Hh
    isplitl [Hx]
    · iexists _; iexact Hx
    isplitl [Ha]; · iexact Ha
    isplitl [Yo]
    · iexists _; iexact Yo
    ihave Z := (pointsTo_join_subset (ℓ := mObuf.view.loc (c : Thread nD τ)) (Finset.subset_univ ob0.view.set)) $$ [HF_src Yb]
    · isplitl [HF_src]; · iexact HF_src
      iexact Yb
    iexists _; iexact Z
  isplitl [HR]
  · iapply (rings_elim c fw fl n); iexact HR
  isplitl [HM]; · iexact HM
  isplitl [HF O1]
  · isplitl [HF]; · iexact HF
    iexact O1
  iexists _; iexact HO

end Cert.Proof.K

end
-- ==== Proof.K.Run.lean ====
/-
  The launch: from the body to the run of the whole program.
-/
module

public import proofs.«01_k».proof.Proof.K.Body
public import proofs.«01_k».proof.Proof.Gen.KernelIdeal.Frame
public import Idealize.ShloMosaic.Lib.StableHlo.RunRead

@[expose] public section

set_option maxRecDepth 16384
set_option maxHeartbeats 4000000

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.ValueIdx (ix1 ix2 ix3)

variable {F : FTy → Type} [FloatOps F]
local notation "𝕄" => MT nD τ sig Unit (Elt F) ℕ (UU nD τ) ℕ

variable (m : (ℓ : Loc nD τ sig) → Buf (Elt F) ℓ) (ρ : Dev nD → PrngReg)

/-! ## The six slots of the ring buffer -/

/-- Slot `s` of the ring buffer. -/
def Rs (s : Fin 6) : Finset S6x1408x3072.Idx := (Rect.unit (s := S6x1408x3072) ![s.val, 0, 0] S1x1408x3072.size (inbSlot s)).set

theorem mem_Rs (s : Fin 6) (y : S6x1408x3072.Idx) : y ∈ Rs s ↔ (y (0 : Fin 3)).val = s.val := by
  unfold Rs
  rw [Rect.mem_set_unit]
  have h1 : (y (1 : Fin 3)).val < 1408 := (y (1 : Fin 3)).isLt
  have h2 : (y (2 : Fin 3)).val < 3072 := (y (2 : Fin 3)).isLt
  constructor
  · intro H; have a0 : s.val ≤ (y (0 : Fin 3)).val ∧ (y (0 : Fin 3)).val < s.val + 1 := H 0; omega
  · intro H i; fin_cases i
    · show s.val ≤ (y (0 : Fin 3)).val ∧ (y (0 : Fin 3)).val < s.val + 1; omega
    · show 0 ≤ (y (1 : Fin 3)).val ∧ (y (1 : Fin 3)).val < 0 + 1408; omega
    · show 0 ≤ (y (2 : Fin 3)).val ∧ (y (2 : Fin 3)).val < 0 + 3072; omega
theorem Rs_disjoint : ∀ s s' : Fin 6, s ≠ s' → Disjoint (Rs s) (Rs s') := by
  intro s s' hne; rw [Finset.disjoint_left]; intro y hy hy'; rw [mem_Rs] at hy hy'; exact hne (Fin.ext (hy.symm.trans hy'))
theorem Rs_cover : (Finset.univ : Finset (Fin 6)).biUnion Rs = Finset.univ := by
  ext y; simp only [Finset.mem_biUnion, Finset.mem_univ, true_and, iff_true]; exact ⟨(y (0 : Fin 3)).cast (by decide), by rw [mem_Rs]; rfl⟩

omit [FloatOps F] in
theorem bigSep_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- Slot `s` held whole, at contents `f`. -/
abbrev slotP (c : Dev nD) (s : Fin 6) (f : Buf (Elt F) ((rslot s).view.loc (c : Thread nD τ))) : sProp 𝕄 := iprop((rslot s).view.loc (c : Thread nD τ) ↦[(rslot s).view.set]{fullShare} f)
omit [FloatOps F] in
theorem slotP_eq (c : Dev nD) (s : Fin 6) (f : Buf (Elt F) ((c : Thread nD τ).loc cc0_scratch8)) : slotP c s f = (((c : Thread nD τ).loc cc0_scratch8) ↦[Rs s]{fullShare} f : sProp 𝕄) :=
  congrArg (fun S => (_ ↦[S]{fullShare} f : sProp 𝕄)) (rslot_set s)

/-- The ring buffer whole is its six slots, -/
theorem ring_split (c : Dev nD) :
    iprop(∃ f : Buf (Elt F) ((c : Thread nD τ).loc cc0_scratch8), ((c : Thread nD τ).loc cc0_scratch8) ↦{fullShare} f)
      ⊢ (iprop((∃ f, slotP c 0 f) ∗ (∃ f, slotP c 1 f) ∗ (∃ f, slotP c 2 f) ∗ (∃ f, slotP c 3 f) ∗ (∃ f, slotP c 4 f) ∗ (∃ f, slotP c 5 f)) : sProp 𝕄) := by
  iintro ⟨%f, H⟩
  ihave H2 := (Entails.of_eq ((Ring.pointsTo_blocks (Ix := Unit) (Name := ℕ) (U := UU nD τ) (Lvl := ℕ) (q := fullShare) (ℓ := (c : Thread nD τ).loc cc0_scratch8) Rs Rs_disjoint Rs_cover f).trans (bigSep_six _))) $$ H
  icases H2 with ⟨H0, H1, H2, H3, H4, H5⟩
  isplitl [H0]
  · iexists f; iapply (Entails.of_eq (slotP_eq c 0 f).symm); iexact H0
  isplitl [H1]
  · iexists f; iapply (Entails.of_eq (slotP_eq c 1 f).symm); iexact H1
  isplitl [H2]
  · iexists f; iapply (Entails.of_eq (slotP_eq c 2 f).symm); iexact H2
  isplitl [H3]
  · iexists f; iapply (Entails.of_eq (slotP_eq c 3 f).symm); iexact H3
  isplitl [H4]
  · iexists f; iapply (Entails.of_eq (slotP_eq c 4 f).symm); iexact H4
  iexists f; iapply (Entails.of_eq (slotP_eq c 5 f).symm); iexact H5

/-- and the six slots are the ring buffer whole. -/
theorem ring_join (c : Dev nD) :
    iprop((∃ f, slotP c 0 f) ∗ (∃ f, slotP c 1 f) ∗ (∃ f, slotP c 2 f) ∗ (∃ f, slotP c 3 f) ∗ (∃ f, slotP c 4 f) ∗ (∃ f, slotP c 5 f))
      ⊢ (iprop(∃ f : Buf (Elt F) ((c : Thread nD τ).loc cc0_scratch8), ((c : Thread nD τ).loc cc0_scratch8) ↦{fullShare} f) : sProp 𝕄) := by
  iintro ⟨⟨%f0, H0⟩, ⟨%f1, H1⟩, ⟨%f2, H2⟩, ⟨%f3, H3⟩, ⟨%f4, H4⟩, ⟨%f5, H5⟩⟩
  iapply (Ring.pointsTo_blocks_join_exists (ℓ := (c : Thread nD τ).loc cc0_scratch8) Rs Rs_disjoint Rs_cover f0)
  irw [bigSep_six]
  isplitl [H0]
  · iexists f0; iapply (Entails.of_eq (slotP_eq c 0 f0)); iexact H0
  isplitl [H1]
  · iexists f1; iapply (Entails.of_eq (slotP_eq c 1 f1)); iexact H1
  isplitl [H2]
  · iexists f2; iapply (Entails.of_eq (slotP_eq c 2 f2)); iexact H2
  isplitl [H3]
  · iexists f3; iapply (Entails.of_eq (slotP_eq c 3 f3)); iexact H3
  isplitl [H4]
  · iexists f4; iapply (Entails.of_eq (slotP_eq c 4 f4)); iexact H4
  iexists f5; iapply (Entails.of_eq (slotP_eq c 5 f5)); iexact H5

/-- A free slot is its semaphore at zero, the slot and its share of the weight codes. -/
theorem rFree_rSt (c : Dev nD) (fw) (s : Fin 6) : (rFree c fw s : sProp 𝕄) ⊢ rSt c fw s .free := .rfl
theorem rSt_rFree (c : Dev nD) (fw) (s : Fin 6) : (rSt c fw s .free : sProp 𝕄) ⊢ rFree c fw s := .rfl

/-! ## The kernel's own semaphores -/

/-- The fourteen DMA semaphores of the kernel, in order. -/
def osem : Fin 14 → SemLoc sig := fun i => .dma i
theorem ownSemFacts : Pipeline.OwnSemFacts cfg0.spec osem := by decide

omit [FloatOps F] in
/-- The kernel's own semaphores at zero, one by one. -/
theorem ownSems0_eq (c : Dev nD) : (Pipeline.ownSems0 (Ix := Unit) (Name := ℕ) (U := UU nD τ) (Lvl := ℕ) (Val := Elt F) (τ := τ) osem c : sProp 𝕄)
    = iprop(semVal ((c : Thread nD τ), SemLoc.dma cc0_scratch12.sem) 0 ∗ semVal ((c : Thread nD τ), SemLoc.dma ((cc0_scratch13.slice (Rect.unit (s := S4) ![0] S1.size inb_S4_S1_0)).squeeze S_ squeezes_S1_S_).sem) 0 ∗ semVal ((c : Thread nD τ), SemLoc.dma ((cc0_scratch13.slice (Rect.unit (s := S4) ![1] S1.size inb_S4_S1_1)).squeeze S_ squeezes_S1_S_).sem) 0 ∗ semVal ((c : Thread nD τ), SemLoc.dma ((cc0_scratch13.slice (Rect.unit (s := S4) ![2] S1.size inb_S4_S1_2)).squeeze S_ squeezes_S1_S_).sem) 0 ∗ semVal ((c : Thread nD τ), SemLoc.dma ((cc0_scratch13.slice (Rect.unit (s := S4) ![3] S1.size inb_S4_S1_3)).squeeze S_ squeezes_S1_S_).sem) 0 ∗ semVal ((c : Thread nD τ), SemLoc.dma cc0_scratch14.sem) 0 ∗ semVal ((c : Thread nD τ), SemLoc.dma (rcell 0).sem) 0 ∗ semVal ((c : Thread nD τ), SemLoc.dma (rcell 1).sem) 0 ∗ semVal ((c : Thread nD τ), SemLoc.dma (rcell 2).sem) 0 ∗ semVal ((c : Thread nD τ), SemLoc.dma (rcell 3).sem) 0 ∗ semVal ((c : Thread nD τ), SemLoc.dma (rcell 4).sem) 0 ∗ semVal ((c : Thread nD τ), SemLoc.dma (rcell 5).sem) 0 ∗ semVal ((c : Thread nD τ), SemLoc.dma ((cc0_scratch16.slice (Rect.unit (s := S2) ![0] S1.size inb_S2_S1_0)).squeeze S_ squeezes_S1_S_).sem) 0 ∗ semVal ((c : Thread nD τ), SemLoc.dma ((cc0_scratch16.slice (Rect.unit (s := S2) ![1] S1.size inb_S2_S1_1)).squeeze S_ squeezes_S1_S_).sem) 0) :=
  (bigSep_univ_eq_bigSepL [0, 1, 2, 3, 4, 5, 6, 7, 8, 9, 10, 11, 12, 13] (by decide) (by decide) _).trans rfl

/-! ## The region's data -/

/-- What the result holds after the region: `KVal` of the operands, whatever the tables' buffers held before. -/
def ZOK (c : Dev nD) (z : aOut.view.ty.Contents (Elt F)) : Prop :=
  ∃ yg yc yt ys yw, KVal (copied aGs mGs yg (V m c main_arg2)) (copied aHs mHs ys (V m c main_v8)) (V m c main_arg0) (copied aCi mCi yc (V m c main_v3)) (copied aTw mTw yt (V m c main_v7)) (copied aWs mWs yw (V m c main_arg4)) (V m c main_arg3) z

/-- What the region holds before its one point (`i` = 0) and after it (`i` = 1): the operands at their contents, the
    result, after the point at what the kernel computes, every scratch buffer at anything, the six slots free, every
    semaphore at zero. -/
def Φ (c : Dev nD) (i : ℕ) : sProp 𝕄 :=
  iprop(((aGs.view.loc (c : Thread nD τ) ↦{fullShare} V m c main_arg2) ∗ (aH.view.loc (c : Thread nD τ) ↦{fullShare} V m c main_arg0) ∗ (aCi.view.loc (c : Thread nD τ) ↦{fullShare} V m c main_v3) ∗ (aTw.view.loc (c : Thread nD τ) ↦{fullShare} V m c main_v7) ∗ (aHs.view.loc (c : Thread nD τ) ↦{fullShare} V m c main_v8) ∗ (aWs.view.loc (c : Thread nD τ) ↦{fullShare} V m c main_arg4))
    ∗ (∃ z, (aOut.view.loc (c : Thread nD τ) ↦{fullShare} z) ∗ ⌜i = 0 ∨ ZOK m c z⌝)
    ∗ ((∃ f, (mGs.view.loc (c : Thread nD τ) ↦{fullShare} f)) ∗ (∃ f, (mCi.view.loc (c : Thread nD τ) ↦{fullShare} f)) ∗ (∃ f, (mTw.view.loc (c : Thread nD τ) ↦{fullShare} f)) ∗ (∃ f, (mHs.view.loc (c : Thread nD τ) ↦{fullShare} f)) ∗ (∃ f, (mWs.view.loc (c : Thread nD τ) ↦{fullShare} f)) ∗ (∃ f, (mLive.view.loc (c : Thread nD τ) ↦{fullShare} f)) ∗ (∃ f, (mH.view.loc (c : Thread nD τ) ↦{fullShare} f)) ∗ (∃ f, (mHsx.view.loc (c : Thread nD τ) ↦{fullShare} f)) ∗ (∃ f, (mAcc.view.loc (c : Thread nD τ) ↦{fullShare} f)) ∗ (∃ f, (mOtok.view.loc (c : Thread nD τ) ↦{fullShare} f)) ∗ (∃ f, (mObuf.view.loc (c : Thread nD τ) ↦{fullShare} f)))
    ∗ (rSt c (V m c main_arg3) 0 .free ∗ rSt c (V m c main_arg3) 1 .free ∗ rSt c (V m c main_arg3) 2 .free ∗ rSt c (V m c main_arg3) 3 .free ∗ rSt c (V m c main_arg3) 4 .free ∗ rSt c (V m c main_arg3) 5 .free)
    ∗ (semVal ((c : Thread nD τ), SemLoc.dma cc0_scratch12.sem) 0 ∗ semVal ((c : Thread nD τ), SemLoc.dma cc0_scratch14.sem) 0 ∗ semVal ((c : Thread nD τ), SemLoc.dma ((cc0_scratch13.slice (Rect.unit (s := S4) ![0] S1.size inb_S4_S1_0)).squeeze S_ squeezes_S1_S_).sem) 0 ∗ semVal ((c : Thread nD τ), SemLoc.dma ((cc0_scratch13.slice (Rect.unit (s := S4) ![1] S1.size inb_S4_S1_1)).squeeze S_ squeezes_S1_S_).sem) 0 ∗ semVal ((c : Thread nD τ), SemLoc.dma ((cc0_scratch13.slice (Rect.unit (s := S4) ![2] S1.size inb_S4_S1_2)).squeeze S_ squeezes_S1_S_).sem) 0 ∗ semVal ((c : Thread nD τ), SemLoc.dma ((cc0_scratch13.slice (Rect.unit (s := S4) ![3] S1.size inb_S4_S1_3)).squeeze S_ squeezes_S1_S_).sem) 0)
    ∗ (semVal ((c : Thread nD τ), SemLoc.dma ((cc0_scratch16.slice (Rect.unit (s := S2) ![0] S1.size inb_S2_S1_0)).squeeze S_ squeezes_S1_S_).sem) 0 ∗ semVal ((c : Thread nD τ), SemLoc.dma ((cc0_scratch16.slice (Rect.unit (s := S2) ![1] S1.size inb_S2_S1_1)).squeeze S_ squeezes_S1_S_).sem) 0))

/-- No window is staged, so the proof data is the region's assertion alone. -/
def dats (_ : Fin 1) (c : Dev nD) : Dat τ (Elt F) Unit ℕ (UU nD τ) ℕ cfg0 c where
  A w := w.elim0
  after w t := w.elim0
  Φ i := Φ m c i.val
  q _ := fullShare
  owed _ := 0

omit [FloatOps F] in
theorem bigSep_W0 (Φ : Fin 0 → sProp 𝕄) : bigSep Finset.univ Φ = BI.emp := bigSep_univ_eq_bigSepL [] (by decide) (by decide) Φ

/-- The precondition as the proof uses it: the counts add to 1024 and every row number is below 1024, as the words
    the kernel copies in. -/
def PreOK : Prop := ∀ c : Dev nD, (∀ y, pre (copied aGs mGs y (V m c main_arg2)) 15 = 1024) ∧ ∀ y, CiOK (copied aCi mCi y (V m c main_v3))

def bodyK : Prog (TpuEff nD τ sig (Elt F) Λ₀ .tc) PUnit :=
  cc0_moe_down_combine (F := F) aGs (Memref.isWhole_whole _) aCi (Memref.isWhole_whole _) aTw (Memref.isWhole_whole _) aHs (Memref.isWhole_whole _) aH (Memref.isWhole_whole _) aW (Memref.isWhole_whole _) aWs (Memref.isWhole_whole _) aOut (Memref.isWhole_whole _) mGs (Memref.isWhole_whole _) mCi (Memref.isWhole_whole _) mTw (Memref.isWhole_whole _) mLive (Memref.isWhole_whole _) mHs (Memref.isWhole_whole _) mH (Memref.isWhole_whole _) mWs (Memref.isWhole_whole _) mHsx (Memref.isWhole_whole _) mRing (Memref.isWhole_whole _) mAcc (Memref.isWhole_whole _) mOtok (Memref.isWhole_whole _) mObuf (Memref.isWhole_whole _) cc0_scratch12 cc0_scratch13 cc0_scratch14 cc0_scratch15 cc0_scratch16

theorem defs_tc : (defs₀ (F := F)) .tc cfg0.body = fun _ => bodyK (F := F) := rfl
theorem prog_eq (t : Fin cfg0.N) : (defs₀ (F := F)) .tc cfg0.body (cfg0.bodyArgs t (cfg0.slots t)) = bodyK (F := F) :=
  (congrFun defs_tc _).trans rfl

set_option backward.isDefEq.respectTransparency.types false in
theorem body_obligation [∀ e, Nonempty (Elt F e)] (h : PreOK m) (c : Dev nD) : BodyObligation (dats (F := F) m 0 c) (defs₀ (F := F)) 𝒱₀ () Set.univ := fun t => by
  rw [bigSep_W0, bigSep_W0]
  dsimp only
  have ht : t.val = 0 := Nat.lt_one_iff.mp t.isLt
  rw [show (dats m 0 c).Φ t.castSucc = Φ m c t.val from rfl, show (dats m 0 c).Φ t.succ = Φ m c (t.val + 1) from rfl]
  unfold Dat.owesAt Pipeline.owesWithin
  rw [show (dats m 0 c).owed t.castSucc = 0 from rfl, show (dats m 0 c).owed t.succ = 0 from rfl]
  unfold Φ
  iintro ⟨⟨HI, ⟨%z, HZ, -⟩, ⟨⟨%y0, Y0⟩, ⟨%y1, Y1⟩, ⟨%y2, Y2⟩, ⟨%y3, Y3⟩, ⟨%y4, Y4⟩, ⟨%y5, Y5⟩, ⟨%y6, Y6⟩, ⟨%y7, Y7⟩, ⟨%y8, Y8⟩, ⟨%y9, Y9⟩, ⟨%y10, Y10⟩⟩, HR, HM, HU⟩, ⟨%W, -, HW⟩, -⟩
  sl_rw [prog_eq t]
  sl_unfold [bodyK]
  iapply (body_wp c (V m c main_arg2) (V m c main_arg0) (V m c main_v3) (V m c main_v7) (V m c main_v8) (V m c main_arg4) y0 y1 y2 y3 y4 y5 y6 y7 y8 y9 y10 (V m c main_arg3) z ((h c).1 _) ((h c).2 _) W _)
  isplitl [HI HZ Y0 Y1 Y2 Y3 Y4 Y5 Y6 Y7 Y8 Y9 Y10 HR HM HU HW]
  · isplitl [HI]; · iexact HI
    isplitl [HZ]; · iexact HZ
    isplitl [Y0 Y1 Y2 Y3 Y4 Y5]
    · isplitl [Y0]; · iexact Y0
      isplitl [Y1]; · iexact Y1
      isplitl [Y2]; · iexact Y2
      isplitl [Y3]; · iexact Y3
      isplitl [Y4]; · iexact Y4
      iexact Y5
    isplitl [Y6]; · iexact Y6
    isplitl [Y7]; · iexact Y7
    isplitl [Y8]; · iexact Y8
    isplitl [Y9]; · iexact Y9
    isplitl [Y10]; · iexact Y10
    isplitl [HR]; · iexact HR
    isplitl [HM]; · iexact HM
    isplitl [HU]; · iexact HU
    iexact HW
  iintro ⟨HI, ⟨%z', HZ, %hz⟩, HS, HR, HM, HU, ⟨%W', HW⟩⟩
  isplitl [HI HZ HS HR HM HU]
  · isplitl [HI]; · iexact HI
    isplitl [HZ]
    · iexists z'
      isplitl [HZ]; · iexact HZ
      ipureintro
      exact Or.inr ⟨_, _, _, _, _, hz⟩
    isplitl [HS]; · iexact HS
    isplitl [HR]; · iexact HR
    isplitl [HM]; · iexact HM
    iexact HU
  isplitl [HW]
  · iexists W'; isplitr; · ipureintro; exact fun _ _ => Or.inl trivial
    iexact HW
  iempintro

/-! ## The run -/

abbrev EP : Emb (UR sig nD τ) (MT nD τ sig Unit (Elt F) ℕ (UU nD τ) ℕ) := embL
def u₀ : UU nD τ := (initOf (Pipeline.cells cfgs cellOf_inj) (Pipeline.launchToks cfgs cellOf_inj), 1)

/-- What of the weight codes stays outside the region: the share its six slots do not take. -/
def wRest (c : Dev nD) : sProp 𝕄 := iprop((c : Thread nD τ).loc main_arg3 ↦[Finset.univ]{Transfers.shareDrop fullShare 6} V m c main_arg3)
def outIns (c : Dev nD) : sProp 𝕄 :=
  iprop(((c : Thread nD τ).loc main_arg1 ↦{fullShare} V m c main_arg1) ∗ ((c : Thread nD τ).loc main_arg5 ↦{fullShare} V m c main_arg5)
    ∗ ((c : Thread nD τ).loc main_arg6 ↦{fullShare} V m c main_arg6) ∗ wRest m c)
def toIns (c : Dev nD) : sProp 𝕄 :=
  iprop(((aGs.view.loc (c : Thread nD τ) ↦{fullShare} V m c main_arg2) ∗ (aH.view.loc (c : Thread nD τ) ↦{fullShare} V m c main_arg0) ∗ (aCi.view.loc (c : Thread nD τ) ↦{fullShare} V m c main_v3) ∗ (aTw.view.loc (c : Thread nD τ) ↦{fullShare} V m c main_v7) ∗ (aHs.view.loc (c : Thread nD τ) ↦{fullShare} V m c main_v8) ∗ (aWs.view.loc (c : Thread nD τ) ↦{fullShare} V m c main_arg4)) ∗ (∃ z, (aOut.view.loc (c : Thread nD τ) ↦{fullShare} z)) ∗ (bigSep Finset.univ fun s => tokW c s Finset.univ (V m c main_arg3)) ∗ Pipeline.ownSems0 osem c)
def ofIns (c : Dev nD) : sProp 𝕄 := iprop(((aGs.view.loc (c : Thread nD τ) ↦{fullShare} V m c main_arg2) ∗ (aH.view.loc (c : Thread nD τ) ↦{fullShare} V m c main_arg0) ∗ (aCi.view.loc (c : Thread nD τ) ↦{fullShare} V m c main_v3) ∗ (aTw.view.loc (c : Thread nD τ) ↦{fullShare} V m c main_v7) ∗ (aHs.view.loc (c : Thread nD τ) ↦{fullShare} V m c main_v8) ∗ (aWs.view.loc (c : Thread nD τ) ↦{fullShare} V m c main_arg4)) ∗ (∃ z, (aOut.view.loc (c : Thread nD τ) ↦{fullShare} z) ∗ ⌜ZOK m c z⌝))

/-- What a final state shows: every operand of the program as it was, and the result. -/
def QY (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1) ∧ s.mem ((c : Thread nD τ).loc main_arg2) = m ((c : Thread nD τ).loc main_arg2) ∧ s.mem ((c : Thread nD τ).loc main_arg3) = m ((c : Thread nD τ).loc main_arg3) ∧ s.mem ((c : Thread nD τ).loc main_arg4) = m ((c : Thread nD τ).loc main_arg4) ∧ s.mem ((c : Thread nD τ).loc main_arg5) = m ((c : Thread nD τ).loc main_arg5) ∧ s.mem ((c : Thread nD τ).loc main_arg6) = m ((c : Thread nD τ).loc main_arg6) ∧ ZOK m c (s.mem ((c : Thread nD τ).loc main_v9))

set_option backward.isDefEq.respectTransparency.types false in
/-- From any memory with zero counters that meets the precondition, every weakly fair execution of the program
    terminates, and every final state has the operands unchanged, the result at what the kernel computes, and every semaphore counter at zero. -/
theorem run_main [∀ e, Nonempty (Elt F e)] (h : PreOK m) : θ_run defs (onTc (τ := τ) (main (F := F))) (s₀ m ρ) (fun r => (∀ c, QY m c r.2) ∧ r.2.sem = fun _ => 0) :=
  Pipeline.θ_run_region_kit_quiescent cfgs (dats m) () (0 : Fin 1) launch0 ownSemFacts EP defs₀ 𝒱₀ m ρ main
    (hbody := fun c => (body_obligation m h c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ w => w.elim0)
    (X := toIns m) (Y := ofIns m) (Z := outIns m)
    (hX := fun c => by
      rw [unscopedRest0_eq]
      unfold toIns outIns wRest
      iintro ⟨⟨A0, A1, A2, A3, A4, A5, A6, -, -, -, V3, -, -, -, V7, V8, V9⟩, HS, -, -, -⟩
      ihave T := (Transfers.pointsTo_toks_split fullShare 6) $$ [A3]
      · iexact A3
      icases T with ⟨TD, TT⟩
      imodintro
      isplitl [A0 A2 A4 V3 V7 V8 V9 TT HS]
      · isplitl [A0 A2 A4 V3 V7 V8]
        · isplitl [A2]; · iexact A2
          isplitl [A0]; · iexact A0
          isplitl [V3]; · iexact V3
          isplitl [V7]; · iexact V7
          isplitl [V8]; · iexact V8
          iexact A4
        isplitl [V9]
        · iexists _; iexact V9
        isplitl [TT]; · iexact TT
        iexact HS
      isplitl [A1]; · iexact A1
      isplitl [A5]; · iexact A5
      isplitl [A6]; · iexact A6
      iexact TD)
    (hin := fun c => by
      rw [scopedRest0_eq, show (dats m 0 c).Φ 0 = Φ m c 0 from rfl]
      unfold toIns Φ; rw [ownSems0_eq, bigSep_six]
      iintro ⟨⟨HI, ⟨%z, HZ⟩, ⟨T0, T1, T2, T3, T4, T5⟩, ⟨G, T0_, T1_, T2_, T3_, H, R0, R1, R2, R3, R4, R5, O0, O1⟩⟩, ⟨B4, B5, B6, B7, B8, B9, B10, B11, B0, B1, B2, B3⟩⟩
      ihave Hs := (ring_split c) $$ B8
      icases Hs with ⟨L0, L1, L2, L3, L4, L5⟩
      isplitl [HI]; · iexact HI
      isplitl [HZ]
      · iexists z
        isplitl [HZ]; · iexact HZ
        ipureintro
        exact Or.inl rfl
      isplitl [B4 B5 B6 B7 B9 B10 B11 B0 B1 B2 B3]
      · isplitl [B0]; · iexact B0
        isplitl [B1]; · iexact B1
        isplitl [B2]; · iexact B2
        isplitl [B4]; · iexact B4
        isplitl [B6]; · iexact B6
        isplitl [B3]; · iexact B3
        isplitl [B5]; · iexact B5
        isplitl [B7]; · iexact B7
        isplitl [B9]; · iexact B9
        isplitl [B10]; · iexact B10
        iexact B11
      isplitl [L0 T0 R0 L1 T1 R1 L2 T2 R2 L3 T3 R3 L4 T4 R4 L5 T5 R5]
      · isplitl [L0 T0 R0]
        · iapply (rFree_rSt c _ 0)
          isplitl [R0]; · iexact R0
          isplitl [L0]; · iexact L0
          iexact T0
        isplitl [L1 T1 R1]
        · iapply (rFree_rSt c _ 1)
          isplitl [R1]; · iexact R1
          isplitl [L1]; · iexact L1
          iexact T1
        isplitl [L2 T2 R2]
        · iapply (rFree_rSt c _ 2)
          isplitl [R2]; · iexact R2
          isplitl [L2]; · iexact L2
          iexact T2
        isplitl [L3 T3 R3]
        · iapply (rFree_rSt c _ 3)
          isplitl [R3]; · iexact R3
          isplitl [L3]; · iexact L3
          iexact T3
        isplitl [L4 T4 R4]
        · iapply (rFree_rSt c _ 4)
          isplitl [R4]; · iexact R4
          isplitl [L4]; · iexact L4
          iexact T4
        iapply (rFree_rSt c _ 5)
        isplitl [R5]; · iexact R5
        isplitl [L5]; · iexact L5
        iexact T5
      isplitl [G H T0_ T1_ T2_ T3_]
      · isplitl [G]; · iexact G
        isplitl [H]; · iexact H
        isplitl [T0_]; · iexact T0_
        isplitl [T1_]; · iexact T1_
        isplitl [T2_]; · iexact T2_
        iexact T3_
      isplitl [O0]; · iexact O0
      iexact O1)
    (hout := fun c => by
      rw [scopedRest0_eq, show (dats m 0 c).Φ (Fin.last cfg0.N) = Φ m c 1 from rfl, ownSems0_eq]
      unfold Φ ofIns
      iintro ⟨HI, ⟨%z, HZ, %hz⟩, ⟨B0, B1, B2, B4, B6, B3, B5, B7, B9, B10, B11⟩, ⟨Q0, Q1, Q2, Q3, Q4, Q5⟩, ⟨G, H, T0_, T1_, T2_, T3_⟩, ⟨O0, O1⟩⟩
      ihave Q0 := (rSt_rFree c _ 0) $$ Q0
      icases Q0 with ⟨R0, L0, -⟩
      ihave Q1 := (rSt_rFree c _ 1) $$ Q1
      icases Q1 with ⟨R1, L1, -⟩
      ihave Q2 := (rSt_rFree c _ 2) $$ Q2
      icases Q2 with ⟨R2, L2, -⟩
      ihave Q3 := (rSt_rFree c _ 3) $$ Q3
      icases Q3 with ⟨R3, L3, -⟩
      ihave Q4 := (rSt_rFree c _ 4) $$ Q4
      icases Q4 with ⟨R4, L4, -⟩
      ihave Q5 := (rSt_rFree c _ 5) $$ Q5
      icases Q5 with ⟨R5, L5, -⟩
      isplitl [HI HZ]
      · isplitl [HI]; · iexact HI
        iexists z
        isplitl [HZ]; · iexact HZ
        ipureintro
        exact hz.resolve_left (by decide)
      isplitl [G H T0_ T1_ T2_ T3_ R0 R1 R2 R3 R4 R5 O0 O1]
      · isplitl [G]; · iexact G
        isplitl [T0_]; · iexact T0_
        isplitl [T1_]; · iexact T1_
        isplitl [T2_]; · iexact T2_
        isplitl [T3_]; · iexact T3_
        isplitl [H]; · iexact H
        isplitl [R0]; · iexact R0
        isplitl [R1]; · iexact R1
        isplitl [R2]; · iexact R2
        isplitl [R3]; · iexact R3
        isplitl [R4]; · iexact R4
        isplitl [R5]; · iexact R5
        isplitl [O0]; · iexact O0
        iexact O1
      ihave B8 := (ring_join c) $$ [L0 L1 L2 L3 L4 L5]
      · isplitl [L0]; · iexact L0
        isplitl [L1]; · iexact L1
        isplitl [L2]; · iexact L2
        isplitl [L3]; · iexact L3
        isplitl [L4]; · iexact L4
        iexact L5
      isplitl [B4]; · iexact B4
      isplitl [B5]; · iexact B5
      isplitl [B6]; · iexact B6
      isplitl [B7]; · iexact B7
      isplitl [B8]; · iexact B8
      isplitl [B9]; · iexact B9
      isplitl [B10]; · iexact B10
      isplitl [B11]; · iexact B11
      isplitl [B0]; · iexact B0
      isplitl [B1]; · iexact B1
      isplitl [B2]; · iexact B2
      iexact B3)
    (QY := QY m)
    (hY := fun c s' => by
      unfold ofIns outIns wRest
      iintro ⟨⟨⟨A2, A0, -, -, -, A4⟩, ⟨%z, HZ, %hz⟩⟩, ⟨A1, A5, A6, A3⟩, HSI⟩
      icombine HSI A0 gives %h0
      icombine HSI A1 gives %h1
      icombine HSI A2 gives %h2
      icombine HSI A3 gives %h3
      icombine HSI A4 gives %h4
      icombine HSI A5 gives %h5
      icombine HSI A6 gives %h6
      icombine HSI HZ gives %h9
      imodintro
      isplitr
      · ipureintro
        exact ⟨(Buf.eq_of_forall_mem_univ h0).trans (V_main_arg0 m c), (Buf.eq_of_forall_mem_univ h1).trans (V_main_arg1 m c), (Buf.eq_of_forall_mem_univ h2).trans (V_main_arg2 m c), (Buf.eq_of_forall_mem_univ h3).trans (V_main_arg3 m c), (Buf.eq_of_forall_mem_univ h4).trans (V_main_arg4 m c), (Buf.eq_of_forall_mem_univ h5).trans (V_main_arg5 m c), (Buf.eq_of_forall_mem_univ h6).trans (V_main_arg6 m c), (show s'.mem.mem ((c : Thread nD τ).loc main_v9) = z from Buf.eq_of_forall_mem_univ h9) ▸ hz⟩
      iexact HSI)
    (hQ := fun s hs hz => ⟨fun c => (hs c).2, hz⟩)

end Cert.Proof.K

end
-- ==== Proof.K.Routed.lean ====
/-
  What the precondition says of the words it is read on.
-/
module

public import proofs.«01_k».proof.Pre_routed
public import Idealize.ShloMosaic.Lib.Pipeline.Value
public import Idealize.ShloMosaic.Lib.ValueIdx

@[expose] public section

set_option maxRecDepth 16384
set_option maxHeartbeats 4000000

noncomputable section

namespace Cert.Pre_routed

open Idealize.ShloMosaic
open Idealize.ShloMosaic.ValueIdx (ix1 ix2 ix3)

/-- The shape relations the precondition's operations take. -/
theorem facts : Facts := by constructor <;> decide

variable [Facts]

/-- One count cut out of the fifteen. -/
theorem cut {k : ℕ} (hk : k < 15) (g : S15.Idx → BitVec 32) (h : S15.Slices ![k] S1) (i : S1.Idx) :
    extractStridedSlice S1 ![k] g h i = g (ix1 ⟨k, hk⟩) := by
  refine extractStridedSlice_apply ![k] g h i _ (fun a => ?_)
  have hi : (i 0).val < 1 := (i 0).isLt
  fin_cases a
  show k = k + (i 0).val
  omega

theorem ofBool_and (p q : Bool) : IntOp.andi (BitVec.ofBool p) (BitVec.ofBool q) = BitVec.ofBool (p && q) := by
  cases p <;> cases q <;> decide
theorem ofBool_one (p : Bool) : (BitVec.ofBool p = 1#1) ↔ p = true := by cases p <;> decide

theorem toNat_le {x : BitVec 32} (h0 : (0#32).sle x = true) (h1 : x.sle 1024#32 = true) : x.toNat ≤ 1024 := by
  rw [BitVec.sle_eq_decide, decide_eq_true_eq] at h0 h1
  have e0 : (0#32 : BitVec 32).toInt = 0 := by decide
  have e1 : (1024#32 : BitVec 32).toInt = 1024 := by decide
  rw [e0] at h0; rw [e1] at h1
  have e := BitVec.toInt_eq_toNat_cond x
  split at e <;> omega
theorem toNat_lt {x : BitVec 32} (h0 : (0#32).sle x = true) (h1 : x.slt 1024#32 = true) : x.toNat < 1024 := by
  rw [BitVec.sle_eq_decide, decide_eq_true_eq] at h0
  rw [BitVec.slt_eq_decide, decide_eq_true_eq] at h1
  have e0 : (0#32 : BitVec 32).toInt = 0 := by decide
  have e1 : (1024#32 : BitVec 32).toInt = 1024 := by decide
  rw [e0] at h0; rw [e1] at h1
  have e := BitVec.toInt_eq_toNat_cond x
  split at e <;> omega

/-- Where the precondition holds, every count is at most 1024, they add to 1024, and every row number is below 1024. -/
theorem of_fn {F : FTy → Type} [FloatOps F] (a0 a1 a2 a3 a4 a5 a6)
    (h : fn (F := F) a0 a1 a2 a3 a4 a5 a6 = fun _ => 1#1) :
    (∀ j : Fin 15, (a2 (ix1 j) : BitVec 32).toNat ≤ 1024) ∧ (∑ j : Fin 15, (a2 (ix1 j) : BitVec 32).toNat) = 1024 ∧ ∀ i, (a5 i : BitVec 32).toNat < 1024 := by
  have e := fun i => congrFun h i
  have c0 := cut (k := 0) (by decide) a2
  have c1 := cut (k := 1) (by decide) a2
  have c2 := cut (k := 2) (by decide) a2
  have c3 := cut (k := 3) (by decide) a2
  have c4 := cut (k := 4) (by decide) a2
  have c5 := cut (k := 5) (by decide) a2
  have c6 := cut (k := 6) (by decide) a2
  have c7 := cut (k := 7) (by decide) a2
  have c8 := cut (k := 8) (by decide) a2
  have c9 := cut (k := 9) (by decide) a2
  have c10 := cut (k := 10) (by decide) a2
  have c11 := cut (k := 11) (by decide) a2
  have c12 := cut (k := 12) (by decide) a2
  have c13 := cut (k := 13) (by decide) a2
  have c14 := cut (k := 14) (by decide) a2
  simp only [fn, fn_part1, fn_part2, fn_part3, fn_part4, fn_part5, fn_part6, andi, addi, cmpi, broadcastInDim, constantI,
    IntOp.cmpi, IntOp.addi, c0, c1, c2, c3, c4, c5, c6, c7, c8, c9, c10, c11, c12, c13, c14, ofBool_and, ofBool_one, Bool.and_eq_true] at e
  have e0 := (e (ix2 0 0)).2
  obtain ⟨hs, ⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩⟩ := e0
  have k0 := toNat_le h0.1 h0.2
  have k1 := toNat_le h1.1 h1.2
  have k2 := toNat_le h2.1 h2.2
  have k3 := toNat_le h3.1 h3.2
  have k4 := toNat_le h4.1 h4.2
  have k5 := toNat_le h5.1 h5.2
  have k6 := toNat_le h6.1 h6.2
  have k7 := toNat_le h7.1 h7.2
  have k8 := toNat_le h8.1 h8.2
  have k9 := toNat_le h9.1 h9.2
  have k10 := toNat_le h10.1 h10.2
  have k11 := toNat_le h11.1 h11.2
  have k12 := toNat_le h12.1 h12.2
  have k13 := toNat_le h13.1 h13.2
  have k14 := toNat_le h14.1 h14.2
  refine ⟨fun j => ?_, ?_, fun i => toNat_lt (e i).1.1 (e i).1.2⟩
  · obtain ⟨j, hj⟩ := j
    interval_cases j <;> assumption
  · have hs := congrArg BitVec.toNat (of_decide_eq_true hs)
    simp only [BitVec.toNat_add, Nat.mod_add_mod] at hs
    have e1 : (1024#32 : BitVec 32).toNat = 1024 := by decide
    rw [e1] at hs
    rw [show (∑ j : Fin 15, (a2 (ix1 j) : BitVec 32).toNat) = (a2 (ix1 ⟨0, by decide⟩) : BitVec 32).toNat + (a2 (ix1 ⟨1, by decide⟩) : BitVec 32).toNat + (a2 (ix1 ⟨2, by decide⟩) : BitVec 32).toNat + (a2 (ix1 ⟨3, by decide⟩) : BitVec 32).toNat + (a2 (ix1 ⟨4, by decide⟩) : BitVec 32).toNat + (a2 (ix1 ⟨5, by decide⟩) : BitVec 32).toNat + (a2 (ix1 ⟨6, by decide⟩) : BitVec 32).toNat + (a2 (ix1 ⟨7, by decide⟩) : BitVec 32).toNat + (a2 (ix1 ⟨8, by decide⟩) : BitVec 32).toNat + (a2 (ix1 ⟨9, by decide⟩) : BitVec 32).toNat + (a2 (ix1 ⟨10, by decide⟩) : BitVec 32).toNat + (a2 (ix1 ⟨11, by decide⟩) : BitVec 32).toNat + (a2 (ix1 ⟨12, by decide⟩) : BitVec 32).toNat + (a2 (ix1 ⟨13, by decide⟩) : BitVec 32).toNat + (a2 (ix1 ⟨14, by decide⟩) : BitVec 32).toNat from by
      simp only [Fin.sum_univ_succ, Fin.sum_univ_zero]; simp only [add_assoc, add_zero]; rfl]
    rw [Nat.mod_eq_of_lt (by omega)] at hs
    exact hs

end Cert.Pre_routed

end
-- ==== Proof.K.Frame.lean ====
/-
  The frame of the whole program under its precondition.
-/
module

public import proofs.«01_k».proof.Proof.K.Run
public import proofs.«01_k».proof.Proof.K.Routed

@[expose] public section

set_option maxRecDepth 16384
set_option maxHeartbeats 4000000

noncomputable section

namespace Cert.Proof.K

open Cert.KernelIdeal Cert.KernelIdeal.Gen
open Idealize.ShloMosaic
open Idealize.ShloMosaic.TcCoe Idealize.ShloMosaic.Tactic
open Idealize.SL Idealize.SL.Sem
open Idealize.ShloMosaic.Pipeline
open Idealize.ShloMosaic.ValueIdx (ix1 ix2 ix3)

variable {F : FTy → Type} [FloatOps F]
variable (m : (ℓ : Loc nD τ sig) → Buf (Elt F) ℓ) (ρ : Dev nD → PrngReg)

/-- The row numbers as the kernel takes them: chunk by chunk of 128 tokens, and in each the four numbers in turn. -/
theorem V_v3_eq (c : Dev nD) : (V m c main_v3 : IVec S1024 32) = (shapeCast S1024 (transpose S2x4x128 [1, 0, 2] (shapeCast S4x2x128 (transpose S4x256 [1, 0] (m ((c : Thread nD τ).loc main_arg5) : IVec S256x4 32) transposes_S256x4_S4x256_1_0) shapeCasts_S4x256_S4x2x128) transposes_S4x2x128_S2x4x128_1_0_2) shapeCasts_S2x4x128_S1024 : IVec S1024 32) := by
  rfl

/-- Each of them is one of the argument's. -/
theorem V_main_v3 (c : Dev nD) (i : S1024.Idx) : ∃ j : S256x4.Idx, V m c main_v3 i = m ((c : Thread nD τ).loc main_arg5) j := by
  have h := congrFun (V_v3_eq m c) i
  exact ⟨_, h⟩

/-- A copy of a whole array reads as the array. -/
theorem read_copied {s : Shape} {e : EltTy} {sp sp' : Space} (a : Memref sig .tc sp s e) (a' : Memref sig .tc sp' s e) (y : a'.view.ty.Contents (Elt F)) (x : a.view.ty.Contents (Elt F)) :
    a'.view.read (Elt F) (copied a a' y x) = a.view.read (Elt F) x :=
  View.read_write_univ _ _

theorem preOK_of (h2 : ∀ c : Dev nD, (∑ j : Fin 15, (show BitVec 32 from m ((c : Thread nD τ).loc main_arg2) (ValueIdx.ix1 j)).toNat) = 1024)
    (h5 : ∀ (c : Dev nD) (i : S256x4.Idx), (show BitVec 32 from m ((c : Thread nD τ).loc main_arg5) i).toNat < 1024) : PreOK (F := F) m := by
  intro c
  refine ⟨fun y => ?_, fun y i => ?_⟩
  · refine Eq.trans ?_ (h2 c)
    unfold pre
    rw [Finset.sum_range]
    refine Finset.sum_congr rfl fun j _ => ?_
    unfold gw
    rw [dif_pos j.isLt, read_copied, V_main_arg2 m c]
    rfl
  · obtain ⟨j, hj⟩ := V_main_v3 m c i
    rw [read_copied]
    show (show BitVec 32 from V m c main_v3 i).toNat < 1024
    rw [hj]
    exact h5 c j

end Cert.Proof.K

end
-- ==== Proof.K.KMath.lean ====
/-
  The kernel's result, element by element, over the extended reals.
-/
module

public import proofs.«01_k».proof.Proof.K.KVal
public import Idealize.ShloMosaic.Lib.MatmulPlain
public import Idealize.ShloMosaic.PureOps.Ideal.Laws

@[expose] public section

set_option maxRecDepth 16384
set_option maxHeartbeats 4000000

noncomputable section

namespace Cert.Proof.K

open Cert.KernelIdeal Cert.KernelIdeal.Gen
open Idealize.ShloMosaic
open Idealize.ShloMosaic.TcCoe
open Idealize.SL.Sem

local notation "𝔼" => Elt Ideal

/-- A block's product, scaled by the expert's column scales. -/
theorem pay2_apply (h : Vec Ideal S128x1408 .fp8e4m3) (w : Vec Ideal S1x1408x1024 .fp8e4m3) (z : Vec Ideal S1x1024 .f32) (p : Fin 128) (q : Fin 1024) :
    k0_pay2 h w z (ValueIdx.ix2 p q) = (∑ d : Fin 1408, (h (ValueIdx.ix2 p d) : EReal) * (w (ValueIdx.ix3 0 d q) : EReal)) * (z (ValueIdx.ix2 0 q) : EReal) := by
  have e1 := Ideal.matmul_plain_apply (M := 128) (K := 1408) (N := 1024) (φ₁ := .fp8e4m3) (φ₂ := .fp8e4m3) none h (shapeCast S1408x1024 w shapeCasts_S1x1408x1024_S1408x1024) (constant S128x1024 .f32 0x00000000#32) p q
  have e2 := ValueIdx.broadcastTo_1b_ab_apply z broadcasts_S1x1024_S128x1024 p q
  have e0 : (constant S128x1024 .f32 0x00000000#32 : FVec Ideal S128x1024 .f32) (ValueIdx.ix2 p q) = (0 : EReal) := Ideal.ofBits_zero_f32
  unfold k0_pay2
  refine (congr (congrArg (fun a b : EReal => a * b) (e1.trans ?_)) e2 : _)
  rw [e0, zero_add]
  refine Finset.sum_congr rfl fun d _ => ?_
  rw [ValueIdx.shapeCast_1ab_ab_apply]

theorem colV_apply (h : Vec Ideal S128x1408 .fp8e4m3) (hs : Vec Ideal S128x128 .f32) (w : ℕ → Vec Ideal S1x1408x1024 .fp8e4m3) (z : ℕ → Vec Ideal S1x1024 .f32) (j : ℕ) (p l : Fin 128) (q : Fin 1024)
    (hq : q.val = 128 * (j % 8) + l.val) :
    colV h hs w z j (ValueIdx.ix2 p l) = ((∑ d : Fin 1408, (h (ValueIdx.ix2 p d) : EReal) * (w (j / 8) (ValueIdx.ix3 0 d q) : EReal)) * (z (j / 8) (ValueIdx.ix2 0 q) : EReal)) * (hs (ValueIdx.ix2 p l) : EReal) := by
  rw [← pay2_apply]
  unfold colV
  refine congrArg (fun a : EReal => a * (hs (ValueIdx.ix2 p l) : EReal)) ?_
  refine congrArg (k0_pay2 h (w (j / 8)) (z (j / 8))) (funext fun a => Fin.ext ?_)
  fin_cases a
  · show 0 + p.val = p.val; omega
  · show 128 * (j % 8) + l.val = q.val; omega

/-- Row `r` times expert `e`'s weights in column `q`, scaled by the column's and the row's scale. -/
def kT (y8 : mHs.view.ty.Contents 𝔼) (xh : aH.view.ty.Contents 𝔼) (fws : mWs.view.ty.Contents 𝔼) (fw : aW.view.ty.Contents 𝔼) (r : Fin 1024) (e : Fin 15) (q : Fin 4096) : EReal :=
  ((∑ d : Fin 1408, ((aH.view.read 𝔼 xh (ValueIdx.ix2 r d) : Ideal .fp8e4m3) : EReal) * ((aW.view.read 𝔼 fw (ValueIdx.ix3 e d q) : Ideal .fp8e4m3) : EReal)) * ((mWs.view.read 𝔼 fws (ValueIdx.ix2 e q) : Ideal .f32) : EReal)) * (hsw y8 r.val : EReal)

theorem unitV_apply {y8 : mHs.view.ty.Contents 𝔼} {xh : aH.view.ty.Contents 𝔼} {fh : mH.view.ty.Contents 𝔼} {fs : mHsx.view.ty.Contents 𝔼} (fws : mWs.view.ty.Contents 𝔼) (fw : aW.view.ty.Contents 𝔼)
    (hh : FhOK xh fh) (hs : HsxOK y8 8 fs) {c0 lo j : ℕ} (r : Fin 1024) (hlo : lo ≤ r.val) (e : Fin 15) (hc : c0 + 1024 * (j / 8) ≤ 3072) (l : Fin 128) (q : Fin 4096) (hq : q.val = c0 + 128 * j + l.val) :
    unitV fh fs fws fw c0 e.val lo r.val j l = kT y8 xh fws fw r e q := by
  have hr := r.isLt
  have hl := l.isLt
  have he := e.isLt
  have hb : blkOf lo r.val ≤ r.val ∧ blkOf lo r.val ≤ 992 ∧ r.val - blkOf lo r.val < 128 := by unfold blkOf; omega
  unfold unitV blkV
  rw [colV_apply _ _ _ _ j _ l ⟨128 * (j % 8) + l.val, by omega⟩ rfl]
  obtain ⟨b1, b2, b3⟩ := hb
  have hm : (r.val - blkOf lo r.val) % 128 = r.val - blkOf lo r.val := Nat.mod_eq_of_lt b3
  have ph : ∀ d : Fin 1408, hB fh (blkOf lo r.val) (ValueIdx.ix2 ⟨(r.val - blkOf lo r.val) % 128, Nat.mod_lt _ (by decide)⟩ d) = aH.view.read 𝔼 xh (ValueIdx.ix2 r d) := fun d => by
    refine Eq.trans ?_ (hh ⟨r.val, by omega⟩ hr d)
    show mH.view.read 𝔼 fh _ = _
    congr 1
    funext a
    refine Fin.ext ?_
    fin_cases a
    · show min (blkOf lo r.val) 992 + 1 * ((r.val - blkOf lo r.val) % 128) = r.val; omega
    · show 0 + 1 * d.val = d.val; omega
  have ps : sB fs (blkOf lo r.val) (ValueIdx.ix2 ⟨(r.val - blkOf lo r.val) % 128, Nat.mod_lt _ (by decide)⟩ l) = hsw y8 r.val := by
    refine Eq.trans ?_ (hs (ValueIdx.ix2 ⟨r.val, by omega⟩ l) (by show r.val < 128 * 8; omega))
    show mHsx.view.read 𝔼 fs _ = _
    congr 1
    funext a
    refine Fin.ext ?_
    fin_cases a
    · show min (blkOf lo r.val) 992 + 1 * ((r.val - blkOf lo r.val) % 128) = r.val; omega
    · show 0 + 1 * l.val = l.val; omega
  have pw : ∀ d : Fin 1408, wB fw e.val (c0 + 1024 * (j / 8)) (ValueIdx.ix3 0 d ⟨128 * (j % 8) + l.val, by omega⟩) = aW.view.read 𝔼 fw (ValueIdx.ix3 e d q) := fun d => by
    show aW.view.read 𝔼 fw _ = _
    congr 1
    funext a
    refine Fin.ext ?_
    fin_cases a
    · show min e.val 14 + 1 * 0 = e.val; omega
    · show 0 + 1 * d.val = d.val; omega
    · show min (c0 + 1024 * (j / 8)) 3072 + 1 * (128 * (j % 8) + l.val) = q.val; omega
  have pz : zB fws e.val (c0 + 1024 * (j / 8)) (ValueIdx.ix2 0 ⟨128 * (j % 8) + l.val, by omega⟩) = mWs.view.read 𝔼 fws (ValueIdx.ix2 e q) := by
    show mWs.view.read 𝔼 fws _ = _
    congr 1
    funext a
    refine Fin.ext ?_
    fin_cases a
    · show min e.val 14 + 1 * 0 = e.val; omega
    · show min (c0 + 1024 * (j / 8)) 3072 + 1 * (128 * (j % 8) + l.val) = q.val; omega
  unfold kT
  rw [ps, pz]
  simp only [ph, pw]

/-- Every row is some entry's. -/
theorem covered {fg : mGs.view.ty.Contents 𝔼} {n : ℕ} {fl : mLive.view.ty.Contents 𝔼} (h : LiveI fg 15 n fl) (hs : pre fg 15 = 1024) {r : ℕ} (hr : r < 1024) :
    ∃ i < n, (lv fl 1 i).toNat ≤ r ∧ r < (lv fl 2 i).toNat := by
  have key : ∀ k ≤ n, r < (if k = 0 then 0 else (lv fl 2 (k - 1)).toNat) → ∃ i < k, (lv fl 1 i).toNat ≤ r ∧ r < (lv fl 2 i).toNat := by
    intro k
    induction k with
    | zero => intro _ hlt; exact absurd hlt (by simp)
    | succ k ih =>
      intro hk hlt
      rw [if_neg (by omega), Nat.add_sub_cancel] at hlt
      by_cases hc : (lv fl 1 k).toNat ≤ r
      · exact ⟨k, by omega, hc, hlt⟩
      · have := h.chain k (by omega)
        obtain ⟨i, hi, h1⟩ := ih (by omega) (by omega)
        exact ⟨i, by omega, h1⟩
  exact key n le_rfl (by rw [← h.last, hs]; exact hr)

/-- The experts of the rows, by the table. -/
theorem experts {fg : mGs.view.ty.Contents 𝔼} {n : ℕ} {fl : mLive.view.ty.Contents 𝔼} (h : LiveI fg 15 n fl) (hs : pre fg 15 = 1024) :
    ∃ E : Fin 1024 → Fin 15, ∀ r : Fin 1024, (pre fg (E r).val ≤ r.val ∧ r.val < pre fg ((E r).val + 1)) ∧
      ∃ i < n, (lv fl 1 i).toNat ≤ r.val ∧ r.val < (lv fl 2 i).toNat ∧ (lv fl 0 i).toNat = (E r).val := by
  have : ∀ r : Fin 1024, ∃ e : Fin 15, (pre fg e.val ≤ r.val ∧ r.val < pre fg (e.val + 1)) ∧ ∃ i < n, (lv fl 1 i).toNat ≤ r.val ∧ r.val < (lv fl 2 i).toNat ∧ (lv fl 0 i).toNat = e.val := fun r => by
    obtain ⟨i, hi, h1, h2⟩ := covered h hs r.isLt
    exact ⟨⟨(lv fl 0 i).toNat, h.ex i hi⟩, ⟨by rw [← h.lo i hi]; exact h1, by rw [← h.hi i hi]; exact h2⟩, i, hi, h1, h2, rfl⟩
  exact ⟨fun r => (this r).choose, fun r => (this r).choose_spec⟩

/-- The row that word `s` of the row numbers names. -/
def rowK (yc : mCi.view.ty.Contents 𝔼) (s : ℕ) : Fin 1024 := ⟨(ciw yc s).toNat % 1024, Nat.mod_lt _ (by decide)⟩

theorem ciw_lt {yc : mCi.view.ty.Contents 𝔼} (hc : CiOK yc) (s : ℕ) : (ciw yc s).toNat < 1024 := by
  unfold ciw
  split
  · exact hc _
  · decide

/-- A stored sum of a token. -/
theorem raw_apply {y8 : mHs.view.ty.Contents 𝔼} {xh : aH.view.ty.Contents 𝔼} {fh : mH.view.ty.Contents 𝔼} {fs : mHsx.view.ty.Contents 𝔼} {fws : mWs.view.ty.Contents 𝔼} {fw : aW.view.ty.Contents 𝔼}
    {yc : mCi.view.ty.Contents 𝔼} {yt : mTw.view.ty.Contents 𝔼} {fl : mLive.view.ty.Contents 𝔼} {n c0 J : ℕ} {g : mAcc.view.ty.Contents 𝔼} {o : mOtok.view.ty.Contents 𝔼}
    (hh : FhOK xh fh) (hs : HsxOK y8 8 fs) (hJ : J ≤ 24) (hc : ∀ j < J, c0 + 1024 * (j / 8) ≤ 3072) (hU : UAcc fl fh fs fws fw c0 J n g) (hT : TAcc yc yt g J 256 o) (hci : CiOK yc)
    (E : Fin 1024 → Fin 15) (hE : ∀ r : Fin 1024, ∃ i < n, (lv fl 1 i).toNat ≤ r.val ∧ r.val < (lv fl 2 i).toNat ∧ (lv fl 0 i).toNat = (E r).val)
    (t : Fin 256) {j : ℕ} (hj : j < J) (l : Fin 128) (q : Fin 4096) (hq : q.val = c0 + 128 * j + l.val) :
    rawO o (257 * j + t.val) l = ∑ k : Fin 4, (tww yt (sw t.val k.val) : EReal) * kT y8 xh fws fw (rowK yc (sw t.val k.val)) (E (rowK yc (sw t.val k.val))) q := by
  have ht := t.isLt
  have hlt : 257 * j + t.val < 6168 := by omega
  unfold rawO
  rw [dif_pos hlt]
  refine (hT t.val ht j hj (ValueIdx.ix2 ⟨257 * j + t.val, hlt⟩ l) rfl).trans ?_
  have ha : ∀ s : ℕ, (accJ g (ciw yc s).toNat j l : EReal) = kT y8 xh fws fw (rowK yc s) (E (rowK yc s)) q := fun s => by
    have h1 := ciw_lt hci s
    have hr : (rowK yc s).val = (ciw yc s).toNat := Nat.mod_eq_of_lt h1
    obtain ⟨i, hi, a1, a2, a3⟩ := hE (rowK yc s)
    have hl2 : 1121 * j + (ciw yc s).toNat < 26904 := by omega
    unfold accJ accR
    rw [dif_pos hl2]
    refine (hU i hi (rowK yc s).val a1 a2 j hj (ValueIdx.ix2 ⟨1121 * j + (ciw yc s).toNat, hl2⟩ l) (by show 1121 * j + (ciw yc s).toNat = _; rw [hr])).trans ?_
    rw [a3]
    exact unitV_apply fws fw hh hs (rowK yc s) a1 (E (rowK yc s)) (hc j hj) l q hq
  rw [Fin.sum_univ_four]
  show (((tww yt (sw t.val 0) : EReal) * accJ g (ciw yc (sw t.val 0)).toNat j l + (tww yt (sw t.val 1) : EReal) * accJ g (ciw yc (sw t.val 1)).toNat j l)
    + (tww yt (sw t.val 2) : EReal) * accJ g (ciw yc (sw t.val 2)).toNat j l) + (tww yt (sw t.val 3) : EReal) * accJ g (ciw yc (sw t.val 3)).toNat j l = _
  rw [ha, ha, ha, ha]
  rfl

/-- The kernel's result: each token's weighted sum of the rows its choices name. -/
theorem KVal_apply {fg : mGs.view.ty.Contents 𝔼} {y8 : mHs.view.ty.Contents 𝔼} {xh : aH.view.ty.Contents 𝔼} {yc : mCi.view.ty.Contents 𝔼} {yt : mTw.view.ty.Contents 𝔼} {fws : mWs.view.ty.Contents 𝔼} {fw : aW.view.ty.Contents 𝔼} {v : aOut.view.ty.Contents 𝔼}
    (h : KVal fg y8 xh yc yt fws fw v) (hs : pre fg 15 = 1024) (hci : CiOK yc) :
    ∃ E : Fin 1024 → Fin 15, (∀ r : Fin 1024, pre fg (E r).val ≤ r.val ∧ r.val < pre fg ((E r).val + 1)) ∧
      ∀ (t : Fin 256) (q : Fin 4096), aOut.view.read 𝔼 v (ValueIdx.ix2 (n0 := 256) (n1 := 4096) t q)
        = ∑ k : Fin 4, (tww yt (sw t.val k.val) : EReal) * kT y8 xh fws fw (rowK yc (sw t.val k.val)) (E (rowK yc (sw t.val k.val))) q := by
  obtain ⟨n, fl, fh, fs, o, o2, hn, hL, hC0, hC1, hO⟩ := h
  obtain ⟨E, hE⟩ := experts hL hs
  refine ⟨E, fun r => (hE r).1, fun t q => (hO t q).trans ?_⟩
  have hq := q.isLt
  obtain ⟨g, hU, hT⟩ := hC0.acc
  obtain ⟨g2, hU2, hT2⟩ := hC1
  split
  · refine Eq.trans (show _ = rawO o _ _ from rfl) (raw_apply hC0.hh hC0.hs (by decide) (fun j hj => by omega) hU hT hci E (fun r => (hE r).2) t (by omega) _ q ?_)
    show q.val = 0 + 128 * (q.val / 128) + q.val % 128
    omega
  · refine Eq.trans (show _ = rawO o2 _ _ from rfl) (raw_apply hC0.hh hC0.hs (by decide) (fun j hj => by omega) hU2 hT2 hci E (fun r => (hE r).2) t (by omega) _ q ?_)
    show q.val = 3072 + 128 * ((q.val - 3072) / 128) + q.val % 128
    omega

end Cert.Proof.K

end
-- ==== Proof.K.Ref.lean ====
/-
  What the reference computes, as one term of its arguments.
-/
module

public import proofs.«01_k».proof.Proof.Gen.ReferenceIdeal
public import proofs.«01_k».proof.Proof.Gen.ReferenceIdeal.Frame
public import Idealize.ShloMosaic.Lib.Pipeline.ValueKit
public import Idealize.ShloMosaic.Lib.StableHlo.RunRead

@[expose] public section

set_option maxRecDepth 16384
set_option maxHeartbeats 4000000

noncomputable section

namespace Cert.Proof.R

open Cert.ReferenceIdeal Cert.ReferenceIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The row after each expert's last, -/
def ends (gs : IVec S15 32) : IVec S15 32 := Host.reduceWindow IntOp.addi ![15] ![1] ![14] ![0] gs (broadcastInDim S_ ![] bcast_S_S_ (constantI S_ 32 0#32)) reduceWindows_S15_S15_w15s1p14_0 h_S_
/-- and each expert's first. -/
def starts (gs : IVec S15 32) : IVec S15 32 := subi (ends gs) gs
/-- The row is the expert's. -/
def keep (gs : IVec S15 32) : IVec S1024x15 1 :=
  andi (cmpi .sge (broadcastInDim S1024x15 ![0, 1] bcast_S1024x1_S1024x15_0_1 (broadcastInDim S1024x1 ![0] bcast_S1024_S1024x1_0 (iotaInDim S1024 32 0))) (broadcastInDim S1024x15 ![0, 1] bcast_S1x15_S1024x15_0_1 (broadcastInDim S1x15 ![1] bcast_S15_S1x15_1 (starts gs))))
    (cmpi .slt (broadcastInDim S1024x15 ![0, 1] bcast_S1024x1_S1024x15_0_1 (broadcastInDim S1024x1 ![0] bcast_S1024_S1024x1_0 (iotaInDim S1024 32 0))) (broadcastInDim S1024x15 ![0, 1] bcast_S1x15_S1024x15_0_1 (broadcastInDim S1x15 ![1] bcast_S15_S1x15_1 (ends gs))))
/-- Every row's product with every expert's weights, scaled. -/
def part (h : FVec F S1024x1408 .f32) (w : FVec F S15x1408x4096 .f32) (ws : FVec F S15x4096 .f32) : FVec F S1024x15x4096 .f32 :=
  mulf (Host.dotGeneral dot_S1024x1408_S15x1408x4096_S1024x15x4096_1_1_0_02_n_n none h w) (broadcastInDim S1024x15x4096 ![0, 1, 2] bcast_S1x15x4096_S1024x15x4096_0_1_2 (broadcastInDim S1x15x4096 ![1, 2] bcast_S15x4096_S1x15x4096_1_2 ws))
/-- Each row's product with its own expert's. -/
def acc (k : IVec S1024x15 1) (p : FVec F S1024x15x4096 .f32) : FVec F S1024x4096 .f32 :=
  Host.reduceAdd (select (broadcastInDim S1024x15x4096 ![0, 1, 2] bcast_S1024x15x1_S1024x15x4096_0_1_2 (broadcastInDim S1024x15x1 ![0, 1] bcast_S1024x15_S1024x15x1_0_1 k)) p (broadcastInDim S1024x15x4096 ![] bcast_S_S1024x15x4096 (id (constant S_ .f32 0x00000000#32))))
    (constant S_ .f32 0x00000000#32) reducesTo_S1024x15x4096_S1024x4096_d1 h_S_
/-- The rows the tokens name. -/
def rows (ci : IVec S256x4 32) : IVec S256x4x1 32 :=
  broadcastInDim S256x4x1 ![0, 1] bcast_S256x4_S256x4x1_0_1 (select (cmpi .slt ci (broadcastInDim S256x4 ![] bcast_S_S256x4 (constantI S_ 32 0#32))) (addi ci (broadcastInDim S256x4 ![] bcast_S_S256x4 (constantI S_ 32 1024#32))) ci)
/-- The tokens' sums, from the scales of the rows, the rows named, the weights and the rows' products. -/
def out (hs : FVec F S1024 .f32) (r : IVec S256x4x1 32) (tw : FVec F S256x4 .f32) (a : FVec F S1024x4096 .f32) : FVec F S256x4096 .bf16 :=
  truncf .bf16 (Host.reduceAdd (mulf (broadcastInDim S256x4x4096 ![0, 1, 2] bcast_S256x4x1_S256x4x4096_0_1_2 (broadcastInDim S256x4x1 ![0, 1] bcast_S256x4_S256x4x1_0_1 (mulf tw (Host.gather gather_S1024_S256x4x1_S256x4_n_0_n_n_0_2_1 hs r)))) (Host.gather gather_S1024x4096_S256x4x1_S256x4x4096_2_0_n_n_0_2_14096 a r))
    (constant S_ .f32 0x00000000#32) reducesTo_S256x4x4096_S256x4096_d1 h_S_) bitsLt_bf16_f32

/-- The reference's result, of its arguments. -/
def refV (h : Vec F S1024x1408 .fp8e4m3) (hs : FVec F S1024 .f32) (gs : IVec S15 32) (w : Vec F S15x1408x4096 .fp8e4m3) (ws : FVec F S15x4096 .f32) (ci : IVec S256x4 32) (tw : FVec F S256x4 .f32) : FVec F S256x4096 .bf16 :=
  out hs (rows ci) tw (acc (keep gs) (part (k0_pay1 h) (k0_pay2 w) ws))

abbrev t0 : Fin cfg0.N := ⟨0, by decide⟩

theorem idx0 : ∀ t : Fin cfg0.N, win0_0.index t = ![0, 0] ∧ win0_1.index t = ![0, 0, 0] :=
  (by decide +kernel : ∀ t : Fin grid0.N, _)

theorem iblk0 (c : Dev nD) : iblk m c 0 t0 = m ((c : Thread nD τ).loc main_arg0) := by
  blk_ext! [iblk, V, idx0 t0]
theorem iblk1 (c : Dev nD) : iblk m c 1 t0 = m ((c : Thread nD τ).loc main_arg3) := by
  blk_ext! [iblk, V, idx0 t0]

theorem final2 (c : Dev nD) : (dats m 0 c).arrAt 2 cfg0.N = k0_pay1 (m ((c : Thread nD τ).loc main_arg0)) := by
  refine (dats m 0 c).arrAt_eq_of_after_last 2 t0 (by decide +kernel) _ fun j => ?_
  blk_simp
  rw [after0_2]
  unfold out0_2
  frame_out
  rw [iblk0]
theorem final3 (c : Dev nD) : (dats m 0 c).arrAt 3 cfg0.N = k0_pay2 (m ((c : Thread nD τ).loc main_arg3)) := by
  refine (dats m 0 c).arrAt_eq_of_after_last 3 t0 (by decide +kernel) _ fun j => ?_
  blk_simp
  rw [after0_3]
  unfold out0_3
  frame_out
  rw [iblk1]

section
attribute [local irreducible] Host.reduceWindow
theorem st1 (W : Valuation τ sig (Elt F)) : StableHlo.after hostOps1 W (Proc.devRef .tc main_v1) = ends (W (Proc.devRef .tc main_arg2)) := by
  unfold ends
  unfold_abbrev_sides
  after_reads_simp
  all_goals rfl
end
theorem st2a (W : Valuation τ sig (Elt F)) (g : IVec S15 32) (h1 : W (Proc.devRef .tc main_v1) = ends g) (h2 : W (Proc.devRef .tc main_arg2) = g) : StableHlo.after hostOps1_1 W (Proc.devRef .tc main_v16) = broadcastInDim S1024x15x1 ![0, 1] bcast_S1024x15_S1024x15x1_0_1 (keep g) := by
  unfold keep starts
  rw [← h1]
  subst h2
  unfold_abbrev_sides
  after_reads_simp
theorem st2b (W : Valuation τ sig (Elt F)) : StableHlo.after hostOps1_1 W (Proc.devRef .tc main_v19) = part (W (Proc.devRef .tc main_v0_0)) (W (Proc.devRef .tc main_v0_1)) (W (Proc.devRef .tc main_arg4)) := by
  unfold part
  unfold_abbrev_sides
  after_reads_simp
theorem st2c (W : Valuation τ sig (Elt F)) : StableHlo.after hostOps1_1 W (Proc.devRef .tc main_cst) = (constant S_ .f32 0x00000000#32) := by
  unfold_abbrev_sides
  after_reads_simp
theorem st3 (W : Valuation τ sig (Elt F)) : StableHlo.after hostOps1_2 W (Proc.devRef .tc main_v20) = select (broadcastInDim S1024x15x4096 ![0, 1, 2] bcast_S1024x15x1_S1024x15x4096_0_1_2 (W (Proc.devRef .tc main_v16))) (W (Proc.devRef .tc main_v19)) (broadcastInDim S1024x15x4096 ![] bcast_S_S1024x15x4096 (id (W (Proc.devRef .tc main_cst)))) := by
  unfold_abbrev_sides
  after_reads_simp
  all_goals rfl
theorem st4 (W : Valuation τ sig (Elt F)) : StableHlo.after hostOps1_3 W (Proc.devRef .tc main_v41) = out (W (Proc.devRef .tc main_arg1)) (rows (W (Proc.devRef .tc main_arg5))) (W (Proc.devRef .tc main_arg6)) (Host.reduceAdd (W (Proc.devRef .tc main_v20)) (constant S_ .f32 0x00000000#32) reducesTo_S1024x15x4096_S1024x4096_d1 h_S_) := by
  unfold out rows
  unfold_abbrev_sides
  after_reads_simp
theorem k1_main_arg1 (W : Valuation τ sig (Elt F)) : StableHlo.after hostOps1 W (Proc.devRef .tc main_arg1) = W (Proc.devRef .tc main_arg1) := by
  unfold_abbrev_sides
  after_reads_simp
theorem k1_main_arg2 (W : Valuation τ sig (Elt F)) : StableHlo.after hostOps1 W (Proc.devRef .tc main_arg2) = W (Proc.devRef .tc main_arg2) := by
  unfold_abbrev_sides
  after_reads_simp
theorem k1_main_arg4 (W : Valuation τ sig (Elt F)) : StableHlo.after hostOps1 W (Proc.devRef .tc main_arg4) = W (Proc.devRef .tc main_arg4) := by
  unfold_abbrev_sides
  after_reads_simp
theorem k1_main_arg5 (W : Valuation τ sig (Elt F)) : StableHlo.after hostOps1 W (Proc.devRef .tc main_arg5) = W (Proc.devRef .tc main_arg5) := by
  unfold_abbrev_sides
  after_reads_simp
theorem k1_main_arg6 (W : Valuation τ sig (Elt F)) : StableHlo.after hostOps1 W (Proc.devRef .tc main_arg6) = W (Proc.devRef .tc main_arg6) := by
  unfold_abbrev_sides
  after_reads_simp
theorem k1_main_v0_0 (W : Valuation τ sig (Elt F)) : StableHlo.after hostOps1 W (Proc.devRef .tc main_v0_0) = W (Proc.devRef .tc main_v0_0) := by
  unfold_abbrev_sides
  after_reads_simp
theorem k1_main_v0_1 (W : Valuation τ sig (Elt F)) : StableHlo.after hostOps1 W (Proc.devRef .tc main_v0_1) = W (Proc.devRef .tc main_v0_1) := by
  unfold_abbrev_sides
  after_reads_simp
theorem k2_main_arg1 (W : Valuation τ sig (Elt F)) : StableHlo.after hostOps1_1 W (Proc.devRef .tc main_arg1) = W (Proc.devRef .tc main_arg1) := by
  unfold_abbrev_sides
  after_reads_simp
theorem k2_main_arg5 (W : Valuation τ sig (Elt F)) : StableHlo.after hostOps1_1 W (Proc.devRef .tc main_arg5) = W (Proc.devRef .tc main_arg5) := by
  unfold_abbrev_sides
  after_reads_simp
theorem k2_main_arg6 (W : Valuation τ sig (Elt F)) : StableHlo.after hostOps1_1 W (Proc.devRef .tc main_arg6) = W (Proc.devRef .tc main_arg6) := by
  unfold_abbrev_sides
  after_reads_simp
theorem k3_main_arg1 (W : Valuation τ sig (Elt F)) : StableHlo.after hostOps1_2 W (Proc.devRef .tc main_arg1) = W (Proc.devRef .tc main_arg1) := by
  unfold_abbrev_sides
  after_reads_simp
theorem k3_main_arg5 (W : Valuation τ sig (Elt F)) : StableHlo.after hostOps1_2 W (Proc.devRef .tc main_arg5) = W (Proc.devRef .tc main_arg5) := by
  unfold_abbrev_sides
  after_reads_simp
theorem k3_main_arg6 (W : Valuation τ sig (Elt F)) : StableHlo.after hostOps1_2 W (Proc.devRef .tc main_arg6) = W (Proc.devRef .tc main_arg6) := by
  unfold_abbrev_sides
  after_reads_simp

theorem after_append (l₁ l₂ : List (HloOp τ sig (Elt F))) (W : Valuation τ sig (Elt F)) :
    StableHlo.after (l₁ ++ l₂) W = StableHlo.after l₂ (StableHlo.after l₁ W) := by
  induction l₁ generalizing W with
  | nil => rfl
  | cons a l ih => exact ih _

/-- What the host lines leave in the result, of whatever they begin from. -/
theorem tail_eq (W : Valuation τ sig (Elt F)) :
    StableHlo.after (List.flatten [hostOps1, hostOps1_1, hostOps1_2, hostOps1_3]) W (Proc.devRef .tc main_v41)
      = out (W (Proc.devRef .tc main_arg1)) (rows (W (Proc.devRef .tc main_arg5))) (W (Proc.devRef .tc main_arg6)) (acc (keep (W (Proc.devRef .tc main_arg2))) (part (W (Proc.devRef .tc main_v0_0)) (W (Proc.devRef .tc main_v0_1)) (W (Proc.devRef .tc main_arg4)))) := by
  rw [show (List.flatten [hostOps1, hostOps1_1, hostOps1_2, hostOps1_3] : List (HloOp τ sig (Elt F))) = hostOps1 ++ (hostOps1_1 ++ (hostOps1_2 ++ hostOps1_3)) from rfl,
    after_append, after_append, after_append, st4, st3, k3_main_arg1, k3_main_arg5, k3_main_arg6, k2_main_arg1, k2_main_arg5, k2_main_arg6,
    st2b, st2c, st2a (StableHlo.after hostOps1 W) (W (Proc.devRef .tc main_arg2)) (st1 W) (k1_main_arg2 W), k1_main_arg1, k1_main_arg4, k1_main_arg5, k1_main_arg6, k1_main_v0_0, k1_main_v0_1]
  unfold acc
  rfl

/-- The reference's result. -/
theorem v41_eq (c : Dev nD) : Pipeline.afterTail₀ cfgs (dats m) 0 (V0 m) [hostOps1, hostOps1_1, hostOps1_2, hostOps1_3] c main_v41
    = refV (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold Pipeline.afterTail₀
  rw [tail_eq]
  have e0 := Pipeline.withArrays_arr (cfgs 0).spec (by exact (by decide : Function.Injective (Pipeline.arrRef spec0))) c (V0 m c) (fun w => (dats m 0 c).arrAt w (cfgs 0).N) 2
  have e1 := Pipeline.withArrays_arr (cfgs 0).spec (by exact (by decide : Function.Injective (Pipeline.arrRef spec0))) c (V0 m c) (fun w => (dats m 0 c).arrAt w (cfgs 0).N) 3
  have q0 := e0.trans (final2 m c)
  have q1 := e1.trans (final3 m c)
  have n1 := Pipeline.withArrays_of_ne (cfgs 0).spec c (V0 m c) (fun w => (dats m 0 c).arrAt w (cfgs 0).N) main_arg1 (by exact (by decide : ∀ w, Pipeline.arrRef spec0 w ≠ main_arg1))
  have n2 := Pipeline.withArrays_of_ne (cfgs 0).spec c (V0 m c) (fun w => (dats m 0 c).arrAt w (cfgs 0).N) main_arg2 (by exact (by decide : ∀ w, Pipeline.arrRef spec0 w ≠ main_arg2))
  have n4 := Pipeline.withArrays_of_ne (cfgs 0).spec c (V0 m c) (fun w => (dats m 0 c).arrAt w (cfgs 0).N) main_arg4 (by exact (by decide : ∀ w, Pipeline.arrRef spec0 w ≠ main_arg4))
  have n5 := Pipeline.withArrays_of_ne (cfgs 0).spec c (V0 m c) (fun w => (dats m 0 c).arrAt w (cfgs 0).N) main_arg5 (by exact (by decide : ∀ w, Pipeline.arrRef spec0 w ≠ main_arg5))
  have n6 := Pipeline.withArrays_of_ne (cfgs 0).spec c (V0 m c) (fun w => (dats m 0 c).arrAt w (cfgs 0).N) main_arg6 (by exact (by decide : ∀ w, Pipeline.arrRef spec0 w ≠ main_arg6))
  unfold refV
  exact congr (congr (congr (congrArg out n1) (congrArg rows n5)) n6) (congr (congrArg acc (congrArg keep n2)) (congr (congr (congrArg part q0) q1) n4))

end Cert.Proof.R

end
-- ==== Proof.K.RefP.lean ====
/-
  The reference's result, element by element, over the extended reals.
-/
module

public import proofs.«01_k».proof.Proof.K.Ref
public import Idealize.ShloMosaic.Lib.Pointwise
public import Idealize.ShloMosaic.Lib.Routing.OpsOne
public import Idealize.ShloMosaic.Lib.Routing.Ops

@[expose] public section

set_option maxRecDepth 16384
set_option maxHeartbeats 4000000

noncomputable section

namespace Cert.Proof.R

open Cert.ReferenceIdeal Cert.ReferenceIdeal.Gen
open Idealize.ShloMosaic

theorem part_apply (h : FVec Ideal S1024x1408 .f32) (w : FVec Ideal S15x1408x4096 .f32) (ws : FVec Ideal S15x4096 .f32) (r : Fin 1024) (e : Fin 15) (q : Fin 4096) :
    part h w ws (ix3 r e q) = (∑ d : Fin 1408, h (ix2 r d) * w (ix3 e d q)) * ws (ix2 e q) := by
  pointwise [part]

theorem acc_apply (k : IVec S1024x15 1) (p : FVec Ideal S1024x15x4096 .f32) (r : Fin 1024) (q : Fin 4096) :
    acc k p (ix2 r q) = ∑ e : Fin 15, if k (ix2 r e) = 1#1 then p (ix3 r e q) else (0 : EReal) := by
  pointwise [acc]
  refine Finset.sum_congr rfl fun e _ => ?_
  show (if k (ix2 r e) = 1#1 then p (ix3 r e q) else Scalar.ofBits .f32 0x00000000#32) = _
  have : (Scalar.ofBits .f32 0x00000000#32 : Ideal .f32) = (0 : EReal) := Ideal.ofBits_zero_f32
  rw [this]

theorem keep_apply (g : IVec S15 32) (r : Fin 1024) (e : Fin 15) :
    keep g (ix2 r e) = IntOp.andi (IntOp.cmpi .sge (BitVec.ofNat 32 r.val) (starts g (ix1 e))) (IntOp.cmpi .slt (BitVec.ofNat 32 r.val) (ends g (ix1 e))) := by
  pointwise [keep]

theorem rows_apply (ci : IVec S256x4 32) (t : Fin 256) (k : Fin 4) (h : (ci (ix2 t k)).toNat < 1024) :
    rows ci (ix3 t k 0) = ci (ix2 t k) := by
  pointwise [rows]
  have : IntOp.cmpi CmpIPredicate.slt (ci (ix2 t k)) 0#32 = 0#1 := by
    show BitVec.ofBool ((ci (ix2 t k)).slt 0#32) = 0#1
    have e : (ci (ix2 t k)).slt 0#32 = false := by
      rw [BitVec.slt, BitVec.toInt_eq_toNat_of_lt (by omega)]
      exact decide_eq_false (by show ¬ ((ci (ix2 t k)).toNat : Int) < 0; omega)
    rw [e]; rfl
  rw [this]
  rfl

theorem out_apply (hs : FVec Ideal S1024 .f32) (r : IVec S256x4x1 32) (tw : FVec Ideal S256x4 .f32) (a : FVec Ideal S1024x4096 .f32) (t : Fin 256) (q : Fin 4096) :
    out hs r tw a (ix2 t q) = ∑ k : Fin 4, tw (ix2 t k) * Host.gather gather_S1024_S256x4x1_S256x4_n_0_n_n_0_2_1 hs r (ix2 t k) * Host.gather gather_S1024x4096_S256x4x1_S256x4x4096_2_0_n_n_0_2_14096 a r (ix3 t k q) := by
  pointwise [out]

/-- Expert `j`'s row count, -/
def gN (g : IVec S15 32) (j : ℕ) : ℕ := if h : j < 15 then (g (ix1 ⟨j, h⟩)).toNat else 0
/-- and the rows of the first `k` experts. -/
def preN (g : IVec S15 32) (k : ℕ) : ℕ := ∑ j ∈ Finset.range k, gN g j

theorem ends_apply (g : IVec S15 32) (e : Fin 15) : ends g (ix1 e) = BitVec.ofNat 32 (preN g (e.val + 1)) := by
  unfold ends
  refine (Routing.cumsum1 (by decide : 14 + 1 = 15) g (gN g) (fun i => ?_) _ ?_ reduceWindows_S15_S15_w15s1p14_0 h_S_ e).trans ?_
  · unfold gN
    rw [dif_pos i.isLt, BitVec.ofNat_toNat, BitVec.setWidth_eq]
    rfl
  · rfl
  · rfl

theorem starts_apply (g : IVec S15 32) (e : Fin 15) : starts g (ix1 e) = BitVec.ofNat 32 (preN g e.val) := by
  unfold starts
  show ends g (ix1 e) - g (ix1 e) = _
  rw [ends_apply]
  unfold preN
  rw [Finset.sum_range_succ]
  have : g (ix1 e) = BitVec.ofNat 32 (gN g e.val) := by
    unfold gN
    rw [dif_pos e.isLt, BitVec.ofNat_toNat, BitVec.setWidth_eq]
  rw [this, BitVec.ofNat_add]
  exact BitVec.add_sub_cancel _ _

theorem preN_mono (g : IVec S15 32) {a b : ℕ} (h : a ≤ b) : preN g a ≤ preN g b := Finset.sum_le_sum_of_subset (Finset.range_mono h)

/-- The mask says the row is among the expert's. -/
theorem mask (g : IVec S15 32) (hs : preN g 15 = 1024) (r : Fin 1024) (e : Fin 15) :
    IntOp.andi (IntOp.cmpi .sge (BitVec.ofNat 32 r.val) (starts g (ix1 e))) (IntOp.cmpi .slt (BitVec.ofNat 32 r.val) (ends g (ix1 e))) = 1#1
      ↔ preN g e.val ≤ r.val ∧ r.val < preN g (e.val + 1) := by
  rw [starts_apply, ends_apply]
  have h1 : preN g e.val ≤ 1024 := hs ▸ preN_mono g (by omega)
  have h2 : preN g (e.val + 1) ≤ 1024 := hs ▸ preN_mono g (by omega)
  have hr := r.isLt
  generalize preN g e.val = a at *
  generalize preN g (e.val + 1) = b at *
  have T : ∀ x : ℕ, x ≤ 1024 → (BitVec.ofNat 32 x).toInt = (x : Int) := fun x hx => by
    exact StableHlo.Predicate.toInt_ofNat_small _ (by omega)
  have e1 : (BitVec.ofNat 32 a).sle (BitVec.ofNat 32 r.val) = decide (a ≤ r.val) := by
    rw [BitVec.sle, T _ h1, T _ (by omega)]; exact decide_eq_decide.2 Int.ofNat_le
  have e2 : (BitVec.ofNat 32 r.val).slt (BitVec.ofNat 32 b) = decide (r.val < b) := by
    rw [BitVec.slt, T _ h2, T _ (by omega)]; exact decide_eq_decide.2 Int.ofNat_lt
  show BitVec.ofBool ((BitVec.ofNat 32 a).sle (BitVec.ofNat 32 r.val)) &&& BitVec.ofBool ((BitVec.ofNat 32 r.val).slt (BitVec.ofNat 32 b)) = 1#1 ↔ _
  rw [e1, e2]
  by_cases p : a ≤ r.val <;> by_cases q : r.val < b <;> simp [p, q]

theorem take1 {α : Type} (x : S1024.Idx → α) (idx : IVec S256x4x1 32) (t : Fin 256) (k : Fin 4) (b : Fin 1024) (hb : idx (ix3 t k 0) = BitVec.ofNat 32 b.val) :
    Host.gather gather_S1024_S256x4x1_S256x4_n_0_n_n_0_2_1 x idx (ix2 t k) = x (ix1 b) := by
  refine (ValueIdx.gather_take_apply (by decide : 0 < 1024) gather_S1024_S256x4x1_S256x4_n_0_n_n_0_2_1_wf x idx (ix2 t k)).trans ?_
  have : idx (ValueIdx.takeIdx (ix2 t k)) = BitVec.ofNat 32 b.val := by
    rw [← hb]; congr 1; funext a; refine Fin.ext ?_; fin_cases a <;> rfl
  have hl := b.isLt
  refine congrArg x (funext fun a => Fin.ext ?_)
  fin_cases a
  show min (idx _).toInt.toNat 1023 = b.val
  rw [this, StableHlo.Predicate.toInt_ofNat_small _ (by omega)]
  show min ((b.val : Int)).toNat 1023 = b.val
  omega

/-- Rows of a table by a table of row numbers. -/
theorem take2 {α : Type} (x : S1024x4096.Idx → α) (idx : IVec S256x4x1 32) (t : Fin 256) (k : Fin 4) (q : Fin 4096) (b : Fin 1024) (hb : idx (ix3 t k 0) = BitVec.ofNat 32 b.val) :
    Host.gather gather_S1024x4096_S256x4x1_S256x4x4096_2_0_n_n_0_2_14096 x idx (ix3 t k q) = x (ix2 b q) := by
  have hl := b.isLt
  unfold Host.gather
  refine congrArg x (funext fun a => Fin.ext ?_)
  generalize hd : gather_S1024x4096_S256x4x1_S256x4x4096_2_0_n_n_0_2_14096 = d
  have hoff : d.offsetDims = [2] := by subst hd; rfl
  have hcoll : d.collapsedSliceDims = [0] := by subst hd; rfl
  have hob : d.operandBatchingDims = [] := by subst hd; rfl
  have hsim : d.startIndexMap = [0] := by subst hd; rfl
  have hivd : d.indexVectorDim = 2 := by subst hd; rfl
  have hbd : d.batchDims = [0, 1] := by subst hd; rfl
  have hbN : ∀ a', a' ∉ d.operandBatchingDims := fun a' => by rw [hob]; exact List.not_mem_nil
  match a with
  | ⟨0, _⟩ =>
    have hk : (0 : Fin 2) ∉ d.sKept := fun h => ((d.mem_sKept 0).1 h).1 (by rw [hcoll]; exact List.mem_singleton.2 rfl)
    have hm : (0 : Fin 2) ∈ d.startIndexMap := by rw [hsim]; exact List.mem_singleton.2 rfl
    have hsl : d.sliceSizes 0 = 1 := d.slice_collapsed 0 (by rw [hcoll]; exact List.mem_singleton.2 rfl)
    show d.start (ix3 t k q) idx 0 + d.batchCoord (ix3 t k q) 0 + d.offCoord (ix3 t k q) 0 = b.val
    rw [d.batchCoord_eq_zero _ _ (hbN 0), d.offCoord_eq_zero _ _ hk]
    simp only [Nat.add_zero]
    unfold GatherDims.start
    rw [dif_pos hm]
    have hsi : d.siIdx (ix3 t k q) ⟨d.startIndexMap.idxOf 0, List.idxOf_lt_length_iff.2 hm⟩ = ix3 t k 0 := by
      subst hd
      funext b'
      apply Fin.ext
      fin_cases b' <;> rfl
    rw [hsi, hb, hsl, StableHlo.Predicate.toInt_ofNat_small _ (by omega)]
    show min ((b.val : Int)).toNat (1024 - 1) = b.val
    omega
  | ⟨1, _⟩ =>
    have hk : (1 : Fin 2) ∈ d.sKept := (d.mem_sKept 1).2 ⟨by rw [hcoll]; decide, hbN 1⟩
    have hm : (1 : Fin 2) ∉ d.startIndexMap := by rw [hsim]; decide
    show d.start (ix3 t k q) idx 1 + d.batchCoord (ix3 t k q) 1 + d.offCoord (ix3 t k q) 1 = q.val
    rw [d.batchCoord_eq_zero _ _ (hbN 1), Nat.add_zero]
    unfold GatherDims.start GatherDims.offCoord
    rw [dif_neg hm, dif_pos hk, Nat.zero_add]
    subst hd
    rfl

/-- The row that token `t`'s `k`-th choice names. -/
def rowN (ci : IVec S256x4 32) (t : Fin 256) (k : Fin 4) : Fin 1024 := ⟨(ci (ix2 t k)).toNat % 1024, Nat.mod_lt _ (by decide)⟩

/-- Row `r` times expert `e`'s weights, scaled, in column `q`. -/
def term (h : Vec Ideal S1024x1408 .fp8e4m3) (w : Vec Ideal S15x1408x4096 .fp8e4m3) (ws : FVec Ideal S15x4096 .f32) (r : Fin 1024) (e : Fin 15) (q : Fin 4096) : EReal :=
  (∑ d : Fin 1408, (h (ix2 r d) : EReal) * (w (ix3 e d q) : EReal)) * (ws (ix2 e q) : EReal)

/-- The reference's result at `(t, q)`, when the counts fill the rows, every choice names a row and `E t k` is the expert of the
    row that `(t, k)` names: the sum over the choices of weight times row scale times the row's product with its expert's weights. -/
theorem refV_apply (h : Vec Ideal S1024x1408 .fp8e4m3) (hs : FVec Ideal S1024 .f32) (gs : IVec S15 32) (w : Vec Ideal S15x1408x4096 .fp8e4m3) (ws : FVec Ideal S15x4096 .f32) (ci : IVec S256x4 32) (tw : FVec Ideal S256x4 .f32)
    (hsum : preN gs 15 = 1024) (hci : ∀ t k, (ci (ix2 t k)).toNat < 1024) (E : Fin 256 → Fin 4 → Fin 15)
    (hE : ∀ t k, preN gs (E t k).val ≤ (rowN ci t k).val ∧ (rowN ci t k).val < preN gs ((E t k).val + 1)) (t : Fin 256) (q : Fin 4096) :
    refV h hs gs w ws ci tw (ix2 t q) = ∑ k : Fin 4, (tw (ix2 t k) : EReal) * (hs (ix1 (rowN ci t k)) : EReal) * term h w ws (rowN ci t k) (E t k) q := by
  unfold refV
  rw [out_apply]
  refine Finset.sum_congr rfl fun k _ => ?_
  have hb : rows ci (ix3 t k 0) = BitVec.ofNat 32 (rowN ci t k).val := by
    rw [rows_apply ci t k (hci t k)]
    show _ = BitVec.ofNat 32 ((ci (ix2 t k)).toNat % 1024)
    rw [Nat.mod_eq_of_lt (hci t k), BitVec.ofNat_toNat, BitVec.setWidth_eq]
  rw [take1 hs (rows ci) t k (rowN ci t k) hb, take2 _ (rows ci) t k q (rowN ci t k) hb, acc_apply]
  refine congrArg (fun z : EReal => (tw (ix2 t k) : EReal) * (hs (ix1 (rowN ci t k)) : EReal) * z) ?_
  refine (Finset.sum_eq_single (E t k) (fun e _ he => ?_) (fun hn => absurd (Finset.mem_univ _) hn)).trans ?_
  · rw [keep_apply]
    refine if_neg fun hm => he ?_
    have h1 := (mask gs hsum _ _).1 hm
    have h2 := hE t k
    refine Fin.ext ?_
    rcases Nat.lt_trichotomy e.val (E t k).val with hlt | heq | hgt
    · have := preN_mono gs (show e.val + 1 ≤ (E t k).val by omega); omega
    · exact heq
    · have := preN_mono gs (show (E t k).val + 1 ≤ e.val by omega); omega
  · rw [keep_apply]
    refine (if_pos ((mask gs hsum _ _).2 (hE t k))).trans ?_
    rw [part_apply]
    rfl

end Cert.Proof.R

end
-- ==== Proof.K.Agree.lean ====
/-
  The kernel's result is the reference's.
-/
module

public import proofs.«01_k».proof.Proof.K.Frame
public import proofs.«01_k».proof.Proof.K.KMath
public import proofs.«01_k».proof.Proof.K.RefP

@[expose] public section

set_option maxRecDepth 16384
set_option maxHeartbeats 4000000

noncomputable section

namespace Cert.Proof.K

open Cert.KernelIdeal Cert.KernelIdeal.Gen
open Idealize.ShloMosaic
open Idealize.ShloMosaic.TcCoe
open Idealize.SL.Sem

local notation "𝔼" => Elt Ideal

/-- A table of tokens by choices, chunk by chunk of 128 tokens and in each the choices in turn. -/
def slots {α : Type} (x : S256x4.Idx → α) : S1024.Idx → α :=
  shapeCast S1024 (transpose S2x4x128 [1, 0, 2] (shapeCast S4x2x128 (transpose S4x256 [1, 0] x transposes_S256x4_S4x256_1_0) shapeCasts_S4x256_S4x2x128) transposes_S4x2x128_S2x4x128_1_0_2) shapeCasts_S2x4x128_S1024

theorem sw_lt (t : Fin 256) (k : Fin 4) : sw t.val k.val < 1024 := by unfold sw; omega

/-- Token `t`'s `k`-th choice is at `sw t k`. -/
theorem slots_apply {α : Type} (x : S256x4.Idx → α) (t : Fin 256) (k : Fin 4) : slots x (ValueIdx.ix1 ⟨sw t.val k.val, sw_lt t k⟩) = x (ValueIdx.ix2 t k) := by
  have ht := t.isLt
  have hk := k.isLt
  unfold slots
  refine (shapeCast_apply _ shapeCasts_S2x4x128_S1024 _ (ValueIdx.ix3 (n0 := 2) (n1 := 4) (n2 := 128) ⟨t.val / 128, by omega⟩ k ⟨t.val % 128, by omega⟩) ?_).trans ?_
  · rw [Shape.rowMajor_val_three, Shape.rowMajor_val_one]
    show (t.val / 128 * 4 + k.val) * 128 + t.val % 128 = sw t.val k.val
    unfold sw; omega
  refine (transpose_apply _ _ transposes_S4x2x128_S2x4x128_1_0_2 _ (ValueIdx.ix3 (n0 := 4) (n1 := 2) (n2 := 128) k ⟨t.val / 128, by omega⟩ ⟨t.val % 128, by omega⟩)
    (fun c => match c with | ⟨0, _⟩ => rfl | ⟨1, _⟩ => rfl | ⟨2, _⟩ => rfl)).trans ?_
  refine (shapeCast_apply _ shapeCasts_S4x256_S4x2x128 _ (ValueIdx.ix2 (n0 := 4) (n1 := 256) k t) ?_).trans ?_
  · rw [Shape.rowMajor_val_three, Shape.rowMajor_val_two]
    show k.val * 256 + t.val = (k.val * 2 + t.val / 128) * 128 + t.val % 128
    omega
  exact transpose_apply _ _ transposes_S256x4_S4x256_1_0 _ _ (fun c => match c with | ⟨0, _⟩ => rfl | ⟨1, _⟩ => rfl)

variable (m : (ℓ : Loc nD τ sig) → Buf 𝔼 ℓ)

theorem V_v3 (c : Dev nD) : (V m c main_v3 : IVec S1024 32) = slots (m ((c : Thread nD τ).loc main_arg5) : IVec S256x4 32) := rfl
theorem V_v7 (c : Dev nD) : (V m c main_v7 : FVec Ideal S1024 .f32) = slots (m ((c : Thread nD τ).loc main_arg6) : FVec Ideal S256x4 .f32) := rfl
theorem V_v8 (c : Dev nD) : (V m c main_v8 : FVec Ideal S8x128 .f32) = shapeCast S8x128 (m ((c : Thread nD τ).loc main_arg1) : FVec Ideal S1024 .f32) shapeCasts_S1024_S8x128 := rfl

/-- The row numbers the kernel reads, -/
theorem ciw_eq (c : Dev nD) (y) (t : Fin 256) (k : Fin 4) :
    ciw (copied aCi mCi y (V m c main_v3)) (sw t.val k.val) = (m ((c : Thread nD τ).loc main_arg5) : IVec S256x4 32) (ValueIdx.ix2 t k) := by
  unfold ciw
  rw [dif_pos (sw_lt t k), read_copied]
  show (V m c main_v3 : IVec S1024 32) _ = _
  rw [V_v3]
  exact slots_apply _ t k
/-- the weights, -/
theorem tww_eq (c : Dev nD) (y) (t : Fin 256) (k : Fin 4) :
    tww (copied aTw mTw y (V m c main_v7)) (sw t.val k.val) = (m ((c : Thread nD τ).loc main_arg6) : FVec Ideal S256x4 .f32) (ValueIdx.ix2 t k) := by
  unfold tww
  rw [dif_pos (sw_lt t k), read_copied]
  show (V m c main_v7 : FVec Ideal S1024 .f32) _ = _
  rw [V_v7]
  exact slots_apply _ t k
/-- the row scales -/
theorem hsw_eq (c : Dev nD) (y) (r : Fin 1024) :
    hsw (copied aHs mHs y (V m c main_v8)) r.val = (m ((c : Thread nD τ).loc main_arg1) : FVec Ideal S1024 .f32) (ValueIdx.ix1 r) := by
  have hr := r.isLt
  unfold hsw
  rw [dif_pos hr, read_copied]
  show (V m c main_v8 : FVec Ideal S8x128 .f32) _ = _
  rw [V_v8]
  refine shapeCast_apply _ shapeCasts_S1024_S8x128 _ _ ?_
  rw [Shape.rowMajor_val_two, Shape.rowMajor_val_one]
  show r.val = r.val / 128 * 128 + r.val % 128
  omega
/-- and the counts. -/
theorem pre_eq (c : Dev nD) (y) (k : ℕ) : pre (copied aGs mGs y (V m c main_arg2)) k = R.preN (m ((c : Thread nD τ).loc main_arg2) : IVec S15 32) k := by
  unfold pre R.preN
  refine Finset.sum_congr rfl fun j _ => ?_
  unfold gw R.gN
  by_cases h : j < 15
  · rw [dif_pos h, dif_pos h, read_copied, V_main_arg2 m c]
    rw [ix1_eq_valueIdx]
    rfl
  · rw [dif_neg h, dif_neg h]
    rfl

/-- What the kernel leaves is the reference's value of the same arguments. -/
theorem agree (hm : PreOK m) (c : Dev nD) (z : aOut.view.ty.Contents 𝔼) (hz : ZOK m c z) :
    (z : FVec Ideal S256x4096 .bf16) = R.refV (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  obtain ⟨yg, yc, yt, ys, yw, hK⟩ := hz
  have hci := (hm c).2 yc
  obtain ⟨E, hE, hv⟩ := KVal_apply hK ((hm c).1 yg) hci
  have hrow : ∀ (t : Fin 256) (k : Fin 4), rowK (copied aCi mCi yc (V m c main_v3)) (sw t.val k.val) = R.rowN (m ((c : Thread nD τ).loc main_arg5) : IVec S256x4 32) t k := fun t k => by
    unfold rowK R.rowN
    refine Fin.ext ?_
    show _ % 1024 = _ % 1024
    rw [ciw_eq, ix2_eq_valueIdx]
  funext i
  obtain ⟨t, q, rfl⟩ : ∃ (t : Fin 256) (q : Fin 4096), i = ix2 t q := ⟨i 0, i 1, by funext a; fin_cases a <;> rfl⟩
  refine Eq.trans ?_ (R.refV_apply _ _ _ _ _ _ _ ?_ ?_ (fun t k => E (R.rowN (m ((c : Thread nD τ).loc main_arg5) : IVec S256x4 32) t k)) ?_ t q).symm
  · refine Eq.trans (congrArg (z : FVec Ideal S256x4096 .bf16) (ix2_eq_valueIdx _ _)) ((hv t q).trans ?_)
    refine Finset.sum_congr rfl fun k _ => ?_
    rw [tww_eq, hrow]
    generalize R.rowN (m ((c : Thread nD τ).loc main_arg5) : IVec S256x4 32) t k = r
    unfold kT R.term
    rw [hsw_eq, read_copied, V_main_arg0 m c, V_main_arg3 m c, V_main_arg4 m c]
    simp only [ix1_eq_valueIdx, ix2_eq_valueIdx, ix3_eq_valueIdx]
    exact ((mul_assoc _ _ _).trans (congrArg _ (mul_comm _ _))).symm
  · rw [← pre_eq m c yg]; exact (hm c).1 yg
  · intro t k
    rw [ix2_eq_valueIdx, ← ciw_eq m c yc t k]
    exact ciw_lt hci _
  · intro t k
    have := hE (R.rowN (m ((c : Thread nD τ).loc main_arg5) : IVec S256x4 32) t k)
    rw [pre_eq, pre_eq] at this
    exact this

end Cert.Proof.K

end
-- ==== Proof.K.Same.lean ====
/-
  The printed kernel and its idealization are one program, at every choice of the float values.
-/
module

public import proofs.«01_k».proof.Proof.Gen.Kernel.Launch
public import proofs.«01_k».proof.Proof.Gen.KernelIdeal.Launch
public import Idealize.ShloMosaic.Lib.Tactic

@[expose] public section

set_option maxRecDepth 65536
set_option maxHeartbeats 4000000

noncomputable section

namespace Cert.Proof.K

open Idealize.ShloMosaic Idealize.ShloMosaic.Tactic Idealize.SL.Sem

variable {F : FTy → Type} [FloatOps F]

/-- The two tables of kernel bodies are equal, -/
theorem defs_same : Cert.Kernel.defs (F := F) = Cert.KernelIdeal.defs (F := F) := by sl_kernel_rfl
/-- and the two programs. -/
theorem main_same : Cert.Kernel.main (F := F) = Cert.KernelIdeal.main (F := F) := by sl_kernel_rfl

end Cert.Proof.K

end
-- ==== Proof.lean ====
/-
  The certificate's claims, assembled.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.K.Frame
public import proofs.«01_k».proof.Proof.K.Agree
public import proofs.«01_k».proof.Proof.K.Same
public import Idealize.ShloMosaic.Adequacy
public import Idealize.ShloMosaic.Init

@[expose] public section

set_option maxRecDepth 16384

noncomputable section

namespace Cert.Proof

open Idealize.ShloMosaic Idealize.SL.Sem
open Cert.Proof.K

/-- A final state's operands are as they were. -/
theorem QY.args {F : FTy → Type} [FloatOps F] (m : (ℓ : Loc Cert.KernelIdeal.nD Cert.KernelIdeal.τ Cert.KernelIdeal.sig) → Buf (Elt F) ℓ) {c : Dev Cert.KernelIdeal.nD}
    {s : MemSt Cert.KernelIdeal.nD Cert.KernelIdeal.τ Cert.KernelIdeal.sig (Elt F)} (h : QY m c s) :
    s.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ s.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ s.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ s.mem ((c.tc : Thread Cert.KernelIdeal.nD Cert.KernelIdeal.τ).loc Cert.KernelIdeal.main_arg3) = m ((c.tc : Thread Cert.KernelIdeal.nD Cert.KernelIdeal.τ).loc Cert.KernelIdeal.main_arg3)
    ∧ s.mem ((c.tc : Thread Cert.KernelIdeal.nD Cert.KernelIdeal.τ).loc Cert.KernelIdeal.main_arg4) = m ((c.tc : Thread Cert.KernelIdeal.nD Cert.KernelIdeal.τ).loc Cert.KernelIdeal.main_arg4)
    ∧ s.mem ((c.tc : Thread Cert.KernelIdeal.nD Cert.KernelIdeal.τ).loc Cert.KernelIdeal.main_arg5) = m ((c.tc : Thread Cert.KernelIdeal.nD Cert.KernelIdeal.τ).loc Cert.KernelIdeal.main_arg5)
    ∧ s.mem ((c.tc : Thread Cert.KernelIdeal.nD Cert.KernelIdeal.τ).loc Cert.KernelIdeal.main_arg6) = m ((c.tc : Thread Cert.KernelIdeal.nD Cert.KernelIdeal.τ).loc Cert.KernelIdeal.main_arg6) :=
  ⟨h.1, h.2.1, h.2.2.1, h.2.2.2.1, h.2.2.2.2.1, h.2.2.2.2.2.1, h.2.2.2.2.2.2.1⟩

/-- The printed kernel runs from every routed memory, leaves its operands alone and every semaphore at zero. -/
theorem frame_kernel : Cert.quiescent_Kernel (hKernel := Cert.Kernel.Gen.facts) (hPre_routed := Cert.Pre_routed.facts) := fun m g hpre => by
  letI := Cert.Pre_routed.facts
  rw [defs_same, main_same]
  exact (θ_run _ _ _).mono (fun _ h => ⟨fun c => QY.args m (h.1 c), h.2⟩) (run_main (F := Bits) m g (preOK_of m (fun c => (Cert.Pre_routed.of_fn _ _ _ _ _ _ _ (hpre c)).2.1) (fun c => (Cert.Pre_routed.of_fn _ _ _ _ _ _ _ (hpre c)).2.2)))

/-- So does its idealization. -/
theorem frame_ideal : Cert.quiescent_KernelIdeal (hKernelIdeal := Cert.KernelIdeal.Gen.facts) (hPre_routed := Cert.Pre_routed.facts) := fun m g hpre => by
  letI := Cert.Pre_routed.facts
  exact (θ_run _ _ _).mono (fun _ h => ⟨fun c => QY.args m (h.1 c), h.2⟩) (run_main (F := Ideal) m g (preOK_of m (fun c => (Cert.Pre_routed.of_fn _ _ _ _ _ _ _ (hpre c)).2.1) (fun c => (Cert.Pre_routed.of_fn _ _ _ _ _ _ _ (hpre c)).2.2)))

/-- From equal arguments, over the extended reals and from every routed memory, the kernel and the reference end with equal
    results and unchanged arguments. -/
theorem algebraic : Cert.algebraic_KernelIdeal_ReferenceIdeal (hKernelIdeal := Cert.KernelIdeal.Gen.facts) (hReferenceIdeal := Cert.ReferenceIdeal.Gen.facts) (hPre_routed := Cert.Pre_routed.facts) := fun m g m' g' hpre hag => by
  letI := Cert.Pre_routed.facts
  have hm : PreOK m := preOK_of m (fun c => (Cert.Pre_routed.of_fn _ _ _ _ _ _ _ (hpre c)).2.1) (fun c => (Cert.Pre_routed.of_fn _ _ _ _ _ _ _ (hpre c)).2.2)
  refine ⟨fun c => R.refV (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run _ _ _).mono (fun _ h c => ⟨agree m hm c _ (h.1 c).2.2.2.2.2.2.2, QY.args m (h.1 c)⟩) (run_main (F := Ideal) m g hm)
  · refine (θ_run _ _ _).mono (fun r h c => ⟨?_, ((h c).1 0).trans (((Cert.ReferenceIdeal.Gen.dats m' 0 c).arrAt_in 0 rfl _).trans (Cert.ReferenceIdeal.Gen.V_main_arg0 m' c)),
      ((h c).2 Cert.ReferenceIdeal.main_arg1 (Pipeline.mem_restRefs_of Cert.ReferenceIdeal.main_arg1 (by decide) (by decide))).trans (Cert.ReferenceIdeal.Gen.W_main_arg1 m' (Cert.ReferenceIdeal.Gen.dats m') c),
      ((h c).2 Cert.ReferenceIdeal.main_arg2 (Pipeline.mem_restRefs_of Cert.ReferenceIdeal.main_arg2 (by decide) (by decide))).trans (Cert.ReferenceIdeal.Gen.W_main_arg2 m' (Cert.ReferenceIdeal.Gen.dats m') c),
      ((h c).1 1).trans (((Cert.ReferenceIdeal.Gen.dats m' 0 c).arrAt_in 1 rfl _).trans (Cert.ReferenceIdeal.Gen.V_main_arg3 m' c)),
      ((h c).2 Cert.ReferenceIdeal.main_arg4 (Pipeline.mem_restRefs_of Cert.ReferenceIdeal.main_arg4 (by decide) (by decide))).trans (Cert.ReferenceIdeal.Gen.W_main_arg4 m' (Cert.ReferenceIdeal.Gen.dats m') c),
      ((h c).2 Cert.ReferenceIdeal.main_arg5 (Pipeline.mem_restRefs_of Cert.ReferenceIdeal.main_arg5 (by decide) (by decide))).trans (Cert.ReferenceIdeal.Gen.W_main_arg5 m' (Cert.ReferenceIdeal.Gen.dats m') c),
      ((h c).2 Cert.ReferenceIdeal.main_arg6 (Pipeline.mem_restRefs_of Cert.ReferenceIdeal.main_arg6 (by decide) (by decide))).trans (Cert.ReferenceIdeal.Gen.W_main_arg6 m' (Cert.ReferenceIdeal.Gen.dats m') c)⟩) (Cert.ReferenceIdeal.Gen.run_main (F := Ideal) m' g')
    refine (((h c).2 Cert.ReferenceIdeal.main_v41 (Pipeline.mem_restRefs_of Cert.ReferenceIdeal.main_v41 (by decide) (by decide))).trans (R.v41_eq m' c)).trans ?_
    obtain ⟨e0, e1, e2, e3, e4, e5, e6⟩ := hag c
    rw [e0, e1, e2, e3, e4, e5, e6]

theorem claim : Cert.Claim := ⟨Cert.Kernel.Gen.facts, Cert.KernelIdeal.Gen.facts, Cert.ReferenceIdeal.Gen.facts, Cert.Pre_routed.facts,
  frame_kernel, frame_ideal, fun m ρ _ => Cert.ReferenceIdeal.Gen.frame m ρ, fun m ρ _ => Cert.ReferenceIdeal.Gen.frame m ρ, trivial, algebraic⟩

end Cert.Proof

end
